-- ==== Defs.lean ====
def Pre_Alltoall (m : (ℓ : Loc Cert.Alltoall.nD Cert.Alltoall.τ Cert.Alltoall.sig) → Buf (Elt Bits) ℓ) : Prop :=
  True

def Pre_AlltoallIdeal (m : (ℓ : Loc Cert.AlltoallIdeal.nD Cert.AlltoallIdeal.τ Cert.AlltoallIdeal.sig) → Buf (Elt Ideal) ℓ) : Prop :=
  True

def Pre_AlltoallRefIdeal (m : (ℓ : Loc Cert.AlltoallRefIdeal.nD Cert.AlltoallRefIdeal.τ Cert.AlltoallRefIdeal.sig) → Buf (Elt Ideal) ℓ) : Prop :=
  True

def Pre_AlltoallRef (m : (ℓ : Loc Cert.AlltoallRef.nD Cert.AlltoallRef.τ Cert.AlltoallRef.sig) → Buf (Elt Bits) ℓ) : Prop :=
  True

def Pre_Swap (m : (ℓ : Loc Cert.Swap.nD Cert.Swap.τ Cert.Swap.sig) → Buf (Elt Bits) ℓ) : Prop :=
  True

def Pre_SwapIdeal (m : (ℓ : Loc Cert.SwapIdeal.nD Cert.SwapIdeal.τ Cert.SwapIdeal.sig) → Buf (Elt Ideal) ℓ) : Prop :=
  True

def Pre_SwapRefIdeal (m : (ℓ : Loc Cert.SwapRefIdeal.nD Cert.SwapRefIdeal.τ Cert.SwapRefIdeal.sig) → Buf (Elt Ideal) ℓ) : Prop :=
  True

def Pre_SwapRef (m : (ℓ : Loc Cert.SwapRef.nD Cert.SwapRef.τ Cert.SwapRef.sig) → Buf (Elt Bits) ℓ) : Prop :=
  True

def Pre_Join (m : (ℓ : Loc Cert.Join.nD Cert.Join.τ Cert.Join.sig) → Buf (Elt Bits) ℓ) : Prop :=
  True

def Pre_JoinIdeal (m : (ℓ : Loc Cert.JoinIdeal.nD Cert.JoinIdeal.τ Cert.JoinIdeal.sig) → Buf (Elt Ideal) ℓ) : Prop :=
  True

def Pre_JoinRefIdeal (m : (ℓ : Loc Cert.JoinRefIdeal.nD Cert.JoinRefIdeal.τ Cert.JoinRefIdeal.sig) → Buf (Elt Ideal) ℓ) : Prop :=
  True

def Pre_JoinRef (m : (ℓ : Loc Cert.JoinRef.nD Cert.JoinRef.τ Cert.JoinRef.sig) → Buf (Elt Bits) ℓ) : Prop :=
  True

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherRefIdeal (m : (ℓ : Loc Cert.GatherRefIdeal.nD Cert.GatherRefIdeal.τ Cert.GatherRefIdeal.sig) → Buf (Elt Ideal) ℓ) : Prop :=
  True

def Pre_GatherRef (m : (ℓ : Loc Cert.GatherRef.nD Cert.GatherRef.τ Cert.GatherRef.sig) → Buf (Elt Bits) ℓ) : Prop :=
  True

def Pre_GatherSmall (m : (ℓ : Loc Cert.GatherSmall.nD Cert.GatherSmall.τ Cert.GatherSmall.sig) → Buf (Elt Bits) ℓ) : Prop :=
  True

def Pre_GatherSmallIdeal (m : (ℓ : Loc Cert.GatherSmallIdeal.nD Cert.GatherSmallIdeal.τ Cert.GatherSmallIdeal.sig) → Buf (Elt Ideal) ℓ) : Prop :=
  True

def Pre_GatherSmallRefIdeal (m : (ℓ : Loc Cert.GatherSmallRefIdeal.nD Cert.GatherSmallRefIdeal.τ Cert.GatherSmallRefIdeal.sig) → Buf (Elt Ideal) ℓ) : Prop :=
  True

def Pre_GatherSmallRef (m : (ℓ : Loc Cert.GatherSmallRef.nD Cert.GatherSmallRef.τ Cert.GatherSmallRef.sig) → Buf (Elt Bits) ℓ) : Prop :=
  True

def Pre_GatherMod (m : (ℓ : Loc Cert.GatherMod.nD Cert.GatherMod.τ Cert.GatherMod.sig) → Buf (Elt Bits) ℓ) : Prop :=
  True

def Pre_GatherModIdeal (m : (ℓ : Loc Cert.GatherModIdeal.nD Cert.GatherModIdeal.τ Cert.GatherModIdeal.sig) → Buf (Elt Ideal) ℓ) : Prop :=
  True

def Pre_GatherModRefIdeal (m : (ℓ : Loc Cert.GatherModRefIdeal.nD Cert.GatherModRefIdeal.τ Cert.GatherModRefIdeal.sig) → Buf (Elt Ideal) ℓ) : Prop :=
  True

def Pre_GatherModRef (m : (ℓ : Loc Cert.GatherModRef.nD Cert.GatherModRef.τ Cert.GatherModRef.sig) → Buf (Elt Bits) ℓ) : Prop :=
  True

def Pre_GatherParts (m : (ℓ : Loc Cert.GatherParts.nD Cert.GatherParts.τ Cert.GatherParts.sig) → Buf (Elt Bits) ℓ) : Prop :=
  True

def Pre_GatherPartsIdeal (m : (ℓ : Loc Cert.GatherPartsIdeal.nD Cert.GatherPartsIdeal.τ Cert.GatherPartsIdeal.sig) → Buf (Elt Ideal) ℓ) : Prop :=
  True

def Pre_GatherPartsRefIdeal (m : (ℓ : Loc Cert.GatherPartsRefIdeal.nD Cert.GatherPartsRefIdeal.τ Cert.GatherPartsRefIdeal.sig) → Buf (Elt Ideal) ℓ) : Prop :=
  True

def Pre_GatherPartsRef (m : (ℓ : Loc Cert.GatherPartsRef.nD Cert.GatherPartsRef.τ Cert.GatherPartsRef.sig) → Buf (Elt Bits) ℓ) : Prop :=
  True

def Pre_AdamBig (m : (ℓ : Loc Cert.AdamBig.nD Cert.AdamBig.τ Cert.AdamBig.sig) → Buf (Elt Bits) ℓ) : Prop :=
  True

def Pre_AdamBigIdeal (m : (ℓ : Loc Cert.AdamBigIdeal.nD Cert.AdamBigIdeal.τ Cert.AdamBigIdeal.sig) → Buf (Elt Ideal) ℓ) : Prop :=
  True

def Pre_AdamBigRefIdeal (m : (ℓ : Loc Cert.AdamBigRefIdeal.nD Cert.AdamBigRefIdeal.τ Cert.AdamBigRefIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_AdamAdaRefIdeal (m : (ℓ : Loc Cert.AdamAdaRefIdeal.nD Cert.AdamAdaRefIdeal.τ Cert.AdamAdaRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_AdaBwd (m : (ℓ : Loc Cert.AdaBwd.nD Cert.AdaBwd.τ Cert.AdaBwd.sig) → Buf (Elt Bits) ℓ) : Prop :=
  True

def Pre_AdaBwdIdeal (m : (ℓ : Loc Cert.AdaBwdIdeal.nD Cert.AdaBwdIdeal.τ Cert.AdaBwdIdeal.sig) → Buf (Elt Ideal) ℓ) : Prop :=
  True

def Pre_AdaBwdRefIdeal (m : (ℓ : Loc Cert.AdaBwdRefIdeal.nD Cert.AdaBwdRefIdeal.τ Cert.AdaBwdRefIdeal.sig) → Buf (Elt Ideal) ℓ) : Prop :=
  True

def Pre_SmallSum (m : (ℓ : Loc Cert.SmallSum.nD Cert.SmallSum.τ Cert.SmallSum.sig) → Buf (Elt Bits) ℓ) : Prop :=
  True

def Pre_SmallSumIdeal (m : (ℓ : Loc Cert.SmallSumIdeal.nD Cert.SmallSumIdeal.τ Cert.SmallSumIdeal.sig) → Buf (Elt Ideal) ℓ) : Prop :=
  True

def Pre_SmallSumRefIdeal (m : (ℓ : Loc Cert.SmallSumRefIdeal.nD Cert.SmallSumRefIdeal.τ Cert.SmallSumRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_GradX (m : (ℓ : Loc Cert.GradX.nD Cert.GradX.τ Cert.GradX.sig) → Buf (Elt Bits) ℓ) : Prop :=
  True

def Pre_GradXIdeal (m : (ℓ : Loc Cert.GradXIdeal.nD Cert.GradXIdeal.τ Cert.GradXIdeal.sig) → Buf (Elt Ideal) ℓ) : Prop :=
  True

def Pre_GradXRefIdeal (m : (ℓ : Loc Cert.GradXRefIdeal.nD Cert.GradXRefIdeal.τ Cert.GradXRefIdeal.sig) → Buf (Elt Ideal) ℓ) : Prop :=
  True

def Pre_AdaFwd (m : (ℓ : Loc Cert.AdaFwd.nD Cert.AdaFwd.τ Cert.AdaFwd.sig) → Buf (Elt Bits) ℓ) : Prop :=
  True

def Pre_AdaFwdIdeal (m : (ℓ : Loc Cert.AdaFwdIdeal.nD Cert.AdaFwdIdeal.τ Cert.AdaFwdIdeal.sig) → Buf (Elt Ideal) ℓ) : Prop :=
  True

def Pre_AdaFwdRefIdeal (m : (ℓ : Loc Cert.AdaFwdRefIdeal.nD Cert.AdaFwdRefIdeal.τ Cert.AdaFwdRefIdeal.sig) → Buf (Elt Ideal) ℓ) : Prop :=
  True

def Pre_PairSum (m : (ℓ : Loc Cert.PairSum.nD Cert.PairSum.τ Cert.PairSum.sig) → Buf (Elt Bits) ℓ) : Prop :=
  True

def Pre_PairSumIdeal (m : (ℓ : Loc Cert.PairSumIdeal.nD Cert.PairSumIdeal.τ Cert.PairSumIdeal.sig) → Buf (Elt Ideal) ℓ) : Prop :=
  True

def Pre_PairSumRefIdeal (m : (ℓ : Loc Cert.PairSumRefIdeal.nD Cert.PairSumRefIdeal.τ Cert.PairSumRefIdeal.sig) → Buf (Elt Ideal) ℓ) : Prop :=
  True

def Pre_ChipSum (m : (ℓ : Loc Cert.ChipSum.nD Cert.ChipSum.τ Cert.ChipSum.sig) → Buf (Elt Bits) ℓ) : Prop :=
  True

def Pre_ChipSumIdeal (m : (ℓ : Loc Cert.ChipSumIdeal.nD Cert.ChipSumIdeal.τ Cert.ChipSumIdeal.sig) → Buf (Elt Ideal) ℓ) : Prop :=
  True

def Pre_ChipSumRefIdeal (m : (ℓ : Loc Cert.ChipSumRefIdeal.nD Cert.ChipSumRefIdeal.τ Cert.ChipSumRefIdeal.sig) → Buf (Elt Ideal) ℓ) : Prop :=
  True

def Pre_LnMod (m : (ℓ : Loc Cert.LnMod.nD Cert.LnMod.τ Cert.LnMod.sig) → Buf (Elt Bits) ℓ) : Prop :=
  True

def Pre_LnModIdeal (m : (ℓ : Loc Cert.LnModIdeal.nD Cert.LnModIdeal.τ Cert.LnModIdeal.sig) → Buf (Elt Ideal) ℓ) : Prop :=
  True

def Pre_LnModRefIdeal (m : (ℓ : Loc Cert.LnModRefIdeal.nD Cert.LnModRefIdeal.τ Cert.LnModRefIdeal.sig) → Buf (Elt Ideal) ℓ) : Prop :=
  True

def Pre_ConvNorm (m : (ℓ : Loc Cert.ConvNorm.nD Cert.ConvNorm.τ Cert.ConvNorm.sig) → Buf (Elt Bits) ℓ) : Prop :=
  True

def Pre_ConvNormIdeal (m : (ℓ : Loc Cert.ConvNormIdeal.nD Cert.ConvNormIdeal.τ Cert.ConvNormIdeal.sig) → Buf (Elt Ideal) ℓ) : Prop :=
  True

def Pre_ConvNormRefIdeal (m : (ℓ : Loc Cert.ConvNormRefIdeal.nD Cert.ConvNormRefIdeal.τ Cert.ConvNormRefIdeal.sig) → Buf (Elt Ideal) ℓ) : Prop :=
  True

def Pre_RetNorm (m : (ℓ : Loc Cert.RetNorm.nD Cert.RetNorm.τ Cert.RetNorm.sig) → Buf (Elt Bits) ℓ) : Prop :=
  True

def Pre_RetNormIdeal (m : (ℓ : Loc Cert.RetNormIdeal.nD Cert.RetNormIdeal.τ Cert.RetNormIdeal.sig) → Buf (Elt Ideal) ℓ) : Prop :=
  True

def Pre_RetNormRefIdeal (m : (ℓ : Loc Cert.RetNormRefIdeal.nD Cert.RetNormRefIdeal.τ Cert.RetNormRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_FfnGate (m : (ℓ : Loc Cert.FfnGate.nD Cert.FfnGate.τ Cert.FfnGate.sig) → Buf (Elt Bits) ℓ) : Prop :=
  True

def Pre_FfnGateIdeal (m : (ℓ : Loc Cert.FfnGateIdeal.nD Cert.FfnGateIdeal.τ Cert.FfnGateIdeal.sig) → Buf (Elt Ideal) ℓ) : Prop :=
  True

def Pre_FfnGateRefIdeal (m : (ℓ : Loc Cert.FfnGateRefIdeal.nD Cert.FfnGateRefIdeal.τ Cert.FfnGateRefIdeal.sig) → Buf (Elt Ideal) ℓ) : Prop :=
  True

def Pre_CastWeights (m : (ℓ : Loc Cert.CastWeights.nD Cert.CastWeights.τ Cert.CastWeights.sig) → Buf (Elt Bits) ℓ) : Prop :=
  True

def Pre_CastWeightsIdeal (m : (ℓ : Loc Cert.CastWeightsIdeal.nD Cert.CastWeightsIdeal.τ Cert.CastWeightsIdeal.sig) → Buf (Elt Ideal) ℓ) : Prop :=
  True

def Pre_CastWeightsRefIdeal (m : (ℓ : Loc Cert.CastWeightsRefIdeal.nD Cert.CastWeightsRefIdeal.τ Cert.CastWeightsRefIdeal.sig) → Buf (Elt Ideal) ℓ) : Prop :=
  True

def Pre_MmIn (m : (ℓ : Loc Cert.MmIn.nD Cert.MmIn.τ Cert.MmIn.sig) → Buf (Elt Bits) ℓ) : Prop :=
  True

def Pre_MmInIdeal (m : (ℓ : Loc Cert.MmInIdeal.nD Cert.MmInIdeal.τ Cert.MmInIdeal.sig) → Buf (Elt Ideal) ℓ) : Prop :=
  True

def Pre_MmInRefIdeal (m : (ℓ : Loc Cert.MmInRefIdeal.nD Cert.MmInRefIdeal.τ Cert.MmInRefIdeal.sig) → Buf (Elt Ideal) ℓ) : Prop :=
  True

def Pre_MmUp (m : (ℓ : Loc Cert.MmUp.nD Cert.MmUp.τ Cert.MmUp.sig) → Buf (Elt Bits) ℓ) : Prop :=
  True

def Pre_MmUpIdeal (m : (ℓ : Loc Cert.MmUpIdeal.nD Cert.MmUpIdeal.τ Cert.MmUpIdeal.sig) → Buf (Elt Ideal) ℓ) : Prop :=
  True

def Pre_MmUpRefIdeal (m : (ℓ : Loc Cert.MmUpRefIdeal.nD Cert.MmUpRefIdeal.τ Cert.MmUpRefIdeal.sig) → Buf (Elt Ideal) ℓ) : Prop :=
  True

def Pre_MmConvOut (m : (ℓ : Loc Cert.MmConvOut.nD Cert.MmConvOut.τ Cert.MmConvOut.sig) → Buf (Elt Bits) ℓ) : Prop :=
  True

def Pre_MmConvOutIdeal (m : (ℓ : Loc Cert.MmConvOutIdeal.nD Cert.MmConvOutIdeal.τ Cert.MmConvOutIdeal.sig) → Buf (Elt Ideal) ℓ) : Prop :=
  True

def Pre_MmConvOutRefIdeal (m : (ℓ : Loc Cert.MmConvOutRefIdeal.nD Cert.MmConvOutRefIdeal.τ Cert.MmConvOutRefIdeal.sig) → Buf (Elt Ideal) ℓ) : Prop :=
  True

def Pre_MmRetOut (m : (ℓ : Loc Cert.MmRetOut.nD Cert.MmRetOut.τ Cert.MmRetOut.sig) → Buf (Elt Bits) ℓ) : Prop :=
  True

def Pre_MmRetOutIdeal (m : (ℓ : Loc Cert.MmRetOutIdeal.nD Cert.MmRetOutIdeal.τ Cert.MmRetOutIdeal.sig) → Buf (Elt Ideal) ℓ) : Prop :=
  True

def Pre_MmRetOutRefIdeal (m : (ℓ : Loc Cert.MmRetOutRefIdeal.nD Cert.MmRetOutRefIdeal.τ Cert.MmRetOutRefIdeal.sig) → Buf (Elt Ideal) ℓ) : Prop :=
  True

def Pre_MmOut (m : (ℓ : Loc Cert.MmOut.nD Cert.MmOut.τ Cert.MmOut.sig) → Buf (Elt Bits) ℓ) : Prop :=
  True

def Pre_MmOutIdeal (m : (ℓ : Loc Cert.MmOutIdeal.nD Cert.MmOutIdeal.τ Cert.MmOutIdeal.sig) → Buf (Elt Ideal) ℓ) : Prop :=
  True

def Pre_MmOutRefIdeal (m : (ℓ : Loc Cert.MmOutRefIdeal.nD Cert.MmOutRefIdeal.τ Cert.MmOutRefIdeal.sig) → Buf (Elt Ideal) ℓ) : Prop :=
  True

def Pre_MmDown (m : (ℓ : Loc Cert.MmDown.nD Cert.MmDown.τ Cert.MmDown.sig) → Buf (Elt Bits) ℓ) : Prop :=
  True

def Pre_MmDownIdeal (m : (ℓ : Loc Cert.MmDownIdeal.nD Cert.MmDownIdeal.τ Cert.MmDownIdeal.sig) → Buf (Elt Ideal) ℓ) : Prop :=
  True

def Pre_MmDownRefIdeal (m : (ℓ : Loc Cert.MmDownRefIdeal.nD Cert.MmDownRefIdeal.τ Cert.MmDownRefIdeal.sig) → Buf (Elt Ideal) ℓ) : Prop :=
  True

def Pre_MmDownDx (m : (ℓ : Loc Cert.MmDownDx.nD Cert.MmDownDx.τ Cert.MmDownDx.sig) → Buf (Elt Bits) ℓ) : Prop :=
  True

def Pre_MmDownDxIdeal (m : (ℓ : Loc Cert.MmDownDxIdeal.nD Cert.MmDownDxIdeal.τ Cert.MmDownDxIdeal.sig) → Buf (Elt Ideal) ℓ) : Prop :=
  True

def Pre_MmDownDxRefIdeal (m : (ℓ : Loc Cert.MmDownDxRefIdeal.nD Cert.MmDownDxRefIdeal.τ Cert.MmDownDxRefIdeal.sig) → Buf (Elt Ideal) ℓ) : Prop :=
  True

def Pre_MmOutDx (m : (ℓ : Loc Cert.MmOutDx.nD Cert.MmOutDx.τ Cert.MmOutDx.sig) → Buf (Elt Bits) ℓ) : Prop :=
  True

def Pre_MmOutDxIdeal (m : (ℓ : Loc Cert.MmOutDxIdeal.nD Cert.MmOutDxIdeal.τ Cert.MmOutDxIdeal.sig) → Buf (Elt Ideal) ℓ) : Prop :=
  True

def Pre_MmOutDxRefIdeal (m : (ℓ : Loc Cert.MmOutDxRefIdeal.nD Cert.MmOutDxRefIdeal.τ Cert.MmOutDxRefIdeal.sig) → Buf (Elt Ideal) ℓ) : Prop :=
  True

def Pre_MmConvOutDx (m : (ℓ : Loc Cert.MmConvOutDx.nD Cert.MmConvOutDx.τ Cert.MmConvOutDx.sig) → Buf (Elt Bits) ℓ) : Prop :=
  True

def Pre_MmConvOutDxIdeal (m : (ℓ : Loc Cert.MmConvOutDxIdeal.nD Cert.MmConvOutDxIdeal.τ Cert.MmConvOutDxIdeal.sig) → Buf (Elt Ideal) ℓ) : Prop :=
  True

def Pre_MmConvOutDxRefIdeal (m : (ℓ : Loc Cert.MmConvOutDxRefIdeal.nD Cert.MmConvOutDxRefIdeal.τ Cert.MmConvOutDxRefIdeal.sig) → Buf (Elt Ideal) ℓ) : Prop :=
  True

def Pre_MmRetOutDx (m : (ℓ : Loc Cert.MmRetOutDx.nD Cert.MmRetOutDx.τ Cert.MmRetOutDx.sig) → Buf (Elt Bits) ℓ) : Prop :=
  True

def Pre_MmRetOutDxIdeal (m : (ℓ : Loc Cert.MmRetOutDxIdeal.nD Cert.MmRetOutDxIdeal.τ Cert.MmRetOutDxIdeal.sig) → Buf (Elt Ideal) ℓ) : Prop :=
  True

def Pre_MmRetOutDxRefIdeal (m : (ℓ : Loc Cert.MmRetOutDxRefIdeal.nD Cert.MmRetOutDxRefIdeal.τ Cert.MmRetOutDxRefIdeal.sig) → Buf (Elt Ideal) ℓ) : Prop :=
  True

def Pre_MmUpDx (m : (ℓ : Loc Cert.MmUpDx.nD Cert.MmUpDx.τ Cert.MmUpDx.sig) → Buf (Elt Bits) ℓ) : Prop :=
  True

def Pre_MmUpDxIdeal (m : (ℓ : Loc Cert.MmUpDxIdeal.nD Cert.MmUpDxIdeal.τ Cert.MmUpDxIdeal.sig) → Buf (Elt Ideal) ℓ) : Prop :=
  True

def Pre_MmUpDxRefIdeal (m : (ℓ : Loc Cert.MmUpDxRefIdeal.nD Cert.MmUpDxRefIdeal.τ Cert.MmUpDxRefIdeal.sig) → Buf (Elt Ideal) ℓ) : Prop :=
  True

def Pre_MmInDx (m : (ℓ : Loc Cert.MmInDx.nD Cert.MmInDx.τ Cert.MmInDx.sig) → Buf (Elt Bits) ℓ) : Prop :=
  True

def Pre_MmInDxIdeal (m : (ℓ : Loc Cert.MmInDxIdeal.nD Cert.MmInDxIdeal.τ Cert.MmInDxIdeal.sig) → Buf (Elt Ideal) ℓ) : Prop :=
  True

def Pre_MmInDxRefIdeal (m : (ℓ : Loc Cert.MmInDxRefIdeal.nD Cert.MmInDxRefIdeal.τ Cert.MmInDxRefIdeal.sig) → Buf (Elt Ideal) ℓ) : Prop :=
  True

def Pre_MmDownDw (m : (ℓ : Loc Cert.MmDownDw.nD Cert.MmDownDw.τ Cert.MmDownDw.sig) → Buf (Elt Bits) ℓ) : Prop :=
  True

def Pre_MmDownDwIdeal (m : (ℓ : Loc Cert.MmDownDwIdeal.nD Cert.MmDownDwIdeal.τ Cert.MmDownDwIdeal.sig) → Buf (Elt Ideal) ℓ) : Prop :=
  True

def Pre_MmDownDwRefIdeal (m : (ℓ : Loc Cert.MmDownDwRefIdeal.nD Cert.MmDownDwRefIdeal.τ Cert.MmDownDwRefIdeal.sig) → Buf (Elt Ideal) ℓ) : Prop :=
  True

def Pre_MmOutDw (m : (ℓ : Loc Cert.MmOutDw.nD Cert.MmOutDw.τ Cert.MmOutDw.sig) → Buf (Elt Bits) ℓ) : Prop :=
  True

def Pre_MmOutDwIdeal (m : (ℓ : Loc Cert.MmOutDwIdeal.nD Cert.MmOutDwIdeal.τ Cert.MmOutDwIdeal.sig) → Buf (Elt Ideal) ℓ) : Prop :=
  True

def Pre_MmOutDwRefIdeal (m : (ℓ : Loc Cert.MmOutDwRefIdeal.nD Cert.MmOutDwRefIdeal.τ Cert.MmOutDwRefIdeal.sig) → Buf (Elt Ideal) ℓ) : Prop :=
  True

def Pre_MmConvOutDw (m : (ℓ : Loc Cert.MmConvOutDw.nD Cert.MmConvOutDw.τ Cert.MmConvOutDw.sig) → Buf (Elt Bits) ℓ) : Prop :=
  True

def Pre_MmConvOutDwIdeal (m : (ℓ : Loc Cert.MmConvOutDwIdeal.nD Cert.MmConvOutDwIdeal.τ Cert.MmConvOutDwIdeal.sig) → Buf (Elt Ideal) ℓ) : Prop :=
  True

def Pre_MmConvOutDwRefIdeal (m : (ℓ : Loc Cert.MmConvOutDwRefIdeal.nD Cert.MmConvOutDwRefIdeal.τ Cert.MmConvOutDwRefIdeal.sig) → Buf (Elt Ideal) ℓ) : Prop :=
  True

def Pre_MmRetOutDw (m : (ℓ : Loc Cert.MmRetOutDw.nD Cert.MmRetOutDw.τ Cert.MmRetOutDw.sig) → Buf (Elt Bits) ℓ) : Prop :=
  True

def Pre_MmRetOutDwIdeal (m : (ℓ : Loc Cert.MmRetOutDwIdeal.nD Cert.MmRetOutDwIdeal.τ Cert.MmRetOutDwIdeal.sig) → Buf (Elt Ideal) ℓ) : Prop :=
  True

def Pre_MmRetOutDwRefIdeal (m : (ℓ : Loc Cert.MmRetOutDwRefIdeal.nD Cert.MmRetOutDwRefIdeal.τ Cert.MmRetOutDwRefIdeal.sig) → Buf (Elt Ideal) ℓ) : Prop :=
  True

def Pre_MmUpDw (m : (ℓ : Loc Cert.MmUpDw.nD Cert.MmUpDw.τ Cert.MmUpDw.sig) → Buf (Elt Bits) ℓ) : Prop :=
  True

def Pre_MmUpDwIdeal (m : (ℓ : Loc Cert.MmUpDwIdeal.nD Cert.MmUpDwIdeal.τ Cert.MmUpDwIdeal.sig) → Buf (Elt Ideal) ℓ) : Prop :=
  True

def Pre_MmUpDwRefIdeal (m : (ℓ : Loc Cert.MmUpDwRefIdeal.nD Cert.MmUpDwRefIdeal.τ Cert.MmUpDwRefIdeal.sig) → Buf (Elt Ideal) ℓ) : Prop :=
  True

def Pre_MmInDw (m : (ℓ : Loc Cert.MmInDw.nD Cert.MmInDw.τ Cert.MmInDw.sig) → Buf (Elt Bits) ℓ) : Prop :=
  True

def Pre_MmInDwIdeal (m : (ℓ : Loc Cert.MmInDwIdeal.nD Cert.MmInDwIdeal.τ Cert.MmInDwIdeal.sig) → Buf (Elt Ideal) ℓ) : Prop :=
  True

def Pre_MmInDwRefIdeal (m : (ℓ : Loc Cert.MmInDwRefIdeal.nD Cert.MmInDwRefIdeal.τ Cert.MmInDwRefIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_BiasInGrad (m : (ℓ : Loc Cert.BiasInGrad.nD Cert.BiasInGrad.τ Cert.BiasInGrad.sig) → Buf (Elt Bits) ℓ) : Prop :=
  True

def Pre_BiasInGradIdeal (m : (ℓ : Loc Cert.BiasInGradIdeal.nD Cert.BiasInGradIdeal.τ Cert.BiasInGradIdeal.sig) → Buf (Elt Ideal) ℓ) : Prop :=
  True

def Pre_BiasInGradRefIdeal (m : (ℓ : Loc Cert.BiasInGradRefIdeal.nD Cert.BiasInGradRefIdeal.τ Cert.BiasInGradRefIdeal.sig) → Buf (Elt Ideal) ℓ) : Prop :=
  True

def Pre_ConvNormBwd (m : (ℓ : Loc Cert.ConvNormBwd.nD Cert.ConvNormBwd.τ Cert.ConvNormBwd.sig) → Buf (Elt Bits) ℓ) : Prop :=
  True

def Pre_ConvNormBwdIdeal (m : (ℓ : Loc Cert.ConvNormBwdIdeal.nD Cert.ConvNormBwdIdeal.τ Cert.ConvNormBwdIdeal.sig) → Buf (Elt Ideal) ℓ) : Prop :=
  True

def Pre_ConvNormBwdRefIdeal (m : (ℓ : Loc Cert.ConvNormBwdRefIdeal.nD Cert.ConvNormBwdRefIdeal.τ Cert.ConvNormBwdRefIdeal.sig) → Buf (Elt Ideal) ℓ) : Prop :=
  True

def Pre_PostBwd (m : (ℓ : Loc Cert.PostBwd.nD Cert.PostBwd.τ Cert.PostBwd.sig) → Buf (Elt Bits) ℓ) : Prop :=
  True

def Pre_PostBwdIdeal (m : (ℓ : Loc Cert.PostBwdIdeal.nD Cert.PostBwdIdeal.τ Cert.PostBwdIdeal.sig) → Buf (Elt Ideal) ℓ) : Prop :=
  True

def Pre_PostBwdRefIdeal (m : (ℓ : Loc Cert.PostBwdRefIdeal.nD Cert.PostBwdRefIdeal.τ Cert.PostBwdRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_FfnConvFwd (m : (ℓ : Loc Cert.FfnConvFwd.nD Cert.FfnConvFwd.τ Cert.FfnConvFwd.sig) → Buf (Elt Bits) ℓ) : Prop :=
  True

def Pre_FfnConvFwdIdeal (m : (ℓ : Loc Cert.FfnConvFwdIdeal.nD Cert.FfnConvFwdIdeal.τ Cert.FfnConvFwdIdeal.sig) → Buf (Elt Ideal) ℓ) : Prop :=
  True

def Pre_FfnConvFwdRefIdeal (m : (ℓ : Loc Cert.FfnConvFwdRefIdeal.nD Cert.FfnConvFwdRefIdeal.τ Cert.FfnConvFwdRefIdeal.sig) → Buf (Elt Ideal) ℓ) : Prop :=
  True

def quiescent_Alltoall [hAlltoall : Cert.Alltoall.Facts] : Prop :=
  ∀ (m : (ℓ : Loc Cert.Alltoall.nD Cert.Alltoall.τ Cert.Alltoall.sig) → Buf (Elt Bits) ℓ) (g : Dev Cert.Alltoall.nD → PrngReg), Pre_Alltoall m →
    θ_run (Cert.Alltoall.defs (F := Bits)) (onTc (τ := Cert.Alltoall.τ) (Cert.Alltoall.main (F := Bits))) ⟨m, fun _ => 0, g⟩ (fun r => (∀ c : Dev Cert.Alltoall.nD,
      r.2.mem ((c.tc : Thread Cert.Alltoall.nD Cert.Alltoall.τ).loc Cert.Alltoall.main_arg0) = m ((c.tc : Thread Cert.Alltoall.nD Cert.Alltoall.τ).loc Cert.Alltoall.main_arg0))
      ∧ r.2.sem = fun _ => 0)

def quiescent_AlltoallIdeal [hAlltoallIdeal : Cert.AlltoallIdeal.Facts] : Prop :=
  ∀ (m : (ℓ : Loc Cert.AlltoallIdeal.nD Cert.AlltoallIdeal.τ Cert.AlltoallIdeal.sig) → Buf (Elt Ideal) ℓ) (g : Dev Cert.AlltoallIdeal.nD → PrngReg), Pre_AlltoallIdeal m →
    θ_run (Cert.AlltoallIdeal.defs (F := Ideal)) (onTc (τ := Cert.AlltoallIdeal.τ) (Cert.AlltoallIdeal.main (F := Ideal))) ⟨m, fun _ => 0, g⟩ (fun r => (∀ c : Dev Cert.AlltoallIdeal.nD,
      r.2.mem ((c.tc : Thread Cert.AlltoallIdeal.nD Cert.AlltoallIdeal.τ).loc Cert.AlltoallIdeal.main_arg0) = m ((c.tc : Thread Cert.AlltoallIdeal.nD Cert.AlltoallIdeal.τ).loc Cert.AlltoallIdeal.main_arg0))
      ∧ r.2.sem = fun _ => 0)

def quiescent_AlltoallRefIdeal [hAlltoallRefIdeal : Cert.AlltoallRefIdeal.Facts] : Prop :=
  ∀ (m : (ℓ : Loc Cert.AlltoallRefIdeal.nD Cert.AlltoallRefIdeal.τ Cert.AlltoallRefIdeal.sig) → Buf (Elt Ideal) ℓ) (g : Dev Cert.AlltoallRefIdeal.nD → PrngReg), Pre_AlltoallRefIdeal m →
    θ_run (Cert.AlltoallRefIdeal.defs (F := Ideal)) (onTc (τ := Cert.AlltoallRefIdeal.τ) (Cert.AlltoallRefIdeal.main (F := Ideal))) ⟨m, fun _ => 0, g⟩ (fun r => (∀ c : Dev Cert.AlltoallRefIdeal.nD,
      r.2.mem ((c.tc : Thread Cert.AlltoallRefIdeal.nD Cert.AlltoallRefIdeal.τ).loc Cert.AlltoallRefIdeal.main_arg0) = m ((c.tc : Thread Cert.AlltoallRefIdeal.nD Cert.AlltoallRefIdeal.τ).loc Cert.AlltoallRefIdeal.main_arg0))
      ∧ r.2.sem = fun _ => 0)

def quiescent_AlltoallRef [hAlltoallRef : Cert.AlltoallRef.Facts] : Prop :=
  ∀ (m : (ℓ : Loc Cert.AlltoallRef.nD Cert.AlltoallRef.τ Cert.AlltoallRef.sig) → Buf (Elt Bits) ℓ) (g : Dev Cert.AlltoallRef.nD → PrngReg), Pre_AlltoallRef m →
    θ_run (Cert.AlltoallRef.defs (F := Bits)) (onTc (τ := Cert.AlltoallRef.τ) (Cert.AlltoallRef.main (F := Bits))) ⟨m, fun _ => 0, g⟩ (fun r => (∀ c : Dev Cert.AlltoallRef.nD,
      r.2.mem ((c.tc : Thread Cert.AlltoallRef.nD Cert.AlltoallRef.τ).loc Cert.AlltoallRef.main_arg0) = m ((c.tc : Thread Cert.AlltoallRef.nD Cert.AlltoallRef.τ).loc Cert.AlltoallRef.main_arg0))
      ∧ r.2.sem = fun _ => 0)

def quiescent_Swap [hSwap : Cert.Swap.Facts] : Prop :=
  ∀ (m : (ℓ : Loc Cert.Swap.nD Cert.Swap.τ Cert.Swap.sig) → Buf (Elt Bits) ℓ) (g : Dev Cert.Swap.nD → PrngReg), Pre_Swap m →
    θ_run (Cert.Swap.defs (F := Bits)) (onTc (τ := Cert.Swap.τ) (Cert.Swap.main (F := Bits))) ⟨m, fun _ => 0, g⟩ (fun r => (∀ c : Dev Cert.Swap.nD,
      r.2.mem ((c.tc : Thread Cert.Swap.nD Cert.Swap.τ).loc Cert.Swap.main_arg0) = m ((c.tc : Thread Cert.Swap.nD Cert.Swap.τ).loc Cert.Swap.main_arg0))
      ∧ r.2.sem = fun _ => 0)

def quiescent_SwapIdeal [hSwapIdeal : Cert.SwapIdeal.Facts] : Prop :=
  ∀ (m : (ℓ : Loc Cert.SwapIdeal.nD Cert.SwapIdeal.τ Cert.SwapIdeal.sig) → Buf (Elt Ideal) ℓ) (g : Dev Cert.SwapIdeal.nD → PrngReg), Pre_SwapIdeal m →
    θ_run (Cert.SwapIdeal.defs (F := Ideal)) (onTc (τ := Cert.SwapIdeal.τ) (Cert.SwapIdeal.main (F := Ideal))) ⟨m, fun _ => 0, g⟩ (fun r => (∀ c : Dev Cert.SwapIdeal.nD,
      r.2.mem ((c.tc : Thread Cert.SwapIdeal.nD Cert.SwapIdeal.τ).loc Cert.SwapIdeal.main_arg0) = m ((c.tc : Thread Cert.SwapIdeal.nD Cert.SwapIdeal.τ).loc Cert.SwapIdeal.main_arg0))
      ∧ r.2.sem = fun _ => 0)

def quiescent_SwapRefIdeal [hSwapRefIdeal : Cert.SwapRefIdeal.Facts] : Prop :=
  ∀ (m : (ℓ : Loc Cert.SwapRefIdeal.nD Cert.SwapRefIdeal.τ Cert.SwapRefIdeal.sig) → Buf (Elt Ideal) ℓ) (g : Dev Cert.SwapRefIdeal.nD → PrngReg), Pre_SwapRefIdeal m →
    θ_run (Cert.SwapRefIdeal.defs (F := Ideal)) (onTc (τ := Cert.SwapRefIdeal.τ) (Cert.SwapRefIdeal.main (F := Ideal))) ⟨m, fun _ => 0, g⟩ (fun r => (∀ c : Dev Cert.SwapRefIdeal.nD,
      r.2.mem ((c.tc : Thread Cert.SwapRefIdeal.nD Cert.SwapRefIdeal.τ).loc Cert.SwapRefIdeal.main_arg0) = m ((c.tc : Thread Cert.SwapRefIdeal.nD Cert.SwapRefIdeal.τ).loc Cert.SwapRefIdeal.main_arg0))
      ∧ r.2.sem = fun _ => 0)

def quiescent_SwapRef [hSwapRef : Cert.SwapRef.Facts] : Prop :=
  ∀ (m : (ℓ : Loc Cert.SwapRef.nD Cert.SwapRef.τ Cert.SwapRef.sig) → Buf (Elt Bits) ℓ) (g : Dev Cert.SwapRef.nD → PrngReg), Pre_SwapRef m →
    θ_run (Cert.SwapRef.defs (F := Bits)) (onTc (τ := Cert.SwapRef.τ) (Cert.SwapRef.main (F := Bits))) ⟨m, fun _ => 0, g⟩ (fun r => (∀ c : Dev Cert.SwapRef.nD,
      r.2.mem ((c.tc : Thread Cert.SwapRef.nD Cert.SwapRef.τ).loc Cert.SwapRef.main_arg0) = m ((c.tc : Thread Cert.SwapRef.nD Cert.SwapRef.τ).loc Cert.SwapRef.main_arg0))
      ∧ r.2.sem = fun _ => 0)

def quiescent_Join [hJoin : Cert.Join.Facts] : Prop :=
  ∀ (m : (ℓ : Loc Cert.Join.nD Cert.Join.τ Cert.Join.sig) → Buf (Elt Bits) ℓ) (g : Dev Cert.Join.nD → PrngReg), Pre_Join m →
    θ_run (Cert.Join.defs (F := Bits)) (onTc (τ := Cert.Join.τ) (Cert.Join.main (F := Bits))) ⟨m, fun _ => 0, g⟩ (fun r => (∀ c : Dev Cert.Join.nD,
      r.2.mem ((c.tc : Thread Cert.Join.nD Cert.Join.τ).loc Cert.Join.main_arg0) = m ((c.tc : Thread Cert.Join.nD Cert.Join.τ).loc Cert.Join.main_arg0))
      ∧ r.2.sem = fun _ => 0)

def quiescent_JoinIdeal [hJoinIdeal : Cert.JoinIdeal.Facts] : Prop :=
  ∀ (m : (ℓ : Loc Cert.JoinIdeal.nD Cert.JoinIdeal.τ Cert.JoinIdeal.sig) → Buf (Elt Ideal) ℓ) (g : Dev Cert.JoinIdeal.nD → PrngReg), Pre_JoinIdeal m →
    θ_run (Cert.JoinIdeal.defs (F := Ideal)) (onTc (τ := Cert.JoinIdeal.τ) (Cert.JoinIdeal.main (F := Ideal))) ⟨m, fun _ => 0, g⟩ (fun r => (∀ c : Dev Cert.JoinIdeal.nD,
      r.2.mem ((c.tc : Thread Cert.JoinIdeal.nD Cert.JoinIdeal.τ).loc Cert.JoinIdeal.main_arg0) = m ((c.tc : Thread Cert.JoinIdeal.nD Cert.JoinIdeal.τ).loc Cert.JoinIdeal.main_arg0))
      ∧ r.2.sem = fun _ => 0)

def quiescent_JoinRefIdeal [hJoinRefIdeal : Cert.JoinRefIdeal.Facts] : Prop :=
  ∀ (m : (ℓ : Loc Cert.JoinRefIdeal.nD Cert.JoinRefIdeal.τ Cert.JoinRefIdeal.sig) → Buf (Elt Ideal) ℓ) (g : Dev Cert.JoinRefIdeal.nD → PrngReg), Pre_JoinRefIdeal m →
    θ_run (Cert.JoinRefIdeal.defs (F := Ideal)) (onTc (τ := Cert.JoinRefIdeal.τ) (Cert.JoinRefIdeal.main (F := Ideal))) ⟨m, fun _ => 0, g⟩ (fun r => (∀ c : Dev Cert.JoinRefIdeal.nD,
      r.2.mem ((c.tc : Thread Cert.JoinRefIdeal.nD Cert.JoinRefIdeal.τ).loc Cert.JoinRefIdeal.main_arg0) = m ((c.tc : Thread Cert.JoinRefIdeal.nD Cert.JoinRefIdeal.τ).loc Cert.JoinRefIdeal.main_arg0))
      ∧ r.2.sem = fun _ => 0)

def quiescent_JoinRef [hJoinRef : Cert.JoinRef.Facts] : Prop :=
  ∀ (m : (ℓ : Loc Cert.JoinRef.nD Cert.JoinRef.τ Cert.JoinRef.sig) → Buf (Elt Bits) ℓ) (g : Dev Cert.JoinRef.nD → PrngReg), Pre_JoinRef m →
    θ_run (Cert.JoinRef.defs (F := Bits)) (onTc (τ := Cert.JoinRef.τ) (Cert.JoinRef.main (F := Bits))) ⟨m, fun _ => 0, g⟩ (fun r => (∀ c : Dev Cert.JoinRef.nD,
      r.2.mem ((c.tc : Thread Cert.JoinRef.nD Cert.JoinRef.τ).loc Cert.JoinRef.main_arg0) = m ((c.tc : Thread Cert.JoinRef.nD Cert.JoinRef.τ).loc Cert.JoinRef.main_arg0))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ r.2.sem = fun _ => 0)

def quiescent_GatherRefIdeal [hGatherRefIdeal : Cert.GatherRefIdeal.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0))
      ∧ r.2.sem = fun _ => 0)

def quiescent_GatherRef [hGatherRef : Cert.GatherRef.Facts] : Prop :=
  ∀ (m : (ℓ : Loc Cert.GatherRef.nD Cert.GatherRef.τ Cert.GatherRef.sig) → Buf (Elt Bits) ℓ) (g : Dev Cert.GatherRef.nD → PrngReg), Pre_GatherRef m →
    θ_run (Cert.GatherRef.defs (F := Bits)) (onTc (τ := Cert.GatherRef.τ) (Cert.GatherRef.main (F := Bits))) ⟨m, fun _ => 0, g⟩ (fun r => (∀ c : Dev Cert.GatherRef.nD,
      r.2.mem ((c.tc : Thread Cert.GatherRef.nD Cert.GatherRef.τ).loc Cert.GatherRef.main_arg0) = m ((c.tc : Thread Cert.GatherRef.nD Cert.GatherRef.τ).loc Cert.GatherRef.main_arg0))
      ∧ r.2.sem = fun _ => 0)

def quiescent_GatherSmall [hGatherSmall : Cert.GatherSmall.Facts] : Prop :=
  ∀ (m : (ℓ : Loc Cert.GatherSmall.nD Cert.GatherSmall.τ Cert.GatherSmall.sig) → Buf (Elt Bits) ℓ) (g : Dev Cert.GatherSmall.nD → PrngReg), Pre_GatherSmall m →
    θ_run (Cert.GatherSmall.defs (F := Bits)) (onTc (τ := Cert.GatherSmall.τ) (Cert.GatherSmall.main (F := Bits))) ⟨m, fun _ => 0, g⟩ (fun r => (∀ c : Dev Cert.GatherSmall.nD,
      r.2.mem ((c.tc : Thread Cert.GatherSmall.nD Cert.GatherSmall.τ).loc Cert.GatherSmall.main_arg0) = m ((c.tc : Thread Cert.GatherSmall.nD Cert.GatherSmall.τ).loc Cert.GatherSmall.main_arg0))
      ∧ r.2.sem = fun _ => 0)

def quiescent_GatherSmallIdeal [hGatherSmallIdeal : Cert.GatherSmallIdeal.Facts] : Prop :=
  ∀ (m : (ℓ : Loc Cert.GatherSmallIdeal.nD Cert.GatherSmallIdeal.τ Cert.GatherSmallIdeal.sig) → Buf (Elt Ideal) ℓ) (g : Dev Cert.GatherSmallIdeal.nD → PrngReg), Pre_GatherSmallIdeal m →
    θ_run (Cert.GatherSmallIdeal.defs (F := Ideal)) (onTc (τ := Cert.GatherSmallIdeal.τ) (Cert.GatherSmallIdeal.main (F := Ideal))) ⟨m, fun _ => 0, g⟩ (fun r => (∀ c : Dev Cert.GatherSmallIdeal.nD,
      r.2.mem ((c.tc : Thread Cert.GatherSmallIdeal.nD Cert.GatherSmallIdeal.τ).loc Cert.GatherSmallIdeal.main_arg0) = m ((c.tc : Thread Cert.GatherSmallIdeal.nD Cert.GatherSmallIdeal.τ).loc Cert.GatherSmallIdeal.main_arg0))
      ∧ r.2.sem = fun _ => 0)

def quiescent_GatherSmallRefIdeal [hGatherSmallRefIdeal : Cert.GatherSmallRefIdeal.Facts] : Prop :=
  ∀ (m : (ℓ : Loc Cert.GatherSmallRefIdeal.nD Cert.GatherSmallRefIdeal.τ Cert.GatherSmallRefIdeal.sig) → Buf (Elt Ideal) ℓ) (g : Dev Cert.GatherSmallRefIdeal.nD → PrngReg), Pre_GatherSmallRefIdeal m →
    θ_run (Cert.GatherSmallRefIdeal.defs (F := Ideal)) (onTc (τ := Cert.GatherSmallRefIdeal.τ) (Cert.GatherSmallRefIdeal.main (F := Ideal))) ⟨m, fun _ => 0, g⟩ (fun r => (∀ c : Dev Cert.GatherSmallRefIdeal.nD,
      r.2.mem ((c.tc : Thread Cert.GatherSmallRefIdeal.nD Cert.GatherSmallRefIdeal.τ).loc Cert.GatherSmallRefIdeal.main_arg0) = m ((c.tc : Thread Cert.GatherSmallRefIdeal.nD Cert.GatherSmallRefIdeal.τ).loc Cert.GatherSmallRefIdeal.main_arg0))
      ∧ r.2.sem = fun _ => 0)

def quiescent_GatherSmallRef [hGatherSmallRef : Cert.GatherSmallRef.Facts] : Prop :=
  ∀ (m : (ℓ : Loc Cert.GatherSmallRef.nD Cert.GatherSmallRef.τ Cert.GatherSmallRef.sig) → Buf (Elt Bits) ℓ) (g : Dev Cert.GatherSmallRef.nD → PrngReg), Pre_GatherSmallRef m →
    θ_run (Cert.GatherSmallRef.defs (F := Bits)) (onTc (τ := Cert.GatherSmallRef.τ) (Cert.GatherSmallRef.main (F := Bits))) ⟨m, fun _ => 0, g⟩ (fun r => (∀ c : Dev Cert.GatherSmallRef.nD,
      r.2.mem ((c.tc : Thread Cert.GatherSmallRef.nD Cert.GatherSmallRef.τ).loc Cert.GatherSmallRef.main_arg0) = m ((c.tc : Thread Cert.GatherSmallRef.nD Cert.GatherSmallRef.τ).loc Cert.GatherSmallRef.main_arg0))
      ∧ r.2.sem = fun _ => 0)

def quiescent_GatherMod [hGatherMod : Cert.GatherMod.Facts] : Prop :=
  ∀ (m : (ℓ : Loc Cert.GatherMod.nD Cert.GatherMod.τ Cert.GatherMod.sig) → Buf (Elt Bits) ℓ) (g : Dev Cert.GatherMod.nD → PrngReg), Pre_GatherMod m →
    θ_run (Cert.GatherMod.defs (F := Bits)) (onTc (τ := Cert.GatherMod.τ) (Cert.GatherMod.main (F := Bits))) ⟨m, fun _ => 0, g⟩ (fun r => (∀ c : Dev Cert.GatherMod.nD,
      r.2.mem ((c.tc : Thread Cert.GatherMod.nD Cert.GatherMod.τ).loc Cert.GatherMod.main_arg0) = m ((c.tc : Thread Cert.GatherMod.nD Cert.GatherMod.τ).loc Cert.GatherMod.main_arg0))
      ∧ r.2.sem = fun _ => 0)

def quiescent_GatherModIdeal [hGatherModIdeal : Cert.GatherModIdeal.Facts] : Prop :=
  ∀ (m : (ℓ : Loc Cert.GatherModIdeal.nD Cert.GatherModIdeal.τ Cert.GatherModIdeal.sig) → Buf (Elt Ideal) ℓ) (g : Dev Cert.GatherModIdeal.nD → PrngReg), Pre_GatherModIdeal m →
    θ_run (Cert.GatherModIdeal.defs (F := Ideal)) (onTc (τ := Cert.GatherModIdeal.τ) (Cert.GatherModIdeal.main (F := Ideal))) ⟨m, fun _ => 0, g⟩ (fun r => (∀ c : Dev Cert.GatherModIdeal.nD,
      r.2.mem ((c.tc : Thread Cert.GatherModIdeal.nD Cert.GatherModIdeal.τ).loc Cert.GatherModIdeal.main_arg0) = m ((c.tc : Thread Cert.GatherModIdeal.nD Cert.GatherModIdeal.τ).loc Cert.GatherModIdeal.main_arg0))
      ∧ r.2.sem = fun _ => 0)

def quiescent_GatherModRefIdeal [hGatherModRefIdeal : Cert.GatherModRefIdeal.Facts] : Prop :=
  ∀ (m : (ℓ : Loc Cert.GatherModRefIdeal.nD Cert.GatherModRefIdeal.τ Cert.GatherModRefIdeal.sig) → Buf (Elt Ideal) ℓ) (g : Dev Cert.GatherModRefIdeal.nD → PrngReg), Pre_GatherModRefIdeal m →
    θ_run (Cert.GatherModRefIdeal.defs (F := Ideal)) (onTc (τ := Cert.GatherModRefIdeal.τ) (Cert.GatherModRefIdeal.main (F := Ideal))) ⟨m, fun _ => 0, g⟩ (fun r => (∀ c : Dev Cert.GatherModRefIdeal.nD,
      r.2.mem ((c.tc : Thread Cert.GatherModRefIdeal.nD Cert.GatherModRefIdeal.τ).loc Cert.GatherModRefIdeal.main_arg0) = m ((c.tc : Thread Cert.GatherModRefIdeal.nD Cert.GatherModRefIdeal.τ).loc Cert.GatherModRefIdeal.main_arg0))
      ∧ r.2.sem = fun _ => 0)

def quiescent_GatherModRef [hGatherModRef : Cert.GatherModRef.Facts] : Prop :=
  ∀ (m : (ℓ : Loc Cert.GatherModRef.nD Cert.GatherModRef.τ Cert.GatherModRef.sig) → Buf (Elt Bits) ℓ) (g : Dev Cert.GatherModRef.nD → PrngReg), Pre_GatherModRef m →
    θ_run (Cert.GatherModRef.defs (F := Bits)) (onTc (τ := Cert.GatherModRef.τ) (Cert.GatherModRef.main (F := Bits))) ⟨m, fun _ => 0, g⟩ (fun r => (∀ c : Dev Cert.GatherModRef.nD,
      r.2.mem ((c.tc : Thread Cert.GatherModRef.nD Cert.GatherModRef.τ).loc Cert.GatherModRef.main_arg0) = m ((c.tc : Thread Cert.GatherModRef.nD Cert.GatherModRef.τ).loc Cert.GatherModRef.main_arg0))
      ∧ r.2.sem = fun _ => 0)

def quiescent_GatherParts [hGatherParts : Cert.GatherParts.Facts] : Prop :=
  ∀ (m : (ℓ : Loc Cert.GatherParts.nD Cert.GatherParts.τ Cert.GatherParts.sig) → Buf (Elt Bits) ℓ) (g : Dev Cert.GatherParts.nD → PrngReg), Pre_GatherParts m →
    θ_run (Cert.GatherParts.defs (F := Bits)) (onTc (τ := Cert.GatherParts.τ) (Cert.GatherParts.main (F := Bits))) ⟨m, fun _ => 0, g⟩ (fun r => (∀ c : Dev Cert.GatherParts.nD,
      r.2.mem ((c.tc : Thread Cert.GatherParts.nD Cert.GatherParts.τ).loc Cert.GatherParts.main_arg0) = m ((c.tc : Thread Cert.GatherParts.nD Cert.GatherParts.τ).loc Cert.GatherParts.main_arg0))
      ∧ r.2.sem = fun _ => 0)

def quiescent_GatherPartsIdeal [hGatherPartsIdeal : Cert.GatherPartsIdeal.Facts] : Prop :=
  ∀ (m : (ℓ : Loc Cert.GatherPartsIdeal.nD Cert.GatherPartsIdeal.τ Cert.GatherPartsIdeal.sig) → Buf (Elt Ideal) ℓ) (g : Dev Cert.GatherPartsIdeal.nD → PrngReg), Pre_GatherPartsIdeal m →
    θ_run (Cert.GatherPartsIdeal.defs (F := Ideal)) (onTc (τ := Cert.GatherPartsIdeal.τ) (Cert.GatherPartsIdeal.main (F := Ideal))) ⟨m, fun _ => 0, g⟩ (fun r => (∀ c : Dev Cert.GatherPartsIdeal.nD,
      r.2.mem ((c.tc : Thread Cert.GatherPartsIdeal.nD Cert.GatherPartsIdeal.τ).loc Cert.GatherPartsIdeal.main_arg0) = m ((c.tc : Thread Cert.GatherPartsIdeal.nD Cert.GatherPartsIdeal.τ).loc Cert.GatherPartsIdeal.main_arg0))
      ∧ r.2.sem = fun _ => 0)

def quiescent_GatherPartsRefIdeal [hGatherPartsRefIdeal : Cert.GatherPartsRefIdeal.Facts] : Prop :=
  ∀ (m : (ℓ : Loc Cert.GatherPartsRefIdeal.nD Cert.GatherPartsRefIdeal.τ Cert.GatherPartsRefIdeal.sig) → Buf (Elt Ideal) ℓ) (g : Dev Cert.GatherPartsRefIdeal.nD → PrngReg), Pre_GatherPartsRefIdeal m →
    θ_run (Cert.GatherPartsRefIdeal.defs (F := Ideal)) (onTc (τ := Cert.GatherPartsRefIdeal.τ) (Cert.GatherPartsRefIdeal.main (F := Ideal))) ⟨m, fun _ => 0, g⟩ (fun r => (∀ c : Dev Cert.GatherPartsRefIdeal.nD,
      r.2.mem ((c.tc : Thread Cert.GatherPartsRefIdeal.nD Cert.GatherPartsRefIdeal.τ).loc Cert.GatherPartsRefIdeal.main_arg0) = m ((c.tc : Thread Cert.GatherPartsRefIdeal.nD Cert.GatherPartsRefIdeal.τ).loc Cert.GatherPartsRefIdeal.main_arg0))
      ∧ r.2.sem = fun _ => 0)

def quiescent_GatherPartsRef [hGatherPartsRef : Cert.GatherPartsRef.Facts] : Prop :=
  ∀ (m : (ℓ : Loc Cert.GatherPartsRef.nD Cert.GatherPartsRef.τ Cert.GatherPartsRef.sig) → Buf (Elt Bits) ℓ) (g : Dev Cert.GatherPartsRef.nD → PrngReg), Pre_GatherPartsRef m →
    θ_run (Cert.GatherPartsRef.defs (F := Bits)) (onTc (τ := Cert.GatherPartsRef.τ) (Cert.GatherPartsRef.main (F := Bits))) ⟨m, fun _ => 0, g⟩ (fun r => (∀ c : Dev Cert.GatherPartsRef.nD,
      r.2.mem ((c.tc : Thread Cert.GatherPartsRef.nD Cert.GatherPartsRef.τ).loc Cert.GatherPartsRef.main_arg0) = m ((c.tc : Thread Cert.GatherPartsRef.nD Cert.GatherPartsRef.τ).loc Cert.GatherPartsRef.main_arg0))
      ∧ r.2.sem = fun _ => 0)

def quiescent_AdamBig [hAdamBig : Cert.AdamBig.Facts] : Prop :=
  ∀ (m : (ℓ : Loc Cert.AdamBig.nD Cert.AdamBig.τ Cert.AdamBig.sig) → Buf (Elt Bits) ℓ) (g : Dev Cert.AdamBig.nD → PrngReg), Pre_AdamBig m →
    θ_run (Cert.AdamBig.defs (F := Bits)) (onTc (τ := Cert.AdamBig.τ) (Cert.AdamBig.main (F := Bits))) ⟨m, fun _ => 0, g⟩ (fun r => (∀ c : Dev Cert.AdamBig.nD,
      r.2.mem ((c.tc : Thread Cert.AdamBig.nD Cert.AdamBig.τ).loc Cert.AdamBig.main_arg0) = m ((c.tc : Thread Cert.AdamBig.nD Cert.AdamBig.τ).loc Cert.AdamBig.main_arg0)
      ∧ r.2.mem ((c.tc : Thread Cert.AdamBig.nD Cert.AdamBig.τ).loc Cert.AdamBig.main_arg1) = m ((c.tc : Thread Cert.AdamBig.nD Cert.AdamBig.τ).loc Cert.AdamBig.main_arg1)
      ∧ r.2.mem ((c.tc : Thread Cert.AdamBig.nD Cert.AdamBig.τ).loc Cert.AdamBig.main_arg2) = m ((c.tc : Thread Cert.AdamBig.nD Cert.AdamBig.τ).loc Cert.AdamBig.main_arg2)
      ∧ r.2.mem ((c.tc : Thread Cert.AdamBig.nD Cert.AdamBig.τ).loc Cert.AdamBig.main_arg3) = m ((c.tc : Thread Cert.AdamBig.nD Cert.AdamBig.τ).loc Cert.AdamBig.main_arg3))
      ∧ r.2.sem = fun _ => 0)

def quiescent_AdamBigIdeal [hAdamBigIdeal : Cert.AdamBigIdeal.Facts] : Prop :=
  ∀ (m : (ℓ : Loc Cert.AdamBigIdeal.nD Cert.AdamBigIdeal.τ Cert.AdamBigIdeal.sig) → Buf (Elt Ideal) ℓ) (g : Dev Cert.AdamBigIdeal.nD → PrngReg), Pre_AdamBigIdeal m →
    θ_run (Cert.AdamBigIdeal.defs (F := Ideal)) (onTc (τ := Cert.AdamBigIdeal.τ) (Cert.AdamBigIdeal.main (F := Ideal))) ⟨m, fun _ => 0, g⟩ (fun r => (∀ c : Dev Cert.AdamBigIdeal.nD,
      r.2.mem ((c.tc : Thread Cert.AdamBigIdeal.nD Cert.AdamBigIdeal.τ).loc Cert.AdamBigIdeal.main_arg0) = m ((c.tc : Thread Cert.AdamBigIdeal.nD Cert.AdamBigIdeal.τ).loc Cert.AdamBigIdeal.main_arg0)
      ∧ r.2.mem ((c.tc : Thread Cert.AdamBigIdeal.nD Cert.AdamBigIdeal.τ).loc Cert.AdamBigIdeal.main_arg1) = m ((c.tc : Thread Cert.AdamBigIdeal.nD Cert.AdamBigIdeal.τ).loc Cert.AdamBigIdeal.main_arg1)
      ∧ r.2.mem ((c.tc : Thread Cert.AdamBigIdeal.nD Cert.AdamBigIdeal.τ).loc Cert.AdamBigIdeal.main_arg2) = m ((c.tc : Thread Cert.AdamBigIdeal.nD Cert.AdamBigIdeal.τ).loc Cert.AdamBigIdeal.main_arg2)
      ∧ r.2.mem ((c.tc : Thread Cert.AdamBigIdeal.nD Cert.AdamBigIdeal.τ).loc Cert.AdamBigIdeal.main_arg3) = m ((c.tc : Thread Cert.AdamBigIdeal.nD Cert.AdamBigIdeal.τ).loc Cert.AdamBigIdeal.main_arg3))
      ∧ r.2.sem = fun _ => 0)

def quiescent_AdamBigRefIdeal [hAdamBigRefIdeal : Cert.AdamBigRefIdeal.Facts] : Prop :=
  ∀ (m : (ℓ : Loc Cert.AdamBigRefIdeal.nD Cert.AdamBigRefIdeal.τ Cert.AdamBigRefIdeal.sig) → Buf (Elt Ideal) ℓ) (g : Dev Cert.AdamBigRefIdeal.nD → PrngReg), Pre_AdamBigRefIdeal m →
    θ_run (Cert.AdamBigRefIdeal.defs (F := Ideal)) (onTc (τ := Cert.AdamBigRefIdeal.τ) (Cert.AdamBigRefIdeal.main (F := Ideal))) ⟨m, fun _ => 0, g⟩ (fun r => (∀ c : Dev Cert.AdamBigRefIdeal.nD,
      r.2.mem ((c.tc : Thread Cert.AdamBigRefIdeal.nD Cert.AdamBigRefIdeal.τ).loc Cert.AdamBigRefIdeal.main_arg0) = m ((c.tc : Thread Cert.AdamBigRefIdeal.nD Cert.AdamBigRefIdeal.τ).loc Cert.AdamBigRefIdeal.main_arg0)
      ∧ r.2.mem ((c.tc : Thread Cert.AdamBigRefIdeal.nD Cert.AdamBigRefIdeal.τ).loc Cert.AdamBigRefIdeal.main_arg1) = m ((c.tc : Thread Cert.AdamBigRefIdeal.nD Cert.AdamBigRefIdeal.τ).loc Cert.AdamBigRefIdeal.main_arg1)
      ∧ r.2.mem ((c.tc : Thread Cert.AdamBigRefIdeal.nD Cert.AdamBigRefIdeal.τ).loc Cert.AdamBigRefIdeal.main_arg2) = m ((c.tc : Thread Cert.AdamBigRefIdeal.nD Cert.AdamBigRefIdeal.τ).loc Cert.AdamBigRefIdeal.main_arg2)
      ∧ r.2.mem ((c.tc : Thread Cert.AdamBigRefIdeal.nD Cert.AdamBigRefIdeal.τ).loc Cert.AdamBigRefIdeal.main_arg3) = m ((c.tc : Thread Cert.AdamBigRefIdeal.nD Cert.AdamBigRefIdeal.τ).loc Cert.AdamBigRefIdeal.main_arg3))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ r.2.sem = fun _ => 0)

def quiescent_AdamAdaRefIdeal [hAdamAdaRefIdeal : Cert.AdamAdaRefIdeal.Facts] : Prop :=
  ∀ (m : (ℓ : Loc Cert.AdamAdaRefIdeal.nD Cert.AdamAdaRefIdeal.τ Cert.AdamAdaRefIdeal.sig) → Buf (Elt Ideal) ℓ) (g : Dev Cert.AdamAdaRefIdeal.nD → PrngReg), Pre_AdamAdaRefIdeal m →
    θ_run (Cert.AdamAdaRefIdeal.defs (F := Ideal)) (onTc (τ := Cert.AdamAdaRefIdeal.τ) (Cert.AdamAdaRefIdeal.main (F := Ideal))) ⟨m, fun _ => 0, g⟩ (fun r => (∀ c : Dev Cert.AdamAdaRefIdeal.nD,
      r.2.mem ((c.tc : Thread Cert.AdamAdaRefIdeal.nD Cert.AdamAdaRefIdeal.τ).loc Cert.AdamAdaRefIdeal.main_arg0) = m ((c.tc : Thread Cert.AdamAdaRefIdeal.nD Cert.AdamAdaRefIdeal.τ).loc Cert.AdamAdaRefIdeal.main_arg0)
      ∧ r.2.mem ((c.tc : Thread Cert.AdamAdaRefIdeal.nD Cert.AdamAdaRefIdeal.τ).loc Cert.AdamAdaRefIdeal.main_arg1) = m ((c.tc : Thread Cert.AdamAdaRefIdeal.nD Cert.AdamAdaRefIdeal.τ).loc Cert.AdamAdaRefIdeal.main_arg1)
      ∧ r.2.mem ((c.tc : Thread Cert.AdamAdaRefIdeal.nD Cert.AdamAdaRefIdeal.τ).loc Cert.AdamAdaRefIdeal.main_arg2) = m ((c.tc : Thread Cert.AdamAdaRefIdeal.nD Cert.AdamAdaRefIdeal.τ).loc Cert.AdamAdaRefIdeal.main_arg2)
      ∧ r.2.mem ((c.tc : Thread Cert.AdamAdaRefIdeal.nD Cert.AdamAdaRefIdeal.τ).loc Cert.AdamAdaRefIdeal.main_arg3) = m ((c.tc : Thread Cert.AdamAdaRefIdeal.nD Cert.AdamAdaRefIdeal.τ).loc Cert.AdamAdaRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_AdaBwd [hAdaBwd : Cert.AdaBwd.Facts] : Prop :=
  ∀ (m : (ℓ : Loc Cert.AdaBwd.nD Cert.AdaBwd.τ Cert.AdaBwd.sig) → Buf (Elt Bits) ℓ) (g : Dev Cert.AdaBwd.nD → PrngReg), Pre_AdaBwd m →
    θ_run (Cert.AdaBwd.defs (F := Bits)) (onTc (τ := Cert.AdaBwd.τ) (Cert.AdaBwd.main (F := Bits))) ⟨m, fun _ => 0, g⟩ (fun r => (∀ c : Dev Cert.AdaBwd.nD,
      r.2.mem ((c.tc : Thread Cert.AdaBwd.nD Cert.AdaBwd.τ).loc Cert.AdaBwd.main_arg0) = m ((c.tc : Thread Cert.AdaBwd.nD Cert.AdaBwd.τ).loc Cert.AdaBwd.main_arg0)
      ∧ r.2.mem ((c.tc : Thread Cert.AdaBwd.nD Cert.AdaBwd.τ).loc Cert.AdaBwd.main_arg1) = m ((c.tc : Thread Cert.AdaBwd.nD Cert.AdaBwd.τ).loc Cert.AdaBwd.main_arg1))
      ∧ r.2.sem = fun _ => 0)

def quiescent_AdaBwdIdeal [hAdaBwdIdeal : Cert.AdaBwdIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg), Pre_AdaBwdIdeal m →
    θ_run (Cert.AdaBwdIdeal.defs (F := Ideal)) (onTc (τ := Cert.AdaBwdIdeal.τ) (Cert.AdaBwdIdeal.main (F := Ideal))) ⟨m, fun _ => 0, g⟩ (fun r => (∀ c : Dev Cert.AdaBwdIdeal.nD,
      r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
      ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1))
      ∧ r.2.sem = fun _ => 0)

def quiescent_AdaBwdRefIdeal [hAdaBwdRefIdeal : Cert.AdaBwdRefIdeal.Facts] : Prop :=
  ∀ (m : (ℓ : Loc Cert.AdaBwdRefIdeal.nD Cert.AdaBwdRefIdeal.τ Cert.AdaBwdRefIdeal.sig) → Buf (Elt Ideal) ℓ) (g : Dev Cert.AdaBwdRefIdeal.nD → PrngReg), Pre_AdaBwdRefIdeal m →
    θ_run (Cert.AdaBwdRefIdeal.defs (F := Ideal)) (onTc (τ := Cert.AdaBwdRefIdeal.τ) (Cert.AdaBwdRefIdeal.main (F := Ideal))) ⟨m, fun _ => 0, g⟩ (fun r => (∀ c : Dev Cert.AdaBwdRefIdeal.nD,
      r.2.mem ((c.tc : Thread Cert.AdaBwdRefIdeal.nD Cert.AdaBwdRefIdeal.τ).loc Cert.AdaBwdRefIdeal.main_arg0) = m ((c.tc : Thread Cert.AdaBwdRefIdeal.nD Cert.AdaBwdRefIdeal.τ).loc Cert.AdaBwdRefIdeal.main_arg0)
      ∧ r.2.mem ((c.tc : Thread Cert.AdaBwdRefIdeal.nD Cert.AdaBwdRefIdeal.τ).loc Cert.AdaBwdRefIdeal.main_arg1) = m ((c.tc : Thread Cert.AdaBwdRefIdeal.nD Cert.AdaBwdRefIdeal.τ).loc Cert.AdaBwdRefIdeal.main_arg1))
      ∧ r.2.sem = fun _ => 0)

def quiescent_SmallSum [hSmallSum : Cert.SmallSum.Facts] : Prop :=
  ∀ (m : (ℓ : Loc Cert.SmallSum.nD Cert.SmallSum.τ Cert.SmallSum.sig) → Buf (Elt Bits) ℓ) (g : Dev Cert.SmallSum.nD → PrngReg), Pre_SmallSum m →
    θ_run (Cert.SmallSum.defs (F := Bits)) (onTc (τ := Cert.SmallSum.τ) (Cert.SmallSum.main (F := Bits))) ⟨m, fun _ => 0, g⟩ (fun r => (∀ c : Dev Cert.SmallSum.nD,
      r.2.mem ((c.tc : Thread Cert.SmallSum.nD Cert.SmallSum.τ).loc Cert.SmallSum.main_arg0) = m ((c.tc : Thread Cert.SmallSum.nD Cert.SmallSum.τ).loc Cert.SmallSum.main_arg0))
      ∧ r.2.sem = fun _ => 0)

def quiescent_SmallSumIdeal [hSmallSumIdeal : Cert.SmallSumIdeal.Facts] : Prop :=
  ∀ (m : (ℓ : Loc Cert.SmallSumIdeal.nD Cert.SmallSumIdeal.τ Cert.SmallSumIdeal.sig) → Buf (Elt Ideal) ℓ) (g : Dev Cert.SmallSumIdeal.nD → PrngReg), Pre_SmallSumIdeal m →
    θ_run (Cert.SmallSumIdeal.defs (F := Ideal)) (onTc (τ := Cert.SmallSumIdeal.τ) (Cert.SmallSumIdeal.main (F := Ideal))) ⟨m, fun _ => 0, g⟩ (fun r => (∀ c : Dev Cert.SmallSumIdeal.nD,
      r.2.mem ((c.tc : Thread Cert.SmallSumIdeal.nD Cert.SmallSumIdeal.τ).loc Cert.SmallSumIdeal.main_arg0) = m ((c.tc : Thread Cert.SmallSumIdeal.nD Cert.SmallSumIdeal.τ).loc Cert.SmallSumIdeal.main_arg0))
      ∧ r.2.sem = fun _ => 0)

def quiescent_SmallSumRefIdeal [hSmallSumRefIdeal : Cert.SmallSumRefIdeal.Facts] : Prop :=
  ∀ (m : (ℓ : Loc Cert.SmallSumRefIdeal.nD Cert.SmallSumRefIdeal.τ Cert.SmallSumRefIdeal.sig) → Buf (Elt Ideal) ℓ) (g : Dev Cert.SmallSumRefIdeal.nD → PrngReg), Pre_SmallSumRefIdeal m →
    θ_run (Cert.SmallSumRefIdeal.defs (F := Ideal)) (onTc (τ := Cert.SmallSumRefIdeal.τ) (Cert.SmallSumRefIdeal.main (F := Ideal))) ⟨m, fun _ => 0, g⟩ (fun r => (∀ c : Dev Cert.SmallSumRefIdeal.nD,
      r.2.mem ((c.tc : Thread Cert.SmallSumRefIdeal.nD Cert.SmallSumRefIdeal.τ).loc Cert.SmallSumRefIdeal.main_arg0) = m ((c.tc : Thread Cert.SmallSumRefIdeal.nD Cert.SmallSumRefIdeal.τ).loc Cert.SmallSumRefIdeal.main_arg0))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4)
      ∧ r.2.mem ((c.tc : Thread Cert.Loss.nD Cert.Loss.τ).loc Cert.Loss.main_arg5) = m ((c.tc : Thread Cert.Loss.nD Cert.Loss.τ).loc Cert.Loss.main_arg5))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5))
      ∧ r.2.sem = fun _ => 0)

def quiescent_GradX [hGradX : Cert.GradX.Facts] : Prop :=
  ∀ (m : (ℓ : Loc Cert.GradX.nD Cert.GradX.τ Cert.GradX.sig) → Buf (Elt Bits) ℓ) (g : Dev Cert.GradX.nD → PrngReg), Pre_GradX m →
    θ_run (Cert.GradX.defs (F := Bits)) (onTc (τ := Cert.GradX.τ) (Cert.GradX.main (F := Bits))) ⟨m, fun _ => 0, g⟩ (fun r => (∀ c : Dev Cert.GradX.nD,
      r.2.mem ((c.tc : Thread Cert.GradX.nD Cert.GradX.τ).loc Cert.GradX.main_arg0) = m ((c.tc : Thread Cert.GradX.nD Cert.GradX.τ).loc Cert.GradX.main_arg0)
      ∧ r.2.mem ((c.tc : Thread Cert.GradX.nD Cert.GradX.τ).loc Cert.GradX.main_arg1) = m ((c.tc : Thread Cert.GradX.nD Cert.GradX.τ).loc Cert.GradX.main_arg1)
      ∧ r.2.mem ((c.tc : Thread Cert.GradX.nD Cert.GradX.τ).loc Cert.GradX.main_arg2) = m ((c.tc : Thread Cert.GradX.nD Cert.GradX.τ).loc Cert.GradX.main_arg2)
      ∧ r.2.mem ((c.tc : Thread Cert.GradX.nD Cert.GradX.τ).loc Cert.GradX.main_arg3) = m ((c.tc : Thread Cert.GradX.nD Cert.GradX.τ).loc Cert.GradX.main_arg3)
      ∧ r.2.mem ((c.tc : Thread Cert.GradX.nD Cert.GradX.τ).loc Cert.GradX.main_arg4) = m ((c.tc : Thread Cert.GradX.nD Cert.GradX.τ).loc Cert.GradX.main_arg4))
      ∧ r.2.sem = fun _ => 0)

def quiescent_GradXIdeal [hGradXIdeal : Cert.GradXIdeal.Facts] : Prop :=
  ∀ (m : (ℓ : Loc Cert.GradXIdeal.nD Cert.GradXIdeal.τ Cert.GradXIdeal.sig) → Buf (Elt Ideal) ℓ) (g : Dev Cert.GradXIdeal.nD → PrngReg), Pre_GradXIdeal m →
    θ_run (Cert.GradXIdeal.defs (F := Ideal)) (onTc (τ := Cert.GradXIdeal.τ) (Cert.GradXIdeal.main (F := Ideal))) ⟨m, fun _ => 0, g⟩ (fun r => (∀ c : Dev Cert.GradXIdeal.nD,
      r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
      ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
      ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
      ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3)
      ∧ r.2.mem ((c.tc : Thread Cert.GradXIdeal.nD Cert.GradXIdeal.τ).loc Cert.GradXIdeal.main_arg4) = m ((c.tc : Thread Cert.GradXIdeal.nD Cert.GradXIdeal.τ).loc Cert.GradXIdeal.main_arg4))
      ∧ r.2.sem = fun _ => 0)

def quiescent_GradXRefIdeal [hGradXRefIdeal : Cert.GradXRefIdeal.Facts] : Prop :=
  ∀ (m : (ℓ : Loc Cert.GradXRefIdeal.nD Cert.GradXRefIdeal.τ Cert.GradXRefIdeal.sig) → Buf (Elt Ideal) ℓ) (g : Dev Cert.GradXRefIdeal.nD → PrngReg), Pre_GradXRefIdeal m →
    θ_run (Cert.GradXRefIdeal.defs (F := Ideal)) (onTc (τ := Cert.GradXRefIdeal.τ) (Cert.GradXRefIdeal.main (F := Ideal))) ⟨m, fun _ => 0, g⟩ (fun r => (∀ c : Dev Cert.GradXRefIdeal.nD,
      r.2.mem ((c.tc : Thread Cert.GradXRefIdeal.nD Cert.GradXRefIdeal.τ).loc Cert.GradXRefIdeal.main_arg0) = m ((c.tc : Thread Cert.GradXRefIdeal.nD Cert.GradXRefIdeal.τ).loc Cert.GradXRefIdeal.main_arg0)
      ∧ r.2.mem ((c.tc : Thread Cert.GradXRefIdeal.nD Cert.GradXRefIdeal.τ).loc Cert.GradXRefIdeal.main_arg1) = m ((c.tc : Thread Cert.GradXRefIdeal.nD Cert.GradXRefIdeal.τ).loc Cert.GradXRefIdeal.main_arg1)
      ∧ r.2.mem ((c.tc : Thread Cert.GradXRefIdeal.nD Cert.GradXRefIdeal.τ).loc Cert.GradXRefIdeal.main_arg2) = m ((c.tc : Thread Cert.GradXRefIdeal.nD Cert.GradXRefIdeal.τ).loc Cert.GradXRefIdeal.main_arg2)
      ∧ r.2.mem ((c.tc : Thread Cert.GradXRefIdeal.nD Cert.GradXRefIdeal.τ).loc Cert.GradXRefIdeal.main_arg3) = m ((c.tc : Thread Cert.GradXRefIdeal.nD Cert.GradXRefIdeal.τ).loc Cert.GradXRefIdeal.main_arg3)
      ∧ r.2.mem ((c.tc : Thread Cert.GradXRefIdeal.nD Cert.GradXRefIdeal.τ).loc Cert.GradXRefIdeal.main_arg4) = m ((c.tc : Thread Cert.GradXRefIdeal.nD Cert.GradXRefIdeal.τ).loc Cert.GradXRefIdeal.main_arg4))
      ∧ r.2.sem = fun _ => 0)

def quiescent_AdaFwd [hAdaFwd : Cert.AdaFwd.Facts] : Prop :=
  ∀ (m : (ℓ : Loc Cert.AdaFwd.nD Cert.AdaFwd.τ Cert.AdaFwd.sig) → Buf (Elt Bits) ℓ) (g : Dev Cert.AdaFwd.nD → PrngReg), Pre_AdaFwd m →
    θ_run (Cert.AdaFwd.defs (F := Bits)) (onTc (τ := Cert.AdaFwd.τ) (Cert.AdaFwd.main (F := Bits))) ⟨m, fun _ => 0, g⟩ (fun r => (∀ c : Dev Cert.AdaFwd.nD,
      r.2.mem ((c.tc : Thread Cert.AdaFwd.nD Cert.AdaFwd.τ).loc Cert.AdaFwd.main_arg0) = m ((c.tc : Thread Cert.AdaFwd.nD Cert.AdaFwd.τ).loc Cert.AdaFwd.main_arg0)
      ∧ r.2.mem ((c.tc : Thread Cert.AdaFwd.nD Cert.AdaFwd.τ).loc Cert.AdaFwd.main_arg1) = m ((c.tc : Thread Cert.AdaFwd.nD Cert.AdaFwd.τ).loc Cert.AdaFwd.main_arg1)
      ∧ r.2.mem ((c.tc : Thread Cert.AdaFwd.nD Cert.AdaFwd.τ).loc Cert.AdaFwd.main_arg2) = m ((c.tc : Thread Cert.AdaFwd.nD Cert.AdaFwd.τ).loc Cert.AdaFwd.main_arg2))
      ∧ r.2.sem = fun _ => 0)

def quiescent_AdaFwdIdeal [hAdaFwdIdeal : Cert.AdaFwdIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg), Pre_AdaFwdIdeal m →
    θ_run (Cert.AdaFwdIdeal.defs (F := Ideal)) (onTc (τ := Cert.AdaFwdIdeal.τ) (Cert.AdaFwdIdeal.main (F := Ideal))) ⟨m, fun _ => 0, g⟩ (fun r => (∀ c : Dev Cert.AdaFwdIdeal.nD,
      r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
      ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
      ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ r.2.sem = fun _ => 0)

def quiescent_AdaFwdRefIdeal [hAdaFwdRefIdeal : Cert.AdaFwdRefIdeal.Facts] : Prop :=
  ∀ (m : (ℓ : Loc Cert.AdaFwdRefIdeal.nD Cert.AdaFwdRefIdeal.τ Cert.AdaFwdRefIdeal.sig) → Buf (Elt Ideal) ℓ) (g : Dev Cert.AdaFwdRefIdeal.nD → PrngReg), Pre_AdaFwdRefIdeal m →
    θ_run (Cert.AdaFwdRefIdeal.defs (F := Ideal)) (onTc (τ := Cert.AdaFwdRefIdeal.τ) (Cert.AdaFwdRefIdeal.main (F := Ideal))) ⟨m, fun _ => 0, g⟩ (fun r => (∀ c : Dev Cert.AdaFwdRefIdeal.nD,
      r.2.mem ((c.tc : Thread Cert.AdaFwdRefIdeal.nD Cert.AdaFwdRefIdeal.τ).loc Cert.AdaFwdRefIdeal.main_arg0) = m ((c.tc : Thread Cert.AdaFwdRefIdeal.nD Cert.AdaFwdRefIdeal.τ).loc Cert.AdaFwdRefIdeal.main_arg0)
      ∧ r.2.mem ((c.tc : Thread Cert.AdaFwdRefIdeal.nD Cert.AdaFwdRefIdeal.τ).loc Cert.AdaFwdRefIdeal.main_arg1) = m ((c.tc : Thread Cert.AdaFwdRefIdeal.nD Cert.AdaFwdRefIdeal.τ).loc Cert.AdaFwdRefIdeal.main_arg1)
      ∧ r.2.mem ((c.tc : Thread Cert.AdaFwdRefIdeal.nD Cert.AdaFwdRefIdeal.τ).loc Cert.AdaFwdRefIdeal.main_arg2) = m ((c.tc : Thread Cert.AdaFwdRefIdeal.nD Cert.AdaFwdRefIdeal.τ).loc Cert.AdaFwdRefIdeal.main_arg2))
      ∧ r.2.sem = fun _ => 0)

def quiescent_PairSum [hPairSum : Cert.PairSum.Facts] : Prop :=
  ∀ (m : (ℓ : Loc Cert.PairSum.nD Cert.PairSum.τ Cert.PairSum.sig) → Buf (Elt Bits) ℓ) (g : Dev Cert.PairSum.nD → PrngReg), Pre_PairSum m →
    θ_run (Cert.PairSum.defs (F := Bits)) (onTc (τ := Cert.PairSum.τ) (Cert.PairSum.main (F := Bits))) ⟨m, fun _ => 0, g⟩ (fun r => (∀ c : Dev Cert.PairSum.nD,
      r.2.mem ((c.tc : Thread Cert.PairSum.nD Cert.PairSum.τ).loc Cert.PairSum.main_arg0) = m ((c.tc : Thread Cert.PairSum.nD Cert.PairSum.τ).loc Cert.PairSum.main_arg0)
      ∧ r.2.mem ((c.tc : Thread Cert.PairSum.nD Cert.PairSum.τ).loc Cert.PairSum.main_arg1) = m ((c.tc : Thread Cert.PairSum.nD Cert.PairSum.τ).loc Cert.PairSum.main_arg1))
      ∧ r.2.sem = fun _ => 0)

def quiescent_PairSumIdeal [hPairSumIdeal : Cert.PairSumIdeal.Facts] : Prop :=
  ∀ (m : (ℓ : Loc Cert.PairSumIdeal.nD Cert.PairSumIdeal.τ Cert.PairSumIdeal.sig) → Buf (Elt Ideal) ℓ) (g : Dev Cert.PairSumIdeal.nD → PrngReg), Pre_PairSumIdeal m →
    θ_run (Cert.PairSumIdeal.defs (F := Ideal)) (onTc (τ := Cert.PairSumIdeal.τ) (Cert.PairSumIdeal.main (F := Ideal))) ⟨m, fun _ => 0, g⟩ (fun r => (∀ c : Dev Cert.PairSumIdeal.nD,
      r.2.mem ((c.tc : Thread Cert.PairSumIdeal.nD Cert.PairSumIdeal.τ).loc Cert.PairSumIdeal.main_arg0) = m ((c.tc : Thread Cert.PairSumIdeal.nD Cert.PairSumIdeal.τ).loc Cert.PairSumIdeal.main_arg0)
      ∧ r.2.mem ((c.tc : Thread Cert.PairSumIdeal.nD Cert.PairSumIdeal.τ).loc Cert.PairSumIdeal.main_arg1) = m ((c.tc : Thread Cert.PairSumIdeal.nD Cert.PairSumIdeal.τ).loc Cert.PairSumIdeal.main_arg1))
      ∧ r.2.sem = fun _ => 0)

def quiescent_PairSumRefIdeal [hPairSumRefIdeal : Cert.PairSumRefIdeal.Facts] : Prop :=
  ∀ (m : (ℓ : Loc Cert.PairSumRefIdeal.nD Cert.PairSumRefIdeal.τ Cert.PairSumRefIdeal.sig) → Buf (Elt Ideal) ℓ) (g : Dev Cert.PairSumRefIdeal.nD → PrngReg), Pre_PairSumRefIdeal m →
    θ_run (Cert.PairSumRefIdeal.defs (F := Ideal)) (onTc (τ := Cert.PairSumRefIdeal.τ) (Cert.PairSumRefIdeal.main (F := Ideal))) ⟨m, fun _ => 0, g⟩ (fun r => (∀ c : Dev Cert.PairSumRefIdeal.nD,
      r.2.mem ((c.tc : Thread Cert.PairSumRefIdeal.nD Cert.PairSumRefIdeal.τ).loc Cert.PairSumRefIdeal.main_arg0) = m ((c.tc : Thread Cert.PairSumRefIdeal.nD Cert.PairSumRefIdeal.τ).loc Cert.PairSumRefIdeal.main_arg0)
      ∧ r.2.mem ((c.tc : Thread Cert.PairSumRefIdeal.nD Cert.PairSumRefIdeal.τ).loc Cert.PairSumRefIdeal.main_arg1) = m ((c.tc : Thread Cert.PairSumRefIdeal.nD Cert.PairSumRefIdeal.τ).loc Cert.PairSumRefIdeal.main_arg1))
      ∧ r.2.sem = fun _ => 0)

def quiescent_ChipSum [hChipSum : Cert.ChipSum.Facts] : Prop :=
  ∀ (m : (ℓ : Loc Cert.ChipSum.nD Cert.ChipSum.τ Cert.ChipSum.sig) → Buf (Elt Bits) ℓ) (g : Dev Cert.ChipSum.nD → PrngReg), Pre_ChipSum m →
    θ_run (Cert.ChipSum.defs (F := Bits)) (onTc (τ := Cert.ChipSum.τ) (Cert.ChipSum.main (F := Bits))) ⟨m, fun _ => 0, g⟩ (fun r => (∀ c : Dev Cert.ChipSum.nD,
      r.2.mem ((c.tc : Thread Cert.ChipSum.nD Cert.ChipSum.τ).loc Cert.ChipSum.main_arg0) = m ((c.tc : Thread Cert.ChipSum.nD Cert.ChipSum.τ).loc Cert.ChipSum.main_arg0))
      ∧ r.2.sem = fun _ => 0)

def quiescent_ChipSumIdeal [hChipSumIdeal : Cert.ChipSumIdeal.Facts] : Prop :=
  ∀ (m : (ℓ : Loc Cert.ChipSumIdeal.nD Cert.ChipSumIdeal.τ Cert.ChipSumIdeal.sig) → Buf (Elt Ideal) ℓ) (g : Dev Cert.ChipSumIdeal.nD → PrngReg), Pre_ChipSumIdeal m →
    θ_run (Cert.ChipSumIdeal.defs (F := Ideal)) (onTc (τ := Cert.ChipSumIdeal.τ) (Cert.ChipSumIdeal.main (F := Ideal))) ⟨m, fun _ => 0, g⟩ (fun r => (∀ c : Dev Cert.ChipSumIdeal.nD,
      r.2.mem ((c.tc : Thread Cert.ChipSumIdeal.nD Cert.ChipSumIdeal.τ).loc Cert.ChipSumIdeal.main_arg0) = m ((c.tc : Thread Cert.ChipSumIdeal.nD Cert.ChipSumIdeal.τ).loc Cert.ChipSumIdeal.main_arg0))
      ∧ r.2.sem = fun _ => 0)

def quiescent_ChipSumRefIdeal [hChipSumRefIdeal : Cert.ChipSumRefIdeal.Facts] : Prop :=
  ∀ (m : (ℓ : Loc Cert.ChipSumRefIdeal.nD Cert.ChipSumRefIdeal.τ Cert.ChipSumRefIdeal.sig) → Buf (Elt Ideal) ℓ) (g : Dev Cert.ChipSumRefIdeal.nD → PrngReg), Pre_ChipSumRefIdeal m →
    θ_run (Cert.ChipSumRefIdeal.defs (F := Ideal)) (onTc (τ := Cert.ChipSumRefIdeal.τ) (Cert.ChipSumRefIdeal.main (F := Ideal))) ⟨m, fun _ => 0, g⟩ (fun r => (∀ c : Dev Cert.ChipSumRefIdeal.nD,
      r.2.mem ((c.tc : Thread Cert.ChipSumRefIdeal.nD Cert.ChipSumRefIdeal.τ).loc Cert.ChipSumRefIdeal.main_arg0) = m ((c.tc : Thread Cert.ChipSumRefIdeal.nD Cert.ChipSumRefIdeal.τ).loc Cert.ChipSumRefIdeal.main_arg0))
      ∧ r.2.sem = fun _ => 0)

def quiescent_LnMod [hLnMod : Cert.LnMod.Facts] : Prop :=
  ∀ (m : (ℓ : Loc Cert.LnMod.nD Cert.LnMod.τ Cert.LnMod.sig) → Buf (Elt Bits) ℓ) (g : Dev Cert.LnMod.nD → PrngReg), Pre_LnMod m →
    θ_run (Cert.LnMod.defs (F := Bits)) (onTc (τ := Cert.LnMod.τ) (Cert.LnMod.main (F := Bits))) ⟨m, fun _ => 0, g⟩ (fun r => (∀ c : Dev Cert.LnMod.nD,
      r.2.mem ((c.tc : Thread Cert.LnMod.nD Cert.LnMod.τ).loc Cert.LnMod.main_arg0) = m ((c.tc : Thread Cert.LnMod.nD Cert.LnMod.τ).loc Cert.LnMod.main_arg0)
      ∧ r.2.mem ((c.tc : Thread Cert.LnMod.nD Cert.LnMod.τ).loc Cert.LnMod.main_arg1) = m ((c.tc : Thread Cert.LnMod.nD Cert.LnMod.τ).loc Cert.LnMod.main_arg1)
      ∧ r.2.mem ((c.tc : Thread Cert.LnMod.nD Cert.LnMod.τ).loc Cert.LnMod.main_arg2) = m ((c.tc : Thread Cert.LnMod.nD Cert.LnMod.τ).loc Cert.LnMod.main_arg2))
      ∧ r.2.sem = fun _ => 0)

def quiescent_LnModIdeal [hLnModIdeal : Cert.LnModIdeal.Facts] : Prop :=
  ∀ (m : (ℓ : Loc Cert.LnModIdeal.nD Cert.LnModIdeal.τ Cert.LnModIdeal.sig) → Buf (Elt Ideal) ℓ) (g : Dev Cert.LnModIdeal.nD → PrngReg), Pre_LnModIdeal m →
    θ_run (Cert.LnModIdeal.defs (F := Ideal)) (onTc (τ := Cert.LnModIdeal.τ) (Cert.LnModIdeal.main (F := Ideal))) ⟨m, fun _ => 0, g⟩ (fun r => (∀ c : Dev Cert.LnModIdeal.nD,
      r.2.mem ((c.tc : Thread Cert.LnModIdeal.nD Cert.LnModIdeal.τ).loc Cert.LnModIdeal.main_arg0) = m ((c.tc : Thread Cert.LnModIdeal.nD Cert.LnModIdeal.τ).loc Cert.LnModIdeal.main_arg0)
      ∧ r.2.mem ((c.tc : Thread Cert.LnModIdeal.nD Cert.LnModIdeal.τ).loc Cert.LnModIdeal.main_arg1) = m ((c.tc : Thread Cert.LnModIdeal.nD Cert.LnModIdeal.τ).loc Cert.LnModIdeal.main_arg1)
      ∧ r.2.mem ((c.tc : Thread Cert.LnModIdeal.nD Cert.LnModIdeal.τ).loc Cert.LnModIdeal.main_arg2) = m ((c.tc : Thread Cert.LnModIdeal.nD Cert.LnModIdeal.τ).loc Cert.LnModIdeal.main_arg2))
      ∧ r.2.sem = fun _ => 0)

def quiescent_LnModRefIdeal [hLnModRefIdeal : Cert.LnModRefIdeal.Facts] : Prop :=
  ∀ (m : (ℓ : Loc Cert.LnModRefIdeal.nD Cert.LnModRefIdeal.τ Cert.LnModRefIdeal.sig) → Buf (Elt Ideal) ℓ) (g : Dev Cert.LnModRefIdeal.nD → PrngReg), Pre_LnModRefIdeal m →
    θ_run (Cert.LnModRefIdeal.defs (F := Ideal)) (onTc (τ := Cert.LnModRefIdeal.τ) (Cert.LnModRefIdeal.main (F := Ideal))) ⟨m, fun _ => 0, g⟩ (fun r => (∀ c : Dev Cert.LnModRefIdeal.nD,
      r.2.mem ((c.tc : Thread Cert.LnModRefIdeal.nD Cert.LnModRefIdeal.τ).loc Cert.LnModRefIdeal.main_arg0) = m ((c.tc : Thread Cert.LnModRefIdeal.nD Cert.LnModRefIdeal.τ).loc Cert.LnModRefIdeal.main_arg0)
      ∧ r.2.mem ((c.tc : Thread Cert.LnModRefIdeal.nD Cert.LnModRefIdeal.τ).loc Cert.LnModRefIdeal.main_arg1) = m ((c.tc : Thread Cert.LnModRefIdeal.nD Cert.LnModRefIdeal.τ).loc Cert.LnModRefIdeal.main_arg1)
      ∧ r.2.mem ((c.tc : Thread Cert.LnModRefIdeal.nD Cert.LnModRefIdeal.τ).loc Cert.LnModRefIdeal.main_arg2) = m ((c.tc : Thread Cert.LnModRefIdeal.nD Cert.LnModRefIdeal.τ).loc Cert.LnModRefIdeal.main_arg2))
      ∧ r.2.sem = fun _ => 0)

def quiescent_ConvNorm [hConvNorm : Cert.ConvNorm.Facts] : Prop :=
  ∀ (m : (ℓ : Loc Cert.ConvNorm.nD Cert.ConvNorm.τ Cert.ConvNorm.sig) → Buf (Elt Bits) ℓ) (g : Dev Cert.ConvNorm.nD → PrngReg), Pre_ConvNorm m →
    θ_run (Cert.ConvNorm.defs (F := Bits)) (onTc (τ := Cert.ConvNorm.τ) (Cert.ConvNorm.main (F := Bits))) ⟨m, fun _ => 0, g⟩ (fun r => (∀ c : Dev Cert.ConvNorm.nD,
      r.2.mem ((c.tc : Thread Cert.ConvNorm.nD Cert.ConvNorm.τ).loc Cert.ConvNorm.main_arg0) = m ((c.tc : Thread Cert.ConvNorm.nD Cert.ConvNorm.τ).loc Cert.ConvNorm.main_arg0)
      ∧ r.2.mem ((c.tc : Thread Cert.ConvNorm.nD Cert.ConvNorm.τ).loc Cert.ConvNorm.main_arg1) = m ((c.tc : Thread Cert.ConvNorm.nD Cert.ConvNorm.τ).loc Cert.ConvNorm.main_arg1)
      ∧ r.2.mem ((c.tc : Thread Cert.ConvNorm.nD Cert.ConvNorm.τ).loc Cert.ConvNorm.main_arg2) = m ((c.tc : Thread Cert.ConvNorm.nD Cert.ConvNorm.τ).loc Cert.ConvNorm.main_arg2))
      ∧ r.2.sem = fun _ => 0)

def quiescent_ConvNormIdeal [hConvNormIdeal : Cert.ConvNormIdeal.Facts] : Prop :=
  ∀ (m : (ℓ : Loc Cert.ConvNormIdeal.nD Cert.ConvNormIdeal.τ Cert.ConvNormIdeal.sig) → Buf (Elt Ideal) ℓ) (g : Dev Cert.ConvNormIdeal.nD → PrngReg), Pre_ConvNormIdeal m →
    θ_run (Cert.ConvNormIdeal.defs (F := Ideal)) (onTc (τ := Cert.ConvNormIdeal.τ) (Cert.ConvNormIdeal.main (F := Ideal))) ⟨m, fun _ => 0, g⟩ (fun r => (∀ c : Dev Cert.ConvNormIdeal.nD,
      r.2.mem ((c.tc : Thread Cert.ConvNormIdeal.nD Cert.ConvNormIdeal.τ).loc Cert.ConvNormIdeal.main_arg0) = m ((c.tc : Thread Cert.ConvNormIdeal.nD Cert.ConvNormIdeal.τ).loc Cert.ConvNormIdeal.main_arg0)
      ∧ r.2.mem ((c.tc : Thread Cert.ConvNormIdeal.nD Cert.ConvNormIdeal.τ).loc Cert.ConvNormIdeal.main_arg1) = m ((c.tc : Thread Cert.ConvNormIdeal.nD Cert.ConvNormIdeal.τ).loc Cert.ConvNormIdeal.main_arg1)
      ∧ r.2.mem ((c.tc : Thread Cert.ConvNormIdeal.nD Cert.ConvNormIdeal.τ).loc Cert.ConvNormIdeal.main_arg2) = m ((c.tc : Thread Cert.ConvNormIdeal.nD Cert.ConvNormIdeal.τ).loc Cert.ConvNormIdeal.main_arg2))
      ∧ r.2.sem = fun _ => 0)

def quiescent_ConvNormRefIdeal [hConvNormRefIdeal : Cert.ConvNormRefIdeal.Facts] : Prop :=
  ∀ (m : (ℓ : Loc Cert.ConvNormRefIdeal.nD Cert.ConvNormRefIdeal.τ Cert.ConvNormRefIdeal.sig) → Buf (Elt Ideal) ℓ) (g : Dev Cert.ConvNormRefIdeal.nD → PrngReg), Pre_ConvNormRefIdeal m →
    θ_run (Cert.ConvNormRefIdeal.defs (F := Ideal)) (onTc (τ := Cert.ConvNormRefIdeal.τ) (Cert.ConvNormRefIdeal.main (F := Ideal))) ⟨m, fun _ => 0, g⟩ (fun r => (∀ c : Dev Cert.ConvNormRefIdeal.nD,
      r.2.mem ((c.tc : Thread Cert.ConvNormRefIdeal.nD Cert.ConvNormRefIdeal.τ).loc Cert.ConvNormRefIdeal.main_arg0) = m ((c.tc : Thread Cert.ConvNormRefIdeal.nD Cert.ConvNormRefIdeal.τ).loc Cert.ConvNormRefIdeal.main_arg0)
      ∧ r.2.mem ((c.tc : Thread Cert.ConvNormRefIdeal.nD Cert.ConvNormRefIdeal.τ).loc Cert.ConvNormRefIdeal.main_arg1) = m ((c.tc : Thread Cert.ConvNormRefIdeal.nD Cert.ConvNormRefIdeal.τ).loc Cert.ConvNormRefIdeal.main_arg1)
      ∧ r.2.mem ((c.tc : Thread Cert.ConvNormRefIdeal.nD Cert.ConvNormRefIdeal.τ).loc Cert.ConvNormRefIdeal.main_arg2) = m ((c.tc : Thread Cert.ConvNormRefIdeal.nD Cert.ConvNormRefIdeal.τ).loc Cert.ConvNormRefIdeal.main_arg2))
      ∧ r.2.sem = fun _ => 0)

def quiescent_RetNorm [hRetNorm : Cert.RetNorm.Facts] : Prop :=
  ∀ (m : (ℓ : Loc Cert.RetNorm.nD Cert.RetNorm.τ Cert.RetNorm.sig) → Buf (Elt Bits) ℓ) (g : Dev Cert.RetNorm.nD → PrngReg), Pre_RetNorm m →
    θ_run (Cert.RetNorm.defs (F := Bits)) (onTc (τ := Cert.RetNorm.τ) (Cert.RetNorm.main (F := Bits))) ⟨m, fun _ => 0, g⟩ (fun r => (∀ c : Dev Cert.RetNorm.nD,
      r.2.mem ((c.tc : Thread Cert.RetNorm.nD Cert.RetNorm.τ).loc Cert.RetNorm.main_arg0) = m ((c.tc : Thread Cert.RetNorm.nD Cert.RetNorm.τ).loc Cert.RetNorm.main_arg0)
      ∧ r.2.mem ((c.tc : Thread Cert.RetNorm.nD Cert.RetNorm.τ).loc Cert.RetNorm.main_arg1) = m ((c.tc : Thread Cert.RetNorm.nD Cert.RetNorm.τ).loc Cert.RetNorm.main_arg1)
      ∧ r.2.mem ((c.tc : Thread Cert.RetNorm.nD Cert.RetNorm.τ).loc Cert.RetNorm.main_arg2) = m ((c.tc : Thread Cert.RetNorm.nD Cert.RetNorm.τ).loc Cert.RetNorm.main_arg2)
      ∧ r.2.mem ((c.tc : Thread Cert.RetNorm.nD Cert.RetNorm.τ).loc Cert.RetNorm.main_arg3) = m ((c.tc : Thread Cert.RetNorm.nD Cert.RetNorm.τ).loc Cert.RetNorm.main_arg3))
      ∧ r.2.sem = fun _ => 0)

def quiescent_RetNormIdeal [hRetNormIdeal : Cert.RetNormIdeal.Facts] : Prop :=
  ∀ (m : (ℓ : Loc Cert.RetNormIdeal.nD Cert.RetNormIdeal.τ Cert.RetNormIdeal.sig) → Buf (Elt Ideal) ℓ) (g : Dev Cert.RetNormIdeal.nD → PrngReg), Pre_RetNormIdeal m →
    θ_run (Cert.RetNormIdeal.defs (F := Ideal)) (onTc (τ := Cert.RetNormIdeal.τ) (Cert.RetNormIdeal.main (F := Ideal))) ⟨m, fun _ => 0, g⟩ (fun r => (∀ c : Dev Cert.RetNormIdeal.nD,
      r.2.mem ((c.tc : Thread Cert.RetNormIdeal.nD Cert.RetNormIdeal.τ).loc Cert.RetNormIdeal.main_arg0) = m ((c.tc : Thread Cert.RetNormIdeal.nD Cert.RetNormIdeal.τ).loc Cert.RetNormIdeal.main_arg0)
      ∧ r.2.mem ((c.tc : Thread Cert.RetNormIdeal.nD Cert.RetNormIdeal.τ).loc Cert.RetNormIdeal.main_arg1) = m ((c.tc : Thread Cert.RetNormIdeal.nD Cert.RetNormIdeal.τ).loc Cert.RetNormIdeal.main_arg1)
      ∧ r.2.mem ((c.tc : Thread Cert.RetNormIdeal.nD Cert.RetNormIdeal.τ).loc Cert.RetNormIdeal.main_arg2) = m ((c.tc : Thread Cert.RetNormIdeal.nD Cert.RetNormIdeal.τ).loc Cert.RetNormIdeal.main_arg2)
      ∧ r.2.mem ((c.tc : Thread Cert.RetNormIdeal.nD Cert.RetNormIdeal.τ).loc Cert.RetNormIdeal.main_arg3) = m ((c.tc : Thread Cert.RetNormIdeal.nD Cert.RetNormIdeal.τ).loc Cert.RetNormIdeal.main_arg3))
      ∧ r.2.sem = fun _ => 0)

def quiescent_RetNormRefIdeal [hRetNormRefIdeal : Cert.RetNormRefIdeal.Facts] : Prop :=
  ∀ (m : (ℓ : Loc Cert.RetNormRefIdeal.nD Cert.RetNormRefIdeal.τ Cert.RetNormRefIdeal.sig) → Buf (Elt Ideal) ℓ) (g : Dev Cert.RetNormRefIdeal.nD → PrngReg), Pre_RetNormRefIdeal m →
    θ_run (Cert.RetNormRefIdeal.defs (F := Ideal)) (onTc (τ := Cert.RetNormRefIdeal.τ) (Cert.RetNormRefIdeal.main (F := Ideal))) ⟨m, fun _ => 0, g⟩ (fun r => (∀ c : Dev Cert.RetNormRefIdeal.nD,
      r.2.mem ((c.tc : Thread Cert.RetNormRefIdeal.nD Cert.RetNormRefIdeal.τ).loc Cert.RetNormRefIdeal.main_arg0) = m ((c.tc : Thread Cert.RetNormRefIdeal.nD Cert.RetNormRefIdeal.τ).loc Cert.RetNormRefIdeal.main_arg0)
      ∧ r.2.mem ((c.tc : Thread Cert.RetNormRefIdeal.nD Cert.RetNormRefIdeal.τ).loc Cert.RetNormRefIdeal.main_arg1) = m ((c.tc : Thread Cert.RetNormRefIdeal.nD Cert.RetNormRefIdeal.τ).loc Cert.RetNormRefIdeal.main_arg1)
      ∧ r.2.mem ((c.tc : Thread Cert.RetNormRefIdeal.nD Cert.RetNormRefIdeal.τ).loc Cert.RetNormRefIdeal.main_arg2) = m ((c.tc : Thread Cert.RetNormRefIdeal.nD Cert.RetNormRefIdeal.τ).loc Cert.RetNormRefIdeal.main_arg2)
      ∧ r.2.mem ((c.tc : Thread Cert.RetNormRefIdeal.nD Cert.RetNormRefIdeal.τ).loc Cert.RetNormRefIdeal.main_arg3) = m ((c.tc : Thread Cert.RetNormRefIdeal.nD Cert.RetNormRefIdeal.τ).loc Cert.RetNormRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6))
      ∧ r.2.sem = fun _ => 0)

def quiescent_FfnGate [hFfnGate : Cert.FfnGate.Facts] : Prop :=
  ∀ (m : (ℓ : Loc Cert.FfnGate.nD Cert.FfnGate.τ Cert.FfnGate.sig) → Buf (Elt Bits) ℓ) (g : Dev Cert.FfnGate.nD → PrngReg), Pre_FfnGate m →
    θ_run (Cert.FfnGate.defs (F := Bits)) (onTc (τ := Cert.FfnGate.τ) (Cert.FfnGate.main (F := Bits))) ⟨m, fun _ => 0, g⟩ (fun r => (∀ c : Dev Cert.FfnGate.nD,
      r.2.mem ((c.tc : Thread Cert.FfnGate.nD Cert.FfnGate.τ).loc Cert.FfnGate.main_arg0) = m ((c.tc : Thread Cert.FfnGate.nD Cert.FfnGate.τ).loc Cert.FfnGate.main_arg0))
      ∧ r.2.sem = fun _ => 0)

def quiescent_FfnGateIdeal [hFfnGateIdeal : Cert.FfnGateIdeal.Facts] : Prop :=
  ∀ (m : (ℓ : Loc Cert.FfnGateIdeal.nD Cert.FfnGateIdeal.τ Cert.FfnGateIdeal.sig) → Buf (Elt Ideal) ℓ) (g : Dev Cert.FfnGateIdeal.nD → PrngReg), Pre_FfnGateIdeal m →
    θ_run (Cert.FfnGateIdeal.defs (F := Ideal)) (onTc (τ := Cert.FfnGateIdeal.τ) (Cert.FfnGateIdeal.main (F := Ideal))) ⟨m, fun _ => 0, g⟩ (fun r => (∀ c : Dev Cert.FfnGateIdeal.nD,
      r.2.mem ((c.tc : Thread Cert.FfnGateIdeal.nD Cert.FfnGateIdeal.τ).loc Cert.FfnGateIdeal.main_arg0) = m ((c.tc : Thread Cert.FfnGateIdeal.nD Cert.FfnGateIdeal.τ).loc Cert.FfnGateIdeal.main_arg0))
      ∧ r.2.sem = fun _ => 0)

def quiescent_FfnGateRefIdeal [hFfnGateRefIdeal : Cert.FfnGateRefIdeal.Facts] : Prop :=
  ∀ (m : (ℓ : Loc Cert.FfnGateRefIdeal.nD Cert.FfnGateRefIdeal.τ Cert.FfnGateRefIdeal.sig) → Buf (Elt Ideal) ℓ) (g : Dev Cert.FfnGateRefIdeal.nD → PrngReg), Pre_FfnGateRefIdeal m →
    θ_run (Cert.FfnGateRefIdeal.defs (F := Ideal)) (onTc (τ := Cert.FfnGateRefIdeal.τ) (Cert.FfnGateRefIdeal.main (F := Ideal))) ⟨m, fun _ => 0, g⟩ (fun r => (∀ c : Dev Cert.FfnGateRefIdeal.nD,
      r.2.mem ((c.tc : Thread Cert.FfnGateRefIdeal.nD Cert.FfnGateRefIdeal.τ).loc Cert.FfnGateRefIdeal.main_arg0) = m ((c.tc : Thread Cert.FfnGateRefIdeal.nD Cert.FfnGateRefIdeal.τ).loc Cert.FfnGateRefIdeal.main_arg0))
      ∧ r.2.sem = fun _ => 0)

def quiescent_CastWeights [hCastWeights : Cert.CastWeights.Facts] : Prop :=
  ∀ (m : (ℓ : Loc Cert.CastWeights.nD Cert.CastWeights.τ Cert.CastWeights.sig) → Buf (Elt Bits) ℓ) (g : Dev Cert.CastWeights.nD → PrngReg), Pre_CastWeights m →
    θ_run (Cert.CastWeights.defs (F := Bits)) (onTc (τ := Cert.CastWeights.τ) (Cert.CastWeights.main (F := Bits))) ⟨m, fun _ => 0, g⟩ (fun r => (∀ c : Dev Cert.CastWeights.nD,
      r.2.mem ((c.tc : Thread Cert.CastWeights.nD Cert.CastWeights.τ).loc Cert.CastWeights.main_arg0) = m ((c.tc : Thread Cert.CastWeights.nD Cert.CastWeights.τ).loc Cert.CastWeights.main_arg0))
      ∧ r.2.sem = fun _ => 0)

def quiescent_CastWeightsIdeal [hCastWeightsIdeal : Cert.CastWeightsIdeal.Facts] : Prop :=
  ∀ (m : (ℓ : Loc Cert.CastWeightsIdeal.nD Cert.CastWeightsIdeal.τ Cert.CastWeightsIdeal.sig) → Buf (Elt Ideal) ℓ) (g : Dev Cert.CastWeightsIdeal.nD → PrngReg), Pre_CastWeightsIdeal m →
    θ_run (Cert.CastWeightsIdeal.defs (F := Ideal)) (onTc (τ := Cert.CastWeightsIdeal.τ) (Cert.CastWeightsIdeal.main (F := Ideal))) ⟨m, fun _ => 0, g⟩ (fun r => (∀ c : Dev Cert.CastWeightsIdeal.nD,
      r.2.mem ((c.tc : Thread Cert.CastWeightsIdeal.nD Cert.CastWeightsIdeal.τ).loc Cert.CastWeightsIdeal.main_arg0) = m ((c.tc : Thread Cert.CastWeightsIdeal.nD Cert.CastWeightsIdeal.τ).loc Cert.CastWeightsIdeal.main_arg0))
      ∧ r.2.sem = fun _ => 0)

def quiescent_CastWeightsRefIdeal [hCastWeightsRefIdeal : Cert.CastWeightsRefIdeal.Facts] : Prop :=
  ∀ (m : (ℓ : Loc Cert.CastWeightsRefIdeal.nD Cert.CastWeightsRefIdeal.τ Cert.CastWeightsRefIdeal.sig) → Buf (Elt Ideal) ℓ) (g : Dev Cert.CastWeightsRefIdeal.nD → PrngReg), Pre_CastWeightsRefIdeal m →
    θ_run (Cert.CastWeightsRefIdeal.defs (F := Ideal)) (onTc (τ := Cert.CastWeightsRefIdeal.τ) (Cert.CastWeightsRefIdeal.main (F := Ideal))) ⟨m, fun _ => 0, g⟩ (fun r => (∀ c : Dev Cert.CastWeightsRefIdeal.nD,
      r.2.mem ((c.tc : Thread Cert.CastWeightsRefIdeal.nD Cert.CastWeightsRefIdeal.τ).loc Cert.CastWeightsRefIdeal.main_arg0) = m ((c.tc : Thread Cert.CastWeightsRefIdeal.nD Cert.CastWeightsRefIdeal.τ).loc Cert.CastWeightsRefIdeal.main_arg0))
      ∧ r.2.sem = fun _ => 0)

def quiescent_MmIn [hMmIn : Cert.MmIn.Facts] : Prop :=
  ∀ (m : (ℓ : Loc Cert.MmIn.nD Cert.MmIn.τ Cert.MmIn.sig) → Buf (Elt Bits) ℓ) (g : Dev Cert.MmIn.nD → PrngReg), Pre_MmIn m →
    θ_run (Cert.MmIn.defs (F := Bits)) (onTc (τ := Cert.MmIn.τ) (Cert.MmIn.main (F := Bits))) ⟨m, fun _ => 0, g⟩ (fun r => (∀ c : Dev Cert.MmIn.nD,
      r.2.mem ((c.tc : Thread Cert.MmIn.nD Cert.MmIn.τ).loc Cert.MmIn.main_arg0) = m ((c.tc : Thread Cert.MmIn.nD Cert.MmIn.τ).loc Cert.MmIn.main_arg0)
      ∧ r.2.mem ((c.tc : Thread Cert.MmIn.nD Cert.MmIn.τ).loc Cert.MmIn.main_arg1) = m ((c.tc : Thread Cert.MmIn.nD Cert.MmIn.τ).loc Cert.MmIn.main_arg1)
      ∧ r.2.mem ((c.tc : Thread Cert.MmIn.nD Cert.MmIn.τ).loc Cert.MmIn.main_arg2) = m ((c.tc : Thread Cert.MmIn.nD Cert.MmIn.τ).loc Cert.MmIn.main_arg2))
      ∧ r.2.sem = fun _ => 0)

def quiescent_MmInIdeal [hMmInIdeal : Cert.MmInIdeal.Facts] : Prop :=
  ∀ (m : (ℓ : Loc Cert.MmInIdeal.nD Cert.MmInIdeal.τ Cert.MmInIdeal.sig) → Buf (Elt Ideal) ℓ) (g : Dev Cert.MmInIdeal.nD → PrngReg), Pre_MmInIdeal m →
    θ_run (Cert.MmInIdeal.defs (F := Ideal)) (onTc (τ := Cert.MmInIdeal.τ) (Cert.MmInIdeal.main (F := Ideal))) ⟨m, fun _ => 0, g⟩ (fun r => (∀ c : Dev Cert.MmInIdeal.nD,
      r.2.mem ((c.tc : Thread Cert.MmInIdeal.nD Cert.MmInIdeal.τ).loc Cert.MmInIdeal.main_arg0) = m ((c.tc : Thread Cert.MmInIdeal.nD Cert.MmInIdeal.τ).loc Cert.MmInIdeal.main_arg0)
      ∧ r.2.mem ((c.tc : Thread Cert.MmInIdeal.nD Cert.MmInIdeal.τ).loc Cert.MmInIdeal.main_arg1) = m ((c.tc : Thread Cert.MmInIdeal.nD Cert.MmInIdeal.τ).loc Cert.MmInIdeal.main_arg1)
      ∧ r.2.mem ((c.tc : Thread Cert.MmInIdeal.nD Cert.MmInIdeal.τ).loc Cert.MmInIdeal.main_arg2) = m ((c.tc : Thread Cert.MmInIdeal.nD Cert.MmInIdeal.τ).loc Cert.MmInIdeal.main_arg2))
      ∧ r.2.sem = fun _ => 0)

def quiescent_MmInRefIdeal [hMmInRefIdeal : Cert.MmInRefIdeal.Facts] : Prop :=
  ∀ (m : (ℓ : Loc Cert.MmInRefIdeal.nD Cert.MmInRefIdeal.τ Cert.MmInRefIdeal.sig) → Buf (Elt Ideal) ℓ) (g : Dev Cert.MmInRefIdeal.nD → PrngReg), Pre_MmInRefIdeal m →
    θ_run (Cert.MmInRefIdeal.defs (F := Ideal)) (onTc (τ := Cert.MmInRefIdeal.τ) (Cert.MmInRefIdeal.main (F := Ideal))) ⟨m, fun _ => 0, g⟩ (fun r => (∀ c : Dev Cert.MmInRefIdeal.nD,
      r.2.mem ((c.tc : Thread Cert.MmInRefIdeal.nD Cert.MmInRefIdeal.τ).loc Cert.MmInRefIdeal.main_arg0) = m ((c.tc : Thread Cert.MmInRefIdeal.nD Cert.MmInRefIdeal.τ).loc Cert.MmInRefIdeal.main_arg0)
      ∧ r.2.mem ((c.tc : Thread Cert.MmInRefIdeal.nD Cert.MmInRefIdeal.τ).loc Cert.MmInRefIdeal.main_arg1) = m ((c.tc : Thread Cert.MmInRefIdeal.nD Cert.MmInRefIdeal.τ).loc Cert.MmInRefIdeal.main_arg1)
      ∧ r.2.mem ((c.tc : Thread Cert.MmInRefIdeal.nD Cert.MmInRefIdeal.τ).loc Cert.MmInRefIdeal.main_arg2) = m ((c.tc : Thread Cert.MmInRefIdeal.nD Cert.MmInRefIdeal.τ).loc Cert.MmInRefIdeal.main_arg2))
      ∧ r.2.sem = fun _ => 0)

def quiescent_MmUp [hMmUp : Cert.MmUp.Facts] : Prop :=
  ∀ (m : (ℓ : Loc Cert.MmUp.nD Cert.MmUp.τ Cert.MmUp.sig) → Buf (Elt Bits) ℓ) (g : Dev Cert.MmUp.nD → PrngReg), Pre_MmUp m →
    θ_run (Cert.MmUp.defs (F := Bits)) (onTc (τ := Cert.MmUp.τ) (Cert.MmUp.main (F := Bits))) ⟨m, fun _ => 0, g⟩ (fun r => (∀ c : Dev Cert.MmUp.nD,
      r.2.mem ((c.tc : Thread Cert.MmUp.nD Cert.MmUp.τ).loc Cert.MmUp.main_arg0) = m ((c.tc : Thread Cert.MmUp.nD Cert.MmUp.τ).loc Cert.MmUp.main_arg0)
      ∧ r.2.mem ((c.tc : Thread Cert.MmUp.nD Cert.MmUp.τ).loc Cert.MmUp.main_arg1) = m ((c.tc : Thread Cert.MmUp.nD Cert.MmUp.τ).loc Cert.MmUp.main_arg1))
      ∧ r.2.sem = fun _ => 0)

def quiescent_MmUpIdeal [hMmUpIdeal : Cert.MmUpIdeal.Facts] : Prop :=
  ∀ (m : (ℓ : Loc Cert.MmUpIdeal.nD Cert.MmUpIdeal.τ Cert.MmUpIdeal.sig) → Buf (Elt Ideal) ℓ) (g : Dev Cert.MmUpIdeal.nD → PrngReg), Pre_MmUpIdeal m →
    θ_run (Cert.MmUpIdeal.defs (F := Ideal)) (onTc (τ := Cert.MmUpIdeal.τ) (Cert.MmUpIdeal.main (F := Ideal))) ⟨m, fun _ => 0, g⟩ (fun r => (∀ c : Dev Cert.MmUpIdeal.nD,
      r.2.mem ((c.tc : Thread Cert.MmUpIdeal.nD Cert.MmUpIdeal.τ).loc Cert.MmUpIdeal.main_arg0) = m ((c.tc : Thread Cert.MmUpIdeal.nD Cert.MmUpIdeal.τ).loc Cert.MmUpIdeal.main_arg0)
      ∧ r.2.mem ((c.tc : Thread Cert.MmUpIdeal.nD Cert.MmUpIdeal.τ).loc Cert.MmUpIdeal.main_arg1) = m ((c.tc : Thread Cert.MmUpIdeal.nD Cert.MmUpIdeal.τ).loc Cert.MmUpIdeal.main_arg1))
      ∧ r.2.sem = fun _ => 0)

def quiescent_MmUpRefIdeal [hMmUpRefIdeal : Cert.MmUpRefIdeal.Facts] : Prop :=
  ∀ (m : (ℓ : Loc Cert.MmUpRefIdeal.nD Cert.MmUpRefIdeal.τ Cert.MmUpRefIdeal.sig) → Buf (Elt Ideal) ℓ) (g : Dev Cert.MmUpRefIdeal.nD → PrngReg), Pre_MmUpRefIdeal m →
    θ_run (Cert.MmUpRefIdeal.defs (F := Ideal)) (onTc (τ := Cert.MmUpRefIdeal.τ) (Cert.MmUpRefIdeal.main (F := Ideal))) ⟨m, fun _ => 0, g⟩ (fun r => (∀ c : Dev Cert.MmUpRefIdeal.nD,
      r.2.mem ((c.tc : Thread Cert.MmUpRefIdeal.nD Cert.MmUpRefIdeal.τ).loc Cert.MmUpRefIdeal.main_arg0) = m ((c.tc : Thread Cert.MmUpRefIdeal.nD Cert.MmUpRefIdeal.τ).loc Cert.MmUpRefIdeal.main_arg0)
      ∧ r.2.mem ((c.tc : Thread Cert.MmUpRefIdeal.nD Cert.MmUpRefIdeal.τ).loc Cert.MmUpRefIdeal.main_arg1) = m ((c.tc : Thread Cert.MmUpRefIdeal.nD Cert.MmUpRefIdeal.τ).loc Cert.MmUpRefIdeal.main_arg1))
      ∧ r.2.sem = fun _ => 0)

def quiescent_MmConvOut [hMmConvOut : Cert.MmConvOut.Facts] : Prop :=
  ∀ (m : (ℓ : Loc Cert.MmConvOut.nD Cert.MmConvOut.τ Cert.MmConvOut.sig) → Buf (Elt Bits) ℓ) (g : Dev Cert.MmConvOut.nD → PrngReg), Pre_MmConvOut m →
    θ_run (Cert.MmConvOut.defs (F := Bits)) (onTc (τ := Cert.MmConvOut.τ) (Cert.MmConvOut.main (F := Bits))) ⟨m, fun _ => 0, g⟩ (fun r => (∀ c : Dev Cert.MmConvOut.nD,
      r.2.mem ((c.tc : Thread Cert.MmConvOut.nD Cert.MmConvOut.τ).loc Cert.MmConvOut.main_arg0) = m ((c.tc : Thread Cert.MmConvOut.nD Cert.MmConvOut.τ).loc Cert.MmConvOut.main_arg0)
      ∧ r.2.mem ((c.tc : Thread Cert.MmConvOut.nD Cert.MmConvOut.τ).loc Cert.MmConvOut.main_arg1) = m ((c.tc : Thread Cert.MmConvOut.nD Cert.MmConvOut.τ).loc Cert.MmConvOut.main_arg1))
      ∧ r.2.sem = fun _ => 0)

def quiescent_MmConvOutIdeal [hMmConvOutIdeal : Cert.MmConvOutIdeal.Facts] : Prop :=
  ∀ (m : (ℓ : Loc Cert.MmConvOutIdeal.nD Cert.MmConvOutIdeal.τ Cert.MmConvOutIdeal.sig) → Buf (Elt Ideal) ℓ) (g : Dev Cert.MmConvOutIdeal.nD → PrngReg), Pre_MmConvOutIdeal m →
    θ_run (Cert.MmConvOutIdeal.defs (F := Ideal)) (onTc (τ := Cert.MmConvOutIdeal.τ) (Cert.MmConvOutIdeal.main (F := Ideal))) ⟨m, fun _ => 0, g⟩ (fun r => (∀ c : Dev Cert.MmConvOutIdeal.nD,
      r.2.mem ((c.tc : Thread Cert.MmConvOutIdeal.nD Cert.MmConvOutIdeal.τ).loc Cert.MmConvOutIdeal.main_arg0) = m ((c.tc : Thread Cert.MmConvOutIdeal.nD Cert.MmConvOutIdeal.τ).loc Cert.MmConvOutIdeal.main_arg0)
      ∧ r.2.mem ((c.tc : Thread Cert.MmConvOutIdeal.nD Cert.MmConvOutIdeal.τ).loc Cert.MmConvOutIdeal.main_arg1) = m ((c.tc : Thread Cert.MmConvOutIdeal.nD Cert.MmConvOutIdeal.τ).loc Cert.MmConvOutIdeal.main_arg1))
      ∧ r.2.sem = fun _ => 0)

def quiescent_MmConvOutRefIdeal [hMmConvOutRefIdeal : Cert.MmConvOutRefIdeal.Facts] : Prop :=
  ∀ (m : (ℓ : Loc Cert.MmConvOutRefIdeal.nD Cert.MmConvOutRefIdeal.τ Cert.MmConvOutRefIdeal.sig) → Buf (Elt Ideal) ℓ) (g : Dev Cert.MmConvOutRefIdeal.nD → PrngReg), Pre_MmConvOutRefIdeal m →
    θ_run (Cert.MmConvOutRefIdeal.defs (F := Ideal)) (onTc (τ := Cert.MmConvOutRefIdeal.τ) (Cert.MmConvOutRefIdeal.main (F := Ideal))) ⟨m, fun _ => 0, g⟩ (fun r => (∀ c : Dev Cert.MmConvOutRefIdeal.nD,
      r.2.mem ((c.tc : Thread Cert.MmConvOutRefIdeal.nD Cert.MmConvOutRefIdeal.τ).loc Cert.MmConvOutRefIdeal.main_arg0) = m ((c.tc : Thread Cert.MmConvOutRefIdeal.nD Cert.MmConvOutRefIdeal.τ).loc Cert.MmConvOutRefIdeal.main_arg0)
      ∧ r.2.mem ((c.tc : Thread Cert.MmConvOutRefIdeal.nD Cert.MmConvOutRefIdeal.τ).loc Cert.MmConvOutRefIdeal.main_arg1) = m ((c.tc : Thread Cert.MmConvOutRefIdeal.nD Cert.MmConvOutRefIdeal.τ).loc Cert.MmConvOutRefIdeal.main_arg1))
      ∧ r.2.sem = fun _ => 0)

def quiescent_MmRetOut [hMmRetOut : Cert.MmRetOut.Facts] : Prop :=
  ∀ (m : (ℓ : Loc Cert.MmRetOut.nD Cert.MmRetOut.τ Cert.MmRetOut.sig) → Buf (Elt Bits) ℓ) (g : Dev Cert.MmRetOut.nD → PrngReg), Pre_MmRetOut m →
    θ_run (Cert.MmRetOut.defs (F := Bits)) (onTc (τ := Cert.MmRetOut.τ) (Cert.MmRetOut.main (F := Bits))) ⟨m, fun _ => 0, g⟩ (fun r => (∀ c : Dev Cert.MmRetOut.nD,
      r.2.mem ((c.tc : Thread Cert.MmRetOut.nD Cert.MmRetOut.τ).loc Cert.MmRetOut.main_arg0) = m ((c.tc : Thread Cert.MmRetOut.nD Cert.MmRetOut.τ).loc Cert.MmRetOut.main_arg0)
      ∧ r.2.mem ((c.tc : Thread Cert.MmRetOut.nD Cert.MmRetOut.τ).loc Cert.MmRetOut.main_arg1) = m ((c.tc : Thread Cert.MmRetOut.nD Cert.MmRetOut.τ).loc Cert.MmRetOut.main_arg1))
      ∧ r.2.sem = fun _ => 0)

def quiescent_MmRetOutIdeal [hMmRetOutIdeal : Cert.MmRetOutIdeal.Facts] : Prop :=
  ∀ (m : (ℓ : Loc Cert.MmRetOutIdeal.nD Cert.MmRetOutIdeal.τ Cert.MmRetOutIdeal.sig) → Buf (Elt Ideal) ℓ) (g : Dev Cert.MmRetOutIdeal.nD → PrngReg), Pre_MmRetOutIdeal m →
    θ_run (Cert.MmRetOutIdeal.defs (F := Ideal)) (onTc (τ := Cert.MmRetOutIdeal.τ) (Cert.MmRetOutIdeal.main (F := Ideal))) ⟨m, fun _ => 0, g⟩ (fun r => (∀ c : Dev Cert.MmRetOutIdeal.nD,
      r.2.mem ((c.tc : Thread Cert.MmRetOutIdeal.nD Cert.MmRetOutIdeal.τ).loc Cert.MmRetOutIdeal.main_arg0) = m ((c.tc : Thread Cert.MmRetOutIdeal.nD Cert.MmRetOutIdeal.τ).loc Cert.MmRetOutIdeal.main_arg0)
      ∧ r.2.mem ((c.tc : Thread Cert.MmRetOutIdeal.nD Cert.MmRetOutIdeal.τ).loc Cert.MmRetOutIdeal.main_arg1) = m ((c.tc : Thread Cert.MmRetOutIdeal.nD Cert.MmRetOutIdeal.τ).loc Cert.MmRetOutIdeal.main_arg1))
      ∧ r.2.sem = fun _ => 0)

def quiescent_MmRetOutRefIdeal [hMmRetOutRefIdeal : Cert.MmRetOutRefIdeal.Facts] : Prop :=
  ∀ (m : (ℓ : Loc Cert.MmRetOutRefIdeal.nD Cert.MmRetOutRefIdeal.τ Cert.MmRetOutRefIdeal.sig) → Buf (Elt Ideal) ℓ) (g : Dev Cert.MmRetOutRefIdeal.nD → PrngReg), Pre_MmRetOutRefIdeal m →
    θ_run (Cert.MmRetOutRefIdeal.defs (F := Ideal)) (onTc (τ := Cert.MmRetOutRefIdeal.τ) (Cert.MmRetOutRefIdeal.main (F := Ideal))) ⟨m, fun _ => 0, g⟩ (fun r => (∀ c : Dev Cert.MmRetOutRefIdeal.nD,
      r.2.mem ((c.tc : Thread Cert.MmRetOutRefIdeal.nD Cert.MmRetOutRefIdeal.τ).loc Cert.MmRetOutRefIdeal.main_arg0) = m ((c.tc : Thread Cert.MmRetOutRefIdeal.nD Cert.MmRetOutRefIdeal.τ).loc Cert.MmRetOutRefIdeal.main_arg0)
      ∧ r.2.mem ((c.tc : Thread Cert.MmRetOutRefIdeal.nD Cert.MmRetOutRefIdeal.τ).loc Cert.MmRetOutRefIdeal.main_arg1) = m ((c.tc : Thread Cert.MmRetOutRefIdeal.nD Cert.MmRetOutRefIdeal.τ).loc Cert.MmRetOutRefIdeal.main_arg1))
      ∧ r.2.sem = fun _ => 0)

def quiescent_MmOut [hMmOut : Cert.MmOut.Facts] : Prop :=
  ∀ (m : (ℓ : Loc Cert.MmOut.nD Cert.MmOut.τ Cert.MmOut.sig) → Buf (Elt Bits) ℓ) (g : Dev Cert.MmOut.nD → PrngReg), Pre_MmOut m →
    θ_run (Cert.MmOut.defs (F := Bits)) (onTc (τ := Cert.MmOut.τ) (Cert.MmOut.main (F := Bits))) ⟨m, fun _ => 0, g⟩ (fun r => (∀ c : Dev Cert.MmOut.nD,
      r.2.mem ((c.tc : Thread Cert.MmOut.nD Cert.MmOut.τ).loc Cert.MmOut.main_arg0) = m ((c.tc : Thread Cert.MmOut.nD Cert.MmOut.τ).loc Cert.MmOut.main_arg0)
      ∧ r.2.mem ((c.tc : Thread Cert.MmOut.nD Cert.MmOut.τ).loc Cert.MmOut.main_arg1) = m ((c.tc : Thread Cert.MmOut.nD Cert.MmOut.τ).loc Cert.MmOut.main_arg1))
      ∧ r.2.sem = fun _ => 0)

def quiescent_MmOutIdeal [hMmOutIdeal : Cert.MmOutIdeal.Facts] : Prop :=
  ∀ (m : (ℓ : Loc Cert.MmOutIdeal.nD Cert.MmOutIdeal.τ Cert.MmOutIdeal.sig) → Buf (Elt Ideal) ℓ) (g : Dev Cert.MmOutIdeal.nD → PrngReg), Pre_MmOutIdeal m →
    θ_run (Cert.MmOutIdeal.defs (F := Ideal)) (onTc (τ := Cert.MmOutIdeal.τ) (Cert.MmOutIdeal.main (F := Ideal))) ⟨m, fun _ => 0, g⟩ (fun r => (∀ c : Dev Cert.MmOutIdeal.nD,
      r.2.mem ((c.tc : Thread Cert.MmOutIdeal.nD Cert.MmOutIdeal.τ).loc Cert.MmOutIdeal.main_arg0) = m ((c.tc : Thread Cert.MmOutIdeal.nD Cert.MmOutIdeal.τ).loc Cert.MmOutIdeal.main_arg0)
      ∧ r.2.mem ((c.tc : Thread Cert.MmOutIdeal.nD Cert.MmOutIdeal.τ).loc Cert.MmOutIdeal.main_arg1) = m ((c.tc : Thread Cert.MmOutIdeal.nD Cert.MmOutIdeal.τ).loc Cert.MmOutIdeal.main_arg1))
      ∧ r.2.sem = fun _ => 0)

def quiescent_MmOutRefIdeal [hMmOutRefIdeal : Cert.MmOutRefIdeal.Facts] : Prop :=
  ∀ (m : (ℓ : Loc Cert.MmOutRefIdeal.nD Cert.MmOutRefIdeal.τ Cert.MmOutRefIdeal.sig) → Buf (Elt Ideal) ℓ) (g : Dev Cert.MmOutRefIdeal.nD → PrngReg), Pre_MmOutRefIdeal m →
    θ_run (Cert.MmOutRefIdeal.defs (F := Ideal)) (onTc (τ := Cert.MmOutRefIdeal.τ) (Cert.MmOutRefIdeal.main (F := Ideal))) ⟨m, fun _ => 0, g⟩ (fun r => (∀ c : Dev Cert.MmOutRefIdeal.nD,
      r.2.mem ((c.tc : Thread Cert.MmOutRefIdeal.nD Cert.MmOutRefIdeal.τ).loc Cert.MmOutRefIdeal.main_arg0) = m ((c.tc : Thread Cert.MmOutRefIdeal.nD Cert.MmOutRefIdeal.τ).loc Cert.MmOutRefIdeal.main_arg0)
      ∧ r.2.mem ((c.tc : Thread Cert.MmOutRefIdeal.nD Cert.MmOutRefIdeal.τ).loc Cert.MmOutRefIdeal.main_arg1) = m ((c.tc : Thread Cert.MmOutRefIdeal.nD Cert.MmOutRefIdeal.τ).loc Cert.MmOutRefIdeal.main_arg1))
      ∧ r.2.sem = fun _ => 0)

def quiescent_MmDown [hMmDown : Cert.MmDown.Facts] : Prop :=
  ∀ (m : (ℓ : Loc Cert.MmDown.nD Cert.MmDown.τ Cert.MmDown.sig) → Buf (Elt Bits) ℓ) (g : Dev Cert.MmDown.nD → PrngReg), Pre_MmDown m →
    θ_run (Cert.MmDown.defs (F := Bits)) (onTc (τ := Cert.MmDown.τ) (Cert.MmDown.main (F := Bits))) ⟨m, fun _ => 0, g⟩ (fun r => (∀ c : Dev Cert.MmDown.nD,
      r.2.mem ((c.tc : Thread Cert.MmDown.nD Cert.MmDown.τ).loc Cert.MmDown.main_arg0) = m ((c.tc : Thread Cert.MmDown.nD Cert.MmDown.τ).loc Cert.MmDown.main_arg0)
      ∧ r.2.mem ((c.tc : Thread Cert.MmDown.nD Cert.MmDown.τ).loc Cert.MmDown.main_arg1) = m ((c.tc : Thread Cert.MmDown.nD Cert.MmDown.τ).loc Cert.MmDown.main_arg1))
      ∧ r.2.sem = fun _ => 0)

def quiescent_MmDownIdeal [hMmDownIdeal : Cert.MmDownIdeal.Facts] : Prop :=
  ∀ (m : (ℓ : Loc Cert.MmDownIdeal.nD Cert.MmDownIdeal.τ Cert.MmDownIdeal.sig) → Buf (Elt Ideal) ℓ) (g : Dev Cert.MmDownIdeal.nD → PrngReg), Pre_MmDownIdeal m →
    θ_run (Cert.MmDownIdeal.defs (F := Ideal)) (onTc (τ := Cert.MmDownIdeal.τ) (Cert.MmDownIdeal.main (F := Ideal))) ⟨m, fun _ => 0, g⟩ (fun r => (∀ c : Dev Cert.MmDownIdeal.nD,
      r.2.mem ((c.tc : Thread Cert.MmDownIdeal.nD Cert.MmDownIdeal.τ).loc Cert.MmDownIdeal.main_arg0) = m ((c.tc : Thread Cert.MmDownIdeal.nD Cert.MmDownIdeal.τ).loc Cert.MmDownIdeal.main_arg0)
      ∧ r.2.mem ((c.tc : Thread Cert.MmDownIdeal.nD Cert.MmDownIdeal.τ).loc Cert.MmDownIdeal.main_arg1) = m ((c.tc : Thread Cert.MmDownIdeal.nD Cert.MmDownIdeal.τ).loc Cert.MmDownIdeal.main_arg1))
      ∧ r.2.sem = fun _ => 0)

def quiescent_MmDownRefIdeal [hMmDownRefIdeal : Cert.MmDownRefIdeal.Facts] : Prop :=
  ∀ (m : (ℓ : Loc Cert.MmDownRefIdeal.nD Cert.MmDownRefIdeal.τ Cert.MmDownRefIdeal.sig) → Buf (Elt Ideal) ℓ) (g : Dev Cert.MmDownRefIdeal.nD → PrngReg), Pre_MmDownRefIdeal m →
    θ_run (Cert.MmDownRefIdeal.defs (F := Ideal)) (onTc (τ := Cert.MmDownRefIdeal.τ) (Cert.MmDownRefIdeal.main (F := Ideal))) ⟨m, fun _ => 0, g⟩ (fun r => (∀ c : Dev Cert.MmDownRefIdeal.nD,
      r.2.mem ((c.tc : Thread Cert.MmDownRefIdeal.nD Cert.MmDownRefIdeal.τ).loc Cert.MmDownRefIdeal.main_arg0) = m ((c.tc : Thread Cert.MmDownRefIdeal.nD Cert.MmDownRefIdeal.τ).loc Cert.MmDownRefIdeal.main_arg0)
      ∧ r.2.mem ((c.tc : Thread Cert.MmDownRefIdeal.nD Cert.MmDownRefIdeal.τ).loc Cert.MmDownRefIdeal.main_arg1) = m ((c.tc : Thread Cert.MmDownRefIdeal.nD Cert.MmDownRefIdeal.τ).loc Cert.MmDownRefIdeal.main_arg1))
      ∧ r.2.sem = fun _ => 0)

def quiescent_MmDownDx [hMmDownDx : Cert.MmDownDx.Facts] : Prop :=
  ∀ (m : (ℓ : Loc Cert.MmDownDx.nD Cert.MmDownDx.τ Cert.MmDownDx.sig) → Buf (Elt Bits) ℓ) (g : Dev Cert.MmDownDx.nD → PrngReg), Pre_MmDownDx m →
    θ_run (Cert.MmDownDx.defs (F := Bits)) (onTc (τ := Cert.MmDownDx.τ) (Cert.MmDownDx.main (F := Bits))) ⟨m, fun _ => 0, g⟩ (fun r => (∀ c : Dev Cert.MmDownDx.nD,
      r.2.mem ((c.tc : Thread Cert.MmDownDx.nD Cert.MmDownDx.τ).loc Cert.MmDownDx.main_arg0) = m ((c.tc : Thread Cert.MmDownDx.nD Cert.MmDownDx.τ).loc Cert.MmDownDx.main_arg0)
      ∧ r.2.mem ((c.tc : Thread Cert.MmDownDx.nD Cert.MmDownDx.τ).loc Cert.MmDownDx.main_arg1) = m ((c.tc : Thread Cert.MmDownDx.nD Cert.MmDownDx.τ).loc Cert.MmDownDx.main_arg1))
      ∧ r.2.sem = fun _ => 0)

def quiescent_MmDownDxIdeal [hMmDownDxIdeal : Cert.MmDownDxIdeal.Facts] : Prop :=
  ∀ (m : (ℓ : Loc Cert.MmDownDxIdeal.nD Cert.MmDownDxIdeal.τ Cert.MmDownDxIdeal.sig) → Buf (Elt Ideal) ℓ) (g : Dev Cert.MmDownDxIdeal.nD → PrngReg), Pre_MmDownDxIdeal m →
    θ_run (Cert.MmDownDxIdeal.defs (F := Ideal)) (onTc (τ := Cert.MmDownDxIdeal.τ) (Cert.MmDownDxIdeal.main (F := Ideal))) ⟨m, fun _ => 0, g⟩ (fun r => (∀ c : Dev Cert.MmDownDxIdeal.nD,
      r.2.mem ((c.tc : Thread Cert.MmDownDxIdeal.nD Cert.MmDownDxIdeal.τ).loc Cert.MmDownDxIdeal.main_arg0) = m ((c.tc : Thread Cert.MmDownDxIdeal.nD Cert.MmDownDxIdeal.τ).loc Cert.MmDownDxIdeal.main_arg0)
      ∧ r.2.mem ((c.tc : Thread Cert.MmDownDxIdeal.nD Cert.MmDownDxIdeal.τ).loc Cert.MmDownDxIdeal.main_arg1) = m ((c.tc : Thread Cert.MmDownDxIdeal.nD Cert.MmDownDxIdeal.τ).loc Cert.MmDownDxIdeal.main_arg1))
      ∧ r.2.sem = fun _ => 0)

def quiescent_MmDownDxRefIdeal [hMmDownDxRefIdeal : Cert.MmDownDxRefIdeal.Facts] : Prop :=
  ∀ (m : (ℓ : Loc Cert.MmDownDxRefIdeal.nD Cert.MmDownDxRefIdeal.τ Cert.MmDownDxRefIdeal.sig) → Buf (Elt Ideal) ℓ) (g : Dev Cert.MmDownDxRefIdeal.nD → PrngReg), Pre_MmDownDxRefIdeal m →
    θ_run (Cert.MmDownDxRefIdeal.defs (F := Ideal)) (onTc (τ := Cert.MmDownDxRefIdeal.τ) (Cert.MmDownDxRefIdeal.main (F := Ideal))) ⟨m, fun _ => 0, g⟩ (fun r => (∀ c : Dev Cert.MmDownDxRefIdeal.nD,
      r.2.mem ((c.tc : Thread Cert.MmDownDxRefIdeal.nD Cert.MmDownDxRefIdeal.τ).loc Cert.MmDownDxRefIdeal.main_arg0) = m ((c.tc : Thread Cert.MmDownDxRefIdeal.nD Cert.MmDownDxRefIdeal.τ).loc Cert.MmDownDxRefIdeal.main_arg0)
      ∧ r.2.mem ((c.tc : Thread Cert.MmDownDxRefIdeal.nD Cert.MmDownDxRefIdeal.τ).loc Cert.MmDownDxRefIdeal.main_arg1) = m ((c.tc : Thread Cert.MmDownDxRefIdeal.nD Cert.MmDownDxRefIdeal.τ).loc Cert.MmDownDxRefIdeal.main_arg1))
      ∧ r.2.sem = fun _ => 0)

def quiescent_MmOutDx [hMmOutDx : Cert.MmOutDx.Facts] : Prop :=
  ∀ (m : (ℓ : Loc Cert.MmOutDx.nD Cert.MmOutDx.τ Cert.MmOutDx.sig) → Buf (Elt Bits) ℓ) (g : Dev Cert.MmOutDx.nD → PrngReg), Pre_MmOutDx m →
    θ_run (Cert.MmOutDx.defs (F := Bits)) (onTc (τ := Cert.MmOutDx.τ) (Cert.MmOutDx.main (F := Bits))) ⟨m, fun _ => 0, g⟩ (fun r => (∀ c : Dev Cert.MmOutDx.nD,
      r.2.mem ((c.tc : Thread Cert.MmOutDx.nD Cert.MmOutDx.τ).loc Cert.MmOutDx.main_arg0) = m ((c.tc : Thread Cert.MmOutDx.nD Cert.MmOutDx.τ).loc Cert.MmOutDx.main_arg0)
      ∧ r.2.mem ((c.tc : Thread Cert.MmOutDx.nD Cert.MmOutDx.τ).loc Cert.MmOutDx.main_arg1) = m ((c.tc : Thread Cert.MmOutDx.nD Cert.MmOutDx.τ).loc Cert.MmOutDx.main_arg1))
      ∧ r.2.sem = fun _ => 0)

def quiescent_MmOutDxIdeal [hMmOutDxIdeal : Cert.MmOutDxIdeal.Facts] : Prop :=
  ∀ (m : (ℓ : Loc Cert.MmOutDxIdeal.nD Cert.MmOutDxIdeal.τ Cert.MmOutDxIdeal.sig) → Buf (Elt Ideal) ℓ) (g : Dev Cert.MmOutDxIdeal.nD → PrngReg), Pre_MmOutDxIdeal m →
    θ_run (Cert.MmOutDxIdeal.defs (F := Ideal)) (onTc (τ := Cert.MmOutDxIdeal.τ) (Cert.MmOutDxIdeal.main (F := Ideal))) ⟨m, fun _ => 0, g⟩ (fun r => (∀ c : Dev Cert.MmOutDxIdeal.nD,
      r.2.mem ((c.tc : Thread Cert.MmOutDxIdeal.nD Cert.MmOutDxIdeal.τ).loc Cert.MmOutDxIdeal.main_arg0) = m ((c.tc : Thread Cert.MmOutDxIdeal.nD Cert.MmOutDxIdeal.τ).loc Cert.MmOutDxIdeal.main_arg0)
      ∧ r.2.mem ((c.tc : Thread Cert.MmOutDxIdeal.nD Cert.MmOutDxIdeal.τ).loc Cert.MmOutDxIdeal.main_arg1) = m ((c.tc : Thread Cert.MmOutDxIdeal.nD Cert.MmOutDxIdeal.τ).loc Cert.MmOutDxIdeal.main_arg1))
      ∧ r.2.sem = fun _ => 0)

def quiescent_MmOutDxRefIdeal [hMmOutDxRefIdeal : Cert.MmOutDxRefIdeal.Facts] : Prop :=
  ∀ (m : (ℓ : Loc Cert.MmOutDxRefIdeal.nD Cert.MmOutDxRefIdeal.τ Cert.MmOutDxRefIdeal.sig) → Buf (Elt Ideal) ℓ) (g : Dev Cert.MmOutDxRefIdeal.nD → PrngReg), Pre_MmOutDxRefIdeal m →
    θ_run (Cert.MmOutDxRefIdeal.defs (F := Ideal)) (onTc (τ := Cert.MmOutDxRefIdeal.τ) (Cert.MmOutDxRefIdeal.main (F := Ideal))) ⟨m, fun _ => 0, g⟩ (fun r => (∀ c : Dev Cert.MmOutDxRefIdeal.nD,
      r.2.mem ((c.tc : Thread Cert.MmOutDxRefIdeal.nD Cert.MmOutDxRefIdeal.τ).loc Cert.MmOutDxRefIdeal.main_arg0) = m ((c.tc : Thread Cert.MmOutDxRefIdeal.nD Cert.MmOutDxRefIdeal.τ).loc Cert.MmOutDxRefIdeal.main_arg0)
      ∧ r.2.mem ((c.tc : Thread Cert.MmOutDxRefIdeal.nD Cert.MmOutDxRefIdeal.τ).loc Cert.MmOutDxRefIdeal.main_arg1) = m ((c.tc : Thread Cert.MmOutDxRefIdeal.nD Cert.MmOutDxRefIdeal.τ).loc Cert.MmOutDxRefIdeal.main_arg1))
      ∧ r.2.sem = fun _ => 0)

def quiescent_MmConvOutDx [hMmConvOutDx : Cert.MmConvOutDx.Facts] : Prop :=
  ∀ (m : (ℓ : Loc Cert.MmConvOutDx.nD Cert.MmConvOutDx.τ Cert.MmConvOutDx.sig) → Buf (Elt Bits) ℓ) (g : Dev Cert.MmConvOutDx.nD → PrngReg), Pre_MmConvOutDx m →
    θ_run (Cert.MmConvOutDx.defs (F := Bits)) (onTc (τ := Cert.MmConvOutDx.τ) (Cert.MmConvOutDx.main (F := Bits))) ⟨m, fun _ => 0, g⟩ (fun r => (∀ c : Dev Cert.MmConvOutDx.nD,
      r.2.mem ((c.tc : Thread Cert.MmConvOutDx.nD Cert.MmConvOutDx.τ).loc Cert.MmConvOutDx.main_arg0) = m ((c.tc : Thread Cert.MmConvOutDx.nD Cert.MmConvOutDx.τ).loc Cert.MmConvOutDx.main_arg0)
      ∧ r.2.mem ((c.tc : Thread Cert.MmConvOutDx.nD Cert.MmConvOutDx.τ).loc Cert.MmConvOutDx.main_arg1) = m ((c.tc : Thread Cert.MmConvOutDx.nD Cert.MmConvOutDx.τ).loc Cert.MmConvOutDx.main_arg1))
      ∧ r.2.sem = fun _ => 0)

def quiescent_MmConvOutDxIdeal [hMmConvOutDxIdeal : Cert.MmConvOutDxIdeal.Facts] : Prop :=
  ∀ (m : (ℓ : Loc Cert.MmConvOutDxIdeal.nD Cert.MmConvOutDxIdeal.τ Cert.MmConvOutDxIdeal.sig) → Buf (Elt Ideal) ℓ) (g : Dev Cert.MmConvOutDxIdeal.nD → PrngReg), Pre_MmConvOutDxIdeal m →
    θ_run (Cert.MmConvOutDxIdeal.defs (F := Ideal)) (onTc (τ := Cert.MmConvOutDxIdeal.τ) (Cert.MmConvOutDxIdeal.main (F := Ideal))) ⟨m, fun _ => 0, g⟩ (fun r => (∀ c : Dev Cert.MmConvOutDxIdeal.nD,
      r.2.mem ((c.tc : Thread Cert.MmConvOutDxIdeal.nD Cert.MmConvOutDxIdeal.τ).loc Cert.MmConvOutDxIdeal.main_arg0) = m ((c.tc : Thread Cert.MmConvOutDxIdeal.nD Cert.MmConvOutDxIdeal.τ).loc Cert.MmConvOutDxIdeal.main_arg0)
      ∧ r.2.mem ((c.tc : Thread Cert.MmConvOutDxIdeal.nD Cert.MmConvOutDxIdeal.τ).loc Cert.MmConvOutDxIdeal.main_arg1) = m ((c.tc : Thread Cert.MmConvOutDxIdeal.nD Cert.MmConvOutDxIdeal.τ).loc Cert.MmConvOutDxIdeal.main_arg1))
      ∧ r.2.sem = fun _ => 0)

def quiescent_MmConvOutDxRefIdeal [hMmConvOutDxRefIdeal : Cert.MmConvOutDxRefIdeal.Facts] : Prop :=
  ∀ (m : (ℓ : Loc Cert.MmConvOutDxRefIdeal.nD Cert.MmConvOutDxRefIdeal.τ Cert.MmConvOutDxRefIdeal.sig) → Buf (Elt Ideal) ℓ) (g : Dev Cert.MmConvOutDxRefIdeal.nD → PrngReg), Pre_MmConvOutDxRefIdeal m →
    θ_run (Cert.MmConvOutDxRefIdeal.defs (F := Ideal)) (onTc (τ := Cert.MmConvOutDxRefIdeal.τ) (Cert.MmConvOutDxRefIdeal.main (F := Ideal))) ⟨m, fun _ => 0, g⟩ (fun r => (∀ c : Dev Cert.MmConvOutDxRefIdeal.nD,
      r.2.mem ((c.tc : Thread Cert.MmConvOutDxRefIdeal.nD Cert.MmConvOutDxRefIdeal.τ).loc Cert.MmConvOutDxRefIdeal.main_arg0) = m ((c.tc : Thread Cert.MmConvOutDxRefIdeal.nD Cert.MmConvOutDxRefIdeal.τ).loc Cert.MmConvOutDxRefIdeal.main_arg0)
      ∧ r.2.mem ((c.tc : Thread Cert.MmConvOutDxRefIdeal.nD Cert.MmConvOutDxRefIdeal.τ).loc Cert.MmConvOutDxRefIdeal.main_arg1) = m ((c.tc : Thread Cert.MmConvOutDxRefIdeal.nD Cert.MmConvOutDxRefIdeal.τ).loc Cert.MmConvOutDxRefIdeal.main_arg1))
      ∧ r.2.sem = fun _ => 0)

def quiescent_MmRetOutDx [hMmRetOutDx : Cert.MmRetOutDx.Facts] : Prop :=
  ∀ (m : (ℓ : Loc Cert.MmRetOutDx.nD Cert.MmRetOutDx.τ Cert.MmRetOutDx.sig) → Buf (Elt Bits) ℓ) (g : Dev Cert.MmRetOutDx.nD → PrngReg), Pre_MmRetOutDx m →
    θ_run (Cert.MmRetOutDx.defs (F := Bits)) (onTc (τ := Cert.MmRetOutDx.τ) (Cert.MmRetOutDx.main (F := Bits))) ⟨m, fun _ => 0, g⟩ (fun r => (∀ c : Dev Cert.MmRetOutDx.nD,
      r.2.mem ((c.tc : Thread Cert.MmRetOutDx.nD Cert.MmRetOutDx.τ).loc Cert.MmRetOutDx.main_arg0) = m ((c.tc : Thread Cert.MmRetOutDx.nD Cert.MmRetOutDx.τ).loc Cert.MmRetOutDx.main_arg0)
      ∧ r.2.mem ((c.tc : Thread Cert.MmRetOutDx.nD Cert.MmRetOutDx.τ).loc Cert.MmRetOutDx.main_arg1) = m ((c.tc : Thread Cert.MmRetOutDx.nD Cert.MmRetOutDx.τ).loc Cert.MmRetOutDx.main_arg1))
      ∧ r.2.sem = fun _ => 0)

def quiescent_MmRetOutDxIdeal [hMmRetOutDxIdeal : Cert.MmRetOutDxIdeal.Facts] : Prop :=
  ∀ (m : (ℓ : Loc Cert.MmRetOutDxIdeal.nD Cert.MmRetOutDxIdeal.τ Cert.MmRetOutDxIdeal.sig) → Buf (Elt Ideal) ℓ) (g : Dev Cert.MmRetOutDxIdeal.nD → PrngReg), Pre_MmRetOutDxIdeal m →
    θ_run (Cert.MmRetOutDxIdeal.defs (F := Ideal)) (onTc (τ := Cert.MmRetOutDxIdeal.τ) (Cert.MmRetOutDxIdeal.main (F := Ideal))) ⟨m, fun _ => 0, g⟩ (fun r => (∀ c : Dev Cert.MmRetOutDxIdeal.nD,
      r.2.mem ((c.tc : Thread Cert.MmRetOutDxIdeal.nD Cert.MmRetOutDxIdeal.τ).loc Cert.MmRetOutDxIdeal.main_arg0) = m ((c.tc : Thread Cert.MmRetOutDxIdeal.nD Cert.MmRetOutDxIdeal.τ).loc Cert.MmRetOutDxIdeal.main_arg0)
      ∧ r.2.mem ((c.tc : Thread Cert.MmRetOutDxIdeal.nD Cert.MmRetOutDxIdeal.τ).loc Cert.MmRetOutDxIdeal.main_arg1) = m ((c.tc : Thread Cert.MmRetOutDxIdeal.nD Cert.MmRetOutDxIdeal.τ).loc Cert.MmRetOutDxIdeal.main_arg1))
      ∧ r.2.sem = fun _ => 0)

def quiescent_MmRetOutDxRefIdeal [hMmRetOutDxRefIdeal : Cert.MmRetOutDxRefIdeal.Facts] : Prop :=
  ∀ (m : (ℓ : Loc Cert.MmRetOutDxRefIdeal.nD Cert.MmRetOutDxRefIdeal.τ Cert.MmRetOutDxRefIdeal.sig) → Buf (Elt Ideal) ℓ) (g : Dev Cert.MmRetOutDxRefIdeal.nD → PrngReg), Pre_MmRetOutDxRefIdeal m →
    θ_run (Cert.MmRetOutDxRefIdeal.defs (F := Ideal)) (onTc (τ := Cert.MmRetOutDxRefIdeal.τ) (Cert.MmRetOutDxRefIdeal.main (F := Ideal))) ⟨m, fun _ => 0, g⟩ (fun r => (∀ c : Dev Cert.MmRetOutDxRefIdeal.nD,
      r.2.mem ((c.tc : Thread Cert.MmRetOutDxRefIdeal.nD Cert.MmRetOutDxRefIdeal.τ).loc Cert.MmRetOutDxRefIdeal.main_arg0) = m ((c.tc : Thread Cert.MmRetOutDxRefIdeal.nD Cert.MmRetOutDxRefIdeal.τ).loc Cert.MmRetOutDxRefIdeal.main_arg0)
      ∧ r.2.mem ((c.tc : Thread Cert.MmRetOutDxRefIdeal.nD Cert.MmRetOutDxRefIdeal.τ).loc Cert.MmRetOutDxRefIdeal.main_arg1) = m ((c.tc : Thread Cert.MmRetOutDxRefIdeal.nD Cert.MmRetOutDxRefIdeal.τ).loc Cert.MmRetOutDxRefIdeal.main_arg1))
      ∧ r.2.sem = fun _ => 0)

def quiescent_MmUpDx [hMmUpDx : Cert.MmUpDx.Facts] : Prop :=
  ∀ (m : (ℓ : Loc Cert.MmUpDx.nD Cert.MmUpDx.τ Cert.MmUpDx.sig) → Buf (Elt Bits) ℓ) (g : Dev Cert.MmUpDx.nD → PrngReg), Pre_MmUpDx m →
    θ_run (Cert.MmUpDx.defs (F := Bits)) (onTc (τ := Cert.MmUpDx.τ) (Cert.MmUpDx.main (F := Bits))) ⟨m, fun _ => 0, g⟩ (fun r => (∀ c : Dev Cert.MmUpDx.nD,
      r.2.mem ((c.tc : Thread Cert.MmUpDx.nD Cert.MmUpDx.τ).loc Cert.MmUpDx.main_arg0) = m ((c.tc : Thread Cert.MmUpDx.nD Cert.MmUpDx.τ).loc Cert.MmUpDx.main_arg0)
      ∧ r.2.mem ((c.tc : Thread Cert.MmUpDx.nD Cert.MmUpDx.τ).loc Cert.MmUpDx.main_arg1) = m ((c.tc : Thread Cert.MmUpDx.nD Cert.MmUpDx.τ).loc Cert.MmUpDx.main_arg1))
      ∧ r.2.sem = fun _ => 0)

def quiescent_MmUpDxIdeal [hMmUpDxIdeal : Cert.MmUpDxIdeal.Facts] : Prop :=
  ∀ (m : (ℓ : Loc Cert.MmUpDxIdeal.nD Cert.MmUpDxIdeal.τ Cert.MmUpDxIdeal.sig) → Buf (Elt Ideal) ℓ) (g : Dev Cert.MmUpDxIdeal.nD → PrngReg), Pre_MmUpDxIdeal m →
    θ_run (Cert.MmUpDxIdeal.defs (F := Ideal)) (onTc (τ := Cert.MmUpDxIdeal.τ) (Cert.MmUpDxIdeal.main (F := Ideal))) ⟨m, fun _ => 0, g⟩ (fun r => (∀ c : Dev Cert.MmUpDxIdeal.nD,
      r.2.mem ((c.tc : Thread Cert.MmUpDxIdeal.nD Cert.MmUpDxIdeal.τ).loc Cert.MmUpDxIdeal.main_arg0) = m ((c.tc : Thread Cert.MmUpDxIdeal.nD Cert.MmUpDxIdeal.τ).loc Cert.MmUpDxIdeal.main_arg0)
      ∧ r.2.mem ((c.tc : Thread Cert.MmUpDxIdeal.nD Cert.MmUpDxIdeal.τ).loc Cert.MmUpDxIdeal.main_arg1) = m ((c.tc : Thread Cert.MmUpDxIdeal.nD Cert.MmUpDxIdeal.τ).loc Cert.MmUpDxIdeal.main_arg1))
      ∧ r.2.sem = fun _ => 0)

def quiescent_MmUpDxRefIdeal [hMmUpDxRefIdeal : Cert.MmUpDxRefIdeal.Facts] : Prop :=
  ∀ (m : (ℓ : Loc Cert.MmUpDxRefIdeal.nD Cert.MmUpDxRefIdeal.τ Cert.MmUpDxRefIdeal.sig) → Buf (Elt Ideal) ℓ) (g : Dev Cert.MmUpDxRefIdeal.nD → PrngReg), Pre_MmUpDxRefIdeal m →
    θ_run (Cert.MmUpDxRefIdeal.defs (F := Ideal)) (onTc (τ := Cert.MmUpDxRefIdeal.τ) (Cert.MmUpDxRefIdeal.main (F := Ideal))) ⟨m, fun _ => 0, g⟩ (fun r => (∀ c : Dev Cert.MmUpDxRefIdeal.nD,
      r.2.mem ((c.tc : Thread Cert.MmUpDxRefIdeal.nD Cert.MmUpDxRefIdeal.τ).loc Cert.MmUpDxRefIdeal.main_arg0) = m ((c.tc : Thread Cert.MmUpDxRefIdeal.nD Cert.MmUpDxRefIdeal.τ).loc Cert.MmUpDxRefIdeal.main_arg0)
      ∧ r.2.mem ((c.tc : Thread Cert.MmUpDxRefIdeal.nD Cert.MmUpDxRefIdeal.τ).loc Cert.MmUpDxRefIdeal.main_arg1) = m ((c.tc : Thread Cert.MmUpDxRefIdeal.nD Cert.MmUpDxRefIdeal.τ).loc Cert.MmUpDxRefIdeal.main_arg1))
      ∧ r.2.sem = fun _ => 0)

def quiescent_MmInDx [hMmInDx : Cert.MmInDx.Facts] : Prop :=
  ∀ (m : (ℓ : Loc Cert.MmInDx.nD Cert.MmInDx.τ Cert.MmInDx.sig) → Buf (Elt Bits) ℓ) (g : Dev Cert.MmInDx.nD → PrngReg), Pre_MmInDx m →
    θ_run (Cert.MmInDx.defs (F := Bits)) (onTc (τ := Cert.MmInDx.τ) (Cert.MmInDx.main (F := Bits))) ⟨m, fun _ => 0, g⟩ (fun r => (∀ c : Dev Cert.MmInDx.nD,
      r.2.mem ((c.tc : Thread Cert.MmInDx.nD Cert.MmInDx.τ).loc Cert.MmInDx.main_arg0) = m ((c.tc : Thread Cert.MmInDx.nD Cert.MmInDx.τ).loc Cert.MmInDx.main_arg0)
      ∧ r.2.mem ((c.tc : Thread Cert.MmInDx.nD Cert.MmInDx.τ).loc Cert.MmInDx.main_arg1) = m ((c.tc : Thread Cert.MmInDx.nD Cert.MmInDx.τ).loc Cert.MmInDx.main_arg1))
      ∧ r.2.sem = fun _ => 0)

def quiescent_MmInDxIdeal [hMmInDxIdeal : Cert.MmInDxIdeal.Facts] : Prop :=
  ∀ (m : (ℓ : Loc Cert.MmInDxIdeal.nD Cert.MmInDxIdeal.τ Cert.MmInDxIdeal.sig) → Buf (Elt Ideal) ℓ) (g : Dev Cert.MmInDxIdeal.nD → PrngReg), Pre_MmInDxIdeal m →
    θ_run (Cert.MmInDxIdeal.defs (F := Ideal)) (onTc (τ := Cert.MmInDxIdeal.τ) (Cert.MmInDxIdeal.main (F := Ideal))) ⟨m, fun _ => 0, g⟩ (fun r => (∀ c : Dev Cert.MmInDxIdeal.nD,
      r.2.mem ((c.tc : Thread Cert.MmInDxIdeal.nD Cert.MmInDxIdeal.τ).loc Cert.MmInDxIdeal.main_arg0) = m ((c.tc : Thread Cert.MmInDxIdeal.nD Cert.MmInDxIdeal.τ).loc Cert.MmInDxIdeal.main_arg0)
      ∧ r.2.mem ((c.tc : Thread Cert.MmInDxIdeal.nD Cert.MmInDxIdeal.τ).loc Cert.MmInDxIdeal.main_arg1) = m ((c.tc : Thread Cert.MmInDxIdeal.nD Cert.MmInDxIdeal.τ).loc Cert.MmInDxIdeal.main_arg1))
      ∧ r.2.sem = fun _ => 0)

def quiescent_MmInDxRefIdeal [hMmInDxRefIdeal : Cert.MmInDxRefIdeal.Facts] : Prop :=
  ∀ (m : (ℓ : Loc Cert.MmInDxRefIdeal.nD Cert.MmInDxRefIdeal.τ Cert.MmInDxRefIdeal.sig) → Buf (Elt Ideal) ℓ) (g : Dev Cert.MmInDxRefIdeal.nD → PrngReg), Pre_MmInDxRefIdeal m →
    θ_run (Cert.MmInDxRefIdeal.defs (F := Ideal)) (onTc (τ := Cert.MmInDxRefIdeal.τ) (Cert.MmInDxRefIdeal.main (F := Ideal))) ⟨m, fun _ => 0, g⟩ (fun r => (∀ c : Dev Cert.MmInDxRefIdeal.nD,
      r.2.mem ((c.tc : Thread Cert.MmInDxRefIdeal.nD Cert.MmInDxRefIdeal.τ).loc Cert.MmInDxRefIdeal.main_arg0) = m ((c.tc : Thread Cert.MmInDxRefIdeal.nD Cert.MmInDxRefIdeal.τ).loc Cert.MmInDxRefIdeal.main_arg0)
      ∧ r.2.mem ((c.tc : Thread Cert.MmInDxRefIdeal.nD Cert.MmInDxRefIdeal.τ).loc Cert.MmInDxRefIdeal.main_arg1) = m ((c.tc : Thread Cert.MmInDxRefIdeal.nD Cert.MmInDxRefIdeal.τ).loc Cert.MmInDxRefIdeal.main_arg1))
      ∧ r.2.sem = fun _ => 0)

def quiescent_MmDownDw [hMmDownDw : Cert.MmDownDw.Facts] : Prop :=
  ∀ (m : (ℓ : Loc Cert.MmDownDw.nD Cert.MmDownDw.τ Cert.MmDownDw.sig) → Buf (Elt Bits) ℓ) (g : Dev Cert.MmDownDw.nD → PrngReg), Pre_MmDownDw m →
    θ_run (Cert.MmDownDw.defs (F := Bits)) (onTc (τ := Cert.MmDownDw.τ) (Cert.MmDownDw.main (F := Bits))) ⟨m, fun _ => 0, g⟩ (fun r => (∀ c : Dev Cert.MmDownDw.nD,
      r.2.mem ((c.tc : Thread Cert.MmDownDw.nD Cert.MmDownDw.τ).loc Cert.MmDownDw.main_arg0) = m ((c.tc : Thread Cert.MmDownDw.nD Cert.MmDownDw.τ).loc Cert.MmDownDw.main_arg0)
      ∧ r.2.mem ((c.tc : Thread Cert.MmDownDw.nD Cert.MmDownDw.τ).loc Cert.MmDownDw.main_arg1) = m ((c.tc : Thread Cert.MmDownDw.nD Cert.MmDownDw.τ).loc Cert.MmDownDw.main_arg1))
      ∧ r.2.sem = fun _ => 0)

def quiescent_MmDownDwIdeal [hMmDownDwIdeal : Cert.MmDownDwIdeal.Facts] : Prop :=
  ∀ (m : (ℓ : Loc Cert.MmDownDwIdeal.nD Cert.MmDownDwIdeal.τ Cert.MmDownDwIdeal.sig) → Buf (Elt Ideal) ℓ) (g : Dev Cert.MmDownDwIdeal.nD → PrngReg), Pre_MmDownDwIdeal m →
    θ_run (Cert.MmDownDwIdeal.defs (F := Ideal)) (onTc (τ := Cert.MmDownDwIdeal.τ) (Cert.MmDownDwIdeal.main (F := Ideal))) ⟨m, fun _ => 0, g⟩ (fun r => (∀ c : Dev Cert.MmDownDwIdeal.nD,
      r.2.mem ((c.tc : Thread Cert.MmDownDwIdeal.nD Cert.MmDownDwIdeal.τ).loc Cert.MmDownDwIdeal.main_arg0) = m ((c.tc : Thread Cert.MmDownDwIdeal.nD Cert.MmDownDwIdeal.τ).loc Cert.MmDownDwIdeal.main_arg0)
      ∧ r.2.mem ((c.tc : Thread Cert.MmDownDwIdeal.nD Cert.MmDownDwIdeal.τ).loc Cert.MmDownDwIdeal.main_arg1) = m ((c.tc : Thread Cert.MmDownDwIdeal.nD Cert.MmDownDwIdeal.τ).loc Cert.MmDownDwIdeal.main_arg1))
      ∧ r.2.sem = fun _ => 0)

def quiescent_MmDownDwRefIdeal [hMmDownDwRefIdeal : Cert.MmDownDwRefIdeal.Facts] : Prop :=
  ∀ (m : (ℓ : Loc Cert.MmDownDwRefIdeal.nD Cert.MmDownDwRefIdeal.τ Cert.MmDownDwRefIdeal.sig) → Buf (Elt Ideal) ℓ) (g : Dev Cert.MmDownDwRefIdeal.nD → PrngReg), Pre_MmDownDwRefIdeal m →
    θ_run (Cert.MmDownDwRefIdeal.defs (F := Ideal)) (onTc (τ := Cert.MmDownDwRefIdeal.τ) (Cert.MmDownDwRefIdeal.main (F := Ideal))) ⟨m, fun _ => 0, g⟩ (fun r => (∀ c : Dev Cert.MmDownDwRefIdeal.nD,
      r.2.mem ((c.tc : Thread Cert.MmDownDwRefIdeal.nD Cert.MmDownDwRefIdeal.τ).loc Cert.MmDownDwRefIdeal.main_arg0) = m ((c.tc : Thread Cert.MmDownDwRefIdeal.nD Cert.MmDownDwRefIdeal.τ).loc Cert.MmDownDwRefIdeal.main_arg0)
      ∧ r.2.mem ((c.tc : Thread Cert.MmDownDwRefIdeal.nD Cert.MmDownDwRefIdeal.τ).loc Cert.MmDownDwRefIdeal.main_arg1) = m ((c.tc : Thread Cert.MmDownDwRefIdeal.nD Cert.MmDownDwRefIdeal.τ).loc Cert.MmDownDwRefIdeal.main_arg1))
      ∧ r.2.sem = fun _ => 0)

def quiescent_MmOutDw [hMmOutDw : Cert.MmOutDw.Facts] : Prop :=
  ∀ (m : (ℓ : Loc Cert.MmOutDw.nD Cert.MmOutDw.τ Cert.MmOutDw.sig) → Buf (Elt Bits) ℓ) (g : Dev Cert.MmOutDw.nD → PrngReg), Pre_MmOutDw m →
    θ_run (Cert.MmOutDw.defs (F := Bits)) (onTc (τ := Cert.MmOutDw.τ) (Cert.MmOutDw.main (F := Bits))) ⟨m, fun _ => 0, g⟩ (fun r => (∀ c : Dev Cert.MmOutDw.nD,
      r.2.mem ((c.tc : Thread Cert.MmOutDw.nD Cert.MmOutDw.τ).loc Cert.MmOutDw.main_arg0) = m ((c.tc : Thread Cert.MmOutDw.nD Cert.MmOutDw.τ).loc Cert.MmOutDw.main_arg0)
      ∧ r.2.mem ((c.tc : Thread Cert.MmOutDw.nD Cert.MmOutDw.τ).loc Cert.MmOutDw.main_arg1) = m ((c.tc : Thread Cert.MmOutDw.nD Cert.MmOutDw.τ).loc Cert.MmOutDw.main_arg1))
      ∧ r.2.sem = fun _ => 0)

def quiescent_MmOutDwIdeal [hMmOutDwIdeal : Cert.MmOutDwIdeal.Facts] : Prop :=
  ∀ (m : (ℓ : Loc Cert.MmOutDwIdeal.nD Cert.MmOutDwIdeal.τ Cert.MmOutDwIdeal.sig) → Buf (Elt Ideal) ℓ) (g : Dev Cert.MmOutDwIdeal.nD → PrngReg), Pre_MmOutDwIdeal m →
    θ_run (Cert.MmOutDwIdeal.defs (F := Ideal)) (onTc (τ := Cert.MmOutDwIdeal.τ) (Cert.MmOutDwIdeal.main (F := Ideal))) ⟨m, fun _ => 0, g⟩ (fun r => (∀ c : Dev Cert.MmOutDwIdeal.nD,
      r.2.mem ((c.tc : Thread Cert.MmOutDwIdeal.nD Cert.MmOutDwIdeal.τ).loc Cert.MmOutDwIdeal.main_arg0) = m ((c.tc : Thread Cert.MmOutDwIdeal.nD Cert.MmOutDwIdeal.τ).loc Cert.MmOutDwIdeal.main_arg0)
      ∧ r.2.mem ((c.tc : Thread Cert.MmOutDwIdeal.nD Cert.MmOutDwIdeal.τ).loc Cert.MmOutDwIdeal.main_arg1) = m ((c.tc : Thread Cert.MmOutDwIdeal.nD Cert.MmOutDwIdeal.τ).loc Cert.MmOutDwIdeal.main_arg1))
      ∧ r.2.sem = fun _ => 0)

def quiescent_MmOutDwRefIdeal [hMmOutDwRefIdeal : Cert.MmOutDwRefIdeal.Facts] : Prop :=
  ∀ (m : (ℓ : Loc Cert.MmOutDwRefIdeal.nD Cert.MmOutDwRefIdeal.τ Cert.MmOutDwRefIdeal.sig) → Buf (Elt Ideal) ℓ) (g : Dev Cert.MmOutDwRefIdeal.nD → PrngReg), Pre_MmOutDwRefIdeal m →
    θ_run (Cert.MmOutDwRefIdeal.defs (F := Ideal)) (onTc (τ := Cert.MmOutDwRefIdeal.τ) (Cert.MmOutDwRefIdeal.main (F := Ideal))) ⟨m, fun _ => 0, g⟩ (fun r => (∀ c : Dev Cert.MmOutDwRefIdeal.nD,
      r.2.mem ((c.tc : Thread Cert.MmOutDwRefIdeal.nD Cert.MmOutDwRefIdeal.τ).loc Cert.MmOutDwRefIdeal.main_arg0) = m ((c.tc : Thread Cert.MmOutDwRefIdeal.nD Cert.MmOutDwRefIdeal.τ).loc Cert.MmOutDwRefIdeal.main_arg0)
      ∧ r.2.mem ((c.tc : Thread Cert.MmOutDwRefIdeal.nD Cert.MmOutDwRefIdeal.τ).loc Cert.MmOutDwRefIdeal.main_arg1) = m ((c.tc : Thread Cert.MmOutDwRefIdeal.nD Cert.MmOutDwRefIdeal.τ).loc Cert.MmOutDwRefIdeal.main_arg1))
      ∧ r.2.sem = fun _ => 0)

def quiescent_MmConvOutDw [hMmConvOutDw : Cert.MmConvOutDw.Facts] : Prop :=
  ∀ (m : (ℓ : Loc Cert.MmConvOutDw.nD Cert.MmConvOutDw.τ Cert.MmConvOutDw.sig) → Buf (Elt Bits) ℓ) (g : Dev Cert.MmConvOutDw.nD → PrngReg), Pre_MmConvOutDw m →
    θ_run (Cert.MmConvOutDw.defs (F := Bits)) (onTc (τ := Cert.MmConvOutDw.τ) (Cert.MmConvOutDw.main (F := Bits))) ⟨m, fun _ => 0, g⟩ (fun r => (∀ c : Dev Cert.MmConvOutDw.nD,
      r.2.mem ((c.tc : Thread Cert.MmConvOutDw.nD Cert.MmConvOutDw.τ).loc Cert.MmConvOutDw.main_arg0) = m ((c.tc : Thread Cert.MmConvOutDw.nD Cert.MmConvOutDw.τ).loc Cert.MmConvOutDw.main_arg0)
      ∧ r.2.mem ((c.tc : Thread Cert.MmConvOutDw.nD Cert.MmConvOutDw.τ).loc Cert.MmConvOutDw.main_arg1) = m ((c.tc : Thread Cert.MmConvOutDw.nD Cert.MmConvOutDw.τ).loc Cert.MmConvOutDw.main_arg1))
      ∧ r.2.sem = fun _ => 0)

def quiescent_MmConvOutDwIdeal [hMmConvOutDwIdeal : Cert.MmConvOutDwIdeal.Facts] : Prop :=
  ∀ (m : (ℓ : Loc Cert.MmConvOutDwIdeal.nD Cert.MmConvOutDwIdeal.τ Cert.MmConvOutDwIdeal.sig) → Buf (Elt Ideal) ℓ) (g : Dev Cert.MmConvOutDwIdeal.nD → PrngReg), Pre_MmConvOutDwIdeal m →
    θ_run (Cert.MmConvOutDwIdeal.defs (F := Ideal)) (onTc (τ := Cert.MmConvOutDwIdeal.τ) (Cert.MmConvOutDwIdeal.main (F := Ideal))) ⟨m, fun _ => 0, g⟩ (fun r => (∀ c : Dev Cert.MmConvOutDwIdeal.nD,
      r.2.mem ((c.tc : Thread Cert.MmConvOutDwIdeal.nD Cert.MmConvOutDwIdeal.τ).loc Cert.MmConvOutDwIdeal.main_arg0) = m ((c.tc : Thread Cert.MmConvOutDwIdeal.nD Cert.MmConvOutDwIdeal.τ).loc Cert.MmConvOutDwIdeal.main_arg0)
      ∧ r.2.mem ((c.tc : Thread Cert.MmConvOutDwIdeal.nD Cert.MmConvOutDwIdeal.τ).loc Cert.MmConvOutDwIdeal.main_arg1) = m ((c.tc : Thread Cert.MmConvOutDwIdeal.nD Cert.MmConvOutDwIdeal.τ).loc Cert.MmConvOutDwIdeal.main_arg1))
      ∧ r.2.sem = fun _ => 0)

def quiescent_MmConvOutDwRefIdeal [hMmConvOutDwRefIdeal : Cert.MmConvOutDwRefIdeal.Facts] : Prop :=
  ∀ (m : (ℓ : Loc Cert.MmConvOutDwRefIdeal.nD Cert.MmConvOutDwRefIdeal.τ Cert.MmConvOutDwRefIdeal.sig) → Buf (Elt Ideal) ℓ) (g : Dev Cert.MmConvOutDwRefIdeal.nD → PrngReg), Pre_MmConvOutDwRefIdeal m →
    θ_run (Cert.MmConvOutDwRefIdeal.defs (F := Ideal)) (onTc (τ := Cert.MmConvOutDwRefIdeal.τ) (Cert.MmConvOutDwRefIdeal.main (F := Ideal))) ⟨m, fun _ => 0, g⟩ (fun r => (∀ c : Dev Cert.MmConvOutDwRefIdeal.nD,
      r.2.mem ((c.tc : Thread Cert.MmConvOutDwRefIdeal.nD Cert.MmConvOutDwRefIdeal.τ).loc Cert.MmConvOutDwRefIdeal.main_arg0) = m ((c.tc : Thread Cert.MmConvOutDwRefIdeal.nD Cert.MmConvOutDwRefIdeal.τ).loc Cert.MmConvOutDwRefIdeal.main_arg0)
      ∧ r.2.mem ((c.tc : Thread Cert.MmConvOutDwRefIdeal.nD Cert.MmConvOutDwRefIdeal.τ).loc Cert.MmConvOutDwRefIdeal.main_arg1) = m ((c.tc : Thread Cert.MmConvOutDwRefIdeal.nD Cert.MmConvOutDwRefIdeal.τ).loc Cert.MmConvOutDwRefIdeal.main_arg1))
      ∧ r.2.sem = fun _ => 0)

def quiescent_MmRetOutDw [hMmRetOutDw : Cert.MmRetOutDw.Facts] : Prop :=
  ∀ (m : (ℓ : Loc Cert.MmRetOutDw.nD Cert.MmRetOutDw.τ Cert.MmRetOutDw.sig) → Buf (Elt Bits) ℓ) (g : Dev Cert.MmRetOutDw.nD → PrngReg), Pre_MmRetOutDw m →
    θ_run (Cert.MmRetOutDw.defs (F := Bits)) (onTc (τ := Cert.MmRetOutDw.τ) (Cert.MmRetOutDw.main (F := Bits))) ⟨m, fun _ => 0, g⟩ (fun r => (∀ c : Dev Cert.MmRetOutDw.nD,
      r.2.mem ((c.tc : Thread Cert.MmRetOutDw.nD Cert.MmRetOutDw.τ).loc Cert.MmRetOutDw.main_arg0) = m ((c.tc : Thread Cert.MmRetOutDw.nD Cert.MmRetOutDw.τ).loc Cert.MmRetOutDw.main_arg0)
      ∧ r.2.mem ((c.tc : Thread Cert.MmRetOutDw.nD Cert.MmRetOutDw.τ).loc Cert.MmRetOutDw.main_arg1) = m ((c.tc : Thread Cert.MmRetOutDw.nD Cert.MmRetOutDw.τ).loc Cert.MmRetOutDw.main_arg1))
      ∧ r.2.sem = fun _ => 0)

def quiescent_MmRetOutDwIdeal [hMmRetOutDwIdeal : Cert.MmRetOutDwIdeal.Facts] : Prop :=
  ∀ (m : (ℓ : Loc Cert.MmRetOutDwIdeal.nD Cert.MmRetOutDwIdeal.τ Cert.MmRetOutDwIdeal.sig) → Buf (Elt Ideal) ℓ) (g : Dev Cert.MmRetOutDwIdeal.nD → PrngReg), Pre_MmRetOutDwIdeal m →
    θ_run (Cert.MmRetOutDwIdeal.defs (F := Ideal)) (onTc (τ := Cert.MmRetOutDwIdeal.τ) (Cert.MmRetOutDwIdeal.main (F := Ideal))) ⟨m, fun _ => 0, g⟩ (fun r => (∀ c : Dev Cert.MmRetOutDwIdeal.nD,
      r.2.mem ((c.tc : Thread Cert.MmRetOutDwIdeal.nD Cert.MmRetOutDwIdeal.τ).loc Cert.MmRetOutDwIdeal.main_arg0) = m ((c.tc : Thread Cert.MmRetOutDwIdeal.nD Cert.MmRetOutDwIdeal.τ).loc Cert.MmRetOutDwIdeal.main_arg0)
      ∧ r.2.mem ((c.tc : Thread Cert.MmRetOutDwIdeal.nD Cert.MmRetOutDwIdeal.τ).loc Cert.MmRetOutDwIdeal.main_arg1) = m ((c.tc : Thread Cert.MmRetOutDwIdeal.nD Cert.MmRetOutDwIdeal.τ).loc Cert.MmRetOutDwIdeal.main_arg1))
      ∧ r.2.sem = fun _ => 0)

def quiescent_MmRetOutDwRefIdeal [hMmRetOutDwRefIdeal : Cert.MmRetOutDwRefIdeal.Facts] : Prop :=
  ∀ (m : (ℓ : Loc Cert.MmRetOutDwRefIdeal.nD Cert.MmRetOutDwRefIdeal.τ Cert.MmRetOutDwRefIdeal.sig) → Buf (Elt Ideal) ℓ) (g : Dev Cert.MmRetOutDwRefIdeal.nD → PrngReg), Pre_MmRetOutDwRefIdeal m →
    θ_run (Cert.MmRetOutDwRefIdeal.defs (F := Ideal)) (onTc (τ := Cert.MmRetOutDwRefIdeal.τ) (Cert.MmRetOutDwRefIdeal.main (F := Ideal))) ⟨m, fun _ => 0, g⟩ (fun r => (∀ c : Dev Cert.MmRetOutDwRefIdeal.nD,
      r.2.mem ((c.tc : Thread Cert.MmRetOutDwRefIdeal.nD Cert.MmRetOutDwRefIdeal.τ).loc Cert.MmRetOutDwRefIdeal.main_arg0) = m ((c.tc : Thread Cert.MmRetOutDwRefIdeal.nD Cert.MmRetOutDwRefIdeal.τ).loc Cert.MmRetOutDwRefIdeal.main_arg0)
      ∧ r.2.mem ((c.tc : Thread Cert.MmRetOutDwRefIdeal.nD Cert.MmRetOutDwRefIdeal.τ).loc Cert.MmRetOutDwRefIdeal.main_arg1) = m ((c.tc : Thread Cert.MmRetOutDwRefIdeal.nD Cert.MmRetOutDwRefIdeal.τ).loc Cert.MmRetOutDwRefIdeal.main_arg1))
      ∧ r.2.sem = fun _ => 0)

def quiescent_MmUpDw [hMmUpDw : Cert.MmUpDw.Facts] : Prop :=
  ∀ (m : (ℓ : Loc Cert.MmUpDw.nD Cert.MmUpDw.τ Cert.MmUpDw.sig) → Buf (Elt Bits) ℓ) (g : Dev Cert.MmUpDw.nD → PrngReg), Pre_MmUpDw m →
    θ_run (Cert.MmUpDw.defs (F := Bits)) (onTc (τ := Cert.MmUpDw.τ) (Cert.MmUpDw.main (F := Bits))) ⟨m, fun _ => 0, g⟩ (fun r => (∀ c : Dev Cert.MmUpDw.nD,
      r.2.mem ((c.tc : Thread Cert.MmUpDw.nD Cert.MmUpDw.τ).loc Cert.MmUpDw.main_arg0) = m ((c.tc : Thread Cert.MmUpDw.nD Cert.MmUpDw.τ).loc Cert.MmUpDw.main_arg0)
      ∧ r.2.mem ((c.tc : Thread Cert.MmUpDw.nD Cert.MmUpDw.τ).loc Cert.MmUpDw.main_arg1) = m ((c.tc : Thread Cert.MmUpDw.nD Cert.MmUpDw.τ).loc Cert.MmUpDw.main_arg1))
      ∧ r.2.sem = fun _ => 0)

def quiescent_MmUpDwIdeal [hMmUpDwIdeal : Cert.MmUpDwIdeal.Facts] : Prop :=
  ∀ (m : (ℓ : Loc Cert.MmUpDwIdeal.nD Cert.MmUpDwIdeal.τ Cert.MmUpDwIdeal.sig) → Buf (Elt Ideal) ℓ) (g : Dev Cert.MmUpDwIdeal.nD → PrngReg), Pre_MmUpDwIdeal m →
    θ_run (Cert.MmUpDwIdeal.defs (F := Ideal)) (onTc (τ := Cert.MmUpDwIdeal.τ) (Cert.MmUpDwIdeal.main (F := Ideal))) ⟨m, fun _ => 0, g⟩ (fun r => (∀ c : Dev Cert.MmUpDwIdeal.nD,
      r.2.mem ((c.tc : Thread Cert.MmUpDwIdeal.nD Cert.MmUpDwIdeal.τ).loc Cert.MmUpDwIdeal.main_arg0) = m ((c.tc : Thread Cert.MmUpDwIdeal.nD Cert.MmUpDwIdeal.τ).loc Cert.MmUpDwIdeal.main_arg0)
      ∧ r.2.mem ((c.tc : Thread Cert.MmUpDwIdeal.nD Cert.MmUpDwIdeal.τ).loc Cert.MmUpDwIdeal.main_arg1) = m ((c.tc : Thread Cert.MmUpDwIdeal.nD Cert.MmUpDwIdeal.τ).loc Cert.MmUpDwIdeal.main_arg1))
      ∧ r.2.sem = fun _ => 0)

def quiescent_MmUpDwRefIdeal [hMmUpDwRefIdeal : Cert.MmUpDwRefIdeal.Facts] : Prop :=
  ∀ (m : (ℓ : Loc Cert.MmUpDwRefIdeal.nD Cert.MmUpDwRefIdeal.τ Cert.MmUpDwRefIdeal.sig) → Buf (Elt Ideal) ℓ) (g : Dev Cert.MmUpDwRefIdeal.nD → PrngReg), Pre_MmUpDwRefIdeal m →
    θ_run (Cert.MmUpDwRefIdeal.defs (F := Ideal)) (onTc (τ := Cert.MmUpDwRefIdeal.τ) (Cert.MmUpDwRefIdeal.main (F := Ideal))) ⟨m, fun _ => 0, g⟩ (fun r => (∀ c : Dev Cert.MmUpDwRefIdeal.nD,
      r.2.mem ((c.tc : Thread Cert.MmUpDwRefIdeal.nD Cert.MmUpDwRefIdeal.τ).loc Cert.MmUpDwRefIdeal.main_arg0) = m ((c.tc : Thread Cert.MmUpDwRefIdeal.nD Cert.MmUpDwRefIdeal.τ).loc Cert.MmUpDwRefIdeal.main_arg0)
      ∧ r.2.mem ((c.tc : Thread Cert.MmUpDwRefIdeal.nD Cert.MmUpDwRefIdeal.τ).loc Cert.MmUpDwRefIdeal.main_arg1) = m ((c.tc : Thread Cert.MmUpDwRefIdeal.nD Cert.MmUpDwRefIdeal.τ).loc Cert.MmUpDwRefIdeal.main_arg1))
      ∧ r.2.sem = fun _ => 0)

def quiescent_MmInDw [hMmInDw : Cert.MmInDw.Facts] : Prop :=
  ∀ (m : (ℓ : Loc Cert.MmInDw.nD Cert.MmInDw.τ Cert.MmInDw.sig) → Buf (Elt Bits) ℓ) (g : Dev Cert.MmInDw.nD → PrngReg), Pre_MmInDw m →
    θ_run (Cert.MmInDw.defs (F := Bits)) (onTc (τ := Cert.MmInDw.τ) (Cert.MmInDw.main (F := Bits))) ⟨m, fun _ => 0, g⟩ (fun r => (∀ c : Dev Cert.MmInDw.nD,
      r.2.mem ((c.tc : Thread Cert.MmInDw.nD Cert.MmInDw.τ).loc Cert.MmInDw.main_arg0) = m ((c.tc : Thread Cert.MmInDw.nD Cert.MmInDw.τ).loc Cert.MmInDw.main_arg0)
      ∧ r.2.mem ((c.tc : Thread Cert.MmInDw.nD Cert.MmInDw.τ).loc Cert.MmInDw.main_arg1) = m ((c.tc : Thread Cert.MmInDw.nD Cert.MmInDw.τ).loc Cert.MmInDw.main_arg1))
      ∧ r.2.sem = fun _ => 0)

def quiescent_MmInDwIdeal [hMmInDwIdeal : Cert.MmInDwIdeal.Facts] : Prop :=
  ∀ (m : (ℓ : Loc Cert.MmInDwIdeal.nD Cert.MmInDwIdeal.τ Cert.MmInDwIdeal.sig) → Buf (Elt Ideal) ℓ) (g : Dev Cert.MmInDwIdeal.nD → PrngReg), Pre_MmInDwIdeal m →
    θ_run (Cert.MmInDwIdeal.defs (F := Ideal)) (onTc (τ := Cert.MmInDwIdeal.τ) (Cert.MmInDwIdeal.main (F := Ideal))) ⟨m, fun _ => 0, g⟩ (fun r => (∀ c : Dev Cert.MmInDwIdeal.nD,
      r.2.mem ((c.tc : Thread Cert.MmInDwIdeal.nD Cert.MmInDwIdeal.τ).loc Cert.MmInDwIdeal.main_arg0) = m ((c.tc : Thread Cert.MmInDwIdeal.nD Cert.MmInDwIdeal.τ).loc Cert.MmInDwIdeal.main_arg0)
      ∧ r.2.mem ((c.tc : Thread Cert.MmInDwIdeal.nD Cert.MmInDwIdeal.τ).loc Cert.MmInDwIdeal.main_arg1) = m ((c.tc : Thread Cert.MmInDwIdeal.nD Cert.MmInDwIdeal.τ).loc Cert.MmInDwIdeal.main_arg1))
      ∧ r.2.sem = fun _ => 0)

def quiescent_MmInDwRefIdeal [hMmInDwRefIdeal : Cert.MmInDwRefIdeal.Facts] : Prop :=
  ∀ (m : (ℓ : Loc Cert.MmInDwRefIdeal.nD Cert.MmInDwRefIdeal.τ Cert.MmInDwRefIdeal.sig) → Buf (Elt Ideal) ℓ) (g : Dev Cert.MmInDwRefIdeal.nD → PrngReg), Pre_MmInDwRefIdeal m →
    θ_run (Cert.MmInDwRefIdeal.defs (F := Ideal)) (onTc (τ := Cert.MmInDwRefIdeal.τ) (Cert.MmInDwRefIdeal.main (F := Ideal))) ⟨m, fun _ => 0, g⟩ (fun r => (∀ c : Dev Cert.MmInDwRefIdeal.nD,
      r.2.mem ((c.tc : Thread Cert.MmInDwRefIdeal.nD Cert.MmInDwRefIdeal.τ).loc Cert.MmInDwRefIdeal.main_arg0) = m ((c.tc : Thread Cert.MmInDwRefIdeal.nD Cert.MmInDwRefIdeal.τ).loc Cert.MmInDwRefIdeal.main_arg0)
      ∧ r.2.mem ((c.tc : Thread Cert.MmInDwRefIdeal.nD Cert.MmInDwRefIdeal.τ).loc Cert.MmInDwRefIdeal.main_arg1) = m ((c.tc : Thread Cert.MmInDwRefIdeal.nD Cert.MmInDwRefIdeal.τ).loc Cert.MmInDwRefIdeal.main_arg1))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3))
      ∧ r.2.sem = fun _ => 0)

def quiescent_BiasInGrad [hBiasInGrad : Cert.BiasInGrad.Facts] : Prop :=
  ∀ (m : (ℓ : Loc Cert.BiasInGrad.nD Cert.BiasInGrad.τ Cert.BiasInGrad.sig) → Buf (Elt Bits) ℓ) (g : Dev Cert.BiasInGrad.nD → PrngReg), Pre_BiasInGrad m →
    θ_run (Cert.BiasInGrad.defs (F := Bits)) (onTc (τ := Cert.BiasInGrad.τ) (Cert.BiasInGrad.main (F := Bits))) ⟨m, fun _ => 0, g⟩ (fun r => (∀ c : Dev Cert.BiasInGrad.nD,
      r.2.mem ((c.tc : Thread Cert.BiasInGrad.nD Cert.BiasInGrad.τ).loc Cert.BiasInGrad.main_arg0) = m ((c.tc : Thread Cert.BiasInGrad.nD Cert.BiasInGrad.τ).loc Cert.BiasInGrad.main_arg0))
      ∧ r.2.sem = fun _ => 0)

def quiescent_BiasInGradIdeal [hBiasInGradIdeal : Cert.BiasInGradIdeal.Facts] : Prop :=
  ∀ (m : (ℓ : Loc Cert.BiasInGradIdeal.nD Cert.BiasInGradIdeal.τ Cert.BiasInGradIdeal.sig) → Buf (Elt Ideal) ℓ) (g : Dev Cert.BiasInGradIdeal.nD → PrngReg), Pre_BiasInGradIdeal m →
    θ_run (Cert.BiasInGradIdeal.defs (F := Ideal)) (onTc (τ := Cert.BiasInGradIdeal.τ) (Cert.BiasInGradIdeal.main (F := Ideal))) ⟨m, fun _ => 0, g⟩ (fun r => (∀ c : Dev Cert.BiasInGradIdeal.nD,
      r.2.mem ((c.tc : Thread Cert.BiasInGradIdeal.nD Cert.BiasInGradIdeal.τ).loc Cert.BiasInGradIdeal.main_arg0) = m ((c.tc : Thread Cert.BiasInGradIdeal.nD Cert.BiasInGradIdeal.τ).loc Cert.BiasInGradIdeal.main_arg0))
      ∧ r.2.sem = fun _ => 0)

def quiescent_BiasInGradRefIdeal [hBiasInGradRefIdeal : Cert.BiasInGradRefIdeal.Facts] : Prop :=
  ∀ (m : (ℓ : Loc Cert.BiasInGradRefIdeal.nD Cert.BiasInGradRefIdeal.τ Cert.BiasInGradRefIdeal.sig) → Buf (Elt Ideal) ℓ) (g : Dev Cert.BiasInGradRefIdeal.nD → PrngReg), Pre_BiasInGradRefIdeal m →
    θ_run (Cert.BiasInGradRefIdeal.defs (F := Ideal)) (onTc (τ := Cert.BiasInGradRefIdeal.τ) (Cert.BiasInGradRefIdeal.main (F := Ideal))) ⟨m, fun _ => 0, g⟩ (fun r => (∀ c : Dev Cert.BiasInGradRefIdeal.nD,
      r.2.mem ((c.tc : Thread Cert.BiasInGradRefIdeal.nD Cert.BiasInGradRefIdeal.τ).loc Cert.BiasInGradRefIdeal.main_arg0) = m ((c.tc : Thread Cert.BiasInGradRefIdeal.nD Cert.BiasInGradRefIdeal.τ).loc Cert.BiasInGradRefIdeal.main_arg0))
      ∧ r.2.sem = fun _ => 0)

def quiescent_ConvNormBwd [hConvNormBwd : Cert.ConvNormBwd.Facts] : Prop :=
  ∀ (m : (ℓ : Loc Cert.ConvNormBwd.nD Cert.ConvNormBwd.τ Cert.ConvNormBwd.sig) → Buf (Elt Bits) ℓ) (g : Dev Cert.ConvNormBwd.nD → PrngReg), Pre_ConvNormBwd m →
    θ_run (Cert.ConvNormBwd.defs (F := Bits)) (onTc (τ := Cert.ConvNormBwd.τ) (Cert.ConvNormBwd.main (F := Bits))) ⟨m, fun _ => 0, g⟩ (fun r => (∀ c : Dev Cert.ConvNormBwd.nD,
      r.2.mem ((c.tc : Thread Cert.ConvNormBwd.nD Cert.ConvNormBwd.τ).loc Cert.ConvNormBwd.main_arg0) = m ((c.tc : Thread Cert.ConvNormBwd.nD Cert.ConvNormBwd.τ).loc Cert.ConvNormBwd.main_arg0)
      ∧ r.2.mem ((c.tc : Thread Cert.ConvNormBwd.nD Cert.ConvNormBwd.τ).loc Cert.ConvNormBwd.main_arg1) = m ((c.tc : Thread Cert.ConvNormBwd.nD Cert.ConvNormBwd.τ).loc Cert.ConvNormBwd.main_arg1)
      ∧ r.2.mem ((c.tc : Thread Cert.ConvNormBwd.nD Cert.ConvNormBwd.τ).loc Cert.ConvNormBwd.main_arg2) = m ((c.tc : Thread Cert.ConvNormBwd.nD Cert.ConvNormBwd.τ).loc Cert.ConvNormBwd.main_arg2)
      ∧ r.2.mem ((c.tc : Thread Cert.ConvNormBwd.nD Cert.ConvNormBwd.τ).loc Cert.ConvNormBwd.main_arg3) = m ((c.tc : Thread Cert.ConvNormBwd.nD Cert.ConvNormBwd.τ).loc Cert.ConvNormBwd.main_arg3))
      ∧ r.2.sem = fun _ => 0)

def quiescent_ConvNormBwdIdeal [hConvNormBwdIdeal : Cert.ConvNormBwdIdeal.Facts] : Prop :=
  ∀ (m : (ℓ : Loc Cert.ConvNormBwdIdeal.nD Cert.ConvNormBwdIdeal.τ Cert.ConvNormBwdIdeal.sig) → Buf (Elt Ideal) ℓ) (g : Dev Cert.ConvNormBwdIdeal.nD → PrngReg), Pre_ConvNormBwdIdeal m →
    θ_run (Cert.ConvNormBwdIdeal.defs (F := Ideal)) (onTc (τ := Cert.ConvNormBwdIdeal.τ) (Cert.ConvNormBwdIdeal.main (F := Ideal))) ⟨m, fun _ => 0, g⟩ (fun r => (∀ c : Dev Cert.ConvNormBwdIdeal.nD,
      r.2.mem ((c.tc : Thread Cert.ConvNormBwdIdeal.nD Cert.ConvNormBwdIdeal.τ).loc Cert.ConvNormBwdIdeal.main_arg0) = m ((c.tc : Thread Cert.ConvNormBwdIdeal.nD Cert.ConvNormBwdIdeal.τ).loc Cert.ConvNormBwdIdeal.main_arg0)
      ∧ r.2.mem ((c.tc : Thread Cert.ConvNormBwdIdeal.nD Cert.ConvNormBwdIdeal.τ).loc Cert.ConvNormBwdIdeal.main_arg1) = m ((c.tc : Thread Cert.ConvNormBwdIdeal.nD Cert.ConvNormBwdIdeal.τ).loc Cert.ConvNormBwdIdeal.main_arg1)
      ∧ r.2.mem ((c.tc : Thread Cert.ConvNormBwdIdeal.nD Cert.ConvNormBwdIdeal.τ).loc Cert.ConvNormBwdIdeal.main_arg2) = m ((c.tc : Thread Cert.ConvNormBwdIdeal.nD Cert.ConvNormBwdIdeal.τ).loc Cert.ConvNormBwdIdeal.main_arg2)
      ∧ r.2.mem ((c.tc : Thread Cert.ConvNormBwdIdeal.nD Cert.ConvNormBwdIdeal.τ).loc Cert.ConvNormBwdIdeal.main_arg3) = m ((c.tc : Thread Cert.ConvNormBwdIdeal.nD Cert.ConvNormBwdIdeal.τ).loc Cert.ConvNormBwdIdeal.main_arg3))
      ∧ r.2.sem = fun _ => 0)

def quiescent_ConvNormBwdRefIdeal [hConvNormBwdRefIdeal : Cert.ConvNormBwdRefIdeal.Facts] : Prop :=
  ∀ (m : (ℓ : Loc Cert.ConvNormBwdRefIdeal.nD Cert.ConvNormBwdRefIdeal.τ Cert.ConvNormBwdRefIdeal.sig) → Buf (Elt Ideal) ℓ) (g : Dev Cert.ConvNormBwdRefIdeal.nD → PrngReg), Pre_ConvNormBwdRefIdeal m →
    θ_run (Cert.ConvNormBwdRefIdeal.defs (F := Ideal)) (onTc (τ := Cert.ConvNormBwdRefIdeal.τ) (Cert.ConvNormBwdRefIdeal.main (F := Ideal))) ⟨m, fun _ => 0, g⟩ (fun r => (∀ c : Dev Cert.ConvNormBwdRefIdeal.nD,
      r.2.mem ((c.tc : Thread Cert.ConvNormBwdRefIdeal.nD Cert.ConvNormBwdRefIdeal.τ).loc Cert.ConvNormBwdRefIdeal.main_arg0) = m ((c.tc : Thread Cert.ConvNormBwdRefIdeal.nD Cert.ConvNormBwdRefIdeal.τ).loc Cert.ConvNormBwdRefIdeal.main_arg0)
      ∧ r.2.mem ((c.tc : Thread Cert.ConvNormBwdRefIdeal.nD Cert.ConvNormBwdRefIdeal.τ).loc Cert.ConvNormBwdRefIdeal.main_arg1) = m ((c.tc : Thread Cert.ConvNormBwdRefIdeal.nD Cert.ConvNormBwdRefIdeal.τ).loc Cert.ConvNormBwdRefIdeal.main_arg1)
      ∧ r.2.mem ((c.tc : Thread Cert.ConvNormBwdRefIdeal.nD Cert.ConvNormBwdRefIdeal.τ).loc Cert.ConvNormBwdRefIdeal.main_arg2) = m ((c.tc : Thread Cert.ConvNormBwdRefIdeal.nD Cert.ConvNormBwdRefIdeal.τ).loc Cert.ConvNormBwdRefIdeal.main_arg2)
      ∧ r.2.mem ((c.tc : Thread Cert.ConvNormBwdRefIdeal.nD Cert.ConvNormBwdRefIdeal.τ).loc Cert.ConvNormBwdRefIdeal.main_arg3) = m ((c.tc : Thread Cert.ConvNormBwdRefIdeal.nD Cert.ConvNormBwdRefIdeal.τ).loc Cert.ConvNormBwdRefIdeal.main_arg3))
      ∧ r.2.sem = fun _ => 0)

def quiescent_PostBwd [hPostBwd : Cert.PostBwd.Facts] : Prop :=
  ∀ (m : (ℓ : Loc Cert.PostBwd.nD Cert.PostBwd.τ Cert.PostBwd.sig) → Buf (Elt Bits) ℓ) (g : Dev Cert.PostBwd.nD → PrngReg), Pre_PostBwd m →
    θ_run (Cert.PostBwd.defs (F := Bits)) (onTc (τ := Cert.PostBwd.τ) (Cert.PostBwd.main (F := Bits))) ⟨m, fun _ => 0, g⟩ (fun r => (∀ c : Dev Cert.PostBwd.nD,
      r.2.mem ((c.tc : Thread Cert.PostBwd.nD Cert.PostBwd.τ).loc Cert.PostBwd.main_arg0) = m ((c.tc : Thread Cert.PostBwd.nD Cert.PostBwd.τ).loc Cert.PostBwd.main_arg0)
      ∧ r.2.mem ((c.tc : Thread Cert.PostBwd.nD Cert.PostBwd.τ).loc Cert.PostBwd.main_arg1) = m ((c.tc : Thread Cert.PostBwd.nD Cert.PostBwd.τ).loc Cert.PostBwd.main_arg1)
      ∧ r.2.mem ((c.tc : Thread Cert.PostBwd.nD Cert.PostBwd.τ).loc Cert.PostBwd.main_arg2) = m ((c.tc : Thread Cert.PostBwd.nD Cert.PostBwd.τ).loc Cert.PostBwd.main_arg2)
      ∧ r.2.mem ((c.tc : Thread Cert.PostBwd.nD Cert.PostBwd.τ).loc Cert.PostBwd.main_arg3) = m ((c.tc : Thread Cert.PostBwd.nD Cert.PostBwd.τ).loc Cert.PostBwd.main_arg3)
      ∧ r.2.mem ((c.tc : Thread Cert.PostBwd.nD Cert.PostBwd.τ).loc Cert.PostBwd.main_arg4) = m ((c.tc : Thread Cert.PostBwd.nD Cert.PostBwd.τ).loc Cert.PostBwd.main_arg4)
      ∧ r.2.mem ((c.tc : Thread Cert.PostBwd.nD Cert.PostBwd.τ).loc Cert.PostBwd.main_arg5) = m ((c.tc : Thread Cert.PostBwd.nD Cert.PostBwd.τ).loc Cert.PostBwd.main_arg5)
      ∧ r.2.mem ((c.tc : Thread Cert.PostBwd.nD Cert.PostBwd.τ).loc Cert.PostBwd.main_arg6) = m ((c.tc : Thread Cert.PostBwd.nD Cert.PostBwd.τ).loc Cert.PostBwd.main_arg6)
      ∧ r.2.mem ((c.tc : Thread Cert.PostBwd.nD Cert.PostBwd.τ).loc Cert.PostBwd.main_arg7) = m ((c.tc : Thread Cert.PostBwd.nD Cert.PostBwd.τ).loc Cert.PostBwd.main_arg7)
      ∧ r.2.mem ((c.tc : Thread Cert.PostBwd.nD Cert.PostBwd.τ).loc Cert.PostBwd.main_arg8) = m ((c.tc : Thread Cert.PostBwd.nD Cert.PostBwd.τ).loc Cert.PostBwd.main_arg8))
      ∧ r.2.sem = fun _ => 0)

def quiescent_PostBwdIdeal [hPostBwdIdeal : Cert.PostBwdIdeal.Facts] : Prop :=
  ∀ (m : (ℓ : Loc Cert.PostBwdIdeal.nD Cert.PostBwdIdeal.τ Cert.PostBwdIdeal.sig) → Buf (Elt Ideal) ℓ) (g : Dev Cert.PostBwdIdeal.nD → PrngReg), Pre_PostBwdIdeal m →
    θ_run (Cert.PostBwdIdeal.defs (F := Ideal)) (onTc (τ := Cert.PostBwdIdeal.τ) (Cert.PostBwdIdeal.main (F := Ideal))) ⟨m, fun _ => 0, g⟩ (fun r => (∀ c : Dev Cert.PostBwdIdeal.nD,
      r.2.mem ((c.tc : Thread Cert.PostBwdIdeal.nD Cert.PostBwdIdeal.τ).loc Cert.PostBwdIdeal.main_arg0) = m ((c.tc : Thread Cert.PostBwdIdeal.nD Cert.PostBwdIdeal.τ).loc Cert.PostBwdIdeal.main_arg0)
      ∧ r.2.mem ((c.tc : Thread Cert.PostBwdIdeal.nD Cert.PostBwdIdeal.τ).loc Cert.PostBwdIdeal.main_arg1) = m ((c.tc : Thread Cert.PostBwdIdeal.nD Cert.PostBwdIdeal.τ).loc Cert.PostBwdIdeal.main_arg1)
      ∧ r.2.mem ((c.tc : Thread Cert.PostBwdIdeal.nD Cert.PostBwdIdeal.τ).loc Cert.PostBwdIdeal.main_arg2) = m ((c.tc : Thread Cert.PostBwdIdeal.nD Cert.PostBwdIdeal.τ).loc Cert.PostBwdIdeal.main_arg2)
      ∧ r.2.mem ((c.tc : Thread Cert.PostBwdIdeal.nD Cert.PostBwdIdeal.τ).loc Cert.PostBwdIdeal.main_arg3) = m ((c.tc : Thread Cert.PostBwdIdeal.nD Cert.PostBwdIdeal.τ).loc Cert.PostBwdIdeal.main_arg3)
      ∧ r.2.mem ((c.tc : Thread Cert.PostBwdIdeal.nD Cert.PostBwdIdeal.τ).loc Cert.PostBwdIdeal.main_arg4) = m ((c.tc : Thread Cert.PostBwdIdeal.nD Cert.PostBwdIdeal.τ).loc Cert.PostBwdIdeal.main_arg4)
      ∧ r.2.mem ((c.tc : Thread Cert.PostBwdIdeal.nD Cert.PostBwdIdeal.τ).loc Cert.PostBwdIdeal.main_arg5) = m ((c.tc : Thread Cert.PostBwdIdeal.nD Cert.PostBwdIdeal.τ).loc Cert.PostBwdIdeal.main_arg5)
      ∧ r.2.mem ((c.tc : Thread Cert.PostBwdIdeal.nD Cert.PostBwdIdeal.τ).loc Cert.PostBwdIdeal.main_arg6) = m ((c.tc : Thread Cert.PostBwdIdeal.nD Cert.PostBwdIdeal.τ).loc Cert.PostBwdIdeal.main_arg6)
      ∧ r.2.mem ((c.tc : Thread Cert.PostBwdIdeal.nD Cert.PostBwdIdeal.τ).loc Cert.PostBwdIdeal.main_arg7) = m ((c.tc : Thread Cert.PostBwdIdeal.nD Cert.PostBwdIdeal.τ).loc Cert.PostBwdIdeal.main_arg7)
      ∧ r.2.mem ((c.tc : Thread Cert.PostBwdIdeal.nD Cert.PostBwdIdeal.τ).loc Cert.PostBwdIdeal.main_arg8) = m ((c.tc : Thread Cert.PostBwdIdeal.nD Cert.PostBwdIdeal.τ).loc Cert.PostBwdIdeal.main_arg8))
      ∧ r.2.sem = fun _ => 0)

def quiescent_PostBwdRefIdeal [hPostBwdRefIdeal : Cert.PostBwdRefIdeal.Facts] : Prop :=
  ∀ (m : (ℓ : Loc Cert.PostBwdRefIdeal.nD Cert.PostBwdRefIdeal.τ Cert.PostBwdRefIdeal.sig) → Buf (Elt Ideal) ℓ) (g : Dev Cert.PostBwdRefIdeal.nD → PrngReg), Pre_PostBwdRefIdeal m →
    θ_run (Cert.PostBwdRefIdeal.defs (F := Ideal)) (onTc (τ := Cert.PostBwdRefIdeal.τ) (Cert.PostBwdRefIdeal.main (F := Ideal))) ⟨m, fun _ => 0, g⟩ (fun r => (∀ c : Dev Cert.PostBwdRefIdeal.nD,
      r.2.mem ((c.tc : Thread Cert.PostBwdRefIdeal.nD Cert.PostBwdRefIdeal.τ).loc Cert.PostBwdRefIdeal.main_arg0) = m ((c.tc : Thread Cert.PostBwdRefIdeal.nD Cert.PostBwdRefIdeal.τ).loc Cert.PostBwdRefIdeal.main_arg0)
      ∧ r.2.mem ((c.tc : Thread Cert.PostBwdRefIdeal.nD Cert.PostBwdRefIdeal.τ).loc Cert.PostBwdRefIdeal.main_arg1) = m ((c.tc : Thread Cert.PostBwdRefIdeal.nD Cert.PostBwdRefIdeal.τ).loc Cert.PostBwdRefIdeal.main_arg1)
      ∧ r.2.mem ((c.tc : Thread Cert.PostBwdRefIdeal.nD Cert.PostBwdRefIdeal.τ).loc Cert.PostBwdRefIdeal.main_arg2) = m ((c.tc : Thread Cert.PostBwdRefIdeal.nD Cert.PostBwdRefIdeal.τ).loc Cert.PostBwdRefIdeal.main_arg2)
      ∧ r.2.mem ((c.tc : Thread Cert.PostBwdRefIdeal.nD Cert.PostBwdRefIdeal.τ).loc Cert.PostBwdRefIdeal.main_arg3) = m ((c.tc : Thread Cert.PostBwdRefIdeal.nD Cert.PostBwdRefIdeal.τ).loc Cert.PostBwdRefIdeal.main_arg3)
      ∧ r.2.mem ((c.tc : Thread Cert.PostBwdRefIdeal.nD Cert.PostBwdRefIdeal.τ).loc Cert.PostBwdRefIdeal.main_arg4) = m ((c.tc : Thread Cert.PostBwdRefIdeal.nD Cert.PostBwdRefIdeal.τ).loc Cert.PostBwdRefIdeal.main_arg4)
      ∧ r.2.mem ((c.tc : Thread Cert.PostBwdRefIdeal.nD Cert.PostBwdRefIdeal.τ).loc Cert.PostBwdRefIdeal.main_arg5) = m ((c.tc : Thread Cert.PostBwdRefIdeal.nD Cert.PostBwdRefIdeal.τ).loc Cert.PostBwdRefIdeal.main_arg5)
      ∧ r.2.mem ((c.tc : Thread Cert.PostBwdRefIdeal.nD Cert.PostBwdRefIdeal.τ).loc Cert.PostBwdRefIdeal.main_arg6) = m ((c.tc : Thread Cert.PostBwdRefIdeal.nD Cert.PostBwdRefIdeal.τ).loc Cert.PostBwdRefIdeal.main_arg6)
      ∧ r.2.mem ((c.tc : Thread Cert.PostBwdRefIdeal.nD Cert.PostBwdRefIdeal.τ).loc Cert.PostBwdRefIdeal.main_arg7) = m ((c.tc : Thread Cert.PostBwdRefIdeal.nD Cert.PostBwdRefIdeal.τ).loc Cert.PostBwdRefIdeal.main_arg7)
      ∧ r.2.mem ((c.tc : Thread Cert.PostBwdRefIdeal.nD Cert.PostBwdRefIdeal.τ).loc Cert.PostBwdRefIdeal.main_arg8) = m ((c.tc : Thread Cert.PostBwdRefIdeal.nD Cert.PostBwdRefIdeal.τ).loc Cert.PostBwdRefIdeal.main_arg8))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2))
      ∧ r.2.sem = fun _ => 0)

def quiescent_FfnConvFwd [hFfnConvFwd : Cert.FfnConvFwd.Facts] : Prop :=
  ∀ (m : (ℓ : Loc Cert.FfnConvFwd.nD Cert.FfnConvFwd.τ Cert.FfnConvFwd.sig) → Buf (Elt Bits) ℓ) (g : Dev Cert.FfnConvFwd.nD → PrngReg), Pre_FfnConvFwd m →
    θ_run (Cert.FfnConvFwd.defs (F := Bits)) (onTc (τ := Cert.FfnConvFwd.τ) (Cert.FfnConvFwd.main (F := Bits))) ⟨m, fun _ => 0, g⟩ (fun r => (∀ c : Dev Cert.FfnConvFwd.nD,
      r.2.mem ((c.tc : Thread Cert.FfnConvFwd.nD Cert.FfnConvFwd.τ).loc Cert.FfnConvFwd.main_arg0) = m ((c.tc : Thread Cert.FfnConvFwd.nD Cert.FfnConvFwd.τ).loc Cert.FfnConvFwd.main_arg0)
      ∧ r.2.mem ((c.tc : Thread Cert.FfnConvFwd.nD Cert.FfnConvFwd.τ).loc Cert.FfnConvFwd.main_arg1) = m ((c.tc : Thread Cert.FfnConvFwd.nD Cert.FfnConvFwd.τ).loc Cert.FfnConvFwd.main_arg1)
      ∧ r.2.mem ((c.tc : Thread Cert.FfnConvFwd.nD Cert.FfnConvFwd.τ).loc Cert.FfnConvFwd.main_arg2) = m ((c.tc : Thread Cert.FfnConvFwd.nD Cert.FfnConvFwd.τ).loc Cert.FfnConvFwd.main_arg2))
      ∧ r.2.sem = fun _ => 0)

def quiescent_FfnConvFwdIdeal [hFfnConvFwdIdeal : Cert.FfnConvFwdIdeal.Facts] : Prop :=
  ∀ (m : (ℓ : Loc Cert.FfnConvFwdIdeal.nD Cert.FfnConvFwdIdeal.τ Cert.FfnConvFwdIdeal.sig) → Buf (Elt Ideal) ℓ) (g : Dev Cert.FfnConvFwdIdeal.nD → PrngReg), Pre_FfnConvFwdIdeal m →
    θ_run (Cert.FfnConvFwdIdeal.defs (F := Ideal)) (onTc (τ := Cert.FfnConvFwdIdeal.τ) (Cert.FfnConvFwdIdeal.main (F := Ideal))) ⟨m, fun _ => 0, g⟩ (fun r => (∀ c : Dev Cert.FfnConvFwdIdeal.nD,
      r.2.mem ((c.tc : Thread Cert.FfnConvFwdIdeal.nD Cert.FfnConvFwdIdeal.τ).loc Cert.FfnConvFwdIdeal.main_arg0) = m ((c.tc : Thread Cert.FfnConvFwdIdeal.nD Cert.FfnConvFwdIdeal.τ).loc Cert.FfnConvFwdIdeal.main_arg0)
      ∧ r.2.mem ((c.tc : Thread Cert.FfnConvFwdIdeal.nD Cert.FfnConvFwdIdeal.τ).loc Cert.FfnConvFwdIdeal.main_arg1) = m ((c.tc : Thread Cert.FfnConvFwdIdeal.nD Cert.FfnConvFwdIdeal.τ).loc Cert.FfnConvFwdIdeal.main_arg1)
      ∧ r.2.mem ((c.tc : Thread Cert.FfnConvFwdIdeal.nD Cert.FfnConvFwdIdeal.τ).loc Cert.FfnConvFwdIdeal.main_arg2) = m ((c.tc : Thread Cert.FfnConvFwdIdeal.nD Cert.FfnConvFwdIdeal.τ).loc Cert.FfnConvFwdIdeal.main_arg2))
      ∧ r.2.sem = fun _ => 0)

def quiescent_FfnConvFwdRefIdeal [hFfnConvFwdRefIdeal : Cert.FfnConvFwdRefIdeal.Facts] : Prop :=
  ∀ (m : (ℓ : Loc Cert.FfnConvFwdRefIdeal.nD Cert.FfnConvFwdRefIdeal.τ Cert.FfnConvFwdRefIdeal.sig) → Buf (Elt Ideal) ℓ) (g : Dev Cert.FfnConvFwdRefIdeal.nD → PrngReg), Pre_FfnConvFwdRefIdeal m →
    θ_run (Cert.FfnConvFwdRefIdeal.defs (F := Ideal)) (onTc (τ := Cert.FfnConvFwdRefIdeal.τ) (Cert.FfnConvFwdRefIdeal.main (F := Ideal))) ⟨m, fun _ => 0, g⟩ (fun r => (∀ c : Dev Cert.FfnConvFwdRefIdeal.nD,
      r.2.mem ((c.tc : Thread Cert.FfnConvFwdRefIdeal.nD Cert.FfnConvFwdRefIdeal.τ).loc Cert.FfnConvFwdRefIdeal.main_arg0) = m ((c.tc : Thread Cert.FfnConvFwdRefIdeal.nD Cert.FfnConvFwdRefIdeal.τ).loc Cert.FfnConvFwdRefIdeal.main_arg0)
      ∧ r.2.mem ((c.tc : Thread Cert.FfnConvFwdRefIdeal.nD Cert.FfnConvFwdRefIdeal.τ).loc Cert.FfnConvFwdRefIdeal.main_arg1) = m ((c.tc : Thread Cert.FfnConvFwdRefIdeal.nD Cert.FfnConvFwdRefIdeal.τ).loc Cert.FfnConvFwdRefIdeal.main_arg1)
      ∧ r.2.mem ((c.tc : Thread Cert.FfnConvFwdRefIdeal.nD Cert.FfnConvFwdRefIdeal.τ).loc Cert.FfnConvFwdRefIdeal.main_arg2) = m ((c.tc : Thread Cert.FfnConvFwdRefIdeal.nD Cert.FfnConvFwdRefIdeal.τ).loc Cert.FfnConvFwdRefIdeal.main_arg2))
      ∧ r.2.sem = fun _ => 0)

def preserves_Alltoall_AlltoallIdeal : Prop :=
  True

def algebraic_AlltoallIdeal_AlltoallRefIdeal [hAlltoallIdeal : Cert.AlltoallIdeal.Facts] [hAlltoallRefIdeal : Cert.AlltoallRefIdeal.Facts] : Prop :=
  ∀ (m : (ℓ : Loc Cert.AlltoallIdeal.nD Cert.AlltoallIdeal.τ Cert.AlltoallIdeal.sig) → Buf (Elt Ideal) ℓ) (g : Dev Cert.AlltoallIdeal.nD → PrngReg)
    (m' : (ℓ : Loc Cert.AlltoallRefIdeal.nD Cert.AlltoallRefIdeal.τ Cert.AlltoallRefIdeal.sig) → Buf (Elt Ideal) ℓ) (g' : Dev Cert.AlltoallRefIdeal.nD → PrngReg), Pre_AlltoallIdeal m →
    (∀ c : Dev Cert.AlltoallIdeal.nD,
      m ((c.tc : Thread Cert.AlltoallIdeal.nD Cert.AlltoallIdeal.τ).loc Cert.AlltoallIdeal.main_arg0) = Layout.block ⟨3, ![4, 2848, 1024]⟩ ⟨3, ![32, 2848, 1024]⟩ 0 8 c (m' (((0 : Dev Cert.AlltoallRefIdeal.nD).tc : Thread Cert.AlltoallRefIdeal.nD Cert.AlltoallRefIdeal.τ).loc Cert.AlltoallRefIdeal.main_arg0))) →
    ∃ (v0 : Buf (Elt Ideal) (((0 : Dev Cert.AlltoallRefIdeal.nD).tc : Thread Cert.AlltoallRefIdeal.nD Cert.AlltoallRefIdeal.τ).loc Cert.AlltoallRefIdeal.main_v2)),
      θ_run (Cert.AlltoallIdeal.defs (F := Ideal)) (onTc (τ := Cert.AlltoallIdeal.τ) (Cert.AlltoallIdeal.main (F := Ideal))) ⟨m, fun _ => 0, g⟩ (fun r => ∀ c : Dev Cert.AlltoallIdeal.nD,
          r.2.mem ((c.tc : Thread Cert.AlltoallIdeal.nD Cert.AlltoallIdeal.τ).loc Cert.AlltoallIdeal.main_v1) = Layout.block ⟨3, ![4, 2848, 1024]⟩ ⟨3, ![32, 2848, 1024]⟩ 0 8 c v0
          ∧ r.2.mem ((c.tc : Thread Cert.AlltoallIdeal.nD Cert.AlltoallIdeal.τ).loc Cert.AlltoallIdeal.main_arg0) = m ((c.tc : Thread Cert.AlltoallIdeal.nD Cert.AlltoallIdeal.τ).loc Cert.AlltoallIdeal.main_arg0))
      ∧ θ_run (Cert.AlltoallRefIdeal.defs (F := Ideal)) (onTc (τ := Cert.AlltoallRefIdeal.τ) (Cert.AlltoallRefIdeal.main (F := Ideal))) ⟨m', fun _ => 0, g'⟩ (fun r =>
          r.2.mem (((0 : Dev Cert.AlltoallRefIdeal.nD).tc : Thread Cert.AlltoallRefIdeal.nD Cert.AlltoallRefIdeal.τ).loc Cert.AlltoallRefIdeal.main_v2) = v0
          ∧ r.2.mem (((0 : Dev Cert.AlltoallRefIdeal.nD).tc : Thread Cert.AlltoallRefIdeal.nD Cert.AlltoallRefIdeal.τ).loc Cert.AlltoallRefIdeal.main_arg0) = m' (((0 : Dev Cert.AlltoallRefIdeal.nD).tc : Thread Cert.AlltoallRefIdeal.nD Cert.AlltoallRefIdeal.τ).loc Cert.AlltoallRefIdeal.main_arg0))

def bitexact_Alltoall_AlltoallRef [hAlltoall : Cert.Alltoall.Facts] [hAlltoallRef : Cert.AlltoallRef.Facts] : Prop :=
  ∀ (m : (ℓ : Loc Cert.Alltoall.nD Cert.Alltoall.τ Cert.Alltoall.sig) → Buf (Elt Bits) ℓ) (g : Dev Cert.Alltoall.nD → PrngReg)
    (m' : (ℓ : Loc Cert.AlltoallRef.nD Cert.AlltoallRef.τ Cert.AlltoallRef.sig) → Buf (Elt Bits) ℓ) (g' : Dev Cert.AlltoallRef.nD → PrngReg), Pre_Alltoall m →
    (∀ c : Dev Cert.Alltoall.nD,
      m ((c.tc : Thread Cert.Alltoall.nD Cert.Alltoall.τ).loc Cert.Alltoall.main_arg0) = Layout.block ⟨3, ![4, 2848, 1024]⟩ ⟨3, ![32, 2848, 1024]⟩ 0 8 c (m' (((0 : Dev Cert.AlltoallRef.nD).tc : Thread Cert.AlltoallRef.nD Cert.AlltoallRef.τ).loc Cert.AlltoallRef.main_arg0))) →
    ∃ (v0 : Buf (Elt Bits) (((0 : Dev Cert.AlltoallRef.nD).tc : Thread Cert.AlltoallRef.nD Cert.AlltoallRef.τ).loc Cert.AlltoallRef.main_v2)),
      θ_run (Cert.Alltoall.defs (F := Bits)) (onTc (τ := Cert.Alltoall.τ) (Cert.Alltoall.main (F := Bits))) ⟨m, fun _ => 0, g⟩ (fun r => ∀ c : Dev Cert.Alltoall.nD,
          r.2.mem ((c.tc : Thread Cert.Alltoall.nD Cert.Alltoall.τ).loc Cert.Alltoall.main_v1) = Layout.block ⟨3, ![4, 2848, 1024]⟩ ⟨3, ![32, 2848, 1024]⟩ 0 8 c v0
          ∧ r.2.mem ((c.tc : Thread Cert.Alltoall.nD Cert.Alltoall.τ).loc Cert.Alltoall.main_arg0) = m ((c.tc : Thread Cert.Alltoall.nD Cert.Alltoall.τ).loc Cert.Alltoall.main_arg0))
      ∧ θ_run (Cert.AlltoallRef.defs (F := Bits)) (onTc (τ := Cert.AlltoallRef.τ) (Cert.AlltoallRef.main (F := Bits))) ⟨m', fun _ => 0, g'⟩ (fun r =>
          r.2.mem (((0 : Dev Cert.AlltoallRef.nD).tc : Thread Cert.AlltoallRef.nD Cert.AlltoallRef.τ).loc Cert.AlltoallRef.main_v2) = v0
          ∧ r.2.mem (((0 : Dev Cert.AlltoallRef.nD).tc : Thread Cert.AlltoallRef.nD Cert.AlltoallRef.τ).loc Cert.AlltoallRef.main_arg0) = m' (((0 : Dev Cert.AlltoallRef.nD).tc : Thread Cert.AlltoallRef.nD Cert.AlltoallRef.τ).loc Cert.AlltoallRef.main_arg0))

def preserves_Swap_SwapIdeal : Prop :=
  True

def algebraic_SwapIdeal_SwapRefIdeal [hSwapIdeal : Cert.SwapIdeal.Facts] [hSwapRefIdeal : Cert.SwapRefIdeal.Facts] : Prop :=
  ∀ (m : (ℓ : Loc Cert.SwapIdeal.nD Cert.SwapIdeal.τ Cert.SwapIdeal.sig) → Buf (Elt Ideal) ℓ) (g : Dev Cert.SwapIdeal.nD → PrngReg)
    (m' : (ℓ : Loc Cert.SwapRefIdeal.nD Cert.SwapRefIdeal.τ Cert.SwapRefIdeal.sig) → Buf (Elt Ideal) ℓ) (g' : Dev Cert.SwapRefIdeal.nD → PrngReg), Pre_SwapIdeal m →
    (∀ c : Dev Cert.SwapIdeal.nD,
      m ((c.tc : Thread Cert.SwapIdeal.nD Cert.SwapIdeal.τ).loc Cert.SwapIdeal.main_arg0) = Layout.block ⟨3, ![4, 5696, 1024]⟩ ⟨3, ![32, 5696, 1024]⟩ 0 8 c (m' (((0 : Dev Cert.SwapRefIdeal.nD).tc : Thread Cert.SwapRefIdeal.nD Cert.SwapRefIdeal.τ).loc Cert.SwapRefIdeal.main_arg0))) →
    ∃ (v0 : Buf (Elt Ideal) (((0 : Dev Cert.SwapRefIdeal.nD).tc : Thread Cert.SwapRefIdeal.nD Cert.SwapRefIdeal.τ).loc Cert.SwapRefIdeal.main_v8)),
      θ_run (Cert.SwapIdeal.defs (F := Ideal)) (onTc (τ := Cert.SwapIdeal.τ) (Cert.SwapIdeal.main (F := Ideal))) ⟨m, fun _ => 0, g⟩ (fun r => ∀ c : Dev Cert.SwapIdeal.nD,
          r.2.mem ((c.tc : Thread Cert.SwapIdeal.nD Cert.SwapIdeal.τ).loc Cert.SwapIdeal.main_v1) = Layout.block ⟨3, ![4, 2848, 1024]⟩ ⟨3, ![32, 2848, 1024]⟩ 0 8 c v0
          ∧ r.2.mem ((c.tc : Thread Cert.SwapIdeal.nD Cert.SwapIdeal.τ).loc Cert.SwapIdeal.main_arg0) = m ((c.tc : Thread Cert.SwapIdeal.nD Cert.SwapIdeal.τ).loc Cert.SwapIdeal.main_arg0))
      ∧ θ_run (Cert.SwapRefIdeal.defs (F := Ideal)) (onTc (τ := Cert.SwapRefIdeal.τ) (Cert.SwapRefIdeal.main (F := Ideal))) ⟨m', fun _ => 0, g'⟩ (fun r =>
          r.2.mem (((0 : Dev Cert.SwapRefIdeal.nD).tc : Thread Cert.SwapRefIdeal.nD Cert.SwapRefIdeal.τ).loc Cert.SwapRefIdeal.main_v8) = v0
          ∧ r.2.mem (((0 : Dev Cert.SwapRefIdeal.nD).tc : Thread Cert.SwapRefIdeal.nD Cert.SwapRefIdeal.τ).loc Cert.SwapRefIdeal.main_arg0) = m' (((0 : Dev Cert.SwapRefIdeal.nD).tc : Thread Cert.SwapRefIdeal.nD Cert.SwapRefIdeal.τ).loc Cert.SwapRefIdeal.main_arg0))

def bitexact_Swap_SwapRef [hSwap : Cert.Swap.Facts] [hSwapRef : Cert.SwapRef.Facts] : Prop :=
  ∀ (m : (ℓ : Loc Cert.Swap.nD Cert.Swap.τ Cert.Swap.sig) → Buf (Elt Bits) ℓ) (g : Dev Cert.Swap.nD → PrngReg)
    (m' : (ℓ : Loc Cert.SwapRef.nD Cert.SwapRef.τ Cert.SwapRef.sig) → Buf (Elt Bits) ℓ) (g' : Dev Cert.SwapRef.nD → PrngReg), Pre_Swap m →
    (∀ c : Dev Cert.Swap.nD,
      m ((c.tc : Thread Cert.Swap.nD Cert.Swap.τ).loc Cert.Swap.main_arg0) = Layout.block ⟨3, ![4, 5696, 1024]⟩ ⟨3, ![32, 5696, 1024]⟩ 0 8 c (m' (((0 : Dev Cert.SwapRef.nD).tc : Thread Cert.SwapRef.nD Cert.SwapRef.τ).loc Cert.SwapRef.main_arg0))) →
    ∃ (v0 : Buf (Elt Bits) (((0 : Dev Cert.SwapRef.nD).tc : Thread Cert.SwapRef.nD Cert.SwapRef.τ).loc Cert.SwapRef.main_v8)),
      θ_run (Cert.Swap.defs (F := Bits)) (onTc (τ := Cert.Swap.τ) (Cert.Swap.main (F := Bits))) ⟨m, fun _ => 0, g⟩ (fun r => ∀ c : Dev Cert.Swap.nD,
          r.2.mem ((c.tc : Thread Cert.Swap.nD Cert.Swap.τ).loc Cert.Swap.main_v1) = Layout.block ⟨3, ![4, 2848, 1024]⟩ ⟨3, ![32, 2848, 1024]⟩ 0 8 c v0
          ∧ r.2.mem ((c.tc : Thread Cert.Swap.nD Cert.Swap.τ).loc Cert.Swap.main_arg0) = m ((c.tc : Thread Cert.Swap.nD Cert.Swap.τ).loc Cert.Swap.main_arg0))
      ∧ θ_run (Cert.SwapRef.defs (F := Bits)) (onTc (τ := Cert.SwapRef.τ) (Cert.SwapRef.main (F := Bits))) ⟨m', fun _ => 0, g'⟩ (fun r =>
          r.2.mem (((0 : Dev Cert.SwapRef.nD).tc : Thread Cert.SwapRef.nD Cert.SwapRef.τ).loc Cert.SwapRef.main_v8) = v0
          ∧ r.2.mem (((0 : Dev Cert.SwapRef.nD).tc : Thread Cert.SwapRef.nD Cert.SwapRef.τ).loc Cert.SwapRef.main_arg0) = m' (((0 : Dev Cert.SwapRef.nD).tc : Thread Cert.SwapRef.nD Cert.SwapRef.τ).loc Cert.SwapRef.main_arg0))

def preserves_Join_JoinIdeal : Prop :=
  True

def algebraic_JoinIdeal_JoinRefIdeal [hJoinIdeal : Cert.JoinIdeal.Facts] [hJoinRefIdeal : Cert.JoinRefIdeal.Facts] : Prop :=
  ∀ (m : (ℓ : Loc Cert.JoinIdeal.nD Cert.JoinIdeal.τ Cert.JoinIdeal.sig) → Buf (Elt Ideal) ℓ) (g : Dev Cert.JoinIdeal.nD → PrngReg)
    (m' : (ℓ : Loc Cert.JoinRefIdeal.nD Cert.JoinRefIdeal.τ Cert.JoinRefIdeal.sig) → Buf (Elt Ideal) ℓ) (g' : Dev Cert.JoinRefIdeal.nD → PrngReg), Pre_JoinIdeal m →
    (∀ c : Dev Cert.JoinIdeal.nD,
      m ((c.tc : Thread Cert.JoinIdeal.nD Cert.JoinIdeal.τ).loc Cert.JoinIdeal.main_arg0) = Layout.block ⟨2, ![2848, 1024]⟩ ⟨2, ![22784, 1024]⟩ 0 8 c (m' (((0 : Dev Cert.JoinRefIdeal.nD).tc : Thread Cert.JoinRefIdeal.nD Cert.JoinRefIdeal.τ).loc Cert.JoinRefIdeal.main_arg0))) →
    ∃ (v0 : Buf (Elt Ideal) (((0 : Dev Cert.JoinRefIdeal.nD).tc : Thread Cert.JoinRefIdeal.nD Cert.JoinRefIdeal.τ).loc Cert.JoinRefIdeal.main_v0)),
      θ_run (Cert.JoinIdeal.defs (F := Ideal)) (onTc (τ := Cert.JoinIdeal.τ) (Cert.JoinIdeal.main (F := Ideal))) ⟨m, fun _ => 0, g⟩ (fun r => ∀ c : Dev Cert.JoinIdeal.nD,
          r.2.mem ((c.tc : Thread Cert.JoinIdeal.nD Cert.JoinIdeal.τ).loc Cert.JoinIdeal.main_v1) = Layout.blockN ⟨3, ![2, 2848, 1024]⟩ ⟨3, ![8, 2848, 1024]⟩ (Layout.meshBlock [2, 2, 2] ![[0, 1], [], []] c) v0
          ∧ r.2.mem ((c.tc : Thread Cert.JoinIdeal.nD Cert.JoinIdeal.τ).loc Cert.JoinIdeal.main_arg0) = m ((c.tc : Thread Cert.JoinIdeal.nD Cert.JoinIdeal.τ).loc Cert.JoinIdeal.main_arg0))
      ∧ θ_run (Cert.JoinRefIdeal.defs (F := Ideal)) (onTc (τ := Cert.JoinRefIdeal.τ) (Cert.JoinRefIdeal.main (F := Ideal))) ⟨m', fun _ => 0, g'⟩ (fun r =>
          r.2.mem (((0 : Dev Cert.JoinRefIdeal.nD).tc : Thread Cert.JoinRefIdeal.nD Cert.JoinRefIdeal.τ).loc Cert.JoinRefIdeal.main_v0) = v0
          ∧ r.2.mem (((0 : Dev Cert.JoinRefIdeal.nD).tc : Thread Cert.JoinRefIdeal.nD Cert.JoinRefIdeal.τ).loc Cert.JoinRefIdeal.main_arg0) = m' (((0 : Dev Cert.JoinRefIdeal.nD).tc : Thread Cert.JoinRefIdeal.nD Cert.JoinRefIdeal.τ).loc Cert.JoinRefIdeal.main_arg0))

def bitexact_Join_JoinRef [hJoin : Cert.Join.Facts] [hJoinRef : Cert.JoinRef.Facts] : Prop :=
  ∀ (m : (ℓ : Loc Cert.Join.nD Cert.Join.τ Cert.Join.sig) → Buf (Elt Bits) ℓ) (g : Dev Cert.Join.nD → PrngReg)
    (m' : (ℓ : Loc Cert.JoinRef.nD Cert.JoinRef.τ Cert.JoinRef.sig) → Buf (Elt Bits) ℓ) (g' : Dev Cert.JoinRef.nD → PrngReg), Pre_Join m →
    (∀ c : Dev Cert.Join.nD,
      m ((c.tc : Thread Cert.Join.nD Cert.Join.τ).loc Cert.Join.main_arg0) = Layout.block ⟨2, ![2848, 1024]⟩ ⟨2, ![22784, 1024]⟩ 0 8 c (m' (((0 : Dev Cert.JoinRef.nD).tc : Thread Cert.JoinRef.nD Cert.JoinRef.τ).loc Cert.JoinRef.main_arg0))) →
    ∃ (v0 : Buf (Elt Bits) (((0 : Dev Cert.JoinRef.nD).tc : Thread Cert.JoinRef.nD Cert.JoinRef.τ).loc Cert.JoinRef.main_v0)),
      θ_run (Cert.Join.defs (F := Bits)) (onTc (τ := Cert.Join.τ) (Cert.Join.main (F := Bits))) ⟨m, fun _ => 0, g⟩ (fun r => ∀ c : Dev Cert.Join.nD,
          r.2.mem ((c.tc : Thread Cert.Join.nD Cert.Join.τ).loc Cert.Join.main_v1) = Layout.blockN ⟨3, ![2, 2848, 1024]⟩ ⟨3, ![8, 2848, 1024]⟩ (Layout.meshBlock [2, 2, 2] ![[0, 1], [], []] c) v0
          ∧ r.2.mem ((c.tc : Thread Cert.Join.nD Cert.Join.τ).loc Cert.Join.main_arg0) = m ((c.tc : Thread Cert.Join.nD Cert.Join.τ).loc Cert.Join.main_arg0))
      ∧ θ_run (Cert.JoinRef.defs (F := Bits)) (onTc (τ := Cert.JoinRef.τ) (Cert.JoinRef.main (F := Bits))) ⟨m', fun _ => 0, g'⟩ (fun r =>
          r.2.mem (((0 : Dev Cert.JoinRef.nD).tc : Thread Cert.JoinRef.nD Cert.JoinRef.τ).loc Cert.JoinRef.main_v0) = v0
          ∧ r.2.mem (((0 : Dev Cert.JoinRef.nD).tc : Thread Cert.JoinRef.nD Cert.JoinRef.τ).loc Cert.JoinRef.main_arg0) = m' (((0 : Dev Cert.JoinRef.nD).tc : Thread Cert.JoinRef.nD Cert.JoinRef.τ).loc Cert.JoinRef.main_arg0))

def preserves_Gather_GatherIdeal : Prop :=
  True

def algebraic_GatherIdeal_GatherRefIdeal [hGatherIdeal : Cert.GatherIdeal.Facts] [hGatherRefIdeal : Cert.GatherRefIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m ((c.tc : Thread Cert.GatherIdeal.nD Cert.GatherIdeal.τ).loc Cert.GatherIdeal.main_arg0) = Layout.block ⟨2, ![2848, 1024]⟩ ⟨2, ![22784, 1024]⟩ 0 8 c (m' (((0 : Dev Cert.GatherRefIdeal.nD).tc : Thread Cert.GatherRefIdeal.nD Cert.GatherRefIdeal.τ).loc Cert.GatherRefIdeal.main_arg0))) →
    ∃ (v0 : Buf (Elt Ideal) (((0 : Dev Cert.GatherRefIdeal.nD).tc : Thread Cert.GatherRefIdeal.nD Cert.GatherRefIdeal.τ).loc Cert.GatherRefIdeal.main_v0)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1) = v0
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ θ_run (Cert.GatherRefIdeal.defs (F := Ideal)) (onTc (τ := Cert.GatherRefIdeal.τ) (Cert.GatherRefIdeal.main (F := Ideal))) ⟨m', fun _ => 0, g'⟩ (fun r =>
          r.2.mem (((0 : Dev Cert.GatherRefIdeal.nD).tc : Thread Cert.GatherRefIdeal.nD Cert.GatherRefIdeal.τ).loc Cert.GatherRefIdeal.main_v0) = v0
          ∧ r.2.mem (((0 : Dev Cert.GatherRefIdeal.nD).tc : Thread Cert.GatherRefIdeal.nD Cert.GatherRefIdeal.τ).loc Cert.GatherRefIdeal.main_arg0) = m' (((0 : Dev Cert.GatherRefIdeal.nD).tc : Thread Cert.GatherRefIdeal.nD Cert.GatherRefIdeal.τ).loc Cert.GatherRefIdeal.main_arg0))

def bitexact_Gather_GatherRef [hGather : Cert.Gather.Facts] [hGatherRef : Cert.GatherRef.Facts] : Prop :=
  ∀ (m : (ℓ : Loc Cert.Gather.nD Cert.Gather.τ Cert.Gather.sig) → Buf (Elt Bits) ℓ) (g : Dev Cert.Gather.nD → PrngReg)
    (m' : (ℓ : Loc Cert.GatherRef.nD Cert.GatherRef.τ Cert.GatherRef.sig) → Buf (Elt Bits) ℓ) (g' : Dev Cert.GatherRef.nD → PrngReg), Pre_Gather m →
    (∀ c : Dev Cert.Gather.nD,
      m ((c.tc : Thread Cert.Gather.nD Cert.Gather.τ).loc Cert.Gather.main_arg0) = Layout.block ⟨2, ![2848, 1024]⟩ ⟨2, ![22784, 1024]⟩ 0 8 c (m' (((0 : Dev Cert.GatherRef.nD).tc : Thread Cert.GatherRef.nD Cert.GatherRef.τ).loc Cert.GatherRef.main_arg0))) →
    ∃ (v0 : Buf (Elt Bits) (((0 : Dev Cert.GatherRef.nD).tc : Thread Cert.GatherRef.nD Cert.GatherRef.τ).loc Cert.GatherRef.main_v0)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1) = v0
          ∧ r.2.mem ((c.tc : Thread Cert.Gather.nD Cert.Gather.τ).loc Cert.Gather.main_arg0) = m ((c.tc : Thread Cert.Gather.nD Cert.Gather.τ).loc Cert.Gather.main_arg0))
      ∧ θ_run (Cert.GatherRef.defs (F := Bits)) (onTc (τ := Cert.GatherRef.τ) (Cert.GatherRef.main (F := Bits))) ⟨m', fun _ => 0, g'⟩ (fun r =>
          r.2.mem (((0 : Dev Cert.GatherRef.nD).tc : Thread Cert.GatherRef.nD Cert.GatherRef.τ).loc Cert.GatherRef.main_v0) = v0
          ∧ r.2.mem (((0 : Dev Cert.GatherRef.nD).tc : Thread Cert.GatherRef.nD Cert.GatherRef.τ).loc Cert.GatherRef.main_arg0) = m' (((0 : Dev Cert.GatherRef.nD).tc : Thread Cert.GatherRef.nD Cert.GatherRef.τ).loc Cert.GatherRef.main_arg0))

def preserves_GatherSmall_GatherSmallIdeal : Prop :=
  True

def algebraic_GatherSmallIdeal_GatherSmallRefIdeal [hGatherSmallIdeal : Cert.GatherSmallIdeal.Facts] [hGatherSmallRefIdeal : Cert.GatherSmallRefIdeal.Facts] : Prop :=
  ∀ (m : (ℓ : Loc Cert.GatherSmallIdeal.nD Cert.GatherSmallIdeal.τ Cert.GatherSmallIdeal.sig) → Buf (Elt Ideal) ℓ) (g : Dev Cert.GatherSmallIdeal.nD → PrngReg)
    (m' : (ℓ : Loc Cert.GatherSmallRefIdeal.nD Cert.GatherSmallRefIdeal.τ Cert.GatherSmallRefIdeal.sig) → Buf (Elt Ideal) ℓ) (g' : Dev Cert.GatherSmallRefIdeal.nD → PrngReg), Pre_GatherSmallIdeal m →
    (∀ c : Dev Cert.GatherSmallIdeal.nD,
      m ((c.tc : Thread Cert.GatherSmallIdeal.nD Cert.GatherSmallIdeal.τ).loc Cert.GatherSmallIdeal.main_arg0) = Layout.block ⟨2, ![16, 1024]⟩ ⟨2, ![128, 1024]⟩ 0 8 c (m' (((0 : Dev Cert.GatherSmallRefIdeal.nD).tc : Thread Cert.GatherSmallRefIdeal.nD Cert.GatherSmallRefIdeal.τ).loc Cert.GatherSmallRefIdeal.main_arg0))) →
    ∃ (v0 : Buf (Elt Ideal) (((0 : Dev Cert.GatherSmallRefIdeal.nD).tc : Thread Cert.GatherSmallRefIdeal.nD Cert.GatherSmallRefIdeal.τ).loc Cert.GatherSmallRefIdeal.main_v0)),
      θ_run (Cert.GatherSmallIdeal.defs (F := Ideal)) (onTc (τ := Cert.GatherSmallIdeal.τ) (Cert.GatherSmallIdeal.main (F := Ideal))) ⟨m, fun _ => 0, g⟩ (fun r => ∀ c : Dev Cert.GatherSmallIdeal.nD,
          r.2.mem ((c.tc : Thread Cert.GatherSmallIdeal.nD Cert.GatherSmallIdeal.τ).loc Cert.GatherSmallIdeal.main_v1) = v0
          ∧ r.2.mem ((c.tc : Thread Cert.GatherSmallIdeal.nD Cert.GatherSmallIdeal.τ).loc Cert.GatherSmallIdeal.main_arg0) = m ((c.tc : Thread Cert.GatherSmallIdeal.nD Cert.GatherSmallIdeal.τ).loc Cert.GatherSmallIdeal.main_arg0))
      ∧ θ_run (Cert.GatherSmallRefIdeal.defs (F := Ideal)) (onTc (τ := Cert.GatherSmallRefIdeal.τ) (Cert.GatherSmallRefIdeal.main (F := Ideal))) ⟨m', fun _ => 0, g'⟩ (fun r =>
          r.2.mem (((0 : Dev Cert.GatherSmallRefIdeal.nD).tc : Thread Cert.GatherSmallRefIdeal.nD Cert.GatherSmallRefIdeal.τ).loc Cert.GatherSmallRefIdeal.main_v0) = v0
          ∧ r.2.mem (((0 : Dev Cert.GatherSmallRefIdeal.nD).tc : Thread Cert.GatherSmallRefIdeal.nD Cert.GatherSmallRefIdeal.τ).loc Cert.GatherSmallRefIdeal.main_arg0) = m' (((0 : Dev Cert.GatherSmallRefIdeal.nD).tc : Thread Cert.GatherSmallRefIdeal.nD Cert.GatherSmallRefIdeal.τ).loc Cert.GatherSmallRefIdeal.main_arg0))

def bitexact_GatherSmall_GatherSmallRef [hGatherSmall : Cert.GatherSmall.Facts] [hGatherSmallRef : Cert.GatherSmallRef.Facts] : Prop :=
  ∀ (m : (ℓ : Loc Cert.GatherSmall.nD Cert.GatherSmall.τ Cert.GatherSmall.sig) → Buf (Elt Bits) ℓ) (g : Dev Cert.GatherSmall.nD → PrngReg)
    (m' : (ℓ : Loc Cert.GatherSmallRef.nD Cert.GatherSmallRef.τ Cert.GatherSmallRef.sig) → Buf (Elt Bits) ℓ) (g' : Dev Cert.GatherSmallRef.nD → PrngReg), Pre_GatherSmall m →
    (∀ c : Dev Cert.GatherSmall.nD,
      m ((c.tc : Thread Cert.GatherSmall.nD Cert.GatherSmall.τ).loc Cert.GatherSmall.main_arg0) = Layout.block ⟨2, ![16, 1024]⟩ ⟨2, ![128, 1024]⟩ 0 8 c (m' (((0 : Dev Cert.GatherSmallRef.nD).tc : Thread Cert.GatherSmallRef.nD Cert.GatherSmallRef.τ).loc Cert.GatherSmallRef.main_arg0))) →
    ∃ (v0 : Buf (Elt Bits) (((0 : Dev Cert.GatherSmallRef.nD).tc : Thread Cert.GatherSmallRef.nD Cert.GatherSmallRef.τ).loc Cert.GatherSmallRef.main_v0)),
      θ_run (Cert.GatherSmall.defs (F := Bits)) (onTc (τ := Cert.GatherSmall.τ) (Cert.GatherSmall.main (F := Bits))) ⟨m, fun _ => 0, g⟩ (fun r => ∀ c : Dev Cert.GatherSmall.nD,
          r.2.mem ((c.tc : Thread Cert.GatherSmall.nD Cert.GatherSmall.τ).loc Cert.GatherSmall.main_v1) = v0
          ∧ r.2.mem ((c.tc : Thread Cert.GatherSmall.nD Cert.GatherSmall.τ).loc Cert.GatherSmall.main_arg0) = m ((c.tc : Thread Cert.GatherSmall.nD Cert.GatherSmall.τ).loc Cert.GatherSmall.main_arg0))
      ∧ θ_run (Cert.GatherSmallRef.defs (F := Bits)) (onTc (τ := Cert.GatherSmallRef.τ) (Cert.GatherSmallRef.main (F := Bits))) ⟨m', fun _ => 0, g'⟩ (fun r =>
          r.2.mem (((0 : Dev Cert.GatherSmallRef.nD).tc : Thread Cert.GatherSmallRef.nD Cert.GatherSmallRef.τ).loc Cert.GatherSmallRef.main_v0) = v0
          ∧ r.2.mem (((0 : Dev Cert.GatherSmallRef.nD).tc : Thread Cert.GatherSmallRef.nD Cert.GatherSmallRef.τ).loc Cert.GatherSmallRef.main_arg0) = m' (((0 : Dev Cert.GatherSmallRef.nD).tc : Thread Cert.GatherSmallRef.nD Cert.GatherSmallRef.τ).loc Cert.GatherSmallRef.main_arg0))

def preserves_GatherMod_GatherModIdeal : Prop :=
  True

def algebraic_GatherModIdeal_GatherModRefIdeal [hGatherModIdeal : Cert.GatherModIdeal.Facts] [hGatherModRefIdeal : Cert.GatherModRefIdeal.Facts] : Prop :=
  ∀ (m : (ℓ : Loc Cert.GatherModIdeal.nD Cert.GatherModIdeal.τ Cert.GatherModIdeal.sig) → Buf (Elt Ideal) ℓ) (g : Dev Cert.GatherModIdeal.nD → PrngReg)
    (m' : (ℓ : Loc Cert.GatherModRefIdeal.nD Cert.GatherModRefIdeal.τ Cert.GatherModRefIdeal.sig) → Buf (Elt Ideal) ℓ) (g' : Dev Cert.GatherModRefIdeal.nD → PrngReg), Pre_GatherModIdeal m →
    (∀ c : Dev Cert.GatherModIdeal.nD,
      m ((c.tc : Thread Cert.GatherModIdeal.nD Cert.GatherModIdeal.τ).loc Cert.GatherModIdeal.main_arg0) = Layout.block ⟨2, ![8, 1536]⟩ ⟨2, ![64, 1536]⟩ 0 8 c (m' (((0 : Dev Cert.GatherModRefIdeal.nD).tc : Thread Cert.GatherModRefIdeal.nD Cert.GatherModRefIdeal.τ).loc Cert.GatherModRefIdeal.main_arg0))) →
    ∃ (v0 : Buf (Elt Ideal) (((0 : Dev Cert.GatherModRefIdeal.nD).tc : Thread Cert.GatherModRefIdeal.nD Cert.GatherModRefIdeal.τ).loc Cert.GatherModRefIdeal.main_v0)),
      θ_run (Cert.GatherModIdeal.defs (F := Ideal)) (onTc (τ := Cert.GatherModIdeal.τ) (Cert.GatherModIdeal.main (F := Ideal))) ⟨m, fun _ => 0, g⟩ (fun r => ∀ c : Dev Cert.GatherModIdeal.nD,
          r.2.mem ((c.tc : Thread Cert.GatherModIdeal.nD Cert.GatherModIdeal.τ).loc Cert.GatherModIdeal.main_v1) = v0
          ∧ r.2.mem ((c.tc : Thread Cert.GatherModIdeal.nD Cert.GatherModIdeal.τ).loc Cert.GatherModIdeal.main_arg0) = m ((c.tc : Thread Cert.GatherModIdeal.nD Cert.GatherModIdeal.τ).loc Cert.GatherModIdeal.main_arg0))
      ∧ θ_run (Cert.GatherModRefIdeal.defs (F := Ideal)) (onTc (τ := Cert.GatherModRefIdeal.τ) (Cert.GatherModRefIdeal.main (F := Ideal))) ⟨m', fun _ => 0, g'⟩ (fun r =>
          r.2.mem (((0 : Dev Cert.GatherModRefIdeal.nD).tc : Thread Cert.GatherModRefIdeal.nD Cert.GatherModRefIdeal.τ).loc Cert.GatherModRefIdeal.main_v0) = v0
          ∧ r.2.mem (((0 : Dev Cert.GatherModRefIdeal.nD).tc : Thread Cert.GatherModRefIdeal.nD Cert.GatherModRefIdeal.τ).loc Cert.GatherModRefIdeal.main_arg0) = m' (((0 : Dev Cert.GatherModRefIdeal.nD).tc : Thread Cert.GatherModRefIdeal.nD Cert.GatherModRefIdeal.τ).loc Cert.GatherModRefIdeal.main_arg0))

def bitexact_GatherMod_GatherModRef [hGatherMod : Cert.GatherMod.Facts] [hGatherModRef : Cert.GatherModRef.Facts] : Prop :=
  ∀ (m : (ℓ : Loc Cert.GatherMod.nD Cert.GatherMod.τ Cert.GatherMod.sig) → Buf (Elt Bits) ℓ) (g : Dev Cert.GatherMod.nD → PrngReg)
    (m' : (ℓ : Loc Cert.GatherModRef.nD Cert.GatherModRef.τ Cert.GatherModRef.sig) → Buf (Elt Bits) ℓ) (g' : Dev Cert.GatherModRef.nD → PrngReg), Pre_GatherMod m →
    (∀ c : Dev Cert.GatherMod.nD,
      m ((c.tc : Thread Cert.GatherMod.nD Cert.GatherMod.τ).loc Cert.GatherMod.main_arg0) = Layout.block ⟨2, ![8, 1536]⟩ ⟨2, ![64, 1536]⟩ 0 8 c (m' (((0 : Dev Cert.GatherModRef.nD).tc : Thread Cert.GatherModRef.nD Cert.GatherModRef.τ).loc Cert.GatherModRef.main_arg0))) →
    ∃ (v0 : Buf (Elt Bits) (((0 : Dev Cert.GatherModRef.nD).tc : Thread Cert.GatherModRef.nD Cert.GatherModRef.τ).loc Cert.GatherModRef.main_v0)),
      θ_run (Cert.GatherMod.defs (F := Bits)) (onTc (τ := Cert.GatherMod.τ) (Cert.GatherMod.main (F := Bits))) ⟨m, fun _ => 0, g⟩ (fun r => ∀ c : Dev Cert.GatherMod.nD,
          r.2.mem ((c.tc : Thread Cert.GatherMod.nD Cert.GatherMod.τ).loc Cert.GatherMod.main_v1) = v0
          ∧ r.2.mem ((c.tc : Thread Cert.GatherMod.nD Cert.GatherMod.τ).loc Cert.GatherMod.main_arg0) = m ((c.tc : Thread Cert.GatherMod.nD Cert.GatherMod.τ).loc Cert.GatherMod.main_arg0))
      ∧ θ_run (Cert.GatherModRef.defs (F := Bits)) (onTc (τ := Cert.GatherModRef.τ) (Cert.GatherModRef.main (F := Bits))) ⟨m', fun _ => 0, g'⟩ (fun r =>
          r.2.mem (((0 : Dev Cert.GatherModRef.nD).tc : Thread Cert.GatherModRef.nD Cert.GatherModRef.τ).loc Cert.GatherModRef.main_v0) = v0
          ∧ r.2.mem (((0 : Dev Cert.GatherModRef.nD).tc : Thread Cert.GatherModRef.nD Cert.GatherModRef.τ).loc Cert.GatherModRef.main_arg0) = m' (((0 : Dev Cert.GatherModRef.nD).tc : Thread Cert.GatherModRef.nD Cert.GatherModRef.τ).loc Cert.GatherModRef.main_arg0))

def preserves_GatherParts_GatherPartsIdeal : Prop :=
  True

def algebraic_GatherPartsIdeal_GatherPartsRefIdeal [hGatherPartsIdeal : Cert.GatherPartsIdeal.Facts] [hGatherPartsRefIdeal : Cert.GatherPartsRefIdeal.Facts] : Prop :=
  ∀ (m : (ℓ : Loc Cert.GatherPartsIdeal.nD Cert.GatherPartsIdeal.τ Cert.GatherPartsIdeal.sig) → Buf (Elt Ideal) ℓ) (g : Dev Cert.GatherPartsIdeal.nD → PrngReg)
    (m' : (ℓ : Loc Cert.GatherPartsRefIdeal.nD Cert.GatherPartsRefIdeal.τ Cert.GatherPartsRefIdeal.sig) → Buf (Elt Ideal) ℓ) (g' : Dev Cert.GatherPartsRefIdeal.nD → PrngReg), Pre_GatherPartsIdeal m →
    (∀ c : Dev Cert.GatherPartsIdeal.nD,
      m ((c.tc : Thread Cert.GatherPartsIdeal.nD Cert.GatherPartsIdeal.τ).loc Cert.GatherPartsIdeal.main_arg0) = Layout.block ⟨2, ![80, 1024]⟩ ⟨2, ![640, 1024]⟩ 0 8 c (m' (((0 : Dev Cert.GatherPartsRefIdeal.nD).tc : Thread Cert.GatherPartsRefIdeal.nD Cert.GatherPartsRefIdeal.τ).loc Cert.GatherPartsRefIdeal.main_arg0))) →
    ∃ (v0 : Buf (Elt Ideal) (((0 : Dev Cert.GatherPartsRefIdeal.nD).tc : Thread Cert.GatherPartsRefIdeal.nD Cert.GatherPartsRefIdeal.τ).loc Cert.GatherPartsRefIdeal.main_v0)),
      θ_run (Cert.GatherPartsIdeal.defs (F := Ideal)) (onTc (τ := Cert.GatherPartsIdeal.τ) (Cert.GatherPartsIdeal.main (F := Ideal))) ⟨m, fun _ => 0, g⟩ (fun r => ∀ c : Dev Cert.GatherPartsIdeal.nD,
          r.2.mem ((c.tc : Thread Cert.GatherPartsIdeal.nD Cert.GatherPartsIdeal.τ).loc Cert.GatherPartsIdeal.main_v1) = v0
          ∧ r.2.mem ((c.tc : Thread Cert.GatherPartsIdeal.nD Cert.GatherPartsIdeal.τ).loc Cert.GatherPartsIdeal.main_arg0) = m ((c.tc : Thread Cert.GatherPartsIdeal.nD Cert.GatherPartsIdeal.τ).loc Cert.GatherPartsIdeal.main_arg0))
      ∧ θ_run (Cert.GatherPartsRefIdeal.defs (F := Ideal)) (onTc (τ := Cert.GatherPartsRefIdeal.τ) (Cert.GatherPartsRefIdeal.main (F := Ideal))) ⟨m', fun _ => 0, g'⟩ (fun r =>
          r.2.mem (((0 : Dev Cert.GatherPartsRefIdeal.nD).tc : Thread Cert.GatherPartsRefIdeal.nD Cert.GatherPartsRefIdeal.τ).loc Cert.GatherPartsRefIdeal.main_v0) = v0
          ∧ r.2.mem (((0 : Dev Cert.GatherPartsRefIdeal.nD).tc : Thread Cert.GatherPartsRefIdeal.nD Cert.GatherPartsRefIdeal.τ).loc Cert.GatherPartsRefIdeal.main_arg0) = m' (((0 : Dev Cert.GatherPartsRefIdeal.nD).tc : Thread Cert.GatherPartsRefIdeal.nD Cert.GatherPartsRefIdeal.τ).loc Cert.GatherPartsRefIdeal.main_arg0))

def bitexact_GatherParts_GatherPartsRef [hGatherParts : Cert.GatherParts.Facts] [hGatherPartsRef : Cert.GatherPartsRef.Facts] : Prop :=
  ∀ (m : (ℓ : Loc Cert.GatherParts.nD Cert.GatherParts.τ Cert.GatherParts.sig) → Buf (Elt Bits) ℓ) (g : Dev Cert.GatherParts.nD → PrngReg)
    (m' : (ℓ : Loc Cert.GatherPartsRef.nD Cert.GatherPartsRef.τ Cert.GatherPartsRef.sig) → Buf (Elt Bits) ℓ) (g' : Dev Cert.GatherPartsRef.nD → PrngReg), Pre_GatherParts m →
    (∀ c : Dev Cert.GatherParts.nD,
      m ((c.tc : Thread Cert.GatherParts.nD Cert.GatherParts.τ).loc Cert.GatherParts.main_arg0) = Layout.block ⟨2, ![80, 1024]⟩ ⟨2, ![640, 1024]⟩ 0 8 c (m' (((0 : Dev Cert.GatherPartsRef.nD).tc : Thread Cert.GatherPartsRef.nD Cert.GatherPartsRef.τ).loc Cert.GatherPartsRef.main_arg0))) →
    ∃ (v0 : Buf (Elt Bits) (((0 : Dev Cert.GatherPartsRef.nD).tc : Thread Cert.GatherPartsRef.nD Cert.GatherPartsRef.τ).loc Cert.GatherPartsRef.main_v0)),
      θ_run (Cert.GatherParts.defs (F := Bits)) (onTc (τ := Cert.GatherParts.τ) (Cert.GatherParts.main (F := Bits))) ⟨m, fun _ => 0, g⟩ (fun r => ∀ c : Dev Cert.GatherParts.nD,
          r.2.mem ((c.tc : Thread Cert.GatherParts.nD Cert.GatherParts.τ).loc Cert.GatherParts.main_v1) = v0
          ∧ r.2.mem ((c.tc : Thread Cert.GatherParts.nD Cert.GatherParts.τ).loc Cert.GatherParts.main_arg0) = m ((c.tc : Thread Cert.GatherParts.nD Cert.GatherParts.τ).loc Cert.GatherParts.main_arg0))
      ∧ θ_run (Cert.GatherPartsRef.defs (F := Bits)) (onTc (τ := Cert.GatherPartsRef.τ) (Cert.GatherPartsRef.main (F := Bits))) ⟨m', fun _ => 0, g'⟩ (fun r =>
          r.2.mem (((0 : Dev Cert.GatherPartsRef.nD).tc : Thread Cert.GatherPartsRef.nD Cert.GatherPartsRef.τ).loc Cert.GatherPartsRef.main_v0) = v0
          ∧ r.2.mem (((0 : Dev Cert.GatherPartsRef.nD).tc : Thread Cert.GatherPartsRef.nD Cert.GatherPartsRef.τ).loc Cert.GatherPartsRef.main_arg0) = m' (((0 : Dev Cert.GatherPartsRef.nD).tc : Thread Cert.GatherPartsRef.nD Cert.GatherPartsRef.τ).loc Cert.GatherPartsRef.main_arg0))

def preserves_AdamBig_AdamBigIdeal : Prop :=
  True

def algebraic_AdamBigIdeal_AdamBigRefIdeal [hAdamBigIdeal : Cert.AdamBigIdeal.Facts] [hAdamBigRefIdeal : Cert.AdamBigRefIdeal.Facts] : Prop :=
  ∀ (m : (ℓ : Loc Cert.AdamBigIdeal.nD Cert.AdamBigIdeal.τ Cert.AdamBigIdeal.sig) → Buf (Elt Ideal) ℓ) (g : Dev Cert.AdamBigIdeal.nD → PrngReg)
    (m' : (ℓ : Loc Cert.AdamBigRefIdeal.nD Cert.AdamBigRefIdeal.τ Cert.AdamBigRefIdeal.sig) → Buf (Elt Ideal) ℓ) (g' : Dev Cert.AdamBigRefIdeal.nD → PrngReg), Pre_AdamBigIdeal m →
    (∀ c : Dev Cert.AdamBigIdeal.nD,
      m' ((c.tc : Thread Cert.AdamBigRefIdeal.nD Cert.AdamBigRefIdeal.τ).loc Cert.AdamBigRefIdeal.main_arg0) = m ((c.tc : Thread Cert.AdamBigIdeal.nD Cert.AdamBigIdeal.τ).loc Cert.AdamBigIdeal.main_arg0)
      ∧ m' ((c.tc : Thread Cert.AdamBigRefIdeal.nD Cert.AdamBigRefIdeal.τ).loc Cert.AdamBigRefIdeal.main_arg1) = m ((c.tc : Thread Cert.AdamBigIdeal.nD Cert.AdamBigIdeal.τ).loc Cert.AdamBigIdeal.main_arg1)
      ∧ m' ((c.tc : Thread Cert.AdamBigRefIdeal.nD Cert.AdamBigRefIdeal.τ).loc Cert.AdamBigRefIdeal.main_arg2) = m ((c.tc : Thread Cert.AdamBigIdeal.nD Cert.AdamBigIdeal.τ).loc Cert.AdamBigIdeal.main_arg2)
      ∧ m' ((c.tc : Thread Cert.AdamBigRefIdeal.nD Cert.AdamBigRefIdeal.τ).loc Cert.AdamBigRefIdeal.main_arg3) = m ((c.tc : Thread Cert.AdamBigIdeal.nD Cert.AdamBigIdeal.τ).loc Cert.AdamBigIdeal.main_arg3)) →
    ∃ (v0 : (c : Dev Cert.AdamBigIdeal.nD) → Buf (Elt Ideal) ((c.tc : Thread Cert.AdamBigIdeal.nD Cert.AdamBigIdeal.τ).loc Cert.AdamBigIdeal.main_v0_0)) (v1 : (c : Dev Cert.AdamBigIdeal.nD) → Buf (Elt Ideal) ((c.tc : Thread Cert.AdamBigIdeal.nD Cert.AdamBigIdeal.τ).loc Cert.AdamBigIdeal.main_v0_1)) (v2 : (c : Dev Cert.AdamBigIdeal.nD) → Buf (Elt Ideal) ((c.tc : Thread Cert.AdamBigIdeal.nD Cert.AdamBigIdeal.τ).loc Cert.AdamBigIdeal.main_v0_2)),
      θ_run (Cert.AdamBigIdeal.defs (F := Ideal)) (onTc (τ := Cert.AdamBigIdeal.τ) (Cert.AdamBigIdeal.main (F := Ideal))) ⟨m, fun _ => 0, g⟩ (fun r => ∀ c : Dev Cert.AdamBigIdeal.nD,
          r.2.mem ((c.tc : Thread Cert.AdamBigIdeal.nD Cert.AdamBigIdeal.τ).loc Cert.AdamBigIdeal.main_v0_0) = v0 c
          ∧ r.2.mem ((c.tc : Thread Cert.AdamBigIdeal.nD Cert.AdamBigIdeal.τ).loc Cert.AdamBigIdeal.main_v0_1) = v1 c
          ∧ r.2.mem ((c.tc : Thread Cert.AdamBigIdeal.nD Cert.AdamBigIdeal.τ).loc Cert.AdamBigIdeal.main_v0_2) = v2 c
          ∧ r.2.mem ((c.tc : Thread Cert.AdamBigIdeal.nD Cert.AdamBigIdeal.τ).loc Cert.AdamBigIdeal.main_arg0) = m ((c.tc : Thread Cert.AdamBigIdeal.nD Cert.AdamBigIdeal.τ).loc Cert.AdamBigIdeal.main_arg0)
          ∧ r.2.mem ((c.tc : Thread Cert.AdamBigIdeal.nD Cert.AdamBigIdeal.τ).loc Cert.AdamBigIdeal.main_arg1) = m ((c.tc : Thread Cert.AdamBigIdeal.nD Cert.AdamBigIdeal.τ).loc Cert.AdamBigIdeal.main_arg1)
          ∧ r.2.mem ((c.tc : Thread Cert.AdamBigIdeal.nD Cert.AdamBigIdeal.τ).loc Cert.AdamBigIdeal.main_arg2) = m ((c.tc : Thread Cert.AdamBigIdeal.nD Cert.AdamBigIdeal.τ).loc Cert.AdamBigIdeal.main_arg2)
          ∧ r.2.mem ((c.tc : Thread Cert.AdamBigIdeal.nD Cert.AdamBigIdeal.τ).loc Cert.AdamBigIdeal.main_arg3) = m ((c.tc : Thread Cert.AdamBigIdeal.nD Cert.AdamBigIdeal.τ).loc Cert.AdamBigIdeal.main_arg3))
      ∧ θ_run (Cert.AdamBigRefIdeal.defs (F := Ideal)) (onTc (τ := Cert.AdamBigRefIdeal.τ) (Cert.AdamBigRefIdeal.main (F := Ideal))) ⟨m', fun _ => 0, g'⟩ (fun r => ∀ c : Dev Cert.AdamBigRefIdeal.nD,
          r.2.mem ((c.tc : Thread Cert.AdamBigRefIdeal.nD Cert.AdamBigRefIdeal.τ).loc Cert.AdamBigRefIdeal.main_v23) = v0 c
          ∧ r.2.mem ((c.tc : Thread Cert.AdamBigRefIdeal.nD Cert.AdamBigRefIdeal.τ).loc Cert.AdamBigRefIdeal.main_v4) = v1 c
          ∧ r.2.mem ((c.tc : Thread Cert.AdamBigRefIdeal.nD Cert.AdamBigRefIdeal.τ).loc Cert.AdamBigRefIdeal.main_v10) = v2 c
          ∧ r.2.mem ((c.tc : Thread Cert.AdamBigRefIdeal.nD Cert.AdamBigRefIdeal.τ).loc Cert.AdamBigRefIdeal.main_arg0) = m' ((c.tc : Thread Cert.AdamBigRefIdeal.nD Cert.AdamBigRefIdeal.τ).loc Cert.AdamBigRefIdeal.main_arg0)
          ∧ r.2.mem ((c.tc : Thread Cert.AdamBigRefIdeal.nD Cert.AdamBigRefIdeal.τ).loc Cert.AdamBigRefIdeal.main_arg1) = m' ((c.tc : Thread Cert.AdamBigRefIdeal.nD Cert.AdamBigRefIdeal.τ).loc Cert.AdamBigRefIdeal.main_arg1)
          ∧ r.2.mem ((c.tc : Thread Cert.AdamBigRefIdeal.nD Cert.AdamBigRefIdeal.τ).loc Cert.AdamBigRefIdeal.main_arg2) = m' ((c.tc : Thread Cert.AdamBigRefIdeal.nD Cert.AdamBigRefIdeal.τ).loc Cert.AdamBigRefIdeal.main_arg2)
          ∧ r.2.mem ((c.tc : Thread Cert.AdamBigRefIdeal.nD Cert.AdamBigRefIdeal.τ).loc Cert.AdamBigRefIdeal.main_arg3) = m' ((c.tc : Thread Cert.AdamBigRefIdeal.nD Cert.AdamBigRefIdeal.τ).loc Cert.AdamBigRefIdeal.main_arg3))

def preserves_AdamAda_AdamAdaIdeal : Prop :=
  True

def algebraic_AdamAdaIdeal_AdamAdaRefIdeal [hAdamAdaIdeal : Cert.AdamAdaIdeal.Facts] [hAdamAdaRefIdeal : Cert.AdamAdaRefIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.AdamAdaRefIdeal.nD Cert.AdamAdaRefIdeal.τ Cert.AdamAdaRefIdeal.sig) → Buf (Elt Ideal) ℓ) (g' : Dev Cert.AdamAdaRefIdeal.nD → PrngReg), Pre_AdamAdaIdeal m →
    (∀ c : Dev Cert.AdamAdaIdeal.nD,
      m' ((c.tc : Thread Cert.AdamAdaRefIdeal.nD Cert.AdamAdaRefIdeal.τ).loc Cert.AdamAdaRefIdeal.main_arg0) = m ((c.tc : Thread Cert.AdamAdaIdeal.nD Cert.AdamAdaIdeal.τ).loc Cert.AdamAdaIdeal.main_arg0)
      ∧ m' ((c.tc : Thread Cert.AdamAdaRefIdeal.nD Cert.AdamAdaRefIdeal.τ).loc Cert.AdamAdaRefIdeal.main_arg1) = m ((c.tc : Thread Cert.AdamAdaIdeal.nD Cert.AdamAdaIdeal.τ).loc Cert.AdamAdaIdeal.main_arg1)
      ∧ m' ((c.tc : Thread Cert.AdamAdaRefIdeal.nD Cert.AdamAdaRefIdeal.τ).loc Cert.AdamAdaRefIdeal.main_arg2) = m ((c.tc : Thread Cert.AdamAdaIdeal.nD Cert.AdamAdaIdeal.τ).loc Cert.AdamAdaIdeal.main_arg2)
      ∧ m' ((c.tc : Thread Cert.AdamAdaRefIdeal.nD Cert.AdamAdaRefIdeal.τ).loc Cert.AdamAdaRefIdeal.main_arg3) = m ((c.tc : Thread Cert.AdamAdaIdeal.nD Cert.AdamAdaIdeal.τ).loc Cert.AdamAdaIdeal.main_arg3)) →
    ∃ (v0 : (c : Dev Cert.AdamAdaIdeal.nD) → Buf (Elt Ideal) ((c.tc : Thread Cert.AdamAdaIdeal.nD Cert.AdamAdaIdeal.τ).loc Cert.AdamAdaIdeal.main_v0_0)) (v1 : (c : Dev Cert.AdamAdaIdeal.nD) → Buf (Elt Ideal) ((c.tc : Thread Cert.AdamAdaIdeal.nD Cert.AdamAdaIdeal.τ).loc Cert.AdamAdaIdeal.main_v0_1)) (v2 : (c : Dev Cert.AdamAdaIdeal.nD) → Buf (Elt Ideal) ((c.tc : Thread Cert.AdamAdaIdeal.nD Cert.AdamAdaIdeal.τ).loc Cert.AdamAdaIdeal.main_v0_2)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v0_0) = v0 c
          ∧ r.2.mem ((c.tc : Thread Cert.AdamAdaIdeal.nD Cert.AdamAdaIdeal.τ).loc Cert.AdamAdaIdeal.main_v0_1) = v1 c
          ∧ r.2.mem ((c.tc : Thread Cert.AdamAdaIdeal.nD Cert.AdamAdaIdeal.τ).loc Cert.AdamAdaIdeal.main_v0_2) = v2 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ θ_run (Cert.AdamAdaRefIdeal.defs (F := Ideal)) (onTc (τ := Cert.AdamAdaRefIdeal.τ) (Cert.AdamAdaRefIdeal.main (F := Ideal))) ⟨m', fun _ => 0, g'⟩ (fun r => ∀ c : Dev Cert.AdamAdaRefIdeal.nD,
          r.2.mem ((c.tc : Thread Cert.AdamAdaRefIdeal.nD Cert.AdamAdaRefIdeal.τ).loc Cert.AdamAdaRefIdeal.main_v23) = v0 c
          ∧ r.2.mem ((c.tc : Thread Cert.AdamAdaRefIdeal.nD Cert.AdamAdaRefIdeal.τ).loc Cert.AdamAdaRefIdeal.main_v4) = v1 c
          ∧ r.2.mem ((c.tc : Thread Cert.AdamAdaRefIdeal.nD Cert.AdamAdaRefIdeal.τ).loc Cert.AdamAdaRefIdeal.main_v10) = v2 c
          ∧ r.2.mem ((c.tc : Thread Cert.AdamAdaRefIdeal.nD Cert.AdamAdaRefIdeal.τ).loc Cert.AdamAdaRefIdeal.main_arg0) = m' ((c.tc : Thread Cert.AdamAdaRefIdeal.nD Cert.AdamAdaRefIdeal.τ).loc Cert.AdamAdaRefIdeal.main_arg0)
          ∧ r.2.mem ((c.tc : Thread Cert.AdamAdaRefIdeal.nD Cert.AdamAdaRefIdeal.τ).loc Cert.AdamAdaRefIdeal.main_arg1) = m' ((c.tc : Thread Cert.AdamAdaRefIdeal.nD Cert.AdamAdaRefIdeal.τ).loc Cert.AdamAdaRefIdeal.main_arg1)
          ∧ r.2.mem ((c.tc : Thread Cert.AdamAdaRefIdeal.nD Cert.AdamAdaRefIdeal.τ).loc Cert.AdamAdaRefIdeal.main_arg2) = m' ((c.tc : Thread Cert.AdamAdaRefIdeal.nD Cert.AdamAdaRefIdeal.τ).loc Cert.AdamAdaRefIdeal.main_arg2)
          ∧ r.2.mem ((c.tc : Thread Cert.AdamAdaRefIdeal.nD Cert.AdamAdaRefIdeal.τ).loc Cert.AdamAdaRefIdeal.main_arg3) = m' ((c.tc : Thread Cert.AdamAdaRefIdeal.nD Cert.AdamAdaRefIdeal.τ).loc Cert.AdamAdaRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_AdaBwd_AdaBwdIdeal : Prop :=
  True

def algebraic_AdaBwdIdeal_AdaBwdRefIdeal [hAdaBwdIdeal : Cert.AdaBwdIdeal.Facts] [hAdaBwdRefIdeal : Cert.AdaBwdRefIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg)
    (m' : (ℓ : Loc Cert.AdaBwdRefIdeal.nD Cert.AdaBwdRefIdeal.τ Cert.AdaBwdRefIdeal.sig) → Buf (Elt Ideal) ℓ) (g' : Dev Cert.AdaBwdRefIdeal.nD → PrngReg), Pre_AdaBwdIdeal m →
    (∀ c : Dev Cert.AdaBwdIdeal.nD,
      m' ((c.tc : Thread Cert.AdaBwdRefIdeal.nD Cert.AdaBwdRefIdeal.τ).loc Cert.AdaBwdRefIdeal.main_arg0) = m ((c.tc : Thread Cert.AdaBwdIdeal.nD Cert.AdaBwdIdeal.τ).loc Cert.AdaBwdIdeal.main_arg0)
      ∧ m' ((c.tc : Thread Cert.AdaBwdRefIdeal.nD Cert.AdaBwdRefIdeal.τ).loc Cert.AdaBwdRefIdeal.main_arg1) = m ((c.tc : Thread Cert.AdaBwdIdeal.nD Cert.AdaBwdIdeal.τ).loc Cert.AdaBwdIdeal.main_arg1)) →
    ∃ (v0 : (c : Dev Cert.AdaBwdIdeal.nD) → Buf (Elt Ideal) ((c.tc : Thread Cert.AdaBwdIdeal.nD Cert.AdaBwdIdeal.τ).loc Cert.AdaBwdIdeal.main_v0)),
      θ_run (Cert.AdaBwdIdeal.defs (F := Ideal)) (onTc (τ := Cert.AdaBwdIdeal.τ) (Cert.AdaBwdIdeal.main (F := Ideal))) ⟨m, fun _ => 0, g⟩ (fun r => ∀ c : Dev Cert.AdaBwdIdeal.nD,
          r.2.mem ((c.tc : Thread Cert.AdaBwdIdeal.nD Cert.AdaBwdIdeal.τ).loc Cert.AdaBwdIdeal.main_v0) = v0 c
          ∧ r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
          ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1))
      ∧ θ_run (Cert.AdaBwdRefIdeal.defs (F := Ideal)) (onTc (τ := Cert.AdaBwdRefIdeal.τ) (Cert.AdaBwdRefIdeal.main (F := Ideal))) ⟨m', fun _ => 0, g'⟩ (fun r => ∀ c : Dev Cert.AdaBwdRefIdeal.nD,
          r.2.mem ((c.tc : Thread Cert.AdaBwdRefIdeal.nD Cert.AdaBwdRefIdeal.τ).loc Cert.AdaBwdRefIdeal.main_v1) = v0 c
          ∧ r.2.mem ((c.tc : Thread Cert.AdaBwdRefIdeal.nD Cert.AdaBwdRefIdeal.τ).loc Cert.AdaBwdRefIdeal.main_arg0) = m' ((c.tc : Thread Cert.AdaBwdRefIdeal.nD Cert.AdaBwdRefIdeal.τ).loc Cert.AdaBwdRefIdeal.main_arg0)
          ∧ r.2.mem ((c.tc : Thread Cert.AdaBwdRefIdeal.nD Cert.AdaBwdRefIdeal.τ).loc Cert.AdaBwdRefIdeal.main_arg1) = m' ((c.tc : Thread Cert.AdaBwdRefIdeal.nD Cert.AdaBwdRefIdeal.τ).loc Cert.AdaBwdRefIdeal.main_arg1))

def preserves_SmallSum_SmallSumIdeal : Prop :=
  True

def algebraic_SmallSumIdeal_SmallSumRefIdeal [hSmallSumIdeal : Cert.SmallSumIdeal.Facts] [hSmallSumRefIdeal : Cert.SmallSumRefIdeal.Facts] : Prop :=
  ∀ (m : (ℓ : Loc Cert.SmallSumIdeal.nD Cert.SmallSumIdeal.τ Cert.SmallSumIdeal.sig) → Buf (Elt Ideal) ℓ) (g : Dev Cert.SmallSumIdeal.nD → PrngReg)
    (m' : (ℓ : Loc Cert.SmallSumRefIdeal.nD Cert.SmallSumRefIdeal.τ Cert.SmallSumRefIdeal.sig) → Buf (Elt Ideal) ℓ) (g' : Dev Cert.SmallSumRefIdeal.nD → PrngReg), Pre_SmallSumIdeal m →
    (∀ c : Dev Cert.SmallSumIdeal.nD,
      m' ((c.tc : Thread Cert.SmallSumRefIdeal.nD Cert.SmallSumRefIdeal.τ).loc Cert.SmallSumRefIdeal.main_arg0) = m ((c.tc : Thread Cert.SmallSumIdeal.nD Cert.SmallSumIdeal.τ).loc Cert.SmallSumIdeal.main_arg0)) →
    ∃ (v0 : (c : Dev Cert.SmallSumIdeal.nD) → Buf (Elt Ideal) ((c.tc : Thread Cert.SmallSumIdeal.nD Cert.SmallSumIdeal.τ).loc Cert.SmallSumIdeal.main_v16)),
      θ_run (Cert.SmallSumIdeal.defs (F := Ideal)) (onTc (τ := Cert.SmallSumIdeal.τ) (Cert.SmallSumIdeal.main (F := Ideal))) ⟨m, fun _ => 0, g⟩ (fun r => ∀ c : Dev Cert.SmallSumIdeal.nD,
          r.2.mem ((c.tc : Thread Cert.SmallSumIdeal.nD Cert.SmallSumIdeal.τ).loc Cert.SmallSumIdeal.main_v16) = v0 c
          ∧ r.2.mem ((c.tc : Thread Cert.SmallSumIdeal.nD Cert.SmallSumIdeal.τ).loc Cert.SmallSumIdeal.main_arg0) = m ((c.tc : Thread Cert.SmallSumIdeal.nD Cert.SmallSumIdeal.τ).loc Cert.SmallSumIdeal.main_arg0))
      ∧ θ_run (Cert.SmallSumRefIdeal.defs (F := Ideal)) (onTc (τ := Cert.SmallSumRefIdeal.τ) (Cert.SmallSumRefIdeal.main (F := Ideal))) ⟨m', fun _ => 0, g'⟩ (fun r => ∀ c : Dev Cert.SmallSumRefIdeal.nD,
          r.2.mem ((c.tc : Thread Cert.SmallSumRefIdeal.nD Cert.SmallSumRefIdeal.τ).loc Cert.SmallSumRefIdeal.main_v0) = v0 c
          ∧ r.2.mem ((c.tc : Thread Cert.SmallSumRefIdeal.nD Cert.SmallSumRefIdeal.τ).loc Cert.SmallSumRefIdeal.main_arg0) = m' ((c.tc : Thread Cert.SmallSumRefIdeal.nD Cert.SmallSumRefIdeal.τ).loc Cert.SmallSumRefIdeal.main_arg0))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)
      ∧ m' ((c.tc : Thread Cert.LossRefIdeal.nD Cert.LossRefIdeal.τ).loc Cert.LossRefIdeal.main_arg5) = m ((c.tc : Thread Cert.LossIdeal.nD Cert.LossIdeal.τ).loc Cert.LossIdeal.main_arg5)) →
    ∃ (v0 : (c : Dev Cert.LossIdeal.nD) → Buf (Elt Ideal) ((c.tc : Thread Cert.LossIdeal.nD Cert.LossIdeal.τ).loc Cert.LossIdeal.main_v0_5)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_5) = v0 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
          ∧ r.2.mem ((c.tc : Thread Cert.LossIdeal.nD Cert.LossIdeal.τ).loc Cert.LossIdeal.main_arg5) = m ((c.tc : Thread Cert.LossIdeal.nD Cert.LossIdeal.τ).loc Cert.LossIdeal.main_arg5))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v34) = v0 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4)
          ∧ r.2.mem ((c.tc : Thread Cert.LossRefIdeal.nD Cert.LossRefIdeal.τ).loc Cert.LossRefIdeal.main_arg5) = m' ((c.tc : Thread Cert.LossRefIdeal.nD Cert.LossRefIdeal.τ).loc Cert.LossRefIdeal.main_arg5))

def preserves_GradX_GradXIdeal : Prop :=
  True

def algebraic_GradXIdeal_GradXRefIdeal [hGradXIdeal : Cert.GradXIdeal.Facts] [hGradXRefIdeal : Cert.GradXRefIdeal.Facts] : Prop :=
  ∀ (m : (ℓ : Loc Cert.GradXIdeal.nD Cert.GradXIdeal.τ Cert.GradXIdeal.sig) → Buf (Elt Ideal) ℓ) (g : Dev Cert.GradXIdeal.nD → PrngReg)
    (m' : (ℓ : Loc Cert.GradXRefIdeal.nD Cert.GradXRefIdeal.τ Cert.GradXRefIdeal.sig) → Buf (Elt Ideal) ℓ) (g' : Dev Cert.GradXRefIdeal.nD → PrngReg), Pre_GradXIdeal m →
    (∀ c : Dev Cert.GradXIdeal.nD,
      m' ((c.tc : Thread Cert.GradXRefIdeal.nD Cert.GradXRefIdeal.τ).loc Cert.GradXRefIdeal.main_arg0) = m ((c.tc : Thread Cert.GradXIdeal.nD Cert.GradXIdeal.τ).loc Cert.GradXIdeal.main_arg0)
      ∧ m' ((c.tc : Thread Cert.GradXRefIdeal.nD Cert.GradXRefIdeal.τ).loc Cert.GradXRefIdeal.main_arg1) = m ((c.tc : Thread Cert.GradXIdeal.nD Cert.GradXIdeal.τ).loc Cert.GradXIdeal.main_arg1)
      ∧ m' ((c.tc : Thread Cert.GradXRefIdeal.nD Cert.GradXRefIdeal.τ).loc Cert.GradXRefIdeal.main_arg2) = m ((c.tc : Thread Cert.GradXIdeal.nD Cert.GradXIdeal.τ).loc Cert.GradXIdeal.main_arg2)
      ∧ m' ((c.tc : Thread Cert.GradXRefIdeal.nD Cert.GradXRefIdeal.τ).loc Cert.GradXRefIdeal.main_arg3) = m ((c.tc : Thread Cert.GradXIdeal.nD Cert.GradXIdeal.τ).loc Cert.GradXIdeal.main_arg3)
      ∧ m' ((c.tc : Thread Cert.GradXRefIdeal.nD Cert.GradXRefIdeal.τ).loc Cert.GradXRefIdeal.main_arg4) = m ((c.tc : Thread Cert.GradXIdeal.nD Cert.GradXIdeal.τ).loc Cert.GradXIdeal.main_arg4)) →
    ∃ (v0 : (c : Dev Cert.GradXIdeal.nD) → Buf (Elt Ideal) ((c.tc : Thread Cert.GradXIdeal.nD Cert.GradXIdeal.τ).loc Cert.GradXIdeal.main_v0_0)) (v1 : (c : Dev Cert.GradXIdeal.nD) → Buf (Elt Ideal) ((c.tc : Thread Cert.GradXIdeal.nD Cert.GradXIdeal.τ).loc Cert.GradXIdeal.main_v0_1)) (v2 : (c : Dev Cert.GradXIdeal.nD) → Buf (Elt Ideal) ((c.tc : Thread Cert.GradXIdeal.nD Cert.GradXIdeal.τ).loc Cert.GradXIdeal.main_v0_2)),
      θ_run (Cert.GradXIdeal.defs (F := Ideal)) (onTc (τ := Cert.GradXIdeal.τ) (Cert.GradXIdeal.main (F := Ideal))) ⟨m, fun _ => 0, g⟩ (fun r => ∀ c : Dev Cert.GradXIdeal.nD,
          r.2.mem ((c.tc : Thread Cert.GradXIdeal.nD Cert.GradXIdeal.τ).loc Cert.GradXIdeal.main_v0_0) = v0 c
          ∧ r.2.mem ((c.tc : Thread Cert.GradXIdeal.nD Cert.GradXIdeal.τ).loc Cert.GradXIdeal.main_v0_1) = v1 c
          ∧ r.2.mem ((c.tc : Thread Cert.GradXIdeal.nD Cert.GradXIdeal.τ).loc Cert.GradXIdeal.main_v0_2) = v2 c
          ∧ r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
          ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
          ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
          ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3)
          ∧ r.2.mem ((c.tc : Thread Cert.GradXIdeal.nD Cert.GradXIdeal.τ).loc Cert.GradXIdeal.main_arg4) = m ((c.tc : Thread Cert.GradXIdeal.nD Cert.GradXIdeal.τ).loc Cert.GradXIdeal.main_arg4))
      ∧ θ_run (Cert.GradXRefIdeal.defs (F := Ideal)) (onTc (τ := Cert.GradXRefIdeal.τ) (Cert.GradXRefIdeal.main (F := Ideal))) ⟨m', fun _ => 0, g'⟩ (fun r => ∀ c : Dev Cert.GradXRefIdeal.nD,
          r.2.mem ((c.tc : Thread Cert.GradXRefIdeal.nD Cert.GradXRefIdeal.τ).loc Cert.GradXRefIdeal.main_v61) = v0 c
          ∧ r.2.mem ((c.tc : Thread Cert.GradXRefIdeal.nD Cert.GradXRefIdeal.τ).loc Cert.GradXRefIdeal.main_v34) = v1 c
          ∧ r.2.mem ((c.tc : Thread Cert.GradXRefIdeal.nD Cert.GradXRefIdeal.τ).loc Cert.GradXRefIdeal.main_v31) = v2 c
          ∧ r.2.mem ((c.tc : Thread Cert.GradXRefIdeal.nD Cert.GradXRefIdeal.τ).loc Cert.GradXRefIdeal.main_arg0) = m' ((c.tc : Thread Cert.GradXRefIdeal.nD Cert.GradXRefIdeal.τ).loc Cert.GradXRefIdeal.main_arg0)
          ∧ r.2.mem ((c.tc : Thread Cert.GradXRefIdeal.nD Cert.GradXRefIdeal.τ).loc Cert.GradXRefIdeal.main_arg1) = m' ((c.tc : Thread Cert.GradXRefIdeal.nD Cert.GradXRefIdeal.τ).loc Cert.GradXRefIdeal.main_arg1)
          ∧ r.2.mem ((c.tc : Thread Cert.GradXRefIdeal.nD Cert.GradXRefIdeal.τ).loc Cert.GradXRefIdeal.main_arg2) = m' ((c.tc : Thread Cert.GradXRefIdeal.nD Cert.GradXRefIdeal.τ).loc Cert.GradXRefIdeal.main_arg2)
          ∧ r.2.mem ((c.tc : Thread Cert.GradXRefIdeal.nD Cert.GradXRefIdeal.τ).loc Cert.GradXRefIdeal.main_arg3) = m' ((c.tc : Thread Cert.GradXRefIdeal.nD Cert.GradXRefIdeal.τ).loc Cert.GradXRefIdeal.main_arg3)
          ∧ r.2.mem ((c.tc : Thread Cert.GradXRefIdeal.nD Cert.GradXRefIdeal.τ).loc Cert.GradXRefIdeal.main_arg4) = m' ((c.tc : Thread Cert.GradXRefIdeal.nD Cert.GradXRefIdeal.τ).loc Cert.GradXRefIdeal.main_arg4))

def preserves_AdaFwd_AdaFwdIdeal : Prop :=
  True

def algebraic_AdaFwdIdeal_AdaFwdRefIdeal [hAdaFwdIdeal : Cert.AdaFwdIdeal.Facts] [hAdaFwdRefIdeal : Cert.AdaFwdRefIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg)
    (m' : (ℓ : Loc Cert.AdaFwdRefIdeal.nD Cert.AdaFwdRefIdeal.τ Cert.AdaFwdRefIdeal.sig) → Buf (Elt Ideal) ℓ) (g' : Dev Cert.AdaFwdRefIdeal.nD → PrngReg), Pre_AdaFwdIdeal m →
    (∀ c : Dev Cert.AdaFwdIdeal.nD,
      m' ((c.tc : Thread Cert.AdaFwdRefIdeal.nD Cert.AdaFwdRefIdeal.τ).loc Cert.AdaFwdRefIdeal.main_arg0) = m ((c.tc : Thread Cert.AdaFwdIdeal.nD Cert.AdaFwdIdeal.τ).loc Cert.AdaFwdIdeal.main_arg0)
      ∧ m' ((c.tc : Thread Cert.AdaFwdRefIdeal.nD Cert.AdaFwdRefIdeal.τ).loc Cert.AdaFwdRefIdeal.main_arg1) = m ((c.tc : Thread Cert.AdaFwdIdeal.nD Cert.AdaFwdIdeal.τ).loc Cert.AdaFwdIdeal.main_arg1)
      ∧ m' ((c.tc : Thread Cert.AdaFwdRefIdeal.nD Cert.AdaFwdRefIdeal.τ).loc Cert.AdaFwdRefIdeal.main_arg2) = m ((c.tc : Thread Cert.AdaFwdIdeal.nD Cert.AdaFwdIdeal.τ).loc Cert.AdaFwdIdeal.main_arg2)) →
    ∃ (v0 : (c : Dev Cert.AdaFwdIdeal.nD) → Buf (Elt Ideal) ((c.tc : Thread Cert.AdaFwdIdeal.nD Cert.AdaFwdIdeal.τ).loc Cert.AdaFwdIdeal.main_v0)),
      θ_run (Cert.AdaFwdIdeal.defs (F := Ideal)) (onTc (τ := Cert.AdaFwdIdeal.τ) (Cert.AdaFwdIdeal.main (F := Ideal))) ⟨m, fun _ => 0, g⟩ (fun r => ∀ c : Dev Cert.AdaFwdIdeal.nD,
          r.2.mem ((c.tc : Thread Cert.AdaFwdIdeal.nD Cert.AdaFwdIdeal.τ).loc Cert.AdaFwdIdeal.main_v0) = v0 c
          ∧ r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
          ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
          ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ θ_run (Cert.AdaFwdRefIdeal.defs (F := Ideal)) (onTc (τ := Cert.AdaFwdRefIdeal.τ) (Cert.AdaFwdRefIdeal.main (F := Ideal))) ⟨m', fun _ => 0, g'⟩ (fun r => ∀ c : Dev Cert.AdaFwdRefIdeal.nD,
          r.2.mem ((c.tc : Thread Cert.AdaFwdRefIdeal.nD Cert.AdaFwdRefIdeal.τ).loc Cert.AdaFwdRefIdeal.main_v3) = v0 c
          ∧ r.2.mem ((c.tc : Thread Cert.AdaFwdRefIdeal.nD Cert.AdaFwdRefIdeal.τ).loc Cert.AdaFwdRefIdeal.main_arg0) = m' ((c.tc : Thread Cert.AdaFwdRefIdeal.nD Cert.AdaFwdRefIdeal.τ).loc Cert.AdaFwdRefIdeal.main_arg0)
          ∧ r.2.mem ((c.tc : Thread Cert.AdaFwdRefIdeal.nD Cert.AdaFwdRefIdeal.τ).loc Cert.AdaFwdRefIdeal.main_arg1) = m' ((c.tc : Thread Cert.AdaFwdRefIdeal.nD Cert.AdaFwdRefIdeal.τ).loc Cert.AdaFwdRefIdeal.main_arg1)
          ∧ r.2.mem ((c.tc : Thread Cert.AdaFwdRefIdeal.nD Cert.AdaFwdRefIdeal.τ).loc Cert.AdaFwdRefIdeal.main_arg2) = m' ((c.tc : Thread Cert.AdaFwdRefIdeal.nD Cert.AdaFwdRefIdeal.τ).loc Cert.AdaFwdRefIdeal.main_arg2))

def preserves_PairSum_PairSumIdeal : Prop :=
  True

def algebraic_PairSumIdeal_PairSumRefIdeal [hPairSumIdeal : Cert.PairSumIdeal.Facts] [hPairSumRefIdeal : Cert.PairSumRefIdeal.Facts] : Prop :=
  ∀ (m : (ℓ : Loc Cert.PairSumIdeal.nD Cert.PairSumIdeal.τ Cert.PairSumIdeal.sig) → Buf (Elt Ideal) ℓ) (g : Dev Cert.PairSumIdeal.nD → PrngReg)
    (m' : (ℓ : Loc Cert.PairSumRefIdeal.nD Cert.PairSumRefIdeal.τ Cert.PairSumRefIdeal.sig) → Buf (Elt Ideal) ℓ) (g' : Dev Cert.PairSumRefIdeal.nD → PrngReg), Pre_PairSumIdeal m →
    (∀ c : Dev Cert.PairSumIdeal.nD,
      m' ((c.tc : Thread Cert.PairSumRefIdeal.nD Cert.PairSumRefIdeal.τ).loc Cert.PairSumRefIdeal.main_arg0) = m ((c.tc : Thread Cert.PairSumIdeal.nD Cert.PairSumIdeal.τ).loc Cert.PairSumIdeal.main_arg0)
      ∧ m' ((c.tc : Thread Cert.PairSumRefIdeal.nD Cert.PairSumRefIdeal.τ).loc Cert.PairSumRefIdeal.main_arg1) = m ((c.tc : Thread Cert.PairSumIdeal.nD Cert.PairSumIdeal.τ).loc Cert.PairSumIdeal.main_arg1)) →
    ∃ (v0 : (c : Dev Cert.PairSumIdeal.nD) → Buf (Elt Ideal) ((c.tc : Thread Cert.PairSumIdeal.nD Cert.PairSumIdeal.τ).loc Cert.PairSumIdeal.main_v0)),
      θ_run (Cert.PairSumIdeal.defs (F := Ideal)) (onTc (τ := Cert.PairSumIdeal.τ) (Cert.PairSumIdeal.main (F := Ideal))) ⟨m, fun _ => 0, g⟩ (fun r => ∀ c : Dev Cert.PairSumIdeal.nD,
          r.2.mem ((c.tc : Thread Cert.PairSumIdeal.nD Cert.PairSumIdeal.τ).loc Cert.PairSumIdeal.main_v0) = v0 c
          ∧ r.2.mem ((c.tc : Thread Cert.PairSumIdeal.nD Cert.PairSumIdeal.τ).loc Cert.PairSumIdeal.main_arg0) = m ((c.tc : Thread Cert.PairSumIdeal.nD Cert.PairSumIdeal.τ).loc Cert.PairSumIdeal.main_arg0)
          ∧ r.2.mem ((c.tc : Thread Cert.PairSumIdeal.nD Cert.PairSumIdeal.τ).loc Cert.PairSumIdeal.main_arg1) = m ((c.tc : Thread Cert.PairSumIdeal.nD Cert.PairSumIdeal.τ).loc Cert.PairSumIdeal.main_arg1))
      ∧ θ_run (Cert.PairSumRefIdeal.defs (F := Ideal)) (onTc (τ := Cert.PairSumRefIdeal.τ) (Cert.PairSumRefIdeal.main (F := Ideal))) ⟨m', fun _ => 0, g'⟩ (fun r => ∀ c : Dev Cert.PairSumRefIdeal.nD,
          r.2.mem ((c.tc : Thread Cert.PairSumRefIdeal.nD Cert.PairSumRefIdeal.τ).loc Cert.PairSumRefIdeal.main_v0) = v0 c
          ∧ r.2.mem ((c.tc : Thread Cert.PairSumRefIdeal.nD Cert.PairSumRefIdeal.τ).loc Cert.PairSumRefIdeal.main_arg0) = m' ((c.tc : Thread Cert.PairSumRefIdeal.nD Cert.PairSumRefIdeal.τ).loc Cert.PairSumRefIdeal.main_arg0)
          ∧ r.2.mem ((c.tc : Thread Cert.PairSumRefIdeal.nD Cert.PairSumRefIdeal.τ).loc Cert.PairSumRefIdeal.main_arg1) = m' ((c.tc : Thread Cert.PairSumRefIdeal.nD Cert.PairSumRefIdeal.τ).loc Cert.PairSumRefIdeal.main_arg1))

def preserves_ChipSum_ChipSumIdeal : Prop :=
  True

def algebraic_ChipSumIdeal_ChipSumRefIdeal [hChipSumIdeal : Cert.ChipSumIdeal.Facts] [hChipSumRefIdeal : Cert.ChipSumRefIdeal.Facts] : Prop :=
  ∀ (m : (ℓ : Loc Cert.ChipSumIdeal.nD Cert.ChipSumIdeal.τ Cert.ChipSumIdeal.sig) → Buf (Elt Ideal) ℓ) (g : Dev Cert.ChipSumIdeal.nD → PrngReg)
    (m' : (ℓ : Loc Cert.ChipSumRefIdeal.nD Cert.ChipSumRefIdeal.τ Cert.ChipSumRefIdeal.sig) → Buf (Elt Ideal) ℓ) (g' : Dev Cert.ChipSumRefIdeal.nD → PrngReg), Pre_ChipSumIdeal m →
    (∀ c : Dev Cert.ChipSumIdeal.nD,
      m' ((c.tc : Thread Cert.ChipSumRefIdeal.nD Cert.ChipSumRefIdeal.τ).loc Cert.ChipSumRefIdeal.main_arg0) = m ((c.tc : Thread Cert.ChipSumIdeal.nD Cert.ChipSumIdeal.τ).loc Cert.ChipSumIdeal.main_arg0)) →
    ∃ (v0 : (c : Dev Cert.ChipSumIdeal.nD) → Buf (Elt Ideal) ((c.tc : Thread Cert.ChipSumIdeal.nD Cert.ChipSumIdeal.τ).loc Cert.ChipSumIdeal.main_v8)),
      θ_run (Cert.ChipSumIdeal.defs (F := Ideal)) (onTc (τ := Cert.ChipSumIdeal.τ) (Cert.ChipSumIdeal.main (F := Ideal))) ⟨m, fun _ => 0, g⟩ (fun r => ∀ c : Dev Cert.ChipSumIdeal.nD,
          r.2.mem ((c.tc : Thread Cert.ChipSumIdeal.nD Cert.ChipSumIdeal.τ).loc Cert.ChipSumIdeal.main_v8) = v0 c
          ∧ r.2.mem ((c.tc : Thread Cert.ChipSumIdeal.nD Cert.ChipSumIdeal.τ).loc Cert.ChipSumIdeal.main_arg0) = m ((c.tc : Thread Cert.ChipSumIdeal.nD Cert.ChipSumIdeal.τ).loc Cert.ChipSumIdeal.main_arg0))
      ∧ θ_run (Cert.ChipSumRefIdeal.defs (F := Ideal)) (onTc (τ := Cert.ChipSumRefIdeal.τ) (Cert.ChipSumRefIdeal.main (F := Ideal))) ⟨m', fun _ => 0, g'⟩ (fun r => ∀ c : Dev Cert.ChipSumRefIdeal.nD,
          r.2.mem ((c.tc : Thread Cert.ChipSumRefIdeal.nD Cert.ChipSumRefIdeal.τ).loc Cert.ChipSumRefIdeal.main_v0) = v0 c
          ∧ r.2.mem ((c.tc : Thread Cert.ChipSumRefIdeal.nD Cert.ChipSumRefIdeal.τ).loc Cert.ChipSumRefIdeal.main_arg0) = m' ((c.tc : Thread Cert.ChipSumRefIdeal.nD Cert.ChipSumRefIdeal.τ).loc Cert.ChipSumRefIdeal.main_arg0))

def preserves_LnMod_LnModIdeal : Prop :=
  True

def algebraic_LnModIdeal_LnModRefIdeal [hLnModIdeal : Cert.LnModIdeal.Facts] [hLnModRefIdeal : Cert.LnModRefIdeal.Facts] : Prop :=
  ∀ (m : (ℓ : Loc Cert.LnModIdeal.nD Cert.LnModIdeal.τ Cert.LnModIdeal.sig) → Buf (Elt Ideal) ℓ) (g : Dev Cert.LnModIdeal.nD → PrngReg)
    (m' : (ℓ : Loc Cert.LnModRefIdeal.nD Cert.LnModRefIdeal.τ Cert.LnModRefIdeal.sig) → Buf (Elt Ideal) ℓ) (g' : Dev Cert.LnModRefIdeal.nD → PrngReg), Pre_LnModIdeal m →
    (∀ c : Dev Cert.LnModIdeal.nD,
      m' ((c.tc : Thread Cert.LnModRefIdeal.nD Cert.LnModRefIdeal.τ).loc Cert.LnModRefIdeal.main_arg0) = m ((c.tc : Thread Cert.LnModIdeal.nD Cert.LnModIdeal.τ).loc Cert.LnModIdeal.main_arg0)
      ∧ m' ((c.tc : Thread Cert.LnModRefIdeal.nD Cert.LnModRefIdeal.τ).loc Cert.LnModRefIdeal.main_arg1) = m ((c.tc : Thread Cert.LnModIdeal.nD Cert.LnModIdeal.τ).loc Cert.LnModIdeal.main_arg1)
      ∧ m' ((c.tc : Thread Cert.LnModRefIdeal.nD Cert.LnModRefIdeal.τ).loc Cert.LnModRefIdeal.main_arg2) = m ((c.tc : Thread Cert.LnModIdeal.nD Cert.LnModIdeal.τ).loc Cert.LnModIdeal.main_arg2)) →
    ∃ (v0 : (c : Dev Cert.LnModIdeal.nD) → Buf (Elt Ideal) ((c.tc : Thread Cert.LnModIdeal.nD Cert.LnModIdeal.τ).loc Cert.LnModIdeal.main_v0)),
      θ_run (Cert.LnModIdeal.defs (F := Ideal)) (onTc (τ := Cert.LnModIdeal.τ) (Cert.LnModIdeal.main (F := Ideal))) ⟨m, fun _ => 0, g⟩ (fun r => ∀ c : Dev Cert.LnModIdeal.nD,
          r.2.mem ((c.tc : Thread Cert.LnModIdeal.nD Cert.LnModIdeal.τ).loc Cert.LnModIdeal.main_v0) = v0 c
          ∧ r.2.mem ((c.tc : Thread Cert.LnModIdeal.nD Cert.LnModIdeal.τ).loc Cert.LnModIdeal.main_arg0) = m ((c.tc : Thread Cert.LnModIdeal.nD Cert.LnModIdeal.τ).loc Cert.LnModIdeal.main_arg0)
          ∧ r.2.mem ((c.tc : Thread Cert.LnModIdeal.nD Cert.LnModIdeal.τ).loc Cert.LnModIdeal.main_arg1) = m ((c.tc : Thread Cert.LnModIdeal.nD Cert.LnModIdeal.τ).loc Cert.LnModIdeal.main_arg1)
          ∧ r.2.mem ((c.tc : Thread Cert.LnModIdeal.nD Cert.LnModIdeal.τ).loc Cert.LnModIdeal.main_arg2) = m ((c.tc : Thread Cert.LnModIdeal.nD Cert.LnModIdeal.τ).loc Cert.LnModIdeal.main_arg2))
      ∧ θ_run (Cert.LnModRefIdeal.defs (F := Ideal)) (onTc (τ := Cert.LnModRefIdeal.τ) (Cert.LnModRefIdeal.main (F := Ideal))) ⟨m', fun _ => 0, g'⟩ (fun r => ∀ c : Dev Cert.LnModRefIdeal.nD,
          r.2.mem ((c.tc : Thread Cert.LnModRefIdeal.nD Cert.LnModRefIdeal.τ).loc Cert.LnModRefIdeal.main_v24) = v0 c
          ∧ r.2.mem ((c.tc : Thread Cert.LnModRefIdeal.nD Cert.LnModRefIdeal.τ).loc Cert.LnModRefIdeal.main_arg0) = m' ((c.tc : Thread Cert.LnModRefIdeal.nD Cert.LnModRefIdeal.τ).loc Cert.LnModRefIdeal.main_arg0)
          ∧ r.2.mem ((c.tc : Thread Cert.LnModRefIdeal.nD Cert.LnModRefIdeal.τ).loc Cert.LnModRefIdeal.main_arg1) = m' ((c.tc : Thread Cert.LnModRefIdeal.nD Cert.LnModRefIdeal.τ).loc Cert.LnModRefIdeal.main_arg1)
          ∧ r.2.mem ((c.tc : Thread Cert.LnModRefIdeal.nD Cert.LnModRefIdeal.τ).loc Cert.LnModRefIdeal.main_arg2) = m' ((c.tc : Thread Cert.LnModRefIdeal.nD Cert.LnModRefIdeal.τ).loc Cert.LnModRefIdeal.main_arg2))

def preserves_ConvNorm_ConvNormIdeal : Prop :=
  True

def algebraic_ConvNormIdeal_ConvNormRefIdeal [hConvNormIdeal : Cert.ConvNormIdeal.Facts] [hConvNormRefIdeal : Cert.ConvNormRefIdeal.Facts] : Prop :=
  ∀ (m : (ℓ : Loc Cert.ConvNormIdeal.nD Cert.ConvNormIdeal.τ Cert.ConvNormIdeal.sig) → Buf (Elt Ideal) ℓ) (g : Dev Cert.ConvNormIdeal.nD → PrngReg)
    (m' : (ℓ : Loc Cert.ConvNormRefIdeal.nD Cert.ConvNormRefIdeal.τ Cert.ConvNormRefIdeal.sig) → Buf (Elt Ideal) ℓ) (g' : Dev Cert.ConvNormRefIdeal.nD → PrngReg), Pre_ConvNormIdeal m →
    (∀ c : Dev Cert.ConvNormIdeal.nD,
      m' ((c.tc : Thread Cert.ConvNormRefIdeal.nD Cert.ConvNormRefIdeal.τ).loc Cert.ConvNormRefIdeal.main_arg0) = m ((c.tc : Thread Cert.ConvNormIdeal.nD Cert.ConvNormIdeal.τ).loc Cert.ConvNormIdeal.main_arg0)
      ∧ m' ((c.tc : Thread Cert.ConvNormRefIdeal.nD Cert.ConvNormRefIdeal.τ).loc Cert.ConvNormRefIdeal.main_arg1) = m ((c.tc : Thread Cert.ConvNormIdeal.nD Cert.ConvNormIdeal.τ).loc Cert.ConvNormIdeal.main_arg1)
      ∧ m' ((c.tc : Thread Cert.ConvNormRefIdeal.nD Cert.ConvNormRefIdeal.τ).loc Cert.ConvNormRefIdeal.main_arg2) = m ((c.tc : Thread Cert.ConvNormIdeal.nD Cert.ConvNormIdeal.τ).loc Cert.ConvNormIdeal.main_arg2)) →
    ∃ (v0 : (c : Dev Cert.ConvNormIdeal.nD) → Buf (Elt Ideal) ((c.tc : Thread Cert.ConvNormIdeal.nD Cert.ConvNormIdeal.τ).loc Cert.ConvNormIdeal.main_v0)),
      θ_run (Cert.ConvNormIdeal.defs (F := Ideal)) (onTc (τ := Cert.ConvNormIdeal.τ) (Cert.ConvNormIdeal.main (F := Ideal))) ⟨m, fun _ => 0, g⟩ (fun r => ∀ c : Dev Cert.ConvNormIdeal.nD,
          r.2.mem ((c.tc : Thread Cert.ConvNormIdeal.nD Cert.ConvNormIdeal.τ).loc Cert.ConvNormIdeal.main_v0) = v0 c
          ∧ r.2.mem ((c.tc : Thread Cert.ConvNormIdeal.nD Cert.ConvNormIdeal.τ).loc Cert.ConvNormIdeal.main_arg0) = m ((c.tc : Thread Cert.ConvNormIdeal.nD Cert.ConvNormIdeal.τ).loc Cert.ConvNormIdeal.main_arg0)
          ∧ r.2.mem ((c.tc : Thread Cert.ConvNormIdeal.nD Cert.ConvNormIdeal.τ).loc Cert.ConvNormIdeal.main_arg1) = m ((c.tc : Thread Cert.ConvNormIdeal.nD Cert.ConvNormIdeal.τ).loc Cert.ConvNormIdeal.main_arg1)
          ∧ r.2.mem ((c.tc : Thread Cert.ConvNormIdeal.nD Cert.ConvNormIdeal.τ).loc Cert.ConvNormIdeal.main_arg2) = m ((c.tc : Thread Cert.ConvNormIdeal.nD Cert.ConvNormIdeal.τ).loc Cert.ConvNormIdeal.main_arg2))
      ∧ θ_run (Cert.ConvNormRefIdeal.defs (F := Ideal)) (onTc (τ := Cert.ConvNormRefIdeal.τ) (Cert.ConvNormRefIdeal.main (F := Ideal))) ⟨m', fun _ => 0, g'⟩ (fun r => ∀ c : Dev Cert.ConvNormRefIdeal.nD,
          r.2.mem ((c.tc : Thread Cert.ConvNormRefIdeal.nD Cert.ConvNormRefIdeal.τ).loc Cert.ConvNormRefIdeal.main_v23) = v0 c
          ∧ r.2.mem ((c.tc : Thread Cert.ConvNormRefIdeal.nD Cert.ConvNormRefIdeal.τ).loc Cert.ConvNormRefIdeal.main_arg0) = m' ((c.tc : Thread Cert.ConvNormRefIdeal.nD Cert.ConvNormRefIdeal.τ).loc Cert.ConvNormRefIdeal.main_arg0)
          ∧ r.2.mem ((c.tc : Thread Cert.ConvNormRefIdeal.nD Cert.ConvNormRefIdeal.τ).loc Cert.ConvNormRefIdeal.main_arg1) = m' ((c.tc : Thread Cert.ConvNormRefIdeal.nD Cert.ConvNormRefIdeal.τ).loc Cert.ConvNormRefIdeal.main_arg1)
          ∧ r.2.mem ((c.tc : Thread Cert.ConvNormRefIdeal.nD Cert.ConvNormRefIdeal.τ).loc Cert.ConvNormRefIdeal.main_arg2) = m' ((c.tc : Thread Cert.ConvNormRefIdeal.nD Cert.ConvNormRefIdeal.τ).loc Cert.ConvNormRefIdeal.main_arg2))

def preserves_RetNorm_RetNormIdeal : Prop :=
  True

def algebraic_RetNormIdeal_RetNormRefIdeal [hRetNormIdeal : Cert.RetNormIdeal.Facts] [hRetNormRefIdeal : Cert.RetNormRefIdeal.Facts] : Prop :=
  ∀ (m : (ℓ : Loc Cert.RetNormIdeal.nD Cert.RetNormIdeal.τ Cert.RetNormIdeal.sig) → Buf (Elt Ideal) ℓ) (g : Dev Cert.RetNormIdeal.nD → PrngReg)
    (m' : (ℓ : Loc Cert.RetNormRefIdeal.nD Cert.RetNormRefIdeal.τ Cert.RetNormRefIdeal.sig) → Buf (Elt Ideal) ℓ) (g' : Dev Cert.RetNormRefIdeal.nD → PrngReg), Pre_RetNormIdeal m →
    (∀ c : Dev Cert.RetNormIdeal.nD,
      m' ((c.tc : Thread Cert.RetNormRefIdeal.nD Cert.RetNormRefIdeal.τ).loc Cert.RetNormRefIdeal.main_arg0) = m ((c.tc : Thread Cert.RetNormIdeal.nD Cert.RetNormIdeal.τ).loc Cert.RetNormIdeal.main_arg0)
      ∧ m' ((c.tc : Thread Cert.RetNormRefIdeal.nD Cert.RetNormRefIdeal.τ).loc Cert.RetNormRefIdeal.main_arg1) = m ((c.tc : Thread Cert.RetNormIdeal.nD Cert.RetNormIdeal.τ).loc Cert.RetNormIdeal.main_arg1)
      ∧ m' ((c.tc : Thread Cert.RetNormRefIdeal.nD Cert.RetNormRefIdeal.τ).loc Cert.RetNormRefIdeal.main_arg2) = m ((c.tc : Thread Cert.RetNormIdeal.nD Cert.RetNormIdeal.τ).loc Cert.RetNormIdeal.main_arg2)
      ∧ m' ((c.tc : Thread Cert.RetNormRefIdeal.nD Cert.RetNormRefIdeal.τ).loc Cert.RetNormRefIdeal.main_arg3) = m ((c.tc : Thread Cert.RetNormIdeal.nD Cert.RetNormIdeal.τ).loc Cert.RetNormIdeal.main_arg3)) →
    ∃ (v0 : (c : Dev Cert.RetNormIdeal.nD) → Buf (Elt Ideal) ((c.tc : Thread Cert.RetNormIdeal.nD Cert.RetNormIdeal.τ).loc Cert.RetNormIdeal.main_v0)),
      θ_run (Cert.RetNormIdeal.defs (F := Ideal)) (onTc (τ := Cert.RetNormIdeal.τ) (Cert.RetNormIdeal.main (F := Ideal))) ⟨m, fun _ => 0, g⟩ (fun r => ∀ c : Dev Cert.RetNormIdeal.nD,
          r.2.mem ((c.tc : Thread Cert.RetNormIdeal.nD Cert.RetNormIdeal.τ).loc Cert.RetNormIdeal.main_v0) = v0 c
          ∧ r.2.mem ((c.tc : Thread Cert.RetNormIdeal.nD Cert.RetNormIdeal.τ).loc Cert.RetNormIdeal.main_arg0) = m ((c.tc : Thread Cert.RetNormIdeal.nD Cert.RetNormIdeal.τ).loc Cert.RetNormIdeal.main_arg0)
          ∧ r.2.mem ((c.tc : Thread Cert.RetNormIdeal.nD Cert.RetNormIdeal.τ).loc Cert.RetNormIdeal.main_arg1) = m ((c.tc : Thread Cert.RetNormIdeal.nD Cert.RetNormIdeal.τ).loc Cert.RetNormIdeal.main_arg1)
          ∧ r.2.mem ((c.tc : Thread Cert.RetNormIdeal.nD Cert.RetNormIdeal.τ).loc Cert.RetNormIdeal.main_arg2) = m ((c.tc : Thread Cert.RetNormIdeal.nD Cert.RetNormIdeal.τ).loc Cert.RetNormIdeal.main_arg2)
          ∧ r.2.mem ((c.tc : Thread Cert.RetNormIdeal.nD Cert.RetNormIdeal.τ).loc Cert.RetNormIdeal.main_arg3) = m ((c.tc : Thread Cert.RetNormIdeal.nD Cert.RetNormIdeal.τ).loc Cert.RetNormIdeal.main_arg3))
      ∧ θ_run (Cert.RetNormRefIdeal.defs (F := Ideal)) (onTc (τ := Cert.RetNormRefIdeal.τ) (Cert.RetNormRefIdeal.main (F := Ideal))) ⟨m', fun _ => 0, g'⟩ (fun r => ∀ c : Dev Cert.RetNormRefIdeal.nD,
          r.2.mem ((c.tc : Thread Cert.RetNormRefIdeal.nD Cert.RetNormRefIdeal.τ).loc Cert.RetNormRefIdeal.main_v27) = v0 c
          ∧ r.2.mem ((c.tc : Thread Cert.RetNormRefIdeal.nD Cert.RetNormRefIdeal.τ).loc Cert.RetNormRefIdeal.main_arg0) = m' ((c.tc : Thread Cert.RetNormRefIdeal.nD Cert.RetNormRefIdeal.τ).loc Cert.RetNormRefIdeal.main_arg0)
          ∧ r.2.mem ((c.tc : Thread Cert.RetNormRefIdeal.nD Cert.RetNormRefIdeal.τ).loc Cert.RetNormRefIdeal.main_arg1) = m' ((c.tc : Thread Cert.RetNormRefIdeal.nD Cert.RetNormRefIdeal.τ).loc Cert.RetNormRefIdeal.main_arg1)
          ∧ r.2.mem ((c.tc : Thread Cert.RetNormRefIdeal.nD Cert.RetNormRefIdeal.τ).loc Cert.RetNormRefIdeal.main_arg2) = m' ((c.tc : Thread Cert.RetNormRefIdeal.nD Cert.RetNormRefIdeal.τ).loc Cert.RetNormRefIdeal.main_arg2)
          ∧ r.2.mem ((c.tc : Thread Cert.RetNormRefIdeal.nD Cert.RetNormRefIdeal.τ).loc Cert.RetNormRefIdeal.main_arg3) = m' ((c.tc : Thread Cert.RetNormRefIdeal.nD Cert.RetNormRefIdeal.τ).loc Cert.RetNormRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v17) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)) →
    ∃ (v0 : (c : Dev Cert.PostIdeal.nD) → Buf (Elt Ideal) ((c.tc : Thread Cert.PostIdeal.nD Cert.PostIdeal.τ).loc Cert.PostIdeal.main_v0_0)) (v1 : (c : Dev Cert.PostIdeal.nD) → Buf (Elt Ideal) ((c.tc : Thread Cert.PostIdeal.nD Cert.PostIdeal.τ).loc Cert.PostIdeal.main_v0_1)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v0_0) = v0 c
          ∧ r.2.mem ((c.tc : Thread Cert.PostIdeal.nD Cert.PostIdeal.τ).loc Cert.PostIdeal.main_v0_1) = v1 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v26) = v0 c
          ∧ r.2.mem ((c.tc : Thread Cert.PostRefIdeal.nD Cert.PostRefIdeal.τ).loc Cert.PostRefIdeal.main_v51) = v1 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6))

def preserves_FfnGate_FfnGateIdeal : Prop :=
  True

def algebraic_FfnGateIdeal_FfnGateRefIdeal [hFfnGateIdeal : Cert.FfnGateIdeal.Facts] [hFfnGateRefIdeal : Cert.FfnGateRefIdeal.Facts] : Prop :=
  ∀ (m : (ℓ : Loc Cert.FfnGateIdeal.nD Cert.FfnGateIdeal.τ Cert.FfnGateIdeal.sig) → Buf (Elt Ideal) ℓ) (g : Dev Cert.FfnGateIdeal.nD → PrngReg)
    (m' : (ℓ : Loc Cert.FfnGateRefIdeal.nD Cert.FfnGateRefIdeal.τ Cert.FfnGateRefIdeal.sig) → Buf (Elt Ideal) ℓ) (g' : Dev Cert.FfnGateRefIdeal.nD → PrngReg), Pre_FfnGateIdeal m →
    (∀ c : Dev Cert.FfnGateIdeal.nD,
      m' ((c.tc : Thread Cert.FfnGateRefIdeal.nD Cert.FfnGateRefIdeal.τ).loc Cert.FfnGateRefIdeal.main_arg0) = m ((c.tc : Thread Cert.FfnGateIdeal.nD Cert.FfnGateIdeal.τ).loc Cert.FfnGateIdeal.main_arg0)) →
    ∃ (v0 : (c : Dev Cert.FfnGateIdeal.nD) → Buf (Elt Ideal) ((c.tc : Thread Cert.FfnGateIdeal.nD Cert.FfnGateIdeal.τ).loc Cert.FfnGateIdeal.main_v0)),
      θ_run (Cert.FfnGateIdeal.defs (F := Ideal)) (onTc (τ := Cert.FfnGateIdeal.τ) (Cert.FfnGateIdeal.main (F := Ideal))) ⟨m, fun _ => 0, g⟩ (fun r => ∀ c : Dev Cert.FfnGateIdeal.nD,
          r.2.mem ((c.tc : Thread Cert.FfnGateIdeal.nD Cert.FfnGateIdeal.τ).loc Cert.FfnGateIdeal.main_v0) = v0 c
          ∧ r.2.mem ((c.tc : Thread Cert.FfnGateIdeal.nD Cert.FfnGateIdeal.τ).loc Cert.FfnGateIdeal.main_arg0) = m ((c.tc : Thread Cert.FfnGateIdeal.nD Cert.FfnGateIdeal.τ).loc Cert.FfnGateIdeal.main_arg0))
      ∧ θ_run (Cert.FfnGateRefIdeal.defs (F := Ideal)) (onTc (τ := Cert.FfnGateRefIdeal.τ) (Cert.FfnGateRefIdeal.main (F := Ideal))) ⟨m', fun _ => 0, g'⟩ (fun r => ∀ c : Dev Cert.FfnGateRefIdeal.nD,
          r.2.mem ((c.tc : Thread Cert.FfnGateRefIdeal.nD Cert.FfnGateRefIdeal.τ).loc Cert.FfnGateRefIdeal.main_v4) = v0 c
          ∧ r.2.mem ((c.tc : Thread Cert.FfnGateRefIdeal.nD Cert.FfnGateRefIdeal.τ).loc Cert.FfnGateRefIdeal.main_arg0) = m' ((c.tc : Thread Cert.FfnGateRefIdeal.nD Cert.FfnGateRefIdeal.τ).loc Cert.FfnGateRefIdeal.main_arg0))

def preserves_CastWeights_CastWeightsIdeal : Prop :=
  True

def algebraic_CastWeightsIdeal_CastWeightsRefIdeal [hCastWeightsIdeal : Cert.CastWeightsIdeal.Facts] [hCastWeightsRefIdeal : Cert.CastWeightsRefIdeal.Facts] : Prop :=
  ∀ (m : (ℓ : Loc Cert.CastWeightsIdeal.nD Cert.CastWeightsIdeal.τ Cert.CastWeightsIdeal.sig) → Buf (Elt Ideal) ℓ) (g : Dev Cert.CastWeightsIdeal.nD → PrngReg)
    (m' : (ℓ : Loc Cert.CastWeightsRefIdeal.nD Cert.CastWeightsRefIdeal.τ Cert.CastWeightsRefIdeal.sig) → Buf (Elt Ideal) ℓ) (g' : Dev Cert.CastWeightsRefIdeal.nD → PrngReg), Pre_CastWeightsIdeal m →
    (∀ c : Dev Cert.CastWeightsIdeal.nD,
      m' ((c.tc : Thread Cert.CastWeightsRefIdeal.nD Cert.CastWeightsRefIdeal.τ).loc Cert.CastWeightsRefIdeal.main_arg0) = m ((c.tc : Thread Cert.CastWeightsIdeal.nD Cert.CastWeightsIdeal.τ).loc Cert.CastWeightsIdeal.main_arg0)) →
    ∃ (v0 : (c : Dev Cert.CastWeightsIdeal.nD) → Buf (Elt Ideal) ((c.tc : Thread Cert.CastWeightsIdeal.nD Cert.CastWeightsIdeal.τ).loc Cert.CastWeightsIdeal.main_v0)),
      θ_run (Cert.CastWeightsIdeal.defs (F := Ideal)) (onTc (τ := Cert.CastWeightsIdeal.τ) (Cert.CastWeightsIdeal.main (F := Ideal))) ⟨m, fun _ => 0, g⟩ (fun r => ∀ c : Dev Cert.CastWeightsIdeal.nD,
          r.2.mem ((c.tc : Thread Cert.CastWeightsIdeal.nD Cert.CastWeightsIdeal.τ).loc Cert.CastWeightsIdeal.main_v0) = v0 c
          ∧ r.2.mem ((c.tc : Thread Cert.CastWeightsIdeal.nD Cert.CastWeightsIdeal.τ).loc Cert.CastWeightsIdeal.main_arg0) = m ((c.tc : Thread Cert.CastWeightsIdeal.nD Cert.CastWeightsIdeal.τ).loc Cert.CastWeightsIdeal.main_arg0))
      ∧ θ_run (Cert.CastWeightsRefIdeal.defs (F := Ideal)) (onTc (τ := Cert.CastWeightsRefIdeal.τ) (Cert.CastWeightsRefIdeal.main (F := Ideal))) ⟨m', fun _ => 0, g'⟩ (fun r => ∀ c : Dev Cert.CastWeightsRefIdeal.nD,
          r.2.mem ((c.tc : Thread Cert.CastWeightsRefIdeal.nD Cert.CastWeightsRefIdeal.τ).loc Cert.CastWeightsRefIdeal.main_v0) = v0 c
          ∧ r.2.mem ((c.tc : Thread Cert.CastWeightsRefIdeal.nD Cert.CastWeightsRefIdeal.τ).loc Cert.CastWeightsRefIdeal.main_arg0) = m' ((c.tc : Thread Cert.CastWeightsRefIdeal.nD Cert.CastWeightsRefIdeal.τ).loc Cert.CastWeightsRefIdeal.main_arg0))

def preserves_MmIn_MmInIdeal : Prop :=
  True

def algebraic_MmInIdeal_MmInRefIdeal [hMmInIdeal : Cert.MmInIdeal.Facts] [hMmInRefIdeal : Cert.MmInRefIdeal.Facts] : Prop :=
  ∀ (m : (ℓ : Loc Cert.MmInIdeal.nD Cert.MmInIdeal.τ Cert.MmInIdeal.sig) → Buf (Elt Ideal) ℓ) (g : Dev Cert.MmInIdeal.nD → PrngReg)
    (m' : (ℓ : Loc Cert.MmInRefIdeal.nD Cert.MmInRefIdeal.τ Cert.MmInRefIdeal.sig) → Buf (Elt Ideal) ℓ) (g' : Dev Cert.MmInRefIdeal.nD → PrngReg), Pre_MmInIdeal m →
    (∀ c : Dev Cert.MmInIdeal.nD,
      m' ((c.tc : Thread Cert.MmInRefIdeal.nD Cert.MmInRefIdeal.τ).loc Cert.MmInRefIdeal.main_arg0) = m ((c.tc : Thread Cert.MmInIdeal.nD Cert.MmInIdeal.τ).loc Cert.MmInIdeal.main_arg0)
      ∧ m' ((c.tc : Thread Cert.MmInRefIdeal.nD Cert.MmInRefIdeal.τ).loc Cert.MmInRefIdeal.main_arg1) = m ((c.tc : Thread Cert.MmInIdeal.nD Cert.MmInIdeal.τ).loc Cert.MmInIdeal.main_arg1)
      ∧ m' ((c.tc : Thread Cert.MmInRefIdeal.nD Cert.MmInRefIdeal.τ).loc Cert.MmInRefIdeal.main_arg2) = m ((c.tc : Thread Cert.MmInIdeal.nD Cert.MmInIdeal.τ).loc Cert.MmInIdeal.main_arg2)) →
    ∃ (v0 : (c : Dev Cert.MmInIdeal.nD) → Buf (Elt Ideal) ((c.tc : Thread Cert.MmInIdeal.nD Cert.MmInIdeal.τ).loc Cert.MmInIdeal.main_v0)),
      θ_run (Cert.MmInIdeal.defs (F := Ideal)) (onTc (τ := Cert.MmInIdeal.τ) (Cert.MmInIdeal.main (F := Ideal))) ⟨m, fun _ => 0, g⟩ (fun r => ∀ c : Dev Cert.MmInIdeal.nD,
          r.2.mem ((c.tc : Thread Cert.MmInIdeal.nD Cert.MmInIdeal.τ).loc Cert.MmInIdeal.main_v0) = v0 c
          ∧ r.2.mem ((c.tc : Thread Cert.MmInIdeal.nD Cert.MmInIdeal.τ).loc Cert.MmInIdeal.main_arg0) = m ((c.tc : Thread Cert.MmInIdeal.nD Cert.MmInIdeal.τ).loc Cert.MmInIdeal.main_arg0)
          ∧ r.2.mem ((c.tc : Thread Cert.MmInIdeal.nD Cert.MmInIdeal.τ).loc Cert.MmInIdeal.main_arg1) = m ((c.tc : Thread Cert.MmInIdeal.nD Cert.MmInIdeal.τ).loc Cert.MmInIdeal.main_arg1)
          ∧ r.2.mem ((c.tc : Thread Cert.MmInIdeal.nD Cert.MmInIdeal.τ).loc Cert.MmInIdeal.main_arg2) = m ((c.tc : Thread Cert.MmInIdeal.nD Cert.MmInIdeal.τ).loc Cert.MmInIdeal.main_arg2))
      ∧ θ_run (Cert.MmInRefIdeal.defs (F := Ideal)) (onTc (τ := Cert.MmInRefIdeal.τ) (Cert.MmInRefIdeal.main (F := Ideal))) ⟨m', fun _ => 0, g'⟩ (fun r => ∀ c : Dev Cert.MmInRefIdeal.nD,
          r.2.mem ((c.tc : Thread Cert.MmInRefIdeal.nD Cert.MmInRefIdeal.τ).loc Cert.MmInRefIdeal.main_v4) = v0 c
          ∧ r.2.mem ((c.tc : Thread Cert.MmInRefIdeal.nD Cert.MmInRefIdeal.τ).loc Cert.MmInRefIdeal.main_arg0) = m' ((c.tc : Thread Cert.MmInRefIdeal.nD Cert.MmInRefIdeal.τ).loc Cert.MmInRefIdeal.main_arg0)
          ∧ r.2.mem ((c.tc : Thread Cert.MmInRefIdeal.nD Cert.MmInRefIdeal.τ).loc Cert.MmInRefIdeal.main_arg1) = m' ((c.tc : Thread Cert.MmInRefIdeal.nD Cert.MmInRefIdeal.τ).loc Cert.MmInRefIdeal.main_arg1)
          ∧ r.2.mem ((c.tc : Thread Cert.MmInRefIdeal.nD Cert.MmInRefIdeal.τ).loc Cert.MmInRefIdeal.main_arg2) = m' ((c.tc : Thread Cert.MmInRefIdeal.nD Cert.MmInRefIdeal.τ).loc Cert.MmInRefIdeal.main_arg2))

def preserves_MmUp_MmUpIdeal : Prop :=
  True

def algebraic_MmUpIdeal_MmUpRefIdeal [hMmUpIdeal : Cert.MmUpIdeal.Facts] [hMmUpRefIdeal : Cert.MmUpRefIdeal.Facts] : Prop :=
  ∀ (m : (ℓ : Loc Cert.MmUpIdeal.nD Cert.MmUpIdeal.τ Cert.MmUpIdeal.sig) → Buf (Elt Ideal) ℓ) (g : Dev Cert.MmUpIdeal.nD → PrngReg)
    (m' : (ℓ : Loc Cert.MmUpRefIdeal.nD Cert.MmUpRefIdeal.τ Cert.MmUpRefIdeal.sig) → Buf (Elt Ideal) ℓ) (g' : Dev Cert.MmUpRefIdeal.nD → PrngReg), Pre_MmUpIdeal m →
    (∀ c : Dev Cert.MmUpIdeal.nD,
      m' ((c.tc : Thread Cert.MmUpRefIdeal.nD Cert.MmUpRefIdeal.τ).loc Cert.MmUpRefIdeal.main_arg0) = m ((c.tc : Thread Cert.MmUpIdeal.nD Cert.MmUpIdeal.τ).loc Cert.MmUpIdeal.main_arg0)
      ∧ m' ((c.tc : Thread Cert.MmUpRefIdeal.nD Cert.MmUpRefIdeal.τ).loc Cert.MmUpRefIdeal.main_arg1) = m ((c.tc : Thread Cert.MmUpIdeal.nD Cert.MmUpIdeal.τ).loc Cert.MmUpIdeal.main_arg1)) →
    ∃ (v0 : (c : Dev Cert.MmUpIdeal.nD) → Buf (Elt Ideal) ((c.tc : Thread Cert.MmUpIdeal.nD Cert.MmUpIdeal.τ).loc Cert.MmUpIdeal.main_v0)),
      θ_run (Cert.MmUpIdeal.defs (F := Ideal)) (onTc (τ := Cert.MmUpIdeal.τ) (Cert.MmUpIdeal.main (F := Ideal))) ⟨m, fun _ => 0, g⟩ (fun r => ∀ c : Dev Cert.MmUpIdeal.nD,
          r.2.mem ((c.tc : Thread Cert.MmUpIdeal.nD Cert.MmUpIdeal.τ).loc Cert.MmUpIdeal.main_v0) = v0 c
          ∧ r.2.mem ((c.tc : Thread Cert.MmUpIdeal.nD Cert.MmUpIdeal.τ).loc Cert.MmUpIdeal.main_arg0) = m ((c.tc : Thread Cert.MmUpIdeal.nD Cert.MmUpIdeal.τ).loc Cert.MmUpIdeal.main_arg0)
          ∧ r.2.mem ((c.tc : Thread Cert.MmUpIdeal.nD Cert.MmUpIdeal.τ).loc Cert.MmUpIdeal.main_arg1) = m ((c.tc : Thread Cert.MmUpIdeal.nD Cert.MmUpIdeal.τ).loc Cert.MmUpIdeal.main_arg1))
      ∧ θ_run (Cert.MmUpRefIdeal.defs (F := Ideal)) (onTc (τ := Cert.MmUpRefIdeal.τ) (Cert.MmUpRefIdeal.main (F := Ideal))) ⟨m', fun _ => 0, g'⟩ (fun r => ∀ c : Dev Cert.MmUpRefIdeal.nD,
          r.2.mem ((c.tc : Thread Cert.MmUpRefIdeal.nD Cert.MmUpRefIdeal.τ).loc Cert.MmUpRefIdeal.main_v2) = v0 c
          ∧ r.2.mem ((c.tc : Thread Cert.MmUpRefIdeal.nD Cert.MmUpRefIdeal.τ).loc Cert.MmUpRefIdeal.main_arg0) = m' ((c.tc : Thread Cert.MmUpRefIdeal.nD Cert.MmUpRefIdeal.τ).loc Cert.MmUpRefIdeal.main_arg0)
          ∧ r.2.mem ((c.tc : Thread Cert.MmUpRefIdeal.nD Cert.MmUpRefIdeal.τ).loc Cert.MmUpRefIdeal.main_arg1) = m' ((c.tc : Thread Cert.MmUpRefIdeal.nD Cert.MmUpRefIdeal.τ).loc Cert.MmUpRefIdeal.main_arg1))

def preserves_MmConvOut_MmConvOutIdeal : Prop :=
  True

def algebraic_MmConvOutIdeal_MmConvOutRefIdeal [hMmConvOutIdeal : Cert.MmConvOutIdeal.Facts] [hMmConvOutRefIdeal : Cert.MmConvOutRefIdeal.Facts] : Prop :=
  ∀ (m : (ℓ : Loc Cert.MmConvOutIdeal.nD Cert.MmConvOutIdeal.τ Cert.MmConvOutIdeal.sig) → Buf (Elt Ideal) ℓ) (g : Dev Cert.MmConvOutIdeal.nD → PrngReg)
    (m' : (ℓ : Loc Cert.MmConvOutRefIdeal.nD Cert.MmConvOutRefIdeal.τ Cert.MmConvOutRefIdeal.sig) → Buf (Elt Ideal) ℓ) (g' : Dev Cert.MmConvOutRefIdeal.nD → PrngReg), Pre_MmConvOutIdeal m →
    (∀ c : Dev Cert.MmConvOutIdeal.nD,
      m' ((c.tc : Thread Cert.MmConvOutRefIdeal.nD Cert.MmConvOutRefIdeal.τ).loc Cert.MmConvOutRefIdeal.main_arg0) = m ((c.tc : Thread Cert.MmConvOutIdeal.nD Cert.MmConvOutIdeal.τ).loc Cert.MmConvOutIdeal.main_arg0)
      ∧ m' ((c.tc : Thread Cert.MmConvOutRefIdeal.nD Cert.MmConvOutRefIdeal.τ).loc Cert.MmConvOutRefIdeal.main_arg1) = m ((c.tc : Thread Cert.MmConvOutIdeal.nD Cert.MmConvOutIdeal.τ).loc Cert.MmConvOutIdeal.main_arg1)) →
    ∃ (v0 : (c : Dev Cert.MmConvOutIdeal.nD) → Buf (Elt Ideal) ((c.tc : Thread Cert.MmConvOutIdeal.nD Cert.MmConvOutIdeal.τ).loc Cert.MmConvOutIdeal.main_v0)),
      θ_run (Cert.MmConvOutIdeal.defs (F := Ideal)) (onTc (τ := Cert.MmConvOutIdeal.τ) (Cert.MmConvOutIdeal.main (F := Ideal))) ⟨m, fun _ => 0, g⟩ (fun r => ∀ c : Dev Cert.MmConvOutIdeal.nD,
          r.2.mem ((c.tc : Thread Cert.MmConvOutIdeal.nD Cert.MmConvOutIdeal.τ).loc Cert.MmConvOutIdeal.main_v0) = v0 c
          ∧ r.2.mem ((c.tc : Thread Cert.MmConvOutIdeal.nD Cert.MmConvOutIdeal.τ).loc Cert.MmConvOutIdeal.main_arg0) = m ((c.tc : Thread Cert.MmConvOutIdeal.nD Cert.MmConvOutIdeal.τ).loc Cert.MmConvOutIdeal.main_arg0)
          ∧ r.2.mem ((c.tc : Thread Cert.MmConvOutIdeal.nD Cert.MmConvOutIdeal.τ).loc Cert.MmConvOutIdeal.main_arg1) = m ((c.tc : Thread Cert.MmConvOutIdeal.nD Cert.MmConvOutIdeal.τ).loc Cert.MmConvOutIdeal.main_arg1))
      ∧ θ_run (Cert.MmConvOutRefIdeal.defs (F := Ideal)) (onTc (τ := Cert.MmConvOutRefIdeal.τ) (Cert.MmConvOutRefIdeal.main (F := Ideal))) ⟨m', fun _ => 0, g'⟩ (fun r => ∀ c : Dev Cert.MmConvOutRefIdeal.nD,
          r.2.mem ((c.tc : Thread Cert.MmConvOutRefIdeal.nD Cert.MmConvOutRefIdeal.τ).loc Cert.MmConvOutRefIdeal.main_v1) = v0 c
          ∧ r.2.mem ((c.tc : Thread Cert.MmConvOutRefIdeal.nD Cert.MmConvOutRefIdeal.τ).loc Cert.MmConvOutRefIdeal.main_arg0) = m' ((c.tc : Thread Cert.MmConvOutRefIdeal.nD Cert.MmConvOutRefIdeal.τ).loc Cert.MmConvOutRefIdeal.main_arg0)
          ∧ r.2.mem ((c.tc : Thread Cert.MmConvOutRefIdeal.nD Cert.MmConvOutRefIdeal.τ).loc Cert.MmConvOutRefIdeal.main_arg1) = m' ((c.tc : Thread Cert.MmConvOutRefIdeal.nD Cert.MmConvOutRefIdeal.τ).loc Cert.MmConvOutRefIdeal.main_arg1))

def preserves_MmRetOut_MmRetOutIdeal : Prop :=
  True

def algebraic_MmRetOutIdeal_MmRetOutRefIdeal [hMmRetOutIdeal : Cert.MmRetOutIdeal.Facts] [hMmRetOutRefIdeal : Cert.MmRetOutRefIdeal.Facts] : Prop :=
  ∀ (m : (ℓ : Loc Cert.MmRetOutIdeal.nD Cert.MmRetOutIdeal.τ Cert.MmRetOutIdeal.sig) → Buf (Elt Ideal) ℓ) (g : Dev Cert.MmRetOutIdeal.nD → PrngReg)
    (m' : (ℓ : Loc Cert.MmRetOutRefIdeal.nD Cert.MmRetOutRefIdeal.τ Cert.MmRetOutRefIdeal.sig) → Buf (Elt Ideal) ℓ) (g' : Dev Cert.MmRetOutRefIdeal.nD → PrngReg), Pre_MmRetOutIdeal m →
    (∀ c : Dev Cert.MmRetOutIdeal.nD,
      m' ((c.tc : Thread Cert.MmRetOutRefIdeal.nD Cert.MmRetOutRefIdeal.τ).loc Cert.MmRetOutRefIdeal.main_arg0) = m ((c.tc : Thread Cert.MmRetOutIdeal.nD Cert.MmRetOutIdeal.τ).loc Cert.MmRetOutIdeal.main_arg0)
      ∧ m' ((c.tc : Thread Cert.MmRetOutRefIdeal.nD Cert.MmRetOutRefIdeal.τ).loc Cert.MmRetOutRefIdeal.main_arg1) = m ((c.tc : Thread Cert.MmRetOutIdeal.nD Cert.MmRetOutIdeal.τ).loc Cert.MmRetOutIdeal.main_arg1)) →
    ∃ (v0 : (c : Dev Cert.MmRetOutIdeal.nD) → Buf (Elt Ideal) ((c.tc : Thread Cert.MmRetOutIdeal.nD Cert.MmRetOutIdeal.τ).loc Cert.MmRetOutIdeal.main_v0)),
      θ_run (Cert.MmRetOutIdeal.defs (F := Ideal)) (onTc (τ := Cert.MmRetOutIdeal.τ) (Cert.MmRetOutIdeal.main (F := Ideal))) ⟨m, fun _ => 0, g⟩ (fun r => ∀ c : Dev Cert.MmRetOutIdeal.nD,
          r.2.mem ((c.tc : Thread Cert.MmRetOutIdeal.nD Cert.MmRetOutIdeal.τ).loc Cert.MmRetOutIdeal.main_v0) = v0 c
          ∧ r.2.mem ((c.tc : Thread Cert.MmRetOutIdeal.nD Cert.MmRetOutIdeal.τ).loc Cert.MmRetOutIdeal.main_arg0) = m ((c.tc : Thread Cert.MmRetOutIdeal.nD Cert.MmRetOutIdeal.τ).loc Cert.MmRetOutIdeal.main_arg0)
          ∧ r.2.mem ((c.tc : Thread Cert.MmRetOutIdeal.nD Cert.MmRetOutIdeal.τ).loc Cert.MmRetOutIdeal.main_arg1) = m ((c.tc : Thread Cert.MmRetOutIdeal.nD Cert.MmRetOutIdeal.τ).loc Cert.MmRetOutIdeal.main_arg1))
      ∧ θ_run (Cert.MmRetOutRefIdeal.defs (F := Ideal)) (onTc (τ := Cert.MmRetOutRefIdeal.τ) (Cert.MmRetOutRefIdeal.main (F := Ideal))) ⟨m', fun _ => 0, g'⟩ (fun r => ∀ c : Dev Cert.MmRetOutRefIdeal.nD,
          r.2.mem ((c.tc : Thread Cert.MmRetOutRefIdeal.nD Cert.MmRetOutRefIdeal.τ).loc Cert.MmRetOutRefIdeal.main_v1) = v0 c
          ∧ r.2.mem ((c.tc : Thread Cert.MmRetOutRefIdeal.nD Cert.MmRetOutRefIdeal.τ).loc Cert.MmRetOutRefIdeal.main_arg0) = m' ((c.tc : Thread Cert.MmRetOutRefIdeal.nD Cert.MmRetOutRefIdeal.τ).loc Cert.MmRetOutRefIdeal.main_arg0)
          ∧ r.2.mem ((c.tc : Thread Cert.MmRetOutRefIdeal.nD Cert.MmRetOutRefIdeal.τ).loc Cert.MmRetOutRefIdeal.main_arg1) = m' ((c.tc : Thread Cert.MmRetOutRefIdeal.nD Cert.MmRetOutRefIdeal.τ).loc Cert.MmRetOutRefIdeal.main_arg1))

def preserves_MmOut_MmOutIdeal : Prop :=
  True

def algebraic_MmOutIdeal_MmOutRefIdeal [hMmOutIdeal : Cert.MmOutIdeal.Facts] [hMmOutRefIdeal : Cert.MmOutRefIdeal.Facts] : Prop :=
  ∀ (m : (ℓ : Loc Cert.MmOutIdeal.nD Cert.MmOutIdeal.τ Cert.MmOutIdeal.sig) → Buf (Elt Ideal) ℓ) (g : Dev Cert.MmOutIdeal.nD → PrngReg)
    (m' : (ℓ : Loc Cert.MmOutRefIdeal.nD Cert.MmOutRefIdeal.τ Cert.MmOutRefIdeal.sig) → Buf (Elt Ideal) ℓ) (g' : Dev Cert.MmOutRefIdeal.nD → PrngReg), Pre_MmOutIdeal m →
    (∀ c : Dev Cert.MmOutIdeal.nD,
      m' ((c.tc : Thread Cert.MmOutRefIdeal.nD Cert.MmOutRefIdeal.τ).loc Cert.MmOutRefIdeal.main_arg0) = m ((c.tc : Thread Cert.MmOutIdeal.nD Cert.MmOutIdeal.τ).loc Cert.MmOutIdeal.main_arg0)
      ∧ m' ((c.tc : Thread Cert.MmOutRefIdeal.nD Cert.MmOutRefIdeal.τ).loc Cert.MmOutRefIdeal.main_arg1) = m ((c.tc : Thread Cert.MmOutIdeal.nD Cert.MmOutIdeal.τ).loc Cert.MmOutIdeal.main_arg1)) →
    ∃ (v0 : (c : Dev Cert.MmOutIdeal.nD) → Buf (Elt Ideal) ((c.tc : Thread Cert.MmOutIdeal.nD Cert.MmOutIdeal.τ).loc Cert.MmOutIdeal.main_v0)),
      θ_run (Cert.MmOutIdeal.defs (F := Ideal)) (onTc (τ := Cert.MmOutIdeal.τ) (Cert.MmOutIdeal.main (F := Ideal))) ⟨m, fun _ => 0, g⟩ (fun r => ∀ c : Dev Cert.MmOutIdeal.nD,
          r.2.mem ((c.tc : Thread Cert.MmOutIdeal.nD Cert.MmOutIdeal.τ).loc Cert.MmOutIdeal.main_v0) = v0 c
          ∧ r.2.mem ((c.tc : Thread Cert.MmOutIdeal.nD Cert.MmOutIdeal.τ).loc Cert.MmOutIdeal.main_arg0) = m ((c.tc : Thread Cert.MmOutIdeal.nD Cert.MmOutIdeal.τ).loc Cert.MmOutIdeal.main_arg0)
          ∧ r.2.mem ((c.tc : Thread Cert.MmOutIdeal.nD Cert.MmOutIdeal.τ).loc Cert.MmOutIdeal.main_arg1) = m ((c.tc : Thread Cert.MmOutIdeal.nD Cert.MmOutIdeal.τ).loc Cert.MmOutIdeal.main_arg1))
      ∧ θ_run (Cert.MmOutRefIdeal.defs (F := Ideal)) (onTc (τ := Cert.MmOutRefIdeal.τ) (Cert.MmOutRefIdeal.main (F := Ideal))) ⟨m', fun _ => 0, g'⟩ (fun r => ∀ c : Dev Cert.MmOutRefIdeal.nD,
          r.2.mem ((c.tc : Thread Cert.MmOutRefIdeal.nD Cert.MmOutRefIdeal.τ).loc Cert.MmOutRefIdeal.main_v1) = v0 c
          ∧ r.2.mem ((c.tc : Thread Cert.MmOutRefIdeal.nD Cert.MmOutRefIdeal.τ).loc Cert.MmOutRefIdeal.main_arg0) = m' ((c.tc : Thread Cert.MmOutRefIdeal.nD Cert.MmOutRefIdeal.τ).loc Cert.MmOutRefIdeal.main_arg0)
          ∧ r.2.mem ((c.tc : Thread Cert.MmOutRefIdeal.nD Cert.MmOutRefIdeal.τ).loc Cert.MmOutRefIdeal.main_arg1) = m' ((c.tc : Thread Cert.MmOutRefIdeal.nD Cert.MmOutRefIdeal.τ).loc Cert.MmOutRefIdeal.main_arg1))

def preserves_MmDown_MmDownIdeal : Prop :=
  True

def algebraic_MmDownIdeal_MmDownRefIdeal [hMmDownIdeal : Cert.MmDownIdeal.Facts] [hMmDownRefIdeal : Cert.MmDownRefIdeal.Facts] : Prop :=
  ∀ (m : (ℓ : Loc Cert.MmDownIdeal.nD Cert.MmDownIdeal.τ Cert.MmDownIdeal.sig) → Buf (Elt Ideal) ℓ) (g : Dev Cert.MmDownIdeal.nD → PrngReg)
    (m' : (ℓ : Loc Cert.MmDownRefIdeal.nD Cert.MmDownRefIdeal.τ Cert.MmDownRefIdeal.sig) → Buf (Elt Ideal) ℓ) (g' : Dev Cert.MmDownRefIdeal.nD → PrngReg), Pre_MmDownIdeal m →
    (∀ c : Dev Cert.MmDownIdeal.nD,
      m' ((c.tc : Thread Cert.MmDownRefIdeal.nD Cert.MmDownRefIdeal.τ).loc Cert.MmDownRefIdeal.main_arg0) = m ((c.tc : Thread Cert.MmDownIdeal.nD Cert.MmDownIdeal.τ).loc Cert.MmDownIdeal.main_arg0)
      ∧ m' ((c.tc : Thread Cert.MmDownRefIdeal.nD Cert.MmDownRefIdeal.τ).loc Cert.MmDownRefIdeal.main_arg1) = m ((c.tc : Thread Cert.MmDownIdeal.nD Cert.MmDownIdeal.τ).loc Cert.MmDownIdeal.main_arg1)) →
    ∃ (v0 : (c : Dev Cert.MmDownIdeal.nD) → Buf (Elt Ideal) ((c.tc : Thread Cert.MmDownIdeal.nD Cert.MmDownIdeal.τ).loc Cert.MmDownIdeal.main_v0)),
      θ_run (Cert.MmDownIdeal.defs (F := Ideal)) (onTc (τ := Cert.MmDownIdeal.τ) (Cert.MmDownIdeal.main (F := Ideal))) ⟨m, fun _ => 0, g⟩ (fun r => ∀ c : Dev Cert.MmDownIdeal.nD,
          r.2.mem ((c.tc : Thread Cert.MmDownIdeal.nD Cert.MmDownIdeal.τ).loc Cert.MmDownIdeal.main_v0) = v0 c
          ∧ r.2.mem ((c.tc : Thread Cert.MmDownIdeal.nD Cert.MmDownIdeal.τ).loc Cert.MmDownIdeal.main_arg0) = m ((c.tc : Thread Cert.MmDownIdeal.nD Cert.MmDownIdeal.τ).loc Cert.MmDownIdeal.main_arg0)
          ∧ r.2.mem ((c.tc : Thread Cert.MmDownIdeal.nD Cert.MmDownIdeal.τ).loc Cert.MmDownIdeal.main_arg1) = m ((c.tc : Thread Cert.MmDownIdeal.nD Cert.MmDownIdeal.τ).loc Cert.MmDownIdeal.main_arg1))
      ∧ θ_run (Cert.MmDownRefIdeal.defs (F := Ideal)) (onTc (τ := Cert.MmDownRefIdeal.τ) (Cert.MmDownRefIdeal.main (F := Ideal))) ⟨m', fun _ => 0, g'⟩ (fun r => ∀ c : Dev Cert.MmDownRefIdeal.nD,
          r.2.mem ((c.tc : Thread Cert.MmDownRefIdeal.nD Cert.MmDownRefIdeal.τ).loc Cert.MmDownRefIdeal.main_v1) = v0 c
          ∧ r.2.mem ((c.tc : Thread Cert.MmDownRefIdeal.nD Cert.MmDownRefIdeal.τ).loc Cert.MmDownRefIdeal.main_arg0) = m' ((c.tc : Thread Cert.MmDownRefIdeal.nD Cert.MmDownRefIdeal.τ).loc Cert.MmDownRefIdeal.main_arg0)
          ∧ r.2.mem ((c.tc : Thread Cert.MmDownRefIdeal.nD Cert.MmDownRefIdeal.τ).loc Cert.MmDownRefIdeal.main_arg1) = m' ((c.tc : Thread Cert.MmDownRefIdeal.nD Cert.MmDownRefIdeal.τ).loc Cert.MmDownRefIdeal.main_arg1))

def preserves_MmDownDx_MmDownDxIdeal : Prop :=
  True

def algebraic_MmDownDxIdeal_MmDownDxRefIdeal [hMmDownDxIdeal : Cert.MmDownDxIdeal.Facts] [hMmDownDxRefIdeal : Cert.MmDownDxRefIdeal.Facts] : Prop :=
  ∀ (m : (ℓ : Loc Cert.MmDownDxIdeal.nD Cert.MmDownDxIdeal.τ Cert.MmDownDxIdeal.sig) → Buf (Elt Ideal) ℓ) (g : Dev Cert.MmDownDxIdeal.nD → PrngReg)
    (m' : (ℓ : Loc Cert.MmDownDxRefIdeal.nD Cert.MmDownDxRefIdeal.τ Cert.MmDownDxRefIdeal.sig) → Buf (Elt Ideal) ℓ) (g' : Dev Cert.MmDownDxRefIdeal.nD → PrngReg), Pre_MmDownDxIdeal m →
    (∀ c : Dev Cert.MmDownDxIdeal.nD,
      m' ((c.tc : Thread Cert.MmDownDxRefIdeal.nD Cert.MmDownDxRefIdeal.τ).loc Cert.MmDownDxRefIdeal.main_arg0) = m ((c.tc : Thread Cert.MmDownDxIdeal.nD Cert.MmDownDxIdeal.τ).loc Cert.MmDownDxIdeal.main_arg0)
      ∧ m' ((c.tc : Thread Cert.MmDownDxRefIdeal.nD Cert.MmDownDxRefIdeal.τ).loc Cert.MmDownDxRefIdeal.main_arg1) = m ((c.tc : Thread Cert.MmDownDxIdeal.nD Cert.MmDownDxIdeal.τ).loc Cert.MmDownDxIdeal.main_arg1)) →
    ∃ (v0 : (c : Dev Cert.MmDownDxIdeal.nD) → Buf (Elt Ideal) ((c.tc : Thread Cert.MmDownDxIdeal.nD Cert.MmDownDxIdeal.τ).loc Cert.MmDownDxIdeal.main_v0)),
      θ_run (Cert.MmDownDxIdeal.defs (F := Ideal)) (onTc (τ := Cert.MmDownDxIdeal.τ) (Cert.MmDownDxIdeal.main (F := Ideal))) ⟨m, fun _ => 0, g⟩ (fun r => ∀ c : Dev Cert.MmDownDxIdeal.nD,
          r.2.mem ((c.tc : Thread Cert.MmDownDxIdeal.nD Cert.MmDownDxIdeal.τ).loc Cert.MmDownDxIdeal.main_v0) = v0 c
          ∧ r.2.mem ((c.tc : Thread Cert.MmDownDxIdeal.nD Cert.MmDownDxIdeal.τ).loc Cert.MmDownDxIdeal.main_arg0) = m ((c.tc : Thread Cert.MmDownDxIdeal.nD Cert.MmDownDxIdeal.τ).loc Cert.MmDownDxIdeal.main_arg0)
          ∧ r.2.mem ((c.tc : Thread Cert.MmDownDxIdeal.nD Cert.MmDownDxIdeal.τ).loc Cert.MmDownDxIdeal.main_arg1) = m ((c.tc : Thread Cert.MmDownDxIdeal.nD Cert.MmDownDxIdeal.τ).loc Cert.MmDownDxIdeal.main_arg1))
      ∧ θ_run (Cert.MmDownDxRefIdeal.defs (F := Ideal)) (onTc (τ := Cert.MmDownDxRefIdeal.τ) (Cert.MmDownDxRefIdeal.main (F := Ideal))) ⟨m', fun _ => 0, g'⟩ (fun r => ∀ c : Dev Cert.MmDownDxRefIdeal.nD,
          r.2.mem ((c.tc : Thread Cert.MmDownDxRefIdeal.nD Cert.MmDownDxRefIdeal.τ).loc Cert.MmDownDxRefIdeal.main_v1) = v0 c
          ∧ r.2.mem ((c.tc : Thread Cert.MmDownDxRefIdeal.nD Cert.MmDownDxRefIdeal.τ).loc Cert.MmDownDxRefIdeal.main_arg0) = m' ((c.tc : Thread Cert.MmDownDxRefIdeal.nD Cert.MmDownDxRefIdeal.τ).loc Cert.MmDownDxRefIdeal.main_arg0)
          ∧ r.2.mem ((c.tc : Thread Cert.MmDownDxRefIdeal.nD Cert.MmDownDxRefIdeal.τ).loc Cert.MmDownDxRefIdeal.main_arg1) = m' ((c.tc : Thread Cert.MmDownDxRefIdeal.nD Cert.MmDownDxRefIdeal.τ).loc Cert.MmDownDxRefIdeal.main_arg1))

def preserves_MmOutDx_MmOutDxIdeal : Prop :=
  True

def algebraic_MmOutDxIdeal_MmOutDxRefIdeal [hMmOutDxIdeal : Cert.MmOutDxIdeal.Facts] [hMmOutDxRefIdeal : Cert.MmOutDxRefIdeal.Facts] : Prop :=
  ∀ (m : (ℓ : Loc Cert.MmOutDxIdeal.nD Cert.MmOutDxIdeal.τ Cert.MmOutDxIdeal.sig) → Buf (Elt Ideal) ℓ) (g : Dev Cert.MmOutDxIdeal.nD → PrngReg)
    (m' : (ℓ : Loc Cert.MmOutDxRefIdeal.nD Cert.MmOutDxRefIdeal.τ Cert.MmOutDxRefIdeal.sig) → Buf (Elt Ideal) ℓ) (g' : Dev Cert.MmOutDxRefIdeal.nD → PrngReg), Pre_MmOutDxIdeal m →
    (∀ c : Dev Cert.MmOutDxIdeal.nD,
      m' ((c.tc : Thread Cert.MmOutDxRefIdeal.nD Cert.MmOutDxRefIdeal.τ).loc Cert.MmOutDxRefIdeal.main_arg0) = m ((c.tc : Thread Cert.MmOutDxIdeal.nD Cert.MmOutDxIdeal.τ).loc Cert.MmOutDxIdeal.main_arg0)
      ∧ m' ((c.tc : Thread Cert.MmOutDxRefIdeal.nD Cert.MmOutDxRefIdeal.τ).loc Cert.MmOutDxRefIdeal.main_arg1) = m ((c.tc : Thread Cert.MmOutDxIdeal.nD Cert.MmOutDxIdeal.τ).loc Cert.MmOutDxIdeal.main_arg1)) →
    ∃ (v0 : (c : Dev Cert.MmOutDxIdeal.nD) → Buf (Elt Ideal) ((c.tc : Thread Cert.MmOutDxIdeal.nD Cert.MmOutDxIdeal.τ).loc Cert.MmOutDxIdeal.main_v0)),
      θ_run (Cert.MmOutDxIdeal.defs (F := Ideal)) (onTc (τ := Cert.MmOutDxIdeal.τ) (Cert.MmOutDxIdeal.main (F := Ideal))) ⟨m, fun _ => 0, g⟩ (fun r => ∀ c : Dev Cert.MmOutDxIdeal.nD,
          r.2.mem ((c.tc : Thread Cert.MmOutDxIdeal.nD Cert.MmOutDxIdeal.τ).loc Cert.MmOutDxIdeal.main_v0) = v0 c
          ∧ r.2.mem ((c.tc : Thread Cert.MmOutDxIdeal.nD Cert.MmOutDxIdeal.τ).loc Cert.MmOutDxIdeal.main_arg0) = m ((c.tc : Thread Cert.MmOutDxIdeal.nD Cert.MmOutDxIdeal.τ).loc Cert.MmOutDxIdeal.main_arg0)
          ∧ r.2.mem ((c.tc : Thread Cert.MmOutDxIdeal.nD Cert.MmOutDxIdeal.τ).loc Cert.MmOutDxIdeal.main_arg1) = m ((c.tc : Thread Cert.MmOutDxIdeal.nD Cert.MmOutDxIdeal.τ).loc Cert.MmOutDxIdeal.main_arg1))
      ∧ θ_run (Cert.MmOutDxRefIdeal.defs (F := Ideal)) (onTc (τ := Cert.MmOutDxRefIdeal.τ) (Cert.MmOutDxRefIdeal.main (F := Ideal))) ⟨m', fun _ => 0, g'⟩ (fun r => ∀ c : Dev Cert.MmOutDxRefIdeal.nD,
          r.2.mem ((c.tc : Thread Cert.MmOutDxRefIdeal.nD Cert.MmOutDxRefIdeal.τ).loc Cert.MmOutDxRefIdeal.main_v1) = v0 c
          ∧ r.2.mem ((c.tc : Thread Cert.MmOutDxRefIdeal.nD Cert.MmOutDxRefIdeal.τ).loc Cert.MmOutDxRefIdeal.main_arg0) = m' ((c.tc : Thread Cert.MmOutDxRefIdeal.nD Cert.MmOutDxRefIdeal.τ).loc Cert.MmOutDxRefIdeal.main_arg0)
          ∧ r.2.mem ((c.tc : Thread Cert.MmOutDxRefIdeal.nD Cert.MmOutDxRefIdeal.τ).loc Cert.MmOutDxRefIdeal.main_arg1) = m' ((c.tc : Thread Cert.MmOutDxRefIdeal.nD Cert.MmOutDxRefIdeal.τ).loc Cert.MmOutDxRefIdeal.main_arg1))

def preserves_MmConvOutDx_MmConvOutDxIdeal : Prop :=
  True

def algebraic_MmConvOutDxIdeal_MmConvOutDxRefIdeal [hMmConvOutDxIdeal : Cert.MmConvOutDxIdeal.Facts] [hMmConvOutDxRefIdeal : Cert.MmConvOutDxRefIdeal.Facts] : Prop :=
  ∀ (m : (ℓ : Loc Cert.MmConvOutDxIdeal.nD Cert.MmConvOutDxIdeal.τ Cert.MmConvOutDxIdeal.sig) → Buf (Elt Ideal) ℓ) (g : Dev Cert.MmConvOutDxIdeal.nD → PrngReg)
    (m' : (ℓ : Loc Cert.MmConvOutDxRefIdeal.nD Cert.MmConvOutDxRefIdeal.τ Cert.MmConvOutDxRefIdeal.sig) → Buf (Elt Ideal) ℓ) (g' : Dev Cert.MmConvOutDxRefIdeal.nD → PrngReg), Pre_MmConvOutDxIdeal m →
    (∀ c : Dev Cert.MmConvOutDxIdeal.nD,
      m' ((c.tc : Thread Cert.MmConvOutDxRefIdeal.nD Cert.MmConvOutDxRefIdeal.τ).loc Cert.MmConvOutDxRefIdeal.main_arg0) = m ((c.tc : Thread Cert.MmConvOutDxIdeal.nD Cert.MmConvOutDxIdeal.τ).loc Cert.MmConvOutDxIdeal.main_arg0)
      ∧ m' ((c.tc : Thread Cert.MmConvOutDxRefIdeal.nD Cert.MmConvOutDxRefIdeal.τ).loc Cert.MmConvOutDxRefIdeal.main_arg1) = m ((c.tc : Thread Cert.MmConvOutDxIdeal.nD Cert.MmConvOutDxIdeal.τ).loc Cert.MmConvOutDxIdeal.main_arg1)) →
    ∃ (v0 : (c : Dev Cert.MmConvOutDxIdeal.nD) → Buf (Elt Ideal) ((c.tc : Thread Cert.MmConvOutDxIdeal.nD Cert.MmConvOutDxIdeal.τ).loc Cert.MmConvOutDxIdeal.main_v0)),
      θ_run (Cert.MmConvOutDxIdeal.defs (F := Ideal)) (onTc (τ := Cert.MmConvOutDxIdeal.τ) (Cert.MmConvOutDxIdeal.main (F := Ideal))) ⟨m, fun _ => 0, g⟩ (fun r => ∀ c : Dev Cert.MmConvOutDxIdeal.nD,
          r.2.mem ((c.tc : Thread Cert.MmConvOutDxIdeal.nD Cert.MmConvOutDxIdeal.τ).loc Cert.MmConvOutDxIdeal.main_v0) = v0 c
          ∧ r.2.mem ((c.tc : Thread Cert.MmConvOutDxIdeal.nD Cert.MmConvOutDxIdeal.τ).loc Cert.MmConvOutDxIdeal.main_arg0) = m ((c.tc : Thread Cert.MmConvOutDxIdeal.nD Cert.MmConvOutDxIdeal.τ).loc Cert.MmConvOutDxIdeal.main_arg0)
          ∧ r.2.mem ((c.tc : Thread Cert.MmConvOutDxIdeal.nD Cert.MmConvOutDxIdeal.τ).loc Cert.MmConvOutDxIdeal.main_arg1) = m ((c.tc : Thread Cert.MmConvOutDxIdeal.nD Cert.MmConvOutDxIdeal.τ).loc Cert.MmConvOutDxIdeal.main_arg1))
      ∧ θ_run (Cert.MmConvOutDxRefIdeal.defs (F := Ideal)) (onTc (τ := Cert.MmConvOutDxRefIdeal.τ) (Cert.MmConvOutDxRefIdeal.main (F := Ideal))) ⟨m', fun _ => 0, g'⟩ (fun r => ∀ c : Dev Cert.MmConvOutDxRefIdeal.nD,
          r.2.mem ((c.tc : Thread Cert.MmConvOutDxRefIdeal.nD Cert.MmConvOutDxRefIdeal.τ).loc Cert.MmConvOutDxRefIdeal.main_v1) = v0 c
          ∧ r.2.mem ((c.tc : Thread Cert.MmConvOutDxRefIdeal.nD Cert.MmConvOutDxRefIdeal.τ).loc Cert.MmConvOutDxRefIdeal.main_arg0) = m' ((c.tc : Thread Cert.MmConvOutDxRefIdeal.nD Cert.MmConvOutDxRefIdeal.τ).loc Cert.MmConvOutDxRefIdeal.main_arg0)
          ∧ r.2.mem ((c.tc : Thread Cert.MmConvOutDxRefIdeal.nD Cert.MmConvOutDxRefIdeal.τ).loc Cert.MmConvOutDxRefIdeal.main_arg1) = m' ((c.tc : Thread Cert.MmConvOutDxRefIdeal.nD Cert.MmConvOutDxRefIdeal.τ).loc Cert.MmConvOutDxRefIdeal.main_arg1))

def preserves_MmRetOutDx_MmRetOutDxIdeal : Prop :=
  True

def algebraic_MmRetOutDxIdeal_MmRetOutDxRefIdeal [hMmRetOutDxIdeal : Cert.MmRetOutDxIdeal.Facts] [hMmRetOutDxRefIdeal : Cert.MmRetOutDxRefIdeal.Facts] : Prop :=
  ∀ (m : (ℓ : Loc Cert.MmRetOutDxIdeal.nD Cert.MmRetOutDxIdeal.τ Cert.MmRetOutDxIdeal.sig) → Buf (Elt Ideal) ℓ) (g : Dev Cert.MmRetOutDxIdeal.nD → PrngReg)
    (m' : (ℓ : Loc Cert.MmRetOutDxRefIdeal.nD Cert.MmRetOutDxRefIdeal.τ Cert.MmRetOutDxRefIdeal.sig) → Buf (Elt Ideal) ℓ) (g' : Dev Cert.MmRetOutDxRefIdeal.nD → PrngReg), Pre_MmRetOutDxIdeal m →
    (∀ c : Dev Cert.MmRetOutDxIdeal.nD,
      m' ((c.tc : Thread Cert.MmRetOutDxRefIdeal.nD Cert.MmRetOutDxRefIdeal.τ).loc Cert.MmRetOutDxRefIdeal.main_arg0) = m ((c.tc : Thread Cert.MmRetOutDxIdeal.nD Cert.MmRetOutDxIdeal.τ).loc Cert.MmRetOutDxIdeal.main_arg0)
      ∧ m' ((c.tc : Thread Cert.MmRetOutDxRefIdeal.nD Cert.MmRetOutDxRefIdeal.τ).loc Cert.MmRetOutDxRefIdeal.main_arg1) = m ((c.tc : Thread Cert.MmRetOutDxIdeal.nD Cert.MmRetOutDxIdeal.τ).loc Cert.MmRetOutDxIdeal.main_arg1)) →
    ∃ (v0 : (c : Dev Cert.MmRetOutDxIdeal.nD) → Buf (Elt Ideal) ((c.tc : Thread Cert.MmRetOutDxIdeal.nD Cert.MmRetOutDxIdeal.τ).loc Cert.MmRetOutDxIdeal.main_v0)),
      θ_run (Cert.MmRetOutDxIdeal.defs (F := Ideal)) (onTc (τ := Cert.MmRetOutDxIdeal.τ) (Cert.MmRetOutDxIdeal.main (F := Ideal))) ⟨m, fun _ => 0, g⟩ (fun r => ∀ c : Dev Cert.MmRetOutDxIdeal.nD,
          r.2.mem ((c.tc : Thread Cert.MmRetOutDxIdeal.nD Cert.MmRetOutDxIdeal.τ).loc Cert.MmRetOutDxIdeal.main_v0) = v0 c
          ∧ r.2.mem ((c.tc : Thread Cert.MmRetOutDxIdeal.nD Cert.MmRetOutDxIdeal.τ).loc Cert.MmRetOutDxIdeal.main_arg0) = m ((c.tc : Thread Cert.MmRetOutDxIdeal.nD Cert.MmRetOutDxIdeal.τ).loc Cert.MmRetOutDxIdeal.main_arg0)
          ∧ r.2.mem ((c.tc : Thread Cert.MmRetOutDxIdeal.nD Cert.MmRetOutDxIdeal.τ).loc Cert.MmRetOutDxIdeal.main_arg1) = m ((c.tc : Thread Cert.MmRetOutDxIdeal.nD Cert.MmRetOutDxIdeal.τ).loc Cert.MmRetOutDxIdeal.main_arg1))
      ∧ θ_run (Cert.MmRetOutDxRefIdeal.defs (F := Ideal)) (onTc (τ := Cert.MmRetOutDxRefIdeal.τ) (Cert.MmRetOutDxRefIdeal.main (F := Ideal))) ⟨m', fun _ => 0, g'⟩ (fun r => ∀ c : Dev Cert.MmRetOutDxRefIdeal.nD,
          r.2.mem ((c.tc : Thread Cert.MmRetOutDxRefIdeal.nD Cert.MmRetOutDxRefIdeal.τ).loc Cert.MmRetOutDxRefIdeal.main_v1) = v0 c
          ∧ r.2.mem ((c.tc : Thread Cert.MmRetOutDxRefIdeal.nD Cert.MmRetOutDxRefIdeal.τ).loc Cert.MmRetOutDxRefIdeal.main_arg0) = m' ((c.tc : Thread Cert.MmRetOutDxRefIdeal.nD Cert.MmRetOutDxRefIdeal.τ).loc Cert.MmRetOutDxRefIdeal.main_arg0)
          ∧ r.2.mem ((c.tc : Thread Cert.MmRetOutDxRefIdeal.nD Cert.MmRetOutDxRefIdeal.τ).loc Cert.MmRetOutDxRefIdeal.main_arg1) = m' ((c.tc : Thread Cert.MmRetOutDxRefIdeal.nD Cert.MmRetOutDxRefIdeal.τ).loc Cert.MmRetOutDxRefIdeal.main_arg1))

def preserves_MmUpDx_MmUpDxIdeal : Prop :=
  True

def algebraic_MmUpDxIdeal_MmUpDxRefIdeal [hMmUpDxIdeal : Cert.MmUpDxIdeal.Facts] [hMmUpDxRefIdeal : Cert.MmUpDxRefIdeal.Facts] : Prop :=
  ∀ (m : (ℓ : Loc Cert.MmUpDxIdeal.nD Cert.MmUpDxIdeal.τ Cert.MmUpDxIdeal.sig) → Buf (Elt Ideal) ℓ) (g : Dev Cert.MmUpDxIdeal.nD → PrngReg)
    (m' : (ℓ : Loc Cert.MmUpDxRefIdeal.nD Cert.MmUpDxRefIdeal.τ Cert.MmUpDxRefIdeal.sig) → Buf (Elt Ideal) ℓ) (g' : Dev Cert.MmUpDxRefIdeal.nD → PrngReg), Pre_MmUpDxIdeal m →
    (∀ c : Dev Cert.MmUpDxIdeal.nD,
      m' ((c.tc : Thread Cert.MmUpDxRefIdeal.nD Cert.MmUpDxRefIdeal.τ).loc Cert.MmUpDxRefIdeal.main_arg0) = m ((c.tc : Thread Cert.MmUpDxIdeal.nD Cert.MmUpDxIdeal.τ).loc Cert.MmUpDxIdeal.main_arg0)
      ∧ m' ((c.tc : Thread Cert.MmUpDxRefIdeal.nD Cert.MmUpDxRefIdeal.τ).loc Cert.MmUpDxRefIdeal.main_arg1) = m ((c.tc : Thread Cert.MmUpDxIdeal.nD Cert.MmUpDxIdeal.τ).loc Cert.MmUpDxIdeal.main_arg1)) →
    ∃ (v0 : (c : Dev Cert.MmUpDxIdeal.nD) → Buf (Elt Ideal) ((c.tc : Thread Cert.MmUpDxIdeal.nD Cert.MmUpDxIdeal.τ).loc Cert.MmUpDxIdeal.main_v0)),
      θ_run (Cert.MmUpDxIdeal.defs (F := Ideal)) (onTc (τ := Cert.MmUpDxIdeal.τ) (Cert.MmUpDxIdeal.main (F := Ideal))) ⟨m, fun _ => 0, g⟩ (fun r => ∀ c : Dev Cert.MmUpDxIdeal.nD,
          r.2.mem ((c.tc : Thread Cert.MmUpDxIdeal.nD Cert.MmUpDxIdeal.τ).loc Cert.MmUpDxIdeal.main_v0) = v0 c
          ∧ r.2.mem ((c.tc : Thread Cert.MmUpDxIdeal.nD Cert.MmUpDxIdeal.τ).loc Cert.MmUpDxIdeal.main_arg0) = m ((c.tc : Thread Cert.MmUpDxIdeal.nD Cert.MmUpDxIdeal.τ).loc Cert.MmUpDxIdeal.main_arg0)
          ∧ r.2.mem ((c.tc : Thread Cert.MmUpDxIdeal.nD Cert.MmUpDxIdeal.τ).loc Cert.MmUpDxIdeal.main_arg1) = m ((c.tc : Thread Cert.MmUpDxIdeal.nD Cert.MmUpDxIdeal.τ).loc Cert.MmUpDxIdeal.main_arg1))
      ∧ θ_run (Cert.MmUpDxRefIdeal.defs (F := Ideal)) (onTc (τ := Cert.MmUpDxRefIdeal.τ) (Cert.MmUpDxRefIdeal.main (F := Ideal))) ⟨m', fun _ => 0, g'⟩ (fun r => ∀ c : Dev Cert.MmUpDxRefIdeal.nD,
          r.2.mem ((c.tc : Thread Cert.MmUpDxRefIdeal.nD Cert.MmUpDxRefIdeal.τ).loc Cert.MmUpDxRefIdeal.main_v2) = v0 c
          ∧ r.2.mem ((c.tc : Thread Cert.MmUpDxRefIdeal.nD Cert.MmUpDxRefIdeal.τ).loc Cert.MmUpDxRefIdeal.main_arg0) = m' ((c.tc : Thread Cert.MmUpDxRefIdeal.nD Cert.MmUpDxRefIdeal.τ).loc Cert.MmUpDxRefIdeal.main_arg0)
          ∧ r.2.mem ((c.tc : Thread Cert.MmUpDxRefIdeal.nD Cert.MmUpDxRefIdeal.τ).loc Cert.MmUpDxRefIdeal.main_arg1) = m' ((c.tc : Thread Cert.MmUpDxRefIdeal.nD Cert.MmUpDxRefIdeal.τ).loc Cert.MmUpDxRefIdeal.main_arg1))

def preserves_MmInDx_MmInDxIdeal : Prop :=
  True

def algebraic_MmInDxIdeal_MmInDxRefIdeal [hMmInDxIdeal : Cert.MmInDxIdeal.Facts] [hMmInDxRefIdeal : Cert.MmInDxRefIdeal.Facts] : Prop :=
  ∀ (m : (ℓ : Loc Cert.MmInDxIdeal.nD Cert.MmInDxIdeal.τ Cert.MmInDxIdeal.sig) → Buf (Elt Ideal) ℓ) (g : Dev Cert.MmInDxIdeal.nD → PrngReg)
    (m' : (ℓ : Loc Cert.MmInDxRefIdeal.nD Cert.MmInDxRefIdeal.τ Cert.MmInDxRefIdeal.sig) → Buf (Elt Ideal) ℓ) (g' : Dev Cert.MmInDxRefIdeal.nD → PrngReg), Pre_MmInDxIdeal m →
    (∀ c : Dev Cert.MmInDxIdeal.nD,
      m' ((c.tc : Thread Cert.MmInDxRefIdeal.nD Cert.MmInDxRefIdeal.τ).loc Cert.MmInDxRefIdeal.main_arg0) = m ((c.tc : Thread Cert.MmInDxIdeal.nD Cert.MmInDxIdeal.τ).loc Cert.MmInDxIdeal.main_arg0)
      ∧ m' ((c.tc : Thread Cert.MmInDxRefIdeal.nD Cert.MmInDxRefIdeal.τ).loc Cert.MmInDxRefIdeal.main_arg1) = m ((c.tc : Thread Cert.MmInDxIdeal.nD Cert.MmInDxIdeal.τ).loc Cert.MmInDxIdeal.main_arg1)) →
    ∃ (v0 : (c : Dev Cert.MmInDxIdeal.nD) → Buf (Elt Ideal) ((c.tc : Thread Cert.MmInDxIdeal.nD Cert.MmInDxIdeal.τ).loc Cert.MmInDxIdeal.main_v0)),
      θ_run (Cert.MmInDxIdeal.defs (F := Ideal)) (onTc (τ := Cert.MmInDxIdeal.τ) (Cert.MmInDxIdeal.main (F := Ideal))) ⟨m, fun _ => 0, g⟩ (fun r => ∀ c : Dev Cert.MmInDxIdeal.nD,
          r.2.mem ((c.tc : Thread Cert.MmInDxIdeal.nD Cert.MmInDxIdeal.τ).loc Cert.MmInDxIdeal.main_v0) = v0 c
          ∧ r.2.mem ((c.tc : Thread Cert.MmInDxIdeal.nD Cert.MmInDxIdeal.τ).loc Cert.MmInDxIdeal.main_arg0) = m ((c.tc : Thread Cert.MmInDxIdeal.nD Cert.MmInDxIdeal.τ).loc Cert.MmInDxIdeal.main_arg0)
          ∧ r.2.mem ((c.tc : Thread Cert.MmInDxIdeal.nD Cert.MmInDxIdeal.τ).loc Cert.MmInDxIdeal.main_arg1) = m ((c.tc : Thread Cert.MmInDxIdeal.nD Cert.MmInDxIdeal.τ).loc Cert.MmInDxIdeal.main_arg1))
      ∧ θ_run (Cert.MmInDxRefIdeal.defs (F := Ideal)) (onTc (τ := Cert.MmInDxRefIdeal.τ) (Cert.MmInDxRefIdeal.main (F := Ideal))) ⟨m', fun _ => 0, g'⟩ (fun r => ∀ c : Dev Cert.MmInDxRefIdeal.nD,
          r.2.mem ((c.tc : Thread Cert.MmInDxRefIdeal.nD Cert.MmInDxRefIdeal.τ).loc Cert.MmInDxRefIdeal.main_v2) = v0 c
          ∧ r.2.mem ((c.tc : Thread Cert.MmInDxRefIdeal.nD Cert.MmInDxRefIdeal.τ).loc Cert.MmInDxRefIdeal.main_arg0) = m' ((c.tc : Thread Cert.MmInDxRefIdeal.nD Cert.MmInDxRefIdeal.τ).loc Cert.MmInDxRefIdeal.main_arg0)
          ∧ r.2.mem ((c.tc : Thread Cert.MmInDxRefIdeal.nD Cert.MmInDxRefIdeal.τ).loc Cert.MmInDxRefIdeal.main_arg1) = m' ((c.tc : Thread Cert.MmInDxRefIdeal.nD Cert.MmInDxRefIdeal.τ).loc Cert.MmInDxRefIdeal.main_arg1))

def preserves_MmDownDw_MmDownDwIdeal : Prop :=
  True

def algebraic_MmDownDwIdeal_MmDownDwRefIdeal [hMmDownDwIdeal : Cert.MmDownDwIdeal.Facts] [hMmDownDwRefIdeal : Cert.MmDownDwRefIdeal.Facts] : Prop :=
  ∀ (m : (ℓ : Loc Cert.MmDownDwIdeal.nD Cert.MmDownDwIdeal.τ Cert.MmDownDwIdeal.sig) → Buf (Elt Ideal) ℓ) (g : Dev Cert.MmDownDwIdeal.nD → PrngReg)
    (m' : (ℓ : Loc Cert.MmDownDwRefIdeal.nD Cert.MmDownDwRefIdeal.τ Cert.MmDownDwRefIdeal.sig) → Buf (Elt Ideal) ℓ) (g' : Dev Cert.MmDownDwRefIdeal.nD → PrngReg), Pre_MmDownDwIdeal m →
    (∀ c : Dev Cert.MmDownDwIdeal.nD,
      m' ((c.tc : Thread Cert.MmDownDwRefIdeal.nD Cert.MmDownDwRefIdeal.τ).loc Cert.MmDownDwRefIdeal.main_arg0) = m ((c.tc : Thread Cert.MmDownDwIdeal.nD Cert.MmDownDwIdeal.τ).loc Cert.MmDownDwIdeal.main_arg0)
      ∧ m' ((c.tc : Thread Cert.MmDownDwRefIdeal.nD Cert.MmDownDwRefIdeal.τ).loc Cert.MmDownDwRefIdeal.main_arg1) = m ((c.tc : Thread Cert.MmDownDwIdeal.nD Cert.MmDownDwIdeal.τ).loc Cert.MmDownDwIdeal.main_arg1)) →
    ∃ (v0 : (c : Dev Cert.MmDownDwIdeal.nD) → Buf (Elt Ideal) ((c.tc : Thread Cert.MmDownDwIdeal.nD Cert.MmDownDwIdeal.τ).loc Cert.MmDownDwIdeal.main_v0)),
      θ_run (Cert.MmDownDwIdeal.defs (F := Ideal)) (onTc (τ := Cert.MmDownDwIdeal.τ) (Cert.MmDownDwIdeal.main (F := Ideal))) ⟨m, fun _ => 0, g⟩ (fun r => ∀ c : Dev Cert.MmDownDwIdeal.nD,
          r.2.mem ((c.tc : Thread Cert.MmDownDwIdeal.nD Cert.MmDownDwIdeal.τ).loc Cert.MmDownDwIdeal.main_v0) = v0 c
          ∧ r.2.mem ((c.tc : Thread Cert.MmDownDwIdeal.nD Cert.MmDownDwIdeal.τ).loc Cert.MmDownDwIdeal.main_arg0) = m ((c.tc : Thread Cert.MmDownDwIdeal.nD Cert.MmDownDwIdeal.τ).loc Cert.MmDownDwIdeal.main_arg0)
          ∧ r.2.mem ((c.tc : Thread Cert.MmDownDwIdeal.nD Cert.MmDownDwIdeal.τ).loc Cert.MmDownDwIdeal.main_arg1) = m ((c.tc : Thread Cert.MmDownDwIdeal.nD Cert.MmDownDwIdeal.τ).loc Cert.MmDownDwIdeal.main_arg1))
      ∧ θ_run (Cert.MmDownDwRefIdeal.defs (F := Ideal)) (onTc (τ := Cert.MmDownDwRefIdeal.τ) (Cert.MmDownDwRefIdeal.main (F := Ideal))) ⟨m', fun _ => 0, g'⟩ (fun r => ∀ c : Dev Cert.MmDownDwRefIdeal.nD,
          r.2.mem ((c.tc : Thread Cert.MmDownDwRefIdeal.nD Cert.MmDownDwRefIdeal.τ).loc Cert.MmDownDwRefIdeal.main_v1) = v0 c
          ∧ r.2.mem ((c.tc : Thread Cert.MmDownDwRefIdeal.nD Cert.MmDownDwRefIdeal.τ).loc Cert.MmDownDwRefIdeal.main_arg0) = m' ((c.tc : Thread Cert.MmDownDwRefIdeal.nD Cert.MmDownDwRefIdeal.τ).loc Cert.MmDownDwRefIdeal.main_arg0)
          ∧ r.2.mem ((c.tc : Thread Cert.MmDownDwRefIdeal.nD Cert.MmDownDwRefIdeal.τ).loc Cert.MmDownDwRefIdeal.main_arg1) = m' ((c.tc : Thread Cert.MmDownDwRefIdeal.nD Cert.MmDownDwRefIdeal.τ).loc Cert.MmDownDwRefIdeal.main_arg1))

def preserves_MmOutDw_MmOutDwIdeal : Prop :=
  True

def algebraic_MmOutDwIdeal_MmOutDwRefIdeal [hMmOutDwIdeal : Cert.MmOutDwIdeal.Facts] [hMmOutDwRefIdeal : Cert.MmOutDwRefIdeal.Facts] : Prop :=
  ∀ (m : (ℓ : Loc Cert.MmOutDwIdeal.nD Cert.MmOutDwIdeal.τ Cert.MmOutDwIdeal.sig) → Buf (Elt Ideal) ℓ) (g : Dev Cert.MmOutDwIdeal.nD → PrngReg)
    (m' : (ℓ : Loc Cert.MmOutDwRefIdeal.nD Cert.MmOutDwRefIdeal.τ Cert.MmOutDwRefIdeal.sig) → Buf (Elt Ideal) ℓ) (g' : Dev Cert.MmOutDwRefIdeal.nD → PrngReg), Pre_MmOutDwIdeal m →
    (∀ c : Dev Cert.MmOutDwIdeal.nD,
      m' ((c.tc : Thread Cert.MmOutDwRefIdeal.nD Cert.MmOutDwRefIdeal.τ).loc Cert.MmOutDwRefIdeal.main_arg0) = m ((c.tc : Thread Cert.MmOutDwIdeal.nD Cert.MmOutDwIdeal.τ).loc Cert.MmOutDwIdeal.main_arg0)
      ∧ m' ((c.tc : Thread Cert.MmOutDwRefIdeal.nD Cert.MmOutDwRefIdeal.τ).loc Cert.MmOutDwRefIdeal.main_arg1) = m ((c.tc : Thread Cert.MmOutDwIdeal.nD Cert.MmOutDwIdeal.τ).loc Cert.MmOutDwIdeal.main_arg1)) →
    ∃ (v0 : (c : Dev Cert.MmOutDwIdeal.nD) → Buf (Elt Ideal) ((c.tc : Thread Cert.MmOutDwIdeal.nD Cert.MmOutDwIdeal.τ).loc Cert.MmOutDwIdeal.main_v0)),
      θ_run (Cert.MmOutDwIdeal.defs (F := Ideal)) (onTc (τ := Cert.MmOutDwIdeal.τ) (Cert.MmOutDwIdeal.main (F := Ideal))) ⟨m, fun _ => 0, g⟩ (fun r => ∀ c : Dev Cert.MmOutDwIdeal.nD,
          r.2.mem ((c.tc : Thread Cert.MmOutDwIdeal.nD Cert.MmOutDwIdeal.τ).loc Cert.MmOutDwIdeal.main_v0) = v0 c
          ∧ r.2.mem ((c.tc : Thread Cert.MmOutDwIdeal.nD Cert.MmOutDwIdeal.τ).loc Cert.MmOutDwIdeal.main_arg0) = m ((c.tc : Thread Cert.MmOutDwIdeal.nD Cert.MmOutDwIdeal.τ).loc Cert.MmOutDwIdeal.main_arg0)
          ∧ r.2.mem ((c.tc : Thread Cert.MmOutDwIdeal.nD Cert.MmOutDwIdeal.τ).loc Cert.MmOutDwIdeal.main_arg1) = m ((c.tc : Thread Cert.MmOutDwIdeal.nD Cert.MmOutDwIdeal.τ).loc Cert.MmOutDwIdeal.main_arg1))
      ∧ θ_run (Cert.MmOutDwRefIdeal.defs (F := Ideal)) (onTc (τ := Cert.MmOutDwRefIdeal.τ) (Cert.MmOutDwRefIdeal.main (F := Ideal))) ⟨m', fun _ => 0, g'⟩ (fun r => ∀ c : Dev Cert.MmOutDwRefIdeal.nD,
          r.2.mem ((c.tc : Thread Cert.MmOutDwRefIdeal.nD Cert.MmOutDwRefIdeal.τ).loc Cert.MmOutDwRefIdeal.main_v1) = v0 c
          ∧ r.2.mem ((c.tc : Thread Cert.MmOutDwRefIdeal.nD Cert.MmOutDwRefIdeal.τ).loc Cert.MmOutDwRefIdeal.main_arg0) = m' ((c.tc : Thread Cert.MmOutDwRefIdeal.nD Cert.MmOutDwRefIdeal.τ).loc Cert.MmOutDwRefIdeal.main_arg0)
          ∧ r.2.mem ((c.tc : Thread Cert.MmOutDwRefIdeal.nD Cert.MmOutDwRefIdeal.τ).loc Cert.MmOutDwRefIdeal.main_arg1) = m' ((c.tc : Thread Cert.MmOutDwRefIdeal.nD Cert.MmOutDwRefIdeal.τ).loc Cert.MmOutDwRefIdeal.main_arg1))

def preserves_MmConvOutDw_MmConvOutDwIdeal : Prop :=
  True

def algebraic_MmConvOutDwIdeal_MmConvOutDwRefIdeal [hMmConvOutDwIdeal : Cert.MmConvOutDwIdeal.Facts] [hMmConvOutDwRefIdeal : Cert.MmConvOutDwRefIdeal.Facts] : Prop :=
  ∀ (m : (ℓ : Loc Cert.MmConvOutDwIdeal.nD Cert.MmConvOutDwIdeal.τ Cert.MmConvOutDwIdeal.sig) → Buf (Elt Ideal) ℓ) (g : Dev Cert.MmConvOutDwIdeal.nD → PrngReg)
    (m' : (ℓ : Loc Cert.MmConvOutDwRefIdeal.nD Cert.MmConvOutDwRefIdeal.τ Cert.MmConvOutDwRefIdeal.sig) → Buf (Elt Ideal) ℓ) (g' : Dev Cert.MmConvOutDwRefIdeal.nD → PrngReg), Pre_MmConvOutDwIdeal m →
    (∀ c : Dev Cert.MmConvOutDwIdeal.nD,
      m' ((c.tc : Thread Cert.MmConvOutDwRefIdeal.nD Cert.MmConvOutDwRefIdeal.τ).loc Cert.MmConvOutDwRefIdeal.main_arg0) = m ((c.tc : Thread Cert.MmConvOutDwIdeal.nD Cert.MmConvOutDwIdeal.τ).loc Cert.MmConvOutDwIdeal.main_arg0)
      ∧ m' ((c.tc : Thread Cert.MmConvOutDwRefIdeal.nD Cert.MmConvOutDwRefIdeal.τ).loc Cert.MmConvOutDwRefIdeal.main_arg1) = m ((c.tc : Thread Cert.MmConvOutDwIdeal.nD Cert.MmConvOutDwIdeal.τ).loc Cert.MmConvOutDwIdeal.main_arg1)) →
    ∃ (v0 : (c : Dev Cert.MmConvOutDwIdeal.nD) → Buf (Elt Ideal) ((c.tc : Thread Cert.MmConvOutDwIdeal.nD Cert.MmConvOutDwIdeal.τ).loc Cert.MmConvOutDwIdeal.main_v0)),
      θ_run (Cert.MmConvOutDwIdeal.defs (F := Ideal)) (onTc (τ := Cert.MmConvOutDwIdeal.τ) (Cert.MmConvOutDwIdeal.main (F := Ideal))) ⟨m, fun _ => 0, g⟩ (fun r => ∀ c : Dev Cert.MmConvOutDwIdeal.nD,
          r.2.mem ((c.tc : Thread Cert.MmConvOutDwIdeal.nD Cert.MmConvOutDwIdeal.τ).loc Cert.MmConvOutDwIdeal.main_v0) = v0 c
          ∧ r.2.mem ((c.tc : Thread Cert.MmConvOutDwIdeal.nD Cert.MmConvOutDwIdeal.τ).loc Cert.MmConvOutDwIdeal.main_arg0) = m ((c.tc : Thread Cert.MmConvOutDwIdeal.nD Cert.MmConvOutDwIdeal.τ).loc Cert.MmConvOutDwIdeal.main_arg0)
          ∧ r.2.mem ((c.tc : Thread Cert.MmConvOutDwIdeal.nD Cert.MmConvOutDwIdeal.τ).loc Cert.MmConvOutDwIdeal.main_arg1) = m ((c.tc : Thread Cert.MmConvOutDwIdeal.nD Cert.MmConvOutDwIdeal.τ).loc Cert.MmConvOutDwIdeal.main_arg1))
      ∧ θ_run (Cert.MmConvOutDwRefIdeal.defs (F := Ideal)) (onTc (τ := Cert.MmConvOutDwRefIdeal.τ) (Cert.MmConvOutDwRefIdeal.main (F := Ideal))) ⟨m', fun _ => 0, g'⟩ (fun r => ∀ c : Dev Cert.MmConvOutDwRefIdeal.nD,
          r.2.mem ((c.tc : Thread Cert.MmConvOutDwRefIdeal.nD Cert.MmConvOutDwRefIdeal.τ).loc Cert.MmConvOutDwRefIdeal.main_v1) = v0 c
          ∧ r.2.mem ((c.tc : Thread Cert.MmConvOutDwRefIdeal.nD Cert.MmConvOutDwRefIdeal.τ).loc Cert.MmConvOutDwRefIdeal.main_arg0) = m' ((c.tc : Thread Cert.MmConvOutDwRefIdeal.nD Cert.MmConvOutDwRefIdeal.τ).loc Cert.MmConvOutDwRefIdeal.main_arg0)
          ∧ r.2.mem ((c.tc : Thread Cert.MmConvOutDwRefIdeal.nD Cert.MmConvOutDwRefIdeal.τ).loc Cert.MmConvOutDwRefIdeal.main_arg1) = m' ((c.tc : Thread Cert.MmConvOutDwRefIdeal.nD Cert.MmConvOutDwRefIdeal.τ).loc Cert.MmConvOutDwRefIdeal.main_arg1))

def preserves_MmRetOutDw_MmRetOutDwIdeal : Prop :=
  True

def algebraic_MmRetOutDwIdeal_MmRetOutDwRefIdeal [hMmRetOutDwIdeal : Cert.MmRetOutDwIdeal.Facts] [hMmRetOutDwRefIdeal : Cert.MmRetOutDwRefIdeal.Facts] : Prop :=
  ∀ (m : (ℓ : Loc Cert.MmRetOutDwIdeal.nD Cert.MmRetOutDwIdeal.τ Cert.MmRetOutDwIdeal.sig) → Buf (Elt Ideal) ℓ) (g : Dev Cert.MmRetOutDwIdeal.nD → PrngReg)
    (m' : (ℓ : Loc Cert.MmRetOutDwRefIdeal.nD Cert.MmRetOutDwRefIdeal.τ Cert.MmRetOutDwRefIdeal.sig) → Buf (Elt Ideal) ℓ) (g' : Dev Cert.MmRetOutDwRefIdeal.nD → PrngReg), Pre_MmRetOutDwIdeal m →
    (∀ c : Dev Cert.MmRetOutDwIdeal.nD,
      m' ((c.tc : Thread Cert.MmRetOutDwRefIdeal.nD Cert.MmRetOutDwRefIdeal.τ).loc Cert.MmRetOutDwRefIdeal.main_arg0) = m ((c.tc : Thread Cert.MmRetOutDwIdeal.nD Cert.MmRetOutDwIdeal.τ).loc Cert.MmRetOutDwIdeal.main_arg0)
      ∧ m' ((c.tc : Thread Cert.MmRetOutDwRefIdeal.nD Cert.MmRetOutDwRefIdeal.τ).loc Cert.MmRetOutDwRefIdeal.main_arg1) = m ((c.tc : Thread Cert.MmRetOutDwIdeal.nD Cert.MmRetOutDwIdeal.τ).loc Cert.MmRetOutDwIdeal.main_arg1)) →
    ∃ (v0 : (c : Dev Cert.MmRetOutDwIdeal.nD) → Buf (Elt Ideal) ((c.tc : Thread Cert.MmRetOutDwIdeal.nD Cert.MmRetOutDwIdeal.τ).loc Cert.MmRetOutDwIdeal.main_v0)),
      θ_run (Cert.MmRetOutDwIdeal.defs (F := Ideal)) (onTc (τ := Cert.MmRetOutDwIdeal.τ) (Cert.MmRetOutDwIdeal.main (F := Ideal))) ⟨m, fun _ => 0, g⟩ (fun r => ∀ c : Dev Cert.MmRetOutDwIdeal.nD,
          r.2.mem ((c.tc : Thread Cert.MmRetOutDwIdeal.nD Cert.MmRetOutDwIdeal.τ).loc Cert.MmRetOutDwIdeal.main_v0) = v0 c
          ∧ r.2.mem ((c.tc : Thread Cert.MmRetOutDwIdeal.nD Cert.MmRetOutDwIdeal.τ).loc Cert.MmRetOutDwIdeal.main_arg0) = m ((c.tc : Thread Cert.MmRetOutDwIdeal.nD Cert.MmRetOutDwIdeal.τ).loc Cert.MmRetOutDwIdeal.main_arg0)
          ∧ r.2.mem ((c.tc : Thread Cert.MmRetOutDwIdeal.nD Cert.MmRetOutDwIdeal.τ).loc Cert.MmRetOutDwIdeal.main_arg1) = m ((c.tc : Thread Cert.MmRetOutDwIdeal.nD Cert.MmRetOutDwIdeal.τ).loc Cert.MmRetOutDwIdeal.main_arg1))
      ∧ θ_run (Cert.MmRetOutDwRefIdeal.defs (F := Ideal)) (onTc (τ := Cert.MmRetOutDwRefIdeal.τ) (Cert.MmRetOutDwRefIdeal.main (F := Ideal))) ⟨m', fun _ => 0, g'⟩ (fun r => ∀ c : Dev Cert.MmRetOutDwRefIdeal.nD,
          r.2.mem ((c.tc : Thread Cert.MmRetOutDwRefIdeal.nD Cert.MmRetOutDwRefIdeal.τ).loc Cert.MmRetOutDwRefIdeal.main_v1) = v0 c
          ∧ r.2.mem ((c.tc : Thread Cert.MmRetOutDwRefIdeal.nD Cert.MmRetOutDwRefIdeal.τ).loc Cert.MmRetOutDwRefIdeal.main_arg0) = m' ((c.tc : Thread Cert.MmRetOutDwRefIdeal.nD Cert.MmRetOutDwRefIdeal.τ).loc Cert.MmRetOutDwRefIdeal.main_arg0)
          ∧ r.2.mem ((c.tc : Thread Cert.MmRetOutDwRefIdeal.nD Cert.MmRetOutDwRefIdeal.τ).loc Cert.MmRetOutDwRefIdeal.main_arg1) = m' ((c.tc : Thread Cert.MmRetOutDwRefIdeal.nD Cert.MmRetOutDwRefIdeal.τ).loc Cert.MmRetOutDwRefIdeal.main_arg1))

def preserves_MmUpDw_MmUpDwIdeal : Prop :=
  True

def algebraic_MmUpDwIdeal_MmUpDwRefIdeal [hMmUpDwIdeal : Cert.MmUpDwIdeal.Facts] [hMmUpDwRefIdeal : Cert.MmUpDwRefIdeal.Facts] : Prop :=
  ∀ (m : (ℓ : Loc Cert.MmUpDwIdeal.nD Cert.MmUpDwIdeal.τ Cert.MmUpDwIdeal.sig) → Buf (Elt Ideal) ℓ) (g : Dev Cert.MmUpDwIdeal.nD → PrngReg)
    (m' : (ℓ : Loc Cert.MmUpDwRefIdeal.nD Cert.MmUpDwRefIdeal.τ Cert.MmUpDwRefIdeal.sig) → Buf (Elt Ideal) ℓ) (g' : Dev Cert.MmUpDwRefIdeal.nD → PrngReg), Pre_MmUpDwIdeal m →
    (∀ c : Dev Cert.MmUpDwIdeal.nD,
      m' ((c.tc : Thread Cert.MmUpDwRefIdeal.nD Cert.MmUpDwRefIdeal.τ).loc Cert.MmUpDwRefIdeal.main_arg0) = m ((c.tc : Thread Cert.MmUpDwIdeal.nD Cert.MmUpDwIdeal.τ).loc Cert.MmUpDwIdeal.main_arg0)
      ∧ m' ((c.tc : Thread Cert.MmUpDwRefIdeal.nD Cert.MmUpDwRefIdeal.τ).loc Cert.MmUpDwRefIdeal.main_arg1) = m ((c.tc : Thread Cert.MmUpDwIdeal.nD Cert.MmUpDwIdeal.τ).loc Cert.MmUpDwIdeal.main_arg1)) →
    ∃ (v0 : (c : Dev Cert.MmUpDwIdeal.nD) → Buf (Elt Ideal) ((c.tc : Thread Cert.MmUpDwIdeal.nD Cert.MmUpDwIdeal.τ).loc Cert.MmUpDwIdeal.main_v0)),
      θ_run (Cert.MmUpDwIdeal.defs (F := Ideal)) (onTc (τ := Cert.MmUpDwIdeal.τ) (Cert.MmUpDwIdeal.main (F := Ideal))) ⟨m, fun _ => 0, g⟩ (fun r => ∀ c : Dev Cert.MmUpDwIdeal.nD,
          r.2.mem ((c.tc : Thread Cert.MmUpDwIdeal.nD Cert.MmUpDwIdeal.τ).loc Cert.MmUpDwIdeal.main_v0) = v0 c
          ∧ r.2.mem ((c.tc : Thread Cert.MmUpDwIdeal.nD Cert.MmUpDwIdeal.τ).loc Cert.MmUpDwIdeal.main_arg0) = m ((c.tc : Thread Cert.MmUpDwIdeal.nD Cert.MmUpDwIdeal.τ).loc Cert.MmUpDwIdeal.main_arg0)
          ∧ r.2.mem ((c.tc : Thread Cert.MmUpDwIdeal.nD Cert.MmUpDwIdeal.τ).loc Cert.MmUpDwIdeal.main_arg1) = m ((c.tc : Thread Cert.MmUpDwIdeal.nD Cert.MmUpDwIdeal.τ).loc Cert.MmUpDwIdeal.main_arg1))
      ∧ θ_run (Cert.MmUpDwRefIdeal.defs (F := Ideal)) (onTc (τ := Cert.MmUpDwRefIdeal.τ) (Cert.MmUpDwRefIdeal.main (F := Ideal))) ⟨m', fun _ => 0, g'⟩ (fun r => ∀ c : Dev Cert.MmUpDwRefIdeal.nD,
          r.2.mem ((c.tc : Thread Cert.MmUpDwRefIdeal.nD Cert.MmUpDwRefIdeal.τ).loc Cert.MmUpDwRefIdeal.main_v2) = v0 c
          ∧ r.2.mem ((c.tc : Thread Cert.MmUpDwRefIdeal.nD Cert.MmUpDwRefIdeal.τ).loc Cert.MmUpDwRefIdeal.main_arg0) = m' ((c.tc : Thread Cert.MmUpDwRefIdeal.nD Cert.MmUpDwRefIdeal.τ).loc Cert.MmUpDwRefIdeal.main_arg0)
          ∧ r.2.mem ((c.tc : Thread Cert.MmUpDwRefIdeal.nD Cert.MmUpDwRefIdeal.τ).loc Cert.MmUpDwRefIdeal.main_arg1) = m' ((c.tc : Thread Cert.MmUpDwRefIdeal.nD Cert.MmUpDwRefIdeal.τ).loc Cert.MmUpDwRefIdeal.main_arg1))

def preserves_MmInDw_MmInDwIdeal : Prop :=
  True

def algebraic_MmInDwIdeal_MmInDwRefIdeal [hMmInDwIdeal : Cert.MmInDwIdeal.Facts] [hMmInDwRefIdeal : Cert.MmInDwRefIdeal.Facts] : Prop :=
  ∀ (m : (ℓ : Loc Cert.MmInDwIdeal.nD Cert.MmInDwIdeal.τ Cert.MmInDwIdeal.sig) → Buf (Elt Ideal) ℓ) (g : Dev Cert.MmInDwIdeal.nD → PrngReg)
    (m' : (ℓ : Loc Cert.MmInDwRefIdeal.nD Cert.MmInDwRefIdeal.τ Cert.MmInDwRefIdeal.sig) → Buf (Elt Ideal) ℓ) (g' : Dev Cert.MmInDwRefIdeal.nD → PrngReg), Pre_MmInDwIdeal m →
    (∀ c : Dev Cert.MmInDwIdeal.nD,
      m' ((c.tc : Thread Cert.MmInDwRefIdeal.nD Cert.MmInDwRefIdeal.τ).loc Cert.MmInDwRefIdeal.main_arg0) = m ((c.tc : Thread Cert.MmInDwIdeal.nD Cert.MmInDwIdeal.τ).loc Cert.MmInDwIdeal.main_arg0)
      ∧ m' ((c.tc : Thread Cert.MmInDwRefIdeal.nD Cert.MmInDwRefIdeal.τ).loc Cert.MmInDwRefIdeal.main_arg1) = m ((c.tc : Thread Cert.MmInDwIdeal.nD Cert.MmInDwIdeal.τ).loc Cert.MmInDwIdeal.main_arg1)) →
    ∃ (v0 : (c : Dev Cert.MmInDwIdeal.nD) → Buf (Elt Ideal) ((c.tc : Thread Cert.MmInDwIdeal.nD Cert.MmInDwIdeal.τ).loc Cert.MmInDwIdeal.main_v0)),
      θ_run (Cert.MmInDwIdeal.defs (F := Ideal)) (onTc (τ := Cert.MmInDwIdeal.τ) (Cert.MmInDwIdeal.main (F := Ideal))) ⟨m, fun _ => 0, g⟩ (fun r => ∀ c : Dev Cert.MmInDwIdeal.nD,
          r.2.mem ((c.tc : Thread Cert.MmInDwIdeal.nD Cert.MmInDwIdeal.τ).loc Cert.MmInDwIdeal.main_v0) = v0 c
          ∧ r.2.mem ((c.tc : Thread Cert.MmInDwIdeal.nD Cert.MmInDwIdeal.τ).loc Cert.MmInDwIdeal.main_arg0) = m ((c.tc : Thread Cert.MmInDwIdeal.nD Cert.MmInDwIdeal.τ).loc Cert.MmInDwIdeal.main_arg0)
          ∧ r.2.mem ((c.tc : Thread Cert.MmInDwIdeal.nD Cert.MmInDwIdeal.τ).loc Cert.MmInDwIdeal.main_arg1) = m ((c.tc : Thread Cert.MmInDwIdeal.nD Cert.MmInDwIdeal.τ).loc Cert.MmInDwIdeal.main_arg1))
      ∧ θ_run (Cert.MmInDwRefIdeal.defs (F := Ideal)) (onTc (τ := Cert.MmInDwRefIdeal.τ) (Cert.MmInDwRefIdeal.main (F := Ideal))) ⟨m', fun _ => 0, g'⟩ (fun r => ∀ c : Dev Cert.MmInDwRefIdeal.nD,
          r.2.mem ((c.tc : Thread Cert.MmInDwRefIdeal.nD Cert.MmInDwRefIdeal.τ).loc Cert.MmInDwRefIdeal.main_v2) = v0 c
          ∧ r.2.mem ((c.tc : Thread Cert.MmInDwRefIdeal.nD Cert.MmInDwRefIdeal.τ).loc Cert.MmInDwRefIdeal.main_arg0) = m' ((c.tc : Thread Cert.MmInDwRefIdeal.nD Cert.MmInDwRefIdeal.τ).loc Cert.MmInDwRefIdeal.main_arg0)
          ∧ r.2.mem ((c.tc : Thread Cert.MmInDwRefIdeal.nD Cert.MmInDwRefIdeal.τ).loc Cert.MmInDwRefIdeal.main_arg1) = m' ((c.tc : Thread Cert.MmInDwRefIdeal.nD Cert.MmInDwRefIdeal.τ).loc Cert.MmInDwRefIdeal.main_arg1))

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)) →
    ∃ (v0 : (c : Dev Cert.MergeBwdIdeal.nD) → Buf (Elt Ideal) ((c.tc : Thread Cert.MergeBwdIdeal.nD Cert.MergeBwdIdeal.τ).loc Cert.MergeBwdIdeal.main_v0_0)) (v1 : (c : Dev Cert.MergeBwdIdeal.nD) → Buf (Elt Ideal) ((c.tc : Thread Cert.MergeBwdIdeal.nD Cert.MergeBwdIdeal.τ).loc Cert.MergeBwdIdeal.main_v0_1)) (v2 : (c : Dev Cert.MergeBwdIdeal.nD) → Buf (Elt Ideal) ((c.tc : Thread Cert.MergeBwdIdeal.nD Cert.MergeBwdIdeal.τ).loc Cert.MergeBwdIdeal.main_v0_2)) (v3 : (c : Dev Cert.MergeBwdIdeal.nD) → Buf (Elt Ideal) ((c.tc : Thread Cert.MergeBwdIdeal.nD Cert.MergeBwdIdeal.τ).loc Cert.MergeBwdIdeal.main_v0_3)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v0_0) = v0 c
          ∧ r.2.mem ((c.tc : Thread Cert.MergeBwdIdeal.nD Cert.MergeBwdIdeal.τ).loc Cert.MergeBwdIdeal.main_v0_1) = v1 c
          ∧ r.2.mem ((c.tc : Thread Cert.MergeBwdIdeal.nD Cert.MergeBwdIdeal.τ).loc Cert.MergeBwdIdeal.main_v0_2) = v2 c
          ∧ r.2.mem ((c.tc : Thread Cert.MergeBwdIdeal.nD Cert.MergeBwdIdeal.τ).loc Cert.MergeBwdIdeal.main_v0_3) = v3 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v31) = v0 c
          ∧ r.2.mem ((c.tc : Thread Cert.MergeBwdRefIdeal.nD Cert.MergeBwdRefIdeal.τ).loc Cert.MergeBwdRefIdeal.main_v32) = v1 c
          ∧ r.2.mem ((c.tc : Thread Cert.MergeBwdRefIdeal.nD Cert.MergeBwdRefIdeal.τ).loc Cert.MergeBwdRefIdeal.main_v33) = v2 c
          ∧ r.2.mem ((c.tc : Thread Cert.MergeBwdRefIdeal.nD Cert.MergeBwdRefIdeal.τ).loc Cert.MergeBwdRefIdeal.main_v34) = v3 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3))

def preserves_BiasInGrad_BiasInGradIdeal : Prop :=
  True

def algebraic_BiasInGradIdeal_BiasInGradRefIdeal [hBiasInGradIdeal : Cert.BiasInGradIdeal.Facts] [hBiasInGradRefIdeal : Cert.BiasInGradRefIdeal.Facts] : Prop :=
  ∀ (m : (ℓ : Loc Cert.BiasInGradIdeal.nD Cert.BiasInGradIdeal.τ Cert.BiasInGradIdeal.sig) → Buf (Elt Ideal) ℓ) (g : Dev Cert.BiasInGradIdeal.nD → PrngReg)
    (m' : (ℓ : Loc Cert.BiasInGradRefIdeal.nD Cert.BiasInGradRefIdeal.τ Cert.BiasInGradRefIdeal.sig) → Buf (Elt Ideal) ℓ) (g' : Dev Cert.BiasInGradRefIdeal.nD → PrngReg), Pre_BiasInGradIdeal m →
    (∀ c : Dev Cert.BiasInGradIdeal.nD,
      m' ((c.tc : Thread Cert.BiasInGradRefIdeal.nD Cert.BiasInGradRefIdeal.τ).loc Cert.BiasInGradRefIdeal.main_arg0) = m ((c.tc : Thread Cert.BiasInGradIdeal.nD Cert.BiasInGradIdeal.τ).loc Cert.BiasInGradIdeal.main_arg0)) →
    ∃ (v0 : (c : Dev Cert.BiasInGradIdeal.nD) → Buf (Elt Ideal) ((c.tc : Thread Cert.BiasInGradIdeal.nD Cert.BiasInGradIdeal.τ).loc Cert.BiasInGradIdeal.main_v0)),
      θ_run (Cert.BiasInGradIdeal.defs (F := Ideal)) (onTc (τ := Cert.BiasInGradIdeal.τ) (Cert.BiasInGradIdeal.main (F := Ideal))) ⟨m, fun _ => 0, g⟩ (fun r => ∀ c : Dev Cert.BiasInGradIdeal.nD,
          r.2.mem ((c.tc : Thread Cert.BiasInGradIdeal.nD Cert.BiasInGradIdeal.τ).loc Cert.BiasInGradIdeal.main_v0) = v0 c
          ∧ r.2.mem ((c.tc : Thread Cert.BiasInGradIdeal.nD Cert.BiasInGradIdeal.τ).loc Cert.BiasInGradIdeal.main_arg0) = m ((c.tc : Thread Cert.BiasInGradIdeal.nD Cert.BiasInGradIdeal.τ).loc Cert.BiasInGradIdeal.main_arg0))
      ∧ θ_run (Cert.BiasInGradRefIdeal.defs (F := Ideal)) (onTc (τ := Cert.BiasInGradRefIdeal.τ) (Cert.BiasInGradRefIdeal.main (F := Ideal))) ⟨m', fun _ => 0, g'⟩ (fun r => ∀ c : Dev Cert.BiasInGradRefIdeal.nD,
          r.2.mem ((c.tc : Thread Cert.BiasInGradRefIdeal.nD Cert.BiasInGradRefIdeal.τ).loc Cert.BiasInGradRefIdeal.main_v2) = v0 c
          ∧ r.2.mem ((c.tc : Thread Cert.BiasInGradRefIdeal.nD Cert.BiasInGradRefIdeal.τ).loc Cert.BiasInGradRefIdeal.main_arg0) = m' ((c.tc : Thread Cert.BiasInGradRefIdeal.nD Cert.BiasInGradRefIdeal.τ).loc Cert.BiasInGradRefIdeal.main_arg0))

def preserves_ConvNormBwd_ConvNormBwdIdeal : Prop :=
  True

def algebraic_ConvNormBwdIdeal_ConvNormBwdRefIdeal [hConvNormBwdIdeal : Cert.ConvNormBwdIdeal.Facts] [hConvNormBwdRefIdeal : Cert.ConvNormBwdRefIdeal.Facts] : Prop :=
  ∀ (m : (ℓ : Loc Cert.ConvNormBwdIdeal.nD Cert.ConvNormBwdIdeal.τ Cert.ConvNormBwdIdeal.sig) → Buf (Elt Ideal) ℓ) (g : Dev Cert.ConvNormBwdIdeal.nD → PrngReg)
    (m' : (ℓ : Loc Cert.ConvNormBwdRefIdeal.nD Cert.ConvNormBwdRefIdeal.τ Cert.ConvNormBwdRefIdeal.sig) → Buf (Elt Ideal) ℓ) (g' : Dev Cert.ConvNormBwdRefIdeal.nD → PrngReg), Pre_ConvNormBwdIdeal m →
    (∀ c : Dev Cert.ConvNormBwdIdeal.nD,
      m' ((c.tc : Thread Cert.ConvNormBwdRefIdeal.nD Cert.ConvNormBwdRefIdeal.τ).loc Cert.ConvNormBwdRefIdeal.main_arg0) = m ((c.tc : Thread Cert.ConvNormBwdIdeal.nD Cert.ConvNormBwdIdeal.τ).loc Cert.ConvNormBwdIdeal.main_arg0)
      ∧ m' ((c.tc : Thread Cert.ConvNormBwdRefIdeal.nD Cert.ConvNormBwdRefIdeal.τ).loc Cert.ConvNormBwdRefIdeal.main_arg1) = m ((c.tc : Thread Cert.ConvNormBwdIdeal.nD Cert.ConvNormBwdIdeal.τ).loc Cert.ConvNormBwdIdeal.main_arg1)
      ∧ m' ((c.tc : Thread Cert.ConvNormBwdRefIdeal.nD Cert.ConvNormBwdRefIdeal.τ).loc Cert.ConvNormBwdRefIdeal.main_arg2) = m ((c.tc : Thread Cert.ConvNormBwdIdeal.nD Cert.ConvNormBwdIdeal.τ).loc Cert.ConvNormBwdIdeal.main_arg2)
      ∧ m' ((c.tc : Thread Cert.ConvNormBwdRefIdeal.nD Cert.ConvNormBwdRefIdeal.τ).loc Cert.ConvNormBwdRefIdeal.main_arg3) = m ((c.tc : Thread Cert.ConvNormBwdIdeal.nD Cert.ConvNormBwdIdeal.τ).loc Cert.ConvNormBwdIdeal.main_arg3)) →
    ∃ (v0 : (c : Dev Cert.ConvNormBwdIdeal.nD) → Buf (Elt Ideal) ((c.tc : Thread Cert.ConvNormBwdIdeal.nD Cert.ConvNormBwdIdeal.τ).loc Cert.ConvNormBwdIdeal.main_v0_0)) (v1 : (c : Dev Cert.ConvNormBwdIdeal.nD) → Buf (Elt Ideal) ((c.tc : Thread Cert.ConvNormBwdIdeal.nD Cert.ConvNormBwdIdeal.τ).loc Cert.ConvNormBwdIdeal.main_v0_1)) (v2 : (c : Dev Cert.ConvNormBwdIdeal.nD) → Buf (Elt Ideal) ((c.tc : Thread Cert.ConvNormBwdIdeal.nD Cert.ConvNormBwdIdeal.τ).loc Cert.ConvNormBwdIdeal.main_v0_2)),
      θ_run (Cert.ConvNormBwdIdeal.defs (F := Ideal)) (onTc (τ := Cert.ConvNormBwdIdeal.τ) (Cert.ConvNormBwdIdeal.main (F := Ideal))) ⟨m, fun _ => 0, g⟩ (fun r => ∀ c : Dev Cert.ConvNormBwdIdeal.nD,
          r.2.mem ((c.tc : Thread Cert.ConvNormBwdIdeal.nD Cert.ConvNormBwdIdeal.τ).loc Cert.ConvNormBwdIdeal.main_v0_0) = v0 c
          ∧ r.2.mem ((c.tc : Thread Cert.ConvNormBwdIdeal.nD Cert.ConvNormBwdIdeal.τ).loc Cert.ConvNormBwdIdeal.main_v0_1) = v1 c
          ∧ r.2.mem ((c.tc : Thread Cert.ConvNormBwdIdeal.nD Cert.ConvNormBwdIdeal.τ).loc Cert.ConvNormBwdIdeal.main_v0_2) = v2 c
          ∧ r.2.mem ((c.tc : Thread Cert.ConvNormBwdIdeal.nD Cert.ConvNormBwdIdeal.τ).loc Cert.ConvNormBwdIdeal.main_arg0) = m ((c.tc : Thread Cert.ConvNormBwdIdeal.nD Cert.ConvNormBwdIdeal.τ).loc Cert.ConvNormBwdIdeal.main_arg0)
          ∧ r.2.mem ((c.tc : Thread Cert.ConvNormBwdIdeal.nD Cert.ConvNormBwdIdeal.τ).loc Cert.ConvNormBwdIdeal.main_arg1) = m ((c.tc : Thread Cert.ConvNormBwdIdeal.nD Cert.ConvNormBwdIdeal.τ).loc Cert.ConvNormBwdIdeal.main_arg1)
          ∧ r.2.mem ((c.tc : Thread Cert.ConvNormBwdIdeal.nD Cert.ConvNormBwdIdeal.τ).loc Cert.ConvNormBwdIdeal.main_arg2) = m ((c.tc : Thread Cert.ConvNormBwdIdeal.nD Cert.ConvNormBwdIdeal.τ).loc Cert.ConvNormBwdIdeal.main_arg2)
          ∧ r.2.mem ((c.tc : Thread Cert.ConvNormBwdIdeal.nD Cert.ConvNormBwdIdeal.τ).loc Cert.ConvNormBwdIdeal.main_arg3) = m ((c.tc : Thread Cert.ConvNormBwdIdeal.nD Cert.ConvNormBwdIdeal.τ).loc Cert.ConvNormBwdIdeal.main_arg3))
      ∧ θ_run (Cert.ConvNormBwdRefIdeal.defs (F := Ideal)) (onTc (τ := Cert.ConvNormBwdRefIdeal.τ) (Cert.ConvNormBwdRefIdeal.main (F := Ideal))) ⟨m', fun _ => 0, g'⟩ (fun r => ∀ c : Dev Cert.ConvNormBwdRefIdeal.nD,
          r.2.mem ((c.tc : Thread Cert.ConvNormBwdRefIdeal.nD Cert.ConvNormBwdRefIdeal.τ).loc Cert.ConvNormBwdRefIdeal.main_v59) = v0 c
          ∧ r.2.mem ((c.tc : Thread Cert.ConvNormBwdRefIdeal.nD Cert.ConvNormBwdRefIdeal.τ).loc Cert.ConvNormBwdRefIdeal.main_v33) = v1 c
          ∧ r.2.mem ((c.tc : Thread Cert.ConvNormBwdRefIdeal.nD Cert.ConvNormBwdRefIdeal.τ).loc Cert.ConvNormBwdRefIdeal.main_v30) = v2 c
          ∧ r.2.mem ((c.tc : Thread Cert.ConvNormBwdRefIdeal.nD Cert.ConvNormBwdRefIdeal.τ).loc Cert.ConvNormBwdRefIdeal.main_arg0) = m' ((c.tc : Thread Cert.ConvNormBwdRefIdeal.nD Cert.ConvNormBwdRefIdeal.τ).loc Cert.ConvNormBwdRefIdeal.main_arg0)
          ∧ r.2.mem ((c.tc : Thread Cert.ConvNormBwdRefIdeal.nD Cert.ConvNormBwdRefIdeal.τ).loc Cert.ConvNormBwdRefIdeal.main_arg1) = m' ((c.tc : Thread Cert.ConvNormBwdRefIdeal.nD Cert.ConvNormBwdRefIdeal.τ).loc Cert.ConvNormBwdRefIdeal.main_arg1)
          ∧ r.2.mem ((c.tc : Thread Cert.ConvNormBwdRefIdeal.nD Cert.ConvNormBwdRefIdeal.τ).loc Cert.ConvNormBwdRefIdeal.main_arg2) = m' ((c.tc : Thread Cert.ConvNormBwdRefIdeal.nD Cert.ConvNormBwdRefIdeal.τ).loc Cert.ConvNormBwdRefIdeal.main_arg2)
          ∧ r.2.mem ((c.tc : Thread Cert.ConvNormBwdRefIdeal.nD Cert.ConvNormBwdRefIdeal.τ).loc Cert.ConvNormBwdRefIdeal.main_arg3) = m' ((c.tc : Thread Cert.ConvNormBwdRefIdeal.nD Cert.ConvNormBwdRefIdeal.τ).loc Cert.ConvNormBwdRefIdeal.main_arg3))

def preserves_PostBwd_PostBwdIdeal : Prop :=
  True

def algebraic_PostBwdIdeal_PostBwdRefIdeal [hPostBwdIdeal : Cert.PostBwdIdeal.Facts] [hPostBwdRefIdeal : Cert.PostBwdRefIdeal.Facts] : Prop :=
  ∀ (m : (ℓ : Loc Cert.PostBwdIdeal.nD Cert.PostBwdIdeal.τ Cert.PostBwdIdeal.sig) → Buf (Elt Ideal) ℓ) (g : Dev Cert.PostBwdIdeal.nD → PrngReg)
    (m' : (ℓ : Loc Cert.PostBwdRefIdeal.nD Cert.PostBwdRefIdeal.τ Cert.PostBwdRefIdeal.sig) → Buf (Elt Ideal) ℓ) (g' : Dev Cert.PostBwdRefIdeal.nD → PrngReg), Pre_PostBwdIdeal m →
    (∀ c : Dev Cert.PostBwdIdeal.nD,
      m' ((c.tc : Thread Cert.PostBwdRefIdeal.nD Cert.PostBwdRefIdeal.τ).loc Cert.PostBwdRefIdeal.main_arg0) = m ((c.tc : Thread Cert.PostBwdIdeal.nD Cert.PostBwdIdeal.τ).loc Cert.PostBwdIdeal.main_arg0)
      ∧ m' ((c.tc : Thread Cert.PostBwdRefIdeal.nD Cert.PostBwdRefIdeal.τ).loc Cert.PostBwdRefIdeal.main_arg1) = m ((c.tc : Thread Cert.PostBwdIdeal.nD Cert.PostBwdIdeal.τ).loc Cert.PostBwdIdeal.main_arg1)
      ∧ m' ((c.tc : Thread Cert.PostBwdRefIdeal.nD Cert.PostBwdRefIdeal.τ).loc Cert.PostBwdRefIdeal.main_arg2) = m ((c.tc : Thread Cert.PostBwdIdeal.nD Cert.PostBwdIdeal.τ).loc Cert.PostBwdIdeal.main_arg2)
      ∧ m' ((c.tc : Thread Cert.PostBwdRefIdeal.nD Cert.PostBwdRefIdeal.τ).loc Cert.PostBwdRefIdeal.main_arg3) = m ((c.tc : Thread Cert.PostBwdIdeal.nD Cert.PostBwdIdeal.τ).loc Cert.PostBwdIdeal.main_arg3)
      ∧ m' ((c.tc : Thread Cert.PostBwdRefIdeal.nD Cert.PostBwdRefIdeal.τ).loc Cert.PostBwdRefIdeal.main_arg4) = m ((c.tc : Thread Cert.PostBwdIdeal.nD Cert.PostBwdIdeal.τ).loc Cert.PostBwdIdeal.main_arg4)
      ∧ m' ((c.tc : Thread Cert.PostBwdRefIdeal.nD Cert.PostBwdRefIdeal.τ).loc Cert.PostBwdRefIdeal.main_arg5) = m ((c.tc : Thread Cert.PostBwdIdeal.nD Cert.PostBwdIdeal.τ).loc Cert.PostBwdIdeal.main_arg5)
      ∧ m' ((c.tc : Thread Cert.PostBwdRefIdeal.nD Cert.PostBwdRefIdeal.τ).loc Cert.PostBwdRefIdeal.main_arg6) = m ((c.tc : Thread Cert.PostBwdIdeal.nD Cert.PostBwdIdeal.τ).loc Cert.PostBwdIdeal.main_arg6)
      ∧ m' ((c.tc : Thread Cert.PostBwdRefIdeal.nD Cert.PostBwdRefIdeal.τ).loc Cert.PostBwdRefIdeal.main_arg7) = m ((c.tc : Thread Cert.PostBwdIdeal.nD Cert.PostBwdIdeal.τ).loc Cert.PostBwdIdeal.main_arg7)
      ∧ m' ((c.tc : Thread Cert.PostBwdRefIdeal.nD Cert.PostBwdRefIdeal.τ).loc Cert.PostBwdRefIdeal.main_arg8) = m ((c.tc : Thread Cert.PostBwdIdeal.nD Cert.PostBwdIdeal.τ).loc Cert.PostBwdIdeal.main_arg8)) →
    ∃ (v0 : (c : Dev Cert.PostBwdIdeal.nD) → Buf (Elt Ideal) ((c.tc : Thread Cert.PostBwdIdeal.nD Cert.PostBwdIdeal.τ).loc Cert.PostBwdIdeal.main_v0_0)) (v1 : (c : Dev Cert.PostBwdIdeal.nD) → Buf (Elt Ideal) ((c.tc : Thread Cert.PostBwdIdeal.nD Cert.PostBwdIdeal.τ).loc Cert.PostBwdIdeal.main_v0_1)) (v2 : (c : Dev Cert.PostBwdIdeal.nD) → Buf (Elt Ideal) ((c.tc : Thread Cert.PostBwdIdeal.nD Cert.PostBwdIdeal.τ).loc Cert.PostBwdIdeal.main_v0_2)) (v3 : (c : Dev Cert.PostBwdIdeal.nD) → Buf (Elt Ideal) ((c.tc : Thread Cert.PostBwdIdeal.nD Cert.PostBwdIdeal.τ).loc Cert.PostBwdIdeal.main_v0_3)) (v4 : (c : Dev Cert.PostBwdIdeal.nD) → Buf (Elt Ideal) ((c.tc : Thread Cert.PostBwdIdeal.nD Cert.PostBwdIdeal.τ).loc Cert.PostBwdIdeal.main_v0_4)) (v5 : (c : Dev Cert.PostBwdIdeal.nD) → Buf (Elt Ideal) ((c.tc : Thread Cert.PostBwdIdeal.nD Cert.PostBwdIdeal.τ).loc Cert.PostBwdIdeal.main_v0_5)) (v6 : (c : Dev Cert.PostBwdIdeal.nD) → Buf (Elt Ideal) ((c.tc : Thread Cert.PostBwdIdeal.nD Cert.PostBwdIdeal.τ).loc Cert.PostBwdIdeal.main_v0_6)),
      θ_run (Cert.PostBwdIdeal.defs (F := Ideal)) (onTc (τ := Cert.PostBwdIdeal.τ) (Cert.PostBwdIdeal.main (F := Ideal))) ⟨m, fun _ => 0, g⟩ (fun r => ∀ c : Dev Cert.PostBwdIdeal.nD,
          r.2.mem ((c.tc : Thread Cert.PostBwdIdeal.nD Cert.PostBwdIdeal.τ).loc Cert.PostBwdIdeal.main_v0_0) = v0 c
          ∧ r.2.mem ((c.tc : Thread Cert.PostBwdIdeal.nD Cert.PostBwdIdeal.τ).loc Cert.PostBwdIdeal.main_v0_1) = v1 c
          ∧ r.2.mem ((c.tc : Thread Cert.PostBwdIdeal.nD Cert.PostBwdIdeal.τ).loc Cert.PostBwdIdeal.main_v0_2) = v2 c
          ∧ r.2.mem ((c.tc : Thread Cert.PostBwdIdeal.nD Cert.PostBwdIdeal.τ).loc Cert.PostBwdIdeal.main_v0_3) = v3 c
          ∧ r.2.mem ((c.tc : Thread Cert.PostBwdIdeal.nD Cert.PostBwdIdeal.τ).loc Cert.PostBwdIdeal.main_v0_4) = v4 c
          ∧ r.2.mem ((c.tc : Thread Cert.PostBwdIdeal.nD Cert.PostBwdIdeal.τ).loc Cert.PostBwdIdeal.main_v0_5) = v5 c
          ∧ r.2.mem ((c.tc : Thread Cert.PostBwdIdeal.nD Cert.PostBwdIdeal.τ).loc Cert.PostBwdIdeal.main_v0_6) = v6 c
          ∧ r.2.mem ((c.tc : Thread Cert.PostBwdIdeal.nD Cert.PostBwdIdeal.τ).loc Cert.PostBwdIdeal.main_arg0) = m ((c.tc : Thread Cert.PostBwdIdeal.nD Cert.PostBwdIdeal.τ).loc Cert.PostBwdIdeal.main_arg0)
          ∧ r.2.mem ((c.tc : Thread Cert.PostBwdIdeal.nD Cert.PostBwdIdeal.τ).loc Cert.PostBwdIdeal.main_arg1) = m ((c.tc : Thread Cert.PostBwdIdeal.nD Cert.PostBwdIdeal.τ).loc Cert.PostBwdIdeal.main_arg1)
          ∧ r.2.mem ((c.tc : Thread Cert.PostBwdIdeal.nD Cert.PostBwdIdeal.τ).loc Cert.PostBwdIdeal.main_arg2) = m ((c.tc : Thread Cert.PostBwdIdeal.nD Cert.PostBwdIdeal.τ).loc Cert.PostBwdIdeal.main_arg2)
          ∧ r.2.mem ((c.tc : Thread Cert.PostBwdIdeal.nD Cert.PostBwdIdeal.τ).loc Cert.PostBwdIdeal.main_arg3) = m ((c.tc : Thread Cert.PostBwdIdeal.nD Cert.PostBwdIdeal.τ).loc Cert.PostBwdIdeal.main_arg3)
          ∧ r.2.mem ((c.tc : Thread Cert.PostBwdIdeal.nD Cert.PostBwdIdeal.τ).loc Cert.PostBwdIdeal.main_arg4) = m ((c.tc : Thread Cert.PostBwdIdeal.nD Cert.PostBwdIdeal.τ).loc Cert.PostBwdIdeal.main_arg4)
          ∧ r.2.mem ((c.tc : Thread Cert.PostBwdIdeal.nD Cert.PostBwdIdeal.τ).loc Cert.PostBwdIdeal.main_arg5) = m ((c.tc : Thread Cert.PostBwdIdeal.nD Cert.PostBwdIdeal.τ).loc Cert.PostBwdIdeal.main_arg5)
          ∧ r.2.mem ((c.tc : Thread Cert.PostBwdIdeal.nD Cert.PostBwdIdeal.τ).loc Cert.PostBwdIdeal.main_arg6) = m ((c.tc : Thread Cert.PostBwdIdeal.nD Cert.PostBwdIdeal.τ).loc Cert.PostBwdIdeal.main_arg6)
          ∧ r.2.mem ((c.tc : Thread Cert.PostBwdIdeal.nD Cert.PostBwdIdeal.τ).loc Cert.PostBwdIdeal.main_arg7) = m ((c.tc : Thread Cert.PostBwdIdeal.nD Cert.PostBwdIdeal.τ).loc Cert.PostBwdIdeal.main_arg7)
          ∧ r.2.mem ((c.tc : Thread Cert.PostBwdIdeal.nD Cert.PostBwdIdeal.τ).loc Cert.PostBwdIdeal.main_arg8) = m ((c.tc : Thread Cert.PostBwdIdeal.nD Cert.PostBwdIdeal.τ).loc Cert.PostBwdIdeal.main_arg8))
      ∧ θ_run (Cert.PostBwdRefIdeal.defs (F := Ideal)) (onTc (τ := Cert.PostBwdRefIdeal.τ) (Cert.PostBwdRefIdeal.main (F := Ideal))) ⟨m', fun _ => 0, g'⟩ (fun r => ∀ c : Dev Cert.PostBwdRefIdeal.nD,
          r.2.mem ((c.tc : Thread Cert.PostBwdRefIdeal.nD Cert.PostBwdRefIdeal.τ).loc Cert.PostBwdRefIdeal.main_v132) = v0 c
          ∧ r.2.mem ((c.tc : Thread Cert.PostBwdRefIdeal.nD Cert.PostBwdRefIdeal.τ).loc Cert.PostBwdRefIdeal.main_v133) = v1 c
          ∧ r.2.mem ((c.tc : Thread Cert.PostBwdRefIdeal.nD Cert.PostBwdRefIdeal.τ).loc Cert.PostBwdRefIdeal.main_v130) = v2 c
          ∧ r.2.mem ((c.tc : Thread Cert.PostBwdRefIdeal.nD Cert.PostBwdRefIdeal.τ).loc Cert.PostBwdRefIdeal.main_v99) = v3 c
          ∧ r.2.mem ((c.tc : Thread Cert.PostBwdRefIdeal.nD Cert.PostBwdRefIdeal.τ).loc Cert.PostBwdRefIdeal.main_v96) = v4 c
          ∧ r.2.mem ((c.tc : Thread Cert.PostBwdRefIdeal.nD Cert.PostBwdRefIdeal.τ).loc Cert.PostBwdRefIdeal.main_v66) = v5 c
          ∧ r.2.mem ((c.tc : Thread Cert.PostBwdRefIdeal.nD Cert.PostBwdRefIdeal.τ).loc Cert.PostBwdRefIdeal.main_v63) = v6 c
          ∧ r.2.mem ((c.tc : Thread Cert.PostBwdRefIdeal.nD Cert.PostBwdRefIdeal.τ).loc Cert.PostBwdRefIdeal.main_arg0) = m' ((c.tc : Thread Cert.PostBwdRefIdeal.nD Cert.PostBwdRefIdeal.τ).loc Cert.PostBwdRefIdeal.main_arg0)
          ∧ r.2.mem ((c.tc : Thread Cert.PostBwdRefIdeal.nD Cert.PostBwdRefIdeal.τ).loc Cert.PostBwdRefIdeal.main_arg1) = m' ((c.tc : Thread Cert.PostBwdRefIdeal.nD Cert.PostBwdRefIdeal.τ).loc Cert.PostBwdRefIdeal.main_arg1)
          ∧ r.2.mem ((c.tc : Thread Cert.PostBwdRefIdeal.nD Cert.PostBwdRefIdeal.τ).loc Cert.PostBwdRefIdeal.main_arg2) = m' ((c.tc : Thread Cert.PostBwdRefIdeal.nD Cert.PostBwdRefIdeal.τ).loc Cert.PostBwdRefIdeal.main_arg2)
          ∧ r.2.mem ((c.tc : Thread Cert.PostBwdRefIdeal.nD Cert.PostBwdRefIdeal.τ).loc Cert.PostBwdRefIdeal.main_arg3) = m' ((c.tc : Thread Cert.PostBwdRefIdeal.nD Cert.PostBwdRefIdeal.τ).loc Cert.PostBwdRefIdeal.main_arg3)
          ∧ r.2.mem ((c.tc : Thread Cert.PostBwdRefIdeal.nD Cert.PostBwdRefIdeal.τ).loc Cert.PostBwdRefIdeal.main_arg4) = m' ((c.tc : Thread Cert.PostBwdRefIdeal.nD Cert.PostBwdRefIdeal.τ).loc Cert.PostBwdRefIdeal.main_arg4)
          ∧ r.2.mem ((c.tc : Thread Cert.PostBwdRefIdeal.nD Cert.PostBwdRefIdeal.τ).loc Cert.PostBwdRefIdeal.main_arg5) = m' ((c.tc : Thread Cert.PostBwdRefIdeal.nD Cert.PostBwdRefIdeal.τ).loc Cert.PostBwdRefIdeal.main_arg5)
          ∧ r.2.mem ((c.tc : Thread Cert.PostBwdRefIdeal.nD Cert.PostBwdRefIdeal.τ).loc Cert.PostBwdRefIdeal.main_arg6) = m' ((c.tc : Thread Cert.PostBwdRefIdeal.nD Cert.PostBwdRefIdeal.τ).loc Cert.PostBwdRefIdeal.main_arg6)
          ∧ r.2.mem ((c.tc : Thread Cert.PostBwdRefIdeal.nD Cert.PostBwdRefIdeal.τ).loc Cert.PostBwdRefIdeal.main_arg7) = m' ((c.tc : Thread Cert.PostBwdRefIdeal.nD Cert.PostBwdRefIdeal.τ).loc Cert.PostBwdRefIdeal.main_arg7)
          ∧ r.2.mem ((c.tc : Thread Cert.PostBwdRefIdeal.nD Cert.PostBwdRefIdeal.τ).loc Cert.PostBwdRefIdeal.main_arg8) = m' ((c.tc : Thread Cert.PostBwdRefIdeal.nD Cert.PostBwdRefIdeal.τ).loc Cert.PostBwdRefIdeal.main_arg8))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)) →
    ∃ (v0 : (c : Dev Cert.ConvFwdIdeal.nD) → Buf (Elt Ideal) ((c.tc : Thread Cert.ConvFwdIdeal.nD Cert.ConvFwdIdeal.τ).loc Cert.ConvFwdIdeal.main_v0)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v0) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v229) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2))

def preserves_FfnConvFwd_FfnConvFwdIdeal : Prop :=
  True

def algebraic_FfnConvFwdIdeal_FfnConvFwdRefIdeal [hFfnConvFwdIdeal : Cert.FfnConvFwdIdeal.Facts] [hFfnConvFwdRefIdeal : Cert.FfnConvFwdRefIdeal.Facts] : Prop :=
  ∀ (m : (ℓ : Loc Cert.FfnConvFwdIdeal.nD Cert.FfnConvFwdIdeal.τ Cert.FfnConvFwdIdeal.sig) → Buf (Elt Ideal) ℓ) (g : Dev Cert.FfnConvFwdIdeal.nD → PrngReg)
    (m' : (ℓ : Loc Cert.FfnConvFwdRefIdeal.nD Cert.FfnConvFwdRefIdeal.τ Cert.FfnConvFwdRefIdeal.sig) → Buf (Elt Ideal) ℓ) (g' : Dev Cert.FfnConvFwdRefIdeal.nD → PrngReg), Pre_FfnConvFwdIdeal m →
    (∀ c : Dev Cert.FfnConvFwdIdeal.nD,
      m' ((c.tc : Thread Cert.FfnConvFwdRefIdeal.nD Cert.FfnConvFwdRefIdeal.τ).loc Cert.FfnConvFwdRefIdeal.main_arg0) = m ((c.tc : Thread Cert.FfnConvFwdIdeal.nD Cert.FfnConvFwdIdeal.τ).loc Cert.FfnConvFwdIdeal.main_arg0)
      ∧ m' ((c.tc : Thread Cert.FfnConvFwdRefIdeal.nD Cert.FfnConvFwdRefIdeal.τ).loc Cert.FfnConvFwdRefIdeal.main_arg1) = m ((c.tc : Thread Cert.FfnConvFwdIdeal.nD Cert.FfnConvFwdIdeal.τ).loc Cert.FfnConvFwdIdeal.main_arg1)
      ∧ m' ((c.tc : Thread Cert.FfnConvFwdRefIdeal.nD Cert.FfnConvFwdRefIdeal.τ).loc Cert.FfnConvFwdRefIdeal.main_arg2) = m ((c.tc : Thread Cert.FfnConvFwdIdeal.nD Cert.FfnConvFwdIdeal.τ).loc Cert.FfnConvFwdIdeal.main_arg2)) →
    ∃ (v0 : (c : Dev Cert.FfnConvFwdIdeal.nD) → Buf (Elt Ideal) ((c.tc : Thread Cert.FfnConvFwdIdeal.nD Cert.FfnConvFwdIdeal.τ).loc Cert.FfnConvFwdIdeal.main_v0)),
      θ_run (Cert.FfnConvFwdIdeal.defs (F := Ideal)) (onTc (τ := Cert.FfnConvFwdIdeal.τ) (Cert.FfnConvFwdIdeal.main (F := Ideal))) ⟨m, fun _ => 0, g⟩ (fun r => ∀ c : Dev Cert.FfnConvFwdIdeal.nD,
          r.2.mem ((c.tc : Thread Cert.FfnConvFwdIdeal.nD Cert.FfnConvFwdIdeal.τ).loc Cert.FfnConvFwdIdeal.main_v0) = v0 c
          ∧ r.2.mem ((c.tc : Thread Cert.FfnConvFwdIdeal.nD Cert.FfnConvFwdIdeal.τ).loc Cert.FfnConvFwdIdeal.main_arg0) = m ((c.tc : Thread Cert.FfnConvFwdIdeal.nD Cert.FfnConvFwdIdeal.τ).loc Cert.FfnConvFwdIdeal.main_arg0)
          ∧ r.2.mem ((c.tc : Thread Cert.FfnConvFwdIdeal.nD Cert.FfnConvFwdIdeal.τ).loc Cert.FfnConvFwdIdeal.main_arg1) = m ((c.tc : Thread Cert.FfnConvFwdIdeal.nD Cert.FfnConvFwdIdeal.τ).loc Cert.FfnConvFwdIdeal.main_arg1)
          ∧ r.2.mem ((c.tc : Thread Cert.FfnConvFwdIdeal.nD Cert.FfnConvFwdIdeal.τ).loc Cert.FfnConvFwdIdeal.main_arg2) = m ((c.tc : Thread Cert.FfnConvFwdIdeal.nD Cert.FfnConvFwdIdeal.τ).loc Cert.FfnConvFwdIdeal.main_arg2))
      ∧ θ_run (Cert.FfnConvFwdRefIdeal.defs (F := Ideal)) (onTc (τ := Cert.FfnConvFwdRefIdeal.τ) (Cert.FfnConvFwdRefIdeal.main (F := Ideal))) ⟨m', fun _ => 0, g'⟩ (fun r => ∀ c : Dev Cert.FfnConvFwdRefIdeal.nD,
          r.2.mem ((c.tc : Thread Cert.FfnConvFwdRefIdeal.nD Cert.FfnConvFwdRefIdeal.τ).loc Cert.FfnConvFwdRefIdeal.main_v24) = v0 c
          ∧ r.2.mem ((c.tc : Thread Cert.FfnConvFwdRefIdeal.nD Cert.FfnConvFwdRefIdeal.τ).loc Cert.FfnConvFwdRefIdeal.main_arg0) = m' ((c.tc : Thread Cert.FfnConvFwdRefIdeal.nD Cert.FfnConvFwdRefIdeal.τ).loc Cert.FfnConvFwdRefIdeal.main_arg0)
          ∧ r.2.mem ((c.tc : Thread Cert.FfnConvFwdRefIdeal.nD Cert.FfnConvFwdRefIdeal.τ).loc Cert.FfnConvFwdRefIdeal.main_arg1) = m' ((c.tc : Thread Cert.FfnConvFwdRefIdeal.nD Cert.FfnConvFwdRefIdeal.τ).loc Cert.FfnConvFwdRefIdeal.main_arg1)
          ∧ r.2.mem ((c.tc : Thread Cert.FfnConvFwdRefIdeal.nD Cert.FfnConvFwdRefIdeal.τ).loc Cert.FfnConvFwdRefIdeal.main_arg2) = m' ((c.tc : Thread Cert.FfnConvFwdRefIdeal.nD Cert.FfnConvFwdRefIdeal.τ).loc Cert.FfnConvFwdRefIdeal.main_arg2))

def Claim : Prop :=
  ∃ (hAlltoall : Cert.Alltoall.Facts) (hAlltoallIdeal : Cert.AlltoallIdeal.Facts) (hAlltoallRefIdeal : Cert.AlltoallRefIdeal.Facts) (hAlltoallRef : Cert.AlltoallRef.Facts) (hSwap : Cert.Swap.Facts) (hSwapIdeal : Cert.SwapIdeal.Facts) (hSwapRefIdeal : Cert.SwapRefIdeal.Facts) (hSwapRef : Cert.SwapRef.Facts) (hJoin : Cert.Join.Facts) (hJoinIdeal : Cert.JoinIdeal.Facts) (hJoinRefIdeal : Cert.JoinRefIdeal.Facts) (hJoinRef : Cert.JoinRef.Facts) (hGather : Cert.Gather.Facts) (hGatherIdeal : Cert.GatherIdeal.Facts) (hGatherRefIdeal : Cert.GatherRefIdeal.Facts) (hGatherRef : Cert.GatherRef.Facts) (hGatherSmall : Cert.GatherSmall.Facts) (hGatherSmallIdeal : Cert.GatherSmallIdeal.Facts) (hGatherSmallRefIdeal : Cert.GatherSmallRefIdeal.Facts) (hGatherSmallRef : Cert.GatherSmallRef.Facts) (hGatherMod : Cert.GatherMod.Facts) (hGatherModIdeal : Cert.GatherModIdeal.Facts) (hGatherModRefIdeal : Cert.GatherModRefIdeal.Facts) (hGatherModRef : Cert.GatherModRef.Facts) (hGatherParts : Cert.GatherParts.Facts) (hGatherPartsIdeal : Cert.GatherPartsIdeal.Facts) (hGatherPartsRefIdeal : Cert.GatherPartsRefIdeal.Facts) (hGatherPartsRef : Cert.GatherPartsRef.Facts) (hAdamBig : Cert.AdamBig.Facts) (hAdamBigIdeal : Cert.AdamBigIdeal.Facts) (hAdamBigRefIdeal : Cert.AdamBigRefIdeal.Facts) (hAdamAda : Cert.AdamAda.Facts) (hAdamAdaIdeal : Cert.AdamAdaIdeal.Facts) (hAdamAdaRefIdeal : Cert.AdamAdaRefIdeal.Facts) (hAdamSmall : Cert.AdamSmall.Facts) (hAdamSmallIdeal : Cert.AdamSmallIdeal.Facts) (hAdamSmallRefIdeal : Cert.AdamSmallRefIdeal.Facts) (hAdaBwd : Cert.AdaBwd.Facts) (hAdaBwdIdeal : Cert.AdaBwdIdeal.Facts) (hAdaBwdRefIdeal : Cert.AdaBwdRefIdeal.Facts) (hSmallSum : Cert.SmallSum.Facts) (hSmallSumIdeal : Cert.SmallSumIdeal.Facts) (hSmallSumRefIdeal : Cert.SmallSumRefIdeal.Facts) (hLoss : Cert.Loss.Facts) (hLossIdeal : Cert.LossIdeal.Facts) (hLossRefIdeal : Cert.LossRefIdeal.Facts) (hGradX : Cert.GradX.Facts) (hGradXIdeal : Cert.GradXIdeal.Facts) (hGradXRefIdeal : Cert.GradXRefIdeal.Facts) (hAdaFwd : Cert.AdaFwd.Facts) (hAdaFwdIdeal : Cert.AdaFwdIdeal.Facts) (hAdaFwdRefIdeal : Cert.AdaFwdRefIdeal.Facts) (hPairSum : Cert.PairSum.Facts) (hPairSumIdeal : Cert.PairSumIdeal.Facts) (hPairSumRefIdeal : Cert.PairSumRefIdeal.Facts) (hChipSum : Cert.ChipSum.Facts) (hChipSumIdeal : Cert.ChipSumIdeal.Facts) (hChipSumRefIdeal : Cert.ChipSumRefIdeal.Facts) (hLnMod : Cert.LnMod.Facts) (hLnModIdeal : Cert.LnModIdeal.Facts) (hLnModRefIdeal : Cert.LnModRefIdeal.Facts) (hConvNorm : Cert.ConvNorm.Facts) (hConvNormIdeal : Cert.ConvNormIdeal.Facts) (hConvNormRefIdeal : Cert.ConvNormRefIdeal.Facts) (hRetNorm : Cert.RetNorm.Facts) (hRetNormIdeal : Cert.RetNormIdeal.Facts) (hRetNormRefIdeal : Cert.RetNormRefIdeal.Facts) (hMerge : Cert.Merge.Facts) (hMergeIdeal : Cert.MergeIdeal.Facts) (hMergeRefIdeal : Cert.MergeRefIdeal.Facts) (hPost : Cert.Post.Facts) (hPostIdeal : Cert.PostIdeal.Facts) (hPostRefIdeal : Cert.PostRefIdeal.Facts) (hFfnGate : Cert.FfnGate.Facts) (hFfnGateIdeal : Cert.FfnGateIdeal.Facts) (hFfnGateRefIdeal : Cert.FfnGateRefIdeal.Facts) (hCastWeights : Cert.CastWeights.Facts) (hCastWeightsIdeal : Cert.CastWeightsIdeal.Facts) (hCastWeightsRefIdeal : Cert.CastWeightsRefIdeal.Facts) (hMmIn : Cert.MmIn.Facts) (hMmInIdeal : Cert.MmInIdeal.Facts) (hMmInRefIdeal : Cert.MmInRefIdeal.Facts) (hMmUp : Cert.MmUp.Facts) (hMmUpIdeal : Cert.MmUpIdeal.Facts) (hMmUpRefIdeal : Cert.MmUpRefIdeal.Facts) (hMmConvOut : Cert.MmConvOut.Facts) (hMmConvOutIdeal : Cert.MmConvOutIdeal.Facts) (hMmConvOutRefIdeal : Cert.MmConvOutRefIdeal.Facts) (hMmRetOut : Cert.MmRetOut.Facts) (hMmRetOutIdeal : Cert.MmRetOutIdeal.Facts) (hMmRetOutRefIdeal : Cert.MmRetOutRefIdeal.Facts) (hMmOut : Cert.MmOut.Facts) (hMmOutIdeal : Cert.MmOutIdeal.Facts) (hMmOutRefIdeal : Cert.MmOutRefIdeal.Facts) (hMmDown : Cert.MmDown.Facts) (hMmDownIdeal : Cert.MmDownIdeal.Facts) (hMmDownRefIdeal : Cert.MmDownRefIdeal.Facts) (hMmDownDx : Cert.MmDownDx.Facts) (hMmDownDxIdeal : Cert.MmDownDxIdeal.Facts) (hMmDownDxRefIdeal : Cert.MmDownDxRefIdeal.Facts) (hMmOutDx : Cert.MmOutDx.Facts) (hMmOutDxIdeal : Cert.MmOutDxIdeal.Facts) (hMmOutDxRefIdeal : Cert.MmOutDxRefIdeal.Facts) (hMmConvOutDx : Cert.MmConvOutDx.Facts) (hMmConvOutDxIdeal : Cert.MmConvOutDxIdeal.Facts) (hMmConvOutDxRefIdeal : Cert.MmConvOutDxRefIdeal.Facts) (hMmRetOutDx : Cert.MmRetOutDx.Facts) (hMmRetOutDxIdeal : Cert.MmRetOutDxIdeal.Facts) (hMmRetOutDxRefIdeal : Cert.MmRetOutDxRefIdeal.Facts) (hMmUpDx : Cert.MmUpDx.Facts) (hMmUpDxIdeal : Cert.MmUpDxIdeal.Facts) (hMmUpDxRefIdeal : Cert.MmUpDxRefIdeal.Facts) (hMmInDx : Cert.MmInDx.Facts) (hMmInDxIdeal : Cert.MmInDxIdeal.Facts) (hMmInDxRefIdeal : Cert.MmInDxRefIdeal.Facts) (hMmDownDw : Cert.MmDownDw.Facts) (hMmDownDwIdeal : Cert.MmDownDwIdeal.Facts) (hMmDownDwRefIdeal : Cert.MmDownDwRefIdeal.Facts) (hMmOutDw : Cert.MmOutDw.Facts) (hMmOutDwIdeal : Cert.MmOutDwIdeal.Facts) (hMmOutDwRefIdeal : Cert.MmOutDwRefIdeal.Facts) (hMmConvOutDw : Cert.MmConvOutDw.Facts) (hMmConvOutDwIdeal : Cert.MmConvOutDwIdeal.Facts) (hMmConvOutDwRefIdeal : Cert.MmConvOutDwRefIdeal.Facts) (hMmRetOutDw : Cert.MmRetOutDw.Facts) (hMmRetOutDwIdeal : Cert.MmRetOutDwIdeal.Facts) (hMmRetOutDwRefIdeal : Cert.MmRetOutDwRefIdeal.Facts) (hMmUpDw : Cert.MmUpDw.Facts) (hMmUpDwIdeal : Cert.MmUpDwIdeal.Facts) (hMmUpDwRefIdeal : Cert.MmUpDwRefIdeal.Facts) (hMmInDw : Cert.MmInDw.Facts) (hMmInDwIdeal : Cert.MmInDwIdeal.Facts) (hMmInDwRefIdeal : Cert.MmInDwRefIdeal.Facts) (hMergeBwd : Cert.MergeBwd.Facts) (hMergeBwdIdeal : Cert.MergeBwdIdeal.Facts) (hMergeBwdRefIdeal : Cert.MergeBwdRefIdeal.Facts) (hBiasInGrad : Cert.BiasInGrad.Facts) (hBiasInGradIdeal : Cert.BiasInGradIdeal.Facts) (hBiasInGradRefIdeal : Cert.BiasInGradRefIdeal.Facts) (hConvNormBwd : Cert.ConvNormBwd.Facts) (hConvNormBwdIdeal : Cert.ConvNormBwdIdeal.Facts) (hConvNormBwdRefIdeal : Cert.ConvNormBwdRefIdeal.Facts) (hPostBwd : Cert.PostBwd.Facts) (hPostBwdIdeal : Cert.PostBwdIdeal.Facts) (hPostBwdRefIdeal : Cert.PostBwdRefIdeal.Facts) (hConvFwd : Cert.ConvFwd.Facts) (hConvFwdIdeal : Cert.ConvFwdIdeal.Facts) (hConvFwdRefIdeal : Cert.ConvFwdRefIdeal.Facts) (hFfnConvFwd : Cert.FfnConvFwd.Facts) (hFfnConvFwdIdeal : Cert.FfnConvFwdIdeal.Facts) (hFfnConvFwdRefIdeal : Cert.FfnConvFwdRefIdeal.Facts),
    quiescent_Alltoall (hAlltoall := hAlltoall)
    ∧ quiescent_AlltoallIdeal (hAlltoallIdeal := hAlltoallIdeal)
    ∧ quiescent_AlltoallRefIdeal (hAlltoallRefIdeal := hAlltoallRefIdeal)
    ∧ quiescent_AlltoallRef (hAlltoallRef := hAlltoallRef)
    ∧ quiescent_Swap (hSwap := hSwap)
    ∧ quiescent_SwapIdeal (hSwapIdeal := hSwapIdeal)
    ∧ quiescent_SwapRefIdeal (hSwapRefIdeal := hSwapRefIdeal)
    ∧ quiescent_SwapRef (hSwapRef := hSwapRef)
    ∧ quiescent_Join (hJoin := hJoin)
    ∧ quiescent_JoinIdeal (hJoinIdeal := hJoinIdeal)
    ∧ quiescent_JoinRefIdeal (hJoinRefIdeal := hJoinRefIdeal)
    ∧ quiescent_JoinRef (hJoinRef := hJoinRef)
    ∧ quiescent_Gather (hGather := hGather)
    ∧ quiescent_GatherIdeal (hGatherIdeal := hGatherIdeal)
    ∧ quiescent_GatherRefIdeal (hGatherRefIdeal := hGatherRefIdeal)
    ∧ quiescent_GatherRef (hGatherRef := hGatherRef)
    ∧ quiescent_GatherSmall (hGatherSmall := hGatherSmall)
    ∧ quiescent_GatherSmallIdeal (hGatherSmallIdeal := hGatherSmallIdeal)
    ∧ quiescent_GatherSmallRefIdeal (hGatherSmallRefIdeal := hGatherSmallRefIdeal)
    ∧ quiescent_GatherSmallRef (hGatherSmallRef := hGatherSmallRef)
    ∧ quiescent_GatherMod (hGatherMod := hGatherMod)
    ∧ quiescent_GatherModIdeal (hGatherModIdeal := hGatherModIdeal)
    ∧ quiescent_GatherModRefIdeal (hGatherModRefIdeal := hGatherModRefIdeal)
    ∧ quiescent_GatherModRef (hGatherModRef := hGatherModRef)
    ∧ quiescent_GatherParts (hGatherParts := hGatherParts)
    ∧ quiescent_GatherPartsIdeal (hGatherPartsIdeal := hGatherPartsIdeal)
    ∧ quiescent_GatherPartsRefIdeal (hGatherPartsRefIdeal := hGatherPartsRefIdeal)
    ∧ quiescent_GatherPartsRef (hGatherPartsRef := hGatherPartsRef)
    ∧ quiescent_AdamBig (hAdamBig := hAdamBig)
    ∧ quiescent_AdamBigIdeal (hAdamBigIdeal := hAdamBigIdeal)
    ∧ quiescent_AdamBigRefIdeal (hAdamBigRefIdeal := hAdamBigRefIdeal)
    ∧ quiescent_AdamAda (hAdamAda := hAdamAda)
    ∧ quiescent_AdamAdaIdeal (hAdamAdaIdeal := hAdamAdaIdeal)
    ∧ quiescent_AdamAdaRefIdeal (hAdamAdaRefIdeal := hAdamAdaRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_AdaBwd (hAdaBwd := hAdaBwd)
    ∧ quiescent_AdaBwdIdeal (hAdaBwdIdeal := hAdaBwdIdeal)
    ∧ quiescent_AdaBwdRefIdeal (hAdaBwdRefIdeal := hAdaBwdRefIdeal)
    ∧ quiescent_SmallSum (hSmallSum := hSmallSum)
    ∧ quiescent_SmallSumIdeal (hSmallSumIdeal := hSmallSumIdeal)
    ∧ quiescent_SmallSumRefIdeal (hSmallSumRefIdeal := hSmallSumRefIdeal)
    ∧ quiescent_Loss (hLoss := hLoss)
    ∧ quiescent_LossIdeal (hLossIdeal := hLossIdeal)
    ∧ quiescent_LossRefIdeal (hLossRefIdeal := hLossRefIdeal)
    ∧ quiescent_GradX (hGradX := hGradX)
    ∧ quiescent_GradXIdeal (hGradXIdeal := hGradXIdeal)
    ∧ quiescent_GradXRefIdeal (hGradXRefIdeal := hGradXRefIdeal)
    ∧ quiescent_AdaFwd (hAdaFwd := hAdaFwd)
    ∧ quiescent_AdaFwdIdeal (hAdaFwdIdeal := hAdaFwdIdeal)
    ∧ quiescent_AdaFwdRefIdeal (hAdaFwdRefIdeal := hAdaFwdRefIdeal)
    ∧ quiescent_PairSum (hPairSum := hPairSum)
    ∧ quiescent_PairSumIdeal (hPairSumIdeal := hPairSumIdeal)
    ∧ quiescent_PairSumRefIdeal (hPairSumRefIdeal := hPairSumRefIdeal)
    ∧ quiescent_ChipSum (hChipSum := hChipSum)
    ∧ quiescent_ChipSumIdeal (hChipSumIdeal := hChipSumIdeal)
    ∧ quiescent_ChipSumRefIdeal (hChipSumRefIdeal := hChipSumRefIdeal)
    ∧ quiescent_LnMod (hLnMod := hLnMod)
    ∧ quiescent_LnModIdeal (hLnModIdeal := hLnModIdeal)
    ∧ quiescent_LnModRefIdeal (hLnModRefIdeal := hLnModRefIdeal)
    ∧ quiescent_ConvNorm (hConvNorm := hConvNorm)
    ∧ quiescent_ConvNormIdeal (hConvNormIdeal := hConvNormIdeal)
    ∧ quiescent_ConvNormRefIdeal (hConvNormRefIdeal := hConvNormRefIdeal)
    ∧ quiescent_RetNorm (hRetNorm := hRetNorm)
    ∧ quiescent_RetNormIdeal (hRetNormIdeal := hRetNormIdeal)
    ∧ quiescent_RetNormRefIdeal (hRetNormRefIdeal := hRetNormRefIdeal)
    ∧ quiescent_Merge (hMerge := hMerge)
    ∧ quiescent_MergeIdeal (hMergeIdeal := hMergeIdeal)
    ∧ quiescent_MergeRefIdeal (hMergeRefIdeal := hMergeRefIdeal)
    ∧ quiescent_Post (hPost := hPost)
    ∧ quiescent_PostIdeal (hPostIdeal := hPostIdeal)
    ∧ quiescent_PostRefIdeal (hPostRefIdeal := hPostRefIdeal)
    ∧ quiescent_FfnGate (hFfnGate := hFfnGate)
    ∧ quiescent_FfnGateIdeal (hFfnGateIdeal := hFfnGateIdeal)
    ∧ quiescent_FfnGateRefIdeal (hFfnGateRefIdeal := hFfnGateRefIdeal)
    ∧ quiescent_CastWeights (hCastWeights := hCastWeights)
    ∧ quiescent_CastWeightsIdeal (hCastWeightsIdeal := hCastWeightsIdeal)
    ∧ quiescent_CastWeightsRefIdeal (hCastWeightsRefIdeal := hCastWeightsRefIdeal)
    ∧ quiescent_MmIn (hMmIn := hMmIn)
    ∧ quiescent_MmInIdeal (hMmInIdeal := hMmInIdeal)
    ∧ quiescent_MmInRefIdeal (hMmInRefIdeal := hMmInRefIdeal)
    ∧ quiescent_MmUp (hMmUp := hMmUp)
    ∧ quiescent_MmUpIdeal (hMmUpIdeal := hMmUpIdeal)
    ∧ quiescent_MmUpRefIdeal (hMmUpRefIdeal := hMmUpRefIdeal)
    ∧ quiescent_MmConvOut (hMmConvOut := hMmConvOut)
    ∧ quiescent_MmConvOutIdeal (hMmConvOutIdeal := hMmConvOutIdeal)
    ∧ quiescent_MmConvOutRefIdeal (hMmConvOutRefIdeal := hMmConvOutRefIdeal)
    ∧ quiescent_MmRetOut (hMmRetOut := hMmRetOut)
    ∧ quiescent_MmRetOutIdeal (hMmRetOutIdeal := hMmRetOutIdeal)
    ∧ quiescent_MmRetOutRefIdeal (hMmRetOutRefIdeal := hMmRetOutRefIdeal)
    ∧ quiescent_MmOut (hMmOut := hMmOut)
    ∧ quiescent_MmOutIdeal (hMmOutIdeal := hMmOutIdeal)
    ∧ quiescent_MmOutRefIdeal (hMmOutRefIdeal := hMmOutRefIdeal)
    ∧ quiescent_MmDown (hMmDown := hMmDown)
    ∧ quiescent_MmDownIdeal (hMmDownIdeal := hMmDownIdeal)
    ∧ quiescent_MmDownRefIdeal (hMmDownRefIdeal := hMmDownRefIdeal)
    ∧ quiescent_MmDownDx (hMmDownDx := hMmDownDx)
    ∧ quiescent_MmDownDxIdeal (hMmDownDxIdeal := hMmDownDxIdeal)
    ∧ quiescent_MmDownDxRefIdeal (hMmDownDxRefIdeal := hMmDownDxRefIdeal)
    ∧ quiescent_MmOutDx (hMmOutDx := hMmOutDx)
    ∧ quiescent_MmOutDxIdeal (hMmOutDxIdeal := hMmOutDxIdeal)
    ∧ quiescent_MmOutDxRefIdeal (hMmOutDxRefIdeal := hMmOutDxRefIdeal)
    ∧ quiescent_MmConvOutDx (hMmConvOutDx := hMmConvOutDx)
    ∧ quiescent_MmConvOutDxIdeal (hMmConvOutDxIdeal := hMmConvOutDxIdeal)
    ∧ quiescent_MmConvOutDxRefIdeal (hMmConvOutDxRefIdeal := hMmConvOutDxRefIdeal)
    ∧ quiescent_MmRetOutDx (hMmRetOutDx := hMmRetOutDx)
    ∧ quiescent_MmRetOutDxIdeal (hMmRetOutDxIdeal := hMmRetOutDxIdeal)
    ∧ quiescent_MmRetOutDxRefIdeal (hMmRetOutDxRefIdeal := hMmRetOutDxRefIdeal)
    ∧ quiescent_MmUpDx (hMmUpDx := hMmUpDx)
    ∧ quiescent_MmUpDxIdeal (hMmUpDxIdeal := hMmUpDxIdeal)
    ∧ quiescent_MmUpDxRefIdeal (hMmUpDxRefIdeal := hMmUpDxRefIdeal)
    ∧ quiescent_MmInDx (hMmInDx := hMmInDx)
    ∧ quiescent_MmInDxIdeal (hMmInDxIdeal := hMmInDxIdeal)
    ∧ quiescent_MmInDxRefIdeal (hMmInDxRefIdeal := hMmInDxRefIdeal)
    ∧ quiescent_MmDownDw (hMmDownDw := hMmDownDw)
    ∧ quiescent_MmDownDwIdeal (hMmDownDwIdeal := hMmDownDwIdeal)
    ∧ quiescent_MmDownDwRefIdeal (hMmDownDwRefIdeal := hMmDownDwRefIdeal)
    ∧ quiescent_MmOutDw (hMmOutDw := hMmOutDw)
    ∧ quiescent_MmOutDwIdeal (hMmOutDwIdeal := hMmOutDwIdeal)
    ∧ quiescent_MmOutDwRefIdeal (hMmOutDwRefIdeal := hMmOutDwRefIdeal)
    ∧ quiescent_MmConvOutDw (hMmConvOutDw := hMmConvOutDw)
    ∧ quiescent_MmConvOutDwIdeal (hMmConvOutDwIdeal := hMmConvOutDwIdeal)
    ∧ quiescent_MmConvOutDwRefIdeal (hMmConvOutDwRefIdeal := hMmConvOutDwRefIdeal)
    ∧ quiescent_MmRetOutDw (hMmRetOutDw := hMmRetOutDw)
    ∧ quiescent_MmRetOutDwIdeal (hMmRetOutDwIdeal := hMmRetOutDwIdeal)
    ∧ quiescent_MmRetOutDwRefIdeal (hMmRetOutDwRefIdeal := hMmRetOutDwRefIdeal)
    ∧ quiescent_MmUpDw (hMmUpDw := hMmUpDw)
    ∧ quiescent_MmUpDwIdeal (hMmUpDwIdeal := hMmUpDwIdeal)
    ∧ quiescent_MmUpDwRefIdeal (hMmUpDwRefIdeal := hMmUpDwRefIdeal)
    ∧ quiescent_MmInDw (hMmInDw := hMmInDw)
    ∧ quiescent_MmInDwIdeal (hMmInDwIdeal := hMmInDwIdeal)
    ∧ quiescent_MmInDwRefIdeal (hMmInDwRefIdeal := hMmInDwRefIdeal)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_BiasInGrad (hBiasInGrad := hBiasInGrad)
    ∧ quiescent_BiasInGradIdeal (hBiasInGradIdeal := hBiasInGradIdeal)
    ∧ quiescent_BiasInGradRefIdeal (hBiasInGradRefIdeal := hBiasInGradRefIdeal)
    ∧ quiescent_ConvNormBwd (hConvNormBwd := hConvNormBwd)
    ∧ quiescent_ConvNormBwdIdeal (hConvNormBwdIdeal := hConvNormBwdIdeal)
    ∧ quiescent_ConvNormBwdRefIdeal (hConvNormBwdRefIdeal := hConvNormBwdRefIdeal)
    ∧ quiescent_PostBwd (hPostBwd := hPostBwd)
    ∧ quiescent_PostBwdIdeal (hPostBwdIdeal := hPostBwdIdeal)
    ∧ quiescent_PostBwdRefIdeal (hPostBwdRefIdeal := hPostBwdRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_FfnConvFwd (hFfnConvFwd := hFfnConvFwd)
    ∧ quiescent_FfnConvFwdIdeal (hFfnConvFwdIdeal := hFfnConvFwdIdeal)
    ∧ quiescent_FfnConvFwdRefIdeal (hFfnConvFwdRefIdeal := hFfnConvFwdRefIdeal)
    ∧ preserves_Alltoall_AlltoallIdeal
    ∧ algebraic_AlltoallIdeal_AlltoallRefIdeal (hAlltoallIdeal := hAlltoallIdeal) (hAlltoallRefIdeal := hAlltoallRefIdeal)
    ∧ bitexact_Alltoall_AlltoallRef (hAlltoall := hAlltoall) (hAlltoallRef := hAlltoallRef)
    ∧ preserves_Swap_SwapIdeal
    ∧ algebraic_SwapIdeal_SwapRefIdeal (hSwapIdeal := hSwapIdeal) (hSwapRefIdeal := hSwapRefIdeal)
    ∧ bitexact_Swap_SwapRef (hSwap := hSwap) (hSwapRef := hSwapRef)
    ∧ preserves_Join_JoinIdeal
    ∧ algebraic_JoinIdeal_JoinRefIdeal (hJoinIdeal := hJoinIdeal) (hJoinRefIdeal := hJoinRefIdeal)
    ∧ bitexact_Join_JoinRef (hJoin := hJoin) (hJoinRef := hJoinRef)
    ∧ preserves_Gather_GatherIdeal
    ∧ algebraic_GatherIdeal_GatherRefIdeal (hGatherIdeal := hGatherIdeal) (hGatherRefIdeal := hGatherRefIdeal)
    ∧ bitexact_Gather_GatherRef (hGather := hGather) (hGatherRef := hGatherRef)
    ∧ preserves_GatherSmall_GatherSmallIdeal
    ∧ algebraic_GatherSmallIdeal_GatherSmallRefIdeal (hGatherSmallIdeal := hGatherSmallIdeal) (hGatherSmallRefIdeal := hGatherSmallRefIdeal)
    ∧ bitexact_GatherSmall_GatherSmallRef (hGatherSmall := hGatherSmall) (hGatherSmallRef := hGatherSmallRef)
    ∧ preserves_GatherMod_GatherModIdeal
    ∧ algebraic_GatherModIdeal_GatherModRefIdeal (hGatherModIdeal := hGatherModIdeal) (hGatherModRefIdeal := hGatherModRefIdeal)
    ∧ bitexact_GatherMod_GatherModRef (hGatherMod := hGatherMod) (hGatherModRef := hGatherModRef)
    ∧ preserves_GatherParts_GatherPartsIdeal
    ∧ algebraic_GatherPartsIdeal_GatherPartsRefIdeal (hGatherPartsIdeal := hGatherPartsIdeal) (hGatherPartsRefIdeal := hGatherPartsRefIdeal)
    ∧ bitexact_GatherParts_GatherPartsRef (hGatherParts := hGatherParts) (hGatherPartsRef := hGatherPartsRef)
    ∧ preserves_AdamBig_AdamBigIdeal
    ∧ algebraic_AdamBigIdeal_AdamBigRefIdeal (hAdamBigIdeal := hAdamBigIdeal) (hAdamBigRefIdeal := hAdamBigRefIdeal)
    ∧ preserves_AdamAda_AdamAdaIdeal
    ∧ algebraic_AdamAdaIdeal_AdamAdaRefIdeal (hAdamAdaIdeal := hAdamAdaIdeal) (hAdamAdaRefIdeal := hAdamAdaRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_AdaBwd_AdaBwdIdeal
    ∧ algebraic_AdaBwdIdeal_AdaBwdRefIdeal (hAdaBwdIdeal := hAdaBwdIdeal) (hAdaBwdRefIdeal := hAdaBwdRefIdeal)
    ∧ preserves_SmallSum_SmallSumIdeal
    ∧ algebraic_SmallSumIdeal_SmallSumRefIdeal (hSmallSumIdeal := hSmallSumIdeal) (hSmallSumRefIdeal := hSmallSumRefIdeal)
    ∧ preserves_Loss_LossIdeal
    ∧ algebraic_LossIdeal_LossRefIdeal (hLossIdeal := hLossIdeal) (hLossRefIdeal := hLossRefIdeal)
    ∧ preserves_GradX_GradXIdeal
    ∧ algebraic_GradXIdeal_GradXRefIdeal (hGradXIdeal := hGradXIdeal) (hGradXRefIdeal := hGradXRefIdeal)
    ∧ preserves_AdaFwd_AdaFwdIdeal
    ∧ algebraic_AdaFwdIdeal_AdaFwdRefIdeal (hAdaFwdIdeal := hAdaFwdIdeal) (hAdaFwdRefIdeal := hAdaFwdRefIdeal)
    ∧ preserves_PairSum_PairSumIdeal
    ∧ algebraic_PairSumIdeal_PairSumRefIdeal (hPairSumIdeal := hPairSumIdeal) (hPairSumRefIdeal := hPairSumRefIdeal)
    ∧ preserves_ChipSum_ChipSumIdeal
    ∧ algebraic_ChipSumIdeal_ChipSumRefIdeal (hChipSumIdeal := hChipSumIdeal) (hChipSumRefIdeal := hChipSumRefIdeal)
    ∧ preserves_LnMod_LnModIdeal
    ∧ algebraic_LnModIdeal_LnModRefIdeal (hLnModIdeal := hLnModIdeal) (hLnModRefIdeal := hLnModRefIdeal)
    ∧ preserves_ConvNorm_ConvNormIdeal
    ∧ algebraic_ConvNormIdeal_ConvNormRefIdeal (hConvNormIdeal := hConvNormIdeal) (hConvNormRefIdeal := hConvNormRefIdeal)
    ∧ preserves_RetNorm_RetNormIdeal
    ∧ algebraic_RetNormIdeal_RetNormRefIdeal (hRetNormIdeal := hRetNormIdeal) (hRetNormRefIdeal := hRetNormRefIdeal)
    ∧ preserves_Merge_MergeIdeal
    ∧ algebraic_MergeIdeal_MergeRefIdeal (hMergeIdeal := hMergeIdeal) (hMergeRefIdeal := hMergeRefIdeal)
    ∧ preserves_Post_PostIdeal
    ∧ algebraic_PostIdeal_PostRefIdeal (hPostIdeal := hPostIdeal) (hPostRefIdeal := hPostRefIdeal)
    ∧ preserves_FfnGate_FfnGateIdeal
    ∧ algebraic_FfnGateIdeal_FfnGateRefIdeal (hFfnGateIdeal := hFfnGateIdeal) (hFfnGateRefIdeal := hFfnGateRefIdeal)
    ∧ preserves_CastWeights_CastWeightsIdeal
    ∧ algebraic_CastWeightsIdeal_CastWeightsRefIdeal (hCastWeightsIdeal := hCastWeightsIdeal) (hCastWeightsRefIdeal := hCastWeightsRefIdeal)
    ∧ preserves_MmIn_MmInIdeal
    ∧ algebraic_MmInIdeal_MmInRefIdeal (hMmInIdeal := hMmInIdeal) (hMmInRefIdeal := hMmInRefIdeal)
    ∧ preserves_MmUp_MmUpIdeal
    ∧ algebraic_MmUpIdeal_MmUpRefIdeal (hMmUpIdeal := hMmUpIdeal) (hMmUpRefIdeal := hMmUpRefIdeal)
    ∧ preserves_MmConvOut_MmConvOutIdeal
    ∧ algebraic_MmConvOutIdeal_MmConvOutRefIdeal (hMmConvOutIdeal := hMmConvOutIdeal) (hMmConvOutRefIdeal := hMmConvOutRefIdeal)
    ∧ preserves_MmRetOut_MmRetOutIdeal
    ∧ algebraic_MmRetOutIdeal_MmRetOutRefIdeal (hMmRetOutIdeal := hMmRetOutIdeal) (hMmRetOutRefIdeal := hMmRetOutRefIdeal)
    ∧ preserves_MmOut_MmOutIdeal
    ∧ algebraic_MmOutIdeal_MmOutRefIdeal (hMmOutIdeal := hMmOutIdeal) (hMmOutRefIdeal := hMmOutRefIdeal)
    ∧ preserves_MmDown_MmDownIdeal
    ∧ algebraic_MmDownIdeal_MmDownRefIdeal (hMmDownIdeal := hMmDownIdeal) (hMmDownRefIdeal := hMmDownRefIdeal)
    ∧ preserves_MmDownDx_MmDownDxIdeal
    ∧ algebraic_MmDownDxIdeal_MmDownDxRefIdeal (hMmDownDxIdeal := hMmDownDxIdeal) (hMmDownDxRefIdeal := hMmDownDxRefIdeal)
    ∧ preserves_MmOutDx_MmOutDxIdeal
    ∧ algebraic_MmOutDxIdeal_MmOutDxRefIdeal (hMmOutDxIdeal := hMmOutDxIdeal) (hMmOutDxRefIdeal := hMmOutDxRefIdeal)
    ∧ preserves_MmConvOutDx_MmConvOutDxIdeal
    ∧ algebraic_MmConvOutDxIdeal_MmConvOutDxRefIdeal (hMmConvOutDxIdeal := hMmConvOutDxIdeal) (hMmConvOutDxRefIdeal := hMmConvOutDxRefIdeal)
    ∧ preserves_MmRetOutDx_MmRetOutDxIdeal
    ∧ algebraic_MmRetOutDxIdeal_MmRetOutDxRefIdeal (hMmRetOutDxIdeal := hMmRetOutDxIdeal) (hMmRetOutDxRefIdeal := hMmRetOutDxRefIdeal)
    ∧ preserves_MmUpDx_MmUpDxIdeal
    ∧ algebraic_MmUpDxIdeal_MmUpDxRefIdeal (hMmUpDxIdeal := hMmUpDxIdeal) (hMmUpDxRefIdeal := hMmUpDxRefIdeal)
    ∧ preserves_MmInDx_MmInDxIdeal
    ∧ algebraic_MmInDxIdeal_MmInDxRefIdeal (hMmInDxIdeal := hMmInDxIdeal) (hMmInDxRefIdeal := hMmInDxRefIdeal)
    ∧ preserves_MmDownDw_MmDownDwIdeal
    ∧ algebraic_MmDownDwIdeal_MmDownDwRefIdeal (hMmDownDwIdeal := hMmDownDwIdeal) (hMmDownDwRefIdeal := hMmDownDwRefIdeal)
    ∧ preserves_MmOutDw_MmOutDwIdeal
    ∧ algebraic_MmOutDwIdeal_MmOutDwRefIdeal (hMmOutDwIdeal := hMmOutDwIdeal) (hMmOutDwRefIdeal := hMmOutDwRefIdeal)
    ∧ preserves_MmConvOutDw_MmConvOutDwIdeal
    ∧ algebraic_MmConvOutDwIdeal_MmConvOutDwRefIdeal (hMmConvOutDwIdeal := hMmConvOutDwIdeal) (hMmConvOutDwRefIdeal := hMmConvOutDwRefIdeal)
    ∧ preserves_MmRetOutDw_MmRetOutDwIdeal
    ∧ algebraic_MmRetOutDwIdeal_MmRetOutDwRefIdeal (hMmRetOutDwIdeal := hMmRetOutDwIdeal) (hMmRetOutDwRefIdeal := hMmRetOutDwRefIdeal)
    ∧ preserves_MmUpDw_MmUpDwIdeal
    ∧ algebraic_MmUpDwIdeal_MmUpDwRefIdeal (hMmUpDwIdeal := hMmUpDwIdeal) (hMmUpDwRefIdeal := hMmUpDwRefIdeal)
    ∧ preserves_MmInDw_MmInDwIdeal
    ∧ algebraic_MmInDwIdeal_MmInDwRefIdeal (hMmInDwIdeal := hMmInDwIdeal) (hMmInDwRefIdeal := hMmInDwRefIdeal)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_BiasInGrad_BiasInGradIdeal
    ∧ algebraic_BiasInGradIdeal_BiasInGradRefIdeal (hBiasInGradIdeal := hBiasInGradIdeal) (hBiasInGradRefIdeal := hBiasInGradRefIdeal)
    ∧ preserves_ConvNormBwd_ConvNormBwdIdeal
    ∧ algebraic_ConvNormBwdIdeal_ConvNormBwdRefIdeal (hConvNormBwdIdeal := hConvNormBwdIdeal) (hConvNormBwdRefIdeal := hConvNormBwdRefIdeal)
    ∧ preserves_PostBwd_PostBwdIdeal
    ∧ algebraic_PostBwdIdeal_PostBwdRefIdeal (hPostBwdIdeal := hPostBwdIdeal) (hPostBwdRefIdeal := hPostBwdRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_FfnConvFwd_FfnConvFwdIdeal
    ∧ algebraic_FfnConvFwdIdeal_FfnConvFwdRefIdeal (hFfnConvFwdIdeal := hFfnConvFwdIdeal) (hFfnConvFwdRefIdeal := hFfnConvFwdRefIdeal)
-- ==== Alltoall.lean ====
abbrev S4x2848x1024 : Shape := ⟨3, ![4, 2848, 1024]⟩
abbrev S3 : Shape := ⟨1, ![3]⟩
abbrev S_ : Shape := ⟨0, ![]⟩
abbrev S1x2848x1024 : Shape := ⟨3, ![1, 2848, 1024]⟩
abbrev S2848x1024 : Shape := ⟨2, ![2848, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S4x2848x1024, .f32⟩
  | .hbm, ⟨1, _⟩ => ⟨S4x2848x1024, .f32⟩
  | _, _ => ⟨S4x2848x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32 : BitVec 32 := 0#32
  let c0_i32_4 : BitVec 32 := 0#32
  ![v10.toNat, 0, 0]
def k0_off2 (d0 : Dev nD) : Fin 3 → Nat :=
  let c2_i32_11 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_7 v2
  let v19 : BitVec 32 := Scalar.muli c2_i32_11 v15
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.addi v19 v5
  let c0_i32_20 : BitVec 32 := 0#32
  let c0_i32_21 : BitVec 32 := 0#32
  ![v20.toNat, 0, 0]
def k0_dev1 (d0 : Dev nD) : Nat :=
  let c0_i32_15 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_7 v2
  let c4_i32_14 : BitVec 32 := 4#32
  let v21 : BitVec 32 := Scalar.muli v15 c4_i32_14
  let v22 : BitVec 32 := Scalar.addi c0_i32_15 v21
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_16 : BitVec 32 := 2#32
  let v23 : BitVec 32 := Scalar.muli v5 c2_i32_16
  let v24 : BitVec 32 := Scalar.addi v22 v23
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_17 : BitVec 32 := 1#32
  let v25 : BitVec 32 := Scalar.muli v8 c1_i32_17
  let v26 : BitVec 32 := Scalar.addi v24 v25
  v26.toNat
def k0_off3 (d0 : Dev nD) : Fin 3 → Nat :=
  let c2_i32_22 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v35 : BitVec 32 := Scalar.muli c2_i32_22 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_8 v5
  let v36 : BitVec 32 := Scalar.addi v35 v16
  let c0_i32_31 : BitVec 32 := 0#32
  let c0_i32_32 : BitVec 32 := 0#32
  ![v36.toNat, 0, 0]
def k0_dev2 (d0 : Dev nD) : Nat :=
  let c0_i32_26 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_25 : BitVec 32 := 4#32
  let v37 : BitVec 32 := Scalar.muli v2 c4_i32_25
  let v38 : BitVec 32 := Scalar.addi c0_i32_26 v37
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_8 v5
  let c2_i32_27 : BitVec 32 := 2#32
  let v39 : BitVec 32 := Scalar.muli v16 c2_i32_27
  let v40 : BitVec 32 := Scalar.addi v38 v39
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_28 : BitVec 32 := 1#32
  let v41 : BitVec 32 := Scalar.muli v8 c1_i32_28
  let v42 : BitVec 32 := Scalar.addi v40 v41
  v42.toNat
def k0_off4 (d0 : Dev nD) : Fin 3 → Nat :=
  let c2_i32_33 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_9 v2
  let v51 : BitVec 32 := Scalar.muli c2_i32_33 v17
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_10 v5
  let v52 : BitVec 32 := Scalar.addi v51 v18
  let c0_i32_42 : BitVec 32 := 0#32
  let c0_i32_43 : BitVec 32 := 0#32
  ![v52.toNat, 0, 0]
def k0_dev3 (d0 : Dev nD) : Nat :=
  let c0_i32_37 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_9 v2
  let c4_i32_36 : BitVec 32 := 4#32
  let v53 : BitVec 32 := Scalar.muli v17 c4_i32_36
  let v54 : BitVec 32 := Scalar.addi c0_i32_37 v53
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_10 v5
  let c2_i32_38 : BitVec 32 := 2#32
  let v55 : BitVec 32 := Scalar.muli v18 c2_i32_38
  let v56 : BitVec 32 := Scalar.addi v54 v55
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_39 : BitVec 32 := 1#32
  let v57 : BitVec 32 := Scalar.muli v8 c1_i32_39
  let v58 : BitVec 32 := Scalar.addi v56 v57
  v58.toNat
-- ==== AlltoallRef.lean ====
abbrev S32x2848x1024 : Shape := ⟨3, ![32, 2848, 1024]⟩
abbrev S4x2x4x2848x1024 : Shape := ⟨5, ![4, 2, 4, 2848, 1024]⟩

abbrev nBuf : Space → Nat
  | .hbm => 4
  | .vmem => 0
  | .smem => 0
  | _ => 0

abbrev bufTy : (tb : Table) → Fin (tcTables nBuf tb) → BufTy
  | .hbm, ⟨0, _⟩ => ⟨S32x2848x1024, .f32⟩
  | .hbm, ⟨1, _⟩ => ⟨S4x2x4x2848x1024, .f32⟩
  | .hbm, ⟨2, _⟩ => ⟨S4x2x4x2848x1024, .f32⟩
  | .hbm, ⟨3, _⟩ => ⟨S32x2848x1024, .f32⟩
  | _, _ => ⟨S32x2848x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Swap.lean ====
abbrev S4x5696x1024 : Shape := ⟨3, ![4, 5696, 1024]⟩
abbrev S4x2848x1024 : Shape := ⟨3, ![4, 2848, 1024]⟩
abbrev S_ : Shape := ⟨0, ![]⟩

abbrev nBuf : Space → Nat
  | .hbm => 2
  | .vmem => 0
  | .smem => 0
  | _ => 0

abbrev bufTy : (tb : Table) → Fin (tcTables nBuf tb) → BufTy
  | .hbm, ⟨0, _⟩ => ⟨S4x5696x1024, .f32⟩
  | .hbm, ⟨1, _⟩ => ⟨S4x2848x1024, .f32⟩
  | _, _ => ⟨S4x5696x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c0_i32_8 : BitVec 32 := 0#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c2848_i32 : BitVec 32 := 2848#32
  let v10 : BitVec 32 := Scalar.muli v9 c2848_i32
  let c0_i32_9 : BitVec 32 := 0#32
  ![0, v10.toNat, 0]
def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v12 : BitVec 32 := Scalar.muli v2 c4_i32_5
  let v13 : BitVec 32 := Scalar.addi c0_i32 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v14 : BitVec 32 := Scalar.muli v5 c2_i32_6
  let v15 : BitVec 32 := Scalar.addi v13 v14
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_7 : BitVec 32 := 1#32
  let v16 : BitVec 32 := Scalar.muli v11 c1_i32_7
  let v17 : BitVec 32 := Scalar.addi v15 v16
  v17.toNat
-- ==== SwapRef.lean ====
abbrev S32x5696x1024 : Shape := ⟨3, ![32, 5696, 1024]⟩
abbrev S4x2x4x2x2848x1024 : Shape := ⟨6, ![4, 2, 4, 2, 2848, 1024]⟩
abbrev S4x1x4x1x2848x1024 : Shape := ⟨6, ![4, 1, 4, 1, 2848, 1024]⟩
abbrev S4x4x2848x1024 : Shape := ⟨4, ![4, 4, 2848, 1024]⟩
abbrev S4x1x4x2848x1024 : Shape := ⟨5, ![4, 1, 4, 2848, 1024]⟩
abbrev S4x2x4x2848x1024 : Shape := ⟨5, ![4, 2, 4, 2848, 1024]⟩
abbrev S32x2848x1024 : Shape := ⟨3, ![32, 2848, 1024]⟩

abbrev nBuf : Space → Nat
  | .hbm => 10
  | .vmem => 0
  | .smem => 0
  | _ => 0

abbrev bufTy : (tb : Table) → Fin (tcTables nBuf tb) → BufTy
  | .hbm, ⟨0, _⟩ => ⟨S32x5696x1024, .f32⟩
  | .hbm, ⟨1, _⟩ => ⟨S4x2x4x2x2848x1024, .f32⟩
  | .hbm, ⟨2, _⟩ => ⟨S4x1x4x1x2848x1024, .f32⟩
  | .hbm, ⟨3, _⟩ => ⟨S4x4x2848x1024, .f32⟩
  | .hbm, ⟨4, _⟩ => ⟨S4x1x4x1x2848x1024, .f32⟩
  | .hbm, ⟨5, _⟩ => ⟨S4x4x2848x1024, .f32⟩
  | .hbm, ⟨6, _⟩ => ⟨S4x1x4x2848x1024, .f32⟩
  | .hbm, ⟨7, _⟩ => ⟨S4x1x4x2848x1024, .f32⟩
  | .hbm, ⟨8, _⟩ => ⟨S4x2x4x2848x1024, .f32⟩
  | .hbm, ⟨9, _⟩ => ⟨S32x2848x1024, .f32⟩
  | _, _ => ⟨S32x5696x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩

abbrev nD : Nat := 1
abbrev τ : Topo := Topo.v7x

variable {F : FTy → Type} [FloatOps F]
-- ==== Join.lean ====
abbrev S2848x1024 : Shape := ⟨2, ![2848, 1024]⟩
abbrev S2x2848x1024 : Shape := ⟨3, ![2, 2848, 1024]⟩
abbrev S_ : Shape := ⟨0, ![]⟩
abbrev S1x2848x1024 : Shape := ⟨3, ![1, 2848, 1024]⟩

abbrev nBuf : Space → Nat
  | .hbm => 2
  | .vmem => 0
  | .smem => 0
  | _ => 0

abbrev bufTy : (tb : Table) → Fin (tcTables nBuf tb) → BufTy
  | .hbm, ⟨0, _⟩ => ⟨S2848x1024, .f32⟩
  | .hbm, ⟨1, _⟩ => ⟨S2x2848x1024, .f32⟩
  | _, _ => ⟨S2848x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32 : BitVec 32 := 0#32
  let c0_i32_3 : BitVec 32 := 0#32
  ![v8.toNat, 0, 0]
def k0_dev1 (d0 : Dev nD) : Nat :=
  let c0_i32_6 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v12 : BitVec 32 := Scalar.muli v2 c4_i32_5
  let v13 : BitVec 32 := Scalar.addi c0_i32_6 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_7 : BitVec 32 := 2#32
  let v14 : BitVec 32 := Scalar.muli v5 c2_i32_7
  let v15 : BitVec 32 := Scalar.addi v13 v14
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_8 : BitVec 32 := 1#32
  let v16 : BitVec 32 := Scalar.muli v11 c1_i32_8
  let v17 : BitVec 32 := Scalar.addi v15 v16
  v17.toNat
-- ==== JoinRef.lean ====
abbrev S22784x1024 : Shape := ⟨2, ![22784, 1024]⟩
abbrev S8x2848x1024 : Shape := ⟨3, ![8, 2848, 1024]⟩

abbrev nBuf : Space → Nat
  | .hbm => 2
  | .vmem => 0
  | .smem => 0
  | _ => 0

abbrev bufTy : (tb : Table) → Fin (tcTables nBuf tb) → BufTy
  | .hbm, ⟨0, _⟩ => ⟨S22784x1024, .f32⟩
  | .hbm, ⟨1, _⟩ => ⟨S8x2848x1024, .f32⟩
  | _, _ => ⟨S22784x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Gather.lean ====
abbrev S2848x1024 : Shape := ⟨2, ![2848, 1024]⟩
abbrev S8x2848x1024 : Shape := ⟨3, ![8, 2848, 1024]⟩
abbrev S7 : Shape := ⟨1, ![7]⟩
abbrev S_ : Shape := ⟨0, ![]⟩
abbrev S1x2848x1024 : Shape := ⟨3, ![1, 2848, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S2848x1024, .bf16⟩
  | .hbm, ⟨1, _⟩ => ⟨S8x2848x1024, .bf16⟩
  | _, _ => ⟨S2848x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32 : BitVec 32 := 0#32
  let c0_i32_10 : BitVec 32 := 0#32
  ![v17.toNat, 0, 0]
def k0_dev1 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v36 : BitVec 32 := Scalar.muli v2 c4_i32_21
  let v37 : BitVec 32 := Scalar.addi c0_i32_22 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v38 : BitVec 32 := Scalar.muli v5 c2_i32_23
  let v39 : BitVec 32 := Scalar.addi v37 v38
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_24 : BitVec 32 := 1#32
  let v40 : BitVec 32 := Scalar.muli v9 c1_i32_24
  let v41 : BitVec 32 := Scalar.addi v39 v40
  v41.toNat
def k0_dev2 (d0 : Dev nD) : Nat :=
  let c0_i32_30 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_29 : BitVec 32 := 4#32
  let v48 : BitVec 32 := Scalar.muli v10 c4_i32_29
  let v49 : BitVec 32 := Scalar.addi c0_i32_30 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v50 : BitVec 32 := Scalar.muli v5 c2_i32_31
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v52 : BitVec 32 := Scalar.muli v8 c1_i32_32
  let v53 : BitVec 32 := Scalar.addi v51 v52
  v53.toNat
def k0_dev3 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v60 : BitVec 32 := Scalar.muli v2 c4_i32_37
  let v61 : BitVec 32 := Scalar.addi c0_i32_38 v60
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_39 : BitVec 32 := 2#32
  let v62 : BitVec 32 := Scalar.muli v11 c2_i32_39
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v64 : BitVec 32 := Scalar.muli v8 c1_i32_40
  let v65 : BitVec 32 := Scalar.addi v63 v64
  v65.toNat
def k0_dev4 (d0 : Dev nD) : Nat :=
  let c0_i32_45 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_44 : BitVec 32 := 4#32
  let v72 : BitVec 32 := Scalar.muli v12 c4_i32_44
  let v73 : BitVec 32 := Scalar.addi c0_i32_45 v72
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_46 : BitVec 32 := 2#32
  let v74 : BitVec 32 := Scalar.muli v13 c2_i32_46
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v76 : BitVec 32 := Scalar.muli v8 c1_i32_47
  let v77 : BitVec 32 := Scalar.addi v75 v76
  v77.toNat
def k0_off2 (d0 : Dev nD) : Fin 3 → Nat :=
  let c4_i32_64 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v112 : BitVec 32 := Scalar.muli c4_i32_64 v10
  let c2_i32_65 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v113 : BitVec 32 := Scalar.muli c2_i32_65 v5
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v115 : BitVec 32 := Scalar.addi v114 v8
  let c0_i32_72 : BitVec 32 := 0#32
  let c0_i32_73 : BitVec 32 := 0#32
  ![v115.toNat, 0, 0]
def k0_dev5 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v128 : BitVec 32 := Scalar.muli v2 c4_i32_78
  let v129 : BitVec 32 := Scalar.addi c0_i32_79 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v130 : BitVec 32 := Scalar.muli v5 c2_i32_80
  let v131 : BitVec 32 := Scalar.addi v129 v130
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_81 : BitVec 32 := 1#32
  let v132 : BitVec 32 := Scalar.muli v9 c1_i32_81
  let v133 : BitVec 32 := Scalar.addi v131 v132
  v133.toNat
def k0_off3 (d0 : Dev nD) : Fin 3 → Nat :=
  let c4_i32_88 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v146 : BitVec 32 := Scalar.muli c4_i32_88 v2
  let c2_i32_89 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v147 : BitVec 32 := Scalar.muli c2_i32_89 v11
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v149 : BitVec 32 := Scalar.addi v148 v8
  let c0_i32_96 : BitVec 32 := 0#32
  let c0_i32_97 : BitVec 32 := 0#32
  ![v149.toNat, 0, 0]
def k0_dev6 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v162 : BitVec 32 := Scalar.muli v2 c4_i32_101
  let v163 : BitVec 32 := Scalar.addi c0_i32_102 v162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v164 : BitVec 32 := Scalar.muli v5 c2_i32_103
  let v165 : BitVec 32 := Scalar.addi v163 v164
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_104 : BitVec 32 := 1#32
  let v166 : BitVec 32 := Scalar.muli v9 c1_i32_104
  let v167 : BitVec 32 := Scalar.addi v165 v166
  v167.toNat
def k0_off4 (d0 : Dev nD) : Fin 3 → Nat :=
  let c4_i32_111 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v180 : BitVec 32 := Scalar.muli c4_i32_111 v12
  let c2_i32_112 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v181 : BitVec 32 := Scalar.muli c2_i32_112 v13
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v183 : BitVec 32 := Scalar.addi v182 v8
  let c0_i32_119 : BitVec 32 := 0#32
  let c0_i32_120 : BitVec 32 := 0#32
  ![v183.toNat, 0, 0]
def k0_dev7 (d0 : Dev nD) : Nat :=
  let c0_i32_125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_124 : BitVec 32 := 4#32
  let v196 : BitVec 32 := Scalar.muli v2 c4_i32_124
  let v197 : BitVec 32 := Scalar.addi c0_i32_125 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v198 : BitVec 32 := Scalar.muli v5 c2_i32_126
  let v199 : BitVec 32 := Scalar.addi v197 v198
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_127 : BitVec 32 := 1#32
  let v200 : BitVec 32 := Scalar.muli v9 c1_i32_127
  let v201 : BitVec 32 := Scalar.addi v199 v200
  v201.toNat
def k0_off5 (d0 : Dev nD) : Fin 3 → Nat :=
  let c4_i32_134 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v214 : BitVec 32 := Scalar.muli c4_i32_134 v2
  let c2_i32_135 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v215 : BitVec 32 := Scalar.muli c2_i32_135 v5
  let v216 : BitVec 32 := Scalar.addi v214 v215
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v217 : BitVec 32 := Scalar.addi v216 v9
  let c0_i32_142 : BitVec 32 := 0#32
  let c0_i32_143 : BitVec 32 := 0#32
  ![v217.toNat, 0, 0]
def k0_off6 (d0 : Dev nD) : Fin 3 → Nat :=
  let c4_i32_149 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v235 : BitVec 32 := Scalar.muli c4_i32_149 v10
  let c2_i32_150 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v236 : BitVec 32 := Scalar.muli c2_i32_150 v5
  let v237 : BitVec 32 := Scalar.addi v235 v236
  let c1_i32_146 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v230 : BitVec 32 := Scalar.subi c1_i32_146 v8
  let v238 : BitVec 32 := Scalar.addi v237 v230
  let c0_i32_157 : BitVec 32 := 0#32
  let c0_i32_158 : BitVec 32 := 0#32
  ![v238.toNat, 0, 0]
def k0_off7 (d0 : Dev nD) : Fin 3 → Nat :=
  let c4_i32_164 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v256 : BitVec 32 := Scalar.muli c4_i32_164 v2
  let c2_i32_165 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v257 : BitVec 32 := Scalar.muli c2_i32_165 v11
  let v258 : BitVec 32 := Scalar.addi v256 v257
  let c1_i32_161 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v251 : BitVec 32 := Scalar.subi c1_i32_161 v8
  let v259 : BitVec 32 := Scalar.addi v258 v251
  let c0_i32_172 : BitVec 32 := 0#32
  let c0_i32_173 : BitVec 32 := 0#32
  ![v259.toNat, 0, 0]
def k0_off8 (d0 : Dev nD) : Fin 3 → Nat :=
  let c4_i32_179 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v277 : BitVec 32 := Scalar.muli c4_i32_179 v12
  let c2_i32_180 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v278 : BitVec 32 := Scalar.muli c2_i32_180 v13
  let v279 : BitVec 32 := Scalar.addi v277 v278
  let c1_i32_176 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v272 : BitVec 32 := Scalar.subi c1_i32_176 v8
  let v280 : BitVec 32 := Scalar.addi v279 v272
  let c0_i32_187 : BitVec 32 := 0#32
  let c0_i32_188 : BitVec 32 := 0#32
  ![v280.toNat, 0, 0]
-- ==== GatherRef.lean ====
abbrev S22784x1024 : Shape := ⟨2, ![22784, 1024]⟩
abbrev S8x2848x1024 : Shape := ⟨3, ![8, 2848, 1024]⟩

abbrev nBuf : Space → Nat
  | .hbm => 2
  | .vmem => 0
  | .smem => 0
  | _ => 0

abbrev bufTy : (tb : Table) → Fin (tcTables nBuf tb) → BufTy
  | .hbm, ⟨0, _⟩ => ⟨S22784x1024, .bf16⟩
  | .hbm, ⟨1, _⟩ => ⟨S8x2848x1024, .bf16⟩
  | _, _ => ⟨S22784x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== GatherSmall.lean ====
abbrev S16x1024 : Shape := ⟨2, ![16, 1024]⟩
abbrev S8x16x1024 : Shape := ⟨3, ![8, 16, 1024]⟩
abbrev S7 : Shape := ⟨1, ![7]⟩
abbrev S_ : Shape := ⟨0, ![]⟩
abbrev S1x16x1024 : Shape := ⟨3, ![1, 16, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S8x16x1024, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32 : BitVec 32 := 0#32
  let c0_i32_10 : BitVec 32 := 0#32
  ![v17.toNat, 0, 0]
def k0_dev1 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v36 : BitVec 32 := Scalar.muli v2 c4_i32_21
  let v37 : BitVec 32 := Scalar.addi c0_i32_22 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v38 : BitVec 32 := Scalar.muli v5 c2_i32_23
  let v39 : BitVec 32 := Scalar.addi v37 v38
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_24 : BitVec 32 := 1#32
  let v40 : BitVec 32 := Scalar.muli v9 c1_i32_24
  let v41 : BitVec 32 := Scalar.addi v39 v40
  v41.toNat
def k0_dev2 (d0 : Dev nD) : Nat :=
  let c0_i32_30 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_29 : BitVec 32 := 4#32
  let v48 : BitVec 32 := Scalar.muli v10 c4_i32_29
  let v49 : BitVec 32 := Scalar.addi c0_i32_30 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v50 : BitVec 32 := Scalar.muli v5 c2_i32_31
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v52 : BitVec 32 := Scalar.muli v8 c1_i32_32
  let v53 : BitVec 32 := Scalar.addi v51 v52
  v53.toNat
def k0_dev3 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v60 : BitVec 32 := Scalar.muli v2 c4_i32_37
  let v61 : BitVec 32 := Scalar.addi c0_i32_38 v60
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_39 : BitVec 32 := 2#32
  let v62 : BitVec 32 := Scalar.muli v11 c2_i32_39
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v64 : BitVec 32 := Scalar.muli v8 c1_i32_40
  let v65 : BitVec 32 := Scalar.addi v63 v64
  v65.toNat
def k0_dev4 (d0 : Dev nD) : Nat :=
  let c0_i32_45 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_44 : BitVec 32 := 4#32
  let v72 : BitVec 32 := Scalar.muli v12 c4_i32_44
  let v73 : BitVec 32 := Scalar.addi c0_i32_45 v72
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_46 : BitVec 32 := 2#32
  let v74 : BitVec 32 := Scalar.muli v13 c2_i32_46
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v76 : BitVec 32 := Scalar.muli v8 c1_i32_47
  let v77 : BitVec 32 := Scalar.addi v75 v76
  v77.toNat
def k0_off2 (d0 : Dev nD) : Fin 3 → Nat :=
  let c4_i32_64 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v112 : BitVec 32 := Scalar.muli c4_i32_64 v10
  let c2_i32_65 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v113 : BitVec 32 := Scalar.muli c2_i32_65 v5
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v115 : BitVec 32 := Scalar.addi v114 v8
  let c0_i32_72 : BitVec 32 := 0#32
  let c0_i32_73 : BitVec 32 := 0#32
  ![v115.toNat, 0, 0]
def k0_dev5 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v128 : BitVec 32 := Scalar.muli v2 c4_i32_78
  let v129 : BitVec 32 := Scalar.addi c0_i32_79 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v130 : BitVec 32 := Scalar.muli v5 c2_i32_80
  let v131 : BitVec 32 := Scalar.addi v129 v130
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_81 : BitVec 32 := 1#32
  let v132 : BitVec 32 := Scalar.muli v9 c1_i32_81
  let v133 : BitVec 32 := Scalar.addi v131 v132
  v133.toNat
def k0_off3 (d0 : Dev nD) : Fin 3 → Nat :=
  let c4_i32_88 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v146 : BitVec 32 := Scalar.muli c4_i32_88 v2
  let c2_i32_89 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v147 : BitVec 32 := Scalar.muli c2_i32_89 v11
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v149 : BitVec 32 := Scalar.addi v148 v8
  let c0_i32_96 : BitVec 32 := 0#32
  let c0_i32_97 : BitVec 32 := 0#32
  ![v149.toNat, 0, 0]
def k0_dev6 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v162 : BitVec 32 := Scalar.muli v2 c4_i32_101
  let v163 : BitVec 32 := Scalar.addi c0_i32_102 v162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v164 : BitVec 32 := Scalar.muli v5 c2_i32_103
  let v165 : BitVec 32 := Scalar.addi v163 v164
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_104 : BitVec 32 := 1#32
  let v166 : BitVec 32 := Scalar.muli v9 c1_i32_104
  let v167 : BitVec 32 := Scalar.addi v165 v166
  v167.toNat
def k0_off4 (d0 : Dev nD) : Fin 3 → Nat :=
  let c4_i32_111 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v180 : BitVec 32 := Scalar.muli c4_i32_111 v12
  let c2_i32_112 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v181 : BitVec 32 := Scalar.muli c2_i32_112 v13
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v183 : BitVec 32 := Scalar.addi v182 v8
  let c0_i32_119 : BitVec 32 := 0#32
  let c0_i32_120 : BitVec 32 := 0#32
  ![v183.toNat, 0, 0]
def k0_dev7 (d0 : Dev nD) : Nat :=
  let c0_i32_125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_124 : BitVec 32 := 4#32
  let v196 : BitVec 32 := Scalar.muli v2 c4_i32_124
  let v197 : BitVec 32 := Scalar.addi c0_i32_125 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v198 : BitVec 32 := Scalar.muli v5 c2_i32_126
  let v199 : BitVec 32 := Scalar.addi v197 v198
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_127 : BitVec 32 := 1#32
  let v200 : BitVec 32 := Scalar.muli v9 c1_i32_127
  let v201 : BitVec 32 := Scalar.addi v199 v200
  v201.toNat
def k0_off5 (d0 : Dev nD) : Fin 3 → Nat :=
  let c4_i32_134 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v214 : BitVec 32 := Scalar.muli c4_i32_134 v2
  let c2_i32_135 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v215 : BitVec 32 := Scalar.muli c2_i32_135 v5
  let v216 : BitVec 32 := Scalar.addi v214 v215
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v217 : BitVec 32 := Scalar.addi v216 v9
  let c0_i32_142 : BitVec 32 := 0#32
  let c0_i32_143 : BitVec 32 := 0#32
  ![v217.toNat, 0, 0]
def k0_off6 (d0 : Dev nD) : Fin 3 → Nat :=
  let c4_i32_149 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v235 : BitVec 32 := Scalar.muli c4_i32_149 v10
  let c2_i32_150 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v236 : BitVec 32 := Scalar.muli c2_i32_150 v5
  let v237 : BitVec 32 := Scalar.addi v235 v236
  let c1_i32_146 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v230 : BitVec 32 := Scalar.subi c1_i32_146 v8
  let v238 : BitVec 32 := Scalar.addi v237 v230
  let c0_i32_157 : BitVec 32 := 0#32
  let c0_i32_158 : BitVec 32 := 0#32
  ![v238.toNat, 0, 0]
def k0_off7 (d0 : Dev nD) : Fin 3 → Nat :=
  let c4_i32_164 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v256 : BitVec 32 := Scalar.muli c4_i32_164 v2
  let c2_i32_165 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v257 : BitVec 32 := Scalar.muli c2_i32_165 v11
  let v258 : BitVec 32 := Scalar.addi v256 v257
  let c1_i32_161 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v251 : BitVec 32 := Scalar.subi c1_i32_161 v8
  let v259 : BitVec 32 := Scalar.addi v258 v251
  let c0_i32_172 : BitVec 32 := 0#32
  let c0_i32_173 : BitVec 32 := 0#32
  ![v259.toNat, 0, 0]
def k0_off8 (d0 : Dev nD) : Fin 3 → Nat :=
  let c4_i32_179 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v277 : BitVec 32 := Scalar.muli c4_i32_179 v12
  let c2_i32_180 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v278 : BitVec 32 := Scalar.muli c2_i32_180 v13
  let v279 : BitVec 32 := Scalar.addi v277 v278
  let c1_i32_176 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v272 : BitVec 32 := Scalar.subi c1_i32_176 v8
  let v280 : BitVec 32 := Scalar.addi v279 v272
  let c0_i32_187 : BitVec 32 := 0#32
  let c0_i32_188 : BitVec 32 := 0#32
  ![v280.toNat, 0, 0]
-- ==== GatherSmallRef.lean ====
abbrev S128x1024 : Shape := ⟨2, ![128, 1024]⟩
abbrev S8x16x1024 : Shape := ⟨3, ![8, 16, 1024]⟩

abbrev nBuf : Space → Nat
  | .hbm => 2
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S8x16x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== GatherMod.lean ====
abbrev S8x1536 : Shape := ⟨2, ![8, 1536]⟩
abbrev S8x8x1536 : Shape := ⟨3, ![8, 8, 1536]⟩
abbrev S7 : Shape := ⟨1, ![7]⟩
abbrev S_ : Shape := ⟨0, ![]⟩
abbrev S1x8x1536 : Shape := ⟨3, ![1, 8, 1536]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S8x1536, .f32⟩
  | .hbm, ⟨1, _⟩ => ⟨S8x8x1536, .f32⟩
  | _, _ => ⟨S8x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32 : BitVec 32 := 0#32
  let c0_i32_10 : BitVec 32 := 0#32
  ![v17.toNat, 0, 0]
def k0_dev1 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v36 : BitVec 32 := Scalar.muli v2 c4_i32_21
  let v37 : BitVec 32 := Scalar.addi c0_i32_22 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v38 : BitVec 32 := Scalar.muli v5 c2_i32_23
  let v39 : BitVec 32 := Scalar.addi v37 v38
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_24 : BitVec 32 := 1#32
  let v40 : BitVec 32 := Scalar.muli v9 c1_i32_24
  let v41 : BitVec 32 := Scalar.addi v39 v40
  v41.toNat
def k0_dev2 (d0 : Dev nD) : Nat :=
  let c0_i32_30 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_29 : BitVec 32 := 4#32
  let v48 : BitVec 32 := Scalar.muli v10 c4_i32_29
  let v49 : BitVec 32 := Scalar.addi c0_i32_30 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v50 : BitVec 32 := Scalar.muli v5 c2_i32_31
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v52 : BitVec 32 := Scalar.muli v8 c1_i32_32
  let v53 : BitVec 32 := Scalar.addi v51 v52
  v53.toNat
def k0_dev3 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v60 : BitVec 32 := Scalar.muli v2 c4_i32_37
  let v61 : BitVec 32 := Scalar.addi c0_i32_38 v60
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_39 : BitVec 32 := 2#32
  let v62 : BitVec 32 := Scalar.muli v11 c2_i32_39
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v64 : BitVec 32 := Scalar.muli v8 c1_i32_40
  let v65 : BitVec 32 := Scalar.addi v63 v64
  v65.toNat
def k0_dev4 (d0 : Dev nD) : Nat :=
  let c0_i32_45 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_44 : BitVec 32 := 4#32
  let v72 : BitVec 32 := Scalar.muli v12 c4_i32_44
  let v73 : BitVec 32 := Scalar.addi c0_i32_45 v72
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_46 : BitVec 32 := 2#32
  let v74 : BitVec 32 := Scalar.muli v13 c2_i32_46
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v76 : BitVec 32 := Scalar.muli v8 c1_i32_47
  let v77 : BitVec 32 := Scalar.addi v75 v76
  v77.toNat
def k0_off2 (d0 : Dev nD) : Fin 3 → Nat :=
  let c4_i32_64 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v112 : BitVec 32 := Scalar.muli c4_i32_64 v10
  let c2_i32_65 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v113 : BitVec 32 := Scalar.muli c2_i32_65 v5
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v115 : BitVec 32 := Scalar.addi v114 v8
  let c0_i32_72 : BitVec 32 := 0#32
  let c0_i32_73 : BitVec 32 := 0#32
  ![v115.toNat, 0, 0]
def k0_dev5 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v128 : BitVec 32 := Scalar.muli v2 c4_i32_78
  let v129 : BitVec 32 := Scalar.addi c0_i32_79 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v130 : BitVec 32 := Scalar.muli v5 c2_i32_80
  let v131 : BitVec 32 := Scalar.addi v129 v130
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_81 : BitVec 32 := 1#32
  let v132 : BitVec 32 := Scalar.muli v9 c1_i32_81
  let v133 : BitVec 32 := Scalar.addi v131 v132
  v133.toNat
def k0_off3 (d0 : Dev nD) : Fin 3 → Nat :=
  let c4_i32_88 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v146 : BitVec 32 := Scalar.muli c4_i32_88 v2
  let c2_i32_89 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v147 : BitVec 32 := Scalar.muli c2_i32_89 v11
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v149 : BitVec 32 := Scalar.addi v148 v8
  let c0_i32_96 : BitVec 32 := 0#32
  let c0_i32_97 : BitVec 32 := 0#32
  ![v149.toNat, 0, 0]
def k0_dev6 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v162 : BitVec 32 := Scalar.muli v2 c4_i32_101
  let v163 : BitVec 32 := Scalar.addi c0_i32_102 v162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v164 : BitVec 32 := Scalar.muli v5 c2_i32_103
  let v165 : BitVec 32 := Scalar.addi v163 v164
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_104 : BitVec 32 := 1#32
  let v166 : BitVec 32 := Scalar.muli v9 c1_i32_104
  let v167 : BitVec 32 := Scalar.addi v165 v166
  v167.toNat
def k0_off4 (d0 : Dev nD) : Fin 3 → Nat :=
  let c4_i32_111 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v180 : BitVec 32 := Scalar.muli c4_i32_111 v12
  let c2_i32_112 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v181 : BitVec 32 := Scalar.muli c2_i32_112 v13
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v183 : BitVec 32 := Scalar.addi v182 v8
  let c0_i32_119 : BitVec 32 := 0#32
  let c0_i32_120 : BitVec 32 := 0#32
  ![v183.toNat, 0, 0]
def k0_dev7 (d0 : Dev nD) : Nat :=
  let c0_i32_125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_124 : BitVec 32 := 4#32
  let v196 : BitVec 32 := Scalar.muli v2 c4_i32_124
  let v197 : BitVec 32 := Scalar.addi c0_i32_125 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v198 : BitVec 32 := Scalar.muli v5 c2_i32_126
  let v199 : BitVec 32 := Scalar.addi v197 v198
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_127 : BitVec 32 := 1#32
  let v200 : BitVec 32 := Scalar.muli v9 c1_i32_127
  let v201 : BitVec 32 := Scalar.addi v199 v200
  v201.toNat
def k0_off5 (d0 : Dev nD) : Fin 3 → Nat :=
  let c4_i32_134 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v214 : BitVec 32 := Scalar.muli c4_i32_134 v2
  let c2_i32_135 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v215 : BitVec 32 := Scalar.muli c2_i32_135 v5
  let v216 : BitVec 32 := Scalar.addi v214 v215
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v217 : BitVec 32 := Scalar.addi v216 v9
  let c0_i32_142 : BitVec 32 := 0#32
  let c0_i32_143 : BitVec 32 := 0#32
  ![v217.toNat, 0, 0]
def k0_off6 (d0 : Dev nD) : Fin 3 → Nat :=
  let c4_i32_149 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v235 : BitVec 32 := Scalar.muli c4_i32_149 v10
  let c2_i32_150 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v236 : BitVec 32 := Scalar.muli c2_i32_150 v5
  let v237 : BitVec 32 := Scalar.addi v235 v236
  let c1_i32_146 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v230 : BitVec 32 := Scalar.subi c1_i32_146 v8
  let v238 : BitVec 32 := Scalar.addi v237 v230
  let c0_i32_157 : BitVec 32 := 0#32
  let c0_i32_158 : BitVec 32 := 0#32
  ![v238.toNat, 0, 0]
def k0_off7 (d0 : Dev nD) : Fin 3 → Nat :=
  let c4_i32_164 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v256 : BitVec 32 := Scalar.muli c4_i32_164 v2
  let c2_i32_165 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v257 : BitVec 32 := Scalar.muli c2_i32_165 v11
  let v258 : BitVec 32 := Scalar.addi v256 v257
  let c1_i32_161 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v251 : BitVec 32 := Scalar.subi c1_i32_161 v8
  let v259 : BitVec 32 := Scalar.addi v258 v251
  let c0_i32_172 : BitVec 32 := 0#32
  let c0_i32_173 : BitVec 32 := 0#32
  ![v259.toNat, 0, 0]
def k0_off8 (d0 : Dev nD) : Fin 3 → Nat :=
  let c4_i32_179 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v277 : BitVec 32 := Scalar.muli c4_i32_179 v12
  let c2_i32_180 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v278 : BitVec 32 := Scalar.muli c2_i32_180 v13
  let v279 : BitVec 32 := Scalar.addi v277 v278
  let c1_i32_176 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v272 : BitVec 32 := Scalar.subi c1_i32_176 v8
  let v280 : BitVec 32 := Scalar.addi v279 v272
  let c0_i32_187 : BitVec 32 := 0#32
  let c0_i32_188 : BitVec 32 := 0#32
  ![v280.toNat, 0, 0]
-- ==== GatherModRef.lean ====
abbrev S64x1536 : Shape := ⟨2, ![64, 1536]⟩
abbrev S8x8x1536 : Shape := ⟨3, ![8, 8, 1536]⟩

abbrev nBuf : Space → Nat
  | .hbm => 2
  | .vmem => 0
  | .smem => 0
  | _ => 0

abbrev bufTy : (tb : Table) → Fin (tcTables nBuf tb) → BufTy
  | .hbm, ⟨0, _⟩ => ⟨S64x1536, .f32⟩
  | .hbm, ⟨1, _⟩ => ⟨S8x8x1536, .f32⟩
  | _, _ => ⟨S64x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== GatherParts.lean ====
abbrev S80x1024 : Shape := ⟨2, ![80, 1024]⟩
abbrev S8x80x1024 : Shape := ⟨3, ![8, 80, 1024]⟩
abbrev S7 : Shape := ⟨1, ![7]⟩
abbrev S_ : Shape := ⟨0, ![]⟩
abbrev S1x80x1024 : Shape := ⟨3, ![1, 80, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S80x1024, .f32⟩
  | .hbm, ⟨1, _⟩ => ⟨S8x80x1024, .f32⟩
  | _, _ => ⟨S80x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32 : BitVec 32 := 0#32
  let c0_i32_10 : BitVec 32 := 0#32
  ![v17.toNat, 0, 0]
def k0_dev1 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v36 : BitVec 32 := Scalar.muli v2 c4_i32_21
  let v37 : BitVec 32 := Scalar.addi c0_i32_22 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v38 : BitVec 32 := Scalar.muli v5 c2_i32_23
  let v39 : BitVec 32 := Scalar.addi v37 v38
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_24 : BitVec 32 := 1#32
  let v40 : BitVec 32 := Scalar.muli v9 c1_i32_24
  let v41 : BitVec 32 := Scalar.addi v39 v40
  v41.toNat
def k0_dev2 (d0 : Dev nD) : Nat :=
  let c0_i32_30 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_29 : BitVec 32 := 4#32
  let v48 : BitVec 32 := Scalar.muli v10 c4_i32_29
  let v49 : BitVec 32 := Scalar.addi c0_i32_30 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v50 : BitVec 32 := Scalar.muli v5 c2_i32_31
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v52 : BitVec 32 := Scalar.muli v8 c1_i32_32
  let v53 : BitVec 32 := Scalar.addi v51 v52
  v53.toNat
def k0_dev3 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v60 : BitVec 32 := Scalar.muli v2 c4_i32_37
  let v61 : BitVec 32 := Scalar.addi c0_i32_38 v60
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_39 : BitVec 32 := 2#32
  let v62 : BitVec 32 := Scalar.muli v11 c2_i32_39
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v64 : BitVec 32 := Scalar.muli v8 c1_i32_40
  let v65 : BitVec 32 := Scalar.addi v63 v64
  v65.toNat
def k0_dev4 (d0 : Dev nD) : Nat :=
  let c0_i32_45 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_44 : BitVec 32 := 4#32
  let v72 : BitVec 32 := Scalar.muli v12 c4_i32_44
  let v73 : BitVec 32 := Scalar.addi c0_i32_45 v72
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_46 : BitVec 32 := 2#32
  let v74 : BitVec 32 := Scalar.muli v13 c2_i32_46
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v76 : BitVec 32 := Scalar.muli v8 c1_i32_47
  let v77 : BitVec 32 := Scalar.addi v75 v76
  v77.toNat
def k0_off2 (d0 : Dev nD) : Fin 3 → Nat :=
  let c4_i32_64 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v112 : BitVec 32 := Scalar.muli c4_i32_64 v10
  let c2_i32_65 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v113 : BitVec 32 := Scalar.muli c2_i32_65 v5
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v115 : BitVec 32 := Scalar.addi v114 v8
  let c0_i32_72 : BitVec 32 := 0#32
  let c0_i32_73 : BitVec 32 := 0#32
  ![v115.toNat, 0, 0]
def k0_dev5 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v128 : BitVec 32 := Scalar.muli v2 c4_i32_78
  let v129 : BitVec 32 := Scalar.addi c0_i32_79 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v130 : BitVec 32 := Scalar.muli v5 c2_i32_80
  let v131 : BitVec 32 := Scalar.addi v129 v130
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_81 : BitVec 32 := 1#32
  let v132 : BitVec 32 := Scalar.muli v9 c1_i32_81
  let v133 : BitVec 32 := Scalar.addi v131 v132
  v133.toNat
def k0_off3 (d0 : Dev nD) : Fin 3 → Nat :=
  let c4_i32_88 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v146 : BitVec 32 := Scalar.muli c4_i32_88 v2
  let c2_i32_89 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v147 : BitVec 32 := Scalar.muli c2_i32_89 v11
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v149 : BitVec 32 := Scalar.addi v148 v8
  let c0_i32_96 : BitVec 32 := 0#32
  let c0_i32_97 : BitVec 32 := 0#32
  ![v149.toNat, 0, 0]
def k0_dev6 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v162 : BitVec 32 := Scalar.muli v2 c4_i32_101
  let v163 : BitVec 32 := Scalar.addi c0_i32_102 v162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v164 : BitVec 32 := Scalar.muli v5 c2_i32_103
  let v165 : BitVec 32 := Scalar.addi v163 v164
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_104 : BitVec 32 := 1#32
  let v166 : BitVec 32 := Scalar.muli v9 c1_i32_104
  let v167 : BitVec 32 := Scalar.addi v165 v166
  v167.toNat
def k0_off4 (d0 : Dev nD) : Fin 3 → Nat :=
  let c4_i32_111 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v180 : BitVec 32 := Scalar.muli c4_i32_111 v12
  let c2_i32_112 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v181 : BitVec 32 := Scalar.muli c2_i32_112 v13
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v183 : BitVec 32 := Scalar.addi v182 v8
  let c0_i32_119 : BitVec 32 := 0#32
  let c0_i32_120 : BitVec 32 := 0#32
  ![v183.toNat, 0, 0]
def k0_dev7 (d0 : Dev nD) : Nat :=
  let c0_i32_125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_124 : BitVec 32 := 4#32
  let v196 : BitVec 32 := Scalar.muli v2 c4_i32_124
  let v197 : BitVec 32 := Scalar.addi c0_i32_125 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v198 : BitVec 32 := Scalar.muli v5 c2_i32_126
  let v199 : BitVec 32 := Scalar.addi v197 v198
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_127 : BitVec 32 := 1#32
  let v200 : BitVec 32 := Scalar.muli v9 c1_i32_127
  let v201 : BitVec 32 := Scalar.addi v199 v200
  v201.toNat
def k0_off5 (d0 : Dev nD) : Fin 3 → Nat :=
  let c4_i32_134 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v214 : BitVec 32 := Scalar.muli c4_i32_134 v2
  let c2_i32_135 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v215 : BitVec 32 := Scalar.muli c2_i32_135 v5
  let v216 : BitVec 32 := Scalar.addi v214 v215
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v217 : BitVec 32 := Scalar.addi v216 v9
  let c0_i32_142 : BitVec 32 := 0#32
  let c0_i32_143 : BitVec 32 := 0#32
  ![v217.toNat, 0, 0]
def k0_off6 (d0 : Dev nD) : Fin 3 → Nat :=
  let c4_i32_149 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v235 : BitVec 32 := Scalar.muli c4_i32_149 v10
  let c2_i32_150 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v236 : BitVec 32 := Scalar.muli c2_i32_150 v5
  let v237 : BitVec 32 := Scalar.addi v235 v236
  let c1_i32_146 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v230 : BitVec 32 := Scalar.subi c1_i32_146 v8
  let v238 : BitVec 32 := Scalar.addi v237 v230
  let c0_i32_157 : BitVec 32 := 0#32
  let c0_i32_158 : BitVec 32 := 0#32
  ![v238.toNat, 0, 0]
def k0_off7 (d0 : Dev nD) : Fin 3 → Nat :=
  let c4_i32_164 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v256 : BitVec 32 := Scalar.muli c4_i32_164 v2
  let c2_i32_165 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v257 : BitVec 32 := Scalar.muli c2_i32_165 v11
  let v258 : BitVec 32 := Scalar.addi v256 v257
  let c1_i32_161 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v251 : BitVec 32 := Scalar.subi c1_i32_161 v8
  let v259 : BitVec 32 := Scalar.addi v258 v251
  let c0_i32_172 : BitVec 32 := 0#32
  let c0_i32_173 : BitVec 32 := 0#32
  ![v259.toNat, 0, 0]
def k0_off8 (d0 : Dev nD) : Fin 3 → Nat :=
  let c4_i32_179 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v277 : BitVec 32 := Scalar.muli c4_i32_179 v12
  let c2_i32_180 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v278 : BitVec 32 := Scalar.muli c2_i32_180 v13
  let v279 : BitVec 32 := Scalar.addi v277 v278
  let c1_i32_176 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v272 : BitVec 32 := Scalar.subi c1_i32_176 v8
  let v280 : BitVec 32 := Scalar.addi v279 v272
  let c0_i32_187 : BitVec 32 := 0#32
  let c0_i32_188 : BitVec 32 := 0#32
  ![v280.toNat, 0, 0]
-- ==== GatherPartsRef.lean ====
abbrev S640x1024 : Shape := ⟨2, ![640, 1024]⟩
abbrev S8x80x1024 : Shape := ⟨3, ![8, 80, 1024]⟩

abbrev nBuf : Space → Nat
  | .hbm => 2
  | .vmem => 0
  | .smem => 0
  | _ => 0

abbrev bufTy : (tb : Table) → Fin (tcTables nBuf tb) → BufTy
  | .hbm, ⟨0, _⟩ => ⟨S640x1024, .f32⟩
  | .hbm, ⟨1, _⟩ => ⟨S8x80x1024, .f32⟩
  | _, _ => ⟨S640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== AdamBig.lean ====
abbrev S5696x1024 : Shape := ⟨2, ![5696, 1024]⟩
abbrev S64x1024 : Shape := ⟨2, ![64, 1024]⟩

abbrev nBuf : Space → Nat
  | .hbm => 7
  | .vmem => 14
  | .smem => 0
  | _ => 0

abbrev bufTy : (tb : Table) → Fin (tcTables nBuf tb) → BufTy
  | .hbm, ⟨0, _⟩ => ⟨S5696x1024, .f32⟩
  | .hbm, ⟨1, _⟩ => ⟨S5696x1024, .f32⟩
  | .hbm, ⟨2, _⟩ => ⟨S5696x1024, .f32⟩
  | .hbm, ⟨3, _⟩ => ⟨S5696x1024, .f32⟩
  | .hbm, ⟨4, _⟩ => ⟨S5696x1024, .f32⟩
  | .hbm, ⟨5, _⟩ => ⟨S5696x1024, .f32⟩
  | .hbm, ⟨6, _⟩ => ⟨S5696x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | _, _ => ⟨S5696x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 89], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamBigRefIdeal.lean ====
abbrev S5696x1024 : Shape := ⟨2, ![5696, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S5696x1024, .f32⟩
  | .hbm, ⟨1, _⟩ => ⟨S5696x1024, .f32⟩
  | .hbm, ⟨2, _⟩ => ⟨S5696x1024, .f32⟩
  | .hbm, ⟨3, _⟩ => ⟨S5696x1024, .f32⟩
  | .hbm, ⟨4, _⟩ => ⟨S_, .f32⟩
  | .hbm, ⟨5, _⟩ => ⟨S5696x1024, .f32⟩
  | .hbm, ⟨6, _⟩ => ⟨S5696x1024, .f32⟩
  | .hbm, ⟨7, _⟩ => ⟨S_, .f32⟩
  | .hbm, ⟨8, _⟩ => ⟨S5696x1024, .f32⟩
  | .hbm, ⟨9, _⟩ => ⟨S5696x1024, .f32⟩
  | .hbm, ⟨10, _⟩ => ⟨S5696x1024, .f32⟩
  | .hbm, ⟨11, _⟩ => ⟨S_, .f32⟩
  | .hbm, ⟨12, _⟩ => ⟨S5696x1024, .f32⟩
  | .hbm, ⟨13, _⟩ => ⟨S5696x1024, .f32⟩
  | .hbm, ⟨14, _⟩ => ⟨S5696x1024, .f32⟩
  | .hbm, ⟨15, _⟩ => ⟨S_, .f32⟩
  | .hbm, ⟨16, _⟩ => ⟨S5696x1024, .f32⟩
  | .hbm, ⟨17, _⟩ => ⟨S5696x1024, .f32⟩
  | .hbm, ⟨18, _⟩ => ⟨S5696x1024, .f32⟩
  | .hbm, ⟨19, _⟩ => ⟨S_, .f32⟩
  | .hbm, ⟨20, _⟩ => ⟨S5696x1024, .f32⟩
  | .hbm, ⟨21, _⟩ => ⟨S5696x1024, .f32⟩
  | .hbm, ⟨22, _⟩ => ⟨S_, .f32⟩
  | .hbm, ⟨23, _⟩ => ⟨S5696x1024, .f32⟩
  | .hbm, ⟨24, _⟩ => ⟨S5696x1024, .f32⟩
  | .hbm, ⟨25, _⟩ => ⟨S5696x1024, .f32⟩
  | .hbm, ⟨26, _⟩ => ⟨S_, .f32⟩
  | .hbm, ⟨27, _⟩ => ⟨S5696x1024, .f32⟩
  | .hbm, ⟨28, _⟩ => ⟨S5696x1024, .f32⟩
  | .hbm, ⟨29, _⟩ => ⟨S5696x1024, .f32⟩
  | .hbm, ⟨30, _⟩ => ⟨S_, .f32⟩
  | .hbm, ⟨31, _⟩ => ⟨S5696x1024, .f32⟩
  | .hbm, ⟨32, _⟩ => ⟨S5696x1024, .f32⟩
  | .hbm, ⟨33, _⟩ => ⟨S5696x1024, .f32⟩
  | .hbm, ⟨34, _⟩ => ⟨S_, .f32⟩
  | .hbm, ⟨35, _⟩ => ⟨S5696x1024, .f32⟩
  | .hbm, ⟨36, _⟩ => ⟨S5696x1024, .f32⟩
  | _, _ => ⟨S5696x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamAda.lean ====
abbrev S1024x1536 : Shape := ⟨2, ![1024, 1536]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S1024x1536, .f32⟩
  | .hbm, ⟨6, _⟩ => ⟨S1024x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamAdaRefIdeal.lean ====
abbrev S1024x1536 : Shape := ⟨2, ![1024, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S_, .f32⟩
  | .hbm, ⟨5, _⟩ => ⟨S1024x1536, .f32⟩
  | .hbm, ⟨6, _⟩ => ⟨S1024x1536, .f32⟩
  | .hbm, ⟨7, _⟩ => ⟨S_, .f32⟩
  | .hbm, ⟨8, _⟩ => ⟨S1024x1536, .f32⟩
  | .hbm, ⟨9, _⟩ => ⟨S1024x1536, .f32⟩
  | .hbm, ⟨10, _⟩ => ⟨S1024x1536, .f32⟩
  | .hbm, ⟨11, _⟩ => ⟨S_, .f32⟩
  | .hbm, ⟨12, _⟩ => ⟨S1024x1536, .f32⟩
  | .hbm, ⟨13, _⟩ => ⟨S1024x1536, .f32⟩
  | .hbm, ⟨14, _⟩ => ⟨S1024x1536, .f32⟩
  | .hbm, ⟨15, _⟩ => ⟨S_, .f32⟩
  | .hbm, ⟨16, _⟩ => ⟨S1024x1536, .f32⟩
  | .hbm, ⟨17, _⟩ => ⟨S1024x1536, .f32⟩
  | .hbm, ⟨18, _⟩ => ⟨S1024x1536, .f32⟩
  | .hbm, ⟨19, _⟩ => ⟨S_, .f32⟩
  | .hbm, ⟨20, _⟩ => ⟨S1024x1536, .f32⟩
  | .hbm, ⟨21, _⟩ => ⟨S1024x1536, .f32⟩
  | .hbm, ⟨22, _⟩ => ⟨S_, .f32⟩
  | .hbm, ⟨23, _⟩ => ⟨S1024x1536, .f32⟩
  | .hbm, ⟨24, _⟩ => ⟨S1024x1536, .f32⟩
  | .hbm, ⟨25, _⟩ => ⟨S1024x1536, .f32⟩
  | .hbm, ⟨26, _⟩ => ⟨S_, .f32⟩
  | .hbm, ⟨27, _⟩ => ⟨S1024x1536, .f32⟩
  | .hbm, ⟨28, _⟩ => ⟨S1024x1536, .f32⟩
  | .hbm, ⟨29, _⟩ => ⟨S1024x1536, .f32⟩
  | .hbm, ⟨30, _⟩ => ⟨S_, .f32⟩
  | .hbm, ⟨31, _⟩ => ⟨S1024x1536, .f32⟩
  | .hbm, ⟨32, _⟩ => ⟨S1024x1536, .f32⟩
  | .hbm, ⟨33, _⟩ => ⟨S1024x1536, .f32⟩
  | .hbm, ⟨34, _⟩ => ⟨S_, .f32⟩
  | .hbm, ⟨35, _⟩ => ⟨S1024x1536, .f32⟩
  | .hbm, ⟨36, _⟩ => ⟨S1024x1536, .f32⟩
  | _, _ => ⟨S1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S48x1024 : Shape := ⟨2, ![48, 1024]⟩

abbrev nBuf : Space → Nat
  | .hbm => 7
  | .vmem => 7
  | .smem => 0
  | _ => 0

abbrev bufTy : (tb : Table) → Fin (tcTables nBuf tb) → BufTy
  | .hbm, ⟨0, _⟩ => ⟨S48x1024, .f32⟩
  | .hbm, ⟨1, _⟩ => ⟨S48x1024, .f32⟩
  | .hbm, ⟨2, _⟩ => ⟨S48x1024, .f32⟩
  | .hbm, ⟨3, _⟩ => ⟨S48x1024, .f32⟩
  | .hbm, ⟨4, _⟩ => ⟨S48x1024, .f32⟩
  | .hbm, ⟨5, _⟩ => ⟨S48x1024, .f32⟩
  | .hbm, ⟨6, _⟩ => ⟨S48x1024, .f32⟩
  | .local _ .vmem, ⟨0, _⟩ => ⟨S48x1024, .f32⟩
  | .local _ .vmem, ⟨1, _⟩ => ⟨S48x1024, .f32⟩
  | .local _ .vmem, ⟨2, _⟩ => ⟨S48x1024, .f32⟩
  | .local _ .vmem, ⟨3, _⟩ => ⟨S48x1024, .f32⟩
  | .local _ .vmem, ⟨4, _⟩ => ⟨S48x1024, .f32⟩
  | .local _ .vmem, ⟨5, _⟩ => ⟨S48x1024, .f32⟩
  | .local _ .vmem, ⟨6, _⟩ => ⟨S48x1024, .f32⟩
  | _, _ => ⟨S48x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S48x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S48x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S48x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S48x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S48x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S48x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S48x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AdamSmallRefIdeal.lean ====
abbrev S48x1024 : Shape := ⟨2, ![48, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S48x1024, .f32⟩
  | .hbm, ⟨1, _⟩ => ⟨S48x1024, .f32⟩
  | .hbm, ⟨2, _⟩ => ⟨S48x1024, .f32⟩
  | .hbm, ⟨3, _⟩ => ⟨S48x1024, .f32⟩
  | .hbm, ⟨4, _⟩ => ⟨S_, .f32⟩
  | .hbm, ⟨5, _⟩ => ⟨S48x1024, .f32⟩
  | .hbm, ⟨6, _⟩ => ⟨S48x1024, .f32⟩
  | .hbm, ⟨7, _⟩ => ⟨S_, .f32⟩
  | .hbm, ⟨8, _⟩ => ⟨S48x1024, .f32⟩
  | .hbm, ⟨9, _⟩ => ⟨S48x1024, .f32⟩
  | .hbm, ⟨10, _⟩ => ⟨S48x1024, .f32⟩
  | .hbm, ⟨11, _⟩ => ⟨S_, .f32⟩
  | .hbm, ⟨12, _⟩ => ⟨S48x1024, .f32⟩
  | .hbm, ⟨13, _⟩ => ⟨S48x1024, .f32⟩
  | .hbm, ⟨14, _⟩ => ⟨S48x1024, .f32⟩
  | .hbm, ⟨15, _⟩ => ⟨S_, .f32⟩
  | .hbm, ⟨16, _⟩ => ⟨S48x1024, .f32⟩
  | .hbm, ⟨17, _⟩ => ⟨S48x1024, .f32⟩
  | .hbm, ⟨18, _⟩ => ⟨S48x1024, .f32⟩
  | .hbm, ⟨19, _⟩ => ⟨S_, .f32⟩
  | .hbm, ⟨20, _⟩ => ⟨S48x1024, .f32⟩
  | .hbm, ⟨21, _⟩ => ⟨S48x1024, .f32⟩
  | .hbm, ⟨22, _⟩ => ⟨S_, .f32⟩
  | .hbm, ⟨23, _⟩ => ⟨S48x1024, .f32⟩
  | .hbm, ⟨24, _⟩ => ⟨S48x1024, .f32⟩
  | .hbm, ⟨25, _⟩ => ⟨S48x1024, .f32⟩
  | .hbm, ⟨26, _⟩ => ⟨S_, .f32⟩
  | .hbm, ⟨27, _⟩ => ⟨S48x1024, .f32⟩
  | .hbm, ⟨28, _⟩ => ⟨S48x1024, .f32⟩
  | .hbm, ⟨29, _⟩ => ⟨S48x1024, .f32⟩
  | .hbm, ⟨30, _⟩ => ⟨S_, .f32⟩
  | .hbm, ⟨31, _⟩ => ⟨S48x1024, .f32⟩
  | .hbm, ⟨32, _⟩ => ⟨S48x1024, .f32⟩
  | .hbm, ⟨33, _⟩ => ⟨S48x1024, .f32⟩
  | .hbm, ⟨34, _⟩ => ⟨S_, .f32⟩
  | .hbm, ⟨35, _⟩ => ⟨S48x1024, .f32⟩
  | .hbm, ⟨36, _⟩ => ⟨S48x1024, .f32⟩
  | _, _ => ⟨S48x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdaBwd.lean ====
abbrev S8x1024 : Shape := ⟨2, ![8, 1024]⟩
abbrev S8x1536 : Shape := ⟨2, ![8, 1536]⟩
abbrev S1024x1536 : Shape := ⟨2, ![1024, 1536]⟩

abbrev nBuf : Space → Nat
  | .hbm => 3
  | .vmem => 3
  | .smem => 0
  | _ => 0

abbrev bufTy : (tb : Table) → Fin (tcTables nBuf tb) → BufTy
  | .hbm, ⟨0, _⟩ => ⟨S8x1024, .f32⟩
  | .hbm, ⟨1, _⟩ => ⟨S8x1536, .f32⟩
  | .hbm, ⟨2, _⟩ => ⟨S1024x1536, .f32⟩
  | .local _ .vmem, ⟨0, _⟩ => ⟨S8x1024, .f32⟩
  | .local _ .vmem, ⟨1, _⟩ => ⟨S8x1536, .f32⟩
  | .local _ .vmem, ⟨2, _⟩ => ⟨S1024x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== AdaBwdRefIdeal.lean ====
abbrev S8x1024 : Shape := ⟨2, ![8, 1024]⟩
abbrev S8x1536 : Shape := ⟨2, ![8, 1536]⟩
abbrev S_ : Shape := ⟨0, ![]⟩
abbrev S1024x1536 : Shape := ⟨2, ![1024, 1536]⟩

abbrev nBuf : Space → Nat
  | .hbm => 12
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x1536, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S1024x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩

abbrev nD : Nat := 1
abbrev τ : Topo := Topo.v7x

variable {F : FTy → Type} [FloatOps F]
-- ==== SmallSum.lean ====
abbrev S8x80x1024 : Shape := ⟨3, ![8, 80, 1024]⟩
abbrev S1x80x1024 : Shape := ⟨3, ![1, 80, 1024]⟩
abbrev S80x1024 : Shape := ⟨2, ![80, 1024]⟩

abbrev nBuf : Space → Nat
  | .hbm => 18
  | .vmem => 9
  | .smem => 0
  | _ => 0

abbrev bufTy : (tb : Table) → Fin (tcTables nBuf tb) → BufTy
  | .hbm, ⟨0, _⟩ => ⟨S8x80x1024, .f32⟩
  | .hbm, ⟨1, _⟩ => ⟨S1x80x1024, .f32⟩
  | .hbm, ⟨2, _⟩ => ⟨S80x1024, .f32⟩
  | .hbm, ⟨3, _⟩ => ⟨S1x80x1024, .f32⟩
  | .hbm, ⟨4, _⟩ => ⟨S80x1024, .f32⟩
  | .hbm, ⟨5, _⟩ => ⟨S1x80x1024, .f32⟩
  | .hbm, ⟨6, _⟩ => ⟨S80x1024, .f32⟩
  | .hbm, ⟨7, _⟩ => ⟨S1x80x1024, .f32⟩
  | .hbm, ⟨8, _⟩ => ⟨S80x1024, .f32⟩
  | .hbm, ⟨9, _⟩ => ⟨S1x80x1024, .f32⟩
  | .hbm, ⟨10, _⟩ => ⟨S80x1024, .f32⟩
  | .hbm, ⟨11, _⟩ => ⟨S1x80x1024, .f32⟩
  | .hbm, ⟨12, _⟩ => ⟨S80x1024, .f32⟩
  | .hbm, ⟨13, _⟩ => ⟨S1x80x1024, .f32⟩
  | .hbm, ⟨14, _⟩ => ⟨S80x1024, .f32⟩
  | .hbm, ⟨15, _⟩ => ⟨S1x80x1024, .f32⟩
  | .hbm, ⟨16, _⟩ => ⟨S80x1024, .f32⟩
  | .hbm, ⟨17, _⟩ => ⟨S80x1024, .f32⟩
  | .local _ .vmem, ⟨0, _⟩ => ⟨S80x1024, .f32⟩
  | .local _ .vmem, ⟨1, _⟩ => ⟨S80x1024, .f32⟩
  | .local _ .vmem, ⟨2, _⟩ => ⟨S80x1024, .f32⟩
  | .local _ .vmem, ⟨3, _⟩ => ⟨S80x1024, .f32⟩
  | .local _ .vmem, ⟨4, _⟩ => ⟨S80x1024, .f32⟩
  | .local _ .vmem, ⟨5, _⟩ => ⟨S80x1024, .f32⟩
  | .local _ .vmem, ⟨6, _⟩ => ⟨S80x1024, .f32⟩
  | .local _ .vmem, ⟨7, _⟩ => ⟨S80x1024, .f32⟩
  | .local _ .vmem, ⟨8, _⟩ => ⟨S80x1024, .f32⟩
  | _, _ => ⟨S8x80x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S80x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S80x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S80x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S80x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S80x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S80x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S80x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S80x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S80x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]
-- ==== SmallSumRefIdeal.lean ====
abbrev S8x80x1024 : Shape := ⟨3, ![8, 80, 1024]⟩
abbrev S_ : Shape := ⟨0, ![]⟩
abbrev S80x1024 : Shape := ⟨2, ![80, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x80x1024, .f32⟩
  | .hbm, ⟨1, _⟩ => ⟨S_, .f32⟩
  | .hbm, ⟨2, _⟩ => ⟨S80x1024, .f32⟩
  | _, _ => ⟨S8x80x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Loss.lean ====
abbrev S16384x1024 : Shape := ⟨2, ![16384, 1024]⟩
abbrev S1x1024 : Shape := ⟨2, ![1, 1024]⟩
abbrev S1x128 : Shape := ⟨2, ![1, 128]⟩
abbrev S256x1024 : Shape := ⟨2, ![256, 1024]⟩
abbrev S256 : Shape := ⟨1, ![256]⟩
abbrev S256x1 : Shape := ⟨2, ![256, 1]⟩
abbrev S1x256 : Shape := ⟨2, ![1, 256]⟩
abbrev S1 : Shape := ⟨1, ![1]⟩
abbrev S1x1 : Shape := ⟨2, ![1, 1]⟩
abbrev S1024 : Shape := ⟨1, ![1024]⟩

abbrev nBuf : Space → Nat
  | .hbm => 12
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S16384x1024, .f32⟩
  | .hbm, ⟨7, _⟩ => ⟨S16384x1024, .bf16⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]
-- ==== LossRefIdeal.lean ====
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1x128 : Shape := ⟨2, ![1, 128]⟩

abbrev nBuf : Space → Nat
  | .hbm => 51
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384, .f32⟩
  | .hbm, ⟨43, _⟩ => ⟨S_, .f32⟩
  | .hbm, ⟨44, _⟩ => ⟨S16384, .f32⟩
  | .hbm, ⟨45, _⟩ => ⟨S16384, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S1x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_cst_8 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]
-- ==== GradX.lean ====
abbrev S16384x1024 : Shape := ⟨2, ![16384, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 8
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1x1024, .f32⟩
  | .hbm, ⟨4, _⟩ => ⟨S1x1024, .f32⟩
  | .hbm, ⟨5, _⟩ => ⟨S16384x1024, .f32⟩
  | .hbm, ⟨6, _⟩ => ⟨S1x1024, .f32⟩
  | .hbm, ⟨7, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]
-- ==== GradXRefIdeal.lean ====
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 84
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S1x1024, .f32⟩
  | .hbm, ⟨37, _⟩ => ⟨S1x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S16384x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S_, .f32⟩
  | .hbm, ⟨54, _⟩ => ⟨S16384, .f32⟩
  | .hbm, ⟨55, _⟩ => ⟨S16384x1, .f32⟩
  | .hbm, ⟨56, _⟩ => ⟨S16384x1024, .f32⟩
  | .hbm, ⟨57, _⟩ => ⟨S16384x1024, .f32⟩
  | .hbm, ⟨58, _⟩ => ⟨S16384x1, .f32⟩
  | .hbm, ⟨59, _⟩ => ⟨S16384x1024, .f32⟩
  | .hbm, ⟨60, _⟩ => ⟨S_, .f32⟩
  | .hbm, ⟨61, _⟩ => ⟨S16384, .f32⟩
  | .hbm, ⟨62, _⟩ => ⟨S16384x1, .f32⟩
  | .hbm, ⟨63, _⟩ => ⟨S_, .f32⟩
  | .hbm, ⟨64, _⟩ => ⟨S16384x1, .f32⟩
  | .hbm, ⟨65, _⟩ => ⟨S16384x1, .f32⟩
  | .hbm, ⟨66, _⟩ => ⟨S_, .f32⟩
  | .hbm, ⟨67, _⟩ => ⟨S16384, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S_, .f32⟩
  | .hbm, ⟨72, _⟩ => ⟨S16384, .f32⟩
  | .hbm, ⟨73, _⟩ => ⟨S16384x1, .f32⟩
  | .hbm, ⟨74, _⟩ => ⟨S16384x1024, .f32⟩
  | .hbm, ⟨75, _⟩ => ⟨S16384x1, .f32⟩
  | .hbm, ⟨76, _⟩ => ⟨S_, .f32⟩
  | .hbm, ⟨77, _⟩ => ⟨S16384x1, .f32⟩
  | .hbm, ⟨78, _⟩ => ⟨S16384x1, .f32⟩
  | .hbm, ⟨79, _⟩ => ⟨S_, .f32⟩
  | .hbm, ⟨80, _⟩ => ⟨S16384, .f32⟩
  | .hbm, ⟨81, _⟩ => ⟨S16384x1024, .f32⟩
  | .hbm, ⟨82, _⟩ => ⟨S16384x1024, .f32⟩
  | .hbm, ⟨83, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_9 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_cst_11 : Ref sig .tc := ⟨.hbm, 63, rfl⟩
abbrev main_v46 : Ref sig .tc := ⟨.hbm, 64, rfl⟩
abbrev main_v47 : Ref sig .tc := ⟨.hbm, 65, rfl⟩
abbrev main_cst_12 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_13 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_14 : Ref sig .tc := ⟨.hbm, 76, rfl⟩
abbrev main_v56 : Ref sig .tc := ⟨.hbm, 77, rfl⟩
abbrev main_v57 : Ref sig .tc := ⟨.hbm, 78, rfl⟩
abbrev main_cst_15 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩

abbrev nD : Nat := 1
abbrev τ : Topo := Topo.v7x

variable {F : FTy → Type} [FloatOps F]
-- ==== AdaFwd.lean ====
abbrev S8x1024 : Shape := ⟨2, ![8, 1024]⟩
abbrev S1024x1536 : Shape := ⟨2, ![1024, 1536]⟩
abbrev S1x1536 : Shape := ⟨2, ![1, 1536]⟩
abbrev S8x1536 : Shape := ⟨2, ![8, 1536]⟩

abbrev nBuf : Space → Nat
  | .hbm => 4
  | .vmem => 4
  | .smem => 0
  | _ => 0

abbrev bufTy : (tb : Table) → Fin (tcTables nBuf tb) → BufTy
  | .hbm, ⟨0, _⟩ => ⟨S8x1024, .f32⟩
  | .hbm, ⟨1, _⟩ => ⟨S1024x1536, .f32⟩
  | .hbm, ⟨2, _⟩ => ⟨S1x1536, .f32⟩
  | .hbm, ⟨3, _⟩ => ⟨S8x1536, .f32⟩
  | .local _ .vmem, ⟨0, _⟩ => ⟨S8x1024, .f32⟩
  | .local _ .vmem, ⟨1, _⟩ => ⟨S1024x1536, .f32⟩
  | .local _ .vmem, ⟨2, _⟩ => ⟨S1x1536, .f32⟩
  | .local _ .vmem, ⟨3, _⟩ => ⟨S8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== AdaFwdRefIdeal.lean ====
abbrev S8x1024 : Shape := ⟨2, ![8, 1024]⟩
abbrev S1024x1536 : Shape := ⟨2, ![1024, 1536]⟩
abbrev S1x1536 : Shape := ⟨2, ![1, 1536]⟩
abbrev S_ : Shape := ⟨0, ![]⟩
abbrev S8x1536 : Shape := ⟨2, ![8, 1536]⟩

abbrev nBuf : Space → Nat
  | .hbm => 15
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x1536, .f32⟩
  | .hbm, ⟨2, _⟩ => ⟨S1x1536, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x1536, .f32⟩
  | .hbm, ⟨13, _⟩ => ⟨S8x1536, .f32⟩
  | .hbm, ⟨14, _⟩ => ⟨S8x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== PairSum.lean ====
abbrev S11392x1024 : Shape := ⟨2, ![11392, 1024]⟩
abbrev S128x1024 : Shape := ⟨2, ![128, 1024]⟩

abbrev nBuf : Space → Nat
  | .hbm => 3
  | .vmem => 6
  | .smem => 0
  | _ => 0

abbrev bufTy : (tb : Table) → Fin (tcTables nBuf tb) → BufTy
  | .hbm, ⟨0, _⟩ => ⟨S11392x1024, .f32⟩
  | .hbm, ⟨1, _⟩ => ⟨S11392x1024, .f32⟩
  | .hbm, ⟨2, _⟩ => ⟨S11392x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | _, _ => ⟨S11392x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![1, 89], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairSumRefIdeal.lean ====
abbrev S11392x1024 : Shape := ⟨2, ![11392, 1024]⟩

abbrev nBuf : Space → Nat
  | .hbm => 3
  | .vmem => 0
  | .smem => 0
  | _ => 0

abbrev bufTy : (tb : Table) → Fin (tcTables nBuf tb) → BufTy
  | .hbm, ⟨0, _⟩ => ⟨S11392x1024, .f32⟩
  | .hbm, ⟨1, _⟩ => ⟨S11392x1024, .f32⟩
  | .hbm, ⟨2, _⟩ => ⟨S11392x1024, .f32⟩
  | _, _ => ⟨S11392x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== ChipSum.lean ====
abbrev S4x2848x1024 : Shape := ⟨3, ![4, 2848, 1024]⟩
abbrev S1x2848x1024 : Shape := ⟨3, ![1, 2848, 1024]⟩
abbrev S2848x1024 : Shape := ⟨2, ![2848, 1024]⟩
abbrev S32x1024 : Shape := ⟨2, ![32, 1024]⟩

abbrev nBuf : Space → Nat
  | .hbm => 10
  | .vmem => 10
  | .smem => 0
  | _ => 0

abbrev bufTy : (tb : Table) → Fin (tcTables nBuf tb) → BufTy
  | .hbm, ⟨0, _⟩ => ⟨S4x2848x1024, .f32⟩
  | .hbm, ⟨1, _⟩ => ⟨S1x2848x1024, .f32⟩
  | .hbm, ⟨2, _⟩ => ⟨S2848x1024, .f32⟩
  | .hbm, ⟨3, _⟩ => ⟨S1x2848x1024, .f32⟩
  | .hbm, ⟨4, _⟩ => ⟨S2848x1024, .f32⟩
  | .hbm, ⟨5, _⟩ => ⟨S1x2848x1024, .f32⟩
  | .hbm, ⟨6, _⟩ => ⟨S2848x1024, .f32⟩
  | .hbm, ⟨7, _⟩ => ⟨S1x2848x1024, .f32⟩
  | .hbm, ⟨8, _⟩ => ⟨S2848x1024, .f32⟩
  | .hbm, ⟨9, _⟩ => ⟨S2848x1024, .f32⟩
  | .local _ .vmem, ⟨0, _⟩ => ⟨S32x1024, .f32⟩
  | .local _ .vmem, ⟨1, _⟩ => ⟨S32x1024, .f32⟩
  | .local _ .vmem, ⟨2, _⟩ => ⟨S32x1024, .f32⟩
  | .local _ .vmem, ⟨3, _⟩ => ⟨S32x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | _, _ => ⟨S4x2848x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![1, 89], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ChipSumRefIdeal.lean ====
abbrev S4x2848x1024 : Shape := ⟨3, ![4, 2848, 1024]⟩
abbrev S_ : Shape := ⟨0, ![]⟩
abbrev S2848x1024 : Shape := ⟨2, ![2848, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4x2848x1024, .f32⟩
  | .hbm, ⟨1, _⟩ => ⟨S_, .f32⟩
  | .hbm, ⟨2, _⟩ => ⟨S2848x1024, .f32⟩
  | _, _ => ⟨S4x2848x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== LnMod.lean ====
abbrev S16384x1024 : Shape := ⟨2, ![16384, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S16384x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S256x1024, .bf16⟩
  | .local _ .vmem, ⟨5, _⟩ => ⟨S256x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== LnModRefIdeal.lean ====
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 34
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== ConvNorm.lean ====
abbrev S16384x1024 : Shape := ⟨2, ![16384, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S16384x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S256x1024, .bf16⟩
  | .local _ .vmem, ⟨5, _⟩ => ⟨S256x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ConvNormRefIdeal.lean ====
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 40
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]
-- ==== RetNorm.lean ====
abbrev S16384x2048 : Shape := ⟨2, ![16384, 2048]⟩
abbrev S16384x10240 : Shape := ⟨2, ![16384, 10240]⟩
abbrev S1x2048 : Shape := ⟨2, ![1, 2048]⟩
abbrev S256x256 : Shape := ⟨2, ![256, 256]⟩
abbrev S1x256 : Shape := ⟨2, ![1, 256]⟩
abbrev S256 : Shape := ⟨1, ![256]⟩
abbrev S256x1 : Shape := ⟨2, ![256, 1]⟩

abbrev nBuf : Space → Nat
  | .hbm => 5
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S16384x10240, .f32⟩
  | .hbm, ⟨2, _⟩ => ⟨S1x2048, .f32⟩
  | .hbm, ⟨3, _⟩ => ⟨S1x2048, .f32⟩
  | .hbm, ⟨4, _⟩ => ⟨S16384x2048, .bf16⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S256x256, .bf16⟩
  | .local _ .vmem, ⟨9, _⟩ => ⟨S256x256, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RetNormRefIdeal.lean ====
abbrev S16384x2048 : Shape := ⟨2, ![16384, 2048]⟩
abbrev S16384x10240 : Shape := ⟨2, ![16384, 10240]⟩
abbrev S1x2048 : Shape := ⟨2, ![1, 2048]⟩
abbrev S16384x8x256 : Shape := ⟨3, ![16384, 8, 256]⟩
abbrev S_ : Shape := ⟨0, ![]⟩
abbrev S16384x8 : Shape := ⟨2, ![16384, 8]⟩
abbrev S16384x8x1 : Shape := ⟨3, ![16384, 8, 1]⟩

abbrev nBuf : Space → Nat
  | .hbm => 45
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x10240, .f32⟩
  | .hbm, ⟨2, _⟩ => ⟨S1x2048, .f32⟩
  | .hbm, ⟨3, _⟩ => ⟨S1x2048, .f32⟩
  | .hbm, ⟨4, _⟩ => ⟨S16384x2048, .f32⟩
  | .hbm, ⟨5, _⟩ => ⟨S16384x8x256, .f32⟩
  | .hbm, ⟨6, _⟩ => ⟨S_, .f32⟩
  | .hbm, ⟨7, _⟩ => ⟨S16384x8, .f32⟩
  | .hbm, ⟨8, _⟩ => ⟨S16384x8x1, .f32⟩
  | .hbm, ⟨9, _⟩ => ⟨S_, .f32⟩
  | .hbm, ⟨10, _⟩ => ⟨S16384x8x1, .f32⟩
  | .hbm, ⟨11, _⟩ => ⟨S16384x8x1, .f32⟩
  | .hbm, ⟨12, _⟩ => ⟨S16384x8x256, .f32⟩
  | .hbm, ⟨13, _⟩ => ⟨S16384x8x256, .f32⟩
  | .hbm, ⟨14, _⟩ => ⟨S16384x8x256, .f32⟩
  | .hbm, ⟨15, _⟩ => ⟨S_, .f32⟩
  | .hbm, ⟨16, _⟩ => ⟨S16384x8, .f32⟩
  | .hbm, ⟨17, _⟩ => ⟨S16384x8x1, .f32⟩
  | .hbm, ⟨18, _⟩ => ⟨S_, .f32⟩
  | .hbm, ⟨19, _⟩ => ⟨S16384x8x1, .f32⟩
  | .hbm, ⟨20, _⟩ => ⟨S16384x8x1, .f32⟩
  | .hbm, ⟨21, _⟩ => ⟨S16384x8x256, .f32⟩
  | .hbm, ⟨22, _⟩ => ⟨S16384x8x256, .f32⟩
  | .hbm, ⟨23, _⟩ => ⟨S_, .f32⟩
  | .hbm, ⟨24, _⟩ => ⟨S16384x8x1, .f32⟩
  | .hbm, ⟨25, _⟩ => ⟨S16384x8x1, .f32⟩
  | .hbm, ⟨26, _⟩ => ⟨S16384x8x1, .f32⟩
  | .hbm, ⟨27, _⟩ => ⟨S16384x8x256, .f32⟩
  | .hbm, ⟨28, _⟩ => ⟨S16384x8x256, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S16384x2048, .f32⟩
  | .hbm, ⟨33, _⟩ => ⟨S16384x2048, .f32⟩
  | .hbm, ⟨34, _⟩ => ⟨S16384x2048, .f32⟩
  | .hbm, ⟨35, _⟩ => ⟨S16384x2048, .f32⟩
  | .hbm, ⟨36, _⟩ => ⟨S_, .f32⟩
  | .hbm, ⟨37, _⟩ => ⟨S16384x2048, .f32⟩
  | .hbm, ⟨38, _⟩ => ⟨S16384x2048, .f32⟩
  | .hbm, ⟨39, _⟩ => ⟨S_, .f32⟩
  | .hbm, ⟨40, _⟩ => ⟨S16384x2048, .f32⟩
  | .hbm, ⟨41, _⟩ => ⟨S16384x2048, .f32⟩
  | .hbm, ⟨42, _⟩ => ⟨S16384x2048, .f32⟩
  | .hbm, ⟨43, _⟩ => ⟨S16384x2048, .f32⟩
  | .hbm, ⟨44, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩

abbrev nD : Nat := 1
abbrev τ : Topo := Topo.v7x

variable {F : FTy → Type} [FloatOps F]
-- ==== Merge.lean ====
abbrev S16384x10240 : Shape := ⟨2, ![16384, 10240]⟩
abbrev S16384x1024 : Shape := ⟨2, ![16384, 1024]⟩
abbrev S256x1024 : Shape := ⟨2, ![256, 1024]⟩

abbrev nBuf : Space → Nat
  | .hbm => 4
  | .vmem => 10
  | .smem => 0
  | _ => 0

abbrev bufTy : (tb : Table) → Fin (tcTables nBuf tb) → BufTy
  | .hbm, ⟨0, _⟩ => ⟨S16384x10240, .f32⟩
  | .hbm, ⟨1, _⟩ => ⟨S16384x1024, .f32⟩
  | .hbm, ⟨2, _⟩ => ⟨S16384x1024, .f32⟩
  | .hbm, ⟨3, _⟩ => ⟨S16384x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | _, _ => ⟨S16384x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MergeRefIdeal.lean ====
abbrev S16384x10240 : Shape := ⟨2, ![16384, 10240]⟩
abbrev S16384x1024 : Shape := ⟨2, ![16384, 1024]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S16384x10240, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .bf16⟩
  | _, _ => ⟨S16384x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Post.lean ====
abbrev S16384x1024 : Shape := ⟨2, ![16384, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 9
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S16384x1024, .f32⟩
  | .hbm, ⟨8, _⟩ => ⟨S16384x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== PostRefIdeal.lean ====
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 71
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x1, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S16384, .f32⟩
  | .hbm, ⟨51, _⟩ => ⟨S16384x1, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S16384x1024, .f32⟩
  | .hbm, ⟨56, _⟩ => ⟨S16384x1024, .f32⟩
  | .hbm, ⟨57, _⟩ => ⟨S_, .f32⟩
  | .hbm, ⟨58, _⟩ => ⟨S16384x1, .f32⟩
  | .hbm, ⟨59, _⟩ => ⟨S16384x1, .f32⟩
  | .hbm, ⟨60, _⟩ => ⟨S16384x1, .f32⟩
  | .hbm, ⟨61, _⟩ => ⟨S16384x1024, .f32⟩
  | .hbm, ⟨62, _⟩ => ⟨S16384x1024, .f32⟩
  | .hbm, ⟨63, _⟩ => ⟨S_, .f32⟩
  | .hbm, ⟨64, _⟩ => ⟨S1x1024, .f32⟩
  | .hbm, ⟨65, _⟩ => ⟨S1x1024, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩

abbrev nD : Nat := 1
abbrev τ : Topo := Topo.v7x

variable {F : FTy → Type} [FloatOps F]
-- ==== FfnGate.lean ====
abbrev S16384x5632 : Shape := ⟨2, ![16384, 5632]⟩
abbrev S16384x2816 : Shape := ⟨2, ![16384, 2816]⟩
abbrev S256x1408 : Shape := ⟨2, ![256, 1408]⟩

abbrev nBuf : Space → Nat
  | .hbm => 2
  | .vmem => 6
  | .smem => 0
  | _ => 0

abbrev bufTy : (tb : Table) → Fin (tcTables nBuf tb) → BufTy
  | .hbm, ⟨0, _⟩ => ⟨S16384x5632, .f32⟩
  | .hbm, ⟨1, _⟩ => ⟨S16384x2816, .bf16⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .bf16⟩
  | .local _ .vmem, ⟨5, _⟩ => ⟨S256x1408, .bf16⟩
  | _, _ => ⟨S16384x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnGateRefIdeal.lean ====
abbrev S16384x5632 : Shape := ⟨2, ![16384, 5632]⟩
abbrev S16384x2816 : Shape := ⟨2, ![16384, 2816]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S16384x5632, .f32⟩
  | .hbm, ⟨1, _⟩ => ⟨S16384x2816, .f32⟩
  | .hbm, ⟨2, _⟩ => ⟨S16384x2816, .f32⟩
  | .hbm, ⟨3, _⟩ => ⟨S16384x2816, .f32⟩
  | .hbm, ⟨4, _⟩ => ⟨S16384x2816, .f32⟩
  | .hbm, ⟨5, _⟩ => ⟨S_, .f32⟩
  | .hbm, ⟨6, _⟩ => ⟨S16384x2816, .f32⟩
  | .hbm, ⟨7, _⟩ => ⟨S16384x2816, .f32⟩
  | .hbm, ⟨8, _⟩ => ⟨S_, .f32⟩
  | .hbm, ⟨9, _⟩ => ⟨S16384x2816, .f32⟩
  | .hbm, ⟨10, _⟩ => ⟨S16384x2816, .f32⟩
  | .hbm, ⟨11, _⟩ => ⟨S16384x2816, .f32⟩
  | .hbm, ⟨12, _⟩ => ⟨S16384x2816, .f32⟩
  | .hbm, ⟨13, _⟩ => ⟨S16384x2816, .bf16⟩
  | _, _ => ⟨S16384x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩

abbrev nD : Nat := 1
abbrev τ : Topo := Topo.v7x

variable {F : FTy → Type} [FloatOps F]
-- ==== CastWeights.lean ====
abbrev S5696x1024 : Shape := ⟨2, ![5696, 1024]⟩
abbrev S64x1024 : Shape := ⟨2, ![64, 1024]⟩

abbrev nBuf : Space → Nat
  | .hbm => 2
  | .vmem => 4
  | .smem => 0
  | _ => 0

abbrev bufTy : (tb : Table) → Fin (tcTables nBuf tb) → BufTy
  | .hbm, ⟨0, _⟩ => ⟨S5696x1024, .f32⟩
  | .hbm, ⟨1, _⟩ => ⟨S5696x1024, .bf16⟩
  | .local _ .vmem, ⟨0, _⟩ => ⟨S64x1024, .f32⟩
  | .local _ .vmem, ⟨1, _⟩ => ⟨S64x1024, .f32⟩
  | .local _ .vmem, ⟨2, _⟩ => ⟨S64x1024, .bf16⟩
  | .local _ .vmem, ⟨3, _⟩ => ⟨S64x1024, .bf16⟩
  | _, _ => ⟨S5696x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![1, 89], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== CastWeightsRefIdeal.lean ====
abbrev S5696x1024 : Shape := ⟨2, ![5696, 1024]⟩

abbrev nBuf : Space → Nat
  | .hbm => 2
  | .vmem => 0
  | .smem => 0
  | _ => 0

abbrev bufTy : (tb : Table) → Fin (tcTables nBuf tb) → BufTy
  | .hbm, ⟨0, _⟩ => ⟨S5696x1024, .f32⟩
  | .hbm, ⟨1, _⟩ => ⟨S5696x1024, .bf16⟩
  | _, _ => ⟨S5696x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== MmIn.lean ====
abbrev S16384x1024 : Shape := ⟨2, ![16384, 1024]⟩
abbrev S4x1024x2560 : Shape := ⟨3, ![4, 1024, 2560]⟩
abbrev S1x10240 : Shape := ⟨2, ![1, 10240]⟩
abbrev S16384x10240 : Shape := ⟨2, ![16384, 10240]⟩
abbrev S512x1024 : Shape := ⟨2, ![512, 1024]⟩
abbrev S1x1024x1280 : Shape := ⟨3, ![1, 1024, 1280]⟩
abbrev S1x1280 : Shape := ⟨2, ![1, 1280]⟩
abbrev S512x1280 : Shape := ⟨2, ![512, 1280]⟩
abbrev S1024x1280 : Shape := ⟨2, ![1024, 1280]⟩

abbrev nBuf : Space → Nat
  | .hbm => 4
  | .vmem => 8
  | .smem => 0
  | _ => 0

abbrev bufTy : (tb : Table) → Fin (tcTables nBuf tb) → BufTy
  | .hbm, ⟨0, _⟩ => ⟨S16384x1024, .bf16⟩
  | .hbm, ⟨1, _⟩ => ⟨S4x1024x2560, .bf16⟩
  | .hbm, ⟨2, _⟩ => ⟨S1x10240, .f32⟩
  | .hbm, ⟨3, _⟩ => ⟨S16384x10240, .f32⟩
  | .local _ .vmem, ⟨0, _⟩ => ⟨S512x1024, .bf16⟩
  | .local _ .vmem, ⟨1, _⟩ => ⟨S512x1024, .bf16⟩
  | .local _ .vmem, ⟨2, _⟩ => ⟨S1x1024x1280, .bf16⟩
  | .local _ .vmem, ⟨3, _⟩ => ⟨S1x1024x1280, .bf16⟩
  | .local _ .vmem, ⟨4, _⟩ => ⟨S1x1280, .f32⟩
  | .local _ .vmem, ⟨5, _⟩ => ⟨S1x1280, .f32⟩
  | .local _ .vmem, ⟨6, _⟩ => ⟨S512x1280, .f32⟩
  | .local _ .vmem, ⟨7, _⟩ => ⟨S512x1280, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MmInRefIdeal.lean ====
abbrev S16384x1024 : Shape := ⟨2, ![16384, 1024]⟩
abbrev S4x1024x2560 : Shape := ⟨3, ![4, 1024, 2560]⟩
abbrev S1x10240 : Shape := ⟨2, ![1, 10240]⟩
abbrev S1024x4x2560 : Shape := ⟨3, ![1024, 4, 2560]⟩
abbrev S1024x10240 : Shape := ⟨2, ![1024, 10240]⟩
abbrev S16384x10240 : Shape := ⟨2, ![16384, 10240]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S4x1024x2560, .bf16⟩
  | .hbm, ⟨2, _⟩ => ⟨S1x10240, .f32⟩
  | .hbm, ⟨3, _⟩ => ⟨S1024x4x2560, .bf16⟩
  | .hbm, ⟨4, _⟩ => ⟨S1024x10240, .bf16⟩
  | .hbm, ⟨5, _⟩ => ⟨S16384x10240, .f32⟩
  | .hbm, ⟨6, _⟩ => ⟨S16384x10240, .f32⟩
  | .hbm, ⟨7, _⟩ => ⟨S16384x10240, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MmUp.lean ====
abbrev S16384x1024 : Shape := ⟨2, ![16384, 1024]⟩
abbrev S4x1024x1408 : Shape := ⟨3, ![4, 1024, 1408]⟩
abbrev S16384x5632 : Shape := ⟨2, ![16384, 5632]⟩
abbrev S512x1024 : Shape := ⟨2, ![512, 1024]⟩
abbrev S1x1024x1408 : Shape := ⟨3, ![1, 1024, 1408]⟩
abbrev S512x1408 : Shape := ⟨2, ![512, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S4x1024x1408, .bf16⟩
  | .hbm, ⟨2, _⟩ => ⟨S16384x5632, .f32⟩
  | .local _ .vmem, ⟨0, _⟩ => ⟨S512x1024, .bf16⟩
  | .local _ .vmem, ⟨1, _⟩ => ⟨S512x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S512x1408, .f32⟩
  | .local _ .vmem, ⟨5, _⟩ => ⟨S512x1408, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmUpRefIdeal.lean ====
abbrev S16384x1024 : Shape := ⟨2, ![16384, 1024]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S16384x5632 : Shape := ⟨2, ![16384, 5632]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S4x1024x1408, .bf16⟩
  | .hbm, ⟨2, _⟩ => ⟨S1024x4x1408, .bf16⟩
  | .hbm, ⟨3, _⟩ => ⟨S1024x5632, .bf16⟩
  | .hbm, ⟨4, _⟩ => ⟨S16384x5632, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MmConvOut.lean ====
abbrev S16384x1024 : Shape := ⟨2, ![16384, 1024]⟩
abbrev S1x1024x1024 : Shape := ⟨3, ![1, 1024, 1024]⟩
abbrev S512x1024 : Shape := ⟨2, ![512, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1x1024x1024, .bf16⟩
  | .hbm, ⟨2, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmConvOutRefIdeal.lean ====
abbrev S16384x1024 : Shape := ⟨2, ![16384, 1024]⟩
abbrev S1x1024x1024 : Shape := ⟨3, ![1, 1024, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1x1024x1024, .bf16⟩
  | .hbm, ⟨2, _⟩ => ⟨S1024x1024, .bf16⟩
  | .hbm, ⟨3, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MmRetOut.lean ====
abbrev S16384x2048 : Shape := ⟨2, ![16384, 2048]⟩
abbrev S1x2048x1024 : Shape := ⟨3, ![1, 2048, 1024]⟩
abbrev S16384x1024 : Shape := ⟨2, ![16384, 1024]⟩
abbrev S512x2048 : Shape := ⟨2, ![512, 2048]⟩
abbrev S512x1024 : Shape := ⟨2, ![512, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x2048, .bf16⟩
  | .hbm, ⟨1, _⟩ => ⟨S1x2048x1024, .bf16⟩
  | .hbm, ⟨2, _⟩ => ⟨S16384x1024, .f32⟩
  | .local _ .vmem, ⟨0, _⟩ => ⟨S512x2048, .bf16⟩
  | .local _ .vmem, ⟨1, _⟩ => ⟨S512x2048, .bf16⟩
  | .local _ .vmem, ⟨2, _⟩ => ⟨S1x2048x1024, .bf16⟩
  | .local _ .vmem, ⟨3, _⟩ => ⟨S512x1024, .f32⟩
  | .local _ .vmem, ⟨4, _⟩ => ⟨S512x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmRetOutRefIdeal.lean ====
abbrev S16384x2048 : Shape := ⟨2, ![16384, 2048]⟩
abbrev S1x2048x1024 : Shape := ⟨3, ![1, 2048, 1024]⟩
abbrev S2048x1024 : Shape := ⟨2, ![2048, 1024]⟩
abbrev S16384x1024 : Shape := ⟨2, ![16384, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x1024, .bf16⟩
  | .hbm, ⟨2, _⟩ => ⟨S2048x1024, .bf16⟩
  | .hbm, ⟨3, _⟩ => ⟨S16384x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MmOut.lean ====
abbrev S16384x1024 : Shape := ⟨2, ![16384, 1024]⟩
abbrev S1x1024x1024 : Shape := ⟨3, ![1, 1024, 1024]⟩
abbrev S512x1024 : Shape := ⟨2, ![512, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1x1024x1024, .bf16⟩
  | .hbm, ⟨2, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmOutRefIdeal.lean ====
abbrev S16384x1024 : Shape := ⟨2, ![16384, 1024]⟩
abbrev S1x1024x1024 : Shape := ⟨3, ![1, 1024, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1x1024x1024, .bf16⟩
  | .hbm, ⟨2, _⟩ => ⟨S1024x1024, .bf16⟩
  | .hbm, ⟨3, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MmDown.lean ====
abbrev S16384x2816 : Shape := ⟨2, ![16384, 2816]⟩
abbrev S1x2816x1024 : Shape := ⟨3, ![1, 2816, 1024]⟩
abbrev S16384x1024 : Shape := ⟨2, ![16384, 1024]⟩
abbrev S512x2816 : Shape := ⟨2, ![512, 2816]⟩
abbrev S512x1024 : Shape := ⟨2, ![512, 1024]⟩
abbrev S2816x1024 : Shape := ⟨2, ![2816, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x2816, .bf16⟩
  | .hbm, ⟨1, _⟩ => ⟨S1x2816x1024, .bf16⟩
  | .hbm, ⟨2, _⟩ => ⟨S16384x1024, .f32⟩
  | .local _ .vmem, ⟨0, _⟩ => ⟨S512x2816, .bf16⟩
  | .local _ .vmem, ⟨1, _⟩ => ⟨S512x2816, .bf16⟩
  | .local _ .vmem, ⟨2, _⟩ => ⟨S1x2816x1024, .bf16⟩
  | .local _ .vmem, ⟨3, _⟩ => ⟨S512x1024, .f32⟩
  | .local _ .vmem, ⟨4, _⟩ => ⟨S512x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmDownRefIdeal.lean ====
abbrev S16384x2816 : Shape := ⟨2, ![16384, 2816]⟩
abbrev S1x2816x1024 : Shape := ⟨3, ![1, 2816, 1024]⟩
abbrev S2816x1024 : Shape := ⟨2, ![2816, 1024]⟩
abbrev S16384x1024 : Shape := ⟨2, ![16384, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S1x2816x1024, .bf16⟩
  | .hbm, ⟨2, _⟩ => ⟨S2816x1024, .bf16⟩
  | .hbm, ⟨3, _⟩ => ⟨S16384x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MmDownDx.lean ====
abbrev S16384x1024 : Shape := ⟨2, ![16384, 1024]⟩
abbrev S1x2816x1024 : Shape := ⟨3, ![1, 2816, 1024]⟩
abbrev S16384x2816 : Shape := ⟨2, ![16384, 2816]⟩
abbrev S512x1024 : Shape := ⟨2, ![512, 1024]⟩
abbrev S512x2816 : Shape := ⟨2, ![512, 2816]⟩
abbrev S2816x1024 : Shape := ⟨2, ![2816, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1x2816x1024, .bf16⟩
  | .hbm, ⟨2, _⟩ => ⟨S16384x2816, .f32⟩
  | .local _ .vmem, ⟨0, _⟩ => ⟨S512x1024, .bf16⟩
  | .local _ .vmem, ⟨1, _⟩ => ⟨S512x1024, .bf16⟩
  | .local _ .vmem, ⟨2, _⟩ => ⟨S1x2816x1024, .bf16⟩
  | .local _ .vmem, ⟨3, _⟩ => ⟨S512x2816, .f32⟩
  | .local _ .vmem, ⟨4, _⟩ => ⟨S512x2816, .f32⟩
  | .local _ .vmem, ⟨5, _⟩ => ⟨S512x2816, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def k0_cond3 (i : grid0.Coords) : BitVec 1 :=
  let arg1 : BitVec 32 := BitVec.ofNat 32 (i 1).val
  let c0_i32_7 : BitVec 32 := 0#32
  let v10 : BitVec 1 := Scalar.cmpi .eq arg1 c0_i32_7
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== MmDownDxRefIdeal.lean ====
abbrev S16384x1024 : Shape := ⟨2, ![16384, 1024]⟩
abbrev S1x2816x1024 : Shape := ⟨3, ![1, 2816, 1024]⟩
abbrev S2816x1024 : Shape := ⟨2, ![2816, 1024]⟩
abbrev S16384x2816 : Shape := ⟨2, ![16384, 2816]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1x2816x1024, .bf16⟩
  | .hbm, ⟨2, _⟩ => ⟨S2816x1024, .bf16⟩
  | .hbm, ⟨3, _⟩ => ⟨S16384x2816, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MmOutDx.lean ====
abbrev S16384x1024 : Shape := ⟨2, ![16384, 1024]⟩
abbrev S1x1024x1024 : Shape := ⟨3, ![1, 1024, 1024]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1x1024x1024, .bf16⟩
  | .hbm, ⟨2, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def k0_cond3 (i : grid0.Coords) : BitVec 1 :=
  let arg1 : BitVec 32 := BitVec.ofNat 32 (i 1).val
  let c0_i32_7 : BitVec 32 := 0#32
  let v10 : BitVec 1 := Scalar.cmpi .eq arg1 c0_i32_7
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== MmOutDxRefIdeal.lean ====
abbrev S16384x1024 : Shape := ⟨2, ![16384, 1024]⟩
abbrev S1x1024x1024 : Shape := ⟨3, ![1, 1024, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1x1024x1024, .bf16⟩
  | .hbm, ⟨2, _⟩ => ⟨S1024x1024, .bf16⟩
  | .hbm, ⟨3, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MmConvOutDx.lean ====
abbrev S16384x1024 : Shape := ⟨2, ![16384, 1024]⟩
abbrev S1x1024x1024 : Shape := ⟨3, ![1, 1024, 1024]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1x1024x1024, .bf16⟩
  | .hbm, ⟨2, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def k0_cond3 (i : grid0.Coords) : BitVec 1 :=
  let arg1 : BitVec 32 := BitVec.ofNat 32 (i 1).val
  let c0_i32_7 : BitVec 32 := 0#32
  let v10 : BitVec 1 := Scalar.cmpi .eq arg1 c0_i32_7
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== MmConvOutDxRefIdeal.lean ====
abbrev S16384x1024 : Shape := ⟨2, ![16384, 1024]⟩
abbrev S1x1024x1024 : Shape := ⟨3, ![1, 1024, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1x1024x1024, .bf16⟩
  | .hbm, ⟨2, _⟩ => ⟨S1024x1024, .bf16⟩
  | .hbm, ⟨3, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MmRetOutDx.lean ====
abbrev S16384x1024 : Shape := ⟨2, ![16384, 1024]⟩
abbrev S1x2048x1024 : Shape := ⟨3, ![1, 2048, 1024]⟩
abbrev S16384x2048 : Shape := ⟨2, ![16384, 2048]⟩
abbrev S512x1024 : Shape := ⟨2, ![512, 1024]⟩
abbrev S512x2048 : Shape := ⟨2, ![512, 2048]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1x2048x1024, .bf16⟩
  | .hbm, ⟨2, _⟩ => ⟨S16384x2048, .f32⟩
  | .local _ .vmem, ⟨0, _⟩ => ⟨S512x1024, .bf16⟩
  | .local _ .vmem, ⟨1, _⟩ => ⟨S512x1024, .bf16⟩
  | .local _ .vmem, ⟨2, _⟩ => ⟨S1x2048x1024, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def k0_cond3 (i : grid0.Coords) : BitVec 1 :=
  let arg1 : BitVec 32 := BitVec.ofNat 32 (i 1).val
  let c0_i32_7 : BitVec 32 := 0#32
  let v10 : BitVec 1 := Scalar.cmpi .eq arg1 c0_i32_7
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== MmRetOutDxRefIdeal.lean ====
abbrev S16384x1024 : Shape := ⟨2, ![16384, 1024]⟩
abbrev S1x2048x1024 : Shape := ⟨3, ![1, 2048, 1024]⟩
abbrev S2048x1024 : Shape := ⟨2, ![2048, 1024]⟩
abbrev S16384x2048 : Shape := ⟨2, ![16384, 2048]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1x2048x1024, .bf16⟩
  | .hbm, ⟨2, _⟩ => ⟨S2048x1024, .bf16⟩
  | .hbm, ⟨3, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MmUpDx.lean ====
abbrev S16384x5632 : Shape := ⟨2, ![16384, 5632]⟩
abbrev S4x1024x1408 : Shape := ⟨3, ![4, 1024, 1408]⟩
abbrev S16384x1024 : Shape := ⟨2, ![16384, 1024]⟩
abbrev S512x1408 : Shape := ⟨2, ![512, 1408]⟩
abbrev S1x1024x1408 : Shape := ⟨3, ![1, 1024, 1408]⟩
abbrev S512x1024 : Shape := ⟨2, ![512, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S16384x5632, .bf16⟩
  | .hbm, ⟨1, _⟩ => ⟨S4x1024x1408, .bf16⟩
  | .hbm, ⟨2, _⟩ => ⟨S16384x1024, .f32⟩
  | .local _ .vmem, ⟨0, _⟩ => ⟨S512x1408, .bf16⟩
  | .local _ .vmem, ⟨1, _⟩ => ⟨S512x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 4], ![false, false]⟩

def k0_cond3 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== MmUpDxRefIdeal.lean ====
abbrev S16384x5632 : Shape := ⟨2, ![16384, 5632]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S16384x1024 : Shape := ⟨2, ![16384, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S4x1024x1408, .bf16⟩
  | .hbm, ⟨2, _⟩ => ⟨S1024x4x1408, .bf16⟩
  | .hbm, ⟨3, _⟩ => ⟨S1024x5632, .bf16⟩
  | .hbm, ⟨4, _⟩ => ⟨S16384x1024, .f32⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MmInDx.lean ====
abbrev S16384x10240 : Shape := ⟨2, ![16384, 10240]⟩
abbrev S4x1024x2560 : Shape := ⟨3, ![4, 1024, 2560]⟩
abbrev S16384x1024 : Shape := ⟨2, ![16384, 1024]⟩
abbrev S512x1280 : Shape := ⟨2, ![512, 1280]⟩
abbrev S1x1024x1280 : Shape := ⟨3, ![1, 1024, 1280]⟩
abbrev S512x1024 : Shape := ⟨2, ![512, 1024]⟩
abbrev S1024x1280 : Shape := ⟨2, ![1024, 1280]⟩

abbrev nBuf : Space → Nat
  | .hbm => 3
  | .vmem => 7
  | .smem => 0
  | _ => 0

abbrev bufTy : (tb : Table) → Fin (tcTables nBuf tb) → BufTy
  | .hbm, ⟨0, _⟩ => ⟨S16384x10240, .bf16⟩
  | .hbm, ⟨1, _⟩ => ⟨S4x1024x2560, .bf16⟩
  | .hbm, ⟨2, _⟩ => ⟨S16384x1024, .f32⟩
  | .local _ .vmem, ⟨0, _⟩ => ⟨S512x1280, .bf16⟩
  | .local _ .vmem, ⟨1, _⟩ => ⟨S512x1280, .bf16⟩
  | .local _ .vmem, ⟨2, _⟩ => ⟨S1x1024x1280, .bf16⟩
  | .local _ .vmem, ⟨3, _⟩ => ⟨S1x1024x1280, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S16384x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 8], ![false, false]⟩

def k0_cond3 (i : grid0.Coords) : BitVec 1 :=
  let arg1 : BitVec 32 := BitVec.ofNat 32 (i 1).val
  let c7_i32 : BitVec 32 := 7#32
  let v10 : BitVec 1 := Scalar.cmpi .eq arg1 c7_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== MmInDxRefIdeal.lean ====
abbrev S16384x10240 : Shape := ⟨2, ![16384, 10240]⟩
abbrev S4x1024x2560 : Shape := ⟨3, ![4, 1024, 2560]⟩
abbrev S1024x4x2560 : Shape := ⟨3, ![1024, 4, 2560]⟩
abbrev S1024x10240 : Shape := ⟨2, ![1024, 10240]⟩
abbrev S16384x1024 : Shape := ⟨2, ![16384, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x10240, .bf16⟩
  | .hbm, ⟨1, _⟩ => ⟨S4x1024x2560, .bf16⟩
  | .hbm, ⟨2, _⟩ => ⟨S1024x4x2560, .bf16⟩
  | .hbm, ⟨3, _⟩ => ⟨S1024x10240, .bf16⟩
  | .hbm, ⟨4, _⟩ => ⟨S16384x1024, .f32⟩
  | _, _ => ⟨S16384x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MmDownDw.lean ====
abbrev S16384x2816 : Shape := ⟨2, ![16384, 2816]⟩
abbrev S16384x1024 : Shape := ⟨2, ![16384, 1024]⟩
abbrev S1x2816x1024 : Shape := ⟨3, ![1, 2816, 1024]⟩
abbrev S512x2816 : Shape := ⟨2, ![512, 2816]⟩
abbrev S512x512 : Shape := ⟨2, ![512, 512]⟩
abbrev S1x2816x512 : Shape := ⟨3, ![1, 2816, 512]⟩
abbrev S2816x512 : Shape := ⟨2, ![2816, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S1x2816x1024, .f32⟩
  | .local _ .vmem, ⟨0, _⟩ => ⟨S512x2816, .bf16⟩
  | .local _ .vmem, ⟨1, _⟩ => ⟨S512x2816, .bf16⟩
  | .local _ .vmem, ⟨2, _⟩ => ⟨S512x512, .bf16⟩
  | .local _ .vmem, ⟨3, _⟩ => ⟨S512x512, .bf16⟩
  | .local _ .vmem, ⟨4, _⟩ => ⟨S1x2816x512, .f32⟩
  | .local _ .vmem, ⟨5, _⟩ => ⟨S1x2816x512, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .sgt arg1 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2816x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== MmDownDwRefIdeal.lean ====
abbrev S16384x2816 : Shape := ⟨2, ![16384, 2816]⟩
abbrev S16384x1024 : Shape := ⟨2, ![16384, 1024]⟩
abbrev S2816x1024 : Shape := ⟨2, ![2816, 1024]⟩
abbrev S1x2816x1024 : Shape := ⟨3, ![1, 2816, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S2816x1024, .f32⟩
  | .hbm, ⟨3, _⟩ => ⟨S1x2816x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MmOutDw.lean ====
abbrev S16384x1024 : Shape := ⟨2, ![16384, 1024]⟩
abbrev S1x1024x1024 : Shape := ⟨3, ![1, 1024, 1024]⟩
abbrev S512x1024 : Shape := ⟨2, ![512, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1x1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 32], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .sgt arg1 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== MmOutDwRefIdeal.lean ====
abbrev S16384x1024 : Shape := ⟨2, ![16384, 1024]⟩
abbrev S1024x1024 : Shape := ⟨2, ![1024, 1024]⟩
abbrev S1x1024x1024 : Shape := ⟨3, ![1, 1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x1024, .f32⟩
  | .hbm, ⟨3, _⟩ => ⟨S1x1024x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MmConvOutDw.lean ====
abbrev S16384x1024 : Shape := ⟨2, ![16384, 1024]⟩
abbrev S1x1024x1024 : Shape := ⟨3, ![1, 1024, 1024]⟩
abbrev S512x1024 : Shape := ⟨2, ![512, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1x1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 32], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .sgt arg1 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== MmConvOutDwRefIdeal.lean ====
abbrev S16384x1024 : Shape := ⟨2, ![16384, 1024]⟩
abbrev S1024x1024 : Shape := ⟨2, ![1024, 1024]⟩
abbrev S1x1024x1024 : Shape := ⟨3, ![1, 1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x1024, .f32⟩
  | .hbm, ⟨3, _⟩ => ⟨S1x1024x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MmRetOutDw.lean ====
abbrev S16384x2048 : Shape := ⟨2, ![16384, 2048]⟩
abbrev S16384x1024 : Shape := ⟨2, ![16384, 1024]⟩
abbrev S1x2048x1024 : Shape := ⟨3, ![1, 2048, 1024]⟩
abbrev S512x2048 : Shape := ⟨2, ![512, 2048]⟩
abbrev S512x512 : Shape := ⟨2, ![512, 512]⟩
abbrev S1x2048x512 : Shape := ⟨3, ![1, 2048, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S1x2048x1024, .f32⟩
  | .local _ .vmem, ⟨0, _⟩ => ⟨S512x2048, .bf16⟩
  | .local _ .vmem, ⟨1, _⟩ => ⟨S512x2048, .bf16⟩
  | .local _ .vmem, ⟨2, _⟩ => ⟨S512x512, .bf16⟩
  | .local _ .vmem, ⟨3, _⟩ => ⟨S512x512, .bf16⟩
  | .local _ .vmem, ⟨4, _⟩ => ⟨S1x2048x512, .f32⟩
  | .local _ .vmem, ⟨5, _⟩ => ⟨S1x2048x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .sgt arg1 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== MmRetOutDwRefIdeal.lean ====
abbrev S16384x2048 : Shape := ⟨2, ![16384, 2048]⟩
abbrev S16384x1024 : Shape := ⟨2, ![16384, 1024]⟩
abbrev S2048x1024 : Shape := ⟨2, ![2048, 1024]⟩
abbrev S1x2048x1024 : Shape := ⟨3, ![1, 2048, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S2048x1024, .f32⟩
  | .hbm, ⟨3, _⟩ => ⟨S1x2048x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MmUpDw.lean ====
abbrev S16384x1024 : Shape := ⟨2, ![16384, 1024]⟩
abbrev S16384x5632 : Shape := ⟨2, ![16384, 5632]⟩
abbrev S4x1024x1408 : Shape := ⟨3, ![4, 1024, 1408]⟩
abbrev S512x1024 : Shape := ⟨2, ![512, 1024]⟩
abbrev S512x1408 : Shape := ⟨2, ![512, 1408]⟩
abbrev S1x1024x1408 : Shape := ⟨3, ![1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x5632, .bf16⟩
  | .hbm, ⟨2, _⟩ => ⟨S4x1024x1408, .f32⟩
  | .local _ .vmem, ⟨0, _⟩ => ⟨S512x1024, .bf16⟩
  | .local _ .vmem, ⟨1, _⟩ => ⟨S512x1024, .bf16⟩
  | .local _ .vmem, ⟨2, _⟩ => ⟨S512x1408, .bf16⟩
  | .local _ .vmem, ⟨3, _⟩ => ⟨S512x1408, .bf16⟩
  | .local _ .vmem, ⟨4, _⟩ => ⟨S1x1024x1408, .f32⟩
  | .local _ .vmem, ⟨5, _⟩ => ⟨S1x1024x1408, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 32], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .sgt arg1 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== MmUpDwRefIdeal.lean ====
abbrev S16384x1024 : Shape := ⟨2, ![16384, 1024]⟩
abbrev S16384x5632 : Shape := ⟨2, ![16384, 5632]⟩
abbrev S1024x5632 : Shape := ⟨2, ![1024, 5632]⟩
abbrev S1024x4x1408 : Shape := ⟨3, ![1024, 4, 1408]⟩
abbrev S4x1024x1408 : Shape := ⟨3, ![4, 1024, 1408]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x5632, .bf16⟩
  | .hbm, ⟨2, _⟩ => ⟨S1024x5632, .f32⟩
  | .hbm, ⟨3, _⟩ => ⟨S1024x4x1408, .f32⟩
  | .hbm, ⟨4, _⟩ => ⟨S4x1024x1408, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MmInDw.lean ====
abbrev S16384x1024 : Shape := ⟨2, ![16384, 1024]⟩
abbrev S16384x10240 : Shape := ⟨2, ![16384, 10240]⟩
abbrev S4x1024x2560 : Shape := ⟨3, ![4, 1024, 2560]⟩
abbrev S512x1024 : Shape := ⟨2, ![512, 1024]⟩
abbrev S512x1280 : Shape := ⟨2, ![512, 1280]⟩
abbrev S1x1024x1280 : Shape := ⟨3, ![1, 1024, 1280]⟩
abbrev S1024x1280 : Shape := ⟨2, ![1024, 1280]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x10240, .bf16⟩
  | .hbm, ⟨2, _⟩ => ⟨S4x1024x2560, .f32⟩
  | .local _ .vmem, ⟨0, _⟩ => ⟨S512x1024, .bf16⟩
  | .local _ .vmem, ⟨1, _⟩ => ⟨S512x1024, .bf16⟩
  | .local _ .vmem, ⟨2, _⟩ => ⟨S512x1280, .bf16⟩
  | .local _ .vmem, ⟨3, _⟩ => ⟨S512x1280, .bf16⟩
  | .local _ .vmem, ⟨4, _⟩ => ⟨S1x1024x1280, .f32⟩
  | .local _ .vmem, ⟨5, _⟩ => ⟨S1x1024x1280, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 32], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .sgt arg1 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== MmInDwRefIdeal.lean ====
abbrev S16384x1024 : Shape := ⟨2, ![16384, 1024]⟩
abbrev S16384x10240 : Shape := ⟨2, ![16384, 10240]⟩
abbrev S1024x10240 : Shape := ⟨2, ![1024, 10240]⟩
abbrev S1024x4x2560 : Shape := ⟨3, ![1024, 4, 2560]⟩
abbrev S4x1024x2560 : Shape := ⟨3, ![4, 1024, 2560]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x10240, .bf16⟩
  | .hbm, ⟨2, _⟩ => ⟨S1024x10240, .f32⟩
  | .hbm, ⟨3, _⟩ => ⟨S1024x4x2560, .f32⟩
  | .hbm, ⟨4, _⟩ => ⟨S4x1024x2560, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MergeBwd.lean ====
abbrev S16384x10240 : Shape := ⟨2, ![16384, 10240]⟩
abbrev S16384x1024 : Shape := ⟨2, ![16384, 1024]⟩
abbrev S256x1024 : Shape := ⟨2, ![256, 1024]⟩

abbrev nBuf : Space → Nat
  | .hbm => 8
  | .vmem => 18
  | .smem => 0
  | _ => 0

abbrev bufTy : (tb : Table) → Fin (tcTables nBuf tb) → BufTy
  | .hbm, ⟨0, _⟩ => ⟨S16384x10240, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .bf16⟩
  | .hbm, ⟨5, _⟩ => ⟨S16384x1024, .bf16⟩
  | .hbm, ⟨6, _⟩ => ⟨S16384x1024, .bf16⟩
  | .hbm, ⟨7, _⟩ => ⟨S16384x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | _, _ => ⟨S16384x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MergeBwdRefIdeal.lean ====
abbrev S16384x10240 : Shape := ⟨2, ![16384, 10240]⟩
abbrev S16384x1024 : Shape := ⟨2, ![16384, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S16384x10240, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .bf16⟩
  | .hbm, ⟨42, _⟩ => ⟨S16384x1024, .bf16⟩
  | .hbm, ⟨43, _⟩ => ⟨S16384x1024, .bf16⟩
  | .hbm, ⟨44, _⟩ => ⟨S16384x1024, .bf16⟩
  | _, _ => ⟨S16384x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== BiasInGrad.lean ====
abbrev S16384x10240 : Shape := ⟨2, ![16384, 10240]⟩
abbrev S1x10240 : Shape := ⟨2, ![1, 10240]⟩
abbrev S256x1024 : Shape := ⟨2, ![256, 1024]⟩
abbrev S1x1024 : Shape := ⟨2, ![1, 1024]⟩
abbrev S1024 : Shape := ⟨1, ![1024]⟩

abbrev nBuf : Space → Nat
  | .hbm => 2
  | .vmem => 4
  | .smem => 0
  | _ => 0

abbrev bufTy : (tb : Table) → Fin (tcTables nBuf tb) → BufTy
  | .hbm, ⟨0, _⟩ => ⟨S16384x10240, .bf16⟩
  | .hbm, ⟨1, _⟩ => ⟨S1x10240, .f32⟩
  | .local _ .vmem, ⟨0, _⟩ => ⟨S256x1024, .bf16⟩
  | .local _ .vmem, ⟨1, _⟩ => ⟨S256x1024, .bf16⟩
  | .local _ .vmem, ⟨2, _⟩ => ⟨S1x1024, .f32⟩
  | .local _ .vmem, ⟨3, _⟩ => ⟨S1x1024, .f32⟩
  | _, _ => ⟨S16384x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![10, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]
-- ==== BiasInGradRefIdeal.lean ====
abbrev S16384x10240 : Shape := ⟨2, ![16384, 10240]⟩
abbrev S_ : Shape := ⟨0, ![]⟩
abbrev S10240 : Shape := ⟨1, ![10240]⟩
abbrev S1x10240 : Shape := ⟨2, ![1, 10240]⟩

abbrev nBuf : Space → Nat
  | .hbm => 5
  | .vmem => 0
  | .smem => 0
  | _ => 0

abbrev bufTy : (tb : Table) → Fin (tcTables nBuf tb) → BufTy
  | .hbm, ⟨0, _⟩ => ⟨S16384x10240, .bf16⟩
  | .hbm, ⟨1, _⟩ => ⟨S16384x10240, .f32⟩
  | .hbm, ⟨2, _⟩ => ⟨S_, .f32⟩
  | .hbm, ⟨3, _⟩ => ⟨S10240, .f32⟩
  | .hbm, ⟨4, _⟩ => ⟨S1x10240, .f32⟩
  | _, _ => ⟨S16384x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ConvNormBwd.lean ====
abbrev S16384x1024 : Shape := ⟨2, ![16384, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S1x1024, .f32⟩
  | .hbm, ⟨4, _⟩ => ⟨S16384x1024, .f32⟩
  | .hbm, ⟨5, _⟩ => ⟨S1x1024, .f32⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== ConvNormBwdRefIdeal.lean ====
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 95
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S16384x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S_, .f32⟩
  | .hbm, ⟨66, _⟩ => ⟨S16384, .f32⟩
  | .hbm, ⟨67, _⟩ => ⟨S16384x1, .f32⟩
  | .hbm, ⟨68, _⟩ => ⟨S16384x1024, .f32⟩
  | .hbm, ⟨69, _⟩ => ⟨S16384x1024, .f32⟩
  | .hbm, ⟨70, _⟩ => ⟨S16384x1, .f32⟩
  | .hbm, ⟨71, _⟩ => ⟨S16384x1024, .f32⟩
  | .hbm, ⟨72, _⟩ => ⟨S_, .f32⟩
  | .hbm, ⟨73, _⟩ => ⟨S16384, .f32⟩
  | .hbm, ⟨74, _⟩ => ⟨S16384x1, .f32⟩
  | .hbm, ⟨75, _⟩ => ⟨S_, .f32⟩
  | .hbm, ⟨76, _⟩ => ⟨S16384x1, .f32⟩
  | .hbm, ⟨77, _⟩ => ⟨S16384x1, .f32⟩
  | .hbm, ⟨78, _⟩ => ⟨S_, .f32⟩
  | .hbm, ⟨79, _⟩ => ⟨S16384, .f32⟩
  | .hbm, ⟨80, _⟩ => ⟨S16384x1024, .f32⟩
  | .hbm, ⟨81, _⟩ => ⟨S16384x1024, .f32⟩
  | .hbm, ⟨82, _⟩ => ⟨S16384x1024, .f32⟩
  | .hbm, ⟨83, _⟩ => ⟨S_, .f32⟩
  | .hbm, ⟨84, _⟩ => ⟨S16384, .f32⟩
  | .hbm, ⟨85, _⟩ => ⟨S16384x1, .f32⟩
  | .hbm, ⟨86, _⟩ => ⟨S16384x1024, .f32⟩
  | .hbm, ⟨87, _⟩ => ⟨S16384x1, .f32⟩
  | .hbm, ⟨88, _⟩ => ⟨S_, .f32⟩
  | .hbm, ⟨89, _⟩ => ⟨S16384x1, .f32⟩
  | .hbm, ⟨90, _⟩ => ⟨S16384x1, .f32⟩
  | .hbm, ⟨91, _⟩ => ⟨S_, .f32⟩
  | .hbm, ⟨92, _⟩ => ⟨S16384, .f32⟩
  | .hbm, ⟨93, _⟩ => ⟨S16384x1024, .f32⟩
  | .hbm, ⟨94, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v27_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v27_1 : Ref sig .tc := ⟨.hbm, 49, rfl⟩
abbrev main_v27_0 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v28 : Ref sig .tc := ⟨.hbm, 54, rfl⟩
abbrev main_cst_6 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_7 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_8 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_9 : Ref sig .tc := ⟨.hbm, 72, rfl⟩
abbrev main_v43 : Ref sig .tc := ⟨.hbm, 73, rfl⟩
abbrev main_v44 : Ref sig .tc := ⟨.hbm, 74, rfl⟩
abbrev main_cst_10 : Ref sig .tc := ⟨.hbm, 75, rfl⟩
abbrev main_v45 : Ref sig .tc := ⟨.hbm, 76, rfl⟩
abbrev main_v46 : Ref sig .tc := ⟨.hbm, 77, rfl⟩
abbrev main_cst_11 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_12 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_13 : Ref sig .tc := ⟨.hbm, 88, rfl⟩
abbrev main_v55 : Ref sig .tc := ⟨.hbm, 89, rfl⟩
abbrev main_v56 : Ref sig .tc := ⟨.hbm, 90, rfl⟩
abbrev main_cst_14 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩

abbrev nD : Nat := 1
abbrev τ : Topo := Topo.v7x

variable {F : FTy → Type} [FloatOps F]
-- ==== PostBwd.lean ====
abbrev S16384x1024 : Shape := ⟨2, ![16384, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 16
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S16384x1024, .f32⟩
  | .hbm, ⟨10, _⟩ => ⟨S16384x1024, .bf16⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true, false]
-- ==== PostBwdRefIdeal.lean ====
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 179
  | .vmem => 0
  | .smem => 0
  | _ => 0

abbrev hbmTy0_0 (i : Nat) : BufTy := match i % 128 with
  | 0 => ⟨S16384x1024, .f32⟩
  | 1 => ⟨S16384x1024, .f32⟩
  | 2 => ⟨S16384x1024, .f32⟩
  | 3 => ⟨S16384x1024, .f32⟩
  | 4 => ⟨S1x1024, .f32⟩
  | 5 => ⟨S1x1024, .f32⟩
  | 6 => ⟨S1x1024, .f32⟩
  | 7 => ⟨S1x1024, .f32⟩
  | 8 => ⟨S1x1024, .f32⟩
  | 9 => ⟨S_, .f32⟩
  | 10 => ⟨S16384x1024, .f32⟩
  | 11 => ⟨S16384x1024, .f32⟩
  | 12 => ⟨S16384x1024, .f32⟩
  | 13 => ⟨S16384x1024, .f32⟩
  | 14 => ⟨S16384x1024, .f32⟩
  | 15 => ⟨S_, .f32⟩
  | 16 => ⟨S16384, .f32⟩
  | 17 => ⟨S16384x1, .f32⟩
  | 18 => ⟨S_, .f32⟩
  | 19 => ⟨S16384x1, .f32⟩
  | 20 => ⟨S16384x1, .f32⟩
  | 21 => ⟨S16384x1024, .f32⟩
  | 22 => ⟨S16384x1024, .f32⟩
  | 23 => ⟨S16384x1024, .f32⟩
  | 24 => ⟨S_, .f32⟩
  | 25 => ⟨S16384x1024, .f32⟩
  | 26 => ⟨S16384x1024, .f32⟩
  | 27 => ⟨S_, .f32⟩
  | 28 => ⟨S16384, .f32⟩
  | 29 => ⟨S16384x1, .f32⟩
  | 30 => ⟨S_, .f32⟩
  | 31 => ⟨S16384x1, .f32⟩
  | 32 => ⟨S16384x1, .f32⟩
  | 33 => ⟨S16384x1024, .f32⟩
  | 34 => ⟨S16384x1024, .f32⟩
  | 35 => ⟨S_, .f32⟩
  | 36 => ⟨S16384x1, .f32⟩
  | 37 => ⟨S16384x1, .f32⟩
  | 38 => ⟨S16384x1, .f32⟩
  | 39 => ⟨S16384x1, .f32⟩
  | 40 => ⟨S_, .f32⟩
  | 41 => ⟨S16384x1, .f32⟩
  | 42 => ⟨S16384x1, .f32⟩
  | 43 => ⟨S16384x1024, .f32⟩
  | 44 => ⟨S16384x1024, .f32⟩
  | 45 => ⟨S16384x1024, .f32⟩
  | 46 => ⟨S16384x1024, .f32⟩
  | 47 => ⟨S16384x1024, .f32⟩
  | 48 => ⟨S16384x1024, .f32⟩
  | 49 => ⟨S_, .f32⟩
  | 50 => ⟨S16384, .f32⟩
  | 51 => ⟨S16384x1, .f32⟩
  | 52 => ⟨S_, .f32⟩
  | 53 => ⟨S16384x1, .f32⟩
  | 54 => ⟨S16384x1, .f32⟩
  | 55 => ⟨S16384x1024, .f32⟩
  | 56 => ⟨S16384x1024, .f32⟩
  | 57 => ⟨S16384x1024, .f32⟩
  | 58 => ⟨S_, .f32⟩
  | 59 => ⟨S16384x1024, .f32⟩
  | 60 => ⟨S16384x1024, .f32⟩
  | 61 => ⟨S_, .f32⟩
  | 62 => ⟨S16384, .f32⟩
  | 63 => ⟨S16384x1, .f32⟩
  | 64 => ⟨S_, .f32⟩
  | 65 => ⟨S16384x1, .f32⟩
  | 66 => ⟨S16384x1, .f32⟩
  | 67 => ⟨S16384x1024, .f32⟩
  | 68 => ⟨S16384x1024, .f32⟩
  | 69 => ⟨S_, .f32⟩
  | 70 => ⟨S16384x1, .f32⟩
  | 71 => ⟨S16384x1, .f32⟩
  | 72 => ⟨S16384x1, .f32⟩
  | 73 => ⟨S16384x1, .f32⟩
  | 74 => ⟨S_, .f32⟩
  | 75 => ⟨S16384x1, .f32⟩
  | 76 => ⟨S16384x1, .f32⟩
  | 77 => ⟨S16384x1024, .f32⟩
  | 78 => ⟨S16384x1024, .f32⟩
  | 79 => ⟨S_, .f32⟩
  | 80 => ⟨S1x1024, .f32⟩
  | 81 => ⟨S1x1024, .f32⟩
  | 82 => ⟨S16384x1024, .f32⟩
  | 83 => ⟨S16384x1024, .f32⟩
  | 84 => ⟨S16384x1024, .f32⟩
  | 85 => ⟨S16384x1024, .f32⟩
  | 86 => ⟨S16384x1024, .f32⟩
  | 87 => ⟨S_, .f32⟩
  | 88 => ⟨S1024, .f32⟩
  | 89 => ⟨S1x1024, .f32⟩
  | 90 => ⟨S16384x1024, .f32⟩
  | 91 => ⟨S_, .f32⟩
  | 92 => ⟨S1024, .f32⟩
  | 93 => ⟨S1x1024, .f32⟩
  | 94 => ⟨S16384x1024, .f32⟩
  | 95 => ⟨S16384x1024, .f32⟩
  | 96 => ⟨S16384x1024, .f32⟩
  | 97 => ⟨S_, .f32⟩
  | 98 => ⟨S16384, .f32⟩
  | 99 => ⟨S16384x1, .f32⟩
  | 100 => ⟨S16384x1024, .f32⟩
  | 101 => ⟨S16384x1024, .f32⟩
  | 102 => ⟨S16384x1, .f32⟩
  | 103 => ⟨S16384x1024, .f32⟩
  | 104 => ⟨S_, .f32⟩
  | 105 => ⟨S16384, .f32⟩
  | 106 => ⟨S16384x1, .f32⟩
  | 107 => ⟨S16384x1024, .f32⟩
  | 108 => ⟨S_, .f32⟩
  | 109 => ⟨S16384x1, .f32⟩
  | 110 => ⟨S16384x1, .f32⟩
  | 111 => ⟨S_, .f32⟩
  | 112 => ⟨S16384, .f32⟩
  | 113 => ⟨S16384x1024, .f32⟩
  | 114 => ⟨S16384x1024, .f32⟩
  | 115 => ⟨S16384x1024, .f32⟩
  | 116 => ⟨S_, .f32⟩
  | 117 => ⟨S16384, .f32⟩
  | 118 => ⟨S16384x1, .f32⟩
  | 119 => ⟨S16384x1024, .f32⟩
  | 120 => ⟨S16384x1, .f32⟩
  | 121 => ⟨S_, .f32⟩
  | 122 => ⟨S16384x1, .f32⟩
  | 123 => ⟨S16384x1, .f32⟩
  | 124 => ⟨S_, .f32⟩
  | 125 => ⟨S16384, .f32⟩
  | 126 => ⟨S16384x1024, .f32⟩
  | 127 => ⟨S16384x1024, .f32⟩
  | _ => ⟨S16384x1024, .f32⟩

abbrev hbmTy0_1 (i : Nat) : BufTy := match i % 128 with
  | 0 => ⟨S16384x1024, .f32⟩
  | 1 => ⟨S_, .f32⟩
  | 2 => ⟨S1024, .f32⟩
  | 3 => ⟨S1x1024, .f32⟩
  | 4 => ⟨S16384x1024, .f32⟩
  | 5 => ⟨S_, .f32⟩
  | 6 => ⟨S1024, .f32⟩
  | 7 => ⟨S1x1024, .f32⟩
  | 8 => ⟨S16384x1024, .f32⟩
  | 9 => ⟨S16384x1024, .f32⟩
  | 10 => ⟨S16384x1024, .f32⟩
  | 11 => ⟨S_, .f32⟩
  | 12 => ⟨S16384, .f32⟩
  | 13 => ⟨S16384x1, .f32⟩
  | 14 => ⟨S16384x1024, .f32⟩
  | 15 => ⟨S16384x1024, .f32⟩
  | 16 => ⟨S16384x1, .f32⟩
  | 17 => ⟨S16384x1024, .f32⟩
  | 18 => ⟨S_, .f32⟩
  | 19 => ⟨S16384, .f32⟩
  | 20 => ⟨S16384x1, .f32⟩
  | 21 => ⟨S_, .f32⟩
  | 22 => ⟨S16384x1, .f32⟩
  | 23 => ⟨S16384x1, .f32⟩
  | 24 => ⟨S_, .f32⟩
  | 25 => ⟨S16384, .f32⟩
  | 26 => ⟨S16384x1024, .f32⟩
  | 27 => ⟨S16384x1024, .f32⟩
  | 28 => ⟨S16384x1024, .f32⟩
  | 29 => ⟨S_, .f32⟩
  | 30 => ⟨S16384, .f32⟩
  | 31 => ⟨S16384x1, .f32⟩
  | 32 => ⟨S16384x1024, .f32⟩
  | 33 => ⟨S16384x1, .f32⟩
  | 34 => ⟨S_, .f32⟩
  | 35 => ⟨S16384x1, .f32⟩
  | 36 => ⟨S16384x1, .f32⟩
  | 37 => ⟨S_, .f32⟩
  | 38 => ⟨S16384, .f32⟩
  | 39 => ⟨S16384x1024, .f32⟩
  | 40 => ⟨S16384x1024, .f32⟩
  | 41 => ⟨S16384x1024, .f32⟩
  | 42 => ⟨S16384x1024, .f32⟩
  | 43 => ⟨S16384x1024, .f32⟩
  | 44 => ⟨S_, .f32⟩
  | 45 => ⟨S1024, .f32⟩
  | 46 => ⟨S1x1024, .f32⟩
  | 47 => ⟨S_, .f32⟩
  | 48 => ⟨S16384x1024, .f32⟩
  | 49 => ⟨S16384x1024, .f32⟩
  | 50 => ⟨S16384x1024, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_cst_10 : Ref sig .tc := ⟨.hbm, 61, rfl⟩
abbrev main_v41 : Ref sig .tc := ⟨.hbm, 62, rfl⟩
abbrev main_v42 : Ref sig .tc := ⟨.hbm, 63, rfl⟩
abbrev main_cst_11 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_12 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_13 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_14 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_15 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_16 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_17 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_18 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_19 : Ref sig .tc := ⟨.hbm, 108, rfl⟩
abbrev main_v79 : Ref sig .tc := ⟨.hbm, 109, rfl⟩
abbrev main_v80 : Ref sig .tc := ⟨.hbm, 110, rfl⟩
abbrev main_cst_20 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_21 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_22 : Ref sig .tc := ⟨.hbm, 121, rfl⟩
abbrev main_v89 : Ref sig .tc := ⟨.hbm, 122, rfl⟩
abbrev main_v90 : Ref sig .tc := ⟨.hbm, 123, rfl⟩
abbrev main_cst_23 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_cst_24 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_cst_25 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_cst_26 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_cst_27 : Ref sig .tc := ⟨.hbm, 146, rfl⟩
abbrev main_v109 : Ref sig .tc := ⟨.hbm, 147, rfl⟩
abbrev main_v110 : Ref sig .tc := ⟨.hbm, 148, rfl⟩
abbrev main_cst_28 : Ref sig .tc := ⟨.hbm, 149, rfl⟩
abbrev main_v111 : Ref sig .tc := ⟨.hbm, 150, rfl⟩
abbrev main_v112 : Ref sig .tc := ⟨.hbm, 151, rfl⟩
abbrev main_cst_29 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_cst_30 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_cst_31 : Ref sig .tc := ⟨.hbm, 162, rfl⟩
abbrev main_v121 : Ref sig .tc := ⟨.hbm, 163, rfl⟩
abbrev main_v122 : Ref sig .tc := ⟨.hbm, 164, rfl⟩
abbrev main_cst_32 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_cst_33 : Ref sig .tc := ⟨.hbm, 172, rfl⟩
abbrev main_v129 : Ref sig .tc := ⟨.hbm, 173, rfl⟩
abbrev main_v130 : Ref sig .tc := ⟨.hbm, 174, rfl⟩
abbrev main_cst_34 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩

abbrev nD : Nat := 1
abbrev τ : Topo := Topo.v7x

variable {F : FTy → Type} [FloatOps F]
-- ==== ConvFwd.lean ====
abbrev S16384x10240 : Shape := ⟨2, ![16384, 10240]⟩
abbrev S31x1024 : Shape := ⟨2, ![31, 1024]⟩
abbrev S1x1024 : Shape := ⟨2, ![1, 1024]⟩
abbrev S16384x1024 : Shape := ⟨2, ![16384, 1024]⟩
abbrev S256x256 : Shape := ⟨2, ![256, 256]⟩
abbrev S32x256 : Shape := ⟨2, ![32, 256]⟩
abbrev S31x256 : Shape := ⟨2, ![31, 256]⟩
abbrev S1x256 : Shape := ⟨2, ![1, 256]⟩
abbrev S288x256 : Shape := ⟨2, ![288, 256]⟩

abbrev nBuf : Space → Nat
  | .hbm => 4
  | .vmem => 15
  | .smem => 0
  | _ => 0

abbrev bufTy : (tb : Table) → Fin (tcTables nBuf tb) → BufTy
  | .hbm, ⟨0, _⟩ => ⟨S16384x10240, .f32⟩
  | .hbm, ⟨1, _⟩ => ⟨S31x1024, .f32⟩
  | .hbm, ⟨2, _⟩ => ⟨S1x1024, .f32⟩
  | .hbm, ⟨3, _⟩ => ⟨S16384x1024, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S32x256, .f32⟩
  | .local _ .vmem, ⟨5, _⟩ => ⟨S32x256, .f32⟩
  | .local _ .vmem, ⟨6, _⟩ => ⟨S32x256, .f32⟩
  | .local _ .vmem, ⟨7, _⟩ => ⟨S32x256, .f32⟩
  | .local _ .vmem, ⟨8, _⟩ => ⟨S31x256, .f32⟩
  | .local _ .vmem, ⟨9, _⟩ => ⟨S31x256, .f32⟩
  | .local _ .vmem, ⟨10, _⟩ => ⟨S1x256, .f32⟩
  | .local _ .vmem, ⟨11, _⟩ => ⟨S1x256, .f32⟩
  | .local _ .vmem, ⟨12, _⟩ => ⟨S256x256, .f32⟩
  | .local _ .vmem, ⟨13, _⟩ => ⟨S256x256, .f32⟩
  | .local _ .vmem, ⟨14, _⟩ => ⟨S288x256, .f32⟩
  | _, _ => ⟨S16384x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 64], ![false, false]⟩

def cc0_transform_0 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c24_i32 : BitVec 32 := 24#32
  let v3 : BitVec 32 := Scalar.addi c24_i32 arg0
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c28_i32 : BitVec 32 := 28#32
  let v3 : BitVec 32 := Scalar.addi c28_i32 arg0
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S31x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ConvFwdRefIdeal.lean ====
abbrev S16384x10240 : Shape := ⟨2, ![16384, 10240]⟩
abbrev S31x1024 : Shape := ⟨2, ![31, 1024]⟩
abbrev S1x1024 : Shape := ⟨2, ![1, 1024]⟩
abbrev S16384x1024 : Shape := ⟨2, ![16384, 1024]⟩
abbrev S_ : Shape := ⟨0, ![]⟩
abbrev S16414x1024 : Shape := ⟨2, ![16414, 1024]⟩
abbrev S1024 : Shape := ⟨1, ![1024]⟩

abbrev nBuf : Space → Nat
  | .hbm => 238
  | .vmem => 0
  | .smem => 0
  | _ => 0

abbrev hbmTy0_0 (i : Nat) : BufTy := match i % 128 with
  | 0 => ⟨S16384x10240, .f32⟩
  | 1 => ⟨S31x1024, .f32⟩
  | 2 => ⟨S1x1024, .f32⟩
  | 3 => ⟨S16384x1024, .f32⟩
  | 4 => ⟨S16384x1024, .f32⟩
  | 5 => ⟨S16384x1024, .f32⟩
  | 6 => ⟨S16384x1024, .f32⟩
  | 7 => ⟨S_, .f32⟩
  | 8 => ⟨S16384x1024, .f32⟩
  | 9 => ⟨S16384x1024, .f32⟩
  | 10 => ⟨S_, .f32⟩
  | 11 => ⟨S16384x1024, .f32⟩
  | 12 => ⟨S16384x1024, .f32⟩
  | 13 => ⟨S16384x1024, .f32⟩
  | 14 => ⟨S_, .i32⟩
  | 15 => ⟨S_, .f32⟩
  | 16 => ⟨S16414x1024, .f32⟩
  | 17 => ⟨S16384x1024, .f32⟩
  | 18 => ⟨S1x1024, .f32⟩
  | 19 => ⟨S1024, .f32⟩
  | 20 => ⟨S1x1024, .f32⟩
  | 21 => ⟨S16384x1024, .f32⟩
  | 22 => ⟨S16384x1024, .f32⟩
  | 23 => ⟨S_, .f32⟩
  | 24 => ⟨S16384x1024, .f32⟩
  | 25 => ⟨S16384x1024, .f32⟩
  | 26 => ⟨S16384x1024, .f32⟩
  | 27 => ⟨S1x1024, .f32⟩
  | 28 => ⟨S1024, .f32⟩
  | 29 => ⟨S1x1024, .f32⟩
  | 30 => ⟨S16384x1024, .f32⟩
  | 31 => ⟨S16384x1024, .f32⟩
  | 32 => ⟨S16384x1024, .f32⟩
  | 33 => ⟨S16384x1024, .f32⟩
  | 34 => ⟨S1x1024, .f32⟩
  | 35 => ⟨S1024, .f32⟩
  | 36 => ⟨S1x1024, .f32⟩
  | 37 => ⟨S16384x1024, .f32⟩
  | 38 => ⟨S16384x1024, .f32⟩
  | 39 => ⟨S16384x1024, .f32⟩
  | 40 => ⟨S16384x1024, .f32⟩
  | 41 => ⟨S1x1024, .f32⟩
  | 42 => ⟨S1024, .f32⟩
  | 43 => ⟨S1x1024, .f32⟩
  | 44 => ⟨S16384x1024, .f32⟩
  | 45 => ⟨S16384x1024, .f32⟩
  | 46 => ⟨S16384x1024, .f32⟩
  | 47 => ⟨S16384x1024, .f32⟩
  | 48 => ⟨S1x1024, .f32⟩
  | 49 => ⟨S1024, .f32⟩
  | 50 => ⟨S1x1024, .f32⟩
  | 51 => ⟨S16384x1024, .f32⟩
  | 52 => ⟨S16384x1024, .f32⟩
  | 53 => ⟨S16384x1024, .f32⟩
  | 54 => ⟨S16384x1024, .f32⟩
  | 55 => ⟨S1x1024, .f32⟩
  | 56 => ⟨S1024, .f32⟩
  | 57 => ⟨S1x1024, .f32⟩
  | 58 => ⟨S16384x1024, .f32⟩
  | 59 => ⟨S16384x1024, .f32⟩
  | 60 => ⟨S16384x1024, .f32⟩
  | 61 => ⟨S16384x1024, .f32⟩
  | 62 => ⟨S1x1024, .f32⟩
  | 63 => ⟨S1024, .f32⟩
  | 64 => ⟨S1x1024, .f32⟩
  | 65 => ⟨S16384x1024, .f32⟩
  | 66 => ⟨S16384x1024, .f32⟩
  | 67 => ⟨S16384x1024, .f32⟩
  | 68 => ⟨S16384x1024, .f32⟩
  | 69 => ⟨S1x1024, .f32⟩
  | 70 => ⟨S1024, .f32⟩
  | 71 => ⟨S1x1024, .f32⟩
  | 72 => ⟨S16384x1024, .f32⟩
  | 73 => ⟨S16384x1024, .f32⟩
  | 74 => ⟨S16384x1024, .f32⟩
  | 75 => ⟨S16384x1024, .f32⟩
  | 76 => ⟨S1x1024, .f32⟩
  | 77 => ⟨S1024, .f32⟩
  | 78 => ⟨S1x1024, .f32⟩
  | 79 => ⟨S16384x1024, .f32⟩
  | 80 => ⟨S16384x1024, .f32⟩
  | 81 => ⟨S16384x1024, .f32⟩
  | 82 => ⟨S16384x1024, .f32⟩
  | 83 => ⟨S1x1024, .f32⟩
  | 84 => ⟨S1024, .f32⟩
  | 85 => ⟨S1x1024, .f32⟩
  | 86 => ⟨S16384x1024, .f32⟩
  | 87 => ⟨S16384x1024, .f32⟩
  | 88 => ⟨S16384x1024, .f32⟩
  | 89 => ⟨S16384x1024, .f32⟩
  | 90 => ⟨S1x1024, .f32⟩
  | 91 => ⟨S1024, .f32⟩
  | 92 => ⟨S1x1024, .f32⟩
  | 93 => ⟨S16384x1024, .f32⟩
  | 94 => ⟨S16384x1024, .f32⟩
  | 95 => ⟨S16384x1024, .f32⟩
  | 96 => ⟨S16384x1024, .f32⟩
  | 97 => ⟨S1x1024, .f32⟩
  | 98 => ⟨S1024, .f32⟩
  | 99 => ⟨S1x1024, .f32⟩
  | 100 => ⟨S16384x1024, .f32⟩
  | 101 => ⟨S16384x1024, .f32⟩
  | 102 => ⟨S16384x1024, .f32⟩
  | 103 => ⟨S16384x1024, .f32⟩
  | 104 => ⟨S1x1024, .f32⟩
  | 105 => ⟨S1024, .f32⟩
  | 106 => ⟨S1x1024, .f32⟩
  | 107 => ⟨S16384x1024, .f32⟩
  | 108 => ⟨S16384x1024, .f32⟩
  | 109 => ⟨S16384x1024, .f32⟩
  | 110 => ⟨S16384x1024, .f32⟩
  | 111 => ⟨S1x1024, .f32⟩
  | 112 => ⟨S1024, .f32⟩
  | 113 => ⟨S1x1024, .f32⟩
  | 114 => ⟨S16384x1024, .f32⟩
  | 115 => ⟨S16384x1024, .f32⟩
  | 116 => ⟨S16384x1024, .f32⟩
  | 117 => ⟨S16384x1024, .f32⟩
  | 118 => ⟨S1x1024, .f32⟩
  | 119 => ⟨S1024, .f32⟩
  | 120 => ⟨S1x1024, .f32⟩
  | 121 => ⟨S16384x1024, .f32⟩
  | 122 => ⟨S16384x1024, .f32⟩
  | 123 => ⟨S16384x1024, .f32⟩
  | 124 => ⟨S16384x1024, .f32⟩
  | 125 => ⟨S1x1024, .f32⟩
  | 126 => ⟨S1024, .f32⟩
  | 127 => ⟨S1x1024, .f32⟩
  | _ => ⟨S16384x10240, .f32⟩

abbrev hbmTy0_1 (i : Nat) : BufTy := match i % 128 with
  | 0 => ⟨S16384x1024, .f32⟩
  | 1 => ⟨S16384x1024, .f32⟩
  | 2 => ⟨S16384x1024, .f32⟩
  | 3 => ⟨S16384x1024, .f32⟩
  | 4 => ⟨S1x1024, .f32⟩
  | 5 => ⟨S1024, .f32⟩
  | 6 => ⟨S1x1024, .f32⟩
  | 7 => ⟨S16384x1024, .f32⟩
  | 8 => ⟨S16384x1024, .f32⟩
  | 9 => ⟨S16384x1024, .f32⟩
  | 10 => ⟨S16384x1024, .f32⟩
  | 11 => ⟨S1x1024, .f32⟩
  | 12 => ⟨S1024, .f32⟩
  | 13 => ⟨S1x1024, .f32⟩
  | 14 => ⟨S16384x1024, .f32⟩
  | 15 => ⟨S16384x1024, .f32⟩
  | 16 => ⟨S16384x1024, .f32⟩
  | 17 => ⟨S16384x1024, .f32⟩
  | 18 => ⟨S1x1024, .f32⟩
  | 19 => ⟨S1024, .f32⟩
  | 20 => ⟨S1x1024, .f32⟩
  | 21 => ⟨S16384x1024, .f32⟩
  | 22 => ⟨S16384x1024, .f32⟩
  | 23 => ⟨S16384x1024, .f32⟩
  | 24 => ⟨S16384x1024, .f32⟩
  | 25 => ⟨S1x1024, .f32⟩
  | 26 => ⟨S1024, .f32⟩
  | 27 => ⟨S1x1024, .f32⟩
  | 28 => ⟨S16384x1024, .f32⟩
  | 29 => ⟨S16384x1024, .f32⟩
  | 30 => ⟨S16384x1024, .f32⟩
  | 31 => ⟨S16384x1024, .f32⟩
  | 32 => ⟨S1x1024, .f32⟩
  | 33 => ⟨S1024, .f32⟩
  | 34 => ⟨S1x1024, .f32⟩
  | 35 => ⟨S16384x1024, .f32⟩
  | 36 => ⟨S16384x1024, .f32⟩
  | 37 => ⟨S16384x1024, .f32⟩
  | 38 => ⟨S16384x1024, .f32⟩
  | 39 => ⟨S1x1024, .f32⟩
  | 40 => ⟨S1024, .f32⟩
  | 41 => ⟨S1x1024, .f32⟩
  | 42 => ⟨S16384x1024, .f32⟩
  | 43 => ⟨S16384x1024, .f32⟩
  | 44 => ⟨S16384x1024, .f32⟩
  | 45 => ⟨S16384x1024, .f32⟩
  | 46 => ⟨S1x1024, .f32⟩
  | 47 => ⟨S1024, .f32⟩
  | 48 => ⟨S1x1024, .f32⟩
  | 49 => ⟨S16384x1024, .f32⟩
  | 50 => ⟨S16384x1024, .f32⟩
  | 51 => ⟨S16384x1024, .f32⟩
  | 52 => ⟨S16384x1024, .f32⟩
  | 53 => ⟨S1x1024, .f32⟩
  | 54 => ⟨S1024, .f32⟩
  | 55 => ⟨S1x1024, .f32⟩
  | 56 => ⟨S16384x1024, .f32⟩
  | 57 => ⟨S16384x1024, .f32⟩
  | 58 => ⟨S16384x1024, .f32⟩
  | 59 => ⟨S16384x1024, .f32⟩
  | 60 => ⟨S1x1024, .f32⟩
  | 61 => ⟨S1024, .f32⟩
  | 62 => ⟨S1x1024, .f32⟩
  | 63 => ⟨S16384x1024, .f32⟩
  | 64 => ⟨S16384x1024, .f32⟩
  | 65 => ⟨S16384x1024, .f32⟩
  | 66 => ⟨S16384x1024, .f32⟩
  | 67 => ⟨S1x1024, .f32⟩
  | 68 => ⟨S1024, .f32⟩
  | 69 => ⟨S1x1024, .f32⟩
  | 70 => ⟨S16384x1024, .f32⟩
  | 71 => ⟨S16384x1024, .f32⟩
  | 72 => ⟨S16384x1024, .f32⟩
  | 73 => ⟨S16384x1024, .f32⟩
  | 74 => ⟨S1x1024, .f32⟩
  | 75 => ⟨S1024, .f32⟩
  | 76 => ⟨S1x1024, .f32⟩
  | 77 => ⟨S16384x1024, .f32⟩
  | 78 => ⟨S16384x1024, .f32⟩
  | 79 => ⟨S16384x1024, .f32⟩
  | 80 => ⟨S16384x1024, .f32⟩
  | 81 => ⟨S1x1024, .f32⟩
  | 82 => ⟨S1024, .f32⟩
  | 83 => ⟨S1x1024, .f32⟩
  | 84 => ⟨S16384x1024, .f32⟩
  | 85 => ⟨S16384x1024, .f32⟩
  | 86 => ⟨S16384x1024, .f32⟩
  | 87 => ⟨S16384x1024, .f32⟩
  | 88 => ⟨S1x1024, .f32⟩
  | 89 => ⟨S1024, .f32⟩
  | 90 => ⟨S1x1024, .f32⟩
  | 91 => ⟨S16384x1024, .f32⟩
  | 92 => ⟨S16384x1024, .f32⟩
  | 93 => ⟨S16384x1024, .f32⟩
  | 94 => ⟨S16384x1024, .f32⟩
  | 95 => ⟨S1x1024, .f32⟩
  | 96 => ⟨S1024, .f32⟩
  | 97 => ⟨S1x1024, .f32⟩
  | 98 => ⟨S16384x1024, .f32⟩
  | 99 => ⟨S16384x1024, .f32⟩
  | 100 => ⟨S16384x1024, .f32⟩
  | 101 => ⟨S16384x1024, .f32⟩
  | 102 => ⟨S1x1024, .f32⟩
  | 103 => ⟨S1024, .f32⟩
  | 104 => ⟨S1x1024, .f32⟩
  | 105 => ⟨S16384x1024, .f32⟩
  | 106 => ⟨S16384x1024, .f32⟩
  | 107 => ⟨S16384x1024, .f32⟩
  | 108 => ⟨S16384x1024, .f32⟩
  | 109 => ⟨S16384x1024, .f32⟩
  | _ => ⟨S16384x10240, .f32⟩

abbrev hbmTy (i : Nat) : BufTy := match i / 128 with
  | 0 => hbmTy0_0 i
  | 1 => hbmTy0_1 i
  | _ => ⟨S16384x10240, .f32⟩

abbrev bufTy : (tb : Table) → Fin (tcTables nBuf tb) → BufTy
  | .hbm, ⟨i, _⟩ => hbmTy i
  | _, _ => ⟨S16384x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_call0_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_v150 : Ref sig .tc := ⟨.hbm, 158, rfl⟩
abbrev main_v151 : Ref sig .tc := ⟨.hbm, 159, rfl⟩
abbrev main_v152 : Ref sig .tc := ⟨.hbm, 160, rfl⟩
abbrev main_v153 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_v160 : Ref sig .tc := ⟨.hbm, 168, rfl⟩
abbrev main_v161 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_v167 : Ref sig .tc := ⟨.hbm, 175, rfl⟩
abbrev main_v168 : Ref sig .tc := ⟨.hbm, 176, rfl⟩
abbrev main_v169 : Ref sig .tc := ⟨.hbm, 177, rfl⟩
abbrev main_v170 : Ref sig .tc := ⟨.hbm, 178, rfl⟩
abbrev main_v171 : Ref sig .tc := ⟨.hbm, 179, rfl⟩
abbrev main_v172 : Ref sig .tc := ⟨.hbm, 180, rfl⟩
abbrev main_v173 : Ref sig .tc := ⟨.hbm, 181, rfl⟩
abbrev main_v174 : Ref sig .tc := ⟨.hbm, 182, rfl⟩
abbrev main_v175 : Ref sig .tc := ⟨.hbm, 183, rfl⟩
abbrev main_v176 : Ref sig .tc := ⟨.hbm, 184, rfl⟩
abbrev main_v177 : Ref sig .tc := ⟨.hbm, 185, rfl⟩
abbrev main_v178 : Ref sig .tc := ⟨.hbm, 186, rfl⟩
abbrev main_v179 : Ref sig .tc := ⟨.hbm, 187, rfl⟩
abbrev main_v180 : Ref sig .tc := ⟨.hbm, 188, rfl⟩
abbrev main_v181 : Ref sig .tc := ⟨.hbm, 189, rfl⟩
abbrev main_v182 : Ref sig .tc := ⟨.hbm, 190, rfl⟩
abbrev main_v183 : Ref sig .tc := ⟨.hbm, 191, rfl⟩
abbrev main_v184 : Ref sig .tc := ⟨.hbm, 192, rfl⟩
abbrev main_v185 : Ref sig .tc := ⟨.hbm, 193, rfl⟩
abbrev main_v186 : Ref sig .tc := ⟨.hbm, 194, rfl⟩
abbrev main_v187 : Ref sig .tc := ⟨.hbm, 195, rfl⟩
abbrev main_v188 : Ref sig .tc := ⟨.hbm, 196, rfl⟩
abbrev main_v189 : Ref sig .tc := ⟨.hbm, 197, rfl⟩
abbrev main_v190 : Ref sig .tc := ⟨.hbm, 198, rfl⟩
abbrev main_v191 : Ref sig .tc := ⟨.hbm, 199, rfl⟩
abbrev main_v192 : Ref sig .tc := ⟨.hbm, 200, rfl⟩
abbrev main_v193 : Ref sig .tc := ⟨.hbm, 201, rfl⟩
abbrev main_v194 : Ref sig .tc := ⟨.hbm, 202, rfl⟩
abbrev main_v195 : Ref sig .tc := ⟨.hbm, 203, rfl⟩
abbrev main_v196 : Ref sig .tc := ⟨.hbm, 204, rfl⟩
abbrev main_v197 : Ref sig .tc := ⟨.hbm, 205, rfl⟩
abbrev main_v198 : Ref sig .tc := ⟨.hbm, 206, rfl⟩
abbrev main_v199 : Ref sig .tc := ⟨.hbm, 207, rfl⟩
abbrev main_v200 : Ref sig .tc := ⟨.hbm, 208, rfl⟩
abbrev main_v201 : Ref sig .tc := ⟨.hbm, 209, rfl⟩
abbrev main_v202 : Ref sig .tc := ⟨.hbm, 210, rfl⟩
abbrev main_v203 : Ref sig .tc := ⟨.hbm, 211, rfl⟩
abbrev main_v204 : Ref sig .tc := ⟨.hbm, 212, rfl⟩
abbrev main_v205 : Ref sig .tc := ⟨.hbm, 213, rfl⟩
abbrev main_v206 : Ref sig .tc := ⟨.hbm, 214, rfl⟩
abbrev main_v207 : Ref sig .tc := ⟨.hbm, 215, rfl⟩
abbrev main_v208 : Ref sig .tc := ⟨.hbm, 216, rfl⟩
abbrev main_v209 : Ref sig .tc := ⟨.hbm, 217, rfl⟩
abbrev main_v210 : Ref sig .tc := ⟨.hbm, 218, rfl⟩
abbrev main_v211 : Ref sig .tc := ⟨.hbm, 219, rfl⟩
abbrev main_v212 : Ref sig .tc := ⟨.hbm, 220, rfl⟩
abbrev main_v213 : Ref sig .tc := ⟨.hbm, 221, rfl⟩
abbrev main_v214 : Ref sig .tc := ⟨.hbm, 222, rfl⟩
abbrev main_v215 : Ref sig .tc := ⟨.hbm, 223, rfl⟩
abbrev main_v216 : Ref sig .tc := ⟨.hbm, 224, rfl⟩
abbrev main_v217 : Ref sig .tc := ⟨.hbm, 225, rfl⟩
abbrev main_v218 : Ref sig .tc := ⟨.hbm, 226, rfl⟩
abbrev main_v219 : Ref sig .tc := ⟨.hbm, 227, rfl⟩
abbrev main_v220 : Ref sig .tc := ⟨.hbm, 228, rfl⟩
abbrev main_v221 : Ref sig .tc := ⟨.hbm, 229, rfl⟩
abbrev main_v222 : Ref sig .tc := ⟨.hbm, 230, rfl⟩
abbrev main_v223 : Ref sig .tc := ⟨.hbm, 231, rfl⟩
abbrev main_v224 : Ref sig .tc := ⟨.hbm, 232, rfl⟩
abbrev main_v225 : Ref sig .tc := ⟨.hbm, 233, rfl⟩
abbrev main_v226 : Ref sig .tc := ⟨.hbm, 234, rfl⟩
abbrev main_v227 : Ref sig .tc := ⟨.hbm, 235, rfl⟩
abbrev main_v228 : Ref sig .tc := ⟨.hbm, 236, rfl⟩
abbrev main_v229 : Ref sig .tc := ⟨.hbm, 237, rfl⟩

abbrev nD : Nat := 1
abbrev τ : Topo := Topo.v7x

variable {F : FTy → Type} [FloatOps F]
-- ==== FfnConvFwd.lean ====
abbrev S16384x5632 : Shape := ⟨2, ![16384, 5632]⟩
abbrev S3x5632 : Shape := ⟨2, ![3, 5632]⟩
abbrev S1x5632 : Shape := ⟨2, ![1, 5632]⟩
abbrev S256x1408 : Shape := ⟨2, ![256, 1408]⟩
abbrev S8x1408 : Shape := ⟨2, ![8, 1408]⟩
abbrev S3x1408 : Shape := ⟨2, ![3, 1408]⟩
abbrev S1x1408 : Shape := ⟨2, ![1, 1408]⟩
abbrev S264x1408 : Shape := ⟨2, ![264, 1408]⟩

abbrev nBuf : Space → Nat
  | .hbm => 4
  | .vmem => 11
  | .smem => 0
  | _ => 0

abbrev bufTy : (tb : Table) → Fin (tcTables nBuf tb) → BufTy
  | .hbm, ⟨0, _⟩ => ⟨S16384x5632, .f32⟩
  | .hbm, ⟨1, _⟩ => ⟨S3x5632, .f32⟩
  | .hbm, ⟨2, _⟩ => ⟨S1x5632, .f32⟩
  | .hbm, ⟨3, _⟩ => ⟨S16384x5632, .f32⟩
  | .local _ .vmem, ⟨0, _⟩ => ⟨S256x1408, .f32⟩
  | .local _ .vmem, ⟨1, _⟩ => ⟨S256x1408, .f32⟩
  | .local _ .vmem, ⟨2, _⟩ => ⟨S8x1408, .f32⟩
  | .local _ .vmem, ⟨3, _⟩ => ⟨S8x1408, .f32⟩
  | .local _ .vmem, ⟨4, _⟩ => ⟨S3x1408, .f32⟩
  | .local _ .vmem, ⟨5, _⟩ => ⟨S3x1408, .f32⟩
  | .local _ .vmem, ⟨6, _⟩ => ⟨S1x1408, .f32⟩
  | .local _ .vmem, ⟨7, _⟩ => ⟨S1x1408, .f32⟩
  | .local _ .vmem, ⟨8, _⟩ => ⟨S256x1408, .f32⟩
  | .local _ .vmem, ⟨9, _⟩ => ⟨S256x1408, .f32⟩
  | .local _ .vmem, ⟨10, _⟩ => ⟨S264x1408, .f32⟩
  | _, _ => ⟨S16384x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi c0_i32_0 arg0
  let c0_i32_1 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnConvFwdRefIdeal.lean ====
abbrev S16384x5632 : Shape := ⟨2, ![16384, 5632]⟩
abbrev S3x5632 : Shape := ⟨2, ![3, 5632]⟩
abbrev S1x5632 : Shape := ⟨2, ![1, 5632]⟩
abbrev S_ : Shape := ⟨0, ![]⟩
abbrev S16386x5632 : Shape := ⟨2, ![16386, 5632]⟩
abbrev S5632 : Shape := ⟨1, ![5632]⟩

abbrev nBuf : Space → Nat
  | .hbm => 31
  | .vmem => 0
  | .smem => 0
  | _ => 0

abbrev bufTy : (tb : Table) → Fin (tcTables nBuf tb) → BufTy
  | .hbm, ⟨0, _⟩ => ⟨S16384x5632, .f32⟩
  | .hbm, ⟨1, _⟩ => ⟨S3x5632, .f32⟩
  | .hbm, ⟨2, _⟩ => ⟨S1x5632, .f32⟩
  | .hbm, ⟨3, _⟩ => ⟨S_, .i32⟩
  | .hbm, ⟨4, _⟩ => ⟨S_, .f32⟩
  | .hbm, ⟨5, _⟩ => ⟨S16386x5632, .f32⟩
  | .hbm, ⟨6, _⟩ => ⟨S16384x5632, .f32⟩
  | .hbm, ⟨7, _⟩ => ⟨S1x5632, .f32⟩
  | .hbm, ⟨8, _⟩ => ⟨S5632, .f32⟩
  | .hbm, ⟨9, _⟩ => ⟨S1x5632, .f32⟩
  | .hbm, ⟨10, _⟩ => ⟨S16384x5632, .f32⟩
  | .hbm, ⟨11, _⟩ => ⟨S16384x5632, .f32⟩
  | .hbm, ⟨12, _⟩ => ⟨S_, .f32⟩
  | .hbm, ⟨13, _⟩ => ⟨S16384x5632, .f32⟩
  | .hbm, ⟨14, _⟩ => ⟨S16384x5632, .f32⟩
  | .hbm, ⟨15, _⟩ => ⟨S16384x5632, .f32⟩
  | .hbm, ⟨16, _⟩ => ⟨S1x5632, .f32⟩
  | .hbm, ⟨17, _⟩ => ⟨S5632, .f32⟩
  | .hbm, ⟨18, _⟩ => ⟨S1x5632, .f32⟩
  | .hbm, ⟨19, _⟩ => ⟨S16384x5632, .f32⟩
  | .hbm, ⟨20, _⟩ => ⟨S16384x5632, .f32⟩
  | .hbm, ⟨21, _⟩ => ⟨S16384x5632, .f32⟩
  | .hbm, ⟨22, _⟩ => ⟨S16384x5632, .f32⟩
  | .hbm, ⟨23, _⟩ => ⟨S1x5632, .f32⟩
  | .hbm, ⟨24, _⟩ => ⟨S5632, .f32⟩
  | .hbm, ⟨25, _⟩ => ⟨S1x5632, .f32⟩
  | .hbm, ⟨26, _⟩ => ⟨S16384x5632, .f32⟩
  | .hbm, ⟨27, _⟩ => ⟨S16384x5632, .f32⟩
  | .hbm, ⟨28, _⟩ => ⟨S16384x5632, .f32⟩
  | .hbm, ⟨29, _⟩ => ⟨S16384x5632, .f32⟩
  | .hbm, ⟨30, _⟩ => ⟨S16384x5632, .f32⟩
  | _, _ => ⟨S16384x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Proof.OpenLaunch.lean ====
/-
# A launch whose one global step holds everything

The exchange calls of the step have no entry barrier: a device may copy into a peer's result before the peer has run
an instruction. So the peer's result buffer, and the peer's receive semaphores, have to be in the sender's hands from
the start: they are dealt across the devices at launch. The library's launch theorems deal the kernel's semaphores at
launch and sort the buffers of @main device by device, at each device's first instruction. `θ_run_open` hands every
device's whole boundary and every device's buffers to ONE update; `run_call` (in `OneShot.lean`) is the run of a pallas_call without
windows or grid from what such an update dealt.
-/
module

public import Idealize.ShloMosaic.Lib.Pipeline.Launch
public import Idealize.ShloMosaic.Lib.Pipeline.Kit
public import Idealize.ShloMosaic.Lib.Pipeline.Regions
public import Idealize.ShloMosaic.Lib.Tactic

@[expose] public section

set_option Elab.async false

noncomputable section

namespace Cert.OpenLaunch

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type}
variable {Ix : Type} [DecidableEq Ix] {Name : Type} [DecidableEq Name] {U : Type} [URA U] {Lvl : Type} [Preorder Lvl]
variable {Λ₀ : Labels} {P : Type} [Fintype P] [DecidableEq P]

local notation "𝕄" => MT nD τ sig Ix Val Name U Lvl

/-! ## Levels -/

/-- The level facts of all cells, from every TensorCore's right to assign its own cells' levels. -/
theorem assign_levels (L : GSem nD τ sig → Finset Ix) (lv : GSem nD τ sig → Ix → Lvl)
    (hL : ∀ g : GSem nD τ sig, g.1.2 ≠ .tc → L g = ∅) :
    (bigSep Finset.univ fun c : Dev nD => levels0 c) ⊢ (|==> levAts L lv : sProp 𝕄) := by
  have hoff (d : Dev nD) (p : Proc τ) (hp : p ∈ Finset.univ.erase Proc.tc) :
      (coreLevAts ((d, p) : Thread nD τ) L lv : sProp 𝕄) = BI.emp := by
    unfold coreLevAts
    refine (bigSep_congr fun sm _ => ?_).trans (BI.bigSep_emp_const Finset.univ)
    rw [hL (((d, p) : Thread nD τ), sm) (Finset.ne_of_mem_erase hp), BI.bigSep_empty]
  have hall : (levAts L lv : sProp 𝕄) = bigSep Finset.univ fun c : Dev nD => coreLevAts (c : Thread nD τ) L lv := by
    have h1 : (levAts L lv : sProp 𝕄) = bigSep Finset.univ fun c : Thread nD τ => coreLevAts c L lv :=
      bigSep_univ_prod fun g : GSem nD τ sig => bigSep (L g) fun ι => levAt g ι (lv g ι)
    have h2 : (bigSep Finset.univ fun d : Dev nD => bigSep (Finset.univ.erase Proc.tc) fun p => (coreLevAts ((d, p) : Thread nD τ) L lv : sProp 𝕄)) = BI.emp :=
      (bigSep_congr fun d _ => (bigSep_congr (hoff d)).trans (BI.bigSep_emp_const _)).trans (BI.bigSep_emp_const _)
    rw [h1, bigSep_threads (fun c : Thread nD τ => coreLevAts c L lv), h2]
    refine BI.Entails.antisymm (show _ ⊢ (_ : sProp 𝕄) from ?_) (show _ ⊢ (_ : sProp 𝕄) from ?_)
    · iintro ⟨H, -⟩; iexact H
    · iintro H; isplitl [H]
      · iexact H
      · iempintro
  have hc (c : Dev nD) : (levels0 c : sProp 𝕄) ⊢ |==> coreLevAts (c : Thread nD τ) L lv := by
    refine (lev_assign_cells (c : Thread nD τ) L lv).trans (BI.bupd_mono (show _ ⊢ (coreLevAts (c : Thread nD τ) L lv : sProp 𝕄) from ?_))
    iintro ⟨-, H⟩; iexact H
  rw [hall]
  exact (bigSep_mono fun c _ => hc c).trans (BI.bigSep_bupd _ _)

/-! ## The launch -/

section Launch

variable (pcs : P → PCfg sig Λ₀ Val) (a : Dev nD → (p : P) → (pcs p).Adm)
  (phinj : Function.Injective (PerCore.cellOf (nD := nD) (τ := τ) (pinD pcs a)))
  (EP : Emb (URounds (GSem nD τ sig) Unit) (MT nD τ sig Ix Val Name U Lvl))
  (defs₀ : Defs nD τ sig Val Λ₀) (𝒱₀ : Variants)

/-- What the launch deals a device. -/
def dealt (O₀ : Dev nD → CellTallies nD τ sig Ix) (m : (ℓ : Loc nD τ sig) → Buf Val ℓ) (c : Dev nD) : sProp 𝕄 :=
  iprop(boundary (c : Thread nD τ) ∗ unscopedBufs c (fun b => m ((c : Thread nD τ).loc b)) ∗ unscopedSems0 c
    ∗ owes (c : Thread nD τ) (O₀ c) ∅ ∗ launchCred O₀ c)

/-- The staging ghost state of every pipeline on a device. -/
def stagingGhost (c : Dev nD) : sProp 𝕄 :=
  iprop((bigSep Finset.univ fun p => PerCore.cellsGhost (pinD pcs a) EP p c)
    ∗ bigSep Finset.univ fun p => PerCore.toksInit (pinD pcs a) EP p c)

include phinj in
/-- Every weakly fair execution of `main` from memory `m` with all counters at zero terminates in a state satisfying
    `Q`, the TensorCores owing `O₀` at launch: one update (`hinit`) makes every device's starting state from what the
    launch deals all of them, each device then runs to its end (`hrun`), and the final state is read (`hfin`, `hQ`). -/
theorem θ_run_open [Infinite Name] [EP.LandsIn (upEmb : UEmb _ 𝕄)]
    (m : (ℓ : Loc nD τ sig) → Buf Val ℓ) (g : Dev nD → PrngReg)
    (main : Dev nD → Prog (TpuEff nD τ sig Val (Pipeline.Sig Λ₀ P fun p => (pcs p).Adm) .tc) PUnit)
    (O₀ : Dev nD → CellTallies nD τ sig Ix)
    (L : GSem nD τ sig → Finset Ix) (lv : GSem nD τ sig → Ix → Lvl) (hL : ∀ g : GSem nD τ sig, g.1.2 ≠ .tc → L g = ∅)
    (G : sProp 𝕄) (u₀ : U)
    (hu₀ : (ownU u₀ : sProp 𝕄)
      ⊢ |={Set.univ}=> iprop(BI.own (EP (initOf (PerCore.cells (pinD pcs a) phinj) (PerCore.launchToks (pinD pcs a) phinj))) ∗ G))
    (T₀ Tₙ : Dev nD → sProp 𝕄)
    (hinit : iprop((bigSep Finset.univ fun c : Dev nD => dealt O₀ m c) ∗ G ∗ levAts L lv) ⊢ |={Set.univ}=> bigSep Finset.univ T₀)
    (hrun : ∀ c, iprop(T₀ c ∗ levAts L lv ∗ stagingGhost pcs a EP c)
      ⊢ wp frame (wpE (Pipeline.defs pcs defs₀) (Variants.lift 𝒱₀) (c : Thread nD τ) none) Set.univ (main c)
          fun _ => iprop((Tₙ c ∗ boundary (c : Thread nD τ)) ∗ ∃ W, owes (c : Thread nD τ) (0 : CellTallies nD τ sig Ix) W))
    (QY : Dev nD → MemSt nD τ sig Val → Prop)
    (hfin : ∀ c (s' : Phys nD τ sig Val), iprop(Tₙ c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run (Pipeline.defs pcs defs₀) (onTc main) ⟨m, fun _ => 0, g⟩ Q := by
  classical
  let start : Dev nD → sProp 𝕄 := fun c => iprop(T₀ c ∗ levAts L lv ∗ stagingGhost pcs a EP c)
  let stop : Dev nD → sProp 𝕄 := fun c => iprop(Tₙ c ∗ boundary (c : Thread nD τ))
  refine (θ_run (Pipeline.defs pcs defs₀) _ _).mono (Q := fun r => (∀ c : Dev nD, QY c r.2 ∧ ∀ sm : SemLoc sig, sm.isScoped .tc = true → r.2.sem ((c : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu (Pipeline.defs pcs defs₀) _ _ _
    (reflect_intro_fupd_tc_sems (X := Unit) (Variants.lift 𝒱₀) (owing O₀) 0 (noBookings fun _ => le_rfl) (owing_of_ne O₀) u₀ (fun _ => start) (fun _ => stop)
      (fun _ => iprop(emp)) Set.univ ?_ (fun _ c => hrun c) fun _ => ?_))
  · have hone (c : Dev nD) :
        coreInit (Ix := Ix) (Name := Name) (U := U) (Lvl := Lvl) (owing O₀) 0 (⟨m, fun _ => 0, g⟩ : MemSt nD τ sig Val) (c : Thread nD τ)
          ⊢ iprop(dealt O₀ m c ∗ levels0 c) := by
      refine (coreInit_boundary_owing O₀ m g c).trans ?_
      unfold dealt
      iintro ⟨Hb, Hub, Hus, HL, Hlv, -, Hcr⟩
      isplitr [Hlv]
      · isplitl [Hb]; · iexact Hb
        isplitl [Hub]; · iexact Hub
        isplitl [Hus]; · iexact Hus
        isplitl [HL] <;> iassumption
      · iexact Hlv
    have hall : (bigSep Finset.univ fun c : Dev nD =>
          coreInit (Ix := Ix) (Name := Name) (U := U) (Lvl := Lvl) (owing O₀) 0 (⟨m, fun _ => 0, g⟩ : MemSt nD τ sig Val) (c : Thread nD τ))
        ⊢ (iprop((bigSep Finset.univ fun c : Dev nD => dealt O₀ m c) ∗ bigSep Finset.univ fun c : Dev nD => levels0 c) : sProp 𝕄) :=
      (bigSep_mono fun c _ => hone c).trans (Entails.of_eq (bigSep_sep' _ _ _))
    iintro ⟨Hcores, Hu⟩
    ihave H := hall $$ Hcores
    icases H with ⟨Hd, Hlv⟩
    imod (assign_levels L lv hL) $$ Hlv with #Hla
    imod hu₀ $$ Hu with ⟨HP, HG⟩
    imod (PerCore.fund_ghost (pinD pcs a) EP phinj) $$ HP with ⟨Hg, Ht⟩
    imod hinit $$ [Hd HG] with HT
    · isplitl [Hd]; · iexact Hd
      isplitl [HG]; · iexact HG
      iexact Hla
    imodintro
    iexists ()
    isplitr []
    · simp only [start, stagingGhost, bigSep_sep']
      isplitl [HT]; · iexact HT
      isplitr; · iapply (BI.bigSep_intro_persistent (S := Finset.univ) fun (c : Dev nD) _ => (BI.Entails.refl (levAts L lv : sProp 𝕄))); iexact Hla
      isplitl [Hg] <;> iassumption
    · iempintro
  · iintro ⟨H, -, Hsc⟩ %s' HSI
    ihave %hsc := (scSems_read_zero m g s') $$ [Hsc HSI]
    · isplitl [Hsc] <;> iassumption
    imod (posts_fupd Finset.univ (fun c s' => boundary_read c s' (hfin c s')) s') $$ [H HSI] with %h
    · isplitl [H] <;> iassumption
    imodintro
    ipureintro
    exact ⟨fun c => h c (Finset.mem_univ c), hsc⟩

end Launch

end Cert.OpenLaunch

end
-- ==== Proof.OneShot.lean ====
/-
# Copies that land once

The protocol all the exchange calls share. Every device has the same `n` semaphores of its own, each of which is
raised by exactly one copy and waited for exactly once: a send cell by the copy reading the device's own memory, a
receive cell `k` of device `dst k c` by device `c`'s copy into it. A cell's one round carries what its copy hands
over (`pay`): the source's share back, or the destination at the copied contents.

`ready_intro` deals the devices this protocol at launch, `wp_send_once` / `wp_copy_once` / `wp_wait_once` are its
copies and waits, `run_call` and `θ_run_once` run a pallas_call without windows from what it dealt.
-/
module

public import proofs.«01_k».proof.Proof.OpenLaunch

@[expose] public section

set_option Elab.async false

noncomputable section

namespace Cert.OneShot

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type}

/-- The ghost state: the staging cells' rounds and the copies' rounds. -/
abbrev UU (nD : Nat) (τ : Topo) (sig : RefSig) : Type := UR sig nD τ × UR sig nD τ

local notation "𝕄" => MT nD τ sig Unit Val ℕ (UU nD τ sig) ℕ

abbrev EP : Emb (UR sig nD τ) (MT nD τ sig Unit Val ℕ (UU nD τ sig) ℕ) := embL
abbrev ER : Emb (UR sig nD τ) (MT nD τ sig Unit Val ℕ (UU nD τ sig) ℕ) := embR

/-! ## The cells and their one round -/

section Protocol

variable {n : ℕ} (osem : Fin n → SemLoc sig)

/-- Device `c`'s cell `k`. -/
abbrev kcell (ck : Dev nD × Fin n) : GSem nD τ sig := ((ck.1 : Thread nD τ), osem ck.2)

theorem kcell_injective (hos : Function.Injective osem) : Function.Injective (kcell osem : Dev nD × Fin n → GSem nD τ sig) := by
  rintro ⟨c, k⟩ ⟨c', k'⟩ h
  have h1 : c = c' := congrArg (fun g : GSem nD τ sig => g.1.1) h
  have h2 : k = k' := hos (congrArg Prod.snd h)
  rw [h1, h2]

/-- Which device's which cell a semaphore is, if one of the protocol's. -/
def cellIdx (g : GSem nD τ sig) : Option (Dev nD × Fin n) := Function.partialInv (kcell osem) g

theorem cellIdx_kcell (hos : Function.Injective osem) (ck : Dev nD × Fin n) : cellIdx osem (kcell osem ck : GSem nD τ sig) = some ck :=
  Function.partialInv_left (kcell_injective osem hos) ck

variable (amt : Fin n → ℕ) (pay : Dev nD → Fin n → sProp (MT nD τ sig Unit Val ℕ (UU nD τ sig) ℕ))

/-- Every cell's schedule: one round of one duty. -/
def once (hamt : ∀ k, 0 < amt k) : Rounds.Schedule (GSem nD τ sig) Unit 𝕄 where
  duties _ r := if r = 0 then {()} else ∅
  amount g _ _ := (cellIdx osem g).elim 1 fun ck => amt ck.2
  payload g _ _ := (cellIdx osem g).elim iprop(emp) fun ck => pay ck.1 ck.2
  amount_pos g _ _ _ := by
    cases cellIdx osem g with
    | none => exact Nat.one_pos
    | some ck => exact hamt ck.2

variable (hos : Function.Injective osem) (hamt : ∀ k, 0 < amt k)

local notation "Rd" => once osem amt pay hamt

theorem duties_zero (g : GSem nD τ sig) : (once osem amt pay hamt).duties g 0 = {()} := by
  show (if (0 : ℕ) = 0 then ({()} : Finset Unit) else ∅) = _
  exact if_pos rfl
theorem mem_duties (g : GSem nD τ sig) : () ∈ (once osem amt pay hamt).duties g 0 := by rw [duties_zero]; exact Finset.mem_singleton_self _
theorem duties_later (g : GSem nD τ sig) : ∀ r, 0 + 1 ≤ r → (once osem amt pay hamt).duties g r = ∅ :=
  fun r hr => if_neg (by omega)

include hos in
theorem amount_eq (ck : Dev nD × Fin n) (u : Unit) : (once osem amt pay hamt).amount (kcell osem ck) 0 u = amt ck.2 := by
  show (cellIdx osem (kcell osem ck : GSem nD τ sig)).elim 1 (fun ck => amt ck.2) = _
  rw [cellIdx_kcell osem hos]; rfl
include hos in
theorem payload_eq (ck : Dev nD × Fin n) (u : Unit) : (once osem amt pay hamt).payload (kcell osem ck) 0 u = pay ck.1 ck.2 := by
  show (cellIdx osem (kcell osem ck : GSem nD τ sig)).elim iprop(emp) (fun ck => pay ck.1 ck.2) = _
  rw [cellIdx_kcell osem hos]; rfl
include hos in
theorem expect_eq (ck : Dev nD × Fin n) : (once osem amt pay hamt).expect (kcell osem ck) 0 = amt ck.2 := by
  unfold Schedule.expect Schedule.amountOf
  rw [duties_zero, Finset.sum_singleton, amount_eq osem amt pay hos hamt]
include hos in
theorem rest_eq (ck : Dev nD × Fin n) :
    bigSep ((once osem amt pay hamt).duties (kcell osem ck) 0 \ ∅) (fun u => (once osem amt pay hamt).payload (kcell osem ck) 0 u) = pay ck.1 ck.2 := by
  rw [Finset.sdiff_empty, duties_zero, bigSep_singleton, payload_eq osem amt pay hos hamt]

/-- Every cell's payload may be stored in an invariant. -/
class Storing (pay : Dev nD → Fin n → sProp 𝕄) : Prop where
  storable : ∀ c k, BI.Storable (upEmb : UEmb _ 𝕄) (pay c k)

variable [hst : Storing pay]

instance once_storable (g : GSem nD τ sig) (r : ℕ) (d : Unit) : BI.Storable (upEmb : UEmb _ 𝕄) ((once osem amt pay hamt).payload g r d) := by
  show BI.Storable upEmb ((cellIdx osem g).elim iprop(emp) fun ck => pay ck.1 ck.2)
  cases cellIdx osem g with
  | none => show BI.Storable upEmb iprop(emp); infer_instance
  | some ck => exact hst.storable ck.1 ck.2

/-! ## What the devices know and hold -/

/-- Every cell's invariant and that its round is open: the same facts on every device. -/
def records (K : Dev nD × Fin n → ℕ) : sProp 𝕄 :=
  iprop((bigSep Finset.univ fun ck : Dev nD × Fin n => cellInv ER (once osem amt pay hamt) (K ck) (kcell osem ck))
    ∗ bigSep Finset.univ fun ck : Dev nD × Fin n => reached ER (kcell osem ck : GSem nD τ sig) 0)

instance records_persistent (K : Dev nD × Fin n → ℕ) : BI.Persistent (records osem amt pay hamt K) := by unfold records; infer_instance

theorem inv_at (K : Dev nD × Fin n → ℕ) (ck : Dev nD × Fin n) :
    records osem amt pay hamt K ⊢ cellInv ER (once osem amt pay hamt) (K ck) (kcell osem ck) := by
  unfold records
  iintro ⟨H, -⟩
  ihave H := (show (bigSep Finset.univ fun ck : Dev nD × Fin n => cellInv ER (once osem amt pay hamt) (K ck) (kcell osem ck))
      ⊢ (cellInv ER (once osem amt pay hamt) (K ck) (kcell osem ck) : sProp 𝕄) from bigSep_elim (Finset.mem_univ ck)) $$ H
  iexact H
theorem reached_at (K : Dev nD × Fin n → ℕ) (ck : Dev nD × Fin n) :
    records osem amt pay hamt K ⊢ reached ER (kcell osem ck : GSem nD τ sig) 0 := by
  unfold records
  iintro ⟨-, H⟩
  ihave H := (show (bigSep Finset.univ fun ck : Dev nD × Fin n => reached ER (kcell osem ck : GSem nD τ sig) 0)
      ⊢ (reached ER (kcell osem ck : GSem nD τ sig) 0 : sProp 𝕄) from bigSep_elim (Finset.mem_univ ck)) $$ H
  iexact H

-- Device `dst k c` is where device `c`'s copy of cell `k` lands.
variable (dst : Fin n → Dev nD ≃ Dev nD)

/-- What device `c` owes for the copies `R` to its peers' receive cells. -/
def owed (R : Finset (Fin n)) (c : Dev nD) : CellTallies nD τ sig Unit := ∑ k ∈ R, tallyAt (kcell osem (dst k c, k)) () (amt k)

theorem owed_empty (c : Dev nD) : owed osem amt dst ∅ c = (0 : CellTallies nD τ sig Unit) := Finset.sum_empty

theorem owed_erase (R : Finset (Fin n)) (k : Fin n) (hk : k ∈ R) (c : Dev nD) :
    owed osem amt dst R c = owed osem amt dst (R.erase k) c + (tallyAt (kcell osem (dst k c, k)) () (amt k) : CellTallies nD τ sig Unit) :=
  (Finset.sum_erase_add R _ hk).symm

theorem owed_pos {R : Finset (Fin n)} {c : Dev nD} {g : GSem nD τ sig} {u : Unit} (h : 0 < owed osem amt dst R c g u) :
    ∃ k ∈ R, g = kcell osem (dst k c, k) := by
  by_contra hn
  unfold owed at h
  rw [Finset.sum_apply, Finsupp.finsetSum_apply, Finset.sum_eq_zero] at h
  · exact Nat.lt_irrefl 0 h
  intro k hk
  rw [tallyAt_apply, if_neg fun h' => hn ⟨k, hk, h'.1⟩]

/-- The right to pay cell `k` of device `dst k c`, for every `k`. -/
def payToks (c : Dev nD) : sProp 𝕄 := bigSep Finset.univ fun k : Fin n => dutyTok ER (kcell osem (dst k c, k) : GSem nD τ sig) 0 ()
def positions (c : Dev nD) : sProp 𝕄 := bigSep Finset.univ fun k : Fin n => atPos ER (kcell osem (c, k) : GSem nD τ sig) 0 ∅ 0
def credits (R : Finset (Fin n)) (c : Dev nD) : sProp 𝕄 := bigSep R fun k : Fin n => cred (tallyAt (kcell osem (c, k) : GSem nD τ sig) () (amt k))

/-- A device's start: the shared facts, its own cells' positions, its copies' duties, its receive cells' credit. -/
def ready (R : Finset (Fin n)) (c : Dev nD) : sProp 𝕄 :=
  iprop((∃ K, records osem amt pay hamt K) ∗ positions osem c ∗ payToks osem dst c ∗ credits osem amt R c)

/-! ## The launch -/

def cells (hos : Function.Injective osem) : Finset (GSem nD τ sig) := Finset.univ.map ⟨kcell osem, kcell_injective osem hos⟩
def duties (hos : Function.Injective osem) : Finset (GSem nD τ sig × ℕ × Unit) :=
  Finset.univ.map ⟨fun ck : Dev nD × Fin n => (kcell osem ck, 0, ()), fun _ _ h => kcell_injective osem hos (congrArg Prod.fst h)⟩

/-- What the ghost state's launch element gives. -/
def funded : sProp 𝕄 :=
  iprop((bigSep Finset.univ fun ck : Dev nD × Fin n => roundState ER (once osem amt pay hamt) (kcell osem ck) 0)
    ∗ (bigSep Finset.univ fun ck : Dev nD × Fin n => reached ER (kcell osem ck : GSem nD τ sig) 0)
    ∗ (bigSep Finset.univ fun ck : Dev nD × Fin n => atPos ER (kcell osem ck : GSem nD τ sig) 0 ∅ 0)
    ∗ bigSep Finset.univ fun ck : Dev nD × Fin n => dutyTok ER (kcell osem ck : GSem nD τ sig) 0 ())

theorem fund_once : BI.own (ER (initOf (cells osem hos) (duties osem hos))) ⊢ (|==> funded osem amt pay hamt : sProp 𝕄) := by
  iintro HX
  imod (Rounds.fund ER (once osem amt pay hamt) (cells osem hos) (duties osem hos)) $$ HX with ⟨Hst, Hr, Hat, Htok⟩
  imodintro
  unfold cells duties
  simp only [bigSep_map]
  unfold funded
  isplitl [Hst]; · iexact Hst
  isplitl [Hr]; · iexact Hr
  isplitl [Hat]; · iexact Hat
  iexact Htok

theorem alloc_cells :
    iprop((bigSep Finset.univ fun ck : Dev nD × Fin n => semVal (kcell osem ck : GSem nD τ sig) 0)
        ∗ bigSep Finset.univ fun ck : Dev nD × Fin n => roundState ER (once osem amt pay hamt) (kcell osem ck) 0)
      ⊢ (|={Set.univ}=> bigSep Finset.univ fun ck : Dev nD × Fin n => iprop(∃ κ : ℕ, cellInv ER (once osem amt pay hamt) κ (kcell osem ck)) : sProp 𝕄) := by
  rw [← bigSep_sep']
  exact (bigSep_mono fun ck _ => (Rounds.body_intro ER (once osem amt pay hamt) (kcell osem ck)).trans inv_alloc).trans (bigSep_fupd _ _)

/-- The duty tokens, dealt to whoever pays. -/
theorem toks_around :
    (bigSep Finset.univ fun ck : Dev nD × Fin n => (dutyTok ER (kcell osem ck : GSem nD τ sig) 0 () : sProp 𝕄)) = bigSep Finset.univ (payToks osem dst) := by
  unfold payToks
  rw [bigSep_univ_prod, BI.bigSep_univ_comm, BI.bigSep_univ_comm (fun (c : Dev nD) (k : Fin n) => (dutyTok ER (kcell osem (dst k c, k) : GSem nD τ sig) 0 () : sProp 𝕄))]
  exact bigSep_congr fun k _ => bigSep_univ_equiv (dst k) fun c : Dev nD => (dutyTok ER (kcell osem (c, k) : GSem nD τ sig) 0 () : sProp 𝕄)

theorem credits_intro (R : Finset (Fin n)) (c : Dev nD) : (launchCred (owed osem amt dst R) c : sProp 𝕄) ⊢ credits osem amt R c := by
  unfold credits
  refine (Entails.of_eq (launchCred_sum R (fun k d => tallyAt (kcell osem (dst k d, k)) () (amt k)) c)).trans (bigSep_mono fun k _ => ?_)
  exact launchCred_tallyAt (osem k) (dst k) (dst k).symm (dst k).apply_symm_apply (dst k).symm_apply_apply () (amt k) c

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The protocol dealt: from every device's own semaphores at zero, the funded ghost state and the launch credit. -/
theorem ready_intro (R : Finset (Fin n)) :
    iprop((bigSep Finset.univ fun c : Dev nD => ownSems0 osem c) ∗ funded osem amt pay hamt
        ∗ bigSep Finset.univ fun c : Dev nD => launchCred (owed osem amt dst R) c)
      ⊢ (|={Set.univ}=> bigSep Finset.univ (ready osem amt pay hamt dst R) : sProp 𝕄) := by
  unfold funded
  rw [toks_around osem dst]
  iintro ⟨Hs, ⟨Hst, Hr, Hat, Htok⟩, Hcr⟩
  imod (alloc_cells osem amt pay hamt) $$ [Hs Hst] with HI
  · isplitl [Hs]
    · rw [bigSep_univ_prod]; iexact Hs
    · iexact Hst
  imodintro
  ihave HK := (BI.bigSep_exists_pi Finset.univ (fun (ck : Dev nD × Fin n) (κ : ℕ) => (cellInv ER (once osem amt pay hamt) κ (kcell osem ck) : sProp 𝕄))) $$ HI
  icases HK with ⟨%K, HI⟩
  ihave Hat' := (Entails.of_eq (bigSep_univ_prod fun ck : Dev nD × Fin n => (atPos ER (kcell osem ck : GSem nD τ sig) 0 ∅ 0 : sProp 𝕄))) $$ Hat
  iapply (bigSep_with_persistent (R := records osem amt pay hamt K)
    (Φ := fun c => iprop(positions osem c ∗ payToks osem dst c ∗ launchCred (owed osem amt dst R) c)) fun c _ => by
      unfold ready
      iintro ⟨#HR, Hp, Ht, Hc⟩
      isplitr; · iexists K; iexact HR
      isplitl [Hp]; · iexact Hp
      isplitl [Ht]; · iexact Ht
      iapply (credits_intro osem amt dst R c); iexact Hc)
  isplitl [HI Hr]
  · unfold records; isplitl [HI] <;> iassumption
  simp only [bigSep_sep']
  isplitl [Hat']; · unfold positions; iexact Hat'
  isplitl [Htok]; · iexact Htok
  iexact Hcr

/-! ## The levels -/

def L (g : GSem nD τ sig) : Finset Unit := if g.1.2 = .tc then {()} else ∅
theorem L_of_ne (g : GSem nD τ sig) (h : g.1.2 ≠ .tc) : L g = ∅ := if_neg h

variable (lvl : Fin n → ℕ)
def lv (g : GSem nD τ sig) (_ : Unit) : ℕ := (cellIdx osem g).elim 0 fun ck => lvl ck.2

include hos in
theorem lv_kcell (ck : Dev nD × Fin n) (u : Unit) : lv osem lvl (kcell osem ck : GSem nD τ sig) u = lvl ck.2 := by
  unfold lv; rw [cellIdx_kcell osem hos]; rfl

include hos in
/-- A device may wait on a cell lower than every one it still owes. -/
theorem mayWait (R : Finset (Fin n)) (c : Dev nD) (k : Fin n) (h : ∀ k' ∈ R, lvl k < lvl k') :
    (levAts L (lv osem lvl) : sProp 𝕄) ⊢ MayWait (c : Thread nD τ) (osem k) () (owed osem amt dst R c) := by
  refine MayOwe.of_cut (L := L) (lev := lv osem lvl) (lvl k)
    (fun p hp => by rw [Finset.mem_singleton.mp hp]; exact Finset.mem_singleton_self _)
    (fun g u hg => by obtain ⟨k', hk', rfl⟩ := owed_pos osem amt dst hg; exact Finset.mem_singleton_self _)
    (fun p hp => by rw [Finset.mem_singleton.mp hp]; exact le_of_eq (lv_kcell osem hos lvl (c, k) ()))
    (fun g u hg => by
      obtain ⟨k', hk', rfl⟩ := owed_pos osem amt dst hg
      rw [lv_kcell osem hos lvl]; exact h k' hk')

/-! ## Copies and waits -/

section Rules

variable {Λ : Labels} {defs : Defs nD τ sig Val Λ} (𝒱 : Variants)
variable {α : Type} {sp sp' : Space} {s : Shape} {e : EltTy}

include hos in
/-- Device `c` copies to device `c'`: its send cell `kS` gets its own share back, the receive cell `kR` of `c'` the landed copy. -/
theorem wp_send_once (K : Dev nD × Fin n → ℕ) (c c' : Dev nD) (kS kR : Fin n) (R : Finset (Fin n)) (hR : kR ∈ R)
    (hS : dst kS c = c) (hc' : dst kR c = c') {sS sem : SemLoc sig} (hsS : osem kS = sS) (hsem' : osem kR = sem)
    {src : Memref sig (c : Thread nD τ).2.kind sp s e} {dm : Memref sig (c' : Thread nD τ).2.kind sp' s e} {hsc : dm.view.ref.isScScratch = false}
    {hsrc : src.view.WordExact} {hdst : dm.view.WordExact} {hsem : DmaTarget.Typed sp sem (.remote (c' : Thread nD τ) dm sS hsc)} {Q : α → sProp 𝕄}
    {k : PUnit → Prog (TpuEff nD τ sig Val Λ (c : Thread nD τ).2) α} {q : PosShare TreeShare}
    {fs : Buf Val (src.view.loc (c : Thread nD τ))} {fd : Buf Val (dm.view.loc (c' : Thread nD τ))} {W : Waits sig Unit}
    (hN : dm.view.amount sem = amt kR) (hNS : amt kS = amt kR)
    (hpay₁ : (src.view.loc (c : Thread nD τ) ↦[src.view.set]{q} fs) ⊢ (pay c kS : sProp 𝕄))
    (hpay₂ : (dm.view.loc (c' : Thread nD τ) ↦[dm.view.set]{fullShare} (dm.view.write Val fd (src.view.read Val fs) Finset.univ)) ⊢ (pay c' kR : sProp 𝕄))
    (hr : τ.routes (c : Thread nD τ) (c' : Thread nD τ) = true) :
    iprop(records osem amt pay hamt K ∗ (src.view.loc (c : Thread nD τ) ↦[src.view.set]{q} fs) ∗ (dm.view.loc (c' : Thread nD τ) ↦[dm.view.set]{fullShare} fd)
        ∗ owes (c : Thread nD τ) (owed osem amt dst R c) W
        ∗ dutyTok ER (kcell osem (dst kS c, kS) : GSem nD τ sig) 0 () ∗ dutyTok ER (kcell osem (dst kR c, kR) : GSem nD τ sig) 0 ())
      ⊢ iprop(((cred (tallyAt (kcell osem (c, kS) : GSem nD τ sig) () (amt kS)) ∗ owes (c : Thread nD τ) (owed osem amt dst (R.erase kR) c) W)
            -∗ wp frame (wpE defs 𝒱 (c : Thread nD τ) none) Set.univ (k ⟨⟩) Q)
          -∗ wp frame (wpE defs 𝒱 (c : Thread nD τ) none) Set.univ (.op (.enqueueDma src (.remote (c' : Thread nD τ) dm sS hsc) sem hsrc hdst hsem) k) Q) := by
  subst hc' hsS hsem'
  rw [hS, hNS]
  have hrule := Rounds.wp_send_pointsTo (defs := defs) (Γ := .empty) 𝒱 ER (once osem amt pay hamt) (c : Thread nD τ) none (c' := (dst kR c : Thread nD τ)) (src := src) (dst := dm) (hsc := hsc)
    (sS := osem kS) (sem := osem kR) (hsrc := hsrc) (hdst := hdst) (hsem := hsem) (k := k) (Q := Q) (q := q) (fs := fs) (fd := fd) (r₁ := 0) (r₂ := 0) (d₁ := ()) (d₂ := ())
    (κ₁ := K (c, kS)) (κ₂ := K (dst kR c, kR)) (mem_duties osem amt pay hamt (kcell osem (c, kS))) (mem_duties osem amt pay hamt (kcell osem (dst kR c, kR)))
    () () (amt kR) hN ((amount_eq osem amt pay hos hamt (c, kS) ()).trans hNS) (amount_eq osem amt pay hos hamt (dst kR c, kR) ())
    (owed osem amt dst (R.erase kR) c) (owed_erase osem amt dst R kR hR c) (W := W)
    (hpay₁.trans (Entails.of_eq (payload_eq osem amt pay hos hamt (c, kS) ()).symm))
    (hpay₂.trans (Entails.of_eq (payload_eq osem amt pay hos hamt (dst kR c, kR) ()).symm)) (Es := Set.univ) hr
  iintro ⟨#HR, Hsrc, Hdst, HO, HtS, HtR⟩
  iapply hrule
  isplitr; · iapply (inv_at osem amt pay hamt K (c, kS)); iexact HR
  isplitr; · iapply (inv_at osem amt pay hamt K (dst kR c, kR)); iexact HR
  isplitl [Hsrc]; · iexact Hsrc
  isplitl [Hdst]; · iexact Hdst
  isplitl [HO]; · iexact HO
  isplitl [HtS]; · iexact HtS
  isplitr; · iapply (reached_at osem amt pay hamt K (c, kS)); iexact HR
  isplitl [HtR]; · iexact HtR
  iapply (reached_at osem amt pay hamt K (dst kR c, kR)); iexact HR

include hos in
/-- The same, the target device named by another term `c₁`. -/
theorem wp_send_to (K : Dev nD × Fin n → ℕ) (c c₁ c' : Dev nD) (hto : c₁ = c') (kS kR : Fin n) (R : Finset (Fin n)) (hR : kR ∈ R)
    (hS : dst kS c = c) (hc' : dst kR c = c') {sS sem : SemLoc sig} (hsS : osem kS = sS) (hsem' : osem kR = sem)
    {src : Memref sig .tc sp s e} {dm : Memref sig .tc sp' s e} {hsc : dm.view.ref.isScScratch = false}
    {hsrc : src.view.WordExact} {hdst : dm.view.WordExact} {hsem : DmaTarget.Typed sp sem (.remote (c₁ : Thread nD τ) dm sS hsc)} {Q : α → sProp 𝕄}
    {k : PUnit → Prog (TpuEff nD τ sig Val Λ (c : Thread nD τ).2) α} {q : PosShare TreeShare}
    {fs : Buf Val (src.view.loc (c : Thread nD τ))} {fd : Buf Val (dm.view.loc (c' : Thread nD τ))} {W : Waits sig Unit}
    (hN : dm.view.amount sem = amt kR) (hNS : amt kS = amt kR)
    (hpay₁ : (src.view.loc (c : Thread nD τ) ↦[src.view.set]{q} fs) ⊢ (pay c kS : sProp 𝕄))
    (hpay₂ : (dm.view.loc (c' : Thread nD τ) ↦[dm.view.set]{fullShare} (dm.view.write Val fd (src.view.read Val fs) Finset.univ)) ⊢ (pay c' kR : sProp 𝕄))
    (hr : τ.routes (c : Thread nD τ) (c' : Thread nD τ) = true) :
    iprop(records osem amt pay hamt K ∗ (src.view.loc (c : Thread nD τ) ↦[src.view.set]{q} fs) ∗ (dm.view.loc (c' : Thread nD τ) ↦[dm.view.set]{fullShare} fd)
        ∗ owes (c : Thread nD τ) (owed osem amt dst R c) W
        ∗ dutyTok ER (kcell osem (dst kS c, kS) : GSem nD τ sig) 0 () ∗ dutyTok ER (kcell osem (dst kR c, kR) : GSem nD τ sig) 0 ())
      ⊢ iprop(((cred (tallyAt (kcell osem (c, kS) : GSem nD τ sig) () (amt kS)) ∗ owes (c : Thread nD τ) (owed osem amt dst (R.erase kR) c) W)
            -∗ wp frame (wpE defs 𝒱 (c : Thread nD τ) none) Set.univ (k ⟨⟩) Q)
          -∗ wp frame (wpE defs 𝒱 (c : Thread nD τ) none) Set.univ (.op (.enqueueDma src (.remote (c₁ : Thread nD τ) dm sS hsc) sem hsrc hdst hsem) k) Q) := by
  subst hto
  exact wp_send_once osem amt pay hos hamt dst 𝒱 K c c₁ kS kR R hR hS hc' hsS hsem' hN hNS hpay₁ hpay₂ hr

include hos in
/-- Device `c` copies within its own memory: cell `kL` gets the copy and the source's share. -/
theorem wp_copy_once (K : Dev nD × Fin n → ℕ) (c : Dev nD) (kL : Fin n) (hS : dst kL c = c) {sem : SemLoc sig} (hsem' : osem kL = sem)
    {src : Memref sig (c : Thread nD τ).2.kind sp s e} {dm : Memref sig (c : Thread nD τ).2.kind sp' s e}
    {hsrc : src.view.WordExact} {hdst : dm.view.WordExact} {hsem : DmaTarget.Typed (nD := nD) sp sem (.here dm)} {Q : α → sProp 𝕄}
    {k : PUnit → Prog (TpuEff nD τ sig Val Λ (c : Thread nD τ).2) α} {q : PosShare TreeShare}
    {fs : Buf Val (src.view.loc (c : Thread nD τ))} {fd : Buf Val (dm.view.loc (c : Thread nD τ))}
    (hN : dm.view.amount sem = amt kL)
    (hpay : iprop((dm.view.loc (c : Thread nD τ) ↦[dm.view.set]{fullShare} (dm.view.write Val fd (src.view.read Val fs) Finset.univ))
        ∗ (src.view.loc (c : Thread nD τ) ↦[src.view.set]{q} fs)) ⊢ (pay c kL : sProp 𝕄)) :
    iprop(records osem amt pay hamt K ∗ (src.view.loc (c : Thread nD τ) ↦[src.view.set]{q} fs) ∗ (dm.view.loc (c : Thread nD τ) ↦[dm.view.set]{fullShare} fd)
        ∗ dutyTok ER (kcell osem (dst kL c, kL) : GSem nD τ sig) 0 ())
      ⊢ iprop((cred (tallyAt (kcell osem (c, kL) : GSem nD τ sig) () (amt kL))
            -∗ wp frame (wpE defs 𝒱 (c : Thread nD τ) none) Set.univ (k ⟨⟩) Q)
          -∗ wp frame (wpE defs 𝒱 (c : Thread nD τ) none) Set.univ (.op (.enqueueDma src (.here dm) sem hsrc hdst hsem) k) Q) := by
  subst hsem'
  rw [hS]
  have hrule := Rounds.wp_copy_pointsTo (defs := defs) (Γ := .empty) 𝒱 ER (once osem amt pay hamt) (c : Thread nD τ) none (src := src) (dst := dm)
    (sem := osem kL) (hsrc := hsrc) (hdst := hdst) (hsem := hsem) (k := k) (Q := Q) (q := q) (fs := fs) (fd := fd) (r := 0) (d := ())
    (κ := K (c, kL)) (mem_duties osem amt pay hamt (kcell osem (c, kL))) () (amt kL) hN (amount_eq osem amt pay hos hamt (c, kL) ())
    (hpay.trans (Entails.of_eq (payload_eq osem amt pay hos hamt (c, kL) ()).symm)) (Es := Set.univ)
  iintro ⟨#HR, Hsrc, Hdst, HtL⟩
  iapply hrule
  isplitr; · iapply (inv_at osem amt pay hamt K (c, kL)); iexact HR
  isplitl [Hsrc]; · iexact Hsrc
  isplitl [Hdst]; · iexact Hdst
  isplitl [HtL]; · iexact HtL
  iapply (reached_at osem amt pay hamt K (c, kL)); iexact HR

include hos in
/-- Device `c` waits for its cell `k`, owing only cells above it: it gets what the copy hands over, and the cell back at zero. -/
theorem wp_wait_once (K : Dev nD × Fin n → ℕ) (c : Dev nD) (kW : Fin n) (R : Finset (Fin n)) (hlev : ∀ k' ∈ R, lvl kW < lvl k')
    {w : TpuEff nD τ sig Val Λ (c : Thread nD τ).2 PUnit}
    (hw : ∀ Kt : PUnit → sProp 𝕄, wpE defs 𝒱 (c : Thread nD τ) none Set.univ w Kt = waitSpec (c : Thread nD τ) Set.univ (osem kW) (amt kW) Kt) {Q : α → sProp 𝕄}
    {k : PUnit → Prog (TpuEff nD τ sig Val Λ (c : Thread nD τ).2) α} {W : Waits sig Unit} :
    iprop(records osem amt pay hamt K ∗ levAts L (lv osem lvl) ∗ cred (tallyAt (kcell osem (c, kW) : GSem nD τ sig) () (amt kW))
        ∗ owes (c : Thread nD τ) (owed osem amt dst R c) W ∗ atPos ER (kcell osem (c, kW) : GSem nD τ sig) 0 ∅ 0)
      ⊢ iprop(((owes (c : Thread nD τ) (owed osem amt dst R c) (insert (osem kW, ()) W) ∗ pay c kW ∗ semVal (kcell osem (c, kW) : GSem nD τ sig) 0)
            -∗ wp frame (wpE defs 𝒱 (c : Thread nD τ) none) Set.univ (k ⟨⟩) Q)
          -∗ wp frame (wpE defs 𝒱 (c : Thread nD τ) none) Set.univ (.op w k) Q) := by
  have hrule := Rounds.wp_wait_rest_token (defs := defs) (Γ := .empty) 𝒱 ER (once osem amt pay hamt) (c : Thread nD τ) none (κ := K (c, kW)) (w := w) (sm := osem kW) (k' := amt kW)
      hw (Set.mem_univ _) (k := k) (Q := Q) () (O := owed osem amt dst R c) (W := W) (R := 0) (m := 0) (T := ∅)
      ((Nat.zero_add _).trans (expect_eq osem amt pay hos hamt (c, kW)).symm)
  iintro ⟨#HR, #HL, Hcr, HO, Hat⟩ Hk
  ihave #HI := (inv_at osem amt pay hamt K (c, kW)) $$ HR
  iapply hrule $$ [Hcr HO Hat]
  · isplitr; · iexact HI
    isplitl [Hcr]; · iexact Hcr
    isplitl [HO]; · iexact HO
    isplitr; · iapply (mayWait osem amt hos dst lvl R c kW hlev); iexact HL
    iexact Hat
  iintro ⟨HO, Hat, -, Hpay⟩
  ihave Hp := (Entails.of_eq (rest_eq osem amt pay hos hamt (c, kW))) $$ Hpay
  iapply (fupd_wp frame (wpE defs 𝒱 (c : Thread nD τ) none) Set.univ _ _)
  imod (Rounds.cell_close ER (once osem amt pay hamt) (g := kcell osem (c, kW)) (κ := K (c, kW)) (Set.mem_univ _) (fun h => h) (R := 0 + 1)
    (duties_later osem amt pay hamt (kcell osem (c, kW)))) $$ [Hat] with Hz
  · isplitr; · iexact HI
    iexact Hat
  imodintro
  iapply Hk
  isplitl [HO]; · iexact HO
  isplitl [Hp]; · iexact Hp
  iexact Hz

include hos in
/-- The same, at a wait that names the copy's two views. -/
theorem wp_drain_once (K : Dev nD × Fin n → ℕ) (c : Dev nD) (kW : Fin n) (R : Finset (Fin n)) (hlev : ∀ k' ∈ R, lvl kW < lvl k')
    {sem : DmaSem sig} (hs : osem kW = .dma sem) {sp sp' : Space} {s' s : Shape} {e' e : EltTy}
    {src : Memref sig (c : Thread nD τ).2.kind sp' s' e'} {κ' : Kind} {dm : Memref sig κ' sp s e} {hsrc : src.view.WordExact} {hdst : dm.view.WordExact}
    (hN : dm.view.dmaCredit = amt kW) {Q : α → sProp 𝕄}
    {k : PUnit → Prog (TpuEff nD τ sig Val Λ (c : Thread nD τ).2) α} {W : Waits sig Unit} :
    iprop(records osem amt pay hamt K ∗ levAts L (lv osem lvl) ∗ cred (tallyAt (kcell osem (c, kW) : GSem nD τ sig) () (amt kW))
        ∗ owes (c : Thread nD τ) (owed osem amt dst R c) W ∗ atPos ER (kcell osem (c, kW) : GSem nD τ sig) 0 ∅ 0)
      ⊢ iprop(((owes (c : Thread nD τ) (owed osem amt dst R c) (insert (osem kW, ()) W) ∗ pay c kW ∗ semVal (kcell osem (c, kW) : GSem nD τ sig) 0)
            -∗ wp frame (wpE defs 𝒱 (c : Thread nD τ) none) Set.univ (k ⟨⟩) Q)
          -∗ wp frame (wpE defs 𝒱 (c : Thread nD τ) none) Set.univ (.op (.waitDma2 sem src dm hsrc hdst) k) Q) :=
  wp_wait_once osem amt pay hos hamt dst lvl 𝒱 K c kW R hlev (fun Kt => by rw [hs, ← hN]; exact wpE_waitDma2_eq 𝒱 (c : Thread nD τ) none Set.univ Kt)

end Rules

/-! ## The run of a call that follows the protocol -/

section Run

variable {Λ₀ : Labels} (cfg : Cfg sig Λ₀) [IsEmpty (Fin cfg.W)]

/-- The call, as the program's one pipeline. -/
abbrev pcs1 : Fin 1 → PCfg sig Λ₀ Val := fun _ => cfg.toPCfg
abbrev adm1 : Dev nD → (p : Fin 1) → (pcs1 (Val := Val) cfg p).Adm := fun _ _ => cfg.toPCfg_adm

theorem bigSep_none {I : Type} [Fintype I] [IsEmpty I] (Φ : I → sProp 𝕄) : bigSep Finset.univ Φ = iprop(emp) := by
  rw [Finset.univ_eq_empty, BI.bigSep_empty]; rfl

theorem bigSep_one (Φ : Fin 1 → sProp 𝕄) : bigSep Finset.univ Φ = Φ 0 := by
  rw [show (Finset.univ : Finset (Fin 1)) = {0} from rfl, bigSep_singleton]

/-- The call's proof data: `S` before its one point and `E` after, the debts `O` paid in between. -/
def dats1 (S E : Dev nD → sProp 𝕄) (O : Dev nD → CellTallies nD τ sig Unit) (p : Fin 1) (c : Dev nD) :
    Dat τ Val Unit ℕ (UU nD τ sig) ℕ (pinD (pcs1 (Val := Val) cfg) (adm1 cfg) c p) c where
  A w := (IsEmpty.false (show Fin cfg.W from w)).elim
  after w := (IsEmpty.false (show Fin cfg.W from w)).elim
  Φ t := if t.val = 0 then S c else E c
  q _ := fullShare
  owed t := if t.val = 0 then O c else 0

section Points
variable {cfg}
variable (S E : Dev nD → sProp (MT nD τ sig Unit Val ℕ (UU nD τ sig) ℕ)) (O : Dev nD → CellTallies nD τ sig Unit) (p : Fin 1) (c : Dev nD)
  (t : Fin ((pinD (pcs1 (Val := Val) cfg) (adm1 cfg) c p).N + 1))
theorem before_Φ (ht : t.val = 0) : (dats1 cfg S E O p c).Φ t = S c := by unfold dats1; exact if_pos ht
theorem after_Φ (ht : t.val ≠ 0) : (dats1 cfg S E O p c).Φ t = E c := by unfold dats1; exact if_neg ht
theorem before_owed (ht : t.val = 0) : (dats1 cfg S E O p c).owed t = O c := by unfold dats1; exact if_pos ht
theorem after_owed (ht : t.val ≠ 0) : (dats1 cfg S E O p c).owed t = 0 := by unfold dats1; exact if_neg ht
end Points

variable (phinj : Function.Injective (PerCore.cellOf (nD := nD) (τ := τ) (pinD (pcs1 (Val := Val) cfg) (adm1 cfg))))
  (hN : cfg.N = 1) (hw : WinFacts cfg.spec) (ho : OwnSemFacts cfg.spec osem)
  (defs₀ : Defs nD τ sig Val Λ₀) (𝒱₀ : Variants)
  (S E : Dev nD → sProp (MT nD τ sig Unit Val ℕ (UU nD τ sig) ℕ)) (R : Finset (Fin n))

/-- What a device enters the call with. -/
def enter (c : Dev nD) : sProp 𝕄 := iprop(ready osem amt pay hamt dst R c ∗ S c ∗ levAts L (lv osem lvl) ∗ scopedBufs (c : Thread nD τ))
/-- What it leaves with. -/
def leave (c : Dev nD) : sProp 𝕄 := iprop(E c ∗ ownSems0 osem c ∗ scopedBufs (c : Thread nD τ))

/-- The body's claim: at every point (there is one) and any names of the cells' invariants. -/
def Body : Prop := ∀ (t : Fin cfg.N) (c : Dev nD) (K : Dev nD × Fin n → ℕ) (W : Waits sig Unit),
  iprop(records osem amt pay hamt K ∗ levAts L (lv osem lvl) ∗ positions osem c ∗ payToks osem dst c ∗ credits osem amt R c
      ∗ owes (c : Thread nD τ) (owed osem amt dst R c) W ∗ S c)
    ⊢ wp frame (wpE defs₀ 𝒱₀ (c : Thread nD τ) none) Set.univ (defs₀ .tc cfg.body (cfg.bodyArgs t (cfg.slots t)))
        fun _ => iprop(E c ∗ ownSems0 osem c ∗ ∃ W', owes (c : Thread nD τ) (0 : CellTallies nD τ sig Unit) W')

include hN in
theorem body_obligation (hbody : Body osem amt pay hamt dst lvl cfg defs₀ 𝒱₀ S E R) (c : Dev nD) :
    BodyObligation (dats1 cfg (enter osem amt pay hamt dst lvl S R) (leave osem E) (owed osem amt dst R) 0 c) defs₀ 𝒱₀ () Set.univ := by
  intro t
  have ht : t.val = 0 := by have h1 := t.isLt; have h2 : (pinD (pcs1 (Val := Val) cfg) (adm1 cfg) c 0).N = 1 := hN; omega
  have h0 : t.castSucc.val = 0 := ht
  have h1 : t.succ.val ≠ 0 := by rw [Fin.val_succ]; exact Nat.succ_ne_zero _
  unfold Dat.owesAt Pipeline.owesWithin
  rw [before_Φ _ _ _ _ _ _ h0, after_Φ _ _ _ _ _ _ h1, before_owed _ _ _ _ _ _ h0, after_owed _ _ _ _ _ _ h1]
  unfold enter ready
  iintro ⟨⟨⟨⟨%K, HR⟩, Hp, Ht, Hc⟩, HS, HL, Hsc⟩, ⟨%W, -, HO⟩, -⟩
  ihave H := (hbody t c K W) $$ [HR HL Hp Ht Hc HO HS]
  · isplitl [HR]; · iexact HR
    isplitl [HL]; · iexact HL
    isplitl [Hp]; · iexact Hp
    isplitl [Ht]; · iexact Ht
    isplitl [Hc]; · iexact Hc
    isplitl [HO]; · iexact HO
    iexact HS
  iapply (wp_wand frame _ _) $$ H
  iintro %_ ⟨HE, Hs, ⟨%W', HO⟩⟩
  unfold leave
  isplitl [HE Hs Hsc]
  · isplitl [HE]; · iexact HE
    isplitl [Hs] <;> iassumption
  isplitl [HO]
  · iexists W'; isplitr; · ipureintro; exact fun _ _ => Or.inl trivial
    iexact HO
  haveI : IsEmpty (Fin (pinD (pcs1 (Val := Val) cfg) (adm1 cfg) c 0).W) := inferInstanceAs (IsEmpty (Fin cfg.W))
  rw [bigSep_none]
  iempintro

/-- The ghost state the call is launched with. -/
def ghost0 : UU nD τ sig :=
  (initOf (PerCore.cells (pinD (pcs1 (Val := Val) cfg) (adm1 cfg)) phinj) (PerCore.launchToks (pinD (pcs1 (Val := Val) cfg) (adm1 cfg)) phinj),
    initOf (cells osem hos) (duties osem hos))

/-- What a device has at the start of `@main`. -/
def atStart (c : Dev nD) : sProp 𝕄 :=
  iprop(ready osem amt pay hamt dst R c ∗ S c ∗ owes (c : Thread nD τ) (owed osem amt dst R c) ∅ ∗ scopedBufs (c : Thread nD τ)
    ∗ (PerCore.cellsSems0 (pinD (pcs1 (Val := Val) cfg) (adm1 cfg)) 0 c ∗ PerCore.idleSems0 (pinD (pcs1 (Val := Val) cfg) (adm1 cfg)) phinj 0 (fun _ => ho) c) ∗ opIdle (c : Thread nD τ))

include hw in
theorem deal (m : (ℓ : Loc nD τ sig) → Buf Val ℓ)
    (hsplit : (bigSep Finset.univ fun c : Dev nD => unscopedBufs c (fun b => m ((c : Thread nD τ).loc b))) ⊢ (bigSep Finset.univ S : sProp 𝕄)) :
    iprop((bigSep Finset.univ fun c : Dev nD => OpenLaunch.dealt (owed osem amt dst R) m c) ∗ funded osem amt pay hamt ∗ levAts L (lv osem lvl))
      ⊢ |={Set.univ}=> bigSep Finset.univ (atStart osem amt pay hamt dst cfg phinj ho S R) := by
  have h1 (c : Dev nD) : (OpenLaunch.dealt (owed osem amt dst R) m c : sProp 𝕄)
      ⊢ iprop(ownSems0 osem c ∗ launchCred (owed osem amt dst R) c ∗ unscopedBufs c (fun b => m ((c : Thread nD τ).loc b))
        ∗ owes (c : Thread nD τ) (owed osem amt dst R c) ∅ ∗ scopedBufs (c : Thread nD τ)
        ∗ (PerCore.cellsSems0 (pinD (pcs1 (Val := Val) cfg) (adm1 cfg)) 0 c ∗ PerCore.idleSems0 (pinD (pcs1 (Val := Val) cfg) (adm1 cfg)) phinj 0 (fun _ => ho) c) ∗ opIdle (c : Thread nD τ)) := by
    unfold OpenLaunch.dealt
    iintro ⟨Hb, Hub, -, HO, Hcr⟩
    ihave Hb := (show (boundary (c : Thread nD τ) : sProp 𝕄) ⊢ iprop(scopedBufs (c : Thread nD τ) ∗ scopedSems0 (c : Thread nD τ) ∗ opIdle (c : Thread nD τ)) from BI.Entails.refl _) $$ Hb
    icases Hb with ⟨Hsc, Hss, Hop⟩
    ihave Hss := (Entails.of_eq (PerCore.scopedSems0_split (pinD (pcs1 (Val := Val) cfg) (adm1 cfg)) phinj 0 (fun _ => hw.to₀) (fun _ => ho) c)) $$ Hss
    icases Hss with ⟨⟨Hcs, Hos⟩, Hid⟩
    isplitl [Hos]; · iexact Hos
    isplitl [Hcr]; · iexact Hcr
    isplitl [Hub]; · iexact Hub
    isplitl [HO]; · iexact HO
    isplitl [Hsc]; · iexact Hsc
    isplitl [Hcs Hid]
    · isplitl [Hcs] <;> iassumption
    iexact Hop
  iintro ⟨Hd, HG, -⟩
  ihave H := (show (bigSep Finset.univ fun c : Dev nD => OpenLaunch.dealt (owed osem amt dst R) m c) ⊢ (_ : sProp 𝕄) from
    bigSep_mono (s := Finset.univ) fun c _ => h1 c) $$ Hd
  simp only [bigSep_sep']
  icases H with ⟨Hos, Hcr, Hub, HO, Hsc, Hsm, Hop⟩
  imod (ready_intro osem amt pay hamt dst R) $$ [Hos HG Hcr] with HR
  · isplitl [Hos]; · iexact Hos
    isplitl [HG] <;> iassumption
  imodintro
  unfold atStart
  simp only [bigSep_sep']
  isplitl [HR]; · iexact HR
  isplitl [Hub]; · iapply hsplit; iexact Hub
  isplitl [HO]; · iexact HO
  isplitl [Hsc]; · iexact Hsc
  isplitl [Hsm]; · iexact Hsm
  iexact Hop

include hos hN hw in
theorem run_call [∀ e, Nonempty (Val e)] (hbody : Body osem amt pay hamt dst lvl cfg defs₀ 𝒱₀ S E R) (c : Dev nD) :
    iprop(atStart osem amt pay hamt dst cfg phinj ho S R c ∗ levAts L (lv osem lvl) ∗ OpenLaunch.stagingGhost (pcs1 (Val := Val) cfg) (adm1 cfg) EP c)
      ⊢ wp frame (wpE (Pipeline.defs (pcs1 (Val := Val) cfg) defs₀) (Variants.lift 𝒱₀) (c : Thread nD τ) none) Set.univ
          (Prog.op (.customCall (Pipeline.entry (0 : Fin 1)) ()) fun u => Prog.ret u)
          fun _ => iprop((E c ∗ boundary (c : Thread nD τ)) ∗ ∃ W, owes (c : Thread nD τ) (0 : CellTallies nD τ sig Unit) W) := by
  haveI : IsEmpty (Fin (pinD (pcs1 (Val := Val) cfg) (adm1 cfg) c 0).W) := inferInstanceAs (IsEmpty (Fin cfg.W))
  haveI : IsEmpty (Fin (pcs1 (Val := Val) cfg 0).pre.K) := inferInstanceAs (IsEmpty (Fin 0))
  have hstg : (Dat.staging (pinD (pcs1 (Val := Val) cfg) (adm1 cfg) c 0) c : sProp 𝕄) = iprop(emp) := bigSep_none _
  have hpre : (prefHeld (pcs1 (Val := Val) cfg 0).pre c (fun _ => fullShare.right) (adm1 cfg c 0).1 : sProp 𝕄) = iprop(emp) := bigSep_none _
  have hspl := PerCore.scopedSems0_split (Ix := Unit) (Name := ℕ) (U := UU nD τ sig) (Lvl := ℕ) (Val := Val)
    (pinD (pcs1 (Val := Val) cfg) (adm1 cfg)) phinj 0 (fun _ => hw.to₀) (fun _ => ho) c
  let D := dats1 cfg (enter osem amt pay hamt dst lvl S R) (leave osem E) (owed osem amt dst R)
  unfold atStart OpenLaunch.stagingGhost
  rw [bigSep_one, bigSep_one]
  iintro ⟨⟨HR, HS, HO, Hsc, ⟨Hcs, Hid⟩, Hop⟩, #HL, Hg, Ht⟩
  iapply (fupd_wp frame (wpE (Pipeline.defs (pcs1 (Val := Val) cfg) defs₀) (Variants.lift 𝒱₀) (c : Thread nD τ) none) Set.univ _ _)
  imod (PerCore.cellsInit_alloc (pinD (pcs1 (Val := Val) cfg) (adm1 cfg)) D EP phinj 0 c) $$ [Hcs Hg] with ⟨%κ, -, Hinit⟩
  · isplitl [Hcs] <;> iassumption
  imodintro
  iapply (PerCore.wp_customCall_entry_frame (pcs1 (Val := Val) cfg) (adm1 cfg) D () EP κ phinj 0 defs₀ 𝒱₀ (fun _ => fullShare.right) c Set.univ (fun _ _ => Set.mem_univ _)
      (body_obligation osem amt pay hamt dst lvl cfg hN defs₀ 𝒱₀ S E R hbody c).loose (fun w => (IsEmpty.false (show Fin cfg.W from w)).elim) none (fun u h => nomatch h)
      (X := iprop(ready osem amt pay hamt dst R c ∗ S c ∗ levAts L (lv osem lvl))) (Y := E c) (R := scopedBufs (c : Thread nD τ))
      (I := PerCore.idleSems0 (pinD (pcs1 (Val := Val) cfg) (adm1 cfg)) phinj 0 (fun _ => ho) c)
      (by rw [hstg]; iintro H; isplitr; · iempintro
          iexact H)
      (by
        rw [hpre, before_Φ _ _ _ _ _ _ rfl]
        unfold enter
        iintro ⟨⟨H1, H2, H3⟩, -, H4⟩
        isplitl [H1]; · iexact H1
        isplitl [H2]; · iexact H2
        isplitl [H3] <;> iassumption)
      (by
        rw [after_Φ _ _ _ _ _ _ (by rw [Fin.val_last]; exact fun h => absurd (hN.symm.trans h) Nat.one_ne_zero), hspl]
        unfold leave
        iintro ⟨⟨HE, Ho, Hsc⟩, Hc, -, Hi⟩
        isplitl [HE]; · iexact HE
        isplitr [Hsc]
        · isplitr [Hi]
          · isplitl [Hc] <;> iassumption
          · iexact Hi
        iexact Hsc)) $$ [HR HS HO Hsc Hid Hinit Ht]
  · isplitl [HO Hinit Ht]
    · unfold PerCore.EntryPre Dat.owesAt Pipeline.owesWithin
      rw [before_owed _ _ _ _ _ _ rfl]
      isplitr; · unfold Dat.arrays; rw [bigSep_none]; iempintro
      isplitl [HO]
      · iexists ∅; isplitr; · ipureintro; exact fun _ _ => Or.inl trivial
        iexact HO
      isplitr; · unfold PerCore.cellsWaits PerCore.RDat.cellsWaits; rw [bigSep_none]; iempintro
      isplitl [Hinit] <;> iassumption
    isplitr; · rw [hpre]; iempintro
    isplitl [HR HS]
    · isplitl [HR]; · iexact HR
      isplitl [HS]; · iexact HS
      iexact HL
    isplitl [Hid] <;> iassumption
  iintro ⟨Hpost, HE, Hss, Hsc⟩
  rw [wp_ret]; imodintro
  unfold PerCore.EntryPost Dat.owesAt Pipeline.owesWithin
  rw [after_owed _ _ _ _ _ _ (by rw [Fin.val_last]; exact fun h => absurd (hN.symm.trans h) Nat.one_ne_zero)]
  icases Hpost with ⟨-, ⟨%W, -, HO⟩⟩
  isplitr [HO]
  · isplitl [HE]; · iexact HE
    iapply (show iprop(scopedBufs (c : Thread nD τ) ∗ scopedSems0 (c : Thread nD τ) ∗ opIdle (c : Thread nD τ)) ⊢ (boundary (c : Thread nD τ) : sProp 𝕄) from BI.Entails.refl _)
    isplitl [Hsc]; · iexact Hsc
    isplitl [Hss] <;> iassumption
  · iexists W; iexact HO

include hos hN hw ho phinj in
/-- Every weakly fair execution of a program that is one such call terminates, without a fault, at what its devices leave. -/
theorem θ_run_once [∀ e, Nonempty (Val e)] (hbody : Body osem amt pay hamt dst lvl cfg defs₀ 𝒱₀ S E R)
    (m : (ℓ : Loc nD τ sig) → Buf Val ℓ) (g : Dev nD → PrngReg)
    (main : Dev nD → Prog (TpuEff nD τ sig Val (Pipeline.Sig Λ₀ (Fin 1) fun p => (pcs1 (Val := Val) cfg p).Adm) .tc) PUnit)
    (hmain : ∀ c, main c = Prog.op (.customCall (Pipeline.entry (0 : Fin 1)) ()) fun u => Prog.ret u)
    (hsplit : (bigSep Finset.univ fun c : Dev nD => unscopedBufs c (fun b => m ((c : Thread nD τ).loc b))) ⊢ (bigSep Finset.univ S : sProp 𝕄))
    (QY : Dev nD → MemSt nD τ sig Val → Prop)
    (hfin : ∀ c (s' : Phys nD τ sig Val), iprop(E c ∗ SI s') ⊢ (|={Set.univ}=> iprop(⌜QY c s'.mem⌝ ∗ SI s') : sProp 𝕄))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run (Pipeline.defs (pcs1 (Val := Val) cfg) defs₀) (onTc main) ⟨m, fun _ => 0, g⟩ Q :=
  OpenLaunch.θ_run_open (pcs1 (Val := Val) cfg) (adm1 cfg) phinj EP defs₀ 𝒱₀ m g main (owed osem amt dst R) L (lv osem lvl) L_of_ne
    (funded osem amt pay hamt) (ghost0 osem hos cfg phinj)
    (by
      unfold ghost0
      iintro Hu
      ihave H := (ownU_pair _ _) $$ Hu
      icases H with ⟨HP, HX⟩
      imod (fund_once osem amt pay hos hamt) $$ HX with HG
      imodintro
      isplitl [HP] <;> iassumption)
    (atStart osem amt pay hamt dst cfg phinj ho S R) E (deal osem amt pay hamt dst lvl cfg phinj hw ho S R m hsplit)
    (fun c => by rw [hmain c]; exact run_call osem amt pay hos hamt dst lvl cfg phinj hN hw ho defs₀ 𝒱₀ S E R hbody c)
    QY hfin hQ

end Run

end Protocol

end Cert.OneShot

end
-- ==== Proof.Rows.lean ====
/-
# A buffer held row by row

The exchange calls write one row (the first axis's coordinate) of their result per copy. A buffer is the sum of its rows,
a row's view has the row as its element set and reads it, and a written row is the row of any buffer that reads the same.
-/
module

public import Idealize.ShloMosaic.Rules
public import Idealize.ShloMosaic.Lib.Pipeline.Kit
public import Idealize.ShloMosaic.Lib.ValueIdxCoords
public import Idealize.ShloMosaic.Lib.ValueLayout
public import proofs.«01_k».proof.Proof.OneShot

@[expose] public section

section

namespace Cert.Rows

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.OneShot

/-- The elements whose first coordinate is `k`. -/
abbrev rowOf {n a b : ℕ} (k : ℕ) : Finset (⟨3, ![n, a, b]⟩ : Shape).Idx := Finset.univ.filter fun i => (i 0).val = k

/-- A one-row rectangle's elements. -/
theorem rect_row {n a b k : ℕ} {off : Fin 3 → ℕ} (ho : off = ![k, 0, 0])
    (inb : ∀ x, off x + (![1, a, b] : Fin 3 → ℕ) x ≤ (![n, a, b] : Fin 3 → ℕ) x) :
    (Rect.unit (s := ⟨3, ![n, a, b]⟩) off ![1, a, b] inb).set = rowOf k := by
  subst ho
  ext i
  rw [Rect.mem_set_unit, Finset.mem_filter]
  constructor
  · intro h
    have h0 := h 0
    have e : k ≤ (i 0).val ∧ (i 0).val < k + 1 := h0
    exact ⟨Finset.mem_univ _, by omega⟩
  · rintro ⟨-, h⟩ x
    match x with
    | ⟨0, _⟩ => exact ⟨Nat.le_of_eq h.symm, Nat.lt_of_le_of_lt (Nat.le_of_eq h) (Nat.lt_succ_self k)⟩
    | ⟨1, _⟩ => exact ⟨Nat.zero_le _, lt_of_lt_of_eq (i 1).isLt (Nat.zero_add _).symm⟩
    | ⟨2, _⟩ => exact ⟨Nat.zero_le _, lt_of_lt_of_eq (i 2).isLt (Nat.zero_add _).symm⟩

/-- Where a one-row rectangle, its first axis dropped, puts an index. -/
theorem rect_row_emb {n a b : ℕ} (k : Fin n) {off : Fin 3 → ℕ} (ho : off = ![k.val, 0, 0])
    (inb : ∀ x, off x + (![1, a, b] : Fin 3 → ℕ) x ≤ (![n, a, b] : Fin 3 → ℕ) x)
    (hq : (⟨2, ![a, b]⟩ : Shape).numel = (⟨3, ![1, a, b]⟩ : Shape).numel) (y : Fin a) (z : Fin b) :
    (Rect.unit (s := ⟨3, ![n, a, b]⟩) off ![1, a, b] inb).emb (Shape.reshapeEquiv hq (ix2 y z)) = ix3 k y z := by
  subst ho
  rw [reshapeEquiv_ix2_1ab]
  funext x
  refine Fin.ext ?_
  match x with
  | ⟨0, _⟩ => exact Nat.add_zero _
  | ⟨1, _⟩ => exact (Nat.zero_add _).trans (Nat.one_mul _)
  | ⟨2, _⟩ => exact (Nat.zero_add _).trans (Nat.one_mul _)

section Logic

variable {nD : Nat} {τ : Topo} {sig : RefSig} {Val : EltTy → Type}

local notation "𝕄" => MT nD τ sig Unit Val ℕ (UU nD τ sig) ℕ

/-- A buffer is the sum of its rows, listed in any order. -/
theorem by_rows {ℓ : Loc nD τ sig} {q : PosShare TreeShare} {f : Buf Val ℓ} {n : ℕ} (g : Idx ℓ → ℕ) (φ : Fin n → ℕ)
    (hφ : Function.Injective φ) (hg : ∀ i, ∃ k, g i = φ k) :
    (ℓ ↦{q} f : sProp 𝕄) = bigSep Finset.univ fun k : Fin n => ℓ ↦[Finset.univ.filter fun i => g i = φ k]{q} f := by
  rw [← pointsTo_biUnion]
  · congr 1
    ext i
    simp only [Finset.mem_univ, Finset.mem_biUnion, Finset.mem_filter, true_and, true_iff]
    exact hg i
  · intro k _ k' _ hk
    rw [Finset.disjoint_left]
    intro i hi hi'
    exact hk (hφ ((Finset.mem_filter.mp hi).2.symm.trans (Finset.mem_filter.mp hi').2))

/-- What is written through a view is, on the view's elements, any contents that read the same through it. -/
theorem written {κ : Kind} {sp : Space} {s : Shape} {e : EltTy} (v : View sig κ sp s e) (f g : v.ty.Contents Val)
    (w : s.Idx → Val e) (hw : v.read Val g = w) : ∀ i ∈ v.set, v.write Val f w Finset.univ i = g i := by
  intro i hi
  obtain ⟨x, -, rfl⟩ := Finset.mem_map.mp hi
  rw [View.write_emb_of_mem _ _ (Finset.mem_univ x), ← hw, View.read_apply, cast_cast, cast_eq]

/-- A buffer in two halves. -/
theorem halves {ℓ : Loc nD τ sig} {S : Finset (Idx ℓ)} {q : PosShare TreeShare} {f : Buf Val ℓ} :
    (ℓ ↦[S]{q} f : sProp 𝕄) ⊣⊢ iprop((ℓ ↦[S]{q.left} f) ∗ ℓ ↦[S]{q.right} f) :=
  pointsTo_share (PosShare.mem_left_op_right q)

end Logic

end Cert.Rows

end
-- ==== Proof.AlltoallRun.lean ====
/-
# The exchange between the chips

Each device copies row `chip c` of its array into the same row of its result, and row `chip d` of it into row `chip c`
of the result of `d`, for the device `d` of the same core on each other chip. Then it waits for the three copies into
its result, for its three sends and for its own copy. Protocol, per device `c` (`peer k c` is the device whose chip
number differs from `c`'s in the bits of `k`):

* cells 0, 1, 2 (send): raised by `c`'s remote copy to `peer 1 c`, `peer 2 c`, `peer 3 c`; hands back the row it read;
* cells 3, 4, 5 (receive): raised by the copy of that peer; hands over the peer's row of `c`'s result, written;
* cell 6 (local): raised by `c`'s own copy; hands over `c`'s row of its result, written, and the row it read.

Device `c` starts with its array and with row `chip c` of its own result and of its peers'.
-/
module

public import proofs.«01_k».proof.Proof.OneShot
public import proofs.«01_k».proof.Proof.Rows
public import proofs.«01_k».proof.Proof.Gen.AlltoallIdeal
public import proofs.«01_k».proof.Proof.Gen.AlltoallIdeal.Skeleton
public import proofs.«01_k».proof.Proof.Gen.AlltoallIdeal.Launch
public import Idealize.ShloMosaic.Lib.Tactic

@[expose] public section

section

namespace Cert.AlltoallRun

open Cert.AlltoallIdeal Cert.AlltoallIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.OneShot Cert.Rows

variable {F : FTy → Type} [FloatOps F]

local notation "𝕄" => MT nD τ sig Unit (Elt F) ℕ (UU nD τ sig) ℕ

variable (m : (ℓ : Loc nD τ sig) → Buf (Elt F) ℓ) (ρ : Dev nD → PrngReg)

/-! ## The peers and the views -/

/-- The chip a device is on. -/
def chip (c : Dev nD) : Fin 4 := ⟨c.val / 2, by have h : c.val < 8 := c.isLt; omega⟩
/-- The device of the same core on chip `k`. -/
def on (c : Dev nD) (k : Fin 4) : Dev nD := ⟨2 * k.val + c.val % 2, by show _ < 8; omega⟩
/-- The device of the same core whose chip differs in the bits of `k`. -/
def peer (k : Fin 4) (c : Dev nD) : Dev nD := on c ⟨(c.val / 2 ^^^ k.val) % 4, Nat.mod_lt _ (by decide)⟩

theorem peer_zero (c : Dev nD) : peer 0 c = c := by revert c; decide
theorem peer_peer (k : Fin 4) (c : Dev nD) : peer k (peer k c) = c := by revert k c; decide
theorem on_peer (k : Fin 4) (c : Dev nD) : on (peer k c) (chip c) = c := by revert k c; decide
theorem dev1_eq (c : Dev nD) : (⟨k0_dev1 c, k0_dev1_lt c⟩ : Dev nD) = peer 2 c := Fin.ext ((k0_dev1_eq c).trans (by revert c; decide))
theorem dev2_eq (c : Dev nD) : (⟨k0_dev2 c, k0_dev2_lt c⟩ : Dev nD) = peer 1 c := Fin.ext ((k0_dev2_eq c).trans (by revert c; decide))
theorem dev3_eq (c : Dev nD) : (⟨k0_dev3 c, k0_dev3_lt c⟩ : Dev nD) = peer 3 c := Fin.ext ((k0_dev3_eq c).trans (by revert c; decide))

/-- The exchange with the peer of index `k` as a permutation of the devices. -/
def swap (k : Fin 4) : Dev nD ≃ Dev nD := ⟨peer k, peer k, peer_peer k, peer_peer k⟩

abbrev gM : Memref sig .tc .hbm S4x2848x1024 .f32 := Memref.whole main_arg0
abbrev oM : Memref sig .tc .hbm S4x2848x1024 .f32 := Memref.whole main_v1
/-- A row of the array. -/
abbrev sM (off : Fin 3 → ℕ) (inb : ∀ a, off a + S1x2848x1024.size a ≤ S4x2848x1024.size a) : Memref sig .tc .hbm S2848x1024 .f32 :=
  (gM.slice (Rect.unit (s := S4x2848x1024) off S1x2848x1024.size inb) (fun _ => rfl)).squeeze S2848x1024 squeezes_S1x2848x1024_S2848x1024
/-- The row of a result device `c` writes. -/
abbrev rM (c : Dev nD) : Memref sig .tc .hbm S2848x1024 .f32 :=
  (oM.slice (Rect.unit (s := S4x2848x1024) (k0_off1 c) S1x2848x1024.size (k0_off1_inb c)) (fun _ => rfl)).squeeze S2848x1024 squeezes_S1x2848x1024_S2848x1024

theorem off1_chip (c : Dev nD) : k0_off1 c = ![(chip c).val, 0, 0] := (k0_off1_eq c).trans (by revert c; decide)
theorem off1_eq (c : Dev nD) : k0_off1 c = ![(chip (peer 0 c)).val, 0, 0] := (k0_off1_eq c).trans (by revert c; decide)
theorem off2_eq (c : Dev nD) : k0_off2 c = ![(chip (peer 2 c)).val, 0, 0] := (k0_off2_eq c).trans (by revert c; decide)
theorem off3_eq (c : Dev nD) : k0_off3 c = ![(chip (peer 1 c)).val, 0, 0] := (k0_off3_eq c).trans (by revert c; decide)
theorem off4_eq (c : Dev nD) : k0_off4 c = ![(chip (peer 3 c)).val, 0, 0] := (k0_off4_eq c).trans (by revert c; decide)

abbrev gLoc (c : Dev nD) : Loc nD τ sig := (c : Thread nD τ).loc main_arg0
abbrev oLoc (c : Dev nD) : Loc nD τ sig := (c : Thread nD τ).loc main_v1

/-- What device `c`'s result ends with: row `k` is row `chip c` of the array of the device on chip `k`. -/
def out (c : Dev nD) : Buf (Elt F) (oLoc c) := fun i : S4x2848x1024.Idx => (m (gLoc (on c (i 0))) : S4x2848x1024.Idx → F .f32) (ix3 (chip c) (i 1) (i 2))

theorem row_set (c : Dev nD) : (rM c).view.set = rowOf (chip c).val :=
  (View.set_reshape _ _).trans ((View.set_slice_whole _ _).trans (rect_row (off1_chip c) _))

theorem src_set {off : Fin 3 → ℕ} {inb : ∀ a, off a + S1x2848x1024.size a ≤ S4x2848x1024.size a} {k : Fin 4} (h : off = ![k.val, 0, 0]) :
    (sM off inb).view.set = rowOf k.val :=
  (View.set_reshape _ _).trans ((View.set_slice_whole _ _).trans (rect_row h _))

theorem row_read (c d : Dev nD) (h : on d (chip c) = c) {off : Fin 3 → ℕ} {inb : ∀ a, off a + S1x2848x1024.size a ≤ S4x2848x1024.size a}
    (hd : off = ![(chip d).val, 0, 0]) : (rM c).view.read (Elt F) (out m d) = (sM off inb).view.read (Elt F) (m (gLoc c)) := by
  funext i
  obtain ⟨y, z, rfl⟩ : ∃ (y : Fin 2848) (z : Fin 1024), i = ix2 y z := ⟨_, _, eq_ix2 i⟩
  have e : (rM c).view.emb (ix2 y z) = ix3 (chip c) y z := rect_row_emb (chip c) (off1_chip c) _ _ y z
  have e' : (sM off inb).view.emb (ix2 y z) = ix3 (chip d) y z := rect_row_emb (chip d) hd _ _ y z
  show out m d ((rM c).view.emb (ix2 y z)) = m (gLoc c) ((sM off inb).view.emb (ix2 y z))
  rw [e, e']
  show (m (gLoc (on d (chip c))) : S4x2848x1024.Idx → F .f32) (ix3 (chip d) y z) = _
  rw [h]

/-! ## The protocol -/

abbrev osem : Fin 7 → SemLoc sig := fun k => .dma k
abbrev N : ℕ := (rM 0).view.dmaCredit
theorem N_pos : 0 < N := View.dmaCredit_pos _ (by decide)
abbrev amt : Fin 7 → ℕ := fun _ => N
theorem hamt : ∀ k : Fin 7, 0 < amt k := fun _ => N_pos
theorem hos : Function.Injective osem := by decide
theorem ho : OwnSemFacts (cfg0.spec) osem := by decide

/-- Whose cell device `c`'s copies raise: its own send and local cells, its peers' receive cells. -/
abbrev dst : Fin 7 → Dev nD ≃ Dev nD := fun | 3 => swap 2 | 4 => swap 1 | 5 => swap 3 | _ => Equiv.refl _
abbrev lvl : Fin 7 → ℕ := fun _ => 0

/-- The row of device `d`'s result that device `c` writes, at contents `f`. -/
noncomputable abbrev oRow (d c : Dev nD) (f : Buf (Elt F) (oLoc d)) : sProp 𝕄 := oLoc d ↦[(rowOf (chip c).val : Finset S4x2848x1024.Idx)]{fullShare} f
/-- The row of device `c`'s array for device `d`. -/
noncomputable abbrev gRow (c d : Dev nD) : sProp 𝕄 := gLoc c ↦[(rowOf (chip d).val : Finset S4x2848x1024.Idx)]{fullShare} m (gLoc c)

/-- What the cells hand over. -/
noncomputable def pay (c : Dev nD) : Fin 7 → sProp 𝕄 := fun
  | 0 => gRow m c (peer 2 c)
  | 1 => gRow m c (peer 1 c)
  | 2 => gRow m c (peer 3 c)
  | 3 => oRow c (peer 2 c) (out m c)
  | 4 => oRow c (peer 1 c) (out m c)
  | 5 => oRow c (peer 3 c) (out m c)
  | 6 => iprop(oRow c c (out m c) ∗ gRow m c (peer 0 c))

instance : Storing (pay m) where
  storable c k := match k with
    | 0 => by unfold pay; infer_instance
    | 1 => by unfold pay; infer_instance
    | 2 => by unfold pay; infer_instance
    | 3 => by unfold pay; infer_instance
    | 4 => by unfold pay; infer_instance
    | 5 => by unfold pay; infer_instance
    | 6 => by unfold pay; infer_instance

/-- What device `c` starts with and ends with. -/
noncomputable def start (c : Dev nD) : sProp 𝕄 :=
  iprop((gLoc c ↦{fullShare} m (gLoc c)) ∗ oRow c c (m (oLoc c)) ∗ oRow (peer 1 c) c (m (oLoc (peer 1 c)))
    ∗ oRow (peer 2 c) c (m (oLoc (peer 2 c))) ∗ oRow (peer 3 c) c (m (oLoc (peer 3 c))))
noncomputable def finish (c : Dev nD) : sProp 𝕄 := iprop((gLoc c ↦{fullShare} m (gLoc c)) ∗ (oLoc c ↦{fullShare} out m c))

theorem seven_cells (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem four_rows (Φ : Fin 4 → sProp 𝕄) : bigSep Finset.univ Φ = iprop(Φ 0 ∗ Φ 1 ∗ Φ 2 ∗ Φ 3) := bigSep_univ_eq_bigSepL [0, 1, 2, 3] (by decide) (by decide) Φ

theorem sep_all (Φ Ψ : Dev nD → sProp 𝕄) : (bigSep Finset.univ fun c => iprop(Φ c ∗ Ψ c)) = iprop(bigSep Finset.univ Φ ∗ bigSep Finset.univ Ψ) :=
  BI.bigSep_sep _ _ _

theorem chips_inj (c : Dev nD) : Function.Injective fun k : Fin 4 => (chip (peer k c)).val := by revert c; decide
theorem chips_all (c : Dev nD) (x : Fin 4) : ∃ k : Fin 4, x.val = (chip (peer k c)).val := by revert c x; decide

/-- The rows of device `c`'s result: its own and its peers'. -/
theorem rows (c : Dev nD) (f : Buf (Elt F) (oLoc c)) :
    (oLoc c ↦{fullShare} f : sProp 𝕄) = iprop(oRow c c f ∗ oRow c (peer 1 c) f ∗ oRow c (peer 2 c) f ∗ oRow c (peer 3 c) f) := by
  rw [by_rows (n := 4) (fun i : S4x2848x1024.Idx => (i 0).val) (fun k => (chip (peer k c)).val) (chips_inj c) (fun i => chips_all c (i 0)), four_rows,
    show oRow c c f = oRow c (peer 0 c) f by rw [peer_zero]]
  rfl
/-- The rows of device `c`'s array: for itself and for its peers. -/
theorem grad_rows (c : Dev nD) :
    (gLoc c ↦{fullShare} m (gLoc c) : sProp 𝕄) = iprop(gRow m c (peer 0 c) ∗ gRow m c (peer 1 c) ∗ gRow m c (peer 2 c) ∗ gRow m c (peer 3 c)) := by
  rw [by_rows (n := 4) (fun i : S4x2848x1024.Idx => (i 0).val) (fun k => (chip (peer k c)).val) (chips_inj c) (fun i => chips_all c (i 0)), four_rows]
  rfl

/-- A written row is the row of the final result. -/
theorem row_written (c d : Dev nD) (h : on d (chip c) = c) {off : Fin 3 → ℕ} {inb : ∀ a, off a + S1x2848x1024.size a ≤ S4x2848x1024.size a}
    (hd : off = ![(chip d).val, 0, 0]) :
    ((rM c).view.loc (d : Thread nD τ) ↦[(rM c).view.set]{fullShare}
      ((rM c).view.write (Elt F) (m (oLoc d)) ((sM off inb).view.read (Elt F) (m (gLoc c))) Finset.univ)) ⊢ (oRow d c (out m d) : sProp 𝕄) := by
  rw [pointsTo_congr (written (rM c).view _ (out m d) _ (row_read m c d h hd)), row_set]

/-- A row of the array is read. -/
theorem src_row (c d : Dev nD) {off : Fin 3 → ℕ} {inb : ∀ a, off a + S1x2848x1024.size a ≤ S4x2848x1024.size a}
    (hd : off = ![(chip d).val, 0, 0]) :
    ((sM off inb).view.loc (c : Thread nD τ) ↦[(sM off inb).view.set]{fullShare} m (gLoc c)) = (gRow m c d : sProp 𝕄) := by
  rw [src_set hd]

theorem pay_local (c : Dev nD) : iprop(((rM c).view.loc (c : Thread nD τ) ↦[(rM c).view.set]{fullShare}
      ((rM c).view.write (Elt F) (m (oLoc c)) ((sM (k0_off1 c) (k0_off1_inb c)).view.read (Elt F) (m (gLoc c))) Finset.univ))
      ∗ ((sM (k0_off1 c) (k0_off1_inb c)).view.loc (c : Thread nD τ) ↦[(sM (k0_off1 c) (k0_off1_inb c)).view.set]{fullShare} m (gLoc c))) ⊢ (pay m c 6 : sProp 𝕄) := by
  rw [src_row m c (peer 0 c) (off1_eq c)]
  exact sep_mono (row_written m c c (by revert c; decide) (off1_chip c)) (Entails.of_eq rfl)

theorem pay_recv2 (c : Dev nD) : ((rM c).view.loc (peer 2 c : Thread nD τ) ↦[(rM c).view.set]{fullShare}
      ((rM c).view.write (Elt F) (m (oLoc (peer 2 c))) ((sM (k0_off2 c) (k0_off2_inb c)).view.read (Elt F) (m (gLoc c))) Finset.univ)) ⊢ (pay m (peer 2 c) 3 : sProp 𝕄) := by
  refine (row_written m c (peer 2 c) (on_peer 2 c) (off2_eq c)).trans (Entails.of_eq ?_)
  show _ = oRow (peer 2 c) (peer 2 (peer 2 c)) (out m (peer 2 c))
  rw [peer_peer]
theorem pay_recv3 (c : Dev nD) : ((rM c).view.loc (peer 1 c : Thread nD τ) ↦[(rM c).view.set]{fullShare}
      ((rM c).view.write (Elt F) (m (oLoc (peer 1 c))) ((sM (k0_off3 c) (k0_off3_inb c)).view.read (Elt F) (m (gLoc c))) Finset.univ)) ⊢ (pay m (peer 1 c) 4 : sProp 𝕄) := by
  refine (row_written m c (peer 1 c) (on_peer 1 c) (off3_eq c)).trans (Entails.of_eq ?_)
  show _ = oRow (peer 1 c) (peer 1 (peer 1 c)) (out m (peer 1 c))
  rw [peer_peer]
theorem pay_recv4 (c : Dev nD) : ((rM c).view.loc (peer 3 c : Thread nD τ) ↦[(rM c).view.set]{fullShare}
      ((rM c).view.write (Elt F) (m (oLoc (peer 3 c))) ((sM (k0_off4 c) (k0_off4_inb c)).view.read (Elt F) (m (gLoc c))) Finset.univ)) ⊢ (pay m (peer 3 c) 5 : sProp 𝕄) := by
  refine (row_written m c (peer 3 c) (on_peer 3 c) (off4_eq c)).trans (Entails.of_eq ?_)
  show _ = oRow (peer 3 c) (peer 3 (peer 3 c)) (out m (peer 3 c))
  rw [peer_peer]

abbrev R0 : Finset (Fin 7) := {3, 4, 5}
abbrev R1 : Finset (Fin 7) := {4, 5}
abbrev R2 : Finset (Fin 7) := {5}

theorem three_credits (Φ : Fin 7 → sProp 𝕄) : bigSep R0 Φ = iprop(Φ 3 ∗ Φ 4 ∗ Φ 5) := bigSep_eq_bigSepL_of_eq [3, 4, 5] (by decide) (by decide) Φ

theorem body (𝒱 : Variants) : Body osem amt (pay m) hamt dst lvl cfg0 (defs₀ (F := F)) 𝒱 (start m) (finish m) R0 := by
  intro t c K W
  show _ ⊢ wp frame _ _ (cc0_grad_alltoall (F := F) gM (Memref.isWhole_whole _) oM (Memref.isWhole_whole _) cc0_scratch0 cc0_scratch1 cc0_scratch2) _
  simp only [cc0_grad_alltoall_eq_skeleton]
  unfold cc0_grad_alltoall_skel
  simp only [k0_part1_eq_skeleton, k0_part2_eq_skeleton, k0_part3_eq_skeleton, k0_part4_eq_skeleton]
  unfold k0_part1_skel k0_part2_skel k0_part3_skel k0_part4_skel
  simp only [Prog.lift, Prog.bind_op, Prog.bind_ret, Prog.pure_eq_ret, wp_deviceId]
  unfold start finish positions payToks credits ownSems0
  simp only [seven_cells, three_credits]
  rw [grad_rows]
  iintro ⟨#HR, #HL, ⟨Ha0, Ha1, Ha2, Ha3, Ha4, Ha5, Ha6⟩, ⟨Ht0, Ht1, Ht2, Ht3, Ht4, Ht5, Ht6⟩, ⟨Hc3, Hc4, Hc5⟩, HO, ⟨Hg0, Hg1, Hg2, Hg3⟩, Ho, Hp1, Hp2, Hp3⟩
  -- its own copy
  iapply (wp_copy_once osem amt (pay m) hos hamt dst 𝒱 K c 6 rfl rfl (src := sM (k0_off1 c) (k0_off1_inb c)) (dm := rM c) (fs := m (gLoc c)) (fd := m (oLoc c)) (q := fullShare)
    rfl (pay_local m c)) $$ [Hg0 Ho Ht6]
  · isplitr; · iexact HR
    isplitl [Hg0]; · rw [src_row m c (peer 0 c) (off1_eq c)]; iexact Hg0
    isplitl [Ho]; · rw [row_set]; iexact Ho
    iexact Ht6
  iintro Hc6
  -- the copy to peer 2
  iapply (wp_send_to osem amt (pay m) hos hamt dst 𝒱 K c _ (peer 2 c) (dev1_eq c) 0 3 R0 (by decide) rfl rfl rfl rfl
    (src := sM (k0_off2 c) (k0_off2_inb c)) (dm := rM c) (fs := m (gLoc c)) (fd := m (oLoc (peer 2 c))) (q := fullShare) rfl rfl
    (Entails.of_eq (src_row m c (peer 2 c) (off2_eq c))) (pay_recv2 m c) (by routes)) $$ [Hg2 Hp2 HO Ht0 Ht3]
  · isplitr; · iexact HR
    isplitl [Hg2]; · rw [src_row m c (peer 2 c) (off2_eq c)]; iexact Hg2
    isplitl [Hp2]; · rw [row_set]; iexact Hp2
    isplitl [HO]; · iexact HO
    isplitl [Ht0]; · iexact Ht0
    iexact Ht3
  iintro ⟨Hc0, HO⟩
  rw [show R0.erase 3 = R1 from by decide]
  -- the copy to peer 1
  iapply (wp_send_to osem amt (pay m) hos hamt dst 𝒱 K c _ (peer 1 c) (dev2_eq c) 1 4 R1 (by decide) rfl rfl rfl rfl
    (src := sM (k0_off3 c) (k0_off3_inb c)) (dm := rM c) (fs := m (gLoc c)) (fd := m (oLoc (peer 1 c))) (q := fullShare) rfl rfl
    (Entails.of_eq (src_row m c (peer 1 c) (off3_eq c))) (pay_recv3 m c) (by routes)) $$ [Hg1 Hp1 HO Ht1 Ht4]
  · isplitr; · iexact HR
    isplitl [Hg1]; · rw [src_row m c (peer 1 c) (off3_eq c)]; iexact Hg1
    isplitl [Hp1]; · rw [row_set]; iexact Hp1
    isplitl [HO]; · iexact HO
    isplitl [Ht1]; · iexact Ht1
    iexact Ht4
  iintro ⟨Hc1, HO⟩
  rw [show R1.erase 4 = R2 from by decide]
  -- the copy to peer 3
  iapply (wp_send_to osem amt (pay m) hos hamt dst 𝒱 K c _ (peer 3 c) (dev3_eq c) 2 5 R2 (by decide) rfl rfl rfl rfl
    (src := sM (k0_off4 c) (k0_off4_inb c)) (dm := rM c) (fs := m (gLoc c)) (fd := m (oLoc (peer 3 c))) (q := fullShare) rfl rfl
    (Entails.of_eq (src_row m c (peer 3 c) (off4_eq c))) (pay_recv4 m c) (by routes)) $$ [Hg3 Hp3 HO Ht2 Ht5]
  · isplitr; · iexact HR
    isplitl [Hg3]; · rw [src_row m c (peer 3 c) (off4_eq c)]; iexact Hg3
    isplitl [Hp3]; · rw [row_set]; iexact Hp3
    isplitl [HO]; · iexact HO
    isplitl [Ht2]; · iexact Ht2
    iexact Ht5
  iintro ⟨Hc2, HO⟩
  rw [show R2.erase 5 = (∅ : Finset (Fin 7)) from by decide]
  -- the wait for cell 3
  iapply (wp_drain_once osem amt (pay m) hos hamt dst lvl 𝒱 K c 3 ∅ (fun _ h => absurd h (Finset.notMem_empty _)) rfl (dm := rM c) rfl) $$ [Hc3 HO Ha3]
  · isplitr; · iexact HR
    isplitr; · iexact HL
    isplitl [Hc3]; · iexact Hc3
    isplitl [HO]; · iexact HO
    iexact Ha3
  iintro ⟨HO, Hp2, Hz3⟩
  -- the wait for cell 4
  iapply (wp_drain_once osem amt (pay m) hos hamt dst lvl 𝒱 K c 4 ∅ (fun _ h => absurd h (Finset.notMem_empty _)) rfl (dm := rM c) rfl) $$ [Hc4 HO Ha4]
  · isplitr; · iexact HR
    isplitr; · iexact HL
    isplitl [Hc4]; · iexact Hc4
    isplitl [HO]; · iexact HO
    iexact Ha4
  iintro ⟨HO, Hp1, Hz4⟩
  -- the wait for cell 5
  iapply (wp_drain_once osem amt (pay m) hos hamt dst lvl 𝒱 K c 5 ∅ (fun _ h => absurd h (Finset.notMem_empty _)) rfl (dm := rM c) rfl) $$ [Hc5 HO Ha5]
  · isplitr; · iexact HR
    isplitr; · iexact HL
    isplitl [Hc5]; · iexact Hc5
    isplitl [HO]; · iexact HO
    iexact Ha5
  iintro ⟨HO, Hp3, Hz5⟩
  -- the wait for cell 0
  iapply (wp_drain_once osem amt (pay m) hos hamt dst lvl 𝒱 K c 0 ∅ (fun _ h => absurd h (Finset.notMem_empty _)) rfl (dm := sM (k0_off2 c) (k0_off2_inb c)) rfl) $$ [Hc0 HO Ha0]
  · isplitr; · iexact HR
    isplitr; · iexact HL
    isplitl [Hc0]; · iexact Hc0
    isplitl [HO]; · iexact HO
    iexact Ha0
  iintro ⟨HO, Hg2, Hz0⟩
  -- the wait for cell 1
  iapply (wp_drain_once osem amt (pay m) hos hamt dst lvl 𝒱 K c 1 ∅ (fun _ h => absurd h (Finset.notMem_empty _)) rfl (dm := sM (k0_off3 c) (k0_off3_inb c)) rfl) $$ [Hc1 HO Ha1]
  · isplitr; · iexact HR
    isplitr; · iexact HL
    isplitl [Hc1]; · iexact Hc1
    isplitl [HO]; · iexact HO
    iexact Ha1
  iintro ⟨HO, Hg1, Hz1⟩
  -- the wait for cell 2
  iapply (wp_drain_once osem amt (pay m) hos hamt dst lvl 𝒱 K c 2 ∅ (fun _ h => absurd h (Finset.notMem_empty _)) rfl (dm := sM (k0_off4 c) (k0_off4_inb c)) rfl) $$ [Hc2 HO Ha2]
  · isplitr; · iexact HR
    isplitr; · iexact HL
    isplitl [Hc2]; · iexact Hc2
    isplitl [HO]; · iexact HO
    iexact Ha2
  iintro ⟨HO, Hg3, Hz2⟩
  -- the wait for cell 6
  iapply (wp_drain_once osem amt (pay m) hos hamt dst lvl 𝒱 K c 6 ∅ (fun _ h => absurd h (Finset.notMem_empty _)) rfl (dm := rM c) rfl) $$ [Hc6 HO Ha6]
  · isplitr; · iexact HR
    isplitr; · iexact HL
    isplitl [Hc6]; · iexact Hc6
    isplitl [HO]; · iexact HO
    iexact Ha6
  iintro ⟨HO, Ho, Hz6⟩
  rw [wp_ret]; imodintro
  unfold pay
  icases Ho with ⟨Ho, Hg0⟩
  isplitl [Hg0 Hg1 Hg2 Hg3 Ho Hp1 Hp2 Hp3]
  · isplitl [Hg0 Hg1 Hg2 Hg3]
    · isplitl [Hg0]; · iexact Hg0
      isplitl [Hg1]; · iexact Hg1
      isplitl [Hg2] <;> iassumption
    rw [rows]
    isplitl [Ho]; · iexact Ho
    isplitl [Hp1]; · iexact Hp1
    isplitl [Hp2] <;> iassumption
  isplitl [Hz0 Hz1 Hz2 Hz3 Hz4 Hz5 Hz6]
  · isplitl [Hz0]; · iassumption
    isplitl [Hz1]; · iassumption
    isplitl [Hz2]; · iassumption
    isplitl [Hz3]; · iassumption
    isplitl [Hz4]; · iassumption
    isplitl [Hz5] <;> iassumption
  rw [owed_empty]
  iexists _; iexact HO

/-! ## The run -/

theorem around (k : Fin 4) : (bigSep Finset.univ fun c => (oRow c (peer k c) (m (oLoc c)) : sProp 𝕄))
    = bigSep Finset.univ fun c => oRow (peer k c) c (m (oLoc (peer k c))) := by
  rw [bigSep_univ_equiv (swap k) fun c => (oRow c (peer k c) (m (oLoc c)) : sProp 𝕄)]
  congr 1
  funext c
  show oRow (peer k c) (peer k (peer k c)) (m (oLoc (peer k c))) = _
  rw [peer_peer]

theorem start_split : (bigSep Finset.univ fun c : Dev nD => unscopedBufs c (fun b => m ((c : Thread nD τ).loc b))) ⊢ (bigSep Finset.univ (start m) : sProp 𝕄) := by
  have h : ∀ c : Dev nD, (unscopedBufs c (fun b => m ((c : Thread nD τ).loc b)) : sProp 𝕄)
      = iprop((gLoc c ↦{fullShare} m (gLoc c)) ∗ (oLoc c ↦{fullShare} m (oLoc c))) := fun c =>
    bigSep_eq_bigSepL_of_eq [main_arg0, main_v1] (by decide) (by decide) _
  simp only [h, rows]
  unfold start
  simp only [sep_all, around]
  exact .rfl

/-- The run: from any memory every device ends with its array as it was, its result the rows for it, and every
    semaphore at zero. -/
theorem run_main : θ_run (defs (F := F)) (onTc (τ := τ) (main (F := F))) ⟨m, fun _ => 0, ρ⟩
    fun r => (∀ c, r.2.mem (oLoc c) = out m c) ∧ (∀ c, r.2.mem (gLoc c) = m (gLoc c)) ∧ r.2.sem = fun _ => 0 :=
  θ_run_once osem amt (pay m) hos hamt dst lvl cfg0 cellOf_inj N_0 winFacts0 ho (defs₀ (F := F)) Variants.none (start m) (finish m) R0
    (body m _) m ρ main (fun _ => rfl) (start_split m)
    (fun c s => s.mem (oLoc c) = out m c ∧ s.mem (gLoc c) = m (gLoc c))
    (fun c s' => by
      unfold finish
      iintro ⟨⟨Hg, Ho⟩, HSI⟩
      icombine HSI Hg gives %hg
      icombine HSI Ho gives %ho
      imodintro
      isplitr
      · ipureintro; exact ⟨funext fun i => ho i (Finset.mem_univ _), funext fun i => hg i (Finset.mem_univ _)⟩
      iexact HSI)
    (fun s h hs => ⟨fun c => (h c).1, fun c => (h c).2, sem_eq_zero_of_scoped (by decide) hs⟩)

end Cert.AlltoallRun

end
-- ==== Proof.AlltoallValue.lean ====
/-
# The chips' exchange is the reference's

The reference splits the rows into (chip from, core, chip to), exchanges the chips and joins the rows again: row `k` of
device `c`'s part of the result is row `chip c` of the part of the device of the same core on chip `k`. Any element type.
-/
module

public import proofs.«01_k».proof.Proof.AlltoallRun
public import proofs.«01_k».proof.Proof.Gen.AlltoallRefIdeal
public import Idealize.ShloMosaic.Lib.Pipeline.Value
public import Idealize.ShloMosaic.Lib.ValueIdxCoords
public import Idealize.ShloMosaic.Lib.Layout

@[expose] public section

noncomputable section

namespace Cert.AlltoallRun

open Idealize.ShloMosaic Idealize.ShloMosaic.ValueIdx

/-- Device `c`'s block of the rows, read at an index. -/
theorem four_block {α : Type} (Y : (⟨3, ![32, 2848, 1024]⟩ : Shape).Idx → α) (c : Fin 8) (k : Fin 4) (y : Fin 2848) (z : Fin 1024) :
    (Layout.block ⟨3, ![4, 2848, 1024]⟩ ⟨3, ![32, 2848, 1024]⟩ 0 8 c Y) (ix3 k y z) = Y (ix3 ⟨4 * c.val + k.val, by omega⟩ y z) := by
  refine congrArg Y (funext fun a => Fin.ext ?_)
  match a with
  | ⟨0, _⟩ => exact congrArg (· + k.val) (Nat.mul_comm c.val 4)
  | ⟨1, _⟩ => rfl
  | ⟨2, _⟩ => rfl

/-- The rows split by chip from, core and chip to. -/
theorem split_apply {α : Type} (Y : (⟨3, ![32, 2848, 1024]⟩ : Shape).Idx → α) (h : (⟨3, ![32, 2848, 1024]⟩ : Shape).ShapeCasts ⟨5, ![4, 2, 4, 2848, 1024]⟩)
    (p : Fin 4) (q : Fin 2) (r : Fin 4) (y : Fin 2848) (z : Fin 1024) :
    shapeCast ⟨5, ![4, 2, 4, 2848, 1024]⟩ Y h (ix5 p q r y z) = Y (ix3 ⟨8 * p.val + 4 * q.val + r.val, by omega⟩ y z) := by
  refine shapeCast_apply Y h _ _ ?_
  rw [Shape.rowMajor_val_three, Shape.rowMajor_val_five]
  show ((8 * p.val + 4 * q.val + r.val) * 2848 + y.val) * 1024 + z.val = (((p.val * 2 + q.val) * 4 + r.val) * 2848 + y.val) * 1024 + z.val
  omega

/-- The rows joined again. -/
theorem join_apply {α : Type} (Y : (⟨5, ![4, 2, 4, 2848, 1024]⟩ : Shape).Idx → α) (h : (⟨5, ![4, 2, 4, 2848, 1024]⟩ : Shape).ShapeCasts ⟨3, ![32, 2848, 1024]⟩)
    (c : Fin 8) (k : Fin 4) (y : Fin 2848) (z : Fin 1024) :
    shapeCast ⟨3, ![32, 2848, 1024]⟩ Y h (ix3 ⟨4 * c.val + k.val, by omega⟩ y z)
      = Y (ix5 ⟨c.val / 2, by omega⟩ ⟨c.val % 2, by omega⟩ k y z) := by
  refine shapeCast_apply Y h _ _ ?_
  rw [Shape.rowMajor_val_three, Shape.rowMajor_val_five]
  show (((c.val / 2 * 2 + c.val % 2) * 4 + k.val) * 2848 + y.val) * 1024 + z.val = ((4 * c.val + k.val) * 2848 + y.val) * 1024 + z.val
  omega

/-- The chips exchanged. -/
theorem turn_apply {α : Type} (Y : (⟨5, ![4, 2, 4, 2848, 1024]⟩ : Shape).Idx → α) (h : (⟨5, ![4, 2, 4, 2848, 1024]⟩ : Shape).Transposes [2, 1, 0, 3, 4] ⟨5, ![4, 2, 4, 2848, 1024]⟩)
    (p : Fin 4) (q : Fin 2) (r : Fin 4) (y : Fin 2848) (z : Fin 1024) :
    transpose ⟨5, ![4, 2, 4, 2848, 1024]⟩ [2, 1, 0, 3, 4] Y h (ix5 p q r y z) = Y (ix5 r q p y z) := by
  refine transpose_apply _ Y h _ _ fun b => ?_
  match b with
  | ⟨0, _⟩ => rfl
  | ⟨1, _⟩ => rfl
  | ⟨2, _⟩ => rfl
  | ⟨3, _⟩ => rfl
  | ⟨4, _⟩ => rfl

variable {F : FTy → Type} [FloatOps F]

/-- The reference's value. -/
abbrev whole (X : (⟨3, ![32, 2848, 1024]⟩ : Shape).Idx → F .f32) : (⟨3, ![32, 2848, 1024]⟩ : Shape).Idx → F .f32 :=
  shapeCast _ (transpose Cert.AlltoallRefIdeal.S4x2x4x2848x1024 [2, 1, 0, 3, 4]
    (shapeCast _ X Cert.AlltoallRefIdeal.Gen.shapeCasts_S32x2848x1024_S4x2x4x2848x1024)
    Cert.AlltoallRefIdeal.Gen.transposes_S4x2x4x2848x1024_S4x2x4x2848x1024_2_1_0_3_4)
    Cert.AlltoallRefIdeal.Gen.shapeCasts_S4x2x4x2848x1024_S32x2848x1024

/-- What device `c`'s result ends with is its part of the reference's value. -/
theorem out_eq (m : (ℓ : Loc Cert.AlltoallIdeal.nD Cert.AlltoallIdeal.τ Cert.AlltoallIdeal.sig) → Buf (Elt F) ℓ) (X : (⟨3, ![32, 2848, 1024]⟩ : Shape).Idx → F .f32)
    (hX : ∀ c, m (gLoc c) = Layout.block ⟨3, ![4, 2848, 1024]⟩ ⟨3, ![32, 2848, 1024]⟩ 0 8 c X) (c : Dev Cert.AlltoallIdeal.nD) :
    out m c = Layout.block ⟨3, ![4, 2848, 1024]⟩ ⟨3, ![32, 2848, 1024]⟩ 0 8 c (whole X) := by
  funext i
  obtain ⟨k, y, z, rfl⟩ : ∃ (k : Fin 4) (y : Fin 2848) (z : Fin 1024), i = ix3 k y z := ⟨_, _, _, eq_ix3 i⟩
  rw [four_block, whole, join_apply, turn_apply, split_apply]
  show (m (gLoc (on c k)) : (⟨3, ![4, 2848, 1024]⟩ : Shape).Idx → F .f32) (ix3 (chip c) y z) = _
  rw [hX, four_block]
  have h : (⟨4 * (on c k).val + (chip c).val, by have h₁ : (on c k).val < 8 := (on c k).isLt; have h₂ := (chip c).isLt; omega⟩ : Fin 32)
      = ⟨8 * k.val + 4 * (c.val % 2) + c.val / 2, by have h₁ : c.val < 8 := c.isLt; omega⟩ := by
    refine Fin.ext ?_
    show 4 * (2 * k.val + c.val % 2) + c.val / 2 = 8 * k.val + 4 * (c.val % 2) + c.val / 2
    omega
  exact congrArg (fun r => X (ix3 r y z)) h

end Cert.AlltoallRun

end
-- ==== Proof.JoinRun.lean ====
/-
# The join of the siblings' halves

Each device copies its half into its own row of its result and into the same row of its sibling's, then waits for
the sibling's copy, for its send and for its own copy. Protocol, per device `c`:

* cell 0 (send): raised by `c`'s remote copy once it has read; hands back half a share of `c`'s half;
* cell 1 (receive): raised by the copy of `peer c`; hands over the sibling's row of `c`'s result, written;
* cell 2 (local): raised by `c`'s own copy; hands over `c`'s row of its result, written, and the other half share.

Device `c` starts with its half and with row `c % 2` of its own result and of its sibling's.
-/
module

public import proofs.«01_k».proof.Proof.OneShot
public import proofs.«01_k».proof.Proof.Rows
public import proofs.«01_k».proof.Proof.Gen.JoinIdeal
public import proofs.«01_k».proof.Proof.Gen.JoinIdeal.Skeleton
public import proofs.«01_k».proof.Proof.Gen.JoinIdeal.Launch
public import Idealize.ShloMosaic.Lib.Tactic

@[expose] public section

section

namespace Cert.JoinRun

open Cert.JoinIdeal Cert.JoinIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.OneShot Cert.Rows

variable {F : FTy → Type} [FloatOps F]

local notation "𝕄" => MT nD τ sig Unit (Elt F) ℕ (UU nD τ sig) ℕ

variable (m : (ℓ : Loc nD τ sig) → Buf (Elt F) ℓ) (ρ : Dev nD → PrngReg)

/-! ## The sibling and the views -/

/-- The other core of the same chip. -/
def peer (c : Dev nD) : Dev nD := ⟨2 * (c.val / 2) + (c.val + 1) % 2, by have h : c.val < 8 := c.isLt; show _ < 8; omega⟩

theorem peer_peer (c : Dev nD) : peer (peer c) = c := by revert c; decide
theorem dev1_eq (c : Dev nD) : (⟨k0_dev1 c, k0_dev1_lt c⟩ : Dev nD) = peer c := Fin.ext ((k0_dev1_eq c).trans (by revert c; decide))

/-- The siblings' exchange as a permutation of the devices. -/
def swap : Dev nD ≃ Dev nD := ⟨peer, peer, peer_peer, peer_peer⟩

/-- The core a device is of its chip. -/
def core (c : Dev nD) : Fin 2 := ⟨c.val % 2, Nat.mod_lt _ (by decide)⟩
/-- The core `k` of device `c`'s chip. -/
def mate (c : Dev nD) (k : Fin 2) : Dev nD := ⟨2 * (c.val / 2) + k.val, by have h : c.val < 8 := c.isLt; show _ < 8; omega⟩
theorem mate_core (c : Dev nD) : mate c (core c) = c := by revert c; decide
theorem mate_core_peer (c : Dev nD) : mate (peer c) (core c) = c := by revert c; decide

abbrev hM : Memref sig .tc .hbm S2848x1024 .f32 := Memref.whole main_arg0
abbrev oM : Memref sig .tc .hbm S2x2848x1024 .f32 := Memref.whole main_v1
/-- The row of a result device `c` writes. -/
abbrev rM (c : Dev nD) : Memref sig .tc .hbm S2848x1024 .f32 :=
  (oM.slice (Rect.unit (s := S2x2848x1024) (k0_off1 c) S1x2848x1024.size (k0_off1_inb c)) (fun _ => rfl)).squeeze S2848x1024 squeezes_S1x2848x1024_S2848x1024

abbrev hLoc (c : Dev nD) : Loc nD τ sig := (c : Thread nD τ).loc main_arg0
abbrev oLoc (c : Dev nD) : Loc nD τ sig := (c : Thread nD τ).loc main_v1

/-- What device `c`'s result ends with: its chip's halves. -/
def out (c : Dev nD) : Buf (Elt F) (oLoc c) := fun i : S2x2848x1024.Idx => (m (hLoc (mate c (i 0))) : S2848x1024.Idx → F .f32) (ix2 (i 1) (i 2))

theorem row_set (c : Dev nD) : (rM c).view.set = rowOf (core c).val :=
  (View.set_reshape _ _).trans ((View.set_slice_whole _ _).trans (rect_row (k0_off1_eq c) _))

theorem row_read (c d : Dev nD) (h : mate d (core c) = c) : (rM c).view.read (Elt F) (out m d) = hM.view.read (Elt F) (m (hLoc c)) := by
  funext i
  obtain ⟨y, z, rfl⟩ : ∃ (y : Fin 2848) (z : Fin 1024), i = ix2 y z := ⟨_, _, eq_ix2 i⟩
  have e : (rM c).view.emb (ix2 y z) = ix3 (core c) y z := rect_row_emb (core c) (k0_off1_eq c) _ _ y z
  show out m d ((rM c).view.emb (ix2 y z)) = m (hLoc c) (ix2 y z)
  rw [e]
  show (m (hLoc (mate d (core c))) : S2848x1024.Idx → F .f32) (ix2 y z) = _
  rw [h]

/-! ## The protocol -/

abbrev osem : Fin 3 → SemLoc sig := fun | 0 => .dma cc0_scratch0.sem | 1 => .dma cc0_scratch1.sem | 2 => .dma cc0_scratch2.sem
abbrev N : ℕ := hM.view.dmaCredit
theorem N_pos : 0 < N := View.dmaCredit_pos _ (by decide)
abbrev amt : Fin 3 → ℕ := fun _ => N
theorem hamt : ∀ k : Fin 3, 0 < amt k := fun _ => N_pos
theorem hos : Function.Injective osem := by decide
theorem ho : OwnSemFacts (cfg0.spec) osem := by decide

/-- Whose cell device `c`'s copies raise: its own send and local cells, its sibling's receive cell. -/
abbrev dst : Fin 3 → Dev nD ≃ Dev nD := fun | 0 => Equiv.refl _ | 1 => swap | 2 => Equiv.refl _
abbrev lvl : Fin 3 → ℕ := fun _ => 0

/-- Row `k` of device `c`'s result at contents `f`. -/
noncomputable abbrev rowAt (c : Dev nD) (k : Fin 2) (f : Buf (Elt F) (oLoc c)) : sProp 𝕄 := oLoc c ↦[(rowOf k.val : Finset S2x2848x1024.Idx)]{fullShare} f

/-- What the cells hand over. -/
noncomputable def pay (c : Dev nD) : Fin 3 → sProp 𝕄 := fun
  | 0 => hLoc c ↦{fullShare.left} m (hLoc c)
  | 1 => rowAt c (core (peer c)) (out m c)
  | 2 => iprop(rowAt c (core c) (out m c) ∗ hLoc c ↦{fullShare.right} m (hLoc c))

instance : Storing (pay m) where
  storable c k := match k with
    | 0 => by unfold pay; infer_instance
    | 1 => by unfold pay; infer_instance
    | 2 => by unfold pay; infer_instance

/-- What device `c` starts with and ends with. -/
noncomputable def start (c : Dev nD) : sProp 𝕄 :=
  iprop((hLoc c ↦{fullShare} m (hLoc c)) ∗ rowAt c (core c) (m (oLoc c)) ∗ rowAt (peer c) (core c) (m (oLoc (peer c))))
noncomputable def finish (c : Dev nD) : sProp 𝕄 := iprop((hLoc c ↦{fullShare} m (hLoc c)) ∗ (oLoc c ↦{fullShare} out m c))

theorem three_cells (Φ : Fin 3 → sProp 𝕄) : bigSep Finset.univ Φ = iprop(Φ 0 ∗ Φ 1 ∗ Φ 2) := bigSep_univ_eq_bigSepL [0, 1, 2] (by decide) (by decide) Φ
theorem two_rows (Φ : Fin 2 → sProp 𝕄) : bigSep Finset.univ Φ = iprop(Φ 0 ∗ Φ 1) := bigSep_univ_eq_bigSepL [0, 1] (by decide) (by decide) Φ

theorem sep_all (Φ Ψ : Dev nD → sProp 𝕄) : (bigSep Finset.univ fun c => iprop(Φ c ∗ Ψ c)) = iprop(bigSep Finset.univ Φ ∗ bigSep Finset.univ Ψ) :=
  BI.bigSep_sep _ _ _

/-- The rows of device `c`'s result: its own and its sibling's. -/
theorem rows (c : Dev nD) (f : Buf (Elt F) (oLoc c)) :
    (oLoc c ↦{fullShare} f : sProp 𝕄) = iprop(rowAt c (core c) f ∗ rowAt c (core (peer c)) f) := by
  rw [by_rows (n := 2) (fun i : S2x2848x1024.Idx => (i 0).val) (fun | 0 => (core c).val | 1 => (core (peer c)).val)
    (by clear f; revert c; decide) (fun i => by
      have h : ∀ (c : Dev nD) (x : Fin 2), ∃ k : Fin 2, x.val = (fun | 0 => (core c).val | 1 => (core (peer c)).val : Fin 2 → ℕ) k := by decide
      exact h c (i 0)), two_rows]
  rfl

theorem half_set : hM.view.set = Finset.univ := View.set_whole _

/-- A written row is the row of the final result. -/
theorem row_written (c d : Dev nD) (h : mate d (core c) = c) :
    ((rM c).view.loc (d : Thread nD τ) ↦[(rM c).view.set]{fullShare}
      ((rM c).view.write (Elt F) (m (oLoc d)) (hM.view.read (Elt F) (m (hLoc c))) Finset.univ)) ⊢ (rowAt d (core c) (out m d) : sProp 𝕄) := by
  rw [pointsTo_congr (written (rM c).view _ (out m d) _ (row_read m c d h)), row_set]

theorem pay_send (c : Dev nD) : (hM.view.loc (c : Thread nD τ) ↦[hM.view.set]{fullShare.left} m (hLoc c)) ⊢ (pay m c 0 : sProp 𝕄) := by
  rw [half_set]; exact Entails.of_eq rfl
theorem pay_recv (c : Dev nD) : ((rM c).view.loc (peer c : Thread nD τ) ↦[(rM c).view.set]{fullShare}
      ((rM c).view.write (Elt F) (m (oLoc (peer c))) (hM.view.read (Elt F) (m (hLoc c))) Finset.univ)) ⊢ (pay m (peer c) 1 : sProp 𝕄) := by
  refine (row_written m c (peer c) (mate_core_peer c)).trans (Entails.of_eq ?_)
  show _ = rowAt (peer c) (core (peer (peer c))) (out m (peer c))
  rw [peer_peer]
theorem pay_local (c : Dev nD) : iprop(((rM c).view.loc (c : Thread nD τ) ↦[(rM c).view.set]{fullShare}
      ((rM c).view.write (Elt F) (m (oLoc c)) (hM.view.read (Elt F) (m (hLoc c))) Finset.univ))
      ∗ (hM.view.loc (c : Thread nD τ) ↦[hM.view.set]{fullShare.right} m (hLoc c))) ⊢ (pay m c 2 : sProp 𝕄) := by
  rw [half_set]
  exact sep_mono (row_written m c c (mate_core c)) (Entails.of_eq rfl)

theorem body (𝒱 : Variants) : Body osem amt (pay m) hamt dst lvl cfg0 (defs₀ (F := F)) 𝒱 (start m) (finish m) {1} := by
  intro t c K W
  show _ ⊢ wp frame _ _ (cc0_grad_gather (F := F) hM (Memref.isWhole_whole _) oM (Memref.isWhole_whole _) cc0_scratch0 cc0_scratch1 cc0_scratch2) _
  simp only [cc0_grad_gather_eq_skeleton]
  unfold cc0_grad_gather_skel
  simp only [k0_part1_eq_skeleton]
  unfold k0_part1_skel
  simp only [Prog.lift, Prog.bind_op, Prog.bind_ret, Prog.pure_eq_ret, wp_deviceId]
  unfold start finish positions payToks credits ownSems0
  simp only [three_cells, BI.bigSep_singleton]
  iintro ⟨#HR, #HL, ⟨Ha0, Ha1, Ha2⟩, ⟨Ht0, Ht1, Ht2⟩, Hc1, HO, Hh, Ho, Hp⟩
  ihave Hh := (halves (q := fullShare)).1 $$ Hh
  icases Hh with ⟨Hl, Hr⟩
  -- its own copy
  iapply (wp_copy_once osem amt (pay m) hos hamt dst 𝒱 K c 2 rfl rfl (src := hM) (dm := rM c) (fs := m (hLoc c)) (fd := m (oLoc c)) (q := fullShare.right)
    rfl (pay_local m c)) $$ [Hr Ho Ht2]
  · isplitr; · iexact HR
    isplitl [Hr]; · rw [half_set]; iexact Hr
    isplitl [Ho]; · rw [row_set]; iexact Ho
    iexact Ht2
  iintro Hc2
  -- the copy to its sibling
  iapply (wp_send_to osem amt (pay m) hos hamt dst 𝒱 K c _ (peer c) (dev1_eq c) 0 1 (Singleton.singleton 1) (Finset.mem_singleton_self _) rfl rfl rfl rfl
    (src := hM) (dm := rM c) (fs := m (hLoc c)) (fd := m (oLoc (peer c))) (q := fullShare.left) rfl rfl (pay_send m c)
    (pay_recv m c) (by routes)) $$ [Hl Hp HO Ht0 Ht1]
  · isplitr; · iexact HR
    isplitl [Hl]; · rw [half_set]; iexact Hl
    isplitl [Hp]; · rw [row_set]; iexact Hp
    isplitl [HO]; · iexact HO
    isplitl [Ht0]; · iexact Ht0
    iexact Ht1
  iintro ⟨Hc0, HO⟩
  rw [show (Singleton.singleton 1 : Finset (Fin 3)).erase 1 = ∅ from by decide]
  -- the wait for its sibling's row
  iapply (wp_drain_once osem amt (pay m) hos hamt dst lvl 𝒱 K c 1 ∅ (fun _ h => absurd h (Finset.notMem_empty _)) rfl (dm := rM c) rfl) $$ [Hc1 HO Ha1]
  · isplitr; · iexact HR
    isplitr; · iexact HL
    isplitl [Hc1]; · iexact Hc1
    isplitl [HO]; · iexact HO
    iexact Ha1
  iintro ⟨HO, Hp, Hz1⟩
  -- the wait for its send
  iapply (wp_drain_once osem amt (pay m) hos hamt dst lvl 𝒱 K c 0 ∅ (fun _ h => absurd h (Finset.notMem_empty _)) rfl (dm := hM) rfl) $$ [Hc0 HO Ha0]
  · isplitr; · iexact HR
    isplitr; · iexact HL
    isplitl [Hc0]; · iexact Hc0
    isplitl [HO]; · iexact HO
    iexact Ha0
  iintro ⟨HO, Hl, Hz0⟩
  -- the wait for its own copy
  iapply (wp_drain_once osem amt (pay m) hos hamt dst lvl 𝒱 K c 2 ∅ (fun _ h => absurd h (Finset.notMem_empty _)) rfl (dm := rM c) rfl) $$ [Hc2 HO Ha2]
  · isplitr; · iexact HR
    isplitr; · iexact HL
    isplitl [Hc2]; · iexact Hc2
    isplitl [HO]; · iexact HO
    iexact Ha2
  iintro ⟨HO, Ho, Hz2⟩
  rw [wp_ret]; imodintro
  unfold pay
  icases Ho with ⟨Ho, Hr⟩
  isplitl [Hl Hr Ho Hp]
  · isplitl [Hl Hr]
    · iapply (halves (q := fullShare)).2
      isplitl [Hl] <;> iassumption
    rw [rows]
    isplitl [Ho] <;> iassumption
  isplitl [Hz0 Hz1 Hz2]
  · isplitl [Hz0]; · iassumption
    isplitl [Hz1] <;> iassumption
  rw [owed_empty]
  iexists _; iexact HO

/-! ## The run -/

theorem start_split : (bigSep Finset.univ fun c : Dev nD => unscopedBufs c (fun b => m ((c : Thread nD τ).loc b))) ⊢ (bigSep Finset.univ (start m) : sProp 𝕄) := by
  have h : ∀ c : Dev nD, (unscopedBufs c (fun b => m ((c : Thread nD τ).loc b)) : sProp 𝕄)
      = iprop((hLoc c ↦{fullShare} m (hLoc c)) ∗ (oLoc c ↦{fullShare} m (oLoc c))) := fun c =>
    bigSep_eq_bigSepL_of_eq [main_arg0, main_v1] (by decide) (by decide) _
  simp only [h, rows]
  unfold start
  rw [sep_all, sep_all, sep_all, sep_all, bigSep_univ_equiv swap fun c => (rowAt c (core (peer c)) (m (oLoc c)) : sProp 𝕄)]
  refine Entails.of_eq ?_
  congr 3
  funext c
  show rowAt (peer c) (core (peer (peer c))) (m (oLoc (peer c))) = _
  rw [peer_peer]

/-- The run: from any memory every device ends with its half as it was, its result its chip's two halves, and every
    semaphore at zero. -/
theorem run_main : θ_run (defs (F := F)) (onTc (τ := τ) (main (F := F))) ⟨m, fun _ => 0, ρ⟩
    fun r => (∀ c, r.2.mem (oLoc c) = out m c) ∧ (∀ c, r.2.mem (hLoc c) = m (hLoc c)) ∧ r.2.sem = fun _ => 0 :=
  θ_run_once osem amt (pay m) hos hamt dst lvl cfg0 cellOf_inj N_0 winFacts0 ho (defs₀ (F := F)) Variants.none (start m) (finish m) {1}
    (body m _) m ρ main (fun _ => rfl) (start_split m)
    (fun c s => s.mem (oLoc c) = out m c ∧ s.mem (hLoc c) = m (hLoc c))
    (fun c s' => by
      unfold finish
      iintro ⟨⟨Hg, Ho⟩, HSI⟩
      icombine HSI Hg gives %hg
      icombine HSI Ho gives %ho
      imodintro
      isplitr
      · ipureintro; exact ⟨funext fun i => ho i (Finset.mem_univ _), funext fun i => hg i (Finset.mem_univ _)⟩
      iexact HSI)
    (fun s h hs => ⟨fun c => (h c).1, fun c => (h c).2, sem_eq_zero_of_scoped (by decide) hs⟩)

end Cert.JoinRun

end
-- ==== Proof.Halves.lean ====
/-
# Eight blocks, stacked

An array of eight blocks of rows reshaped to a stack of eight: row `k` of the stack is block `k`.
-/
module

public import Idealize.ShloMosaic.Lib.Pipeline.Value
public import Idealize.ShloMosaic.Lib.ValueIdxCoords
public import Idealize.ShloMosaic.Lib.Layout

@[expose] public section

section

namespace Cert.Halves

open Idealize.ShloMosaic Idealize.ShloMosaic.ValueIdx

variable {α : Type} {N n w : ℕ}

theorem in_stack (hN : N = 8 * n) (k : Fin 8) (y : Fin n) : n * k.val + y.val < N := by
  have h : n * k.val ≤ n * 7 := Nat.mul_le_mul_left n (by omega)
  omega

/-- Device `c`'s block of the whole array, read at an index. -/
theorem half_block (hN : N = 8 * n) (Y : (⟨2, ![N, w]⟩ : Shape).Idx → α) (h : Layout.Tiles ⟨2, ![n, w]⟩ ⟨2, ![N, w]⟩ 0 8) (c : Fin 8)
    (y : Fin n) (z : Fin w) :
    (Layout.block ⟨2, ![n, w]⟩ ⟨2, ![N, w]⟩ 0 8 c Y h) (ix2 y z) = Y (ix2 ⟨n * c.val + y.val, in_stack hN c y⟩ z) := by
  refine congrArg Y (funext fun a => Fin.ext ?_)
  match a with
  | ⟨0, _⟩ => exact congrArg (· + y.val) (Nat.mul_comm c.val n)
  | ⟨1, _⟩ => rfl

/-- The stack, read at an index. -/
theorem stack_apply (hN : N = 8 * n) (Y : (⟨2, ![N, w]⟩ : Shape).Idx → α) (h : (⟨2, ![N, w]⟩ : Shape).ShapeCasts ⟨3, ![8, n, w]⟩)
    (k : Fin 8) (y : Fin n) (z : Fin w) :
    shapeCast ⟨3, ![8, n, w]⟩ Y h (ix3 k y z) = Y (ix2 ⟨n * k.val + y.val, in_stack hN k y⟩ z) := by
  refine shapeCast_apply Y h _ _ ?_
  rw [Shape.rowMajor_val_two, Shape.rowMajor_val_three]
  show (n * k.val + y.val) * w + z.val = (k.val * n + y.val) * w + z.val
  rw [Nat.mul_comm n]

end Cert.Halves

end
-- ==== Proof.JoinValue.lean ====
/-
# The join's result is the reference's

The reference stacks the devices' halves: row `k` of the stack is device `k`'s half, and a chip's two rows are what
its devices end with. Any element type.
-/
module

public import proofs.«01_k».proof.Proof.JoinRun
public import proofs.«01_k».proof.Proof.Halves
public import proofs.«01_k».proof.Proof.Gen.JoinRefIdeal

@[expose] public section

noncomputable section

namespace Cert.JoinRun

open Idealize.ShloMosaic Idealize.ShloMosaic.ValueIdx
open Cert.Halves

/-- A chip's block of a stack of eight, read at a row. -/
theorem chip_row {α : Type} (Y : (⟨3, ![8, 2848, 1024]⟩ : Shape).Idx → α) (c : Fin 8) (k : Fin 2) (y : Fin 2848) (z : Fin 1024) :
    (Layout.blockN ⟨3, ![2, 2848, 1024]⟩ ⟨3, ![8, 2848, 1024]⟩ (Layout.meshBlock [2, 2, 2] ![[0, 1], [], []] c) Y) (ix3 k y z)
      = Y (ix3 ⟨2 * (c.val / 2) + k.val, by omega⟩ y z) := by
  refine congrArg Y (funext fun a => Fin.ext ?_)
  match a with
  | ⟨0, _⟩ =>
    have h : ∀ c : Fin 8, ((Layout.meshBlock [2, 2, 2] ![[0, 1], [], []] c) (0 : Fin 3)).val = c.val / 2 := by decide
    refine Eq.trans (congrArg (fun x => x * 2 + k.val) (h c)) ?_
    exact congrArg (· + k.val) (Nat.mul_comm _ _)
  | ⟨1, _⟩ => exact (congrArg (· + y.val) (Nat.zero_mul 2848)).trans (Nat.zero_add _)
  | ⟨2, _⟩ => exact (congrArg (· + z.val) (Nat.zero_mul 1024)).trans (Nat.zero_add _)

variable {F : FTy → Type} [FloatOps F]

/-- What device `c`'s result ends with is its chip's part of the reference's value. -/
theorem out_eq (m : (ℓ : Loc Cert.JoinIdeal.nD Cert.JoinIdeal.τ Cert.JoinIdeal.sig) → Buf (Elt F) ℓ) (X : (⟨2, ![22784, 1024]⟩ : Shape).Idx → F .f32)
    (hX : ∀ c, m (hLoc c) = Layout.block ⟨2, ![2848, 1024]⟩ ⟨2, ![22784, 1024]⟩ 0 8 c X) (c : Dev Cert.JoinIdeal.nD) :
    out m c = Layout.blockN ⟨3, ![2, 2848, 1024]⟩ ⟨3, ![8, 2848, 1024]⟩ (Layout.meshBlock [2, 2, 2] ![[0, 1], [], []] c)
      (shapeCast _ X Cert.JoinRefIdeal.Gen.shapeCasts_S22784x1024_S8x2848x1024) := by
  funext i
  obtain ⟨k, y, z, rfl⟩ : ∃ (k : Fin 2) (y : Fin 2848) (z : Fin 1024), i = ix3 k y z := ⟨_, _, _, eq_ix3 i⟩
  rw [chip_row]
  show (m (hLoc (mate c k)) : (⟨2, ![2848, 1024]⟩ : Shape).Idx → F .f32) (ix2 y z) = _
  rw [hX, half_block rfl, stack_apply rfl]
  rfl

end Cert.JoinRun

end
-- ==== Proof.GatherCall.lean ====
/-
# An all-gather

The four gathers run the same kernel at different shapes and element types. This is its proof for any of them: a call is
two whole buffers of a signature, fifteen DMA semaphores and the facts about them the proof uses.

Each device copies its part into its own row of its result, into that row of its sibling's and into that row of the
results of the three devices of the same core on the other chips. As the parts of those three arrive it passes each on
to its sibling, then waits for everything. Protocol, per device `c` (`peer k c` is the device whose number differs from
`c`'s in the bits of `k`: 1 is the sibling; 4, 2 and 6 are on the other chips):

* cells 0 to 3 (send): raised by `c`'s copies of its part to `peer 1 c`, `peer 4 c`, `peer 2 c`, `peer 6 c`; each
  hands back a share of the part;
* cells 4 to 6 (send): raised by `c`'s copies of the rows of `peer 4 c`, `peer 2 c`, `peer 6 c` to its sibling; each
  hands back the row;
* cells 7 to 13 (receive): raised by the matching copies of the other devices; each hands over a row, written;
* cell 14 (local): raised by `c`'s own copy; hands over `c`'s row, written, and a share of the part.

Device `c` starts with its part and with the rows it writes. It waits for the rows it passes on while it still owes its
sibling those: cells 8 to 10 are below cells 11 to 13.
-/
module

public import proofs.«01_k».proof.Proof.OneShot
public import proofs.«01_k».proof.Proof.Rows
public import proofs.«01_k».proof.Proof.Gen.GatherIdeal
public import Idealize.ShloMosaic.Lib.Tactic

@[expose] public section

section

namespace Cert.GatherCall

open Cert.GatherIdeal (k0_off1 k0_off2 k0_off3 k0_off4 k0_off5 k0_off6 k0_off7 k0_off8 k0_dev1 k0_dev2 k0_dev3 k0_dev4 k0_dev5 k0_dev6 k0_dev7)
open Cert.GatherIdeal.Gen (k0_off1_eq k0_off2_eq k0_off3_eq k0_off4_eq k0_off5_eq k0_off6_eq k0_off7_eq k0_off8_eq k0_dev1_eq k0_dev2_eq k0_dev3_eq k0_dev4_eq k0_dev5_eq k0_dev6_eq k0_dev7_eq k0_dev1_lt k0_dev2_lt k0_dev3_lt k0_dev4_lt k0_dev5_lt k0_dev6_lt k0_dev7_lt)

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.OneShot Cert.Rows

abbrev nD : ℕ := 8
abbrev τ : Topo := Topo.v7x

/-! ## The peers and the views -/

/-- The device whose number differs in the bits of `k`. -/
def peer (k : Fin 8) (c : Dev nD) : Dev nD := ⟨(c.val ^^^ k.val) % 8, Nat.mod_lt _ (by decide)⟩

theorem peer_zero (c : Dev nD) : peer 0 c = c := by revert c; decide
theorem peer_peer (k : Fin 8) (c : Dev nD) : peer k (peer k c) = c := by revert k c; decide
theorem dev1_eq (c : Dev nD) : (⟨k0_dev1 c, k0_dev1_lt c⟩ : Dev nD) = peer 1 c := Fin.ext ((k0_dev1_eq c).trans (by revert c; decide))
theorem dev2_eq (c : Dev nD) : (⟨k0_dev2 c, k0_dev2_lt c⟩ : Dev nD) = peer 4 c := Fin.ext ((k0_dev2_eq c).trans (by revert c; decide))
theorem dev3_eq (c : Dev nD) : (⟨k0_dev3 c, k0_dev3_lt c⟩ : Dev nD) = peer 2 c := Fin.ext ((k0_dev3_eq c).trans (by revert c; decide))
theorem dev4_eq (c : Dev nD) : (⟨k0_dev4 c, k0_dev4_lt c⟩ : Dev nD) = peer 6 c := Fin.ext ((k0_dev4_eq c).trans (by revert c; decide))
theorem dev5_eq (c : Dev nD) : (⟨k0_dev5 c, k0_dev5_lt c⟩ : Dev nD) = peer 1 c := Fin.ext ((k0_dev5_eq c).trans (by revert c; decide))
theorem dev6_eq (c : Dev nD) : (⟨k0_dev6 c, k0_dev6_lt c⟩ : Dev nD) = peer 1 c := Fin.ext ((k0_dev6_eq c).trans (by revert c; decide))
theorem dev7_eq (c : Dev nD) : (⟨k0_dev7 c, k0_dev7_lt c⟩ : Dev nD) = peer 1 c := Fin.ext ((k0_dev7_eq c).trans (by revert c; decide))

/-- The exchange with the peer of index `k` as a permutation of the devices. -/
def swap (k : Fin 8) : Dev nD ≃ Dev nD := ⟨peer k, peer k, peer_peer k, peer_peer k⟩

/-! The call's shapes: a part, the stack of the eight parts, and one row of it. -/

abbrev Part (n w : ℕ) : Shape := ⟨2, ![n, w]⟩
abbrev Stack (n w : ℕ) : Shape := ⟨3, ![8, n, w]⟩
abbrev Row (n w : ℕ) : Shape := ⟨3, ![1, n, w]⟩

theorem off1_eq (c : Dev nD) : k0_off1 c = ![c.val, 0, 0] := (k0_off1_eq c).trans (by revert c; decide)
theorem off2_eq (c : Dev nD) : k0_off2 c = ![(peer 4 c).val, 0, 0] := (k0_off2_eq c).trans (by revert c; decide)
theorem off3_eq (c : Dev nD) : k0_off3 c = ![(peer 2 c).val, 0, 0] := (k0_off3_eq c).trans (by revert c; decide)
theorem off4_eq (c : Dev nD) : k0_off4 c = ![(peer 6 c).val, 0, 0] := (k0_off4_eq c).trans (by revert c; decide)

theorem off5_eq (c : Dev nD) : k0_off5 c = ![(peer 1 c).val, 0, 0] := (k0_off5_eq c).trans (by revert c; decide)
theorem off6_eq (c : Dev nD) : k0_off6 c = ![(peer 5 c).val, 0, 0] := (k0_off6_eq c).trans (by revert c; decide)
theorem off7_eq (c : Dev nD) : k0_off7 c = ![(peer 3 c).val, 0, 0] := (k0_off7_eq c).trans (by revert c; decide)
theorem off8_eq (c : Dev nD) : k0_off8 c = ![(peer 7 c).val, 0, 0] := (k0_off8_eq c).trans (by revert c; decide)

theorem row_in {n w : ℕ} {off : Fin 3 → ℕ} {k : Dev nD} (h : off = ![k.val, 0, 0]) : ∀ a, off a + (Row n w).size a ≤ (Stack n w).size a := by
  subst h
  intro a
  match a with
  | ⟨0, _⟩ => exact k.isLt
  | ⟨1, _⟩ => exact Nat.le_of_eq (Nat.zero_add _)
  | ⟨2, _⟩ => exact Nat.le_of_eq (Nat.zero_add _)
theorem row_squeezes (n w : ℕ) : (Row n w).Squeezes (Part n w) := by
  show Shape.dropsOnes [w, n, 1] [w, n] = true
  simp [Shape.dropsOnes]

/-- A row of a result. -/
abbrev rowOfMem {sig : RefSig} {n w : ℕ} {e : EltTy} (oM : Memref sig .tc .hbm (Stack n w) e) (off : Fin 3 → ℕ)
    (inb : ∀ a, off a + (Row n w).size a ≤ (Stack n w).size a) : Memref sig .tc .hbm (Part n w) e :=
  (oM.slice (Rect.unit (s := Stack n w) off (Row n w).size inb) (fun _ => rfl)).squeeze (Part n w) (row_squeezes n w)

/-- A call: the part, the result, the semaphores, and that both buffers are held whole, a row's transfer counts as the
    part's does, and transfers move whole words. -/
structure Call (sig : RefSig) (n w : ℕ) (e : EltTy) where
  hM : Memref sig .tc .hbm (Part n w) e
  oM : Memref sig .tc .hbm (Stack n w) e
  s : Fin 15 → DmaSem sig
  s_inj : Function.Injective s
  hM_set : hM.view.set = Finset.univ
  oM_set : oM.view.set = Finset.univ
  pos : 0 < hM.view.dmaCredit
  credit : ∀ off inb, (rowOfMem oM off inb).view.dmaCredit = hM.view.dmaCredit
  hM_words : hM.view.WordExact
  oM_words : ∀ off inb, (rowOfMem oM off inb).view.WordExact
  oM_on : oM.view.ref.isScScratch = false

section

variable {sig : RefSig} {n w : ℕ} {e : EltTy} {Val : EltTy → Type} {Λ : Labels} (P : Call sig n w e)

local notation "𝕄" => MT nD τ sig Unit Val ℕ (UU nD τ sig) ℕ

variable (m : (ℓ : Loc nD τ sig) → Buf Val ℓ) (ρ : Dev nD → PrngReg)

abbrev rM (off : Fin 3 → ℕ) (inb : ∀ a, off a + (Row n w).size a ≤ (Stack n w).size a) : Memref sig .tc .hbm (Part n w) e := rowOfMem P.oM off inb

/-! The rows the kernel names, by the offset it computes. -/

abbrev row1 (c : Dev nD) : Memref sig .tc .hbm (Part n w) e := rM P (k0_off1 c) (row_in (off1_eq c))
abbrev row2 (c : Dev nD) : Memref sig .tc .hbm (Part n w) e := rM P (k0_off2 c) (row_in (off2_eq c))
abbrev row3 (c : Dev nD) : Memref sig .tc .hbm (Part n w) e := rM P (k0_off3 c) (row_in (off3_eq c))
abbrev row4 (c : Dev nD) : Memref sig .tc .hbm (Part n w) e := rM P (k0_off4 c) (row_in (off4_eq c))
abbrev row5 (c : Dev nD) : Memref sig .tc .hbm (Part n w) e := rM P (k0_off5 c) (row_in (off5_eq c))
abbrev row6 (c : Dev nD) : Memref sig .tc .hbm (Part n w) e := rM P (k0_off6 c) (row_in (off6_eq c))
abbrev row7 (c : Dev nD) : Memref sig .tc .hbm (Part n w) e := rM P (k0_off7 c) (row_in (off7_eq c))
abbrev row8 (c : Dev nD) : Memref sig .tc .hbm (Part n w) e := rM P (k0_off8 c) (row_in (off8_eq c))

/-- The kernel. -/
noncomputable def prog : Prog (TpuEff nD τ sig Val Λ .tc) PUnit := do
  let c ← Prog.lift .deviceId
  Prog.lift (.enqueueDma P.hM (.here (row1 P c)) (.dma (P.s 14)) P.hM_words (P.oM_words _ _) ⟨Or.inl rfl, trivial⟩)
  Prog.lift (.enqueueDma P.hM (.remote (Dev.tc (⟨k0_dev1 c, k0_dev1_lt c⟩ : Dev nD)) (row1 P c) (.dma (P.s 0)) P.oM_on) (.dma (P.s 7)) P.hM_words (P.oM_words _ _) ⟨⟨rfl, Or.inl rfl⟩, trivial⟩)
  Prog.lift (.enqueueDma P.hM (.remote (Dev.tc (⟨k0_dev2 c, k0_dev2_lt c⟩ : Dev nD)) (row1 P c) (.dma (P.s 1)) P.oM_on) (.dma (P.s 8)) P.hM_words (P.oM_words _ _) ⟨⟨rfl, Or.inl rfl⟩, trivial⟩)
  Prog.lift (.enqueueDma P.hM (.remote (Dev.tc (⟨k0_dev3 c, k0_dev3_lt c⟩ : Dev nD)) (row1 P c) (.dma (P.s 2)) P.oM_on) (.dma (P.s 9)) P.hM_words (P.oM_words _ _) ⟨⟨rfl, Or.inl rfl⟩, trivial⟩)
  Prog.lift (.enqueueDma P.hM (.remote (Dev.tc (⟨k0_dev4 c, k0_dev4_lt c⟩ : Dev nD)) (row1 P c) (.dma (P.s 3)) P.oM_on) (.dma (P.s 10)) P.hM_words (P.oM_words _ _) ⟨⟨rfl, Or.inl rfl⟩, trivial⟩)
  Prog.lift (.waitDma2 (P.s 8) (row2 P c) (row2 P c) (P.oM_words _ _) (P.oM_words _ _))
  Prog.lift (.enqueueDma (row2 P c) (.remote (Dev.tc (⟨k0_dev5 c, k0_dev5_lt c⟩ : Dev nD)) (row2 P c) (.dma (P.s 4)) P.oM_on) (.dma (P.s 11)) (P.oM_words _ _) (P.oM_words _ _) ⟨⟨rfl, Or.inl rfl⟩, trivial⟩)
  Prog.lift (.waitDma2 (P.s 9) (row3 P c) (row3 P c) (P.oM_words _ _) (P.oM_words _ _))
  Prog.lift (.enqueueDma (row3 P c) (.remote (Dev.tc (⟨k0_dev6 c, k0_dev6_lt c⟩ : Dev nD)) (row3 P c) (.dma (P.s 5)) P.oM_on) (.dma (P.s 12)) (P.oM_words _ _) (P.oM_words _ _) ⟨⟨rfl, Or.inl rfl⟩, trivial⟩)
  Prog.lift (.waitDma2 (P.s 10) (row4 P c) (row4 P c) (P.oM_words _ _) (P.oM_words _ _))
  Prog.lift (.enqueueDma (row4 P c) (.remote (Dev.tc (⟨k0_dev7 c, k0_dev7_lt c⟩ : Dev nD)) (row4 P c) (.dma (P.s 6)) P.oM_on) (.dma (P.s 13)) (P.oM_words _ _) (P.oM_words _ _) ⟨⟨rfl, Or.inl rfl⟩, trivial⟩)
  Prog.lift (.waitDma2 (P.s 7) (row5 P c) (row5 P c) (P.oM_words _ _) (P.oM_words _ _))
  Prog.lift (.waitDma2 (P.s 11) (row6 P c) (row6 P c) (P.oM_words _ _) (P.oM_words _ _))
  Prog.lift (.waitDma2 (P.s 12) (row7 P c) (row7 P c) (P.oM_words _ _) (P.oM_words _ _))
  Prog.lift (.waitDma2 (P.s 13) (row8 P c) (row8 P c) (P.oM_words _ _) (P.oM_words _ _))
  Prog.lift (.waitDma2 (P.s 0) (row1 P c) P.hM (P.oM_words _ _) P.hM_words)
  Prog.lift (.waitDma2 (P.s 1) (row1 P c) P.hM (P.oM_words _ _) P.hM_words)
  Prog.lift (.waitDma2 (P.s 2) (row1 P c) P.hM (P.oM_words _ _) P.hM_words)
  Prog.lift (.waitDma2 (P.s 3) (row1 P c) P.hM (P.oM_words _ _) P.hM_words)
  Prog.lift (.waitDma2 (P.s 4) (row2 P c) (row2 P c) (P.oM_words _ _) (P.oM_words _ _))
  Prog.lift (.waitDma2 (P.s 5) (row3 P c) (row3 P c) (P.oM_words _ _) (P.oM_words _ _))
  Prog.lift (.waitDma2 (P.s 6) (row4 P c) (row4 P c) (P.oM_words _ _) (P.oM_words _ _))
  Prog.lift (.waitDma2 (P.s 14) P.hM (row1 P c) P.hM_words (P.oM_words _ _))
  pure ⟨⟩

abbrev hLoc (c : Dev nD) : Loc nD τ sig := P.hM.view.loc (c : Thread nD τ)
abbrev oLoc (c : Dev nD) : Loc nD τ sig := P.oM.view.loc (c : Thread nD τ)

/-- What a result holds when row `k` is device `k`'s part. -/
abbrev stacked : (Stack n w).Idx → Val e := fun i => P.hM.view.read Val (m (hLoc P (i 0))) (ix2 (i 1) (i 2))

/-- What every device's result ends with. -/
def out (c : Dev nD) : Buf Val (oLoc P c) := P.oM.view.write Val (m (oLoc P c)) (stacked P m) Finset.univ

/-- The elements of row `k`. -/
abbrev rowSet (k : ℕ) : Finset P.oM.view.ty.shape.Idx := (rowOf (n := 8) (a := n) (b := w) k).map P.oM.view.emb

theorem row_set {off : Fin 3 → ℕ} {inb : ∀ a, off a + (Row n w).size a ≤ (Stack n w).size a} {k : Dev nD} (h : off = ![k.val, 0, 0]) :
    (rM P off inb).view.set = rowSet P k.val := by
  refine (View.set_reshape _ _).trans ((View.set_slice _ _).trans ?_)
  rw [rect_row h]

theorem row_read (c c' : Dev nD) {off : Fin 3 → ℕ} {inb : ∀ a, off a + (Row n w).size a ≤ (Stack n w).size a} (h : off = ![c.val, 0, 0]) :
    (rM P off inb).view.read Val (out P m c') = P.hM.view.read Val (m (hLoc P c)) := by
  funext i
  obtain ⟨y, z, rfl⟩ : ∃ (y : Fin n) (z : Fin w), i = ix2 y z := ⟨_, _, eq_ix2 i⟩
  have he : (Rect.unit (s := Stack n w) off ![1, n, w] inb).emb (Shape.reshapeEquiv (row_squeezes n w).numel_eq (ix2 y z)) = ix3 c y z :=
    rect_row_emb (n := 8) c h _ _ y z
  have hr : P.oM.view.read Val (out P m c') = stacked P m := View.read_write_univ _ _
  exact (congrArg (P.oM.view.read Val (out P m c')) he).trans (congrFun hr (ix3 c y z))

/-! ## The protocol -/

abbrev osem : Fin 15 → SemLoc sig := fun k => .dma (P.s k)
abbrev amt : Fin 15 → ℕ := fun _ => P.hM.view.dmaCredit
theorem hamt : ∀ k : Fin 15, 0 < amt P k := fun _ => P.pos
theorem hos : Function.Injective (osem P) := fun _ _ h => P.s_inj (SemLoc.dma.inj h)

/-- Whose cell device `c`'s copies raise: its own send and local cells, its peers' receive cells. -/
abbrev dst : Fin 15 → Dev nD ≃ Dev nD := fun
  | 7 => swap 1 | 8 => swap 4 | 9 => swap 2 | 10 => swap 6 | 11 => swap 1 | 12 => swap 1 | 13 => swap 1 | _ => Equiv.refl _
abbrev lvl : Fin 15 → ℕ := fun | 11 => 1 | 12 => 1 | 13 => 1 | _ => 0

/-- Device `r`'s row of device `d`'s result, at contents `f`. -/
noncomputable abbrev oRow (d r : Dev nD) (f : Buf Val (oLoc P d)) : sProp 𝕄 := oLoc P d ↦[rowSet P r.val]{fullShare} f
/-- A share of device `c`'s part. -/
noncomputable abbrev part (c : Dev nD) (q : PosShare TreeShare) : sProp 𝕄 := hLoc P c ↦{q} m (hLoc P c)

/-- The five shares of the part: for the own copy and for the four sends. -/
noncomputable abbrev qL : PosShare TreeShare := fullShare.left.left.left
noncomputable abbrev q0 : PosShare TreeShare := fullShare.left.left.right
noncomputable abbrev q1 : PosShare TreeShare := fullShare.left.right
noncomputable abbrev q2 : PosShare TreeShare := fullShare.right.left
noncomputable abbrev q3 : PosShare TreeShare := fullShare.right.right

theorem shares (c : Dev nD) : (hLoc P c ↦{fullShare} m (hLoc P c) : sProp 𝕄)
    = iprop(((part P m c qL ∗ part P m c q0) ∗ part P m c q1) ∗ part P m c q2 ∗ part P m c q3) := by
  have h : ∀ q : PosShare TreeShare, part P m c q = (iprop(part P m c q.left ∗ part P m c q.right) : sProp 𝕄) :=
    fun q => BI.equiv_iff.mp ⟨halves.1, halves.2⟩
  rw [← h, ← h, ← h, ← h]

/-- What the cells hand over. -/
noncomputable def pay (c : Dev nD) : Fin 15 → sProp 𝕄 := fun
  | 0 => part P m c q0
  | 1 => part P m c q1
  | 2 => part P m c q2
  | 3 => part P m c q3
  | 4 => oRow P c (peer 4 c) (out P m c)
  | 5 => oRow P c (peer 2 c) (out P m c)
  | 6 => oRow P c (peer 6 c) (out P m c)
  | 7 => oRow P c (peer 1 c) (out P m c)
  | 8 => oRow P c (peer 4 c) (out P m c)
  | 9 => oRow P c (peer 2 c) (out P m c)
  | 10 => oRow P c (peer 6 c) (out P m c)
  | 11 => oRow P c (peer 5 c) (out P m c)
  | 12 => oRow P c (peer 3 c) (out P m c)
  | 13 => oRow P c (peer 7 c) (out P m c)
  | 14 => iprop(oRow P c c (out P m c) ∗ part P m c qL)

instance : Storing (pay P m) where
  storable c k := match k with
    | 0 => by unfold pay; infer_instance
    | 1 => by unfold pay; infer_instance
    | 2 => by unfold pay; infer_instance
    | 3 => by unfold pay; infer_instance
    | 4 => by unfold pay; infer_instance
    | 5 => by unfold pay; infer_instance
    | 6 => by unfold pay; infer_instance
    | 7 => by unfold pay; infer_instance
    | 8 => by unfold pay; infer_instance
    | 9 => by unfold pay; infer_instance
    | 10 => by unfold pay; infer_instance
    | 11 => by unfold pay; infer_instance
    | 12 => by unfold pay; infer_instance
    | 13 => by unfold pay; infer_instance
    | 14 => by unfold pay; infer_instance

/-- What device `c` starts with and ends with. -/
noncomputable def start (c : Dev nD) : sProp 𝕄 :=
  iprop((hLoc P c ↦{fullShare} m (hLoc P c)) ∗ oRow P c c (m (oLoc P c)) ∗ oRow P (peer 1 c) c (m (oLoc P (peer 1 c)))
    ∗ oRow P (peer 2 c) c (m (oLoc P (peer 2 c))) ∗ oRow P (peer 1 c) (peer 2 c) (m (oLoc P (peer 1 c))) ∗ oRow P (peer 4 c) c (m (oLoc P (peer 4 c)))
    ∗ oRow P (peer 1 c) (peer 4 c) (m (oLoc P (peer 1 c))) ∗ oRow P (peer 6 c) c (m (oLoc P (peer 6 c))) ∗ oRow P (peer 1 c) (peer 6 c) (m (oLoc P (peer 1 c))))
noncomputable def finish (c : Dev nD) : sProp 𝕄 := iprop((hLoc P c ↦{fullShare} m (hLoc P c)) ∗ (oLoc P c ↦{fullShare} out P m c))

theorem fifteen_cells (Φ : Fin 15 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ
theorem eight_rows (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem sep_all (Φ Ψ : Dev nD → sProp 𝕄) : (bigSep Finset.univ fun c => iprop(Φ c ∗ Ψ c)) = iprop(bigSep Finset.univ Φ ∗ bigSep Finset.univ Ψ) :=
  BI.bigSep_sep _ _ _

theorem rows_inj (c : Dev nD) : Function.Injective fun k : Fin 8 => (peer k c).val := by revert c; decide
theorem rows_in (c : Dev nD) (x : Fin 8) : ∃ k : Fin 8, x.val = (peer k c).val := by revert c x; decide

/-- The row an element of a result is in. -/
noncomputable def rowNo (i : P.oM.view.ty.shape.Idx) : ℕ :=
  if h : ∃ j : (Stack n w).Idx, P.oM.view.emb j = i then (h.choose 0).val else 0
theorem rowNo_emb (j : (Stack n w).Idx) : rowNo P (P.oM.view.emb j) = (j 0).val := by
  have h : ∃ j' : (Stack n w).Idx, P.oM.view.emb j' = P.oM.view.emb j := ⟨j, rfl⟩
  unfold rowNo
  rw [dif_pos h, P.oM.view.emb.injective h.choose_spec]
theorem emb_all (i : P.oM.view.ty.shape.Idx) : ∃ j : (Stack n w).Idx, P.oM.view.emb j = i := by
  have h : i ∈ P.oM.view.set := by rw [P.oM_set]; exact Finset.mem_univ i
  obtain ⟨j, -, hj⟩ := Finset.mem_map.mp h
  exact ⟨j, hj⟩
theorem rows_all (c : Dev nD) (i : P.oM.view.ty.shape.Idx) : ∃ k : Fin 8, rowNo P i = (peer k c).val := by
  obtain ⟨j, rfl⟩ := emb_all P i
  rw [rowNo_emb]
  exact rows_in c (j 0)
theorem rowNo_set (k : ℕ) : (Finset.univ.filter fun i => rowNo P i = k) = rowSet P k := by
  ext i
  obtain ⟨j, rfl⟩ := emb_all P i
  rw [Finset.mem_filter, rowNo_emb, Finset.mem_map' P.oM.view.emb, Finset.mem_filter]
  simp only [Finset.mem_univ, true_and]

/-- The rows of device `c`'s result. -/
theorem rows (c : Dev nD) (f : Buf Val (oLoc P c)) :
    (oLoc P c ↦{fullShare} f : sProp 𝕄) = iprop(oRow P c c f ∗ oRow P c (peer 1 c) f ∗ oRow P c (peer 2 c) f ∗ oRow P c (peer 3 c) f
      ∗ oRow P c (peer 4 c) f ∗ oRow P c (peer 5 c) f ∗ oRow P c (peer 6 c) f ∗ oRow P c (peer 7 c) f) := by
  have hr : ∀ k : Fin 8, (oLoc P c ↦[Finset.univ.filter fun i => rowNo P i = (peer k c).val]{fullShare} f : sProp 𝕄) = oRow P c (peer k c) f :=
    fun k => congrArg (fun s => (oLoc P c ↦[s]{fullShare} f : sProp 𝕄)) (rowNo_set P (peer k c).val)
  have h0 : oRow P c (peer 0 c) f = oRow P c c f := by rw [peer_zero]
  rw [← h0]
  refine (by_rows (n := 8) (rowNo P) (fun k => (peer k c).val) (rows_inj c) (rows_all P c)).trans ?_
  refine (congrArg (bigSep Finset.univ) (funext fun k => ?_)).trans (eight_rows fun k => oRow P c (peer k c) f)
  convert hr k

/-- A written row is the row of the final result: a part copied, and a row passed on. -/
theorem row_written (c d : Dev nD) {off : Fin 3 → ℕ} {inb : ∀ a, off a + (Row n w).size a ≤ (Stack n w).size a} (h : off = ![c.val, 0, 0]) :
    ((rM P off inb).view.loc (d : Thread nD τ) ↦[(rM P off inb).view.set]{fullShare}
      ((rM P off inb).view.write Val (m (oLoc P d)) (P.hM.view.read Val (m (hLoc P c))) Finset.univ)) ⊢ (oRow P d c (out P m d) : sProp 𝕄) := by
  rw [pointsTo_congr (written (rM P off inb).view _ (out P m d) _ (row_read P m c d h)), row_set P h]
theorem row_passed (c r d : Dev nD) {off : Fin 3 → ℕ} {inb : ∀ a, off a + (Row n w).size a ≤ (Stack n w).size a} (h : off = ![r.val, 0, 0]) :
    ((rM P off inb).view.loc (d : Thread nD τ) ↦[(rM P off inb).view.set]{fullShare}
      ((rM P off inb).view.write Val (m (oLoc P d)) ((rM P off inb).view.read Val (out P m c)) Finset.univ)) ⊢ (oRow P d r (out P m d) : sProp 𝕄) := by
  rw [pointsTo_congr (written (rM P off inb).view _ (out P m d) _ ((row_read P m r d h).trans (row_read P m r c h).symm)), row_set P h]

/-- A share of the part as the copies read it, and a row of the result as they write it or pass it on. -/
theorem part_eq (c : Dev nD) (q : PosShare TreeShare) : (P.hM.view.loc (c : Thread nD τ) ↦[P.hM.view.set]{q} m (hLoc P c)) = (part P m c q : sProp 𝕄) := by
  rw [P.hM_set]
theorem row_eq (d r : Dev nD) {off : Fin 3 → ℕ} {inb : ∀ a, off a + (Row n w).size a ≤ (Stack n w).size a} (h : off = ![r.val, 0, 0]) (f : Buf Val (oLoc P d)) :
    ((rM P off inb).view.loc (d : Thread nD τ) ↦[(rM P off inb).view.set]{fullShare} f) = (oRow P d r f : sProp 𝕄) := by
  rw [row_set P h]

theorem pay_local (c : Dev nD) : iprop(((row1 P c).view.loc (c : Thread nD τ) ↦[(row1 P c).view.set]{fullShare}
      ((row1 P c).view.write Val (m (oLoc P c)) (P.hM.view.read Val (m (hLoc P c))) Finset.univ))
      ∗ (P.hM.view.loc (c : Thread nD τ) ↦[P.hM.view.set]{qL} m (hLoc P c))) ⊢ (pay P m c 14 : sProp 𝕄) := by
  rw [part_eq]
  exact sep_mono (row_written P m c c (off1_eq c)) (Entails.of_eq rfl)

theorem pay_recv0 (c : Dev nD) : ((row1 P c).view.loc (peer 1 c : Thread nD τ) ↦[(row1 P c).view.set]{fullShare}
      ((row1 P c).view.write Val (m (oLoc P (peer 1 c))) (P.hM.view.read Val (m (hLoc P c))) Finset.univ)) ⊢ (pay P m (peer 1 c) 7 : sProp 𝕄) := by
  refine (row_written P m c (peer 1 c) (off1_eq c)).trans (Entails.of_eq ?_)
  show _ = oRow P (peer 1 c) (peer 1 (peer 1 c)) (out P m (peer 1 c))
  rw [peer_peer]
theorem pay_recv1 (c : Dev nD) : ((row1 P c).view.loc (peer 4 c : Thread nD τ) ↦[(row1 P c).view.set]{fullShare}
      ((row1 P c).view.write Val (m (oLoc P (peer 4 c))) (P.hM.view.read Val (m (hLoc P c))) Finset.univ)) ⊢ (pay P m (peer 4 c) 8 : sProp 𝕄) := by
  refine (row_written P m c (peer 4 c) (off1_eq c)).trans (Entails.of_eq ?_)
  show _ = oRow P (peer 4 c) (peer 4 (peer 4 c)) (out P m (peer 4 c))
  rw [peer_peer]
theorem pay_recv2 (c : Dev nD) : ((row1 P c).view.loc (peer 2 c : Thread nD τ) ↦[(row1 P c).view.set]{fullShare}
      ((row1 P c).view.write Val (m (oLoc P (peer 2 c))) (P.hM.view.read Val (m (hLoc P c))) Finset.univ)) ⊢ (pay P m (peer 2 c) 9 : sProp 𝕄) := by
  refine (row_written P m c (peer 2 c) (off1_eq c)).trans (Entails.of_eq ?_)
  show _ = oRow P (peer 2 c) (peer 2 (peer 2 c)) (out P m (peer 2 c))
  rw [peer_peer]
theorem pay_recv3 (c : Dev nD) : ((row1 P c).view.loc (peer 6 c : Thread nD τ) ↦[(row1 P c).view.set]{fullShare}
      ((row1 P c).view.write Val (m (oLoc P (peer 6 c))) (P.hM.view.read Val (m (hLoc P c))) Finset.univ)) ⊢ (pay P m (peer 6 c) 10 : sProp 𝕄) := by
  refine (row_written P m c (peer 6 c) (off1_eq c)).trans (Entails.of_eq ?_)
  show _ = oRow P (peer 6 c) (peer 6 (peer 6 c)) (out P m (peer 6 c))
  rw [peer_peer]
theorem pay_recv4 (c : Dev nD) : ((row2 P c).view.loc (peer 1 c : Thread nD τ) ↦[(row2 P c).view.set]{fullShare}
      ((row2 P c).view.write Val (m (oLoc P (peer 1 c))) ((row2 P c).view.read Val (out P m c)) Finset.univ)) ⊢ (pay P m (peer 1 c) 11 : sProp 𝕄) := by
  refine (row_passed P m c (peer 4 c) (peer 1 c) (off2_eq c)).trans (Entails.of_eq ?_)
  show _ = oRow P (peer 1 c) (peer 5 (peer 1 c)) (out P m (peer 1 c))
  rw [show peer 5 (peer 1 c) = peer 4 c from by revert c; decide]
theorem pay_recv5 (c : Dev nD) : ((row3 P c).view.loc (peer 1 c : Thread nD τ) ↦[(row3 P c).view.set]{fullShare}
      ((row3 P c).view.write Val (m (oLoc P (peer 1 c))) ((row3 P c).view.read Val (out P m c)) Finset.univ)) ⊢ (pay P m (peer 1 c) 12 : sProp 𝕄) := by
  refine (row_passed P m c (peer 2 c) (peer 1 c) (off3_eq c)).trans (Entails.of_eq ?_)
  show _ = oRow P (peer 1 c) (peer 3 (peer 1 c)) (out P m (peer 1 c))
  rw [show peer 3 (peer 1 c) = peer 2 c from by revert c; decide]
theorem pay_recv6 (c : Dev nD) : ((row4 P c).view.loc (peer 1 c : Thread nD τ) ↦[(row4 P c).view.set]{fullShare}
      ((row4 P c).view.write Val (m (oLoc P (peer 1 c))) ((row4 P c).view.read Val (out P m c)) Finset.univ)) ⊢ (pay P m (peer 1 c) 13 : sProp 𝕄) := by
  refine (row_passed P m c (peer 6 c) (peer 1 c) (off4_eq c)).trans (Entails.of_eq ?_)
  show _ = oRow P (peer 1 c) (peer 7 (peer 1 c)) (out P m (peer 1 c))
  rw [show peer 7 (peer 1 c) = peer 6 c from by revert c; decide]

/-- The receive cells device `c` still owes, from the `k`-th on. -/
abbrev R7 : Finset (Fin 15) := {7, 8, 9, 10, 11, 12, 13}
abbrev R8 : Finset (Fin 15) := {8, 9, 10, 11, 12, 13}
abbrev R9 : Finset (Fin 15) := {9, 10, 11, 12, 13}
abbrev R10 : Finset (Fin 15) := {10, 11, 12, 13}
abbrev R11 : Finset (Fin 15) := {11, 12, 13}
abbrev R12 : Finset (Fin 15) := {12, 13}
abbrev R13 : Finset (Fin 15) := {13}
abbrev R14 : Finset (Fin 15) := ∅

theorem seven_credits (Φ : Fin 15 → sProp 𝕄) : bigSep R7 Φ = iprop(Φ 7 ∗ Φ 8 ∗ Φ 9 ∗ Φ 10 ∗ Φ 11 ∗ Φ 12 ∗ Φ 13) :=
  bigSep_eq_bigSepL_of_eq [7, 8, 9, 10, 11, 12, 13] (by decide) (by decide) Φ

section Instance

variable {Λ₀ : Labels} (cfg : Cfg sig Λ₀) [IsEmpty (Fin cfg.W)] (defs₀ : Defs nD τ sig Val Λ₀)

/-- The call's body runs the kernel. -/
def Runs : Prop := ∀ (t : Fin cfg.N) (c : Dev nD) (𝒱 : Variants) (Q : sProp 𝕄),
  wp frame (wpE defs₀ 𝒱 (c : Thread nD τ) none) Set.univ (prog P) (fun _ => Q)
    ⊢ wp frame (wpE defs₀ 𝒱 (c : Thread nD τ) none) Set.univ (defs₀ .tc cfg.body (cfg.bodyArgs t (cfg.slots t))) fun _ => Q

theorem body (hprog : Runs P cfg defs₀) (𝒱 : Variants) :
    Body (osem P) (amt P) (pay P m) (hamt P) dst lvl cfg defs₀ 𝒱 (start P m) (finish P m) R7 := by
  intro t c K W
  refine BIBase.Entails.trans ?_ (hprog t c 𝒱 _)
  show _ ⊢ wp frame (wpE defs₀ 𝒱 (c : Thread nD τ) none) Set.univ (prog P) _
  unfold prog
  simp only [Prog.lift, Prog.bind_op, Prog.bind_ret, Prog.pure_eq_ret, wp_deviceId]
  unfold start finish positions payToks credits ownSems0
  simp only [fifteen_cells, seven_credits]
  rw [shares]
  iintro ⟨#HR, #HL, ⟨Ha0, Ha1, Ha2, Ha3, Ha4, Ha5, Ha6, Ha7, Ha8, Ha9, Ha10, Ha11, Ha12, Ha13, Ha14⟩, ⟨Ht0, Ht1, Ht2, Ht3, Ht4, Ht5, Ht6, Ht7, Ht8, Ht9, Ht10, Ht11, Ht12, Ht13, Ht14⟩,
    ⟨Hc7, Hc8, Hc9, Hc10, Hc11, Hc12, Hc13⟩, HO, ⟨⟨⟨HsL, Hs0⟩, Hs1⟩, Hs2, Hs3⟩, Ho0, Hd1, Hd2, Hf2, Hd4, Hf4, Hd6, Hf6⟩
  -- its own copy
  iapply (wp_copy_once (osem P) (amt P) (pay P m) (hos P) (hamt P) dst 𝒱 K c 14 rfl rfl (src := P.hM) (dm := row1 P c) (fs := m (hLoc P c)) (fd := m (oLoc P c)) (q := qL)
    (P.credit _ _) (pay_local P m c)) $$ [HsL Ho0 Ht14]
  · isplitr; · iexact HR
    isplitl [HsL]; · rw [part_eq]; iexact HsL
    isplitl [Ho0]; · rw [row_eq P c c (off1_eq c)]; iexact Ho0
    iexact Ht14
  iintro Hc14
  -- the part to peer 1
  iapply (wp_send_to (osem P) (amt P) (pay P m) (hos P) (hamt P) dst 𝒱 K c _ (peer 1 c) (dev1_eq c) 0 7 R7 (by decide) rfl rfl rfl rfl
    (src := P.hM) (dm := row1 P c) (fs := m (hLoc P c)) (fd := m (oLoc P (peer 1 c))) (q := q0) (P.credit _ _) rfl
    (Entails.of_eq (part_eq P m c q0)) (pay_recv0 P m c) (by routes)) $$ [Hs0 Hd1 HO Ht0 Ht7]
  · isplitr; · iexact HR
    isplitl [Hs0]; · rw [part_eq]; iexact Hs0
    isplitl [Hd1]; · rw [row_eq P (peer 1 c) c (off1_eq c)]; iexact Hd1
    isplitl [HO]; · iexact HO
    isplitl [Ht0]; · iexact Ht0
    iexact Ht7
  iintro ⟨Hc0, HO⟩
  rw [show R7.erase 7 = R8 from by decide]
  -- the part to peer 4
  iapply (wp_send_to (osem P) (amt P) (pay P m) (hos P) (hamt P) dst 𝒱 K c _ (peer 4 c) (dev2_eq c) 1 8 R8 (by decide) rfl rfl rfl rfl
    (src := P.hM) (dm := row1 P c) (fs := m (hLoc P c)) (fd := m (oLoc P (peer 4 c))) (q := q1) (P.credit _ _) rfl
    (Entails.of_eq (part_eq P m c q1)) (pay_recv1 P m c) (by routes)) $$ [Hs1 Hd4 HO Ht1 Ht8]
  · isplitr; · iexact HR
    isplitl [Hs1]; · rw [part_eq]; iexact Hs1
    isplitl [Hd4]; · rw [row_eq P (peer 4 c) c (off1_eq c)]; iexact Hd4
    isplitl [HO]; · iexact HO
    isplitl [Ht1]; · iexact Ht1
    iexact Ht8
  iintro ⟨Hc1, HO⟩
  rw [show R8.erase 8 = R9 from by decide]
  -- the part to peer 2
  iapply (wp_send_to (osem P) (amt P) (pay P m) (hos P) (hamt P) dst 𝒱 K c _ (peer 2 c) (dev3_eq c) 2 9 R9 (by decide) rfl rfl rfl rfl
    (src := P.hM) (dm := row1 P c) (fs := m (hLoc P c)) (fd := m (oLoc P (peer 2 c))) (q := q2) (P.credit _ _) rfl
    (Entails.of_eq (part_eq P m c q2)) (pay_recv2 P m c) (by routes)) $$ [Hs2 Hd2 HO Ht2 Ht9]
  · isplitr; · iexact HR
    isplitl [Hs2]; · rw [part_eq]; iexact Hs2
    isplitl [Hd2]; · rw [row_eq P (peer 2 c) c (off1_eq c)]; iexact Hd2
    isplitl [HO]; · iexact HO
    isplitl [Ht2]; · iexact Ht2
    iexact Ht9
  iintro ⟨Hc2, HO⟩
  rw [show R9.erase 9 = R10 from by decide]
  -- the part to peer 6
  iapply (wp_send_to (osem P) (amt P) (pay P m) (hos P) (hamt P) dst 𝒱 K c _ (peer 6 c) (dev4_eq c) 3 10 R10 (by decide) rfl rfl rfl rfl
    (src := P.hM) (dm := row1 P c) (fs := m (hLoc P c)) (fd := m (oLoc P (peer 6 c))) (q := q3) (P.credit _ _) rfl
    (Entails.of_eq (part_eq P m c q3)) (pay_recv3 P m c) (by routes)) $$ [Hs3 Hd6 HO Ht3 Ht10]
  · isplitr; · iexact HR
    isplitl [Hs3]; · rw [part_eq]; iexact Hs3
    isplitl [Hd6]; · rw [row_eq P (peer 6 c) c (off1_eq c)]; iexact Hd6
    isplitl [HO]; · iexact HO
    isplitl [Ht3]; · iexact Ht3
    iexact Ht10
  iintro ⟨Hc3, HO⟩
  rw [show R10.erase 10 = R11 from by decide]
  -- the wait for cell 8
  iapply (wp_drain_once (osem P) (amt P) (pay P m) (hos P) (hamt P) dst lvl 𝒱 K c 8 R11 (by decide) rfl (dm := row2 P c) (P.credit _ _)) $$ [Hc8 HO Ha8]
  · isplitr; · iexact HR
    isplitr; · iexact HL
    isplitl [Hc8]; · iexact Hc8
    isplitl [HO]; · iexact HO
    iexact Ha8
  iintro ⟨HO, Ho4, Hz8⟩
  -- the row of peer 4 to its sibling
  iapply (wp_send_to (osem P) (amt P) (pay P m) (hos P) (hamt P) dst 𝒱 K c _ (peer 1 c) (dev5_eq c) 4 11 R11 (by decide) rfl rfl rfl rfl
    (src := row2 P c) (dm := row2 P c) (fs := out P m c) (fd := m (oLoc P (peer 1 c))) (q := fullShare) (P.credit _ _) rfl
    (Entails.of_eq (row_eq P c (peer 4 c) (off2_eq c) (out P m c))) (pay_recv4 P m c) (by routes)) $$ [Ho4 Hf4 HO Ht4 Ht11]
  · isplitr; · iexact HR
    isplitl [Ho4]; · rw [row_eq P c (peer 4 c) (off2_eq c)]; unfold pay; iexact Ho4
    isplitl [Hf4]; · rw [row_eq P (peer 1 c) (peer 4 c) (off2_eq c)]; iexact Hf4
    isplitl [HO]; · iexact HO
    isplitl [Ht4]; · iexact Ht4
    iexact Ht11
  iintro ⟨Hc4, HO⟩
  rw [show R11.erase 11 = R12 from by decide]
  -- the wait for cell 9
  iapply (wp_drain_once (osem P) (amt P) (pay P m) (hos P) (hamt P) dst lvl 𝒱 K c 9 R12 (by decide) rfl (dm := row3 P c) (P.credit _ _)) $$ [Hc9 HO Ha9]
  · isplitr; · iexact HR
    isplitr; · iexact HL
    isplitl [Hc9]; · iexact Hc9
    isplitl [HO]; · iexact HO
    iexact Ha9
  iintro ⟨HO, Ho2, Hz9⟩
  -- the row of peer 2 to its sibling
  iapply (wp_send_to (osem P) (amt P) (pay P m) (hos P) (hamt P) dst 𝒱 K c _ (peer 1 c) (dev6_eq c) 5 12 R12 (by decide) rfl rfl rfl rfl
    (src := row3 P c) (dm := row3 P c) (fs := out P m c) (fd := m (oLoc P (peer 1 c))) (q := fullShare) (P.credit _ _) rfl
    (Entails.of_eq (row_eq P c (peer 2 c) (off3_eq c) (out P m c))) (pay_recv5 P m c) (by routes)) $$ [Ho2 Hf2 HO Ht5 Ht12]
  · isplitr; · iexact HR
    isplitl [Ho2]; · rw [row_eq P c (peer 2 c) (off3_eq c)]; unfold pay; iexact Ho2
    isplitl [Hf2]; · rw [row_eq P (peer 1 c) (peer 2 c) (off3_eq c)]; iexact Hf2
    isplitl [HO]; · iexact HO
    isplitl [Ht5]; · iexact Ht5
    iexact Ht12
  iintro ⟨Hc5, HO⟩
  rw [show R12.erase 12 = R13 from by decide]
  -- the wait for cell 10
  iapply (wp_drain_once (osem P) (amt P) (pay P m) (hos P) (hamt P) dst lvl 𝒱 K c 10 R13 (by decide) rfl (dm := row4 P c) (P.credit _ _)) $$ [Hc10 HO Ha10]
  · isplitr; · iexact HR
    isplitr; · iexact HL
    isplitl [Hc10]; · iexact Hc10
    isplitl [HO]; · iexact HO
    iexact Ha10
  iintro ⟨HO, Ho6, Hz10⟩
  -- the row of peer 6 to its sibling
  iapply (wp_send_to (osem P) (amt P) (pay P m) (hos P) (hamt P) dst 𝒱 K c _ (peer 1 c) (dev7_eq c) 6 13 R13 (by decide) rfl rfl rfl rfl
    (src := row4 P c) (dm := row4 P c) (fs := out P m c) (fd := m (oLoc P (peer 1 c))) (q := fullShare) (P.credit _ _) rfl
    (Entails.of_eq (row_eq P c (peer 6 c) (off4_eq c) (out P m c))) (pay_recv6 P m c) (by routes)) $$ [Ho6 Hf6 HO Ht6 Ht13]
  · isplitr; · iexact HR
    isplitl [Ho6]; · rw [row_eq P c (peer 6 c) (off4_eq c)]; unfold pay; iexact Ho6
    isplitl [Hf6]; · rw [row_eq P (peer 1 c) (peer 6 c) (off4_eq c)]; iexact Hf6
    isplitl [HO]; · iexact HO
    isplitl [Ht6]; · iexact Ht6
    iexact Ht13
  iintro ⟨Hc6, HO⟩
  rw [show R13.erase 13 = R14 from by decide]
  -- the wait for cell 7
  iapply (wp_drain_once (osem P) (amt P) (pay P m) (hos P) (hamt P) dst lvl 𝒱 K c 7 R14 (by decide) rfl (dm := row5 P c) (P.credit _ _)) $$ [Hc7 HO Ha7]
  · isplitr; · iexact HR
    isplitr; · iexact HL
    isplitl [Hc7]; · iexact Hc7
    isplitl [HO]; · iexact HO
    iexact Ha7
  iintro ⟨HO, Ho1, Hz7⟩
  -- the wait for cell 11
  iapply (wp_drain_once (osem P) (amt P) (pay P m) (hos P) (hamt P) dst lvl 𝒱 K c 11 R14 (by decide) rfl (dm := row6 P c) (P.credit _ _)) $$ [Hc11 HO Ha11]
  · isplitr; · iexact HR
    isplitr; · iexact HL
    isplitl [Hc11]; · iexact Hc11
    isplitl [HO]; · iexact HO
    iexact Ha11
  iintro ⟨HO, Ho5, Hz11⟩
  -- the wait for cell 12
  iapply (wp_drain_once (osem P) (amt P) (pay P m) (hos P) (hamt P) dst lvl 𝒱 K c 12 R14 (by decide) rfl (dm := row7 P c) (P.credit _ _)) $$ [Hc12 HO Ha12]
  · isplitr; · iexact HR
    isplitr; · iexact HL
    isplitl [Hc12]; · iexact Hc12
    isplitl [HO]; · iexact HO
    iexact Ha12
  iintro ⟨HO, Ho3, Hz12⟩
  -- the wait for cell 13
  iapply (wp_drain_once (osem P) (amt P) (pay P m) (hos P) (hamt P) dst lvl 𝒱 K c 13 R14 (by decide) rfl (dm := row8 P c) (P.credit _ _)) $$ [Hc13 HO Ha13]
  · isplitr; · iexact HR
    isplitr; · iexact HL
    isplitl [Hc13]; · iexact Hc13
    isplitl [HO]; · iexact HO
    iexact Ha13
  iintro ⟨HO, Ho7, Hz13⟩
  -- the wait for cell 0
  iapply (wp_drain_once (osem P) (amt P) (pay P m) (hos P) (hamt P) dst lvl 𝒱 K c 0 R14 (by decide) rfl (dm := P.hM) rfl) $$ [Hc0 HO Ha0]
  · isplitr; · iexact HR
    isplitr; · iexact HL
    isplitl [Hc0]; · iexact Hc0
    isplitl [HO]; · iexact HO
    iexact Ha0
  iintro ⟨HO, Hs0, Hz0⟩
  -- the wait for cell 1
  iapply (wp_drain_once (osem P) (amt P) (pay P m) (hos P) (hamt P) dst lvl 𝒱 K c 1 R14 (by decide) rfl (dm := P.hM) rfl) $$ [Hc1 HO Ha1]
  · isplitr; · iexact HR
    isplitr; · iexact HL
    isplitl [Hc1]; · iexact Hc1
    isplitl [HO]; · iexact HO
    iexact Ha1
  iintro ⟨HO, Hs1, Hz1⟩
  -- the wait for cell 2
  iapply (wp_drain_once (osem P) (amt P) (pay P m) (hos P) (hamt P) dst lvl 𝒱 K c 2 R14 (by decide) rfl (dm := P.hM) rfl) $$ [Hc2 HO Ha2]
  · isplitr; · iexact HR
    isplitr; · iexact HL
    isplitl [Hc2]; · iexact Hc2
    isplitl [HO]; · iexact HO
    iexact Ha2
  iintro ⟨HO, Hs2, Hz2⟩
  -- the wait for cell 3
  iapply (wp_drain_once (osem P) (amt P) (pay P m) (hos P) (hamt P) dst lvl 𝒱 K c 3 R14 (by decide) rfl (dm := P.hM) rfl) $$ [Hc3 HO Ha3]
  · isplitr; · iexact HR
    isplitr; · iexact HL
    isplitl [Hc3]; · iexact Hc3
    isplitl [HO]; · iexact HO
    iexact Ha3
  iintro ⟨HO, Hs3, Hz3⟩
  -- the wait for cell 4
  iapply (wp_drain_once (osem P) (amt P) (pay P m) (hos P) (hamt P) dst lvl 𝒱 K c 4 R14 (by decide) rfl (dm := row2 P c) (P.credit _ _)) $$ [Hc4 HO Ha4]
  · isplitr; · iexact HR
    isplitr; · iexact HL
    isplitl [Hc4]; · iexact Hc4
    isplitl [HO]; · iexact HO
    iexact Ha4
  iintro ⟨HO, Ho4, Hz4⟩
  -- the wait for cell 5
  iapply (wp_drain_once (osem P) (amt P) (pay P m) (hos P) (hamt P) dst lvl 𝒱 K c 5 R14 (by decide) rfl (dm := row3 P c) (P.credit _ _)) $$ [Hc5 HO Ha5]
  · isplitr; · iexact HR
    isplitr; · iexact HL
    isplitl [Hc5]; · iexact Hc5
    isplitl [HO]; · iexact HO
    iexact Ha5
  iintro ⟨HO, Ho2, Hz5⟩
  -- the wait for cell 6
  iapply (wp_drain_once (osem P) (amt P) (pay P m) (hos P) (hamt P) dst lvl 𝒱 K c 6 R14 (by decide) rfl (dm := row4 P c) (P.credit _ _)) $$ [Hc6 HO Ha6]
  · isplitr; · iexact HR
    isplitr; · iexact HL
    isplitl [Hc6]; · iexact Hc6
    isplitl [HO]; · iexact HO
    iexact Ha6
  iintro ⟨HO, Ho6, Hz6⟩
  -- the wait for cell 14
  iapply (wp_drain_once (osem P) (amt P) (pay P m) (hos P) (hamt P) dst lvl 𝒱 K c 14 R14 (by decide) rfl (dm := row1 P c) (P.credit _ _)) $$ [Hc14 HO Ha14]
  · isplitr; · iexact HR
    isplitr; · iexact HL
    isplitl [Hc14]; · iexact Hc14
    isplitl [HO]; · iexact HO
    iexact Ha14
  iintro ⟨HO, Ho0, Hz14⟩
  rw [wp_ret]; imodintro
  unfold pay
  icases Ho0 with ⟨Ho0, HsL⟩
  isplitl [HsL Hs0 Hs1 Hs2 Hs3 Ho0 Ho1 Ho2 Ho3 Ho4 Ho5 Ho6 Ho7]
  · isplitl [HsL Hs0 Hs1 Hs2 Hs3]
    · isplitl [HsL Hs0 Hs1]
      · isplitl [HsL Hs0]
        · isplitl [HsL] <;> iassumption
        iexact Hs1
      isplitl [Hs2] <;> iassumption
    rw [rows]
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    iexact Ho7
  isplitl [Hz0 Hz1 Hz2 Hz3 Hz4 Hz5 Hz6 Hz7 Hz8 Hz9 Hz10 Hz11 Hz12 Hz13 Hz14]
  · isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    isplitl [Hz8]; · iexact Hz8
    isplitl [Hz9]; · iexact Hz9
    isplitl [Hz10]; · iexact Hz10
    isplitl [Hz11]; · iexact Hz11
    isplitl [Hz12]; · iexact Hz12
    isplitl [Hz13]; · iexact Hz13
    iexact Hz14
  rw [owed_empty]
  iexists _; iexact HO

theorem around (k : Fin 8) : (bigSep Finset.univ fun c => (oRow P c (peer k c) (m (oLoc P c)) : sProp 𝕄))
    = bigSep Finset.univ fun c => oRow P (peer k c) c (m (oLoc P (peer k c))) := by
  rw [bigSep_univ_equiv (swap k) fun c => (oRow P c (peer k c) (m (oLoc P c)) : sProp 𝕄)]
  congr 1
  funext c
  show oRow P (peer k c) (peer k (peer k c)) (m (oLoc P (peer k c))) = _
  rw [peer_peer]
theorem beside (k k' : Fin 8) (h : ∀ c, peer k (peer 1 c) = peer k' c) : (bigSep Finset.univ fun c => (oRow P c (peer k c) (m (oLoc P c)) : sProp 𝕄))
    = bigSep Finset.univ fun c => oRow P (peer 1 c) (peer k' c) (m (oLoc P (peer 1 c))) := by
  rw [bigSep_univ_equiv (swap 1) fun c => (oRow P c (peer k c) (m (oLoc P c)) : sProp 𝕄)]
  congr 1
  funext c
  show oRow P (peer 1 c) (peer k (peer 1 c)) (m (oLoc P (peer 1 c))) = _
  rw [h]

theorem start_split (h : ∀ c : Dev nD, (unscopedBufs c (fun b => m ((c : Thread nD τ).loc b)) : sProp 𝕄)
      = iprop((hLoc P c ↦{fullShare} m (hLoc P c)) ∗ (oLoc P c ↦{fullShare} m (oLoc P c)))) :
    (bigSep Finset.univ fun c : Dev nD => unscopedBufs c (fun b => m ((c : Thread nD τ).loc b))) ⊢ (bigSep Finset.univ (start P m) : sProp 𝕄) := by
  simp only [h, rows]
  unfold start
  simp only [sep_all]
  rw [around P m 1, around P m 2, around P m 4, around P m 6, beside P m 3 2 (by decide), beside P m 5 4 (by decide), beside P m 7 6 (by decide)]

/-- The run of a program that is the call: from any memory every device ends with its part as it was, its result all
    the parts, and every semaphore at zero. -/
theorem run [∀ e, Nonempty (Val e)] (hprog : Runs P cfg defs₀)
    (phinj : Function.Injective (PerCore.cellOf (nD := nD) (τ := τ) (pinD (pcs1 (Val := Val) cfg) (adm1 cfg))))
    (hN : cfg.N = 1) (hw : WinFacts cfg.spec) (ho : OwnSemFacts cfg.spec (osem P)) (hsems : ∀ sm : SemLoc sig, sm.isScoped .tc = true)
    (hbufs : ∀ c : Dev nD, (unscopedBufs c (fun b => m ((c : Thread nD τ).loc b)) : sProp 𝕄)
      = iprop((hLoc P c ↦{fullShare} m (hLoc P c)) ∗ (oLoc P c ↦{fullShare} m (oLoc P c))))
    (main : Dev nD → Prog (TpuEff nD τ sig Val (Pipeline.Sig Λ₀ (Fin 1) fun p => (pcs1 (Val := Val) cfg p).Adm) .tc) PUnit)
    (hmain : ∀ c, main c = Prog.op (.customCall (Pipeline.entry (0 : Fin 1)) ()) fun u => Prog.ret u) :
    θ_run (Pipeline.defs (pcs1 (Val := Val) cfg) defs₀) (onTc main) ⟨m, fun _ => 0, ρ⟩
      fun r => (∀ c, r.2.mem (oLoc P c) = out P m c) ∧ (∀ c, r.2.mem (hLoc P c) = m (hLoc P c)) ∧ r.2.sem = fun _ => 0 :=
  θ_run_once (osem P) (amt P) (pay P m) (hos P) (hamt P) dst lvl cfg phinj hN hw ho defs₀ Variants.none (start P m) (finish P m) R7
    (body P m cfg defs₀ hprog _) m ρ main hmain (start_split P m hbufs)
    (fun c s => s.mem (oLoc P c) = out P m c ∧ s.mem (hLoc P c) = m (hLoc P c))
    (fun c s' => by
      unfold finish
      iintro ⟨⟨Hg, Ho⟩, HSI⟩
      icombine HSI Hg gives %hg
      icombine HSI Ho gives %ho
      imodintro
      isplitr
      · ipureintro; exact ⟨funext fun i => ho i (Finset.mem_univ _), funext fun i => hg i (Finset.mem_univ _)⟩
      iexact HSI)
    (fun s h hs => ⟨fun c => (h c).1, fun c => (h c).2, sem_eq_zero_of_scoped hsems hs⟩)

end Instance

end

end Cert.GatherCall

end
-- ==== Proof.Gathers.lean ====
/-
# The four gathers

The calls that gather the weights, the conditioning with the convolutions' weights, the modulation and the small gradients
are the all-gather of `GatherCall`, each at its own arrays. What each ends with is what its reference states: the parts, stacked.
-/
module

public import proofs.«01_k».proof.Proof.GatherCall
public import proofs.«01_k».proof.Proof.Halves
public import proofs.«01_k».proof.Proof.Gen.GatherIdeal
public import proofs.«01_k».proof.Proof.Gen.GatherIdeal.Launch
public import proofs.«01_k».proof.Proof.Gen.GatherSmallIdeal
public import proofs.«01_k».proof.Proof.Gen.GatherSmallIdeal.Launch
public import proofs.«01_k».proof.Proof.Gen.GatherModIdeal
public import proofs.«01_k».proof.Proof.Gen.GatherModIdeal.Launch
public import proofs.«01_k».proof.Proof.Gen.GatherPartsIdeal
public import proofs.«01_k».proof.Proof.Gen.GatherPartsIdeal.Launch

@[expose] public section

section

open Idealize.ShloMosaic Idealize.ShloMosaic.ValueIdx
open Idealize.ShloMosaic.TcCoe
open Idealize.SL Idealize.SL.BI Idealize.SL.BI.BIBase Idealize.SL.ProofMode Idealize.SL.Sem
open Idealize.ShloMosaic.Pipeline
open Cert.OneShot Cert.Halves
open Cert.GatherCall hiding nD τ

namespace Cert.GatherCall

variable {sig : RefSig} {n w N : ℕ} {e : EltTy} {Val : EltTy → Type} (P : Call sig n w e) (m : (ℓ : Loc 8 τ sig) → Buf Val ℓ)

/-- The parts of an array, stacked, are the array reshaped to a stack. -/
theorem stacked_eq (hN : N = 8 * n) (X : (⟨2, ![N, w]⟩ : Shape).Idx → Val e) (ht : Layout.Tiles ⟨2, ![n, w]⟩ ⟨2, ![N, w]⟩ 0 8)
    (hX : ∀ c, P.hM.view.read Val (m (hLoc P c)) = Layout.block ⟨2, ![n, w]⟩ ⟨2, ![N, w]⟩ 0 8 c X ht)
    (hs : (⟨2, ![N, w]⟩ : Shape).ShapeCasts ⟨3, ![8, n, w]⟩) : stacked P m = shapeCast ⟨3, ![8, n, w]⟩ X hs := by
  funext i
  obtain ⟨k, y, z, rfl⟩ : ∃ (k : Fin 8) (y : Fin n) (z : Fin w), i = ix3 k y z := ⟨_, _, _, eq_ix3 i⟩
  rw [stack_apply hN]
  show P.hM.view.read Val (m (hLoc P k)) (ix2 y z) = _
  rw [hX, half_block hN]

end Cert.GatherCall

namespace Cert.GatherRun

open Cert.GatherIdeal Cert.GatherIdeal.Gen

variable {F : FTy → Type} [FloatOps F] (m : (ℓ : Loc nD τ sig) → Buf (Elt F) ℓ)

/-- A row begins and ends at a word. -/
theorem row_words (off : Fin 3 → ℕ) (inb : ∀ a, off a + (Row 2848 1024).size a ≤ (Stack 2848 1024).size a) :
    (Rect.unit (s := Stack 2848 1024) off (Row 2848 1024).size inb).WholeWords (EltTy.packing .bf16) := by
  have h0 : off 0 + 1 ≤ 8 := inb 0
  have h1 : off 1 = 0 := by have h : off 1 + 2848 ≤ 2848 := inb 1; omega
  have h2 : off 2 = 0 := by have h : off 2 + 1024 ≤ 1024 := inb 2; omega
  obtain ⟨d, hd⟩ : ∃ d : Dev nD, off = k0_off1 d := ⟨⟨off 0, h0⟩, by
    rw [Cert.GatherCall.off1_eq]
    funext a
    match a with
    | ⟨0, _⟩ => rfl
    | ⟨1, _⟩ => exact h1
    | ⟨2, _⟩ => exact h2⟩
  subst hd
  exact k0_off1_wordsbf16 d

/-- The gather of the weights, in bf16: its arrays and cells. -/
def call : Call sig 2848 1024 .bf16 where
  hM := Memref.whole main_arg0
  oM := Memref.whole main_v1
  s := fun k => k
  s_inj := fun _ _ h => h
  hM_set := View.set_whole _
  oM_set := View.set_whole _
  pos := View.dmaCredit_pos _ (by decide)
  credit := fun _ _ => rfl
  hM_words := (Memref.isWhole_whole main_arg0).wordExact
  oM_words := fun off inb => ((Memref.isWhole_whole main_v1).wordExact_slice rfl _ (row_words off inb)).reshape _ _
  oM_on := rfl

theorem runs : Runs (Val := Elt F) call cfg0 (defs₀ (F := F)) := fun _ _ _ _ => Entails.of_eq rfl
theorem ho : OwnSemFacts cfg0.spec (osem call) := by decide

theorem run_main (ρ : Dev nD → PrngReg) : θ_run (defs (F := F)) (onTc (τ := τ) (main (F := F))) ⟨m, fun _ => 0, ρ⟩
    fun r => (∀ c, r.2.mem (oLoc call c) = out call m c) ∧ (∀ c, r.2.mem (hLoc call c) = m (hLoc call c)) ∧ r.2.sem = fun _ => 0 :=
  run call m ρ cfg0 (defs₀ (F := F)) runs cellOf_inj N_0 winFacts0 ho (by decide)
    (fun _ => bigSep_eq_bigSepL_of_eq [main_arg0, main_v1] (by decide) (by decide) _) main (fun _ => rfl)

theorem out_eq (X : (⟨2, ![22784, 1024]⟩ : Shape).Idx → F .bf16) (hX : ∀ c : Dev nD, m ((c : Thread nD τ).loc main_arg0) = Layout.block ⟨2, ![2848, 1024]⟩ ⟨2, ![22784, 1024]⟩ 0 8 c X)
    (hs : (⟨2, ![22784, 1024]⟩ : Shape).ShapeCasts ⟨3, ![8, 2848, 1024]⟩) (c : Dev nD) : out call m c = (shapeCast ⟨3, ![8, 2848, 1024]⟩ X hs : (⟨3, ![8, 2848, 1024]⟩ : Shape).Idx → F .bf16) :=
  (View.write_whole_univ _ _ _).trans (stacked_eq call m rfl X _ hX hs)

end Cert.GatherRun

namespace Cert.GatherSmallRun

open Cert.GatherSmallIdeal Cert.GatherSmallIdeal.Gen

variable {F : FTy → Type} [FloatOps F] (m : (ℓ : Loc nD τ sig) → Buf (Elt F) ℓ)

/-- The gather of the conditioning and the convolutions' weights: its arrays and cells. -/
def call : Call sig 16 1024 .f32 where
  hM := Memref.whole main_arg0
  oM := Memref.whole main_v1
  s := fun k => k
  s_inj := fun _ _ h => h
  hM_set := View.set_whole _
  oM_set := View.set_whole _
  pos := View.dmaCredit_pos _ (by decide)
  credit := fun _ _ => rfl
  hM_words := View.wordExact_bits rfl
  oM_words := fun _ _ => (View.wordExact_bits rfl).reshape _ _
  oM_on := rfl

theorem runs : Runs (Val := Elt F) call cfg0 (defs₀ (F := F)) := fun _ _ _ _ => Entails.of_eq rfl
theorem ho : OwnSemFacts cfg0.spec (osem call) := by decide

theorem run_main (ρ : Dev nD → PrngReg) : θ_run (defs (F := F)) (onTc (τ := τ) (main (F := F))) ⟨m, fun _ => 0, ρ⟩
    fun r => (∀ c, r.2.mem (oLoc call c) = out call m c) ∧ (∀ c, r.2.mem (hLoc call c) = m (hLoc call c)) ∧ r.2.sem = fun _ => 0 :=
  run call m ρ cfg0 (defs₀ (F := F)) runs cellOf_inj N_0 winFacts0 ho (by decide)
    (fun _ => bigSep_eq_bigSepL_of_eq [main_arg0, main_v1] (by decide) (by decide) _) main (fun _ => rfl)

theorem out_eq (X : (⟨2, ![128, 1024]⟩ : Shape).Idx → F .f32) (hX : ∀ c : Dev nD, m ((c : Thread nD τ).loc main_arg0) = Layout.block ⟨2, ![16, 1024]⟩ ⟨2, ![128, 1024]⟩ 0 8 c X)
    (hs : (⟨2, ![128, 1024]⟩ : Shape).ShapeCasts ⟨3, ![8, 16, 1024]⟩) (c : Dev nD) : out call m c = (shapeCast ⟨3, ![8, 16, 1024]⟩ X hs : (⟨3, ![8, 16, 1024]⟩ : Shape).Idx → F .f32) :=
  (View.write_whole_univ _ _ _).trans (stacked_eq call m rfl X _ hX hs)

end Cert.GatherSmallRun

namespace Cert.GatherModRun

open Cert.GatherModIdeal Cert.GatherModIdeal.Gen

variable {F : FTy → Type} [FloatOps F] (m : (ℓ : Loc nD τ sig) → Buf (Elt F) ℓ)

/-- The gather of the modulation: its arrays and cells. -/
def call : Call sig 8 1536 .f32 where
  hM := Memref.whole main_arg0
  oM := Memref.whole main_v1
  s := fun k => k
  s_inj := fun _ _ h => h
  hM_set := View.set_whole _
  oM_set := View.set_whole _
  pos := View.dmaCredit_pos _ (by decide)
  credit := fun _ _ => rfl
  hM_words := View.wordExact_bits rfl
  oM_words := fun _ _ => (View.wordExact_bits rfl).reshape _ _
  oM_on := rfl

theorem runs : Runs (Val := Elt F) call cfg0 (defs₀ (F := F)) := fun _ _ _ _ => Entails.of_eq rfl
theorem ho : OwnSemFacts cfg0.spec (osem call) := by decide

theorem run_main (ρ : Dev nD → PrngReg) : θ_run (defs (F := F)) (onTc (τ := τ) (main (F := F))) ⟨m, fun _ => 0, ρ⟩
    fun r => (∀ c, r.2.mem (oLoc call c) = out call m c) ∧ (∀ c, r.2.mem (hLoc call c) = m (hLoc call c)) ∧ r.2.sem = fun _ => 0 :=
  run call m ρ cfg0 (defs₀ (F := F)) runs cellOf_inj N_0 winFacts0 ho (by decide)
    (fun _ => bigSep_eq_bigSepL_of_eq [main_arg0, main_v1] (by decide) (by decide) _) main (fun _ => rfl)

theorem out_eq (X : (⟨2, ![64, 1536]⟩ : Shape).Idx → F .f32) (hX : ∀ c : Dev nD, m ((c : Thread nD τ).loc main_arg0) = Layout.block ⟨2, ![8, 1536]⟩ ⟨2, ![64, 1536]⟩ 0 8 c X)
    (hs : (⟨2, ![64, 1536]⟩ : Shape).ShapeCasts ⟨3, ![8, 8, 1536]⟩) (c : Dev nD) : out call m c = (shapeCast ⟨3, ![8, 8, 1536]⟩ X hs : (⟨3, ![8, 8, 1536]⟩ : Shape).Idx → F .f32) :=
  (View.write_whole_univ _ _ _).trans (stacked_eq call m rfl X _ hX hs)

end Cert.GatherModRun

namespace Cert.GatherPartsRun

open Cert.GatherPartsIdeal Cert.GatherPartsIdeal.Gen

variable {F : FTy → Type} [FloatOps F] (m : (ℓ : Loc nD τ sig) → Buf (Elt F) ℓ)

/-- The gather of the small gradients: its arrays and cells. -/
def call : Call sig 80 1024 .f32 where
  hM := Memref.whole main_arg0
  oM := Memref.whole main_v1
  s := fun k => k
  s_inj := fun _ _ h => h
  hM_set := View.set_whole _
  oM_set := View.set_whole _
  pos := View.dmaCredit_pos _ (by decide)
  credit := fun _ _ => rfl
  hM_words := View.wordExact_bits rfl
  oM_words := fun _ _ => (View.wordExact_bits rfl).reshape _ _
  oM_on := rfl

theorem runs : Runs (Val := Elt F) call cfg0 (defs₀ (F := F)) := fun _ _ _ _ => Entails.of_eq rfl
theorem ho : OwnSemFacts cfg0.spec (osem call) := by decide

theorem run_main (ρ : Dev nD → PrngReg) : θ_run (defs (F := F)) (onTc (τ := τ) (main (F := F))) ⟨m, fun _ => 0, ρ⟩
    fun r => (∀ c, r.2.mem (oLoc call c) = out call m c) ∧ (∀ c, r.2.mem (hLoc call c) = m (hLoc call c)) ∧ r.2.sem = fun _ => 0 :=
  run call m ρ cfg0 (defs₀ (F := F)) runs cellOf_inj N_0 winFacts0 ho (by decide)
    (fun _ => bigSep_eq_bigSepL_of_eq [main_arg0, main_v1] (by decide) (by decide) _) main (fun _ => rfl)

theorem out_eq (X : (⟨2, ![640, 1024]⟩ : Shape).Idx → F .f32) (hX : ∀ c : Dev nD, m ((c : Thread nD τ).loc main_arg0) = Layout.block ⟨2, ![80, 1024]⟩ ⟨2, ![640, 1024]⟩ 0 8 c X)
    (hs : (⟨2, ![640, 1024]⟩ : Shape).ShapeCasts ⟨3, ![8, 80, 1024]⟩) (c : Dev nD) : out call m c = (shapeCast ⟨3, ![8, 80, 1024]⟩ X hs : (⟨3, ![8, 80, 1024]⟩ : Shape).Idx → F .f32) :=
  (View.write_whole_univ _ _ _).trans (stacked_eq call m rfl X _ hX hs)

end Cert.GatherPartsRun

end
-- ==== Proof.SwapRun.lean ====
/-
# The swap of the gradients' halves between siblings

Each device sends its sibling `peer c` the half of its gradients the sibling reduces, straight into the sibling's
result, and waits for its own result and for its send. Nobody signals that it has entered: the sibling's result is a
buffer of `@main`, so the sender holds it from the start. Protocol, per device `c`:

* cell 0 (send): raised by `c`'s copy once it has read; hands back the elements of `c`'s gradients it read;
* cell 1 (receive): raised by the copy of `peer c`; hands over `c`'s result, holding the rows the peer sent.

Device `c` starts with its gradients and the result buffer of `peer c`, and ends with its gradients and its result.
-/
module

public import proofs.«01_k».proof.Proof.OneShot
public import proofs.«01_k».proof.Proof.Gen.SwapIdeal
public import proofs.«01_k».proof.Proof.Gen.SwapIdeal.Skeleton
public import proofs.«01_k».proof.Proof.Gen.SwapIdeal.Launch
public import Idealize.ShloMosaic.Lib.Tactic

@[expose] public section

section

namespace Cert.SwapRun

open Cert.SwapIdeal Cert.SwapIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.OneShot

variable {F : FTy → Type} [FloatOps F]

local notation "𝕄" => MT nD τ sig Unit (Elt F) ℕ (UU nD τ sig) ℕ

variable (m : (ℓ : Loc nD τ sig) → Buf (Elt F) ℓ) (ρ : Dev nD → PrngReg)

/-! ## The sibling and the views -/

/-- The other core of the same chip. -/
def peer (c : Dev nD) : Dev nD := ⟨2 * (c.val / 2) + (c.val + 1) % 2, by have h : c.val < 8 := c.isLt; show _ < 8; omega⟩

theorem peer_peer (c : Dev nD) : peer (peer c) = c := by revert c; decide
theorem dev1_eq (c : Dev nD) : (⟨k0_dev1 c, k0_dev1_lt c⟩ : Dev nD) = peer c := Fin.ext ((k0_dev1_eq c).trans (by revert c; decide))

/-- The siblings' exchange as a permutation of the devices. -/
def swap : Dev nD ≃ Dev nD := ⟨peer, peer, peer_peer, peer_peer⟩

abbrev gM : Memref sig .tc .hbm S4x5696x1024 .f32 := Memref.whole main_arg0
abbrev oM : Memref sig .tc .hbm S4x2848x1024 .f32 := Memref.whole main_v1
/-- The rows of its gradients device `c` sends. -/
abbrev sM (c : Dev nD) : Memref sig .tc .hbm S4x2848x1024 .f32 :=
  gM.slice (Rect.unit (s := S4x5696x1024) (k0_off1 c) S4x2848x1024.size (k0_off1_inb c)) (fun _ => rfl)

abbrev gLoc (c : Dev nD) : Loc nD τ sig := (c : Thread nD τ).loc main_arg0
abbrev oLoc (c : Dev nD) : Loc nD τ sig := (c : Thread nD τ).loc main_v1

/-- What device `c`'s result ends with: the rows its sibling sent. -/
def landed (c : Dev nD) : Buf (Elt F) (oLoc c) := (sM (peer c)).view.read (Elt F) (m (gLoc (peer c)))

/-! ## The protocol -/

abbrev osem : Fin 2 → SemLoc sig := fun | 0 => .dma cc0_scratch0.sem | 1 => .dma cc0_scratch1.sem
abbrev N : ℕ := oM.view.dmaCredit
theorem N_pos : 0 < N := View.dmaCredit_pos _ (by decide)
abbrev amt : Fin 2 → ℕ := fun _ => N
theorem hamt : ∀ k : Fin 2, 0 < amt k := fun _ => N_pos
theorem hos : Function.Injective osem := by decide
theorem ho : OwnSemFacts (cfg0.spec) osem := by decide

/-- Whose cell device `c`'s copy raises: its own send cell, its sibling's receive cell. -/
abbrev dst : Fin 2 → Dev nD ≃ Dev nD := fun | 0 => Equiv.refl _ | 1 => swap
abbrev lvl : Fin 2 → ℕ := fun _ => 0

/-- What the cells hand over: the source elements back, the result at the rows sent. -/
noncomputable def pay (c : Dev nD) : Fin 2 → sProp 𝕄 := fun
  | 0 => gLoc c ↦[(sM c).view.set]{fullShare} m (gLoc c)
  | 1 => oLoc c ↦{fullShare} landed m c

instance : Storing (pay m) where
  storable c k := match k with
    | 0 => by unfold pay; infer_instance
    | 1 => by unfold pay; infer_instance

/-- What device `c` starts with and ends with. -/
noncomputable def start (c : Dev nD) : sProp 𝕄 := iprop((gLoc c ↦{fullShare} m (gLoc c)) ∗ (oLoc (peer c) ↦{fullShare} m (oLoc (peer c))))
noncomputable def finish (c : Dev nD) : sProp 𝕄 := iprop((gLoc c ↦{fullShare} m (gLoc c)) ∗ (oLoc c ↦{fullShare} landed m c))

theorem two_cells (Φ : Fin 2 → sProp 𝕄) : bigSep Finset.univ Φ = iprop(Φ 0 ∗ Φ 1) := bigSep_univ_eq_bigSepL [0, 1] (by decide) (by decide) Φ

theorem sep_all (Φ Ψ : Dev nD → sProp 𝕄) : (bigSep Finset.univ fun c => iprop(Φ c ∗ Ψ c)) = iprop(bigSep Finset.univ Φ ∗ bigSep Finset.univ Ψ) :=
  BI.bigSep_sep _ _ _

theorem landed_peer (c : Dev nD) :
    (oM.view.write (Elt F) (m (oLoc (peer c))) ((sM c).view.read (Elt F) (m (gLoc c))) Finset.univ : Buf (Elt F) (oLoc (peer c))) = landed m (peer c) := by
  unfold landed; rw [peer_peer]; exact View.write_whole_univ _ _ _

theorem pay_send (c : Dev nD) : ((sM c).view.loc (c : Thread nD τ) ↦[(sM c).view.set]{fullShare} m (gLoc c)) ⊢ (pay m c 0 : sProp 𝕄) := Entails.of_eq rfl
theorem pay_recv (c : Dev nD) : (oM.view.loc (peer c : Thread nD τ) ↦[oM.view.set]{fullShare}
      (oM.view.write (Elt F) (m (oLoc (peer c))) ((sM c).view.read (Elt F) (m (gLoc c))) Finset.univ)) ⊢ (pay m (peer c) 1 : sProp 𝕄) := by
  rw [landed_peer, View.set_whole]; exact Entails.of_eq rfl

/-- The rows `c` sends, carved out of its gradients. -/
theorem carve (c : Dev nD) : (gLoc c ↦{fullShare} m (gLoc c) : sProp 𝕄)
    ⊣⊢ iprop((gLoc c ↦[(sM c).view.set]{fullShare} m (gLoc c)) ∗ gLoc c ↦[Finset.univ \ (sM c).view.set]{fullShare} m (gLoc c)) :=
  pointsTo_split_subset (Finset.subset_univ _)

theorem body (𝒱 : Variants) : Body osem amt (pay m) hamt dst lvl cfg0 (defs₀ (F := F)) 𝒱 (start m) (finish m) {1} := by
  intro t c K W
  show _ ⊢ wp frame _ _ (cc0_grad_swap (F := F) gM (Memref.isWhole_whole _) oM (Memref.isWhole_whole _) cc0_scratch0 cc0_scratch1) _
  simp only [cc0_grad_swap_eq_skeleton]
  unfold cc0_grad_swap_skel
  simp only [Prog.lift, Prog.bind_op, Prog.bind_ret, Prog.pure_eq_ret, wp_deviceId]
  unfold start finish positions payToks credits ownSems0
  simp only [two_cells, BI.bigSep_singleton]
  iintro ⟨#HR, #HL, ⟨Ha0, Ha1⟩, ⟨Ht0, Ht1⟩, Hc1, HO, Hg, Ho⟩
  -- the copy: the rows it reads are carved out of the gradients
  ihave Hg := (carve m c).1 $$ Hg
  icases Hg with ⟨Hs, Hrest⟩

  iapply (wp_send_to osem amt (pay m) hos hamt dst 𝒱 K c _ (peer c) (dev1_eq c) 0 1 (Singleton.singleton 1) (Finset.mem_singleton_self _) rfl rfl rfl rfl
    (src := sM c) (dm := oM) (fs := m (gLoc c)) (fd := m (oLoc (peer c))) (q := fullShare) rfl rfl (pay_send m c)
    (pay_recv m c) (by routes)) $$ [Hs Ho HO Ht0 Ht1]
  · isplitr; · iexact HR
    isplitl [Hs]; · iexact Hs
    isplitl [Ho]; · rw [View.set_whole]; iexact Ho
    isplitl [HO]; · iexact HO
    isplitl [Ht0]; · iexact Ht0
    iexact Ht1
  iintro ⟨Hc0, HO⟩

  rw [show (Singleton.singleton 1 : Finset (Fin 2)).erase 1 = ∅ from by decide]

  -- the wait for its own result
  iapply (wp_drain_once osem amt (pay m) hos hamt dst lvl 𝒱 K c 1 ∅ (fun _ h => absurd h (Finset.notMem_empty _)) rfl (dm := oM) rfl) $$ [Hc1 HO Ha1]
  · isplitr; · iexact HR
    isplitr; · iexact HL
    isplitl [Hc1]; · iexact Hc1
    isplitl [HO]; · iexact HO
    iexact Ha1
  iintro ⟨HO, Ho, Hz1⟩
  -- the wait for its send
  iapply (wp_drain_once osem amt (pay m) hos hamt dst lvl 𝒱 K c 0 ∅ (fun _ h => absurd h (Finset.notMem_empty _)) rfl (dm := sM c) rfl) $$ [Hc0 HO Ha0]
  · isplitr; · iexact HR
    isplitr; · iexact HL
    isplitl [Hc0]; · iexact Hc0
    isplitl [HO]; · iexact HO
    iexact Ha0
  iintro ⟨HO, Hs, Hz0⟩
  rw [wp_ret]; imodintro
  unfold pay
  ihave Hg := (carve m c).2 $$ [Hs Hrest]
  · isplitl [Hs] <;> iassumption
  isplitl [Hg Ho]
  · isplitl [Hg] <;> iassumption
  isplitl [Hz0 Hz1]
  · isplitl [Hz0] <;> iassumption
  rw [owed_empty]
  iexists _; iexact HO

/-! ## The run -/

theorem start_split : (bigSep Finset.univ fun c : Dev nD => unscopedBufs c (fun b => m ((c : Thread nD τ).loc b))) ⊢ (bigSep Finset.univ (start m) : sProp 𝕄) := by
  have h : ∀ c : Dev nD, (unscopedBufs c (fun b => m ((c : Thread nD τ).loc b)) : sProp 𝕄)
      = iprop((gLoc c ↦{fullShare} m (gLoc c)) ∗ (oLoc c ↦{fullShare} m (oLoc c))) := fun c =>
    bigSep_eq_bigSepL_of_eq [main_arg0, main_v1] (by decide) (by decide) _
  simp only [h]
  unfold start
  rw [sep_all, sep_all, bigSep_univ_equiv swap fun c => (oLoc c ↦{fullShare} m (oLoc c) : sProp 𝕄)]
  exact Entails.of_eq rfl

/-- The run: from any memory every device ends with its gradients as they were, its result the rows its sibling sent,
    and every semaphore at zero. -/
theorem run_main : θ_run (defs (F := F)) (onTc (τ := τ) (main (F := F))) ⟨m, fun _ => 0, ρ⟩
    fun r => (∀ c, r.2.mem (oLoc c) = landed m c) ∧ (∀ c, r.2.mem (gLoc c) = m (gLoc c)) ∧ r.2.sem = fun _ => 0 :=
  θ_run_once osem amt (pay m) hos hamt dst lvl cfg0 cellOf_inj N_0 winFacts0 ho (defs₀ (F := F)) Variants.none (start m) (finish m) {1}
    (body m _) m ρ main (fun _ => rfl) (start_split m)
    (fun c s => s.mem (oLoc c) = landed m c ∧ s.mem (gLoc c) = m (gLoc c))
    (fun c s' => by
      unfold finish
      iintro ⟨⟨Hg, Ho⟩, HSI⟩
      icombine HSI Hg gives %hg
      icombine HSI Ho gives %ho
      imodintro
      isplitr
      · ipureintro; exact ⟨funext fun i => ho i (Finset.mem_univ _), funext fun i => hg i (Finset.mem_univ _)⟩
      iexact HSI)
    (fun s h hs => ⟨fun c => (h c).1, fun c => (h c).2, sem_eq_zero_of_scoped (by decide) hs⟩)

end Cert.SwapRun

end
-- ==== Proof.SwapValue.lean ====
/-
# The swap's result is the reference's

The reference cuts the gradients into halves by reshaping, takes of every chip's two cores the half the other one
reduces, and stacks the two: read at row `4·c + s` it is the half device `c`'s sibling sends. Any element type.
-/
module

public import proofs.«01_k».proof.Proof.SwapRun
public import proofs.«01_k».proof.Proof.Gen.SwapRefIdeal
public import Idealize.ShloMosaic.Lib.Pipeline.Value
public import Idealize.ShloMosaic.Lib.ValueIdxCoords
public import Idealize.ShloMosaic.Lib.ValueIdxRank6
public import Idealize.ShloMosaic.Lib.Layout

@[expose] public section

noncomputable section

namespace Cert.SwapValue

open Idealize.ShloMosaic Idealize.ShloMosaic.ValueIdx
open Cert.SwapRefIdeal Cert.SwapRefIdeal.Gen

variable {α : Type}

/-- What the reference computes of the whole gradients. -/
def whole (X : S32x5696x1024.Idx → α) : S32x2848x1024.Idx → α :=
  shapeCast _ (concatenate S4x2x4x2848x1024 1 [⟨S4x1x4x2848x1024, (broadcastInDim S4x1x4x2848x1024 ![0, 2, 3, 4] bcast_S4x4x2848x1024_S4x1x4x2848x1024_0_2_3_4 (shapeCast _ (extractStridedSlice S4x1x4x1x2848x1024 ![0, 1, 0, 0, 0, 0] (shapeCast _ X shapeCasts_S32x5696x1024_S4x2x4x2x2848x1024) slices_S4x2x4x2x2848x1024_S4x1x4x1x2848x1024_0_1_0_0_0_0) shapeCasts_S4x1x4x1x2848x1024_S4x4x2848x1024))⟩, ⟨S4x1x4x2848x1024, (broadcastInDim S4x1x4x2848x1024 ![0, 2, 3, 4] bcast_S4x4x2848x1024_S4x1x4x2848x1024_0_2_3_4 (shapeCast _ (extractStridedSlice S4x1x4x1x2848x1024 ![0, 0, 0, 1, 0, 0] (shapeCast _ X shapeCasts_S32x5696x1024_S4x2x4x2x2848x1024) slices_S4x2x4x2x2848x1024_S4x1x4x1x2848x1024_0_0_0_1_0_0) shapeCasts_S4x1x4x1x2848x1024_S4x4x2848x1024))⟩] concatenates_S4x1x4x2848x1024_S4x1x4x2848x1024_S4x2x4x2848x1024_d1) shapeCasts_S4x2x4x2848x1024_S32x2848x1024

/-- The gradients cut by chip, core, slot and half, read at their coordinates. -/
theorem cut_apply (X : S32x5696x1024.Idx → α) (h : S32x5696x1024.ShapeCasts S4x2x4x2x2848x1024) (p : Fin 4) (k : Fin 2) (s : Fin 4) (f : Fin 2) (r : Fin 2848) (d : Fin 1024) :
    shapeCast S4x2x4x2x2848x1024 X h (ix6 p k s f r d)
      = X (ix3 ⟨8 * p.val + 4 * k.val + s.val, by omega⟩ ⟨2848 * f.val + r.val, by omega⟩ d) := by
  refine shapeCast_apply X h _ _ ?_
  rw [Shape.rowMajor_val_three, Shape.rowMajor_val_six]
  show ((8 * p.val + 4 * k.val + s.val) * 5696 + (2848 * f.val + r.val)) * 1024 + d.val
    = ((((p.val * 2 + k.val) * 4 + s.val) * 2 + f.val) * 2848 + r.val) * 1024 + d.val
  omega

/-- One core's piece: core `k`, half `f` of every chip. -/
theorem piece_apply (X : S32x5696x1024.Idx → α) (k f : Fin 2) (off : Fin 6 → ℕ) (ho : off = ![0, k.val, 0, f.val, 0, 0])
    (hs : S4x2x4x2x2848x1024.Slices off S4x1x4x1x2848x1024) (p : Fin 4) (s : Fin 4) (r : Fin 2848) (d : Fin 1024) :
    broadcastInDim S4x1x4x2848x1024 ![0, 2, 3, 4] bcast_S4x4x2848x1024_S4x1x4x2848x1024_0_2_3_4 (shapeCast S4x4x2848x1024 (extractStridedSlice S4x1x4x1x2848x1024 off
        (shapeCast S4x2x4x2x2848x1024 X shapeCasts_S32x5696x1024_S4x2x4x2x2848x1024) hs) shapeCasts_S4x1x4x1x2848x1024_S4x4x2848x1024) (ix5 p (0 : Fin 1) s r d)
      = X (ix3 ⟨8 * p.val + 4 * k.val + s.val, by omega⟩ ⟨2848 * f.val + r.val, by omega⟩ d) := by
  subst ho
  rw [broadcastInDim_apply _ _ _ _ (ix4 p s r d) (fun a => by match a with | ⟨0, _⟩ => rfl | ⟨1, _⟩ => rfl | ⟨2, _⟩ => rfl | ⟨3, _⟩ => rfl),
    shapeCast_apply _ _ _ (ix6 p (0 : Fin 1) s (0 : Fin 1) r d) (by
      rw [Shape.rowMajor_val_four, Shape.rowMajor_val_six]
      show ((((p.val * 1 + 0) * 4 + s.val) * 1 + 0) * 2848 + r.val) * 1024 + d.val = ((p.val * 4 + s.val) * 2848 + r.val) * 1024 + d.val
      omega),
    extractStridedSlice_apply _ _ _ _ (ix6 p k s f r d) (fun a => by
      match a with
      | ⟨0, _⟩ => exact (Nat.zero_add _).symm | ⟨1, _⟩ => rfl | ⟨2, _⟩ => exact (Nat.zero_add _).symm | ⟨3, _⟩ => rfl
      | ⟨4, _⟩ => exact (Nat.zero_add _).symm | ⟨5, _⟩ => exact (Nat.zero_add _).symm)]
  exact cut_apply X _ p k s f r d

/-- The reference at a row of the first core: the other core's rows, first half. -/
theorem whole_even (X : S32x5696x1024.Idx → α) (p s : Fin 4) (r : Fin 2848) (d : Fin 1024) :
    whole X (ix3 ⟨8 * p.val + s.val, by omega⟩ r d) = X (ix3 ⟨8 * p.val + 4 + s.val, by omega⟩ ⟨r.val, by omega⟩ d) := by
  unfold whole
  rw [shapeCast_apply _ _ _ (ix5 p (0 : Fin 2) s r d) (by
      rw [Shape.rowMajor_val_five, Shape.rowMajor_val_three]
      show (((p.val * 2 + 0) * 4 + s.val) * 2848 + r.val) * 1024 + d.val = ((8 * p.val + s.val) * 2848 + r.val) * 1024 + d.val
      omega),
    concatenate_pair_apply_left (t := S4x2x4x2848x1024) (s₁ := S4x1x4x2848x1024) (s₂ := S4x1x4x2848x1024) _ _ _ _ _ rfl (ix5 p (0 : Fin 1) s r d) (fun a => by
      match a with | ⟨0, _⟩ => rfl | ⟨1, _⟩ => rfl | ⟨2, _⟩ => rfl | ⟨3, _⟩ => rfl | ⟨4, _⟩ => rfl),
    piece_apply X 1 0 ![0, 1, 0, 0, 0, 0] rfl]
  congr 2
  exact Fin.ext (by show 2848 * 0 + r.val = r.val; omega)

/-- The reference at a row of the second core: the other core's rows, second half. -/
theorem whole_odd (X : S32x5696x1024.Idx → α) (p s : Fin 4) (r : Fin 2848) (d : Fin 1024) :
    whole X (ix3 ⟨8 * p.val + 4 + s.val, by omega⟩ r d) = X (ix3 ⟨8 * p.val + s.val, by omega⟩ ⟨2848 + r.val, by omega⟩ d) := by
  unfold whole
  rw [shapeCast_apply _ _ _ (ix5 p (1 : Fin 2) s r d) (by
      rw [Shape.rowMajor_val_five, Shape.rowMajor_val_three]
      show (((p.val * 2 + 1) * 4 + s.val) * 2848 + r.val) * 1024 + d.val = ((8 * p.val + 4 + s.val) * 2848 + r.val) * 1024 + d.val
      omega),
    concatenate_pair_apply_right (t := S4x2x4x2848x1024) (s₁ := S4x1x4x2848x1024) (s₂ := S4x1x4x2848x1024) _ _ _ _ _ rfl rfl (ix5 p (0 : Fin 1) s r d) (fun a ha => by
      match a, ha with | ⟨0, _⟩, _ => rfl | ⟨1, _⟩, h => exact absurd rfl h | ⟨2, _⟩, _ => rfl | ⟨3, _⟩, _ => rfl | ⟨4, _⟩, _ => rfl) rfl,
    piece_apply X 0 1 ![0, 0, 0, 1, 0, 0] rfl]
  rfl

/-- The reference at a row of device `q`: the rows of its sibling `q'`, the half the device reduces. -/
theorem whole_apply (X : S32x5696x1024.Idx → α) (q q' : ℕ) (hq : q' = 2 * (q / 2) + (q + 1) % 2) (s : Fin 4) (r : Fin 2848) (d : Fin 1024)
    (h₁ : 4 * q + s.val < 32) (h₂ : 4 * q' + s.val < 32) (h₃ : 2848 - 2848 * (q' % 2) + r.val < 5696) :
    whole X (ix3 ⟨4 * q + s.val, h₁⟩ r d) = X (ix3 ⟨4 * q' + s.val, h₂⟩ ⟨2848 - 2848 * (q' % 2) + r.val, h₃⟩ d) := by
  obtain ⟨p, hp⟩ : ∃ p : Fin 4, p.val = q / 2 := ⟨⟨q / 2, by omega⟩, rfl⟩
  rcases Nat.mod_two_eq_zero_or_one q with h | h
  · have e₁ : 4 * q + s.val = 8 * p.val + s.val := by omega
    have e₂ : 4 * q' + s.val = 8 * p.val + 4 + s.val := by omega
    have e₃ : 2848 - 2848 * (q' % 2) + r.val = r.val := by omega
    simp only [e₁, e₂, e₃]
    exact whole_even X p s r d
  · have e₁ : 4 * q + s.val = 8 * p.val + 4 + s.val := by omega
    have e₂ : 4 * q' + s.val = 8 * p.val + s.val := by omega
    have e₃ : 2848 - 2848 * (q' % 2) + r.val = 2848 + r.val := by omega
    simp only [e₁, e₂, e₃]
    exact whole_odd X p s r d

end Cert.SwapValue

namespace Cert.SwapRun

open Idealize.ShloMosaic Idealize.ShloMosaic.ValueIdx

variable {F : FTy → Type} [FloatOps F]

theorem peer_val (c : Dev Cert.SwapIdeal.nD) : (peer c).val = 2 * (c.val / 2) + (c.val + 1) % 2 := rfl

/-- Device `c`'s block of a whole result, read at a row. -/
theorem block_row {α : Type} (Y : (⟨3, ![32, 2848, 1024]⟩ : Shape).Idx → α) (c : Fin 8) (s : Fin 4) (r : Fin 2848) (d : Fin 1024) :
    (Layout.block ⟨3, ![4, 2848, 1024]⟩ ⟨3, ![32, 2848, 1024]⟩ 0 8 c Y) (ix3 s r d) = Y (ix3 ⟨4 * c.val + s.val, by omega⟩ r d) := by
  refine congrArg Y (funext fun a => Fin.ext ?_)
  match a with
  | ⟨0, _⟩ => exact congrArg (· + s.val) (Nat.mul_comm c.val 4)
  | ⟨1, _⟩ => rfl
  | ⟨2, _⟩ => rfl

/-- What device `c`'s result ends with is its block of the reference's value. -/
theorem landed_eq (m : (ℓ : Loc Cert.SwapIdeal.nD Cert.SwapIdeal.τ Cert.SwapIdeal.sig) → Buf (Elt F) ℓ) (X : (⟨3, ![32, 5696, 1024]⟩ : Shape).Idx → F .f32)
    (hX : ∀ c, m (gLoc c) = Layout.block ⟨3, ![4, 5696, 1024]⟩ ⟨3, ![32, 5696, 1024]⟩ 0 8 c X) (c : Dev Cert.SwapIdeal.nD) :
    landed m c = Layout.block ⟨3, ![4, 2848, 1024]⟩ ⟨3, ![32, 2848, 1024]⟩ 0 8 c (Cert.SwapValue.whole X) := by
  have hc : c.val < 8 := c.isLt
  funext i
  obtain ⟨s, r, d, rfl⟩ : ∃ (s : Fin 4) (r : Fin 2848) (d : Fin 1024), i = ix3 s r d := ⟨_, _, _, eq_ix3 i⟩
  have hL : landed m c (ix3 s r d) = X (ix3 ⟨4 * (peer c).val + s.val, by have h : (peer c).val < 8 := (peer c).isLt; omega⟩
      ⟨(2848 - 2848 * ((peer c).val % 2)) + r.val, by omega⟩ d) := by
    show m (gLoc (peer c)) ((sM (peer c)).view.emb (ix3 s r d)) = _
    rw [hX (peer c)]
    refine congrArg X (funext fun a => Fin.ext ?_)
    have h0 := congrFun (Cert.SwapIdeal.Gen.k0_off1_eq (peer c))
    match a with
    | ⟨0, _⟩ =>
      show (peer c).val * 4 + (Cert.SwapIdeal.k0_off1 (peer c) 0 + 1 * s.val) = 4 * (peer c).val + s.val
      rw [h0 0]; show (peer c).val * 4 + (0 + 1 * s.val) = _; omega
    | ⟨1, _⟩ =>
      show Cert.SwapIdeal.k0_off1 (peer c) 1 + 1 * r.val = (2848 - 2848 * ((peer c).val % 2)) + r.val
      rw [h0 1, Nat.one_mul]; rfl
    | ⟨2, _⟩ =>
      show Cert.SwapIdeal.k0_off1 (peer c) 2 + 1 * d.val = d.val
      rw [h0 2, Nat.one_mul]; exact Nat.zero_add _
  rw [hL, block_row]
  exact (Cert.SwapValue.whole_apply X _ _ (peer_val c) s r d _ _ _).symm

end Cert.SwapRun

end
-- ==== Proof.AdamValue.lean ====
/-
# AdamW

The three AdamW calls (the packed weights, `w_ada`, the small weights) do the reference's operations index by index;
over the ideal floats the core's quotient and square root are the host's.
-/
module

public import proofs.«01_k».proof.Defs
public import proofs.«01_k».proof.Proof.Gen.AdamBigIdeal.Value
public import proofs.«01_k».proof.Proof.Gen.AdamBigRefIdeal.Run
public import proofs.«01_k».proof.Proof.Gen.AdamAdaIdeal.Value
public import proofs.«01_k».proof.Proof.Gen.AdamAdaRefIdeal.Run
public import proofs.«01_k».proof.Proof.Gen.AdamSmallIdeal.Value
public import proofs.«01_k».proof.Proof.Gen.AdamSmallRefIdeal.Run
public import Idealize.ShloMosaic.Lib.IdealHost

@[expose] public section

noncomputable section

namespace Cert.AdamValue

open Idealize.ShloMosaic Idealize.SL.Sem

/-- One constant of the step at every index of an array of shape `s`. -/
abbrev all (s : Shape) (h : (⟨0, ![]⟩ : Shape).BroadcastsInDim s ![]) (w : BitVec 32) : FVec Ideal s .f32 :=
  broadcastInDim s ![] h (constant ⟨0, ![]⟩ .f32 w)

variable {s : Shape} (h : (⟨0, ![]⟩ : Shape).BroadcastsInDim s ![]) (w g m v : FVec Ideal s .f32)

/-- The new first moment. -/
abbrev newM : FVec Ideal s .f32 := addf (mulf (all s h 0x3F666666#32) m) (mulf (all s h 0x3DCCCCCD#32) g)

/-- The new second moment. -/
abbrev newV : FVec Ideal s .f32 := addf (mulf (all s h 0x3F7FBE77#32) v) (mulf (all s h 0x3A83126F#32) (mulf g g))

/-- The weight's change. -/
abbrev delta : FVec Ideal s .f32 :=
  mulf (all s h 0xBA83126F#32)
    (addf (Host.divf (Host.divf (newM h g m) (all s h 0x3F26BD02#32))
        (addf (Host.sqrt (Host.divf (newV h g v) (all s h 0x3C231ACC#32))) (all s h 0x322BCC77#32)))
      (mulf (all s h 0x3C23D70A#32) w))

/-- The kernel's new first moment, index by index, is the reference's. -/
theorem newM_eq {g' m' : FVec Ideal s .f32} (hg : g' = g) (hm : m' = m) : newM h g' m' = fun i =>
    FloatOps.addf (FloatOps.mulf (Scalar.ofBits .f32 0x3F666666#32) (m i)) (FloatOps.mulf (Scalar.ofBits .f32 0x3DCCCCCD#32) (g i)) := by
  subst hg hm; rfl

/-- The kernel's new second moment, index by index, is the reference's. -/
theorem newV_eq {g' v' : FVec Ideal s .f32} (hg : g' = g) (hv : v' = v) : newV h g' v' = fun i =>
    FloatOps.addf (FloatOps.mulf (Scalar.ofBits .f32 0x3F7FBE77#32) (v i))
      (FloatOps.mulf (Scalar.ofBits .f32 0x3A83126F#32) (FloatOps.mulf (g i) (g i))) := by
  subst hg hv; rfl

/-- The kernel's change of the weight, index by index, is the reference's. -/
theorem delta_eq {w' g' m' v' : FVec Ideal s .f32} (hw : w' = w) (hg : g' = g) (hm : m' = m) (hv : v' = v) : delta h w' g' m' v' = fun i =>
    FloatOps.mulf (Scalar.ofBits .f32 0xBA83126F#32)
      (FloatOps.addf (FloatOps.divf (FloatOps.divf (FloatOps.addf (FloatOps.mulf (Scalar.ofBits .f32 0x3F666666#32) (m i))
            (FloatOps.mulf (Scalar.ofBits .f32 0x3DCCCCCD#32) (g i))) (Scalar.ofBits .f32 0x3F26BD02#32))
          (FloatOps.addf (FloatOps.sqrt (FloatOps.divf (FloatOps.addf (FloatOps.mulf (Scalar.ofBits .f32 0x3F7FBE77#32) (v i))
            (FloatOps.mulf (Scalar.ofBits .f32 0x3A83126F#32) (FloatOps.mulf (g i) (g i)))) (Scalar.ofBits .f32 0x3C231ACC#32)))
            (Scalar.ofBits .f32 0x322BCC77#32)))
        (FloatOps.mulf (Scalar.ofBits .f32 0x3C23D70A#32) (w i))) := by
  subst hw hg hm hv; rfl

/-! ## The three calls -/

/-- The step of the packed weights. -/
theorem big : Cert.algebraic_AdamBigIdeal_AdamBigRefIdeal := fun m g m' g' _ hX =>
  ⟨_, _, _, Cert.AdamBigIdeal.Value.run (F := Ideal) m g,
    (θ_run (Cert.AdamBigRefIdeal.defs (F := Ideal)) _ _).mono (fun _ h c =>
      ⟨(h c).1.trans (delta_eq _ _ _ _ _ (hX c).1 (hX c).2.1 (hX c).2.2.1 (hX c).2.2.2),
        (h c).2.1.trans (newM_eq _ _ _ (hX c).2.1 (hX c).2.2.1),
        (h c).2.2.1.trans (newV_eq _ _ _ (hX c).2.1 (hX c).2.2.2), (h c).2.2.2⟩)
      (Cert.AdamBigRefIdeal.Value.run (F := Ideal) m' g')⟩

/-- The step of `w_ada`. -/
theorem ada : Cert.algebraic_AdamAdaIdeal_AdamAdaRefIdeal := fun m g m' g' _ hX =>
  ⟨_, _, _, Cert.AdamAdaIdeal.Value.run (F := Ideal) m g,
    (θ_run (Cert.AdamAdaRefIdeal.defs (F := Ideal)) _ _).mono (fun _ h c =>
      ⟨(h c).1.trans (delta_eq _ _ _ _ _ (hX c).1 (hX c).2.1 (hX c).2.2.1 (hX c).2.2.2),
        (h c).2.1.trans (newM_eq _ _ _ (hX c).2.1 (hX c).2.2.1),
        (h c).2.2.1.trans (newV_eq _ _ _ (hX c).2.1 (hX c).2.2.2), (h c).2.2.2⟩)
      (Cert.AdamAdaRefIdeal.Value.run (F := Ideal) m' g')⟩

/-- The step of the small weights. -/
theorem small : Cert.algebraic_AdamSmallIdeal_AdamSmallRefIdeal := fun m g m' g' _ hX =>
  ⟨_, _, _, Cert.AdamSmallIdeal.Value.run (F := Ideal) m g,
    (θ_run (Cert.AdamSmallRefIdeal.defs (F := Ideal)) _ _).mono (fun _ h c =>
      ⟨(h c).1.trans (delta_eq _ _ _ _ _ (hX c).1 (hX c).2.1 (hX c).2.2.1 (hX c).2.2.2),
        (h c).2.1.trans (newM_eq _ _ _ (hX c).2.1 (hX c).2.2.1),
        (h c).2.2.1.trans (newV_eq _ _ _ (hX c).2.1 (hX c).2.2.2), (h c).2.2.2⟩)
      (Cert.AdamSmallRefIdeal.Value.run (F := Ideal) m' g')⟩

end Cert.AdamValue

end
-- ==== Proof.AdaBwdValue.lean ====
/-
# The gradient of `w_ada`

The call multiplies `silu c`, transposed, by the modulation's gradients on the core; the reference contracts the two on
the host. The core's logistic is the reference's `1 / (1 + exp (-c))`, and a product onto zeros is the host's product.
-/
module

public import proofs.«01_k».proof.Defs
public import proofs.«01_k».proof.Proof.Gen.AdaBwdIdeal.Value
public import proofs.«01_k».proof.Proof.Gen.AdaBwdRefIdeal.Run
public import Idealize.ShloMosaic.Lib.IdealHost
public import Idealize.ShloMosaic.Lib.KernelVsHost

@[expose] public section

noncomputable section

namespace Cert.AdaBwdValue

open Idealize.ShloMosaic Idealize.SL.Sem

/-- The reference's `1 / (1 + exp (-x))` is the core's logistic, on any shape. -/
theorem logistic_eq {s : Shape} (h : (⟨0, ![]⟩ : Shape).BroadcastsInDim s ![]) (x : FVec Ideal s .f32) :
    Host.divf (broadcastInDim s ![] h (constant ⟨0, ![]⟩ .f32 0x3F800000#32))
        (addf (broadcastInDim s ![] h (constant ⟨0, ![]⟩ .f32 0x3F800000#32)) (Host.exp (Host.negf x)))
      = logistic x := by
  funext i
  show Ideal.div (Ideal.ofBits .f32 0x3F800000#32) (Ideal.ofBits .f32 0x3F800000#32 + Ideal.exp (-(x i))) = _
  rw [Ideal.ofBits_one_f32]; rfl

/-- The reference's product, of equal arguments, is the call's. -/
theorem value (x x' : FVec Ideal AdaBwdIdeal.S8x1024 .f32) (y y' : FVec Ideal AdaBwdIdeal.S8x1536 .f32) (hx : x' = x) (hy : y' = y) :
    Host.dotGeneral AdaBwdRefIdeal.dot_S8x1024_S8x1536_S1024x1536_0_0_1_1_n_n (some .fp32)
        (mulf x' (Host.divf (broadcastInDim AdaBwdRefIdeal.S8x1024 ![] AdaBwdRefIdeal.Facts₀.bcast_S_S8x1024 (constant AdaBwdRefIdeal.S_ .f32 0x3F800000#32))
          (addf (broadcastInDim AdaBwdRefIdeal.S8x1024 ![] AdaBwdRefIdeal.Facts₀.bcast_S_S8x1024 (constant AdaBwdRefIdeal.S_ .f32 0x3F800000#32)) (Host.exp (Host.negf x'))))) y'
      = AdaBwdIdeal.Value.G2 (F := Ideal) x y := by
  rw [hx, hy, logistic_eq]
  exact (matmul_zero_eq_dotGeneral _ _ _ _).symm

/-- The two runs end with equal gradients. -/
theorem value_equal : Cert.algebraic_AdaBwdIdeal_AdaBwdRefIdeal := fun m g m' g' _ hX =>
  ⟨_, Cert.AdaBwdIdeal.Value.run (F := Ideal) m g,
    (θ_run (Cert.AdaBwdRefIdeal.defs (F := Ideal)) _ _).mono (fun _ h c =>
      ⟨(h c).1.trans (value _ _ _ _ (hX c).1 (hX c).2), (h c).2⟩)
      (Cert.AdaBwdRefIdeal.Value.run (F := Ideal) m' g')⟩

end Cert.AdaBwdValue

end
-- ==== Proof.SmallSumValue.lean ====
/-
# The sum of the devices' parts of the small gradients

The call cuts the parts apart, one array for each device, and adds the eight on the core; the reference sums along the
axis of devices.
-/
module

public import proofs.«01_k».proof.Defs
public import proofs.«01_k».proof.Proof.Gen.SmallSumIdeal.Value
public import proofs.«01_k».proof.Proof.Gen.SmallSumRefIdeal.Run
public import Idealize.ShloMosaic.Lib.IdealHost
public import Idealize.ShloMosaic.Lib.Pointwise

@[expose] public section

noncomputable section

namespace Cert.SmallSumValue

open Idealize.ShloMosaic Idealize.SL.Sem Cert.SmallSumIdeal Cert.SmallSumIdeal.Gen
open Idealize.ShloMosaic.TcCoe
open Idealize.ShloMosaic.Pipeline (Dat)

/-- Device `k`'s part of the gathered parts. -/
abbrev part (x : FVec Ideal S8x80x1024 .f32) (k : Fin 8) : FVec Ideal S80x1024 .f32 := fun y => x (ValueIdx.ix3 k (y 0) (y 1))

/-- A slice of one device, its axis of length one dropped, is that device's part. -/
theorem slice_eq (x : FVec Ideal S8x80x1024 .f32) (k : Fin 8) (hs : S8x80x1024.Slices ![k.val, 0, 0] S1x80x1024)
    (hc : S1x80x1024.ShapeCasts S80x1024) :
    shapeCast S80x1024 (extractStridedSlice S1x80x1024 ![k.val, 0, 0] x hs) hc = part x k := by
  funext y
  pointwise
  rfl

/-- Each device's slice lies inside the parts. -/
theorem slices : ∀ k : Fin 8, S8x80x1024.Slices ![k.val, 0, 0] S1x80x1024 := by decide

/-- The one grid point. -/
abbrev pt : Fin cfg0.N := ⟨0, by decide⟩

theorem eq_pt : ∀ t : Fin cfg0.N, t = pt :=
  (by decide +kernel : ∀ t : Fin grid0.N, t = ⟨0, by decide⟩)

variable (m : (ℓ : Loc nD τ sig) → Buf (Elt Ideal) ℓ) (c : Dev nD)

/-- The parts as the call finds them. -/
theorem entry :
    V m c main_v1 = part (m (c, main_arg0)) 0 ∧ V m c main_v3 = part (m (c, main_arg0)) 1
      ∧ V m c main_v5 = part (m (c, main_arg0)) 2 ∧ V m c main_v7 = part (m (c, main_arg0)) 3
      ∧ V m c main_v9 = part (m (c, main_arg0)) 4 ∧ V m c main_v11 = part (m (c, main_arg0)) 5
      ∧ V m c main_v13 = part (m (c, main_arg0)) 6 ∧ V m c main_v15 = part (m (c, main_arg0)) 7 := by
  refine ⟨?_, ?_, ?_, ?_, ?_, ?_, ?_, ?_⟩ <;> refine Eq.trans ?_ (slice_eq _ _ (slices _) shapeCasts_S1x80x1024_S80x1024) <;>
    (simp only [V, hostOps0]; after_results; rfl)

/-- A window of the one grid point reads its array whole. -/
theorem blocks (X : FVec Ideal S80x1024 .f32) :
    ((cfg0.win 0).blk pt).view.read (Elt Ideal) X = X ∧ ((cfg0.win 1).blk pt).view.read (Elt Ideal) X = X
      ∧ ((cfg0.win 2).blk pt).view.read (Elt Ideal) X = X ∧ ((cfg0.win 3).blk pt).view.read (Elt Ideal) X = X
      ∧ ((cfg0.win 4).blk pt).view.read (Elt Ideal) X = X ∧ ((cfg0.win 5).blk pt).view.read (Elt Ideal) X = X
      ∧ ((cfg0.win 6).blk pt).view.read (Elt Ideal) X = X ∧ ((cfg0.win 7).blk pt).view.read (Elt Ideal) X = X
      ∧ ((cfg0.win 8).blk pt).view.read (Elt Ideal) X = X := by
  refine ⟨?_, ?_, ?_, ?_, ?_, ?_, ?_, ?_, ?_⟩ <;> (
    funext j
    refine congrArg X (funext fun a => Fin.ext ?_)
    match a with
    | ⟨0, _⟩ => show 0 * 80 + 1 * (j 0).val = (j 0).val; omega
    | ⟨1, _⟩ => show 0 * 1024 + 1 * (j 1).val = (j 1).val; omega)

/-- The sum of the parts, in the call's order. -/
abbrev total (x : FVec Ideal S8x80x1024 .f32) : FVec Ideal S80x1024 .f32 :=
  k0_pay1 (part x 0) (part x 1) (part x 2) (part x 3) (part x 4) (part x 5) (part x 6) (part x 7)

theorem hz : (![0, 0] : Fin 2 → Nat) = fun _ => 0 := funext fun a => by fin_cases a <;> rfl

/-- What the call's body leaves of eight parts. -/
theorem out_eq (x0 x1 x2 x3 x4 x5 x6 x7 : FVec Ideal S80x1024 .f32) :
    out0_8 (F := Ideal) x0 x1 x2 x3 x4 x5 x6 x7 = k0_pay1 (F := Ideal) x0 x1 x2 x3 x4 x5 x6 x7 := by
  unfold out0_8
  simp only [View.ld_unit_zero (S := S80x1024) hz]
  exact View.canon_unit_zero (S := S80x1024) hz _ _

/-- The array the call leaves is the sum of the parts. -/
theorem final : (dats m 0 c).arrAt 8 cfg0.N = total (m (c, main_arg0)) := by
  refine (dats m 0 c).arrAt_eq_of_cover 8 _ (fun t _ => ?_) (fun i => ?_)
  · rw [eq_pt t, SmallSumIdeal.Value.flushed8, out_eq]
    obtain ⟨e0, e1, e2, e3, e4, e5, e6, e7⟩ := entry m c
    have h0 : iblk m c 0 pt = part (m (c, main_arg0)) 0 := (blocks (V m c main_v1)).1.trans e0
    have h1 : iblk m c 1 pt = part (m (c, main_arg0)) 1 := (blocks (V m c main_v3)).2.1.trans e1
    have h2 : iblk m c 2 pt = part (m (c, main_arg0)) 2 := (blocks (V m c main_v5)).2.2.1.trans e2
    have h3 : iblk m c 3 pt = part (m (c, main_arg0)) 3 := (blocks (V m c main_v7)).2.2.2.1.trans e3
    have h4 : iblk m c 4 pt = part (m (c, main_arg0)) 4 := (blocks (V m c main_v9)).2.2.2.2.1.trans e4
    have h5 : iblk m c 5 pt = part (m (c, main_arg0)) 5 := (blocks (V m c main_v11)).2.2.2.2.2.1.trans e5
    have h6 : iblk m c 6 pt = part (m (c, main_arg0)) 6 := (blocks (V m c main_v13)).2.2.2.2.2.2.1.trans e6
    have h7 : iblk m c 7 pt = part (m (c, main_arg0)) 7 := (blocks (V m c main_v15)).2.2.2.2.2.2.2.1.trans e7
    rw [h0, h1, h2, h3, h4, h5, h6, h7]
    exact (blocks (total (m (c, main_arg0)))).2.2.2.2.2.2.2.2.symm
  · refine ⟨pt, flush0_8 _, ?_⟩
    have e : ((cfg0.win 8).blk pt).view.emb i = i := by
      funext a
      refine Fin.ext ?_
      match a with
      | ⟨0, _⟩ => show 0 * 80 + 1 * (i 0).val = (i 0).val; omega
      | ⟨1, _⟩ => show 0 * 1024 + 1 * (i 1).val = (i 1).val; omega
    have h := ((cfg0.win 8).blk pt).view.emb_mem_set i
    rwa [e] at h

/-- The reference's sum is the call's. -/
theorem value (x : FVec Ideal S8x80x1024 .f32) (h : S8x80x1024.ReducesTo [0] S80x1024) (hu : 0 < (⟨0, ![]⟩ : Shape).numel) :
    Host.reduceAdd x (constant ⟨0, ![]⟩ .f32 0x00000000#32) h hu = total x := by
  funext y
  pointwise [total, k0_pay1]
  exact Fin.sum_univ_eight _

/-- The two runs end with equal sums. -/
theorem value_equal : Cert.algebraic_SmallSumIdeal_SmallSumRefIdeal := fun m g m' g' _ hX =>
  ⟨_, (θ_run (Cert.SmallSumIdeal.defs (F := Ideal)) _ _).mono (fun _ h c => ⟨(h c).1.trans (final m c), (h c).2⟩)
      (Cert.SmallSumIdeal.Value.run_blocks (F := Ideal) m g),
    (θ_run (Cert.SmallSumRefIdeal.defs (F := Ideal)) _ _).mono (fun _ h c =>
      ⟨(h c).1.trans ((value _ _ _).trans (congrArg total (hX c))), (h c).2⟩)
      (Cert.SmallSumRefIdeal.Value.run (F := Ideal) m' g')⟩

end Cert.SmallSumValue

end
-- ==== Proof.RowBlock.lean ====
/-
# Operations that work row by row

A call takes a block of rows at each grid point; the reference takes all rows at once. `On2 e x X` says that row `r` of
the block `x` is row `e r` of the whole array `X`. Every operation of a row-wise call keeps it, whatever the rows.
-/
module

public import Idealize.ShloMosaic.Lib.IdealHost
public import Idealize.ShloMosaic.Lib.Pointwise

@[expose] public section

noncomputable section

namespace Cert.RowBlock

open Idealize.ShloMosaic

abbrev M (n k : ℕ) : Shape := ⟨2, ![n, k]⟩
abbrev L (n : ℕ) : Shape := ⟨1, ![n]⟩
abbrev P : Shape := ⟨0, ![]⟩

variable {n N k : ℕ} {e : Fin n → Fin N} {e' : Fin 256 → Fin 16384}

/-- Row `r` of the block is row `e r` of the array. -/
def On2 {φ : FTy} (e : Fin n → Fin N) (x : FVec Ideal (M n k) φ) (X : FVec Ideal (M N k) φ) : Prop :=
  ∀ r j, x (ix2 r j) = X (ix2 (e r) j)

/-- The same with one value in each row. -/
def On1 (e : Fin n → Fin N) (x : FVec Ideal (L n) .f32) (X : FVec Ideal (L N) .f32) : Prop :=
  ∀ r, x (ix1 r) = X (ix1 (e r))

section
variable {x y : FVec Ideal (M n k) .f32} {X Y : FVec Ideal (M N k) .f32}

theorem On2.add (h : On2 e x X) (h' : On2 e y Y) : On2 e (addf x y) (addf X Y) := fun r j => by
  pointwise; rw [h, h']
theorem On2.sub (h : On2 e x X) (h' : On2 e y Y) : On2 e (subf x y) (subf X Y) := fun r j => by
  pointwise; rw [h, h']
theorem On2.mul (h : On2 e x X) (h' : On2 e y Y) : On2 e (mulf x y) (mulf X Y) := fun r j => by
  pointwise; rw [h, h']
theorem On2.div (h : On2 e x X) (h' : On2 e y Y) : On2 e (divf x y) (Host.divf X Y) := fun r j => by
  pointwise; rw [h, h']
theorem On2.rsqrt (h : On2 e x X) : On2 e (rsqrt x) (Host.rsqrt X) := fun r j => by
  pointwise; rw [h]
theorem On2.neg (h : On2 e x X) : On2 e (subf (broadcast (M n k) (Scalar.ofBits (F := Ideal) .f32 0x00000000#32)) x) (Host.negf X) := fun r j => by
  pointwise; rw [h, zero_sub]
theorem On2.const (w : BitVec 32) (h : P.BroadcastsInDim (M N k) ![]) :
    On2 e (broadcast (M n k) (Scalar.ofBits (F := Ideal) .f32 w)) (broadcastInDim (M N k) ![] h (constant P .f32 w)) := fun r j => by
  pointwise
theorem On2.same (h : On2 e x X) (hc : (M n k).ShapeCasts (M n k)) : On2 e (shapeCast (M n k) x hc) X := fun r j => by
  pointwise; rw [h]
theorem On2.trunc (h : On2 e x X) (h₁ h₂ : FTy.bits .bf16 < FTy.bits .f32) : On2 e (truncf .bf16 x h₁) (truncf .bf16 X h₂) := fun r j => by
  pointwise; rw [h]

/-- A row's sum. -/
theorem On2.rows (h : On2 e x X) (hr : (M n k).Reduces [1] (L n)) (hφ : FKind.Formats .f32)
    (hacc : (0x00000000#32 : BitVec 32) = FKind.add.neutral .f32 hφ) (hR : (M N k).ReducesTo [1] (L N)) (hu : 0 < P.numel) :
    On1 e (multiReduction .add [1] (L n) x 0x00000000#32 hr hφ hacc) (Host.reduceAdd X (constant P .f32 0x00000000#32) hR hu) :=
  fun r => by
    pointwise
    exact Finset.sum_congr rfl fun j _ => h r j
end

section
variable {v : FVec Ideal (L 256) .f32} {V : FVec Ideal (L 16384) .f32}

theorem On1.div {w : FVec Ideal (L 256) .f32} {W : FVec Ideal (L 16384) .f32} (h : On1 e' v V) (h' : On1 e' w W) :
    On1 e' (divf v w) (Host.divf V W) := fun r => by
  pointwise; rw [h, h']
theorem On1.const (w : BitVec 32) (h : P.BroadcastsInDim (L 16384) ![]) :
    On1 e' (broadcast (L 256) (Scalar.ofBits (F := Ideal) .f32 w)) (broadcastInDim (L 16384) ![] h (constant P .f32 w)) := fun r => by
  pointwise
/-- One value in each row as a column. -/
theorem On1.col (h : On1 e' v V) (hc : (L 256).ShapeCasts (M 256 1)) (hb : (L 16384).BroadcastsInDim (M 16384 1) ![0]) :
    On2 e' (shapeCast (M 256 1) v hc) (broadcastInDim (M 16384 1) ![0] hb V) := fun r j => by
  pointwise; rw [h]
theorem On1.cast (h : On1 e' v V) (hc : (L 256).ShapeCasts (M 256 1)) (hC : (L 16384).ShapeCasts (M 16384 1)) :
    On2 e' (shapeCast (M 256 1) v hc) (shapeCast (M 16384 1) V hC) := fun r j => by
  pointwise; rw [h]
/-- One value in each row along the row. -/
theorem On1.spread (h : On1 e' v V) (hc : (L 256).ShapeCasts (M 256 1)) (hb : (M 256 1).Broadcasts (M 256 1024)) (hB : (L 16384).BroadcastsInDim (M 16384 1024) ![0]) :
    On2 e' (broadcastTo (M 256 1024) (shapeCast (M 256 1) v hc) hb) (broadcastInDim (M 16384 1024) ![0] hB V) := fun r j => by
  pointwise; rw [h]
theorem On2.spread {x : FVec Ideal (M 256 1) .f32} {X : FVec Ideal (M 16384 1) .f32} (h : On2 e' x X) (hb : (M 256 1).Broadcasts (M 256 1024))
    (hB : (M 16384 1).BroadcastsInDim (M 16384 1024) ![0, 1]) :
    On2 e' (broadcastTo (M 256 1024) x hb) (broadcastInDim (M 16384 1024) ![0, 1] hB X) := fun r j => by
  pointwise; rw [h]
/-- One row, given to every row. -/
theorem On2.vec {u U : FVec Ideal (M 1 1024) .f32} (h : u = U) (hb : (M 1 1024).Broadcasts (M 256 1024))
    (hB : (M 1 1024).BroadcastsInDim (M 16384 1024) ![0, 1]) :
    On2 e' (broadcastTo (M 256 1024) u hb) (broadcastInDim (M 16384 1024) ![0, 1] hB U) := fun r j => by
  subst h; pointwise
end

end Cert.RowBlock

end
-- ==== Proof.LossValue.lean ====
/-
# The loss

The loss call takes 256 rows at each of its 64 grid points, adds half the sum of the rows' mean squared errors to a running
sum, and leaves the sum. The reference halves the sum over all 16384 rows at once. Each row's mean squared error is the
reference's; halving and the grouping of the rows are set right here.
-/
module

public import proofs.«01_k».proof.Defs
public import proofs.«01_k».proof.Proof.Gen.LossIdeal.Value
public import proofs.«01_k».proof.Proof.Gen.LossRefIdeal.Run
public import proofs.«01_k».proof.Proof.RowBlock

@[expose] public section

noncomputable section

namespace Cert.LossValue

open Idealize.ShloMosaic Idealize.SL.Sem Cert.RowBlock

theorem hz : (![0, 0] : Fin 2 → Nat) = fun _ => 0 := funext fun a => by fin_cases a <;> rfl

/-! ## The sum -/

/-- The constant one half. -/
abbrev half : EReal := Ideal.ofBits .f32 0x3F000000#32

theorem half_eq : half = (((1 : ℝ) / 2 : ℝ) : EReal) := by
  simp [half, Ideal.ofBits, Ideal.ieee, -EReal.coe_mul]; norm_num

/-- Half of a sum is the sum of the halves. -/
theorem half_sum {ι : Type} (s : Finset ι) (f : ι → EReal) : ∑ k ∈ s, half * f k = half * ∑ k ∈ s, f k := by
  classical
  induction s using Finset.induction_on with
  | empty => simp
  | insert a s ha ih =>
    rw [Finset.sum_insert ha, Finset.sum_insert ha, ih, EReal.left_distrib_of_nonneg_of_ne_top]
    · rw [half_eq]; exact_mod_cast (by norm_num : (0 : ℝ) ≤ 1 / 2)
    · rw [half_eq]; exact EReal.coe_ne_top _

/-- Row `r` of point `t`'s block is row `256 t + r`. -/
def row (t : Fin 64) (r : Fin 256) : Fin 16384 := ⟨256 * t.val + r.val, by have := t.isLt; have := r.isLt; omega⟩

/-- A sum over the rows, point by point. -/
theorem sum_rows (f : Fin 16384 → EReal) : ∑ t : Fin 64, ∑ r : Fin 256, f (row t r) = ∑ k : Fin 16384, f k := by
  rw [← Fintype.sum_prod_type']
  exact Fintype.sum_equiv (finProdFinEquiv (m := 64) (n := 256)) _ _ fun p =>
    congrArg f (Fin.ext (Nat.add_comm _ _))

/-! ## A point's rows -/

open Cert.LossIdeal Cert.LossIdeal.Gen in
/-- The mean squared errors of 256 rows. -/
def rowsOf (x0 x1 x2 : Vec Ideal S256x1024 .f32) (x3 x4 x5 : Vec Ideal S1x1024 .f32) : FVec Ideal S256 .f32 :=
  divf (multiReduction .add [1] S256 (mulf (k0_pay15 x2 (k0_pay14 x0 x1 x3 x4 x5)) (k0_pay15 x2 (k0_pay14 x0 x1 x3 x4 x5)))
    0x00000000#32 reduces_S256x1024_S256 (.inl rfl) rfl) (broadcast S256 (Scalar.ofBits .f32 0x44800000#32))

open Cert.LossIdeal Cert.LossIdeal.Gen in
/-- A point's part of the loss is half the sum of its rows'. -/
theorem part_eq (x0 x1 x2 : Vec Ideal S256x1024 .f32) (x3 x4 x5 : Vec Ideal S1x1024 .f32) :
    k0_pay16 x2 (k0_pay14 x0 x1 x3 x4 x5) = half * ∑ r : Fin 256, rowsOf x0 x1 x2 x3 x4 x5 (ix1 r) := by
  unfold k0_pay16
  show Scalar.mulf _ (extractAt ![0, 0] (shapeCast S1x1 (multiReduction .add [1] S1 (shapeCast S1x256 (rowsOf x0 x1 x2 x3 x4 x5) _) _ _ _ _) _) _) = _
  generalize rowsOf x0 x1 x2 x3 x4 x5 = v
  pointwise

open Cert.LossRefIdeal in
/-- The reference's loss is half the sum of every row's, and a point's rows are among the reference's. -/
theorem rowsOf_eq (m : (ℓ : Loc nD τ sig) → Buf (Elt Ideal) ℓ) (c : Dev nD) :
    ∃ R : FVec Ideal (L 16384) .f32, (∀ y, Value.res_main_v34 m c y = half * ∑ k : Fin 16384, R (ix1 k)) ∧
      ∀ (e : Fin 256 → Fin 16384) (x0 x1 x2 : FVec Ideal (M 256 1024) .f32) (x3 x4 x5 : FVec Ideal (M 1 1024) .f32),
        On2 e x0 (m ((c.tc : Thread nD τ).loc main_arg0)) → On2 e x1 (m ((c.tc : Thread nD τ).loc main_arg1)) →
        On2 e x2 (m ((c.tc : Thread nD τ).loc main_arg2)) → x3 = m ((c.tc : Thread nD τ).loc main_arg3) →
        x4 = m ((c.tc : Thread nD τ).loc main_arg4) → x5 = m ((c.tc : Thread nD τ).loc main_arg5) →
        On1 e (rowsOf x0 x1 x2 x3 x4 x5) R := by
  have tail : ∀ (R : FVec Ideal S16384 .f32) (y : S1x128.Idx),
      broadcastInDim S1x128 ![] Gen.bcast_S_S1x128 (mulf (constant S_ .f32 0x3F000000#32)
        (Host.reduceAdd R (constant S_ .f32 0x00000000#32) Gen.reducesTo_S16384_S_d0 Gen.h_S_)) y
      = half * ∑ k : Fin 16384, R (ix1 k) := fun R y => by
    pointwise
  unfold Value.res_main_v34
  refine ⟨_, tail _, ?_⟩
  intro e x0 x1 x2 x3 x4 x5 h0 h1 h2 h3 h4 h5
  open Cert.LossIdeal.Gen in unfold rowsOf k0_pay15 k0_pay14 k0_pay13 k0_pay11 k0_pay10 k0_pay9 k0_pay7 k0_pay6 k0_pay5
  dsimp only
  subst h3 h4 h5
  repeat' first
    | exact h0
    | exact h1
    | exact h2
    | with_reducible apply On1.const
    | with_reducible apply On1.div
    | with_reducible apply On2.const
    | with_reducible apply On2.add
    | with_reducible apply On2.sub
    | with_reducible apply On2.mul
    | with_reducible apply On2.div
    | with_reducible apply On2.rsqrt
    | with_reducible apply On1.col
    | refine On2.rows ?_ _ _ _ _ _
    | with_reducible apply On2.spread
    | exact On2.vec rfl _ _

/-! ## What a point leaves -/

section
open Cert.LossIdeal Cert.LossIdeal.Gen

variable (c : Dev nD) (i : grid0.Coords)
    (a2 : Memref sig .tc .vmem S256x1024 .f32) (h2 : a2.IsWhole)
    (a3 : Memref sig .tc .vmem S256x1024 .f32) (h3 : a3.IsWhole)
    (a4 : Memref sig .tc .vmem S256x1024 .f32) (h4 : a4.IsWhole)
    (a5 : Memref sig .tc .vmem S1x1024 .f32) (h5 : a5.IsWhole)
    (a6 : Memref sig .tc .vmem S1x1024 .f32) (h6 : a6.IsWhole)
    (a7 : Memref sig .tc .vmem S1x1024 .f32) (h7 : a7.IsWhole)
    (a8 : Memref sig .tc .vmem S256x1024 .f32) (h8 : a8.IsWhole)
    (a9 : Memref sig .tc .vmem S256x1024 .bf16) (h9 : a9.IsWhole)
    (a10 : Memref sig .tc .vmem S1x1024 .f32) (h10 : a10.IsWhole)
    (a11 : Memref sig .tc .vmem S1x1024 .f32) (h11 : a11.IsWhole)
    (a12 : Memref sig .tc .vmem S1x1024 .f32) (h12 : a12.IsWhole)
    (a13 : Memref sig .tc .vmem S1x128 .f32) (h13 : a13.IsWhole)
    (x0 x1 x2 : Vec Ideal S256x1024 .f32) (x3 x4 x5 : Vec Ideal S1x1024 .f32)

/-- A point's part of the loss. -/
def part : EReal := half * ∑ r : Fin 256, rowsOf x0 x1 x2 x3 x4 x5 (ix1 r)

/-- The first point leaves its part. -/
theorem out_A (hc0 : cond0_0 i) (hc1 : cond0_1 i) (hc2 : cond0_2 i) (hc3 : cond0_3 i) :
    out0_A_11 c i a2 h2 a3 h3 a4 h4 a5 h5 a6 h6 a7 h7 a8 h8 a9 h9 a10 h10 a11 h11 a12 h12 a13 h13 hc0 hc1 hc2 hc3 x0 x1 x2 x3 x4 x5 = fun _ => part x0 x1 x2 x3 x4 x5 := by
  unfold out0_A_11
  rw [View.read_writes_eq_canon _ _ _ (cover0_A_11 c i a2 h2 a3 h3 a4 h4 a5 h5 a6 h6 a7 h7 a8 h8 a9 h9 a10 h10 a11 h11 a12 h12 a13 h13 hc0 hc1 hc2 hc3 x0 x1 x2 x3 x4 x5)]
  unfold kernelRun0_A
  dsimp only
  sl_unfold_words
  rw [View.canon_cons_unit_zero (S := S1x128) hz, View.readCov_unit_zero (S := S1x128) _ hz]
  simp only [View.readAt_eq_ld, h2.read_unread, h3.read_unread, h4.read_unread, h5.read_unread, h6.read_unread, h7.read_unread,
    View.ld_unit_zero (S := S256x1024) hz, View.ld_unit_zero (S := S1x1024) hz, shapeCast_self]
  unfold k0_pay4 k0_pay3 k0_pay27
  simp only [shapeCast_self, part_eq]
  funext y
  pointwise [part]

/-- A later point adds its part to what the point before left. -/
theorem out_B (hc0 : ¬cond0_0 i) (hc1 : ¬cond0_1 i) (hc2 : ¬cond0_2 i) (hc3 : ¬cond0_3 i) (y8 y9 y10 : Vec Ideal S1x1024 .f32)
    (y11 : Vec Ideal S1x128 .f32) :
    out0_B_11 c i a2 h2 a3 h3 a4 h4 a5 h5 a6 h6 a7 h7 a8 h8 a9 h9 a10 h10 a11 h11 a12 h12 a13 h13 hc0 hc1 hc2 hc3 x0 x1 x2 x3 x4 x5 y8 y9 y10 y11 = fun y => y11 y + part x0 x1 x2 x3 x4 x5 := by
  unfold out0_B_11
  rw [View.read_writes_eq_canon _ _ _ (cover0_B_11 c i a2 h2 a3 h3 a4 h4 a5 h5 a6 h6 a7 h7 a8 h8 a9 h9 a10 h10 a11 h11 a12 h12 a13 h13 hc0 hc1 hc2 hc3 x0 x1 x2 x3 x4 x5 y8 y9 y10 y11)]
  unfold kernelRun0_B
  dsimp only
  sl_unfold_words
  rw [View.canon_unit_zero (S := S1x128) hz]
  simp only [View.readAt_eq_ld, h2.read_unread, h3.read_unread, h4.read_unread, h5.read_unread, h6.read_unread, h7.read_unread, h13.read_unread,
    View.ld_unit_zero (S := S256x1024) hz, View.ld_unit_zero (S := S1x1024) hz, View.ld_unit_zero (S := S1x128) hz, shapeCast_self]
  unfold k0_pay4 k0_pay27
  simp only [shapeCast_self, part_eq]
  funext y
  pointwise [part]
end

/-! ## The whole call -/

section
open Cert.LossIdeal Cert.LossIdeal.Gen

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)
theorem index : ∀ t : Fin cfg0.N, (win0_3.index t 0 = 0 ∧ win0_3.index t 1 = 0) ∧ (win0_4.index t 0 = 0 ∧ win0_4.index t 1 = 0)
    ∧ (win0_5.index t 0 = 0 ∧ win0_5.index t 1 = 0) ∧ (win0_11.index t 0 = 0 ∧ win0_11.index t 1 = 0) :=
  (by decide +kernel : ∀ t : Fin grid0.N, (win0_3.index t 0 = 0 ∧ win0_3.index t 1 = 0) ∧ (win0_4.index t 0 = 0 ∧ win0_4.index t 1 = 0)
    ∧ (win0_5.index t 0 = 0 ∧ win0_5.index t 1 = 0) ∧ (win0_11.index t 0 = 0 ∧ win0_11.index t 1 = 0))

/-- The place in the array of an index of point `t`'s block. -/
theorem place (t : Fin cfg0.N) (b : ℕ) (hb : b = t.val) (d : ℕ) (hd : d = 0) (r : Fin 256) (j : Fin 1024)
    (f : (M 16384 1024).Idx) (h0 : (f 0).val = b * 256 + 1 * r.val) (h1 : (f 1).val = d * 1024 + 1 * j.val) :
    f = ix2 (row t r) j := by
  funext a
  refine Fin.ext ?_
  match a with
  | ⟨0, _⟩ => show (f 0).val = 256 * t.val + r.val; omega
  | ⟨1, _⟩ => show (f 1).val = j.val; omega

theorem block0 (t : Fin cfg0.N) (Y : FVec Ideal S16384x1024 .f32) :
    On2 (row t) (((cfg0.win 0).blk t).view.read (Elt Ideal) Y) Y :=
  fun r j => congrArg Y (place t _ (index0 t).1 _ (index0 t).2 r j _ rfl rfl)
theorem block1 (t : Fin cfg0.N) (Y : FVec Ideal S16384x1024 .f32) :
    On2 (row t) (((cfg0.win 1).blk t).view.read (Elt Ideal) Y) Y :=
  fun r j => congrArg Y (place t _ (index1 t).1 _ (index1 t).2 r j _ rfl rfl)
theorem block2 (t : Fin cfg0.N) (Y : FVec Ideal S16384x1024 .f32) :
    On2 (row t) (((cfg0.win 2).blk t).view.read (Elt Ideal) Y) Y :=
  fun r j => congrArg Y (place t _ (index2 t).1 _ (index2 t).2 r j _ rfl rfl)

/-- An index of a block that is the whole array stands for itself. -/
theorem still {n k : ℕ} (b d : ℕ) (h : b = 0 ∧ d = 0) (j f : (M n k).Idx) (h0 : (f 0).val = b * n + 1 * (j 0).val)
    (h1 : (f 1).val = d * k + 1 * (j 1).val) : f = j := by
  obtain ⟨rfl, rfl⟩ := h
  funext a
  refine Fin.ext ?_
  match a with
  | ⟨0, _⟩ => show (f 0).val = (j 0).val; omega
  | ⟨1, _⟩ => show (f 1).val = (j 1).val; omega

theorem block3 (t : Fin cfg0.N) (Y : FVec Ideal S1x1024 .f32) : ((cfg0.win 3).blk t).view.read (Elt Ideal) Y = Y :=
  funext fun j => congrArg Y (still _ _ (index t).1 j _ rfl rfl)
theorem block4 (t : Fin cfg0.N) (Y : FVec Ideal S1x1024 .f32) : ((cfg0.win 4).blk t).view.read (Elt Ideal) Y = Y :=
  funext fun j => congrArg Y (still _ _ (index t).2.1 j _ rfl rfl)
theorem block5 (t : Fin cfg0.N) (Y : FVec Ideal S1x1024 .f32) : ((cfg0.win 5).blk t).view.read (Elt Ideal) Y = Y :=
  funext fun j => congrArg Y (still _ _ (index t).2.2.1 j _ rfl rfl)

variable (m : (ℓ : Loc nD τ sig) → Buf (Elt Ideal) ℓ) (c : Dev nD)

/-- Point `t`'s part of the loss. -/
def partAt (t : Fin cfg0.N) : EReal :=
  part (iblk m c 0 t) (iblk m c 1 t) (iblk m c 2 t) (iblk m c 3 t) (iblk m c 4 t) (iblk m c 5 t)

/-- The running sum after point `n`. -/
def sumTo : (n : ℕ) → n < cfg0.N → EReal
  | 0, h => partAt m c ⟨0, h⟩
  | n + 1, h => sumTo n (Nat.lt_of_succ_lt h) + partAt m c ⟨n + 1, h⟩

/-- The loss window holds the running sum after each point. -/
theorem outs_eq : ∀ (n : ℕ) (h : n < cfg0.N), (outsAt0 m c n h).2.2.2.2.2 = fun _ => sumTo m c n h
  | 0, h => by
    refine (congrArg (fun p => p.2.2.2.2.2) (outsAt0_A m c ⟨0, h⟩ rfl rfl rfl rfl)).trans ?_
    dsimp only
    exact out_A ..
  | n + 1, h => by
    have hN : n + 1 < 64 := h
    have hB : ¬(⟨n + 1, h⟩ : Fin cfg0.N).val % 64 = 0 := by dsimp only; omega
    refine (congrArg (fun p => p.2.2.2.2.2) (outsAt0_B m c ⟨n + 1, h⟩ hB hB hB hB)).trans ?_
    dsimp only
    refine (out_B ..).trans ?_
    funext y
    exact congrArg (· + partAt m c ⟨n + 1, h⟩) (congrFun (outs_eq n (Nat.lt_of_succ_lt h)) y)

/-- The running sum is the sum of the parts so far. -/
theorem sumTo_eq : ∀ (n : ℕ) (h : n < cfg0.N), sumTo m c n h = ∑ t : Fin (n + 1), partAt m c ⟨t.val, by omega⟩
  | 0, h => by rw [Fin.sum_univ_one]; rfl
  | n + 1, h => by rw [Fin.sum_univ_castSucc]; exact congrArg (· + _) (sumTo_eq n _)

/-- The last point. -/
abbrev last : Fin cfg0.N := ⟨63, by decide⟩

/-- The array the call leaves, whatever array holds the sum of the parts everywhere. -/
theorem final (X : FVec Ideal S1x128 .f32) (hX : ∀ y, X y = ∑ t : Fin 64, partAt m c ⟨t.val, t.isLt⟩) : (dats m 0 c).arrAt 11 cfg0.N = X := by
  refine (dats m 0 c).arrAt_eq_of_cover 11 _ (fun t hf => ?_) (fun i => ?_)
  · have ht : t = last := Fin.ext (by have h := (flush0_11 t).mp hf; have h' : t.val < 64 := t.isLt; show t.val = 63; omega)
    subst ht
    rw [LossIdeal.Value.flushed11, outs_eq, sumTo_eq]
    funext y
    exact ((congrArg X (still _ _ (index last).2.2.2 y _ rfl rfl)).trans (hX y)).symm
  · refine ⟨last, (flush0_11 _).mpr rfl, ?_⟩
    have e : ((cfg0.win 11).blk last).view.emb i = i := still _ _ (index last).2.2.2 i _ rfl rfl
    have h := ((cfg0.win 11).blk last).view.emb_mem_set i
    rwa [e] at h
end

/-- The points' parts sum to half the sum over all rows. -/
theorem total_eq (R : FVec Ideal (L 16384) .f32) (p : Fin 64 → EReal)
    (h : ∀ t, p t = half * ∑ r : Fin 256, R (ix1 (row t r))) : half * ∑ k : Fin 16384, R (ix1 k) = ∑ t : Fin 64, p t := by
  rw [← sum_rows, ← half_sum]
  exact Finset.sum_congr rfl fun t _ => (h t).symm

/-- A point's part, its rows read in the reference's. -/
theorem part_rows {e : Fin 256 → Fin 16384} {R : FVec Ideal (L 16384) .f32} {x0 x1 x2 : FVec Ideal (M 256 1024) .f32}
    {x3 x4 x5 : FVec Ideal (M 1 1024) .f32} (h : On1 e (rowsOf x0 x1 x2 x3 x4 x5) R) :
    part x0 x1 x2 x3 x4 x5 = half * ∑ r : Fin 256, R (ix1 (e r)) :=
  congrArg (half * ·) (Finset.sum_congr rfl fun r _ => h r)

/-- The two runs end with equal losses. -/
theorem value_equal : Cert.algebraic_LossIdeal_LossRefIdeal := fun m g m' g' _ hX =>
  ⟨fun c => LossRefIdeal.Value.res_main_v34 m' c,
    (θ_run (Cert.LossIdeal.defs (F := Ideal)) _ _).mono (fun _ h c =>
      ⟨(h c).2.2.2.2.2.1.trans (final m c _ fun y => by
        obtain ⟨R, hR, hr⟩ := rowsOf_eq m' c
        refine (hR y).trans (total_eq R _ fun t => part_rows (hr (row t) _ _ _ _ _ _ ?_ ?_ ?_ ?_ ?_ ?_))
        · rw [(hX c).1]; exact block0 t _
        · rw [(hX c).2.1]; exact block1 t _
        · rw [(hX c).2.2.1]; exact block2 t _
        · rw [(hX c).2.2.2.1]; exact block3 t _
        · rw [(hX c).2.2.2.2.1]; exact block4 t _
        · rw [(hX c).2.2.2.2.2]; exact block5 t _), (h c).2.2.2.2.2.2⟩)
      (Cert.LossIdeal.Value.run_blocks (F := Ideal) m g),
    Cert.LossRefIdeal.Value.run (F := Ideal) m' g'⟩

end Cert.LossValue

end
-- ==== Proof.ProductValue.lean ====
/-
# The matrix products of the forward pass

Each call multiplies 512 rows of the activations by the columns of one chip, or by a tile of them, at each grid point.
The chips' columns lie side by side in the result, and the reference lays them side by side before it multiplies.
-/
module

public import proofs.«01_k».proof.Defs
public import proofs.«01_k».proof.Proof.Gen.MmInIdeal.Value
public import proofs.«01_k».proof.Proof.Gen.MmInRefIdeal.Run
public import proofs.«01_k».proof.Proof.Gen.MmUpIdeal.Value
public import proofs.«01_k».proof.Proof.Gen.MmUpRefIdeal.Run
public import proofs.«01_k».proof.Proof.Gen.MmConvOutIdeal.Value
public import proofs.«01_k».proof.Proof.Gen.MmConvOutRefIdeal.Run
public import proofs.«01_k».proof.Proof.Gen.MmRetOutIdeal.Value
public import proofs.«01_k».proof.Proof.Gen.MmRetOutRefIdeal.Run
public import proofs.«01_k».proof.Proof.Gen.MmOutIdeal.Value
public import proofs.«01_k».proof.Proof.Gen.MmOutRefIdeal.Run
public import proofs.«01_k».proof.Proof.Gen.MmDownIdeal.Value
public import proofs.«01_k».proof.Proof.Gen.MmDownRefIdeal.Run
public import Idealize.ShloMosaic.Lib.Pointwise
public import Idealize.ShloMosaic.Lib.MatmulPlain
public import Idealize.ShloMosaic.Lib.StackMember
public import Idealize.ShloMosaic.Lib.Pipeline.ValueKit

@[expose] public section

noncomputable section

namespace Cert.ProductValue

open Idealize.ShloMosaic Idealize.SL.Sem
open scoped BigOperators

abbrev M (n k : ℕ) : Shape := ⟨2, ![n, k]⟩
abbrev G (g n k : ℕ) : Shape := ⟨3, ![g, n, k]⟩

variable {a n k b d : ℕ}

/-- An index of a matrix from its two coordinates. -/
theorem eq_ix2 (y : (M a b).Idx) : y = ValueIdx.ix2 (y 0) (y 1) := funext fun x => by match x with | ⟨0, _⟩ => rfl | ⟨1, _⟩ => rfl

/-- One chip's columns as a matrix. -/
theorem cast_one (w : FVec Ideal (G 1 k b) .bf16) (hc : (G 1 k b).ShapeCasts (M k b)) (c : Fin k) (s : Fin b) :
    shapeCast (M k b) w hc (ValueIdx.ix2 c s) = w (ValueIdx.ix3 0 c s) :=
  shapeCast_apply w hc _ _ (by
    rw [Shape.rowMajor_val_two, Shape.rowMajor_val_three]
    show (0 * k + c.val) * b + s.val = c.val * b + s.val
    rw [Nat.zero_mul, Nat.zero_add])

/-- Four chips' columns side by side. -/
theorem cast_four {l : ℕ} (W : FVec Ideal (G 4 k b) .bf16) (ht : (G 4 k b).Transposes [1, 0, 2] (G k 4 b)) (hc : (G k 4 b).ShapeCasts (M k l))
    (hl : l = 4 * b) (c : Fin k) (S : Fin l) (q : Fin 4) (j : Fin b) (hS : S.val = q.val * b + j.val) :
    shapeCast (M k l) (transpose (G k 4 b) [1, 0, 2] W ht) hc (ValueIdx.ix2 c S) = W (ValueIdx.ix3 q c j) :=
  (shapeCast_apply _ hc _ (ValueIdx.ix3 c q j) (by
    rw [Shape.rowMajor_val_two, Shape.rowMajor_val_three]
    show (c.val * 4 + q.val) * b + j.val = c.val * l + S.val
    subst hl
    rw [hS]; ring)).trans
  (transpose_apply _ W ht _ _ fun x => by match x with | ⟨0, _⟩ => rfl | ⟨1, _⟩ => rfl | ⟨2, _⟩ => rfl)

/-- What a point computes of its rows and its columns. -/
theorem core_apply (x : FVec Ideal (M a k) .bf16) (w : FVec Ideal (G 1 k b) .bf16) (hc : (G 1 k b).ShapeCasts (M k b)) (y : (M a b).Idx) :
    matmul (F := Ideal) (DotDims.plain a k b) none x (shapeCast (M k b) w hc) (constant (M a b) .f32 0x00000000#32) y
      = ∑ c : Fin k, x (ValueIdx.ix2 (y 0) c) * w (ValueIdx.ix3 0 c (y 1)) := by
  rw [eq_ix2 y]
  refine (Ideal.matmul_plain_apply none x _ _ (y 0) (y 1)).trans ?_
  show Ideal.ofBits .f32 0x00000000#32 + _ = _
  rw [Ideal.ofBits_zero_f32, zero_add]
  exact Finset.sum_congr rfl fun c _ => congrArg (x _ * ·) (cast_one w hc c (y 1))

/-- A row given to every row, on the core and on the host. -/
theorem bias_eq (z : FVec Ideal (M 1 b) .f32) (Z : FVec Ideal (M 1 d) .f32) (hb : (M 1 b).Broadcasts (M a b)) (hB : (M 1 d).BroadcastsInDim (M n d) ![0, 1])
    (y : (M a b).Idx) (i : (M n d).Idx) (h : z (ix2 0 (y 1)) = Z (ix2 0 (i 1))) :
    broadcastTo (M a b) z hb y = broadcastInDim (M n d) ![0, 1] hB Z i := by
  refine (broadcastTo_apply z hb y (ix2 0 (y 1)) fun x => ?_).trans (h.trans (broadcastInDim_apply ![0, 1] hB Z i (ix2 0 (i 1)) fun x => ?_).symm)
  · match x with
    | ⟨0, _⟩ => rfl
    | ⟨1, _⟩ =>
      show (y 1).val = if b = 1 then 0 else (y 1).val
      have : (y 1).val < b := (y 1).isLt
      split <;> omega
  · match x with
    | ⟨0, _⟩ => rfl
    | ⟨1, _⟩ =>
      show (i 1).val = if d = 1 then 0 else (i 1).val
      have : (i 1).val < d := (i 1).isLt
      split <;> omega

/-- A point's block of the product is the reference's, when its rows and its columns are the reference's. -/
theorem point_one (x : FVec Ideal (M a k) .bf16) (w : FVec Ideal (G 1 k b) .bf16) (hc : (G 1 k b).ShapeCasts (M k b)) (y : (M a b).Idx)
    (X : FVec Ideal (M n k) .bf16) (W : FVec Ideal (G 1 k d) .bf16) (hC : (G 1 k d).ShapeCasts (M k d)) (i : (M n d).Idx)
    (hx : ∀ c, x (ix2 (y 0) c) = X (ix2 (i 0) c)) (hw : ∀ c, w (ix3 0 c (y 1)) = W (ix3 0 c (i 1))) :
    matmul (F := Ideal) (DotDims.plain a k b) none x (shapeCast (M k b) w hc) (constant (M a b) .f32 0x00000000#32) y
      = Host.dotGeneral (F := Ideal) (DotDims.plain n k d) none X (shapeCast (M k d) W hC) i := by
  rw [core_apply, eq_ix2 i]
  refine Eq.trans ?_ (StackMember.dotGeneral_plain_apply none X _ (i 0) (i 1)).symm
  exact Finset.sum_congr rfl fun c _ => congrArg₂ (· * ·) (hx c) ((hw c).trans (cast_one W hC c (i 1)).symm)

/-- The same with four chips' columns, the point's being columns of chip `q`. -/
theorem point_four {l : ℕ} (x : FVec Ideal (M a k) .bf16) (w : FVec Ideal (G 1 k b) .bf16) (hc : (G 1 k b).ShapeCasts (M k b)) (y : (M a b).Idx)
    (X : FVec Ideal (M n k) .bf16) (W : FVec Ideal (G 4 k d) .bf16) (hT : (G 4 k d).Transposes [1, 0, 2] (G k 4 d)) (hC : (G k 4 d).ShapeCasts (M k l))
    (hl : l = 4 * d) (i : (M n l).Idx) (q : Fin 4) (j : Fin d) (hi : (i 1).val = q.val * d + j.val)
    (hx : ∀ c, x (ix2 (y 0) c) = X (ix2 (i 0) c)) (hw : ∀ c, w (ix3 0 c (y 1)) = W (ix3 q c j)) :
    matmul (F := Ideal) (DotDims.plain a k b) none x (shapeCast (M k b) w hc) (constant (M a b) .f32 0x00000000#32) y
      = Host.dotGeneral (F := Ideal) (DotDims.plain n k l) none X (shapeCast (M k l) (transpose (G k 4 d) [1, 0, 2] W hT) hC) i := by
  rw [core_apply, eq_ix2 i]
  refine Eq.trans ?_ (StackMember.dotGeneral_plain_apply none X _ (i 0) (i 1)).symm
  exact Finset.sum_congr rfl fun c _ => congrArg₂ (· * ·) (hx c) ((hw c).trans (cast_four W hT hC hl c (i 1) q j hi).symm)

/-! ## The products with four chips' columns -/

section
open Cert.MmInIdeal Cert.MmInIdeal.Gen

/-- The reference's input projection. -/
abbrev inRef (X : FVec Ideal (M 16384 1024) .bf16) (W : FVec Ideal (G 4 1024 2560) .bf16) (Z : FVec Ideal (M 1 10240) .f32) : FVec Ideal (M 16384 10240) .f32 :=
  addf (Host.dotGeneral MmInRefIdeal.dot_S16384x1024_S1024x10240_S16384x10240_1_0_0_1_n_n none X
      (shapeCast _ (transpose MmInRefIdeal.S1024x4x2560 [1, 0, 2] W MmInRefIdeal.Facts₀.transposes_S4x1024x2560_S1024x4x2560_1_0_2) MmInRefIdeal.Facts₀.shapeCasts_S1024x4x2560_S1024x10240))
    (broadcastInDim MmInRefIdeal.S16384x10240 ![0, 1] MmInRefIdeal.Facts₀.bcast_S1x10240_S16384x10240_0_1 Z)

/-- A point's columns are one half of one chip's. -/
theorem in_indices : ∀ t : Fin cfg0.N, (win0_0.index t 0 = win0_3.index t 0 ∧ win0_0.index t 1 = 0)
    ∧ (win0_1.index t 0 < 4 ∧ win0_1.index t 1 = 0 ∧ win0_1.index t 2 < 2) ∧ win0_3.index t 1 = win0_1.index t 0 * 2 + win0_1.index t 2
    ∧ win0_2.index t 0 = 0 ∧ win0_2.index t 1 = win0_1.index t 0 * 2 + win0_1.index t 2 :=
  (by decide +kernel : ∀ t : Fin grid0.N, _)

theorem in_final (m : (ℓ : Loc nD τ sig) → Buf (Elt Ideal) ℓ) (c : Dev nD) :
    (dats m 0 c).arrAt 3 cfg0.N = inRef (V m c main_arg0) (V m c main_arg1) (V m c main_arg2) := by
  refine (dats m 0 c).arrAt_eq_of_covers 3 _ (by decide +kernel) fun t hf y => ?_
  obtain ⟨⟨e0, e1⟩, ⟨e2, e3, e4⟩, e5, e6, e7⟩ := in_indices t
  have hy : (y 1).val < 1280 := (y 1).isLt
  blk_simp
  rw [after0_3]
  frame_out
  refine congrArg₂ (· + ·) (point_four (a := 512) (k := 1024) (b := 1280) (n := 16384) (d := 2560) (l := 10240) _ _ _ _ _ _ _ _ (by norm_num) _ ⟨win0_1.index t 0, e2⟩ ⟨win0_1.index t 2 * 1280 + (y 1).val, by omega⟩ ?_
    (fun j => ?_) (fun j => ?_)) (bias_eq (a := 512) (b := 1280) (n := 16384) (d := 10240) _ _ _ _ _ _ ?_)
  · blk_simp [e5]
    dsimp only
    omega
  · blk_ext [iblk, e0, e1, e5]
  · blk_ext [iblk, e3, e5]
  · blk_ext [iblk, e5, e6, e7]

/-- The two runs of the input projection end with equal results. -/
theorem mm_in : Cert.algebraic_MmInIdeal_MmInRefIdeal := fun m g m' g' _ hX =>
  ⟨_, (θ_run (Cert.MmInIdeal.defs (F := Ideal)) _ _).mono (fun _ h c => ⟨(h c).1.trans (in_final m c), (h c).2⟩)
      (Cert.MmInIdeal.Value.run_blocks (F := Ideal) m g),
    (θ_run (Cert.MmInRefIdeal.defs (F := Ideal)) _ _).mono (fun _ h c => ⟨(h c).1.trans (by rw [(hX c).1, (hX c).2.1, (hX c).2.2]), (h c).2⟩)
      (Cert.MmInRefIdeal.Value.run (F := Ideal) m' g')⟩
end

section
open Cert.MmUpIdeal Cert.MmUpIdeal.Gen

/-- The reference's up projection. -/
abbrev upRef (X : FVec Ideal (M 16384 1024) .bf16) (W : FVec Ideal (G 4 1024 1408) .bf16) : FVec Ideal (M 16384 5632) .f32 :=
  Host.dotGeneral MmUpRefIdeal.dot_S16384x1024_S1024x5632_S16384x5632_1_0_0_1_n_n none X
    (shapeCast _ (transpose MmUpRefIdeal.S1024x4x1408 [1, 0, 2] W MmUpRefIdeal.Facts₀.transposes_S4x1024x1408_S1024x4x1408_1_0_2) MmUpRefIdeal.Facts₀.shapeCasts_S1024x4x1408_S1024x5632)

/-- A point's columns are one chip's. -/
theorem up_indices : ∀ t : Fin cfg0.N, (win0_0.index t 0 = win0_2.index t 0 ∧ win0_0.index t 1 = 0)
    ∧ (win0_1.index t 0 < 4 ∧ win0_1.index t 1 = 0 ∧ win0_1.index t 2 = 0) ∧ win0_2.index t 1 = win0_1.index t 0 :=
  (by decide +kernel : ∀ t : Fin grid0.N, _)

theorem up_final (m : (ℓ : Loc nD τ sig) → Buf (Elt Ideal) ℓ) (c : Dev nD) :
    (dats m 0 c).arrAt 2 cfg0.N = upRef (V m c main_arg0) (V m c main_arg1) := by
  refine (dats m 0 c).arrAt_eq_of_covers 2 _ (by decide +kernel) fun t hf y => ?_
  obtain ⟨⟨e0, e1⟩, ⟨e2, e3, e4⟩, e5⟩ := up_indices t
  blk_simp
  rw [after0_2]
  frame_out
  refine point_four (a := 512) (k := 1024) (b := 1408) (n := 16384) (d := 1408) (l := 5632) _ _ _ _ _ _ _ _ (by norm_num) _ ⟨win0_1.index t 0, e2⟩ (y 1) ?_ (fun j => ?_) (fun j => ?_)
  · blk_simp [e5]
  · blk_ext [iblk, e0, e1, e5]
  · blk_ext [iblk, e3, e4, e5]

/-- The two runs of the up projection end with equal products. -/
theorem mm_up : Cert.algebraic_MmUpIdeal_MmUpRefIdeal := fun m g m' g' _ hX =>
  ⟨_, (θ_run (Cert.MmUpIdeal.defs (F := Ideal)) _ _).mono (fun _ h c => ⟨(h c).1.trans (up_final m c), (h c).2⟩)
      (Cert.MmUpIdeal.Value.run_blocks (F := Ideal) m g),
    (θ_run (Cert.MmUpRefIdeal.defs (F := Ideal)) _ _).mono (fun _ h c => ⟨(h c).1.trans (congrArg₂ upRef (hX c).1 (hX c).2), (h c).2⟩)
      (Cert.MmUpRefIdeal.Value.run (F := Ideal) m' g')⟩
end

/-! ## The convolution branch -/

section
open Cert.MmConvOutIdeal Cert.MmConvOutIdeal.Gen

/-- The reference's product out of the convolution branch. -/
abbrev conv_outRef (X : FVec Ideal (M 16384 1024) .bf16) (W : FVec Ideal (G 1 1024 1024) .bf16) : FVec Ideal (M 16384 1024) .f32 :=
  Host.dotGeneral MmConvOutRefIdeal.dot_S16384x1024_S1024x1024_S16384x1024_1_0_0_1_n_n none X (shapeCast _ W MmConvOutRefIdeal.Facts₀.shapeCasts_S1x1024x1024_S1024x1024)

theorem conv_out_indices : ∀ t : Fin cfg0.N, (win0_0.index t 0 = win0_2.index t 0 ∧ win0_0.index t 1 = 0)
    ∧ (win0_1.index t 0 = 0 ∧ win0_1.index t 1 = 0 ∧ win0_1.index t 2 = 0) ∧ win0_2.index t 1 = 0 :=
  (by decide +kernel : ∀ t : Fin grid0.N, _)

theorem conv_out_final (m : (ℓ : Loc nD τ sig) → Buf (Elt Ideal) ℓ) (c : Dev nD) :
    (dats m 0 c).arrAt 2 cfg0.N = conv_outRef (V m c main_arg0) (V m c main_arg1) := by
  refine (dats m 0 c).arrAt_eq_of_covers 2 _ (by decide +kernel) fun t hf y => ?_
  obtain ⟨⟨e0, e1⟩, ⟨e2, e3, e4⟩, e5⟩ := conv_out_indices t
  blk_simp
  rw [after0_2]
  frame_out
  refine point_one _ _ _ _ _ _ _ _ (fun j => ?_) (fun j => ?_)
  · blk_ext [iblk, e0, e1, e5]
  · blk_ext [iblk, e2, e3, e4, e5]

/-- The two runs end with equal products. -/
theorem conv_out : Cert.algebraic_MmConvOutIdeal_MmConvOutRefIdeal := fun m g m' g' _ hX =>
  ⟨_, (θ_run (Cert.MmConvOutIdeal.defs (F := Ideal)) _ _).mono (fun _ h c => ⟨(h c).1.trans (conv_out_final m c), (h c).2⟩)
      (Cert.MmConvOutIdeal.Value.run_blocks (F := Ideal) m g),
    (θ_run (Cert.MmConvOutRefIdeal.defs (F := Ideal)) _ _).mono (fun _ h c => ⟨(h c).1.trans (congrArg₂ conv_outRef (hX c).1 (hX c).2), (h c).2⟩)
      (Cert.MmConvOutRefIdeal.Value.run (F := Ideal) m' g')⟩
end

/-! ## The retention branch -/

section
open Cert.MmRetOutIdeal Cert.MmRetOutIdeal.Gen

/-- The reference's product out of the retention branch. -/
abbrev ret_outRef (X : FVec Ideal (M 16384 2048) .bf16) (W : FVec Ideal (G 1 2048 1024) .bf16) : FVec Ideal (M 16384 1024) .f32 :=
  Host.dotGeneral MmRetOutRefIdeal.dot_S16384x2048_S2048x1024_S16384x1024_1_0_0_1_n_n none X (shapeCast _ W MmRetOutRefIdeal.Facts₀.shapeCasts_S1x2048x1024_S2048x1024)

theorem ret_out_indices : ∀ t : Fin cfg0.N, (win0_0.index t 0 = win0_2.index t 0 ∧ win0_0.index t 1 = 0)
    ∧ (win0_1.index t 0 = 0 ∧ win0_1.index t 1 = 0 ∧ win0_1.index t 2 = 0) ∧ win0_2.index t 1 = 0 :=
  (by decide +kernel : ∀ t : Fin grid0.N, _)

theorem ret_out_final (m : (ℓ : Loc nD τ sig) → Buf (Elt Ideal) ℓ) (c : Dev nD) :
    (dats m 0 c).arrAt 2 cfg0.N = ret_outRef (V m c main_arg0) (V m c main_arg1) := by
  refine (dats m 0 c).arrAt_eq_of_covers 2 _ (by decide +kernel) fun t hf y => ?_
  obtain ⟨⟨e0, e1⟩, ⟨e2, e3, e4⟩, e5⟩ := ret_out_indices t
  blk_simp
  rw [after0_2]
  frame_out
  refine point_one _ _ _ _ _ _ _ _ (fun j => ?_) (fun j => ?_)
  · blk_ext [iblk, e0, e1, e5]
  · blk_ext [iblk, e2, e3, e4, e5]

/-- The two runs end with equal products. -/
theorem ret_out : Cert.algebraic_MmRetOutIdeal_MmRetOutRefIdeal := fun m g m' g' _ hX =>
  ⟨_, (θ_run (Cert.MmRetOutIdeal.defs (F := Ideal)) _ _).mono (fun _ h c => ⟨(h c).1.trans (ret_out_final m c), (h c).2⟩)
      (Cert.MmRetOutIdeal.Value.run_blocks (F := Ideal) m g),
    (θ_run (Cert.MmRetOutRefIdeal.defs (F := Ideal)) _ _).mono (fun _ h c => ⟨(h c).1.trans (congrArg₂ ret_outRef (hX c).1 (hX c).2), (h c).2⟩)
      (Cert.MmRetOutRefIdeal.Value.run (F := Ideal) m' g')⟩
end

/-! ## The output projection -/

section
open Cert.MmOutIdeal Cert.MmOutIdeal.Gen

/-- The reference's output projection. -/
abbrev outRef (X : FVec Ideal (M 16384 1024) .bf16) (W : FVec Ideal (G 1 1024 1024) .bf16) : FVec Ideal (M 16384 1024) .f32 :=
  Host.dotGeneral MmOutRefIdeal.dot_S16384x1024_S1024x1024_S16384x1024_1_0_0_1_n_n none X (shapeCast _ W MmOutRefIdeal.Facts₀.shapeCasts_S1x1024x1024_S1024x1024)

theorem out_indices : ∀ t : Fin cfg0.N, (win0_0.index t 0 = win0_2.index t 0 ∧ win0_0.index t 1 = 0)
    ∧ (win0_1.index t 0 = 0 ∧ win0_1.index t 1 = 0 ∧ win0_1.index t 2 = 0) ∧ win0_2.index t 1 = 0 :=
  (by decide +kernel : ∀ t : Fin grid0.N, _)

theorem out_final (m : (ℓ : Loc nD τ sig) → Buf (Elt Ideal) ℓ) (c : Dev nD) :
    (dats m 0 c).arrAt 2 cfg0.N = outRef (V m c main_arg0) (V m c main_arg1) := by
  refine (dats m 0 c).arrAt_eq_of_covers 2 _ (by decide +kernel) fun t hf y => ?_
  obtain ⟨⟨e0, e1⟩, ⟨e2, e3, e4⟩, e5⟩ := out_indices t
  blk_simp
  rw [after0_2]
  frame_out
  refine point_one _ _ _ _ _ _ _ _ (fun j => ?_) (fun j => ?_)
  · blk_ext [iblk, e0, e1, e5]
  · blk_ext [iblk, e2, e3, e4, e5]

/-- The two runs end with equal products. -/
theorem out : Cert.algebraic_MmOutIdeal_MmOutRefIdeal := fun m g m' g' _ hX =>
  ⟨_, (θ_run (Cert.MmOutIdeal.defs (F := Ideal)) _ _).mono (fun _ h c => ⟨(h c).1.trans (out_final m c), (h c).2⟩)
      (Cert.MmOutIdeal.Value.run_blocks (F := Ideal) m g),
    (θ_run (Cert.MmOutRefIdeal.defs (F := Ideal)) _ _).mono (fun _ h c => ⟨(h c).1.trans (congrArg₂ outRef (hX c).1 (hX c).2), (h c).2⟩)
      (Cert.MmOutRefIdeal.Value.run (F := Ideal) m' g')⟩
end

/-! ## The down projection -/

section
open Cert.MmDownIdeal Cert.MmDownIdeal.Gen

/-- The reference's down projection. -/
abbrev downRef (X : FVec Ideal (M 16384 2816) .bf16) (W : FVec Ideal (G 1 2816 1024) .bf16) : FVec Ideal (M 16384 1024) .f32 :=
  Host.dotGeneral MmDownRefIdeal.dot_S16384x2816_S2816x1024_S16384x1024_1_0_0_1_n_n none X (shapeCast _ W MmDownRefIdeal.Facts₀.shapeCasts_S1x2816x1024_S2816x1024)

theorem down_indices : ∀ t : Fin cfg0.N, (win0_0.index t 0 = win0_2.index t 0 ∧ win0_0.index t 1 = 0)
    ∧ (win0_1.index t 0 = 0 ∧ win0_1.index t 1 = 0 ∧ win0_1.index t 2 = 0) ∧ win0_2.index t 1 = 0 :=
  (by decide +kernel : ∀ t : Fin grid0.N, _)

theorem down_final (m : (ℓ : Loc nD τ sig) → Buf (Elt Ideal) ℓ) (c : Dev nD) :
    (dats m 0 c).arrAt 2 cfg0.N = downRef (V m c main_arg0) (V m c main_arg1) := by
  refine (dats m 0 c).arrAt_eq_of_covers 2 _ (by decide +kernel) fun t hf y => ?_
  obtain ⟨⟨e0, e1⟩, ⟨e2, e3, e4⟩, e5⟩ := down_indices t
  blk_simp
  rw [after0_2]
  frame_out
  refine point_one _ _ _ _ _ _ _ _ (fun j => ?_) (fun j => ?_)
  · blk_ext [iblk, e0, e1, e5]
  · blk_ext [iblk, e2, e3, e4, e5]

/-- The two runs end with equal products. -/
theorem down : Cert.algebraic_MmDownIdeal_MmDownRefIdeal := fun m g m' g' _ hX =>
  ⟨_, (θ_run (Cert.MmDownIdeal.defs (F := Ideal)) _ _).mono (fun _ h c => ⟨(h c).1.trans (down_final m c), (h c).2⟩)
      (Cert.MmDownIdeal.Value.run_blocks (F := Ideal) m g),
    (θ_run (Cert.MmDownRefIdeal.defs (F := Ideal)) _ _).mono (fun _ h c => ⟨(h c).1.trans (congrArg₂ downRef (hX c).1 (hX c).2), (h c).2⟩)
      (Cert.MmDownRefIdeal.Value.run (F := Ideal) m' g')⟩
end

end Cert.ProductValue

end
-- ==== Proof.Steps.lean ====
/-
# Products accumulated over the points of a run

A call that goes through a contraction in steps keeps what it has added up so far, and starts anew at the first step of
each run of grid points. What it holds at the last step of a run is the whole product. The lemmas say so for the products
with a transpose, whose second factor or whose first factor is read by its columns.
-/
module

public import proofs.«01_k».proof.Proof.ProductValue
public import Idealize.ShloMosaic.Lib.KernelVsHost
public import Idealize.ShloMosaic.Lib.Pointwise

@[expose] public section

noncomputable section

namespace Cert.Steps

open Idealize.ShloMosaic Cert.ProductValue
open scoped BigOperators

variable {a n k b d : ℕ}

/-! ## Sums over runs -/

/-- A step of a run is a point of the grid. -/
theorem step_lt {N K : ℕ} (t : Fin N) (ht : t.val % K = K - 1) (j : ℕ) (hj : j < K) : t.val / K * K + j < N := by
  have h := Nat.div_add_mod t.val K
  rw [Nat.mul_comm] at h
  have := t.isLt
  omega

theorem step_mod (t K j : ℕ) (hj : j < K) : (t / K * K + j) % K = j := by
  rw [Nat.mul_comm, Nat.mul_add_mod, Nat.mod_eq_of_lt hj]

theorem step_div (t K j : ℕ) (hj : j < K) : (t / K * K + j) / K = t / K := by
  rw [Nat.mul_comm, Nat.mul_add_div (Nat.zero_lt_of_lt hj), Nat.div_eq_of_lt hj, Nat.add_zero]

/-- The steps of a run before the last. -/
theorem run_part {ι : Type} {N K : ℕ} (X part : Fin N → ι → EReal) (h0 : ∀ t : Fin N, t.val % K = 0 → ∀ y, X t y = part t y)
    (h1 : ∀ t : Fin N, ¬t.val % K = 0 → ∀ y, X t y = X ⟨t.val - 1, Nat.lt_of_le_of_lt (Nat.sub_le _ _) t.isLt⟩ y + part t y) (q : ℕ) (y : ι) :
    ∀ (s : ℕ) (_ : s < K) (h : q * K + s < N), X ⟨q * K + s, h⟩ y = ∑ j : Fin (s + 1), part ⟨q * K + j.val, by omega⟩ y
  | 0, _, h => by
    rw [Fin.sum_univ_one]
    exact h0 _ (Nat.mul_mod_left q K) y
  | s + 1, hs, h => by
    have hm : ¬(q * K + (s + 1)) % K = 0 := by rw [Nat.mul_comm, Nat.mul_add_mod, Nat.mod_eq_of_lt hs]; exact Nat.succ_ne_zero s
    rw [Fin.sum_univ_castSucc, h1 ⟨q * K + (s + 1), h⟩ hm y]
    exact congrArg (· + _) (run_part X part h0 h1 q y s (Nat.lt_of_succ_lt hs) _)

/-- What the last point of a run holds is the sum of the run's parts. -/
theorem run_total {ι : Type} {N K : ℕ} (hK : 0 < K) (X part : Fin N → ι → EReal) (h0 : ∀ t : Fin N, t.val % K = 0 → ∀ y, X t y = part t y)
    (h1 : ∀ t : Fin N, ¬t.val % K = 0 → ∀ y, X t y = X ⟨t.val - 1, Nat.lt_of_le_of_lt (Nat.sub_le _ _) t.isLt⟩ y + part t y)
    (t : Fin N) (ht : t.val % K = K - 1) (y : ι) : X t y = ∑ j : Fin K, part ⟨t.val / K * K + j.val, step_lt t ht j.val j.isLt⟩ y := by
  obtain ⟨s, rfl⟩ : ∃ s, K = s + 1 := ⟨K - 1, by omega⟩
  have e : t = ⟨t.val / (s + 1) * (s + 1) + s, step_lt t ht s (Nat.lt_succ_self s)⟩ := Fin.ext (by
    have h := Nat.div_add_mod t.val (s + 1)
    rw [ht, Nat.mul_comm] at h
    exact h.symm)
  exact (congrArg (X · y) e).trans (run_part X part h0 h1 _ y s (Nat.lt_succ_self s) _)

theorem at_lt {K R : ℕ} (hn : n = K * R) (j : Fin K) (r : Fin R) : j.val * R + r.val < n := by
  have h : (j.val + 1) * R ≤ K * R := Nat.mul_le_mul_right R j.isLt
  rw [Nat.succ_mul] at h
  have := r.isLt
  omega

/-- A sum over all positions, step by step. -/
theorem sum_split {K R : ℕ} (hn : n = K * R) (f : Fin n → EReal) : ∑ i, f i = ∑ j : Fin K, ∑ r : Fin R, f ⟨j.val * R + r.val, at_lt hn j r⟩ := by
  subst hn
  rw [← finProdFinEquiv.sum_comp, Fintype.sum_prod_type]
  refine Finset.sum_congr rfl fun j _ => Finset.sum_congr rfl fun r _ => congrArg f (Fin.ext ?_)
  show r.val + R * j.val = j.val * R + r.val
  ring

/-! ## A product with the transpose of its second factor -/

/-- At an index, on the core. -/
theorem right_apply (x : FVec Ideal (M a k) .bf16) (w : FVec Ideal (M b k) .bf16) (y : (M a b).Idx) :
    matmul (F := Ideal) (DotDims.transposedRhs a k b) none x w (constant (M a b) .f32 0x00000000#32) y
      = ∑ c : Fin k, x (ValueIdx.ix2 (y 0) c) * w (ValueIdx.ix2 (y 1) c) := by
  rw [ProductValue.eq_ix2 y]
  refine (Ideal.matmul_transposedRhs_apply none x w _ (y 0) (y 1)).trans ?_
  show Ideal.ofBits .f32 0x00000000#32 + _ = _
  rw [Ideal.ofBits_zero_f32, zero_add]
  rfl

/-- At an index, of the reference. -/
theorem right_host (x : FVec Ideal (M a k) .bf16) (w : FVec Ideal (M b k) .bf16) (y : (M a b).Idx) :
    Host.dotGeneral (F := Ideal) (DotDims.transposedRhs a k b) none x w y = ∑ c : Fin k, x (ValueIdx.ix2 (y 0) c) * w (ValueIdx.ix2 (y 1) c) := by
  rw [← matmul_zero_eq_dotGeneral]
  exact right_apply x w y

/-- A point's block is the reference's, when its rows are the reference's and its weights are all of the reference's. -/
theorem right_point (x : FVec Ideal (M a k) .bf16) (w : FVec Ideal (G 1 b k) .bf16) (hc : (G 1 b k).ShapeCasts (M b k)) (y : (M a b).Idx)
    (A : FVec Ideal (M n k) .bf16) (W : FVec Ideal (G 1 b k) .bf16) (hC : (G 1 b k).ShapeCasts (M b k)) (i : (M n b).Idx)
    (hx : ∀ c, x (ix2 (y 0) c) = A (ix2 (i 0) c)) (hw : ∀ c, w (ix3 0 (y 1) c) = W (ix3 0 (i 1) c)) :
    matmul (F := Ideal) (DotDims.transposedRhs a k b) none x (shapeCast (M b k) w hc) (constant (M a b) .f32 0x00000000#32) y
      = Host.dotGeneral (F := Ideal) (DotDims.transposedRhs n k b) none A (shapeCast (M b k) W hC) i := by
  rw [right_apply, right_host]
  exact Finset.sum_congr rfl fun c _ => congrArg₂ (· * ·) (hx c) ((cast_one w hc (y 1) c).trans ((hw c).trans (cast_one W hC (i 1) c).symm))

/-- A run that adds up such products over the steps of the contraction ends at the reference's product. -/
theorem right_run {N K R l : ℕ} (hK : 0 < K) (hl : l = K * R) (X : Fin N → FVec Ideal (M a b) .f32) (x : Fin N → FVec Ideal (M a R) .bf16)
    (w : Fin N → FVec Ideal (G 1 b R) .bf16) (hc : (G 1 b R).ShapeCasts (M b R))
    (h0 : ∀ t : Fin N, t.val % K = 0 → X t = matmul (F := Ideal) (DotDims.transposedRhs a R b) none (x t) (shapeCast (M b R) (w t) hc) (constant (M a b) .f32 0x00000000#32))
    (h1 : ∀ t : Fin N, ¬t.val % K = 0 → X t = addf (X ⟨t.val - 1, Nat.lt_of_le_of_lt (Nat.sub_le _ _) t.isLt⟩)
      (matmul (F := Ideal) (DotDims.transposedRhs a R b) none (x t) (shapeCast (M b R) (w t) hc) (constant (M a b) .f32 0x00000000#32)))
    (t : Fin N) (ht : t.val % K = K - 1) (y : (M a b).Idx) (A : FVec Ideal (M n l) .bf16) (W : FVec Ideal (M b l) .bf16) (i : (M n b).Idx)
    (hx : ∀ (s : Fin N) (r : Fin R) (q : Fin l), s.val / K = t.val / K → q.val = s.val % K * R + r.val → x s (ix2 (y 0) r) = A (ix2 (i 0) q))
    (hw : ∀ (s : Fin N) (r : Fin R) (q : Fin l), s.val / K = t.val / K → q.val = s.val % K * R + r.val → w s (ix3 0 (y 1) r) = W (ValueIdx.ix2 (i 1) q)) :
    X t y = Host.dotGeneral (F := Ideal) (DotDims.transposedRhs n l b) none A W i := by
  rw [right_host, sum_split hl]
  refine (run_total hK X (fun t => matmul (F := Ideal) (DotDims.transposedRhs a R b) none (x t) (shapeCast (M b R) (w t) hc) (constant (M a b) .f32 0x00000000#32))
    (fun t h y => congrFun (h0 t h) y) (fun t h y => congrFun (h1 t h) y) t ht y).trans ?_
  refine Finset.sum_congr rfl fun j _ => ?_
  have e := step_div t.val K j.val j.isLt
  have q : ∀ r : Fin R, j.val * R + r.val = (t.val / K * K + j.val) % K * R + r.val := fun r => by rw [step_mod t.val K j.val j.isLt]
  rw [right_apply]
  exact Finset.sum_congr rfl fun r _ => congrArg₂ (· * ·) (hx _ r _ e (q r)) ((cast_one _ hc (y 1) r).trans (hw _ r _ e (q r)))

/-! ## A product with the transpose of its first factor -/

/-- The dimensions of such a product. -/
def left (k a b : ℕ) : DotDims (M k a) (M k b) (M a b) where
  lhsContracting := [0]
  rhsContracting := [0]
  lhsNonContracting := [1]
  rhsNonContracting := [1]
  lhsBatch := []
  rhsBatch := []
  wf := ⟨rfl, by simp, rfl, by simp, by simp, by simp, (by simp [List.finRange]; exact .swap _ _ _), (by simp [List.finRange]; exact .swap _ _ _), rfl, Nat.two_pos,
    fun b => by fin_cases b <;> rfl⟩

/-- At an index, on the core. -/
theorem left_apply (x : FVec Ideal (M k a) .bf16) (w : FVec Ideal (M k b) .bf16) (y : (M a b).Idx) :
    matmul (F := Ideal) (left k a b) none x w (constant (M a b) .f32 0x00000000#32) y
      = ∑ c : Fin k, x (ix2 c (y 0)) * w (ix2 c (y 1)) := by
  refine (Ideal.matmul_apply₁_of (left k a b) (a := 0) rfl (K := k) rfl x w _ y (fun c => ix2 c (y 0)) (fun c => ix2 c (y 1))
    (fun c => funext fun x => ?_) (fun c => funext fun x => ?_)).trans ?_
  · match x with | ⟨0, _⟩ => rfl | ⟨1, _⟩ => rfl
  · match x with | ⟨0, _⟩ => rfl | ⟨1, _⟩ => rfl
  · show Ideal.ofBits .f32 0x00000000#32 + _ = _
    rw [Ideal.ofBits_zero_f32, zero_add]

/-- At an index, of the reference. -/
theorem left_host (x : FVec Ideal (M k a) .bf16) (w : FVec Ideal (M k b) .bf16) (y : (M a b).Idx) :
    Host.dotGeneral (F := Ideal) (left k a b) none x w y = ∑ c : Fin k, x (ix2 c (y 0)) * w (ix2 c (y 1)) := by
  rw [← matmul_zero_eq_dotGeneral]
  exact left_apply x w y

/-- A matrix as one chip's columns. -/
theorem cast_up (w : FVec Ideal (M k b) .f32) (hc : (M k b).ShapeCasts (G 1 k b)) (y : (G 1 k b).Idx) :
    shapeCast (G 1 k b) w hc y = w (ix2 (y 1) (y 2)) :=
  shapeCast_apply w hc _ _ (by
    rw [Shape.rowMajor_val_two, Shape.rowMajor_val_three]
    have h : (y 0).val < 1 := (y 0).isLt
    have h' : (y 0).val = 0 := by omega
    show (y 1).val * b + (y 2).val = ((y 0).val * k + (y 1).val) * b + (y 2).val
    rw [h', Nat.zero_mul, Nat.zero_add])

/-- One chip's columns as a matrix and back. -/
theorem cast_down (w : FVec Ideal (G 1 k b) .f32) (hc : (G 1 k b).ShapeCasts (M k b)) (y : (G 1 k b).Idx) :
    shapeCast (M k b) w hc (ix2 (y 1) (y 2)) = w y :=
  shapeCast_apply w hc _ _ (by
    rw [Shape.rowMajor_val_two, Shape.rowMajor_val_three]
    have h : (y 0).val < 1 := (y 0).isLt
    have h' : (y 0).val = 0 := by omega
    show ((y 0).val * k + (y 1).val) * b + (y 2).val = (y 1).val * b + (y 2).val
    rw [h', Nat.zero_mul, Nat.zero_add])

/-- A matrix laid out as one chip's columns. -/
theorem whole_apply (w : FVec Ideal (M k b) .f32) (h : (M k b).BroadcastsInDim (G 1 k b) ![1, 2]) (i : (G 1 k b).Idx) :
    broadcastInDim (G 1 k b) ![1, 2] h w i = w (ix2 (i 1) (i 2)) :=
  broadcastInDim_apply ![1, 2] h w i (ix2 (i 1) (i 2)) fun x => by
    match x with
    | ⟨0, _⟩ =>
      show (i 1).val = if k = 1 then 0 else (i 1).val
      have : (i 1).val < k := (i 1).isLt
      split <;> omega
    | ⟨1, _⟩ =>
      show (i 2).val = if b = 1 then 0 else (i 2).val
      have : (i 2).val < b := (i 2).isLt
      split <;> omega

/-- A matrix cut into four chips' columns. -/
theorem parts_apply {l : ℕ} (w : FVec Ideal (M k l) .f32) (hc : (M k l).ShapeCasts (G k 4 b)) (ht : (G k 4 b).Transposes [1, 0, 2] (G 4 k b))
    (hl : l = 4 * b) (i : (G 4 k b).Idx) (S : Fin l) (hS : S.val = (i 0).val * b + (i 2).val) :
    transpose (G 4 k b) [1, 0, 2] (shapeCast (G k 4 b) w hc) ht i = w (ix2 (i 1) S) :=
  (transpose_apply _ _ ht i (ix3 (i 1) (i 0) (i 2)) fun x => by match x with | ⟨0, _⟩ => rfl | ⟨1, _⟩ => rfl | ⟨2, _⟩ => rfl).trans
  (shapeCast_apply w hc _ _ (by
    rw [Shape.rowMajor_val_two, Shape.rowMajor_val_three]
    show (i 1).val * l + S.val = ((i 1).val * 4 + (i 0).val) * b + (i 2).val
    subst hl
    rw [hS]; ring))

/-- A run that adds up such products over the steps of the contraction ends at the reference's product. -/
theorem left_run {N K R l : ℕ} (hK : 0 < K) (hn : n = K * R) (X : Fin N → FVec Ideal (G 1 a b) .f32) (x : Fin N → FVec Ideal (M R a) .bf16)
    (w : Fin N → FVec Ideal (M R b) .bf16) (hu : (M a b).ShapeCasts (G 1 a b)) (hd : (G 1 a b).ShapeCasts (M a b))
    (h0 : ∀ t : Fin N, t.val % K = 0 → X t = shapeCast (G 1 a b) (matmul (F := Ideal) (left R a b) none (x t) (w t) (constant (M a b) .f32 0x00000000#32)) hu)
    (h1 : ∀ t : Fin N, ¬t.val % K = 0 → X t = shapeCast (G 1 a b) (addf (shapeCast (M a b) (X ⟨t.val - 1, Nat.lt_of_le_of_lt (Nat.sub_le _ _) t.isLt⟩) hd)
      (matmul (F := Ideal) (left R a b) none (x t) (w t) (constant (M a b) .f32 0x00000000#32))) hu)
    (t : Fin N) (ht : t.val % K = K - 1) (y : (G 1 a b).Idx) (A : FVec Ideal (M n a) .bf16) (D : FVec Ideal (M n l) .bf16) (i : (M a l).Idx)
    (hx : ∀ (s : Fin N) (r : Fin R) (q : Fin n), s.val / K = t.val / K → q.val = s.val % K * R + r.val → x s (ix2 r (y 1)) = A (ix2 q (i 0)))
    (hw : ∀ (s : Fin N) (r : Fin R) (q : Fin n), s.val / K = t.val / K → q.val = s.val % K * R + r.val → w s (ix2 r (y 2)) = D (ix2 q (i 1))) :
    X t y = Host.dotGeneral (F := Ideal) (left n a l) none A D i := by
  rw [left_host, sum_split hn]
  refine (run_total hK X (fun t y => matmul (F := Ideal) (left R a b) none (x t) (w t) (constant (M a b) .f32 0x00000000#32) (ix2 (y 1) (y 2)))
    (fun t h y => (congrFun (h0 t h) y).trans (cast_up _ hu y))
    (fun t h y => (congrFun (h1 t h) y).trans ((cast_up _ hu y).trans (congrArg (· + _) (cast_down _ hd y)))) t ht y).trans ?_
  refine Finset.sum_congr rfl fun j _ => ?_
  have e := step_div t.val K j.val j.isLt
  have q : ∀ r : Fin R, j.val * R + r.val = (t.val / K * K + j.val) % K * R + r.val := fun r => by rw [step_mod t.val K j.val j.isLt]
  rw [left_apply]
  exact Finset.sum_congr rfl fun r _ => congrArg₂ (· * ·) (hx _ r _ e (q r)) (hw _ r _ e (q r))

end Cert.Steps

end
-- ==== Proof.ColSum.lean ====
/-
# Sums over the rows, 256 rows at a time

A call that goes through 16384 rows in 64 points adds each point's sum of rows to what it has so far. Where the points' rows
are those of one array, the last point leaves the sum of all its rows.
-/
module

public import proofs.«01_k».proof.Proof.RowBlock
public import proofs.«01_k».proof.Proof.Steps

@[expose] public section

noncomputable section

namespace Cert.ColSum

open Idealize.ShloMosaic Cert.RowBlock Cert.Steps
open scoped BigOperators

/-- A cast of the whole array to its own shape. -/
theorem whole_same {n N k : ℕ} {e : Fin n → Fin N} {x : FVec Ideal (M n k) .f32} {X : FVec Ideal (M N k) .f32} (h : On2 e x X) (hc : (M N k).ShapeCasts (M N k)) :
    On2 e x (shapeCast (M N k) X hc) := fun r j => by
  rw [shapeCast_self]
  exact h r j

/-- The sum of all rows. -/
abbrev total (X : FVec Ideal (M 16384 1024) .f32) (hR : (M 16384 1024).ReducesTo [0] (L 1024)) (hu : 0 < P.numel) (hc : (L 1024).ShapeCasts (M 1 1024)) :
    FVec Ideal (M 1 1024) .f32 :=
  shapeCast (M 1 1024) (Host.reduceAdd X (constant P .f32 0x00000000#32) hR hu) hc

theorem total_apply (X : FVec Ideal (M 16384 1024) .f32) (hR hu hc) (y : (M 1 1024).Idx) : total X hR hu hc y = ∑ r : Fin 16384, X (ix2 r (y 1)) := by
  unfold total
  pointwise

/-- A point adds the sum of its rows to what it finds. -/
theorem add_rows (x : FVec Ideal (M 256 1024) .f32) (acc : FVec Ideal (M 1 1024) .f32) (ha : (M 1 1024).ShapeCasts (M 1 1024)) (hc : (L 1024).ShapeCasts (M 1 1024))
    (hr : (M 256 1024).Reduces [0] (L 1024)) (hφ : FKind.Formats .f32) (hz : (0x00000000#32 : BitVec 32) = FKind.add.neutral .f32 hφ) (y : (M 1 1024).Idx) :
    addf (shapeCast (M 1 1024) acc ha) (shapeCast (M 1 1024) (multiReduction .add [0] (L 1024) x 0x00000000#32 hr hφ hz) hc) y
      = acc y + ∑ r : Fin 256, x (ix2 r (y 1)) := by
  pointwise

/-- The first point finds zero. -/
theorem first_rows (x : FVec Ideal (M 256 1024) .f32) (ha : (M 1 1024).ShapeCasts (M 1 1024)) (hc : (L 1024).ShapeCasts (M 1 1024))
    (hr : (M 256 1024).Reduces [0] (L 1024)) (hφ : FKind.Formats .f32) (hz : (0x00000000#32 : BitVec 32) = FKind.add.neutral .f32 hφ) (y : (M 1 1024).Idx) :
    addf (shapeCast (M 1 1024) (broadcast (M 1 1024) (Scalar.ofBits (F := Ideal) .f32 0x00000000#32)) ha)
        (shapeCast (M 1 1024) (multiReduction .add [0] (L 1024) x 0x00000000#32 hr hφ hz) hc) y
      = ∑ r : Fin 256, x (ix2 r (y 1)) := by
  rw [add_rows]
  exact (congrArg (· + _) Ideal.ofBits_zero_f32).trans (zero_add _)

/-- What the last point leaves, whatever the points' rows. -/
theorem all_rows {N : ℕ} (hN : N = 64) (e : Fin N → Fin 256 → Fin 16384) (he : ∀ t r, (e t r).val = 256 * t.val + r.val)
    (X : FVec Ideal (M 16384 1024) .f32) (hR hu hc) (x : Fin N → FVec Ideal (M 256 1024) .f32) (hx : ∀ t, On2 (e t) (x t) X)
    (S : Fin N → FVec Ideal (M 1 1024) .f32) (h0 : ∀ t : Fin N, t.val % 64 = 0 → ∀ y, S t y = ∑ r : Fin 256, x t (ix2 r (y 1)))
    (h1 : ∀ t : Fin N, ¬t.val % 64 = 0 → ∀ y, S t y = S ⟨t.val - 1, Nat.lt_of_le_of_lt (Nat.sub_le _ _) t.isLt⟩ y + ∑ r : Fin 256, x t (ix2 r (y 1)))
    (t : Fin N) (ht : t.val % 64 = 63) (y f : (M 1 1024).Idx) {b d : ℕ} (hb : b = 0 ∧ d = 0) (hf0 : (f 0).val = b * 1 + 1 * (y 0).val)
    (hf1 : (f 1).val = d * 1024 + 1 * (y 1).val) : S t y = total X hR hu hc f := by
  obtain ⟨rfl, rfl⟩ := hb
  obtain rfl : f = y := funext fun a => Fin.ext (by
    match a with
    | ⟨0, _⟩ => show (f 0).val = (y 0).val; omega
    | ⟨1, _⟩ => show (f 1).val = (y 1).val; omega)
  subst hN
  refine (run_total (K := 64) (by norm_num) S (fun t y => ∑ r : Fin 256, x t (ix2 r (y 1))) h0 h1 t ht f).trans ?_
  refine Eq.trans ?_ ((total_apply X hR hu hc f).trans (sum_split (K := 64) (R := 256) (by norm_num) _)).symm
  refine Finset.sum_congr rfl fun j _ => Finset.sum_congr rfl fun r _ => (hx _ r (f 1)).trans ?_
  refine congrArg (fun k => X (ix2 k (f 1))) (Fin.ext ((he _ r).trans ?_))
  show 256 * (t.val / 64 * 64 + j.val) + r.val = j.val * 256 + r.val
  omega

end Cert.ColSum

end
-- ==== Proof.GradXValue.lean ====
/-
# The gradients of `x` and of the first modulation

The last backward call takes 256 rows at each of its 64 grid points. Every row of `grad_x` depends on that row of its
arguments alone, and the operations are the reference's, so block `t` of the result is rows `256 t … 256 t + 255` of the
reference's array. The gradients of the scale and the shift are sums over the rows, added up over the points.
-/
module

public import proofs.«01_k».proof.Defs
public import proofs.«01_k».proof.Proof.Gen.GradXIdeal.Value
public import proofs.«01_k».proof.Proof.Gen.GradXRefIdeal.Run
public import proofs.«01_k».proof.Proof.ColSum

@[expose] public section

noncomputable section

namespace Cert.GradXValue

open Idealize.ShloMosaic Idealize.SL.Sem Cert.RowBlock

theorem hz : (![0, 0] : Fin 2 → Nat) = fun _ => 0 := funext fun a => by fin_cases a <;> rfl

open Cert.GradXIdeal Cert.GradXIdeal.Gen in
/-- What a point stores: 256 rows of `grad_x`. -/
def rowsOf (x0 x1 x2 : Vec Ideal S256x1024 .f32) (x3 : Vec Ideal S1x1024 .f32) : FVec Ideal S256x1024 .f32 :=
  k0_pay14 x2 (k0_pay4 x0) (k0_pay7 x0) (k0_pay8 x0) (k0_pay12 x1 x3) (k0_pay13 x0 x1 x3)

open Cert.GradXRefIdeal in
/-- A point's rows are the reference's. -/
theorem rowsOf_eq (e : Fin 256 → Fin 16384) (m : (ℓ : Loc nD τ sig) → Buf (Elt Ideal) ℓ) (c : Dev nD)
    (x0 x1 x2 : FVec Ideal (M 256 1024) .f32) (x3 : FVec Ideal (M 1 1024) .f32)
    (h0 : On2 e x0 (m ((c.tc : Thread nD τ).loc main_arg0))) (h1 : On2 e x1 (m ((c.tc : Thread nD τ).loc main_arg1)))
    (h2 : On2 e x2 (m ((c.tc : Thread nD τ).loc main_arg2))) (h3 : x3 = m ((c.tc : Thread nD τ).loc main_arg3)) :
    On2 e (rowsOf x0 x1 x2 x3) (Value.res_main_v61 m c) := by
  open Cert.GradXIdeal.Gen in unfold rowsOf k0_pay14 k0_pay13 k0_pay12 k0_pay9 k0_pay8 k0_pay7 k0_pay6 k0_pay5 k0_pay4 k0_pay3 k0_pay2 Value.res_main_v61
  dsimp only
  subst h3
  repeat' first
    | exact h0
    | exact h1
    | exact h2
    | with_reducible apply On2.const
    | with_reducible apply On2.neg
    | with_reducible apply On2.add
    | with_reducible apply On2.sub
    | with_reducible apply On2.mul
    | with_reducible apply On2.div
    | with_reducible apply On2.rsqrt
    | with_reducible apply On1.spread
    | with_reducible apply On1.col
    | with_reducible apply On1.cast
    | refine On2.rows ?_ _ _ _ _ _
    | with_reducible apply On2.spread
    | with_reducible apply On2.same
    | exact On2.vec rfl _ _
    | refine ColSum.whole_same ?_ _

/-! ## What a point stores -/

section
open Cert.GradXIdeal Cert.GradXIdeal.Gen

variable (c : Dev nD) (i : grid0.Coords)
    (a2 : Memref sig .tc .vmem S256x1024 .f32) (h2 : a2.IsWhole)
    (a3 : Memref sig .tc .vmem S256x1024 .f32) (h3 : a3.IsWhole)
    (a4 : Memref sig .tc .vmem S256x1024 .f32) (h4 : a4.IsWhole)
    (a5 : Memref sig .tc .vmem S1x1024 .f32) (h5 : a5.IsWhole)
    (a6 : Memref sig .tc .vmem S1x1024 .f32) (h6 : a6.IsWhole)
    (a7 : Memref sig .tc .vmem S256x1024 .f32) (h7 : a7.IsWhole)
    (a8 : Memref sig .tc .vmem S1x1024 .f32) (h8 : a8.IsWhole)
    (a9 : Memref sig .tc .vmem S1x1024 .f32) (h9 : a9.IsWhole)
    (x0 x1 x2 : Vec Ideal S256x1024 .f32) (x3 x4 : Vec Ideal S1x1024 .f32)

theorem out_A (hc0 : cond0_0 i) (hc1 : cond0_1 i) : out0_A_5 c i a2 h2 a3 h3 a4 h4 a5 h5 a6 h6 a7 h7 a8 h8 a9 h9 hc0 hc1 x0 x1 x2 x3 x4 = rowsOf x0 x1 x2 x3 := by
  unfold out0_A_5
  rw [View.read_writes_eq_canon _ _ _ (cover0_A_5 c i a2 h2 a3 h3 a4 h4 a5 h5 a6 h6 a7 h7 a8 h8 a9 h9 hc0 hc1 x0 x1 x2 x3 x4)]
  unfold kernelRun0_A
  dsimp only
  sl_unfold_words
  rw [View.canon_unit_zero (S := S256x1024) hz]
  unfold rowsOf
  simp only [View.readAt_eq_ld, h2.read_unread, h3.read_unread, h4.read_unread, h5.read_unread,
    View.ld_unit_zero (S := S256x1024) hz, View.ld_unit_zero (S := S1x1024) hz, shapeCast_self]

theorem out_B (hc0 : ¬cond0_0 i) (hc1 : ¬cond0_1 i) (y6 y7 : Vec Ideal S1x1024 .f32) :
    out0_B_5 c i a2 h2 a3 h3 a4 h4 a5 h5 a6 h6 a7 h7 a8 h8 a9 h9 hc0 hc1 x0 x1 x2 x3 x4 y6 y7 = rowsOf x0 x1 x2 x3 := by
  unfold out0_B_5
  rw [View.read_writes_eq_canon _ _ _ (cover0_B_5 c i a2 h2 a3 h3 a4 h4 a5 h5 a6 h6 a7 h7 a8 h8 a9 h9 hc0 hc1 x0 x1 x2 x3 x4 y6 y7)]
  unfold kernelRun0_B
  dsimp only
  sl_unfold_words
  rw [View.canon_unit_zero (S := S256x1024) hz]
  unfold rowsOf
  simp only [View.readAt_eq_ld, h2.read_unread, h3.read_unread, h4.read_unread, h5.read_unread,
    View.ld_unit_zero (S := S256x1024) hz, View.ld_unit_zero (S := S1x1024) hz, shapeCast_self]
end

/-! ## The whole array -/

section
open Cert.GradXIdeal Cert.GradXIdeal.Gen

/-- Row `r` of point `t`'s block is row `256 t + r`. -/
def row (t : Fin cfg0.N) (r : Fin 256) : Fin 16384 :=
  ⟨256 * t.val + r.val, by have h : t.val < 64 := t.isLt; have := r.isLt; omega⟩

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index5 : ∀ t : Fin cfg0.N, win0_5.index t 0 = t.val ∧ win0_5.index t 1 = 0 :=
  (by decide +kernel : ∀ t : Fin grid0.N, win0_5.index t 0 = t.val ∧ win0_5.index t 1 = 0)

/-- The place in the array of an index of point `t`'s block. -/
theorem place (t : Fin cfg0.N) (b : ℕ) (hb : b = t.val) (d : ℕ) (hd : d = 0) (r : Fin 256) (j : Fin 1024)
    (f : (M 16384 1024).Idx) (h0 : (f 0).val = b * 256 + 1 * r.val) (h1 : (f 1).val = d * 1024 + 1 * j.val) :
    f = ix2 (row t r) j := by
  funext a
  refine Fin.ext ?_
  match a with
  | ⟨0, _⟩ => show (f 0).val = 256 * t.val + r.val; omega
  | ⟨1, _⟩ => show (f 1).val = j.val; omega

theorem block0 (t : Fin cfg0.N) (Y : FVec Ideal S16384x1024 .f32) :
    On2 (row t) (((cfg0.win 0).blk t).view.read (Elt Ideal) Y) Y :=
  fun r j => congrArg Y (place t _ (index0 t).1 _ (index0 t).2 r j _ rfl rfl)
theorem block1 (t : Fin cfg0.N) (Y : FVec Ideal S16384x1024 .f32) :
    On2 (row t) (((cfg0.win 1).blk t).view.read (Elt Ideal) Y) Y :=
  fun r j => congrArg Y (place t _ (index1 t).1 _ (index1 t).2 r j _ rfl rfl)
theorem block2 (t : Fin cfg0.N) (Y : FVec Ideal S16384x1024 .f32) :
    On2 (row t) (((cfg0.win 2).blk t).view.read (Elt Ideal) Y) Y :=
  fun r j => congrArg Y (place t _ (index2 t).1 _ (index2 t).2 r j _ rfl rfl)
theorem block5 (t : Fin cfg0.N) (Y : FVec Ideal S16384x1024 .f32) :
    On2 (row t) (((cfg0.win 5).blk t).view.read (Elt Ideal) Y) Y :=
  fun r j => congrArg Y (place t _ (index5 t).1 _ (index5 t).2 r j _ rfl rfl)

theorem block3 (t : Fin cfg0.N) (Y : FVec Ideal S1x1024 .f32) : ((cfg0.win 3).blk t).view.read (Elt Ideal) Y = Y := by
  funext j
  refine congrArg Y (funext fun a => Fin.ext ?_)
  have h := index3 t
  match a with
  | ⟨0, _⟩ => show win0_3.index t 0 * 1 + 1 * (j 0).val = (j 0).val; omega
  | ⟨1, _⟩ => show win0_3.index t 1 * 1024 + 1 * (j 1).val = (j 1).val; omega

variable (m : (ℓ : Loc nD τ sig) → Buf (Elt Ideal) ℓ) (c : Dev nD)

/-- What point `t` writes back. -/
theorem flushed (t : Fin cfg0.N) :
    (dats m 0 c).flushed 5 t = (cfg0.win 5).cut (grid0.coords t) (rowsOf (iblk m c 0 t) (iblk m c 1 t) (iblk m c 2 t) (iblk m c 3 t)) := by
  by_cases h : t.val % 64 = 0
  · rw [GradXIdeal.Value.flushed5_A m c t h h, out_A]
  · rw [GradXIdeal.Value.flushed5_B m c t h h, out_B]

/-- The array the call leaves, whatever array has every point's rows. -/
theorem final (X : FVec Ideal S16384x1024 .f32)
    (hX : ∀ t : Fin cfg0.N, On2 (row t) (rowsOf (iblk m c 0 t) (iblk m c 1 t) (iblk m c 2 t) (iblk m c 3 t)) X) :
    (dats m 0 c).arrAt 5 cfg0.N = X := by
  refine (dats m 0 c).arrAt_eq_of_cover 5 _ (fun t _ => ?_) (fun i => ?_)
  · rw [flushed]
    funext y
    have hy : y = ix2 (y 0) (y 1) := funext fun a => by match a with | ⟨0, _⟩ => rfl | ⟨1, _⟩ => rfl
    rw [hy]
    exact (hX t (y 0) (y 1)).trans (block5 t X (y 0) (y 1)).symm
  · have hi : (i 0).val < 16384 := (i 0).isLt
    let t : Fin cfg0.N := ⟨(i 0).val / 256, by show _ < 64; omega⟩
    let r : Fin 256 := ⟨(i 0).val % 256, by omega⟩
    refine ⟨t, flush0_5 _, ?_⟩
    have e : ((cfg0.win 5).blk t).view.emb (ix2 r (i 1)) = i := by
      refine (place t _ (index5 t).1 _ (index5 t).2 r (i 1) _ rfl rfl).trans (funext fun a => Fin.ext ?_)
      match a with
      | ⟨0, _⟩ => show 256 * ((i 0).val / 256) + (i 0).val % 256 = (i 0).val; omega
      | ⟨1, _⟩ => rfl
    have h := ((cfg0.win 5).blk t).view.emb_mem_set (ix2 r (i 1))
    rwa [e] at h
end

/-! ## The sums over the rows -/

open Cert.GradXIdeal Cert.GradXIdeal.Gen in
/-- A point's rows that add up to the gradient of the scale: the normalized rows times the incoming gradient. -/
def scaleRows (x0 x1 : Vec Ideal S256x1024 .f32) : FVec Ideal S256x1024 .f32 :=
  mulf (mulf (k0_pay5 x0) (broadcastTo S256x1024 (k0_pay7 x0) broadcasts_S256x1_S256x1024)) (k0_pay9 x1)

section
open Cert.GradXIdeal Cert.GradXIdeal.Gen

variable (m : (ℓ : Loc nD τ sig) → Buf (Elt Ideal) ℓ) (c : Dev nD)

theorem scale_start (t : Fin cfg0.N) (h : t.val % 64 = 0) (y : (M 1 1024).Idx) :
    (outsAt0 m c t.val t.isLt).2.1 y = ∑ r : Fin 256, scaleRows (iblk m c 0 t) (iblk m c 1 t) (ix2 r (y 1)) := by
  rw [outsAt0_A m c t h h]
  dsimp only
  unfold out0_A_6
  rw [View.read_writes_eq_canon _ _ _ (fun _ => cover0_A_6 ..)]
  unfold kernelRun0_A
  dsimp only
  sl_unfold_words
  rw [View.canon_cons_unit_zero (S := S1x1024) hz, View.readCov_unit_zero (S := S1x1024) _ hz]
  simp only [View.readAt_eq_ld, (hs0_0 t).read_unread, (hs0_1 t).read_unread, View.ld_unit_zero (S := S256x1024) hz, shapeCast_self]
  exact ColSum.first_rows _ _ _ _ _ _ y

theorem scale_step (t : Fin cfg0.N) (h : ¬t.val % 64 = 0) (y : (M 1 1024).Idx) :
    (outsAt0 m c t.val t.isLt).2.1 y = (outsAt0 m c (t.val - 1) (Nat.lt_of_le_of_lt (Nat.sub_le _ _) t.isLt)).2.1 y
      + ∑ r : Fin 256, scaleRows (iblk m c 0 t) (iblk m c 1 t) (ix2 r (y 1)) := by
  rw [outsAt0_B m c t h h]
  dsimp only
  unfold out0_B_6
  rw [View.read_writes_eq_canon _ _ _ (fun _ => cover0_B_6 ..)]
  unfold kernelRun0_B
  dsimp only
  sl_unfold_words
  rw [View.canon_unit_zero (S := S1x1024) hz]
  simp only [View.readAt_eq_ld, (hs0_0 t).read_unread, (hs0_1 t).read_unread, (hs0_6 t).read_unread, View.ld_unit_zero (S := S256x1024) hz,
    View.ld_unit_zero (S := S1x1024) hz, shapeCast_self]
  exact ColSum.add_rows _ _ _ _ _ _ _ y

theorem shift_start (t : Fin cfg0.N) (h : t.val % 64 = 0) (y : (M 1 1024).Idx) :
    (outsAt0 m c t.val t.isLt).2.2 y = ∑ r : Fin 256, (show FVec Ideal (M 256 1024) .f32 from iblk m c 1 t) (ix2 r (y 1)) := by
  rw [outsAt0_A m c t h h]
  dsimp only
  unfold out0_A_7
  rw [View.read_writes_eq_canon _ _ _ (fun _ => cover0_A_7 ..)]
  unfold kernelRun0_A
  dsimp only
  sl_unfold_words
  rw [View.canon_cons_unit_zero (S := S1x1024) hz, View.readCov_unit_zero (S := S1x1024) _ hz]
  simp only [View.readAt_eq_ld, (hs0_1 t).read_unread, View.ld_unit_zero (S := S256x1024) hz, shapeCast_self]
  exact ColSum.first_rows _ _ _ _ _ _ y

theorem shift_step (t : Fin cfg0.N) (h : ¬t.val % 64 = 0) (y : (M 1 1024).Idx) :
    (outsAt0 m c t.val t.isLt).2.2 y = (outsAt0 m c (t.val - 1) (Nat.lt_of_le_of_lt (Nat.sub_le _ _) t.isLt)).2.2 y
      + ∑ r : Fin 256, (show FVec Ideal (M 256 1024) .f32 from iblk m c 1 t) (ix2 r (y 1)) := by
  rw [outsAt0_B m c t h h]
  dsimp only
  unfold out0_B_7
  rw [View.read_writes_eq_canon _ _ _ (fun _ => cover0_B_7 ..)]
  unfold kernelRun0_B
  dsimp only
  sl_unfold_words
  rw [View.canon_unit_zero (S := S1x1024) hz]
  simp only [View.readAt_eq_ld, (hs0_1 t).read_unread, (hs0_7 t).read_unread, View.ld_unit_zero (S := S256x1024) hz,
    View.ld_unit_zero (S := S1x1024) hz, shapeCast_self]
  exact ColSum.add_rows _ _ _ _ _ _ _ y

theorem sum_index : ∀ t : Fin cfg0.N, (win0_6.index t 0 = 0 ∧ win0_6.index t 1 = 0) ∧ (win0_7.index t 0 = 0 ∧ win0_7.index t 1 = 0) :=
  (by decide +kernel : ∀ t : Fin grid0.N, _)

theorem scale_final (X : FVec Ideal (M 16384 1024) .f32) (hR hu hc) (hX : ∀ t : Fin cfg0.N, On2 (row t) (scaleRows (iblk m c 0 t) (iblk m c 1 t)) X) :
    (dats m 0 c).arrAt 6 cfg0.N = ColSum.total X hR hu hc := by
  refine (dats m 0 c).arrAt_eq_of_covers 6 _ (by decide +kernel) fun t hf y => ?_
  have ht := (flush0_6 t).mp hf
  have hi := (sum_index t).1
  blk_simp
  rw [after0_6]
  frame_out
  exact ColSum.all_rows (N := cfg0.N) (by decide +kernel) row (fun _ _ => rfl) X hR hu hc _ hX (fun t => (outsAt0 m c t.val t.isLt).2.1) (scale_start m c) (scale_step m c) t ht y _ hi rfl rfl

theorem shift_final (X : FVec Ideal (M 16384 1024) .f32) (hR hu hc) (hX : ∀ t : Fin cfg0.N, On2 (φ := .f32) (row t) (iblk m c 1 t) X) :
    (dats m 0 c).arrAt 7 cfg0.N = ColSum.total X hR hu hc := by
  refine (dats m 0 c).arrAt_eq_of_covers 7 _ (by decide +kernel) fun t hf y => ?_
  have ht := (flush0_7 t).mp hf
  have hi := (sum_index t).2
  blk_simp
  rw [after0_7]
  frame_out
  exact ColSum.all_rows (N := cfg0.N) (by decide +kernel) row (fun _ _ => rfl) X hR hu hc _ hX (fun t => (outsAt0 m c t.val t.isLt).2.2) (shift_start m c) (shift_step m c) t ht y _ hi rfl rfl
end

/-- The two runs end with equal gradients. -/
theorem value_equal : Cert.algebraic_GradXIdeal_GradXRefIdeal := fun m g m' g' _ hX => by
  refine ⟨_, _, _, (θ_run (Cert.GradXIdeal.defs (F := Ideal)) _ _).mono (fun _ h c => ⟨(h c).1.trans ?_, (h c).2.1.trans ?_, (h c).2.2.1.trans ?_, (h c).2.2.2⟩)
      (Cert.GradXIdeal.Value.run_blocks (F := Ideal) m g), Cert.GradXRefIdeal.Value.run (F := Ideal) m' g'⟩
  · refine final m c _ fun t => rowsOf_eq _ m' c _ _ _ _ ?_ ?_ ?_ ?_
    · rw [(hX c).1]; exact block0 t _
    · rw [(hX c).2.1]; exact block1 t _
    · rw [(hX c).2.2.1]; exact block2 t _
    · rw [(hX c).2.2.2.1]; exact block3 t _
  · refine scale_final m c _ _ _ _ fun t => ?_
    open Cert.GradXIdeal.Gen in unfold scaleRows k0_pay9 k0_pay7 k0_pay6 k0_pay5 k0_pay3 k0_pay2
    have h0 := block0 t (GradXIdeal.Gen.V m c GradXIdeal.main_arg0)
    have h1 := block1 t (GradXIdeal.Gen.V m c GradXIdeal.main_arg1)
    rw [(hX c).1, (hX c).2.1]
    dsimp only
    repeat' first
      | exact h0
      | exact h1
      | with_reducible apply On2.const
      | with_reducible apply On2.add
      | with_reducible apply On2.sub
      | with_reducible apply On2.mul
      | with_reducible apply On2.div
      | with_reducible apply On2.rsqrt
      | with_reducible apply On1.col
      | refine On2.rows ?_ _ _ _ _ _
      | with_reducible apply On2.spread
      | with_reducible apply On2.same
      | refine ColSum.whole_same ?_ _
  · refine shift_final m c _ _ _ _ fun t => ?_
    rw [(hX c).2.1]
    exact block1 t _

end Cert.GradXValue

end
-- ==== Proof.AdaFwdValue.lean ====
/-
# The modulation

The call multiplies `silu c` by this chip's columns of `w_ada` on the core and adds the bias to every row; the reference
contracts the two on the host.
-/
module

public import proofs.«01_k».proof.Defs
public import proofs.«01_k».proof.Proof.Gen.AdaFwdIdeal.Value
public import proofs.«01_k».proof.Proof.Gen.AdaFwdRefIdeal.Run
public import proofs.«01_k».proof.Proof.AdaBwdValue
public import Idealize.ShloMosaic.Lib.Pointwise

@[expose] public section

noncomputable section

namespace Cert.AdaFwdValue

open Idealize.ShloMosaic Idealize.SL.Sem

/-- A row given to every row, on the core and on the host. -/
theorem bias_eq (hb : AdaFwdIdeal.S1x1536.Broadcasts AdaFwdIdeal.S8x1536)
    (hB : AdaFwdIdeal.S1x1536.BroadcastsInDim AdaFwdIdeal.S8x1536 ![0, 1]) (z : FVec Ideal AdaFwdIdeal.S1x1536 .f32) :
    broadcastTo AdaFwdIdeal.S8x1536 z hb = broadcastInDim AdaFwdIdeal.S8x1536 ![0, 1] hB z := by
  funext i
  pointwise

/-- The reference's modulation, of equal arguments, is the call's. -/
theorem value (x x' : FVec Ideal AdaFwdIdeal.S8x1024 .f32) (y y' : FVec Ideal AdaFwdIdeal.S1024x1536 .f32)
    (z z' : FVec Ideal AdaFwdIdeal.S1x1536 .f32) (hx : x' = x) (hy : y' = y) (hz : z' = z) :
    addf (Host.dotGeneral AdaFwdRefIdeal.dot_S8x1024_S1024x1536_S8x1536_1_0_0_1_n_n (some .fp32)
        (mulf x' (Host.divf (broadcastInDim AdaFwdRefIdeal.S8x1024 ![] AdaFwdRefIdeal.Facts₀.bcast_S_S8x1024 (constant AdaFwdRefIdeal.S_ .f32 0x3F800000#32))
          (addf (broadcastInDim AdaFwdRefIdeal.S8x1024 ![] AdaFwdRefIdeal.Facts₀.bcast_S_S8x1024 (constant AdaFwdRefIdeal.S_ .f32 0x3F800000#32)) (Host.exp (Host.negf x'))))) y')
        (broadcastInDim AdaFwdRefIdeal.S8x1536 ![0, 1] AdaFwdRefIdeal.Facts₀.bcast_S1x1536_S8x1536_0_1 z')
      = AdaFwdIdeal.Value.G3 (F := Ideal) x y z := by
  rw [hx, hy, hz, AdaBwdValue.logistic_eq]
  exact congrArg₂ addf (matmul_zero_eq_dotGeneral _ _ _ _).symm (bias_eq _ _ z).symm

/-- The two runs end with equal modulations. -/
theorem value_equal : Cert.algebraic_AdaFwdIdeal_AdaFwdRefIdeal := fun m g m' g' _ hX =>
  ⟨_, Cert.AdaFwdIdeal.Value.run (F := Ideal) m g,
    (θ_run (Cert.AdaFwdRefIdeal.defs (F := Ideal)) _ _).mono (fun _ h c =>
      ⟨(h c).1.trans (value _ _ _ _ _ _ (hX c).1 (hX c).2.1 (hX c).2.2), (h c).2⟩)
      (Cert.AdaFwdRefIdeal.Value.run (F := Ideal) m' g')⟩

end Cert.AdaFwdValue

end
-- ==== Proof.GradSumValue.lean ====
/-
# The sums of the packed gradients

Between the exchanges a device adds its packed gradient to its partner's, and later the four chips' parts. Both calls
take a block of rows at each grid point and add index by index; the reference adds two arrays, and sums along the axis
of chips.
-/
module

public import proofs.«01_k».proof.Defs
public import proofs.«01_k».proof.Proof.Gen.PairSumIdeal.Value
public import proofs.«01_k».proof.Proof.Gen.PairSumRefIdeal.Run
public import proofs.«01_k».proof.Proof.Gen.ChipSumIdeal.Value
public import proofs.«01_k».proof.Proof.Gen.ChipSumRefIdeal.Run
public import Idealize.ShloMosaic.Lib.IdealHost
public import Idealize.ShloMosaic.Lib.Pointwise

@[expose] public section

noncomputable section

namespace Cert.GradSumValue

open Idealize.ShloMosaic Idealize.SL.Sem
open Idealize.ShloMosaic.TcCoe

/-! ## Over the two cores -/

/-- The two runs end with equal sums. -/
theorem pair : Cert.algebraic_PairSumIdeal_PairSumRefIdeal := fun m g m' g' _ hX =>
  ⟨_, Cert.PairSumIdeal.Value.run (F := Ideal) m g,
    (θ_run (Cert.PairSumRefIdeal.defs (F := Ideal)) _ _).mono (fun _ h c =>
      ⟨(h c).1.trans (congrArg₂ addf (hX c).1 (hX c).2), (h c).2⟩)
      (Cert.PairSumRefIdeal.Value.run (F := Ideal) m' g')⟩

/-! ## Over the chips -/

open Cert.ChipSumIdeal Cert.ChipSumIdeal.Gen

/-- Chip `k`'s part of the arrived parts. -/
abbrev part (x : FVec Ideal S4x2848x1024 .f32) (k : Fin 4) : FVec Ideal S2848x1024 .f32 :=
  fun y => x (ValueIdx.ix3 k (y 0) (y 1))

/-- A slice of one chip, its axis of length one dropped, is that chip's part. -/
theorem slice_eq (x : FVec Ideal S4x2848x1024 .f32) (k : Fin 4) (hs : S4x2848x1024.Slices ![k.val, 0, 0] S1x2848x1024)
    (hc : S1x2848x1024.ShapeCasts S2848x1024) :
    shapeCast S2848x1024 (extractStridedSlice S1x2848x1024 ![k.val, 0, 0] x hs) hc = part x k := by
  funext y
  pointwise
  rfl

/-- Each chip's slice lies inside the parts. -/
theorem slices : ∀ k : Fin 4, S4x2848x1024.Slices ![k.val, 0, 0] S1x2848x1024 := by decide

variable (m : (ℓ : Loc nD τ sig) → Buf (Elt Ideal) ℓ) (c : Dev nD)

/-- The parts as the call finds them. -/
theorem entry :
    V m c main_v1 = part (m (c, main_arg0)) 0 ∧ V m c main_v3 = part (m (c, main_arg0)) 1
      ∧ V m c main_v5 = part (m (c, main_arg0)) 2 ∧ V m c main_v7 = part (m (c, main_arg0)) 3 := by
  refine ⟨?_, ?_, ?_, ?_⟩ <;> refine Eq.trans ?_ (slice_eq _ _ (slices _) shapeCasts_S1x2848x1024_S2848x1024) <;>
    (simp only [V, hostOps0]; after_results; rfl)

/-- The sum of the parts, in the call's order. -/
abbrev total (x : FVec Ideal S4x2848x1024 .f32) : FVec Ideal S2848x1024 .f32 :=
  addf (addf (addf (part x 0) (part x 1)) (part x 2)) (part x 3)

theorem hz : (![0, 0] : Fin 2 → Nat) = fun _ => 0 := funext fun a => by fin_cases a <;> rfl

/-- What the call's body leaves of four blocks. -/
theorem out_eq (x0 x1 x2 x3 : FVec Ideal S32x1024 .f32) :
    out0_4 (F := Ideal) x0 x1 x2 x3 = addf (addf (addf x0 x1) x2) x3 := by
  unfold out0_4
  simp only [View.ld_unit_zero (S := S32x1024) hz]
  refine (View.canon_unit_zero (S := S32x1024) hz _ _).trans ?_
  unfold k0_pay1
  simp only [shapeCast_self]

/-- Every window's block of point `t` is its 32 rows from row `32 t`. -/
theorem indices : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) :=
  (by decide +kernel : ∀ t : Fin grid0.N, _)

/-- Row `r` of point `t`'s block in the whole array. -/
def place (t : Fin cfg0.N) (j : S32x1024.Idx) : S2848x1024.Idx :=
  ix2 ⟨32 * t.val + (j 0).val, by have h : t.val < 89 := t.isLt; have : (j 0).val < 32 := (j 0).isLt; omega⟩ (j 1)

theorem place_eq (t : Fin cfg0.N) (j : S32x1024.Idx) (b d : ℕ) (hb : b = t.val ∧ d = 0) (f : S2848x1024.Idx)
    (h0 : (f 0).val = b * 32 + 1 * (j 0).val) (h1 : (f 1).val = d * 1024 + 1 * (j 1).val) : f = place t j := by
  funext a
  refine Fin.ext ?_
  match a with
  | ⟨0, _⟩ => show (f 0).val = 32 * t.val + (j 0).val; omega
  | ⟨1, _⟩ => show (f 1).val = (j 1).val; omega

/-- The array the call leaves is the sum of the parts. -/
theorem final : (dats m 0 c).arrAt 4 cfg0.N = total (m (c, main_arg0)) := by
  refine (dats m 0 c).arrAt_eq_of_cover 4 _ (fun t _ => ?_) (fun i => ?_)
  · rw [ChipSumIdeal.Value.flushed4, out_eq]
    obtain ⟨e0, e1, e2, e3⟩ := entry m c
    obtain ⟨i0, i1, i2, i3, i4⟩ := indices t
    funext j
    have h0 : iblk m c 0 t j = part (m (c, main_arg0)) 0 (place t j) := (congrFun e0 _).trans (congrArg _ (place_eq t j _ _ i0 _ rfl rfl))
    have h1 : iblk m c 1 t j = part (m (c, main_arg0)) 1 (place t j) := (congrFun e1 _).trans (congrArg _ (place_eq t j _ _ i1 _ rfl rfl))
    have h2 : iblk m c 2 t j = part (m (c, main_arg0)) 2 (place t j) := (congrFun e2 _).trans (congrArg _ (place_eq t j _ _ i2 _ rfl rfl))
    have h3 : iblk m c 3 t j = part (m (c, main_arg0)) 3 (place t j) := (congrFun e3 _).trans (congrArg _ (place_eq t j _ _ i3 _ rfl rfl))
    refine Eq.trans ?_ (congrArg (total (m (c, main_arg0))) (place_eq t j _ _ i4 _ rfl rfl)).symm
    exact congrArg₂ (FloatOps.addf (F := Ideal) (φ := .f32)) (congrArg₂ (FloatOps.addf (F := Ideal) (φ := .f32))
      (congrArg₂ (FloatOps.addf (F := Ideal) (φ := .f32)) h0 h1) h2) h3
  · have hi : (i 0).val < 2848 := (i 0).isLt
    let t : Fin cfg0.N := ⟨(i 0).val / 32, by show _ < 89; omega⟩
    let j : S32x1024.Idx := ix2 ⟨(i 0).val % 32, by omega⟩ (i 1)
    refine ⟨t, flush0_4 _, ?_⟩
    have e : ((cfg0.win 4).blk t).view.emb j = i := by
      refine (place_eq t j _ _ (indices t).2.2.2.2 _ rfl rfl).trans (funext fun a => Fin.ext ?_)
      match a with
      | ⟨0, _⟩ => show 32 * ((i 0).val / 32) + (i 0).val % 32 = (i 0).val; omega
      | ⟨1, _⟩ => rfl
    have h := ((cfg0.win 4).blk t).view.emb_mem_set j
    rwa [e] at h

/-- The reference's sum is the call's. -/
theorem value (x : FVec Ideal S4x2848x1024 .f32) (h : S4x2848x1024.ReducesTo [0] S2848x1024) (hu : 0 < (⟨0, ![]⟩ : Shape).numel) :
    Host.reduceAdd x (constant ⟨0, ![]⟩ .f32 0x00000000#32) h hu = total x := by
  funext y
  pointwise [total]
  exact Fin.sum_univ_four _

/-- The two runs end with equal sums. -/
theorem chips : Cert.algebraic_ChipSumIdeal_ChipSumRefIdeal := fun m g m' g' _ hX =>
  ⟨_, (θ_run (Cert.ChipSumIdeal.defs (F := Ideal)) _ _).mono (fun _ h c => ⟨(h c).1.trans (final m c), (h c).2⟩)
      (Cert.ChipSumIdeal.Value.run_blocks (F := Ideal) m g),
    (θ_run (Cert.ChipSumRefIdeal.defs (F := Ideal)) _ _).mono (fun _ h c =>
      ⟨(h c).1.trans ((value _ _ _).trans (congrArg total (hX c))), (h c).2⟩)
      (Cert.ChipSumRefIdeal.Value.run (F := Ideal) m' g')⟩

end Cert.GradSumValue

end
-- ==== Proof.LnModValue.lean ====
/-
# The first layer norm and its modulation

The call takes 256 rows at each of its 64 grid points. Every row of the result depends on that row of `x` alone, and the
operations are the reference's, so block `t` of the result is rows `256 t … 256 t + 255` of the reference's array.
-/
module

public import proofs.«01_k».proof.Defs
public import proofs.«01_k».proof.Proof.Gen.LnModIdeal.Value
public import proofs.«01_k».proof.Proof.Gen.LnModRefIdeal.Run
public import proofs.«01_k».proof.Proof.RowBlock

@[expose] public section

noncomputable section

namespace Cert.LnModValue

open Idealize.ShloMosaic Idealize.SL.Sem Cert.RowBlock

theorem hz : (![0, 0] : Fin 2 → Nat) = fun _ => 0 := funext fun a => by fin_cases a <;> rfl

section
open Cert.LnModIdeal Cert.LnModIdeal.Gen

/-- What the call's body leaves of its blocks. -/
theorem out_eq (x0 : FVec Ideal S256x1024 .f32) (x1 x2 : FVec Ideal S1x1024 .f32) :
    out0_3 (F := Ideal) x0 x1 x2 = k0_pay1 (F := Ideal) x0 x1 x2 := by
  unfold out0_3
  simp only [View.ld_unit_zero (S := S256x1024) hz, View.ld_unit_zero (S := S1x1024) hz]
  exact View.canon_unit_zero (S := S256x1024) hz _ _

/-- Row `r` of point `t`'s block is row `256 t + r`. -/
def row (t : Fin cfg0.N) (r : Fin 256) : Fin 16384 :=
  ⟨256 * t.val + r.val, by have h : t.val < 64 := t.isLt; have := r.isLt; omega⟩

theorem indices : ∀ t : Fin cfg0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = t.val ∧ win0_3.index t 1 = 0) :=
  (by decide +kernel : ∀ t : Fin grid0.N, _)

/-- The place in the array of an index of point `t`'s block. -/
theorem place (t : Fin cfg0.N) (b d : ℕ) (hb : b = t.val ∧ d = 0) (r : Fin 256) (j : Fin 1024)
    (f : (M 16384 1024).Idx) (h0 : (f 0).val = b * 256 + 1 * r.val) (h1 : (f 1).val = d * 1024 + 1 * j.val) :
    f = ix2 (row t r) j := by
  funext a
  refine Fin.ext ?_
  match a with
  | ⟨0, _⟩ => show (f 0).val = 256 * t.val + r.val; omega
  | ⟨1, _⟩ => show (f 1).val = j.val; omega

/-- The one row a window gives to every point. -/
theorem one (b d : ℕ) (hb : b = 0 ∧ d = 0) (j f : (M 1 1024).Idx) (h0 : (f 0).val = b * 1 + 1 * (j 0).val)
    (h1 : (f 1).val = d * 1024 + 1 * (j 1).val) : f = j := by
  funext a
  refine Fin.ext ?_
  match a with
  | ⟨0, _⟩ => show (f 0).val = (j 0).val; omega
  | ⟨1, _⟩ => show (f 1).val = (j 1).val; omega

variable (m : (ℓ : Loc nD τ sig) → Buf (Elt Ideal) ℓ) (c : Dev nD)

theorem block0 (t : Fin cfg0.N) : On2 (φ := .f32) (row t) (iblk m c 0 t) (V m c main_arg0) :=
  fun r j => congrArg (V m c main_arg0) (place t _ _ (indices t).1 r j _ rfl rfl)
theorem block1 (t : Fin cfg0.N) : iblk m c 1 t = V m c main_arg1 :=
  funext fun j => congrArg (V m c main_arg1) (one _ _ (indices t).2.1 j _ rfl rfl)
theorem block2 (t : Fin cfg0.N) : iblk m c 2 t = V m c main_arg2 :=
  funext fun j => congrArg (V m c main_arg2) (one _ _ (indices t).2.2.1 j _ rfl rfl)

/-- The array the call leaves, whatever array has every point's rows. -/
theorem final (X : FVec Ideal S16384x1024 .bf16)
    (hX : ∀ (t : Fin cfg0.N) r j, k0_pay1 (F := Ideal) (iblk m c 0 t) (iblk m c 1 t) (iblk m c 2 t) (ix2 r j) = X (ix2 (row t r) j)) :
    (dats m 0 c).arrAt 3 cfg0.N = X := by
  refine (dats m 0 c).arrAt_eq_of_cover 3 _ (fun t _ => ?_) (fun i => ?_)
  · rw [LnModIdeal.Value.flushed3, out_eq]
    funext y
    have hy : y = ix2 (y 0) (y 1) := funext fun a => by match a with | ⟨0, _⟩ => rfl | ⟨1, _⟩ => rfl
    rw [hy]
    exact (hX t (y 0) (y 1)).trans (congrArg X (place t _ _ (indices t).2.2.2 (y 0) (y 1) _ rfl rfl)).symm
  · have hi : (i 0).val < 16384 := (i 0).isLt
    let t : Fin cfg0.N := ⟨(i 0).val / 256, by show _ < 64; omega⟩
    let r : Fin 256 := ⟨(i 0).val % 256, by omega⟩
    refine ⟨t, flush0_3 _, ?_⟩
    have e : ((cfg0.win 3).blk t).view.emb (ix2 r (i 1)) = i := by
      refine (place t _ _ (indices t).2.2.2 r (i 1) _ rfl rfl).trans (funext fun a => Fin.ext ?_)
      match a with
      | ⟨0, _⟩ => show 256 * ((i 0).val / 256) + (i 0).val % 256 = (i 0).val; omega
      | ⟨1, _⟩ => rfl
    have h := ((cfg0.win 3).blk t).view.emb_mem_set (ix2 r (i 1))
    rwa [e] at h
end

/-! ## The reference -/

section
open Cert.LnModRefIdeal Cert.LnModRefIdeal.Gen

/-- One constant in a column. -/
abbrev col (w : BitVec 32) : FVec Ideal (M 16384 1) .f32 := broadcastInDim S16384x1 ![] bcast_S_S16384x1 (constant S_ .f32 w)

/-- The mean of each row, as a column. -/
abbrev mean (X : FVec Ideal (M 16384 1024) .f32) : FVec Ideal (M 16384 1) .f32 :=
  Host.divf (broadcastInDim S16384x1 ![0] bcast_S16384_S16384x1_0 (Host.reduceAdd X (constant S_ .f32 0x00000000#32) reducesTo_S16384x1024_S16384_d1 h_S_)) (col 0x44800000#32)

/-- A column along the rows. -/
abbrev along (v : FVec Ideal (M 16384 1) .f32) : FVec Ideal (M 16384 1024) .f32 :=
  broadcastInDim S16384x1024 ![0, 1] bcast_S16384x1_S16384x1024_0_1 v

/-- One row for every row. -/
abbrev down (u : FVec Ideal (M 1 1024) .f32) : FVec Ideal (M 16384 1024) .f32 :=
  broadcastInDim S16384x1024 ![0, 1] bcast_S1x1024_S16384x1024_0_1 u

/-- Each row less its mean. -/
abbrev centred (X : FVec Ideal (M 16384 1024) .f32) : FVec Ideal (M 16384 1024) .f32 := subf X (along (mean X))

/-- The layer norm, scaled and shifted. -/
abbrev modulated (X : FVec Ideal (M 16384 1024) .f32) (s t : FVec Ideal (M 1 1024) .f32) : FVec Ideal (M 16384 1024) .bf16 :=
  truncf .bf16 (addf (mulf (mulf (centred X) (along (Host.rsqrt (addf (mean (mulf (centred X) (centred X))) (col 0x3727C5AC#32)))))
    (down (addf (broadcastInDim S1x1024 ![] bcast_S_S1x1024 (constant S_ .f32 0x3F800000#32)) s))) (down t)) bitsLt_bf16_f32
end

/-- A point's rows are the reference's. -/
theorem rows_eq (e : Fin 256 → Fin 16384) (x : FVec Ideal (M 256 1024) .f32) (X : FVec Ideal (M 16384 1024) .f32)
    (s t : FVec Ideal (M 1 1024) .f32) (h0 : On2 e x X) : On2 e (LnModIdeal.Gen.k0_pay1 (F := Ideal) x s t) (modulated X s t) := by
  unfold LnModIdeal.Gen.k0_pay1 modulated centred mean along down col
  dsimp only
  refine On2.trunc ?_ _ _
  repeat' first
    | exact h0
    | with_reducible apply On2.const
    | with_reducible apply On2.add
    | with_reducible apply On2.sub
    | with_reducible apply On2.mul
    | with_reducible apply On2.div
    | with_reducible apply On2.rsqrt
    | with_reducible apply On1.col
    | refine On2.rows ?_ _ _ _ _ _
    | with_reducible apply On2.spread
    | refine On2.vec ?_ _ _
  all_goals funext i; pointwise

/-- The two runs end with equal results. -/
theorem value_equal : Cert.algebraic_LnModIdeal_LnModRefIdeal := fun m g m' g' _ hX =>
  ⟨fun c => modulated (m ((c.tc : Thread LnModIdeal.nD LnModIdeal.τ).loc LnModIdeal.main_arg0))
      (m ((c.tc : Thread LnModIdeal.nD LnModIdeal.τ).loc LnModIdeal.main_arg1)) (m ((c.tc : Thread LnModIdeal.nD LnModIdeal.τ).loc LnModIdeal.main_arg2)),
    (θ_run (Cert.LnModIdeal.defs (F := Ideal)) _ _).mono (fun _ h c =>
      ⟨(h c).1.trans (final m c _ fun t => by
        rw [block1, block2]
        exact rows_eq (row t) _ _ _ _ (block0 m c t)), (h c).2⟩)
      (Cert.LnModIdeal.Value.run_blocks (F := Ideal) m g),
    (θ_run (Cert.LnModRefIdeal.defs (F := Ideal)) _ _).mono (fun _ h c =>
      ⟨(h c).1.trans (by
        rw [(hX c).1, (hX c).2.1, (hX c).2.2]), (h c).2⟩)
      (Cert.LnModRefIdeal.Value.run (F := Ideal) m' g')⟩

end Cert.LnModValue

end
-- ==== Proof.NormValue.lean ====
/-
# The layer norms inside the forward pass

The norm of the convolution branch with its silu, and the norm after the first branch sum with the modulation of the
second half. Both calls take 256 rows at each of 64 grid points, and every row of a result depends on that row alone.
-/
module

public import proofs.«01_k».proof.Proof.LnModValue
public import proofs.«01_k».proof.Proof.AdaBwdValue
public import proofs.«01_k».proof.Proof.Gen.ConvNormIdeal.Value
public import proofs.«01_k».proof.Proof.Gen.ConvNormRefIdeal.Run
public import proofs.«01_k».proof.Proof.Gen.PostIdeal.Value
public import proofs.«01_k».proof.Proof.Gen.PostRefIdeal.Run
public import Idealize.ShloMosaic.Lib.Pipeline.ValueKit

@[expose] public section

noncomputable section

namespace Cert.NormValue

open Idealize.ShloMosaic Idealize.SL.Sem Cert.RowBlock Cert.LnModValue

/-! ## Row by row -/

section
open Cert.LnModIdeal Cert.LnModIdeal.Gen

/-- The mean of each row of a block, as a column. -/
abbrev coreMean (x : FVec Ideal (M 256 1024) .f32) : FVec Ideal (M 256 1) .f32 :=
  divf (shapeCast S256x1 (multiReduction .add [1] S256 x 0x00000000#32 Facts₀.reduces_S256x1024_S256 (.inl rfl) rfl) Facts₀.shapeCasts_S256_S256x1)
    (broadcast S256x1 (Scalar.ofBits (F := Ideal) .f32 0x44800000#32))

/-- The layer norm of a block's rows. -/
abbrev coreNorm (x : FVec Ideal (M 256 1024) .f32) : FVec Ideal (M 256 1024) .f32 :=
  mulf (subf x (broadcastTo S256x1024 (coreMean x) Facts₀.broadcasts_S256x1_S256x1024))
    (broadcastTo S256x1024 (rsqrt (addf (coreMean (mulf (subf x (broadcastTo S256x1024 (coreMean x) Facts₀.broadcasts_S256x1_S256x1024))
      (subf x (broadcastTo S256x1024 (coreMean x) Facts₀.broadcasts_S256x1_S256x1024)))) (broadcast S256x1 (Scalar.ofBits (F := Ideal) .f32 0x3727C5AC#32))))
      Facts₀.broadcasts_S256x1_S256x1024)
end

/-- The reference's layer norm. -/
abbrev norm (X : FVec Ideal (M 16384 1024) .f32) : FVec Ideal (M 16384 1024) .f32 :=
  mulf (centred X) (along (Host.rsqrt (addf (mean (mulf (centred X) (centred X))) (col 0x3727C5AC#32))))

/-- A layer norm with its gain and its bias. -/
abbrev affine (X : FVec Ideal (M 16384 1024) .f32) (g b : FVec Ideal (M 1 1024) .f32) : FVec Ideal (M 16384 1024) .f32 :=
  addf (mulf (norm X) (down g)) (down b)

variable {e : Fin 256 → Fin 16384} {x y : FVec Ideal (M 256 1024) .f32} {X Y : FVec Ideal (M 16384 1024) .f32}

theorem mean_rows (h : On2 e x X) : On2 e (coreMean x) (mean X) := by
  unfold coreMean mean col
  exact On2.div (On1.col (On2.rows h _ _ _ _ _) _ _) (On2.const _ _)

theorem norm_rows (h : On2 e x X) : On2 e (coreNorm x) (norm X) := by
  have hc := On2.sub h (On2.spread (mean_rows h) LnModIdeal.Facts₀.broadcasts_S256x1_S256x1024 LnModRefIdeal.Facts₀.bcast_S16384x1_S16384x1024_0_1)
  exact On2.mul hc (On2.spread (On2.rsqrt (On2.add (mean_rows (On2.mul hc hc)) (On2.const _ _))) _ _)

/-- A row given to every row of a block. -/
abbrev coreDown (u : FVec Ideal (M 1 1024) .f32) : FVec Ideal (M 256 1024) .f32 := broadcastTo (M 256 1024) u ConvNormIdeal.Facts₀.broadcasts_S1x1024_S256x1024

theorem down_rows {u U : FVec Ideal (M 1 1024) .f32} (h : u = U) : On2 e (coreDown u) (down U) := On2.vec h _ _

theorem affine_rows (h : On2 e x X) (g b : FVec Ideal (M 1 1024) .f32) : On2 e (addf (mulf (coreNorm x) (coreDown g)) (coreDown b)) (affine X g b) :=
  .add (.mul (norm_rows h) (down_rows rfl)) (down_rows rfl)

/-- One on every row. -/
abbrev one : FVec Ideal (M 16384 1024) .f32 := broadcastInDim (M 16384 1024) ![] ConvNormRefIdeal.Facts₀.bcast_S_S16384x1024 (constant P .f32 0x3F800000#32)

theorem logistic_rows (h : On2 e x X) : On2 e (logistic x) (Host.divf one (addf one (Host.exp (Host.negf X)))) := fun r j => by
  rw [AdaBwdValue.logistic_eq]
  exact congrArg Ideal.logistic (h r j)

/-- An index of a block from its two coordinates. -/
theorem eq_ix2 {a b : ℕ} (y : (M a b).Idx) : y = ix2 (y 0) (y 1) := funext fun x => by match x with | ⟨0, _⟩ => rfl | ⟨1, _⟩ => rfl

/-! ## The norm of the convolution branch -/

section
open Cert.ConvNormIdeal Cert.ConvNormIdeal.Gen

/-- The reference's result. -/
abbrev convRef (X : FVec Ideal (M 16384 1024) .f32) (g b : FVec Ideal (M 1 1024) .f32) : FVec Ideal (M 16384 1024) .bf16 :=
  truncf .bf16 (mulf (affine X g b) (Host.divf NormValue.one (addf NormValue.one (Host.exp (Host.negf (affine X g b)))))) ConvNormRefIdeal.Facts₀.bitsLt_bf16_f32

theorem conv_rows (h : On2 e x X) (g b : FVec Ideal (M 1 1024) .f32) : On2 e (k0_pay1 (F := Ideal) x g b) (convRef X g b) :=
  .trunc (.mul (affine_rows h g b) (logistic_rows (affine_rows h g b))) _ _

theorem conv_indices : ∀ t : Fin cfg0.N, (win0_0.index t 0 = win0_3.index t 0 ∧ win0_0.index t 1 = 0) ∧ (win0_1.index t 0 = 0 ∧ win0_1.index t 1 = 0)
    ∧ (win0_2.index t 0 = 0 ∧ win0_2.index t 1 = 0) ∧ (win0_3.index t 0 < 64 ∧ win0_3.index t 1 = 0) :=
  (by decide +kernel : ∀ t : Fin grid0.N, _)

theorem conv_final (m : (ℓ : Loc nD τ sig) → Buf (Elt Ideal) ℓ) (c : Dev nD) :
    (dats m 0 c).arrAt 3 cfg0.N = convRef (V m c main_arg0) (V m c main_arg1) (V m c main_arg2) := by
  refine (dats m 0 c).arrAt_eq_of_covers 3 _ (by decide +kernel) fun t hf y => ?_
  obtain ⟨⟨e0, e1⟩, ⟨e2, e3⟩, ⟨e4, e5⟩, e6, e7⟩ := conv_indices t
  blk_simp
  rw [after0_3]
  frame_out
  have h1 : iblk m c 1 t = V m c main_arg1 := funext fun j => by blk_ext [iblk, e2, e3]
  have h2 : iblk m c 2 t = V m c main_arg2 := funext fun j => by blk_ext [iblk, e4, e5]
  rw [h1, h2, eq_ix2 y]
  refine (conv_rows (e := fun r => ⟨win0_3.index t 0 * 256 + r.val, by omega⟩) (X := V m c main_arg0) (fun r j => ?_) _ _ (y 0) (y 1)).trans ?_
  · blk_ext [iblk, e0, e1]
  · blk_ext [e7]

/-- The two runs end with equal results. -/
theorem conv_norm : Cert.algebraic_ConvNormIdeal_ConvNormRefIdeal := fun m g m' g' _ hX =>
  ⟨_, (θ_run (Cert.ConvNormIdeal.defs (F := Ideal)) _ _).mono (fun _ h c => ⟨(h c).1.trans (conv_final m c), (h c).2⟩)
      (Cert.ConvNormIdeal.Value.run_blocks (F := Ideal) m g),
    (θ_run (Cert.ConvNormRefIdeal.defs (F := Ideal)) _ _).mono (fun _ h c => ⟨(h c).1.trans (by rw [(hX c).1, (hX c).2.1, (hX c).2.2]), (h c).2⟩)
      (Cert.ConvNormRefIdeal.Value.run (F := Ideal) m' g')⟩
end

/-! ## The norm of the first branch sum -/

section
open Cert.PostIdeal Cert.PostIdeal.Gen

/-- The reference's branch sum. -/
abbrev branch (X T : FVec Ideal (M 16384 1024) .f32) (u : FVec Ideal (M 1 1024) .f32) : FVec Ideal (M 16384 1024) .f32 :=
  addf (mulf (broadcastInDim (M 16384 1024) ![] PostRefIdeal.Facts₀.bcast_S_S16384x1024 (constant P .f32 0x3F9837F0#32)) X) (mulf (down u) T)

theorem branch_rows (h : On2 e x X) (h' : On2 e y Y) (u : FVec Ideal (M 1 1024) .f32) :
    On2 e (addf (mulf (broadcast (M 256 1024) (Scalar.ofBits (F := Ideal) .f32 0x3F9837F0#32)) x) (mulf (coreDown u) y)) (branch X Y u) :=
  .add (.mul (.const _ _) h) (.mul (down_rows rfl) h')

theorem post_rows (h : On2 e x X) (h' : On2 e y Y) (u g b : FVec Ideal (M 1 1024) .f32) :
    On2 e (k0_pay2 (F := Ideal) x y u g b) (affine (branch X Y u) g b) := affine_rows (branch_rows h h' u) g b

/-- The call's body loads whole blocks. -/
theorem pay4_eq (x y : FVec Ideal (M 256 1024) .f32) (u g b s t : FVec Ideal (M 1 1024) .f32) :
    k0_pay4 (F := Ideal) x y u g b s t = k0_pay2 x y u g b := by
  unfold k0_pay4
  simp only [View.ld_unit_zero (S := S256x1024) LnModValue.hz, View.ld_unit_zero (S := S1x1024) LnModValue.hz]

/-- The modulation reads the norm the call has just formed. -/
theorem mod_rows (h : On2 e x X) (s t : FVec Ideal (M 1 1024) .f32) :
    On2 e (k0_pay1 (F := Ideal) s t x (shapeCast S256x1 (multiReduction .add [1] S256 x 0x00000000#32 Facts₀.reduces_S256x1024_S256 (.inl rfl) rfl) Facts₀.shapeCasts_S256_S256x1)
      (Scalar.ofBits .f32 0x44800000#32)) (modulated X s t) :=
  .trunc (.add (.mul (norm_rows h) (down_rows (funext fun i => by pointwise))) (down_rows rfl)) _ _

theorem post_indices : ∀ t : Fin cfg0.N, (win0_0.index t 0 = win0_7.index t 0 ∧ win0_0.index t 1 = 0) ∧ (win0_1.index t 0 = win0_7.index t 0 ∧ win0_1.index t 1 = 0)
    ∧ (win0_2.index t 0 = 0 ∧ win0_2.index t 1 = 0) ∧ (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0)
    ∧ (win0_7.index t 0 < 64 ∧ win0_7.index t 1 = 0) ∧ (win0_8.index t 0 = win0_7.index t 0 ∧ win0_8.index t 1 = 0) :=
  (by decide +kernel : ∀ t : Fin grid0.N, _)

variable (m : (ℓ : Loc nD τ sig) → Buf (Elt Ideal) ℓ) (c : Dev nD)

/-- The row of the array under row `r` of a point's block. -/
def postRow (t : Fin cfg0.N) (r : Fin 256) : Fin 16384 := ⟨win0_7.index t 0 * 256 + r.val, by have := (post_indices t).2.2.2.2.2.2.2.1.1; omega⟩

/-- The blocks a point reads. -/
theorem post_blocks (t : Fin cfg0.N) : On2 (φ := .f32) (postRow t) (iblk m c 0 t) (V m c main_arg0) ∧ On2 (φ := .f32) (postRow t) (iblk m c 1 t) (V m c main_arg1)
    ∧ iblk m c 2 t = V m c main_arg2 ∧ iblk m c 3 t = V m c main_arg3 ∧ iblk m c 4 t = V m c main_arg4
    ∧ iblk m c 5 t = V m c main_arg5 ∧ iblk m c 6 t = V m c main_arg6 := by
  obtain ⟨⟨a0, a1⟩, ⟨b0, b1⟩, ⟨c0, c1⟩, ⟨d0, d1⟩, ⟨e0, e1⟩, ⟨f0, f1⟩, ⟨g0, g1⟩, -⟩ := post_indices t
  refine ⟨fun r j => ?_, fun r j => ?_, funext fun j => ?_, funext fun j => ?_, funext fun j => ?_, funext fun j => ?_, funext fun j => ?_⟩
  · blk_ext [iblk, postRow, a0, a1]
  · blk_ext [iblk, postRow, b0, b1]
  · blk_ext [iblk, c0, c1]
  · blk_ext [iblk, d0, d1]
  · blk_ext [iblk, e0, e1]
  · blk_ext [iblk, f0, f1]
  · blk_ext [iblk, g0, g1]

theorem post_final : (dats m 0 c).arrAt 7 cfg0.N
    = affine (branch (V m c main_arg0) (V m c main_arg1) (V m c main_arg2)) (V m c main_arg3) (V m c main_arg4) := by
  refine (dats m 0 c).arrAt_eq_of_covers 7 _ (by decide +kernel) fun t hf y => ?_
  obtain ⟨-, -, -, -, -, -, -, ⟨-, e7⟩, -⟩ := post_indices t
  obtain ⟨h0, h1, h2, h3, h4, -⟩ := post_blocks m c t
  blk_simp
  rw [after0_7]
  frame_out
  rw [pay4_eq, h2, h3, h4, eq_ix2 y]
  refine (post_rows h0 h1 _ _ _ (y 0) (y 1)).trans ?_
  blk_ext [postRow, e7]

theorem mod_final : (dats m 0 c).arrAt 8 cfg0.N
    = modulated (affine (branch (V m c main_arg0) (V m c main_arg1) (V m c main_arg2)) (V m c main_arg3) (V m c main_arg4)) (V m c main_arg5) (V m c main_arg6) := by
  refine (dats m 0 c).arrAt_eq_of_covers 8 _ (by decide +kernel) fun t hf y => ?_
  obtain ⟨-, -, -, -, -, -, -, -, e7, e8⟩ := post_indices t
  obtain ⟨h0, h1, h2, h3, h4, h5, h6⟩ := post_blocks m c t
  blk_simp
  rw [after0_8]
  frame_out
  rw [pay4_eq, h2, h3, h4, h5, h6, eq_ix2 y]
  refine (mod_rows (post_rows h0 h1 _ _ _) _ _ (y 0) (y 1)).trans ?_
  blk_ext [postRow, e7, e8]

/-- The two runs end with equal results. -/
theorem post : Cert.algebraic_PostIdeal_PostRefIdeal := fun m g m' g' _ hX =>
  ⟨_, _, (θ_run (Cert.PostIdeal.defs (F := Ideal)) _ _).mono (fun _ h c => ⟨(h c).1.trans (post_final m c), (h c).2.1.trans (mod_final m c), (h c).2.2⟩)
      (Cert.PostIdeal.Value.run_blocks (F := Ideal) m g),
    (θ_run (Cert.PostRefIdeal.defs (F := Ideal)) _ _).mono (fun _ h c => by
        obtain ⟨h0, h1, h2, h3, h4, h5, h6⟩ := hX c
        refine ⟨(h c).1.trans ?_, (h c).2.1.trans ?_, (h c).2.2⟩
        · rw [h0, h1, h2, h3, h4]
        · unfold PostRefIdeal.Value.res_main_v51
          rw [h0, h1, h2, h3, h4, h5, h6])
      (Cert.PostRefIdeal.Value.run (F := Ideal) m' g')⟩
end

end Cert.NormValue

end
-- ==== Proof.RetNormValue.lean ====
/-
# The norm of the retention's heads

The call takes 256 rows of one head's 256 columns at each grid point. The reference gives the heads an axis of their own
and norms along the last; a point's block is then the entries of one head, whatever the head.
-/
module

public import proofs.«01_k».proof.Defs
public import proofs.«01_k».proof.Proof.Gen.RetNormIdeal.Value
public import proofs.«01_k».proof.Proof.Gen.RetNormRefIdeal.Run
public import proofs.«01_k».proof.Proof.AdaBwdValue
public import Idealize.ShloMosaic.Lib.IdealHost
public import Idealize.ShloMosaic.Lib.Pointwise
public import Idealize.ShloMosaic.Lib.Pipeline.ValueKit

@[expose] public section

noncomputable section

namespace Cert.RetNormValue

open Idealize.ShloMosaic Idealize.SL.Sem

abbrev M (n k : ℕ) : Shape := ⟨2, ![n, k]⟩
abbrev H (k : ℕ) : Shape := ⟨3, ![16384, 8, k]⟩

/-! ## Entry by entry -/

section
variable {s S : Shape}

/-- Entry `i` of the block is entry `f i` of the array. -/
def At {φ : FTy} (f : s.Idx → S.Idx) (x : FVec Ideal s φ) (X : FVec Ideal S φ) : Prop := ∀ i, x i = X (f i)

variable {f : s.Idx → S.Idx} {x y : FVec Ideal s .f32} {X Y : FVec Ideal S .f32}

theorem At.add (h : At f x X) (h' : At f y Y) : At f (addf x y) (addf X Y) := fun i => congrArg₂ (· + ·) (h i) (h' i)
theorem At.sub (h : At f x X) (h' : At f y Y) : At f (subf x y) (subf X Y) := fun i => congrArg₂ (· - ·) (h i) (h' i)
theorem At.mul (h : At f x X) (h' : At f y Y) : At f (mulf x y) (mulf X Y) := fun i => congrArg₂ (· * ·) (h i) (h' i)
theorem At.rsqrt (h : At f x X) : At f (rsqrt x) (Host.rsqrt X) := fun i => congrArg Ideal.rsqrt (h i)
theorem At.trunc (h : At f x X) (h₁ h₂ : FTy.bits .bf16 < FTy.bits .f32) : At f (truncf .bf16 x h₁) (truncf .bf16 X h₂) := h
theorem At.const (w : BitVec 32) (h : (⟨0, ![]⟩ : Shape).BroadcastsInDim S ![]) :
    At f (broadcast s (Scalar.ofBits (F := Ideal) .f32 w)) (broadcastInDim S ![] h (constant ⟨0, ![]⟩ .f32 w)) := fun _ => rfl
theorem At.logistic (h : At f x X) (hb : (⟨0, ![]⟩ : Shape).BroadcastsInDim S ![]) :
    At f (logistic x) (Host.divf (broadcastInDim S ![] hb (constant ⟨0, ![]⟩ .f32 0x3F800000#32))
      (addf (broadcastInDim S ![] hb (constant ⟨0, ![]⟩ .f32 0x3F800000#32)) (Host.exp (Host.negf X)))) := fun i => by
  rw [AdaBwdValue.logistic_eq]
  exact congrArg Ideal.logistic (h i)
end

variable (e : Fin 256 → Fin 16384) (q : Fin 8)

/-- The entries of head `q` under a block, where the heads have an axis. -/
def head {k : ℕ} (i : (M 256 k).Idx) : (H k).Idx := ix3 (e (i 0)) q (i 1)

/-- The entries of head `q` under a block, where the heads lie side by side. -/
def side (i : (M 256 256).Idx) : (M 16384 2048).Idx :=
  ix2 (e (i 0)) ⟨q.val * 256 + (i 1).val, by have h : (i 1).val < 256 := (i 1).isLt; omega⟩

section
open Cert.RetNormIdeal Cert.RetNormIdeal.Gen

/-- The mean of each row of a block, as a column. -/
abbrev coreMean (x : FVec Ideal (M 256 256) .f32) : FVec Ideal (M 256 1) .f32 :=
  divf (shapeCast S256x1 (multiReduction .add [1] S256 x 0x00000000#32 Facts₀.reduces_S256x256_S256 (.inl rfl) rfl) Facts₀.shapeCasts_S256_S256x1)
    (broadcast S256x1 (Scalar.ofBits (F := Ideal) .f32 0x43800000#32))

/-- A column along a block's rows. -/
abbrev coreAlong (v : FVec Ideal (M 256 1) .f32) : FVec Ideal (M 256 256) .f32 := broadcastTo S256x256 v Facts₀.broadcasts_S256x1_S256x256

/-- The layer norm of a block's rows. -/
abbrev coreNorm (x : FVec Ideal (M 256 256) .f32) : FVec Ideal (M 256 256) .f32 :=
  mulf (subf x (coreAlong (coreMean x))) (coreAlong (rsqrt (addf (coreMean (mulf (subf x (coreAlong (coreMean x))) (subf x (coreAlong (coreMean x)))))
    (broadcast S256x1 (Scalar.ofBits (F := Ideal) .f32 0x3727C5AC#32)))))
end

section
open Cert.RetNormRefIdeal Cert.RetNormRefIdeal.Gen

/-- One constant for each row of each head. -/
abbrev col (w : BitVec 32) : FVec Ideal (H 1) .f32 := broadcastInDim S16384x8x1 ![] Facts₀.bcast_S_S16384x8x1 (constant S_ .f32 w)

/-- The mean of each row of each head. -/
abbrev mean (X : FVec Ideal (H 256) .f32) : FVec Ideal (H 1) .f32 :=
  Host.divf (broadcastInDim S16384x8x1 ![0, 1] Facts₀.bcast_S16384x8_S16384x8x1_0_1 (Host.reduceAdd X (constant S_ .f32 0x00000000#32) Facts₀.reducesTo_S16384x8x256_S16384x8_d2 Facts₀.h_S_)) (col 0x43800000#32)

/-- One value for each row of each head, along the row. -/
abbrev along (v : FVec Ideal (H 1) .f32) : FVec Ideal (H 256) .f32 := broadcastInDim S16384x8x256 ![0, 1, 2] Facts₀.bcast_S16384x8x1_S16384x8x256_0_1_2 v

/-- The reference's layer norm of each head. -/
abbrev norm (X : FVec Ideal (H 256) .f32) : FVec Ideal (H 256) .f32 :=
  mulf (subf X (along (mean X))) (along (Host.rsqrt (addf (mean (mulf (subf X (along (mean X))) (subf X (along (mean X))))) (col 0x3727C5AC#32))))

/-- One row for every row. -/
abbrev down (u : FVec Ideal (M 1 2048) .f32) : FVec Ideal (M 16384 2048) .f32 := broadcastInDim S16384x2048 ![0, 1] Facts₀.bcast_S1x2048_S16384x2048_0_1 u

/-- The reference's gate columns. -/
abbrev gate (Q : FVec Ideal (M 16384 10240) .f32) : FVec Ideal (M 16384 2048) .f32 :=
  extractStridedSlice S16384x2048 ![0, 4096] Q Facts₀.slices_S16384x10240_S16384x2048_0_4096

/-- One on every row. -/
abbrev one : FVec Ideal (M 16384 2048) .f32 := broadcastInDim S16384x2048 ![] Facts₀.bcast_S_S16384x2048 (constant S_ .f32 0x3F800000#32)

/-- The reference's result. -/
abbrev result (X : FVec Ideal (M 16384 2048) .f32) (Q : FVec Ideal (M 16384 10240) .f32) (g b : FVec Ideal (M 1 2048) .f32) : FVec Ideal (M 16384 2048) .bf16 :=
  truncf .bf16 (mulf (addf (mulf (shapeCast S16384x2048 (norm (shapeCast S16384x8x256 X Facts₀.shapeCasts_S16384x2048_S16384x8x256)) Facts₀.shapeCasts_S16384x8x256_S16384x2048)
    (down g)) (down b)) (mulf (gate Q) (Host.divf one (addf one (Host.exp (Host.negf (gate Q))))))) Facts₀.bitsLt_bf16_f32
end

variable {e q} {x : FVec Ideal (M 256 256) .f32} {X : FVec Ideal (H 256) .f32}

theorem mean_at (h : At (head e q) x X) : At (head e q) (coreMean x) (mean X) := fun i => by
  unfold head
  pointwise
  exact congrArg (Ideal.div · _) (Finset.sum_congr rfl fun j _ => h (ix2 (i 0) j))

theorem along_at {v : FVec Ideal (M 256 1) .f32} {V : FVec Ideal (H 1) .f32} (h : At (head e q) v V) : At (head e q) (coreAlong v) (along V) := fun i => by
  unfold head
  pointwise
  exact h _

theorem norm_at (h : At (head e q) x X) : At (head e q) (coreNorm x) (norm X) := by
  have hc := At.sub h (along_at (mean_at h))
  exact At.mul hc (along_at (At.rsqrt (At.add (mean_at (At.mul hc hc)) (At.const _ _))))

/-- Head `q`'s entries are the same with an axis of their own and side by side. -/
theorem head_row (i : (M 256 256).Idx) : ((H 256).rowMajor (head e q i)).val = ((M 16384 2048).rowMajor (side e q i)).val := by
  rw [Shape.rowMajor_val_two, Shape.rowMajor_val_three]
  show ((e (i 0)).val * 8 + q.val) * 256 + (i 1).val = (e (i 0)).val * 2048 + (q.val * 256 + (i 1).val)
  omega

section
open Cert.RetNormIdeal Cert.RetNormIdeal.Gen

/-- A point's block is the reference's. -/
theorem result_at (x p : FVec Ideal (M 256 256) .f32) (X : FVec Ideal (M 16384 2048) .f32) (Q : FVec Ideal (M 16384 10240) .f32)
    (u v : FVec Ideal (M 1 256) .f32) (g b : FVec Ideal (M 1 2048) .f32) (hx : At (side e q) x X) (hp : At (side e q) p (gate Q))
    (hu : At (side e q) (broadcastTo S256x256 u Facts₀.broadcasts_S1x256_S256x256) (down g))
    (hv : At (side e q) (broadcastTo S256x256 v Facts₀.broadcasts_S1x256_S256x256) (down b)) :
    At (side e q) (k0_pay1 (F := Ideal) x p u v) (result X Q g b) := by
  have hn : At (side e q) (coreNorm x) (shapeCast (M 16384 2048) (norm (shapeCast (H 256) X RetNormRefIdeal.Facts₀.shapeCasts_S16384x2048_S16384x8x256)) RetNormRefIdeal.Facts₀.shapeCasts_S16384x8x256_S16384x2048) := fun i =>
    (norm_at (fun j => (hx j).trans (shapeCast_apply X _ _ _ (head_row j).symm).symm) i).trans (shapeCast_apply _ _ _ _ (head_row i)).symm
  exact .trunc (.mul (.add (.mul hn hu) hv) (.mul hp (.logistic hp _))) _ _

theorem indices : ∀ t : Fin cfg0.N, (win0_0.index t 0 = win0_4.index t 0 ∧ win0_0.index t 1 = win0_4.index t 1)
    ∧ (win0_1.index t 0 = win0_4.index t 0 ∧ win0_1.index t 1 = win0_4.index t 1 + 16) ∧ (win0_2.index t 0 = 0 ∧ win0_2.index t 1 = win0_4.index t 1)
    ∧ (win0_3.index t 0 = 0 ∧ win0_3.index t 1 = win0_4.index t 1) ∧ (win0_4.index t 0 < 64 ∧ win0_4.index t 1 < 8) :=
  (by decide +kernel : ∀ t : Fin grid0.N, _)

theorem final (m : (ℓ : Loc nD τ sig) → Buf (Elt Ideal) ℓ) (c : Dev nD) :
    (dats m 0 c).arrAt 4 cfg0.N = result (V m c main_arg0) (V m c main_arg1) (V m c main_arg2) (V m c main_arg3) := by
  refine (dats m 0 c).arrAt_eq_of_covers 4 _ (by decide +kernel) fun t hf y => ?_
  obtain ⟨⟨a0, a1⟩, ⟨b0, b1⟩, ⟨c0, c1⟩, ⟨d0, d1⟩, e0, e1⟩ := indices t
  blk_simp
  rw [after0_4]
  frame_out
  refine (result_at (e := fun r => ⟨win0_4.index t 0 * 256 + r.val, by omega⟩) (q := ⟨win0_4.index t 1, e1⟩) _ _ (V m c main_arg0) (V m c main_arg1) _ _
    (V m c main_arg2) (V m c main_arg3) (fun i => ?_) (fun i => ?_) (fun i => ?_) (fun i => ?_) y).trans ?_
  · blk_ext [iblk, side, a0, a1]
  · unfold gate
    pointwise
    blk_ext [iblk, side, b0, b1]
  · unfold down
    pointwise
    blk_ext [iblk, side, c0, c1]
  · unfold down
    pointwise
    blk_ext [iblk, side, d0, d1]
  · blk_ext [side]

/-- The two runs end with equal results. -/
theorem value_equal : Cert.algebraic_RetNormIdeal_RetNormRefIdeal := fun m g m' g' _ hX =>
  ⟨_, (θ_run (Cert.RetNormIdeal.defs (F := Ideal)) _ _).mono (fun _ h c => ⟨(h c).1.trans (final m c), (h c).2⟩)
      (Cert.RetNormIdeal.Value.run_blocks (F := Ideal) m g),
    (θ_run (Cert.RetNormRefIdeal.defs (F := Ideal)) _ _).mono (fun _ h c => ⟨(h c).1.trans (by rw [(hX c).1, (hX c).2.1, (hX c).2.2.1, (hX c).2.2.2]), (h c).2⟩)
      (Cert.RetNormRefIdeal.Value.run (F := Ideal) m' g')⟩
end

end Cert.RetNormValue

end
-- ==== Proof.GateValue.lean ====
/-
# The gates of the forward pass

Both calls multiply index by index by a sigmoid, and read their operands as column blocks of one wider array; the
reference slices the columns first.
-/
module

public import proofs.«01_k».proof.Defs
public import proofs.«01_k».proof.Proof.Gen.MergeIdeal.Value
public import proofs.«01_k».proof.Proof.Gen.MergeRefIdeal.Run
public import proofs.«01_k».proof.Proof.Gen.FfnGateIdeal.Value
public import proofs.«01_k».proof.Proof.Gen.FfnGateRefIdeal.Run
public import proofs.«01_k».proof.Proof.Gen.CastWeightsIdeal.Value
public import proofs.«01_k».proof.Proof.Gen.CastWeightsRefIdeal.Run
public import proofs.«01_k».proof.Proof.AdaBwdValue
public import Idealize.ShloMosaic.Lib.Pointwise

@[expose] public section

noncomputable section

namespace Cert.GateValue

open Idealize.ShloMosaic Idealize.SL.Sem

/-- A slice of columns read at an index. -/
theorem slice_apply {n k l o : ℕ} (x : FVec Ideal ⟨2, ![n, k]⟩ .f32) (hs : (⟨2, ![n, k]⟩ : Shape).Slices ![0, o] ⟨2, ![n, l]⟩)
    (i : (⟨2, ![n, l]⟩ : Shape).Idx) (j : (⟨2, ![n, k]⟩ : Shape).Idx) (h0 : (j 0).val = (i 0).val) (h1 : (j 1).val = (i 1).val + o) :
    extractStridedSlice ⟨2, ![n, l]⟩ ![0, o] x hs i = x j := by
  refine congrArg x (funext fun a => Fin.ext ?_)
  match a with
  | ⟨0, _⟩ => show 0 + (i 0).val = (j 0).val; omega
  | ⟨1, _⟩ => show o + (i 1).val = (j 1).val; omega

/-- The merge of the two branches, of equal arguments. -/
theorem merged (p p' : FVec Ideal MergeIdeal.S16384x10240 .f32) (a a' b b' : FVec Ideal MergeIdeal.S16384x1024 .f32)
    (hp : p' = p) (ha : a' = a) (hb : b' = b) (h1 h2 h3 h4) (s1 : MergeIdeal.S16384x10240.Slices ![0, 8192] MergeIdeal.S16384x1024)
    (s2 : MergeIdeal.S16384x10240.Slices ![0, 9216] MergeIdeal.S16384x1024) (hw : FTy.bits .bf16 < FTy.bits .f32) :
    truncf .bf16 (addf (mulf (Host.divf (broadcastInDim MergeRefIdeal.S16384x1024 ![] h1 (constant MergeRefIdeal.S_ .f32 0x3F800000#32)) (addf (broadcastInDim MergeRefIdeal.S16384x1024 ![] h2 (constant MergeRefIdeal.S_ .f32 0x3F800000#32)) (Host.exp (Host.negf (extractStridedSlice MergeRefIdeal.S16384x1024 ![0, 8192] p' s1))))) a')
        (mulf (Host.divf (broadcastInDim MergeRefIdeal.S16384x1024 ![] h3 (constant MergeRefIdeal.S_ .f32 0x3F800000#32)) (addf (broadcastInDim MergeRefIdeal.S16384x1024 ![] h4 (constant MergeRefIdeal.S_ .f32 0x3F800000#32)) (Host.exp (Host.negf (extractStridedSlice MergeRefIdeal.S16384x1024 ![0, 9216] p' s2))))) b')) hw
      = MergeIdeal.Value.G4 (F := Ideal) p p a b := by
  rw [hp, ha, hb, AdaBwdValue.logistic_eq, AdaBwdValue.logistic_eq]
  funext i
  refine congrArg₂ (· + ·) (congrArg (Ideal.logistic · * a i) ?_) (congrArg (Ideal.logistic · * b i) ?_)
  · exact slice_apply p s1 i _ rfl rfl
  · exact slice_apply p s2 i _ rfl rfl

/-- The two runs of the merge end with equal results. -/
theorem merge : Cert.algebraic_MergeIdeal_MergeRefIdeal := fun m g m' g' _ hX =>
  ⟨_, Cert.MergeIdeal.Value.run (F := Ideal) m g,
    (θ_run (Cert.MergeRefIdeal.defs (F := Ideal)) _ _).mono (fun _ h c =>
      ⟨(h c).1.trans (merged _ _ _ _ _ _ (hX c).1 (hX c).2.1 (hX c).2.2 _ _ _ _ _ _ _), (h c).2⟩)
      (Cert.MergeRefIdeal.Value.run (F := Ideal) m' g')⟩

/-- The gate of the two halves of the up projection, of equal arguments. -/
theorem gated (u u' : FVec Ideal FfnGateIdeal.S16384x5632 .f32) (hu : u' = u) (h1 h2) (s1 : FfnGateIdeal.S16384x5632.Slices ![0, 0] FfnGateIdeal.S16384x2816)
    (s2 : FfnGateIdeal.S16384x5632.Slices ![0, 2816] FfnGateIdeal.S16384x2816) (hw : FTy.bits .bf16 < FTy.bits .f32) :
    truncf .bf16 (mulf (extractStridedSlice FfnGateRefIdeal.S16384x2816 ![0, 0] u' s1)
        (mulf (extractStridedSlice FfnGateRefIdeal.S16384x2816 ![0, 2816] u' s2)
          (Host.divf (broadcastInDim FfnGateRefIdeal.S16384x2816 ![] h1 (constant FfnGateRefIdeal.S_ .f32 0x3F800000#32)) (addf (broadcastInDim FfnGateRefIdeal.S16384x2816 ![] h2 (constant FfnGateRefIdeal.S_ .f32 0x3F800000#32)) (Host.exp (Host.negf (extractStridedSlice FfnGateRefIdeal.S16384x2816 ![0, 2816] u' s2))))))) hw
      = FfnGateIdeal.Value.G2 (F := Ideal) u u := by
  rw [hu, AdaBwdValue.logistic_eq]
  funext i
  have hg := slice_apply u s2 i (FfnGateIdeal.Value.inIdx2_1 i) rfl rfl
  exact congrArg₂ (· * ·) (slice_apply u s1 i (FfnGateIdeal.Value.inIdx2_0 i) rfl rfl) (congrArg₂ (· * ·) hg (congrArg Ideal.logistic hg))

/-- The two runs of the gate end with equal results. -/
theorem ffn_gate : Cert.algebraic_FfnGateIdeal_FfnGateRefIdeal := fun m g m' g' _ hX =>
  ⟨_, Cert.FfnGateIdeal.Value.run (F := Ideal) m g,
    (θ_run (Cert.FfnGateRefIdeal.defs (F := Ideal)) _ _).mono (fun _ h c =>
      ⟨(h c).1.trans (gated _ _ (hX c) _ _ _ _ _), (h c).2⟩)
      (Cert.FfnGateRefIdeal.Value.run (F := Ideal) m' g')⟩

/-- The cast of the packed weights rounds each weight, as the reference does. -/
theorem cast_weights : Cert.algebraic_CastWeightsIdeal_CastWeightsRefIdeal := fun m g m' g' _ hX =>
  ⟨_, Cert.CastWeightsIdeal.Value.run (F := Ideal) m g,
    (θ_run (Cert.CastWeightsRefIdeal.defs (F := Ideal)) _ _).mono (fun _ h c =>
      ⟨(h c).1.trans (by rw [hX c]; rfl), (h c).2⟩)
      (Cert.CastWeightsRefIdeal.Value.run (F := Ideal) m' g')⟩

end Cert.GateValue

end
-- ==== Proof.RowGradValue.lean ====
/-
# The products' gradients by their rows

Each call multiplies 512 rows of a gradient by the transpose of the weights. Where the weights are four chips' columns side
by side, it goes through the columns in steps and adds up the products; the reference multiplies by all columns at once.
-/
module

public import proofs.«01_k».proof.Defs
public import proofs.«01_k».proof.Proof.Steps
public import proofs.«01_k».proof.Proof.Gen.MmUpDxIdeal.Value
public import proofs.«01_k».proof.Proof.Gen.MmUpDxRefIdeal.Run
public import proofs.«01_k».proof.Proof.Gen.MmInDxIdeal.Value
public import proofs.«01_k».proof.Proof.Gen.MmInDxRefIdeal.Run
public import proofs.«01_k».proof.Proof.Gen.MmDownDxIdeal.Value
public import proofs.«01_k».proof.Proof.Gen.MmDownDxRefIdeal.Run
public import proofs.«01_k».proof.Proof.Gen.MmOutDxIdeal.Value
public import proofs.«01_k».proof.Proof.Gen.MmOutDxRefIdeal.Run
public import proofs.«01_k».proof.Proof.Gen.MmConvOutDxIdeal.Value
public import proofs.«01_k».proof.Proof.Gen.MmConvOutDxRefIdeal.Run
public import proofs.«01_k».proof.Proof.Gen.MmRetOutDxIdeal.Value
public import proofs.«01_k».proof.Proof.Gen.MmRetOutDxRefIdeal.Run

@[expose] public section

noncomputable section

namespace Cert.RowGradValue

open Idealize.ShloMosaic Idealize.SL.Sem Cert.ProductValue Cert.Steps

theorem hz : (![0, 0] : Fin 2 → Nat) = fun _ => 0 := funext fun x => by fin_cases x <;> rfl
theorem hz3 : (![0, 0, 0] : Fin 3 → Nat) = fun _ => 0 := funext fun x => by fin_cases x <;> rfl

section
open Cert.MmOutDxIdeal Cert.MmOutDxIdeal.Gen

/-- The reference's gradient of the block's output rows. -/
abbrev outRef (X : FVec Ideal (M 16384 1024) .bf16) (W : FVec Ideal (G 1 1024 1024) .bf16) : FVec Ideal (M 16384 1024) .f32 :=
  Host.dotGeneral MmOutDxRefIdeal.dot_S16384x1024_S1024x1024_S16384x1024_1_1_0_0_n_n none X (shapeCast _ W MmOutDxRefIdeal.Facts₀.shapeCasts_S1x1024x1024_S1024x1024)

/-- What a point leaves is its product. -/
theorem out_block (m : (ℓ : Loc nD τ sig) → Buf (Elt Ideal) ℓ) (c : Dev nD) (t : Fin cfg0.N) :
    outsAt0 m c t = k0_pay1 (iblk m c 0 t) (iblk m c 1 t) := by
  unfold outsAt0 out0_A_2
  refine (View.read_writes_eq_canon _ _ _ fun _ => cover0_A_2 ..).trans ?_
  unfold kernelRun0_A
  dsimp only
  sl_unfold_words
  rw [View.canon_unit_zero hz, View.readCov_unit_zero _ hz]
  simp only [View.readAt_eq_ld, (hs0_0 t).read_unread, (hs0_1 t).read_unread, View.ld_unit_zero (S := S512x1024) hz,
    View.ld_unit_zero (S := S1x1024x1024) hz3]
  unfold k0_pay2
  exact shapeCast_self _ _

theorem out_indices : ∀ t : Fin cfg0.N, (win0_0.index t 0 = win0_2.index t 0 ∧ win0_0.index t 1 = 0)
    ∧ (win0_1.index t 0 = 0 ∧ win0_1.index t 1 = 0 ∧ win0_1.index t 2 = 0) ∧ win0_2.index t 1 = 0 :=
  (by decide +kernel : ∀ t : Fin grid0.N, _)

theorem out_final (m : (ℓ : Loc nD τ sig) → Buf (Elt Ideal) ℓ) (c : Dev nD) :
    (dats m 0 c).arrAt 2 cfg0.N = outRef (V m c main_arg0) (V m c main_arg1) := by
  refine (dats m 0 c).arrAt_eq_of_covers 2 _ (by decide +kernel) fun t hf y => ?_
  obtain ⟨⟨e0, e1⟩, ⟨e2, e3, e4⟩, e5⟩ := out_indices t
  blk_simp
  rw [after0_2]
  frame_out
  refine (congrFun (out_block m c t) y).trans ?_
  refine right_point _ _ _ _ _ _ _ _ (fun j => ?_) (fun j => ?_)
  · blk_ext [iblk, e0, e1, e5]
  · blk_ext [iblk, e2, e3, e4, e5]

/-- The two runs of the gradient of the block's output rows end equal. -/
theorem mm_out_dx : Cert.algebraic_MmOutDxIdeal_MmOutDxRefIdeal := fun m g m' g' _ hX =>
  ⟨_, (θ_run (Cert.MmOutDxIdeal.defs (F := Ideal)) _ _).mono (fun _ h c => ⟨(h c).1.trans (out_final m c), (h c).2⟩)
      (Cert.MmOutDxIdeal.Value.run_blocks (F := Ideal) m g),
    (θ_run (Cert.MmOutDxRefIdeal.defs (F := Ideal)) _ _).mono (fun _ h c => ⟨(h c).1.trans (congrArg₂ outRef (hX c).1 (hX c).2), (h c).2⟩)
      (Cert.MmOutDxRefIdeal.Value.run (F := Ideal) m' g')⟩
end

section
open Cert.MmConvOutDxIdeal Cert.MmConvOutDxIdeal.Gen

/-- The reference's gradient of the convolution branch's rows. -/
abbrev conv_outRef (X : FVec Ideal (M 16384 1024) .bf16) (W : FVec Ideal (G 1 1024 1024) .bf16) : FVec Ideal (M 16384 1024) .f32 :=
  Host.dotGeneral MmConvOutDxRefIdeal.dot_S16384x1024_S1024x1024_S16384x1024_1_1_0_0_n_n none X (shapeCast _ W MmConvOutDxRefIdeal.Facts₀.shapeCasts_S1x1024x1024_S1024x1024)

/-- What a point leaves is its product. -/
theorem conv_out_block (m : (ℓ : Loc nD τ sig) → Buf (Elt Ideal) ℓ) (c : Dev nD) (t : Fin cfg0.N) :
    outsAt0 m c t = k0_pay1 (iblk m c 0 t) (iblk m c 1 t) := by
  unfold outsAt0 out0_A_2
  refine (View.read_writes_eq_canon _ _ _ fun _ => cover0_A_2 ..).trans ?_
  unfold kernelRun0_A
  dsimp only
  sl_unfold_words
  rw [View.canon_unit_zero hz, View.readCov_unit_zero _ hz]
  simp only [View.readAt_eq_ld, (hs0_0 t).read_unread, (hs0_1 t).read_unread, View.ld_unit_zero (S := S512x1024) hz,
    View.ld_unit_zero (S := S1x1024x1024) hz3]
  unfold k0_pay2
  exact shapeCast_self _ _

theorem conv_out_indices : ∀ t : Fin cfg0.N, (win0_0.index t 0 = win0_2.index t 0 ∧ win0_0.index t 1 = 0)
    ∧ (win0_1.index t 0 = 0 ∧ win0_1.index t 1 = 0 ∧ win0_1.index t 2 = 0) ∧ win0_2.index t 1 = 0 :=
  (by decide +kernel : ∀ t : Fin grid0.N, _)

theorem conv_out_final (m : (ℓ : Loc nD τ sig) → Buf (Elt Ideal) ℓ) (c : Dev nD) :
    (dats m 0 c).arrAt 2 cfg0.N = conv_outRef (V m c main_arg0) (V m c main_arg1) := by
  refine (dats m 0 c).arrAt_eq_of_covers 2 _ (by decide +kernel) fun t hf y => ?_
  obtain ⟨⟨e0, e1⟩, ⟨e2, e3, e4⟩, e5⟩ := conv_out_indices t
  blk_simp
  rw [after0_2]
  frame_out
  refine (congrFun (conv_out_block m c t) y).trans ?_
  refine right_point _ _ _ _ _ _ _ _ (fun j => ?_) (fun j => ?_)
  · blk_ext [iblk, e0, e1, e5]
  · blk_ext [iblk, e2, e3, e4, e5]

/-- The two runs of the gradient of the convolution branch's rows end equal. -/
theorem mm_conv_out_dx : Cert.algebraic_MmConvOutDxIdeal_MmConvOutDxRefIdeal := fun m g m' g' _ hX =>
  ⟨_, (θ_run (Cert.MmConvOutDxIdeal.defs (F := Ideal)) _ _).mono (fun _ h c => ⟨(h c).1.trans (conv_out_final m c), (h c).2⟩)
      (Cert.MmConvOutDxIdeal.Value.run_blocks (F := Ideal) m g),
    (θ_run (Cert.MmConvOutDxRefIdeal.defs (F := Ideal)) _ _).mono (fun _ h c => ⟨(h c).1.trans (congrArg₂ conv_outRef (hX c).1 (hX c).2), (h c).2⟩)
      (Cert.MmConvOutDxRefIdeal.Value.run (F := Ideal) m' g')⟩
end

section
open Cert.MmRetOutDxIdeal Cert.MmRetOutDxIdeal.Gen

/-- The reference's gradient of the retention branch's rows. -/
abbrev ret_outRef (X : FVec Ideal (M 16384 1024) .bf16) (W : FVec Ideal (G 1 2048 1024) .bf16) : FVec Ideal (M 16384 2048) .f32 :=
  Host.dotGeneral MmRetOutDxRefIdeal.dot_S16384x1024_S2048x1024_S16384x2048_1_1_0_0_n_n none X (shapeCast _ W MmRetOutDxRefIdeal.Facts₀.shapeCasts_S1x2048x1024_S2048x1024)

/-- What a point leaves is its product. -/
theorem ret_out_block (m : (ℓ : Loc nD τ sig) → Buf (Elt Ideal) ℓ) (c : Dev nD) (t : Fin cfg0.N) :
    outsAt0 m c t = k0_pay1 (iblk m c 0 t) (iblk m c 1 t) := by
  unfold outsAt0 out0_A_2
  refine (View.read_writes_eq_canon _ _ _ fun _ => cover0_A_2 ..).trans ?_
  unfold kernelRun0_A
  dsimp only
  sl_unfold_words
  rw [View.canon_unit_zero hz, View.readCov_unit_zero _ hz]
  simp only [View.readAt_eq_ld, (hs0_0 t).read_unread, (hs0_1 t).read_unread, View.ld_unit_zero (S := S512x1024) hz,
    View.ld_unit_zero (S := S1x2048x1024) hz3]
  unfold k0_pay2
  exact shapeCast_self _ _

theorem ret_out_indices : ∀ t : Fin cfg0.N, (win0_0.index t 0 = win0_2.index t 0 ∧ win0_0.index t 1 = 0)
    ∧ (win0_1.index t 0 = 0 ∧ win0_1.index t 1 = 0 ∧ win0_1.index t 2 = 0) ∧ win0_2.index t 1 = 0 :=
  (by decide +kernel : ∀ t : Fin grid0.N, _)

theorem ret_out_final (m : (ℓ : Loc nD τ sig) → Buf (Elt Ideal) ℓ) (c : Dev nD) :
    (dats m 0 c).arrAt 2 cfg0.N = ret_outRef (V m c main_arg0) (V m c main_arg1) := by
  refine (dats m 0 c).arrAt_eq_of_covers 2 _ (by decide +kernel) fun t hf y => ?_
  obtain ⟨⟨e0, e1⟩, ⟨e2, e3, e4⟩, e5⟩ := ret_out_indices t
  blk_simp
  rw [after0_2]
  frame_out
  refine (congrFun (ret_out_block m c t) y).trans ?_
  refine right_point _ _ _ _ _ _ _ _ (fun j => ?_) (fun j => ?_)
  · blk_ext [iblk, e0, e1, e5]
  · blk_ext [iblk, e2, e3, e4, e5]

/-- The two runs of the gradient of the retention branch's rows end equal. -/
theorem mm_ret_out_dx : Cert.algebraic_MmRetOutDxIdeal_MmRetOutDxRefIdeal := fun m g m' g' _ hX =>
  ⟨_, (θ_run (Cert.MmRetOutDxIdeal.defs (F := Ideal)) _ _).mono (fun _ h c => ⟨(h c).1.trans (ret_out_final m c), (h c).2⟩)
      (Cert.MmRetOutDxIdeal.Value.run_blocks (F := Ideal) m g),
    (θ_run (Cert.MmRetOutDxRefIdeal.defs (F := Ideal)) _ _).mono (fun _ h c => ⟨(h c).1.trans (congrArg₂ ret_outRef (hX c).1 (hX c).2), (h c).2⟩)
      (Cert.MmRetOutDxRefIdeal.Value.run (F := Ideal) m' g')⟩
end

section
open Cert.MmDownDxIdeal Cert.MmDownDxIdeal.Gen

/-- The reference's gradient of the feed-forward's gated rows. -/
abbrev downRef (X : FVec Ideal (M 16384 1024) .bf16) (W : FVec Ideal (G 1 2816 1024) .bf16) : FVec Ideal (M 16384 2816) .f32 :=
  Host.dotGeneral MmDownDxRefIdeal.dot_S16384x1024_S2816x1024_S16384x2816_1_1_0_0_n_n none X (shapeCast _ W MmDownDxRefIdeal.Facts₀.shapeCasts_S1x2816x1024_S2816x1024)

/-- What a point leaves is its product. -/
theorem down_block (m : (ℓ : Loc nD τ sig) → Buf (Elt Ideal) ℓ) (c : Dev nD) (t : Fin cfg0.N) :
    outsAt0 m c t = k0_pay1 (iblk m c 0 t) (iblk m c 1 t) := by
  unfold outsAt0 out0_A_2
  refine (View.read_writes_eq_canon _ _ _ fun _ => cover0_A_2 ..).trans ?_
  unfold kernelRun0_A
  dsimp only
  sl_unfold_words
  rw [View.canon_unit_zero hz, View.readCov_unit_zero _ hz]
  simp only [View.readAt_eq_ld, (hs0_0 t).read_unread, (hs0_1 t).read_unread, View.ld_unit_zero (S := S512x1024) hz,
    View.ld_unit_zero (S := S1x2816x1024) hz3]
  unfold k0_pay2
  exact shapeCast_self _ _

theorem down_indices : ∀ t : Fin cfg0.N, (win0_0.index t 0 = win0_2.index t 0 ∧ win0_0.index t 1 = 0)
    ∧ (win0_1.index t 0 = 0 ∧ win0_1.index t 1 = 0 ∧ win0_1.index t 2 = 0) ∧ win0_2.index t 1 = 0 :=
  (by decide +kernel : ∀ t : Fin grid0.N, _)

theorem down_final (m : (ℓ : Loc nD τ sig) → Buf (Elt Ideal) ℓ) (c : Dev nD) :
    (dats m 0 c).arrAt 2 cfg0.N = downRef (V m c main_arg0) (V m c main_arg1) := by
  refine (dats m 0 c).arrAt_eq_of_covers 2 _ (by decide +kernel) fun t hf y => ?_
  obtain ⟨⟨e0, e1⟩, ⟨e2, e3, e4⟩, e5⟩ := down_indices t
  blk_simp
  rw [after0_2]
  frame_out
  refine (congrFun (down_block m c t) y).trans ?_
  refine right_point _ _ _ _ _ _ _ _ (fun j => ?_) (fun j => ?_)
  · blk_ext [iblk, e0, e1, e5]
  · blk_ext [iblk, e2, e3, e4, e5]

/-- The two runs of the gradient of the feed-forward's gated rows end equal. -/
theorem mm_down_dx : Cert.algebraic_MmDownDxIdeal_MmDownDxRefIdeal := fun m g m' g' _ hX =>
  ⟨_, (θ_run (Cert.MmDownDxIdeal.defs (F := Ideal)) _ _).mono (fun _ h c => ⟨(h c).1.trans (down_final m c), (h c).2⟩)
      (Cert.MmDownDxIdeal.Value.run_blocks (F := Ideal) m g),
    (θ_run (Cert.MmDownDxRefIdeal.defs (F := Ideal)) _ _).mono (fun _ h c => ⟨(h c).1.trans (congrArg₂ downRef (hX c).1 (hX c).2), (h c).2⟩)
      (Cert.MmDownDxRefIdeal.Value.run (F := Ideal) m' g')⟩
end

section
open Cert.MmUpDxIdeal Cert.MmUpDxIdeal.Gen

/-- The reference's gradient of the feed-forward's input rows. -/
abbrev upRef (X : FVec Ideal (M 16384 5632) .bf16) (W : FVec Ideal (G 4 1024 1408) .bf16) : FVec Ideal (M 16384 1024) .f32 :=
  Host.dotGeneral MmUpDxRefIdeal.dot_S16384x5632_S1024x5632_S16384x1024_1_1_0_0_n_n none X
    (shapeCast _ (transpose MmUpDxRefIdeal.S1024x4x1408 [1, 0, 2] W MmUpDxRefIdeal.Facts₀.transposes_S4x1024x1408_S1024x4x1408_1_0_2) MmUpDxRefIdeal.Facts₀.shapeCasts_S1024x4x1408_S1024x5632)

/-- The first point of a run holds its product. -/
theorem up_start (m : (ℓ : Loc nD τ sig) → Buf (Elt Ideal) ℓ) (c : Dev nD) (t : Fin cfg0.N) (h : t.val % 4 = 0) :
    (outsAt0 m c t.val t.isLt).2 = k0_pay1 (iblk m c 0 t) (iblk m c 1 t) := by
  refine (congrArg Prod.snd (outsAt0_A m c t h (by omega) (by omega))).trans ?_
  dsimp only
  unfold sout0_A_0
  refine (View.read_writes_eq_canon _ _ _ fun _ => scover0_A_0 ..).trans ?_
  unfold kernelRun0_A
  dsimp only
  sl_unfold_words
  rw [View.canon_unit_zero hz]
  simp only [View.readAt_eq_ld, (hs0_0 t).read_unread, (hs0_1 t).read_unread, View.ld_unit_zero (S := S512x1408) hz, View.ld_unit_zero (S := S1x1024x1408) hz3]
  unfold k0_pay2
  exact shapeCast_self _ _

/-- A later point adds its product. -/
theorem up_step (m : (ℓ : Loc nD τ sig) → Buf (Elt Ideal) ℓ) (c : Dev nD) (t : Fin cfg0.N) (h : ¬t.val % 4 = 0) :
    (outsAt0 m c t.val t.isLt).2 = addf (outsAt0 m c (t.val - 1) (Nat.lt_of_le_of_lt (Nat.sub_le _ _) t.isLt)).2 (k0_pay1 (iblk m c 0 t) (iblk m c 1 t)) := by
  by_cases hl : t.val % 4 = 3
  · refine (congrArg Prod.snd (outsAt0_C m c t h (by omega) hl)).trans ?_
    dsimp only
    unfold sout0_C_0
    refine (View.read_writes_eq_canon _ _ _ fun _ => scover0_C_0 ..).trans ?_
    unfold kernelRun0_C
    dsimp only
    sl_unfold_words
    rw [View.canon_unit_zero hz]
    simp only [View.readAt_eq_ld, (hs0_0 t).read_unread, (hs0_1 t).read_unread, (Memref.isWhole_whole _).read_unread, View.ld_unit_zero (S := S512x1408) hz,
      View.ld_unit_zero (S := S1x1024x1408) hz3, View.ld_unit_zero (S := S512x1024) hz]
    unfold k0_pay3
    exact shapeCast_self _ _
  · refine (congrArg Prod.snd (outsAt0_B m c t h (by omega) hl)).trans ?_
    dsimp only
    unfold sout0_B_0
    refine (View.read_writes_eq_canon _ _ _ fun _ => scover0_B_0 ..).trans ?_
    unfold kernelRun0_B
    dsimp only
    sl_unfold_words
    rw [View.canon_unit_zero hz]
    simp only [View.readAt_eq_ld, (hs0_0 t).read_unread, (hs0_1 t).read_unread, (Memref.isWhole_whole _).read_unread, View.ld_unit_zero (S := S512x1408) hz,
      View.ld_unit_zero (S := S1x1024x1408) hz3, View.ld_unit_zero (S := S512x1024) hz]
    unfold k0_pay3
    exact shapeCast_self _ _

/-- The last point of a run writes what it holds. -/
theorem up_write (m : (ℓ : Loc nD τ sig) → Buf (Elt Ideal) ℓ) (c : Dev nD) (t : Fin cfg0.N) (h : t.val % 4 = 3) :
    (outsAt0 m c t.val t.isLt).1 = (outsAt0 m c t.val t.isLt).2 := by
  refine Eq.trans ?_ (up_step m c t (by omega)).symm
  refine (congrArg Prod.fst (outsAt0_C m c t (by omega) (by omega) h)).trans ?_
  dsimp only
  unfold out0_C_2
  refine (View.read_writes_eq_canon _ _ _ fun _ => cover0_C_2 ..).trans ?_
  unfold kernelRun0_C
  dsimp only
  sl_unfold_words
  rw [View.canon_unit_zero hz, View.readCov_unit_zero _ hz]
  simp only [View.readAt_eq_ld, (hs0_0 t).read_unread, (hs0_1 t).read_unread, (Memref.isWhole_whole _).read_unread, View.ld_unit_zero (S := S512x1408) hz,
    View.ld_unit_zero (S := S1x1024x1408) hz3, View.ld_unit_zero (S := S512x1024) hz]
  unfold k0_pay3
  exact shapeCast_self _ _

theorem up_indices : ∀ t : Fin cfg0.N, (win0_0.index t 0 = t.val / 4 ∧ win0_0.index t 1 = t.val % 4)
    ∧ (win0_1.index t 0 = t.val % 4 ∧ win0_1.index t 1 = 0 ∧ win0_1.index t 2 = 0) ∧ win0_2.index t 0 = t.val / 4 ∧ win0_2.index t 1 = 0 :=
  (by decide +kernel : ∀ t : Fin grid0.N, _)

theorem up_final (m : (ℓ : Loc nD τ sig) → Buf (Elt Ideal) ℓ) (c : Dev nD) :
    (dats m 0 c).arrAt 2 cfg0.N = upRef (V m c main_arg0) (V m c main_arg1) := by
  refine (dats m 0 c).arrAt_eq_of_covers 2 _ (by decide +kernel) fun t hf y => ?_
  have ht := (flush0_2 t).mp hf
  obtain ⟨-, -, e0, e1⟩ := up_indices t
  blk_simp
  rw [after0_2]
  frame_out
  refine (congrFun (up_write m c t ht) y).trans ?_
  refine right_run (a := 512) (b := 1024) (n := 16384) (l := 5632) (K := 4) (R := 1408) (by norm_num) (by norm_num) (fun t => (outsAt0 m c t.val t.isLt).2)
    (fun t => iblk m c 0 t) (fun t => iblk m c 1 t) _ (up_start m c) (up_step m c) t ht y _ _ _ (fun s r q hs hq => ?_) (fun s r q hs hq => ?_)
  · obtain ⟨⟨f0, f1⟩, -⟩ := up_indices s
    blk_ext [iblk, f0, f1, hs, e0, hq]
  · obtain ⟨-, ⟨f0, f1, f2⟩, -⟩ := up_indices s
    have hr : r.val < 1408 := r.isLt
    have hK : s.val % 4 < 4 := Nat.mod_lt _ (by norm_num)
    refine Eq.trans ?_ (cast_four (l := 5632) _ _ _ (by norm_num) _ q ⟨q.val / 1408, by omega⟩ ⟨q.val % 1408, Nat.mod_lt _ (by norm_num)⟩ (by dsimp only; omega)).symm
    blk_ext [iblk, f0, f1, f2, hq]
    show (y 1).val = (((View.whole main_v0).slice (win0_2.rect t)).emb y 1).val
    blk_simp [e1]

/-- The two runs of the gradient of the feed-forward's input rows end equal. -/
theorem mm_up_dx : Cert.algebraic_MmUpDxIdeal_MmUpDxRefIdeal := fun m g m' g' _ hX =>
  ⟨_, (θ_run (Cert.MmUpDxIdeal.defs (F := Ideal)) _ _).mono (fun _ h c => ⟨(h c).1.trans (up_final m c), (h c).2⟩)
      (Cert.MmUpDxIdeal.Value.run_blocks (F := Ideal) m g),
    (θ_run (Cert.MmUpDxRefIdeal.defs (F := Ideal)) _ _).mono (fun _ h c => ⟨(h c).1.trans (congrArg₂ upRef (hX c).1 (hX c).2), (h c).2⟩)
      (Cert.MmUpDxRefIdeal.Value.run (F := Ideal) m' g')⟩
end

section
open Cert.MmInDxIdeal Cert.MmInDxIdeal.Gen

/-- The reference's gradient of the block's input rows. -/
abbrev inRef (X : FVec Ideal (M 16384 10240) .bf16) (W : FVec Ideal (G 4 1024 2560) .bf16) : FVec Ideal (M 16384 1024) .f32 :=
  Host.dotGeneral MmInDxRefIdeal.dot_S16384x10240_S1024x10240_S16384x1024_1_1_0_0_n_n none X
    (shapeCast _ (transpose MmInDxRefIdeal.S1024x4x2560 [1, 0, 2] W MmInDxRefIdeal.Facts₀.transposes_S4x1024x2560_S1024x4x2560_1_0_2) MmInDxRefIdeal.Facts₀.shapeCasts_S1024x4x2560_S1024x10240)

/-- The first point of a run holds its product. -/
theorem in_start (m : (ℓ : Loc nD τ sig) → Buf (Elt Ideal) ℓ) (c : Dev nD) (t : Fin cfg0.N) (h : t.val % 8 = 0) :
    (outsAt0 m c t.val t.isLt).2 = k0_pay1 (iblk m c 0 t) (iblk m c 1 t) := by
  refine (congrArg Prod.snd (outsAt0_A m c t h (by omega) (by omega))).trans ?_
  dsimp only
  unfold sout0_A_0
  refine (View.read_writes_eq_canon _ _ _ fun _ => scover0_A_0 ..).trans ?_
  unfold kernelRun0_A
  dsimp only
  sl_unfold_words
  rw [View.canon_unit_zero hz]
  simp only [View.readAt_eq_ld, (hs0_0 t).read_unread, (hs0_1 t).read_unread, View.ld_unit_zero (S := S512x1280) hz, View.ld_unit_zero (S := S1x1024x1280) hz3]
  unfold k0_pay2
  exact shapeCast_self _ _

/-- A later point adds its product. -/
theorem in_step (m : (ℓ : Loc nD τ sig) → Buf (Elt Ideal) ℓ) (c : Dev nD) (t : Fin cfg0.N) (h : ¬t.val % 8 = 0) :
    (outsAt0 m c t.val t.isLt).2 = addf (outsAt0 m c (t.val - 1) (Nat.lt_of_le_of_lt (Nat.sub_le _ _) t.isLt)).2 (k0_pay1 (iblk m c 0 t) (iblk m c 1 t)) := by
  by_cases hl : t.val % 8 = 7
  · refine (congrArg Prod.snd (outsAt0_C m c t h (by omega) hl)).trans ?_
    dsimp only
    unfold sout0_C_0
    refine (View.read_writes_eq_canon _ _ _ fun _ => scover0_C_0 ..).trans ?_
    unfold kernelRun0_C
    dsimp only
    sl_unfold_words
    rw [View.canon_unit_zero hz]
    simp only [View.readAt_eq_ld, (hs0_0 t).read_unread, (hs0_1 t).read_unread, (Memref.isWhole_whole _).read_unread, View.ld_unit_zero (S := S512x1280) hz,
      View.ld_unit_zero (S := S1x1024x1280) hz3, View.ld_unit_zero (S := S512x1024) hz]
    unfold k0_pay3
    exact shapeCast_self _ _
  · refine (congrArg Prod.snd (outsAt0_B m c t h (by omega) hl)).trans ?_
    dsimp only
    unfold sout0_B_0
    refine (View.read_writes_eq_canon _ _ _ fun _ => scover0_B_0 ..).trans ?_
    unfold kernelRun0_B
    dsimp only
    sl_unfold_words
    rw [View.canon_unit_zero hz]
    simp only [View.readAt_eq_ld, (hs0_0 t).read_unread, (hs0_1 t).read_unread, (Memref.isWhole_whole _).read_unread, View.ld_unit_zero (S := S512x1280) hz,
      View.ld_unit_zero (S := S1x1024x1280) hz3, View.ld_unit_zero (S := S512x1024) hz]
    unfold k0_pay3
    exact shapeCast_self _ _

/-- The last point of a run writes what it holds. -/
theorem in_write (m : (ℓ : Loc nD τ sig) → Buf (Elt Ideal) ℓ) (c : Dev nD) (t : Fin cfg0.N) (h : t.val % 8 = 7) :
    (outsAt0 m c t.val t.isLt).1 = (outsAt0 m c t.val t.isLt).2 := by
  refine Eq.trans ?_ (in_step m c t (by omega)).symm
  refine (congrArg Prod.fst (outsAt0_C m c t (by omega) (by omega) h)).trans ?_
  dsimp only
  unfold out0_C_2
  refine (View.read_writes_eq_canon _ _ _ fun _ => cover0_C_2 ..).trans ?_
  unfold kernelRun0_C
  dsimp only
  sl_unfold_words
  rw [View.canon_unit_zero hz, View.readCov_unit_zero _ hz]
  simp only [View.readAt_eq_ld, (hs0_0 t).read_unread, (hs0_1 t).read_unread, (Memref.isWhole_whole _).read_unread, View.ld_unit_zero (S := S512x1280) hz,
    View.ld_unit_zero (S := S1x1024x1280) hz3, View.ld_unit_zero (S := S512x1024) hz]
  unfold k0_pay3
  exact shapeCast_self _ _

theorem in_indices : ∀ t : Fin cfg0.N, (win0_0.index t 0 = t.val / 8 ∧ win0_0.index t 1 = t.val % 8)
    ∧ (win0_1.index t 0 = t.val % 8 / 2 ∧ win0_1.index t 1 = 0 ∧ win0_1.index t 2 = t.val % 8 % 2) ∧ win0_2.index t 0 = t.val / 8 ∧ win0_2.index t 1 = 0 :=
  (by decide +kernel : ∀ t : Fin grid0.N, _)

theorem in_final (m : (ℓ : Loc nD τ sig) → Buf (Elt Ideal) ℓ) (c : Dev nD) :
    (dats m 0 c).arrAt 2 cfg0.N = inRef (V m c main_arg0) (V m c main_arg1) := by
  refine (dats m 0 c).arrAt_eq_of_covers 2 _ (by decide +kernel) fun t hf y => ?_
  have ht := (flush0_2 t).mp hf
  obtain ⟨-, -, e0, e1⟩ := in_indices t
  blk_simp
  rw [after0_2]
  frame_out
  refine (congrFun (in_write m c t ht) y).trans ?_
  refine right_run (a := 512) (b := 1024) (n := 16384) (l := 10240) (K := 8) (R := 1280) (by norm_num) (by norm_num) (fun t => (outsAt0 m c t.val t.isLt).2)
    (fun t => iblk m c 0 t) (fun t => iblk m c 1 t) _ (in_start m c) (in_step m c) t ht y _ _ _ (fun s r q hs hq => ?_) (fun s r q hs hq => ?_)
  · obtain ⟨⟨f0, f1⟩, -⟩ := in_indices s
    blk_ext [iblk, f0, f1, hs, e0, hq]
  · obtain ⟨-, ⟨f0, f1, f2⟩, -⟩ := in_indices s
    have hr : r.val < 1280 := r.isLt
    have hK : s.val % 8 < 8 := Nat.mod_lt _ (by norm_num)
    refine Eq.trans ?_ (cast_four (l := 10240) _ _ _ (by norm_num) _ q ⟨q.val / 2560, by omega⟩ ⟨q.val % 2560, Nat.mod_lt _ (by norm_num)⟩ (by dsimp only; omega)).symm
    blk_ext [iblk, f0, f1, f2, hq]
    show (y 1).val = (((View.whole main_v0).slice (win0_2.rect t)).emb y 1).val
    blk_simp [e1]

/-- The two runs of the gradient of the block's input rows end equal. -/
theorem mm_in_dx : Cert.algebraic_MmInDxIdeal_MmInDxRefIdeal := fun m g m' g' _ hX =>
  ⟨_, (θ_run (Cert.MmInDxIdeal.defs (F := Ideal)) _ _).mono (fun _ h c => ⟨(h c).1.trans (in_final m c), (h c).2⟩)
      (Cert.MmInDxIdeal.Value.run_blocks (F := Ideal) m g),
    (θ_run (Cert.MmInDxRefIdeal.defs (F := Ideal)) _ _).mono (fun _ h c => ⟨(h c).1.trans (congrArg₂ inRef (hX c).1 (hX c).2), (h c).2⟩)
      (Cert.MmInDxRefIdeal.Value.run (F := Ideal) m' g')⟩
end

end Cert.RowGradValue

end
-- ==== Proof.ColGradValue.lean ====
/-
# The products' gradients by their weights

Each call multiplies the transpose of the activations by the rows' gradients, 512 rows at a grid point, and adds up the
products over 32 points. The reference multiplies all rows at once.
-/
module

public import proofs.«01_k».proof.Defs
public import proofs.«01_k».proof.Proof.Steps
public import proofs.«01_k».proof.Proof.Gen.MmDownDwIdeal.Value
public import proofs.«01_k».proof.Proof.Gen.MmDownDwRefIdeal.Run
public import proofs.«01_k».proof.Proof.Gen.MmOutDwIdeal.Value
public import proofs.«01_k».proof.Proof.Gen.MmOutDwRefIdeal.Run
public import proofs.«01_k».proof.Proof.Gen.MmConvOutDwIdeal.Value
public import proofs.«01_k».proof.Proof.Gen.MmConvOutDwRefIdeal.Run
public import proofs.«01_k».proof.Proof.Gen.MmRetOutDwIdeal.Value
public import proofs.«01_k».proof.Proof.Gen.MmRetOutDwRefIdeal.Run
public import proofs.«01_k».proof.Proof.Gen.MmUpDwIdeal.Value
public import proofs.«01_k».proof.Proof.Gen.MmUpDwRefIdeal.Run
public import proofs.«01_k».proof.Proof.Gen.MmInDwIdeal.Value
public import proofs.«01_k».proof.Proof.Gen.MmInDwRefIdeal.Run
public import Idealize.ShloMosaic.Lib.KernelVsHost

@[expose] public section

noncomputable section

namespace Cert.ColGradValue

open Idealize.ShloMosaic Idealize.SL.Sem Cert.ProductValue Cert.Steps

theorem hz : (![0, 0] : Fin 2 → Nat) = fun _ => 0 := funext fun x => by fin_cases x <;> rfl
theorem hz3 : (![0, 0, 0] : Fin 3 → Nat) = fun _ => 0 := funext fun x => by fin_cases x <;> rfl

section
open Cert.MmOutDwIdeal Cert.MmOutDwIdeal.Gen

/-- The reference's gradient of the block's output weights. -/
abbrev outRef (A : FVec Ideal (M 16384 1024) .bf16) (D : FVec Ideal (M 16384 1024) .bf16) : FVec Ideal (G 1 1024 1024) .f32 :=
  broadcastInDim MmOutDwRefIdeal.S1x1024x1024 ![1, 2] MmOutDwRefIdeal.Facts₀.bcast_S1024x1024_S1x1024x1024_1_2
    (Host.dotGeneral MmOutDwRefIdeal.dot_S16384x1024_S16384x1024_S1024x1024_0_0_1_1_n_n none A D)

theorem out_start (m : (ℓ : Loc nD τ sig) → Buf (Elt Ideal) ℓ) (c : Dev nD) (t : Fin cfg0.N) (h : t.val % 32 = 0) :
    outsAt0 m c t.val t.isLt = k0_pay2 (iblk m c 0 t) (iblk m c 1 t) := by
  refine (outsAt0_A m c t h (by have : t.val < 32 := t.isLt; omega)).trans ?_
  unfold out0_A_2
  refine (View.read_writes_eq_canon _ _ _ fun _ => cover0_A_2 ..).trans ?_
  unfold kernelRun0_A
  dsimp only
  sl_unfold_words
  rw [View.canon_unit_zero hz3]
  simp only [View.readAt_eq_ld, (hs0_0 t).read_unread, (hs0_1 t).read_unread, View.ld_unit_zero (S := S512x1024) hz]

theorem out_step (m : (ℓ : Loc nD τ sig) → Buf (Elt Ideal) ℓ) (c : Dev nD) (t : Fin cfg0.N) (h : ¬t.val % 32 = 0) :
    outsAt0 m c t.val t.isLt = k0_pay3 (iblk m c 0 t) (iblk m c 1 t) (outsAt0 m c (t.val - 1) (Nat.lt_of_le_of_lt (Nat.sub_le _ _) t.isLt)) := by
  refine (outsAt0_B m c t h (by omega)).trans ?_
  unfold out0_B_2
  refine (View.read_writes_eq_canon _ _ _ fun _ => cover0_B_2 ..).trans ?_
  unfold kernelRun0_B
  dsimp only
  sl_unfold_words
  rw [View.canon_unit_zero hz3]
  simp only [View.readAt_eq_ld, (hs0_0 t).read_unread, (hs0_1 t).read_unread, (hs0_2 t).read_unread, View.ld_unit_zero (S := S512x1024) hz,
    View.ld_unit_zero (S := S1x1024x1024) hz3]

theorem out_indices : ∀ t : Fin cfg0.N, (win0_0.index t 0 = t.val % 32 ∧ win0_0.index t 1 = 0) ∧ (win0_1.index t 0 = t.val % 32 ∧ win0_1.index t 1 = t.val / 32)
    ∧ win0_2.index t 0 = 0 ∧ win0_2.index t 1 = 0 ∧ win0_2.index t 2 = t.val / 32 :=
  (by decide +kernel : ∀ t : Fin grid0.N, _)

theorem out_final (m : (ℓ : Loc nD τ sig) → Buf (Elt Ideal) ℓ) (c : Dev nD) :
    (dats m 0 c).arrAt 2 cfg0.N = outRef (V m c main_arg0) (V m c main_arg1) := by
  refine (dats m 0 c).arrAt_eq_of_covers 2 _ (by decide +kernel) fun t hf y => ?_
  have ht := (flush0_2 t).mp hf
  obtain ⟨_, _, e0, e1, e2⟩ := out_indices t
  blk_simp
  rw [after0_2]
  frame_out
  refine (left_run (a := 1024) (b := 1024) (n := 16384) (l := 1024) (K := 32) (R := 512) (by norm_num) (by norm_num) (fun t => outsAt0 m c t.val t.isLt)
    (fun t => iblk m c 0 t) (fun t => iblk m c 1 t) _ _ (out_start m c) (out_step m c) t ht y _ _ _ (fun s r q hs hq => ?_) (fun s r q hs hq => ?_)).trans (whole_apply _ _ _).symm
  · obtain ⟨⟨f0, f1⟩, -⟩ := out_indices s
    blk_ext [iblk, f0, f1, e1, hq]
  · obtain ⟨-, ⟨f0, f1⟩, -⟩ := out_indices s
    blk_ext [iblk, f0, f1, hs, e2, hq]

/-- The two runs of the gradient of the block's output weights end equal. -/
theorem mm_out_dw : Cert.algebraic_MmOutDwIdeal_MmOutDwRefIdeal := fun m g m' g' _ hX =>
  ⟨_, (θ_run (Cert.MmOutDwIdeal.defs (F := Ideal)) _ _).mono (fun _ h c => ⟨(h c).1.trans (out_final m c), (h c).2⟩)
      (Cert.MmOutDwIdeal.Value.run_blocks (F := Ideal) m g),
    (θ_run (Cert.MmOutDwRefIdeal.defs (F := Ideal)) _ _).mono (fun _ h c => ⟨(h c).1.trans (congrArg₂ outRef (hX c).1 (hX c).2), (h c).2⟩)
      (Cert.MmOutDwRefIdeal.Value.run (F := Ideal) m' g')⟩
end

section
open Cert.MmConvOutDwIdeal Cert.MmConvOutDwIdeal.Gen

/-- The reference's gradient of the convolution branch's output weights. -/
abbrev conv_outRef (A : FVec Ideal (M 16384 1024) .bf16) (D : FVec Ideal (M 16384 1024) .bf16) : FVec Ideal (G 1 1024 1024) .f32 :=
  broadcastInDim MmConvOutDwRefIdeal.S1x1024x1024 ![1, 2] MmConvOutDwRefIdeal.Facts₀.bcast_S1024x1024_S1x1024x1024_1_2
    (Host.dotGeneral MmConvOutDwRefIdeal.dot_S16384x1024_S16384x1024_S1024x1024_0_0_1_1_n_n none A D)

theorem conv_out_start (m : (ℓ : Loc nD τ sig) → Buf (Elt Ideal) ℓ) (c : Dev nD) (t : Fin cfg0.N) (h : t.val % 32 = 0) :
    outsAt0 m c t.val t.isLt = k0_pay2 (iblk m c 0 t) (iblk m c 1 t) := by
  refine (outsAt0_A m c t h (by have : t.val < 32 := t.isLt; omega)).trans ?_
  unfold out0_A_2
  refine (View.read_writes_eq_canon _ _ _ fun _ => cover0_A_2 ..).trans ?_
  unfold kernelRun0_A
  dsimp only
  sl_unfold_words
  rw [View.canon_unit_zero hz3]
  simp only [View.readAt_eq_ld, (hs0_0 t).read_unread, (hs0_1 t).read_unread, View.ld_unit_zero (S := S512x1024) hz]

theorem conv_out_step (m : (ℓ : Loc nD τ sig) → Buf (Elt Ideal) ℓ) (c : Dev nD) (t : Fin cfg0.N) (h : ¬t.val % 32 = 0) :
    outsAt0 m c t.val t.isLt = k0_pay3 (iblk m c 0 t) (iblk m c 1 t) (outsAt0 m c (t.val - 1) (Nat.lt_of_le_of_lt (Nat.sub_le _ _) t.isLt)) := by
  refine (outsAt0_B m c t h (by omega)).trans ?_
  unfold out0_B_2
  refine (View.read_writes_eq_canon _ _ _ fun _ => cover0_B_2 ..).trans ?_
  unfold kernelRun0_B
  dsimp only
  sl_unfold_words
  rw [View.canon_unit_zero hz3]
  simp only [View.readAt_eq_ld, (hs0_0 t).read_unread, (hs0_1 t).read_unread, (hs0_2 t).read_unread, View.ld_unit_zero (S := S512x1024) hz,
    View.ld_unit_zero (S := S1x1024x1024) hz3]

theorem conv_out_indices : ∀ t : Fin cfg0.N, (win0_0.index t 0 = t.val % 32 ∧ win0_0.index t 1 = 0) ∧ (win0_1.index t 0 = t.val % 32 ∧ win0_1.index t 1 = t.val / 32)
    ∧ win0_2.index t 0 = 0 ∧ win0_2.index t 1 = 0 ∧ win0_2.index t 2 = t.val / 32 :=
  (by decide +kernel : ∀ t : Fin grid0.N, _)

theorem conv_out_final (m : (ℓ : Loc nD τ sig) → Buf (Elt Ideal) ℓ) (c : Dev nD) :
    (dats m 0 c).arrAt 2 cfg0.N = conv_outRef (V m c main_arg0) (V m c main_arg1) := by
  refine (dats m 0 c).arrAt_eq_of_covers 2 _ (by decide +kernel) fun t hf y => ?_
  have ht := (flush0_2 t).mp hf
  obtain ⟨_, _, e0, e1, e2⟩ := conv_out_indices t
  blk_simp
  rw [after0_2]
  frame_out
  refine (left_run (a := 1024) (b := 1024) (n := 16384) (l := 1024) (K := 32) (R := 512) (by norm_num) (by norm_num) (fun t => outsAt0 m c t.val t.isLt)
    (fun t => iblk m c 0 t) (fun t => iblk m c 1 t) _ _ (conv_out_start m c) (conv_out_step m c) t ht y _ _ _ (fun s r q hs hq => ?_) (fun s r q hs hq => ?_)).trans (whole_apply _ _ _).symm
  · obtain ⟨⟨f0, f1⟩, -⟩ := conv_out_indices s
    blk_ext [iblk, f0, f1, e1, hq]
  · obtain ⟨-, ⟨f0, f1⟩, -⟩ := conv_out_indices s
    blk_ext [iblk, f0, f1, hs, e2, hq]

/-- The two runs of the gradient of the convolution branch's output weights end equal. -/
theorem mm_conv_out_dw : Cert.algebraic_MmConvOutDwIdeal_MmConvOutDwRefIdeal := fun m g m' g' _ hX =>
  ⟨_, (θ_run (Cert.MmConvOutDwIdeal.defs (F := Ideal)) _ _).mono (fun _ h c => ⟨(h c).1.trans (conv_out_final m c), (h c).2⟩)
      (Cert.MmConvOutDwIdeal.Value.run_blocks (F := Ideal) m g),
    (θ_run (Cert.MmConvOutDwRefIdeal.defs (F := Ideal)) _ _).mono (fun _ h c => ⟨(h c).1.trans (congrArg₂ conv_outRef (hX c).1 (hX c).2), (h c).2⟩)
      (Cert.MmConvOutDwRefIdeal.Value.run (F := Ideal) m' g')⟩
end

section
open Cert.MmRetOutDwIdeal Cert.MmRetOutDwIdeal.Gen

/-- The reference's gradient of the retention branch's output weights. -/
abbrev ret_outRef (A : FVec Ideal (M 16384 2048) .bf16) (D : FVec Ideal (M 16384 1024) .bf16) : FVec Ideal (G 1 2048 1024) .f32 :=
  broadcastInDim MmRetOutDwRefIdeal.S1x2048x1024 ![1, 2] MmRetOutDwRefIdeal.Facts₀.bcast_S2048x1024_S1x2048x1024_1_2
    (Host.dotGeneral MmRetOutDwRefIdeal.dot_S16384x2048_S16384x1024_S2048x1024_0_0_1_1_n_n none A D)

theorem ret_out_start (m : (ℓ : Loc nD τ sig) → Buf (Elt Ideal) ℓ) (c : Dev nD) (t : Fin cfg0.N) (h : t.val % 32 = 0) :
    outsAt0 m c t.val t.isLt = k0_pay2 (iblk m c 0 t) (iblk m c 1 t) := by
  refine (outsAt0_A m c t h (by omega)).trans ?_
  unfold out0_A_2
  refine (View.read_writes_eq_canon _ _ _ fun _ => cover0_A_2 ..).trans ?_
  unfold kernelRun0_A
  dsimp only
  sl_unfold_words
  rw [View.canon_unit_zero hz3]
  simp only [View.readAt_eq_ld, (hs0_0 t).read_unread, (hs0_1 t).read_unread, View.ld_unit_zero (S := S512x2048) hz, View.ld_unit_zero (S := S512x512) hz]

theorem ret_out_step (m : (ℓ : Loc nD τ sig) → Buf (Elt Ideal) ℓ) (c : Dev nD) (t : Fin cfg0.N) (h : ¬t.val % 32 = 0) :
    outsAt0 m c t.val t.isLt = k0_pay3 (iblk m c 0 t) (iblk m c 1 t) (outsAt0 m c (t.val - 1) (Nat.lt_of_le_of_lt (Nat.sub_le _ _) t.isLt)) := by
  refine (outsAt0_B m c t h (by omega)).trans ?_
  unfold out0_B_2
  refine (View.read_writes_eq_canon _ _ _ fun _ => cover0_B_2 ..).trans ?_
  unfold kernelRun0_B
  dsimp only
  sl_unfold_words
  rw [View.canon_unit_zero hz3]
  simp only [View.readAt_eq_ld, (hs0_0 t).read_unread, (hs0_1 t).read_unread, (hs0_2 t).read_unread, View.ld_unit_zero (S := S512x2048) hz, View.ld_unit_zero (S := S512x512) hz,
    View.ld_unit_zero (S := S1x2048x512) hz3]

theorem ret_out_indices : ∀ t : Fin cfg0.N, (win0_0.index t 0 = t.val % 32 ∧ win0_0.index t 1 = 0) ∧ (win0_1.index t 0 = t.val % 32 ∧ win0_1.index t 1 = t.val / 32)
    ∧ win0_2.index t 0 = 0 ∧ win0_2.index t 1 = 0 ∧ win0_2.index t 2 = t.val / 32 :=
  (by decide +kernel : ∀ t : Fin grid0.N, _)

theorem ret_out_final (m : (ℓ : Loc nD τ sig) → Buf (Elt Ideal) ℓ) (c : Dev nD) :
    (dats m 0 c).arrAt 2 cfg0.N = ret_outRef (V m c main_arg0) (V m c main_arg1) := by
  refine (dats m 0 c).arrAt_eq_of_covers 2 _ (by decide +kernel) fun t hf y => ?_
  have ht := (flush0_2 t).mp hf
  obtain ⟨_, _, e0, e1, e2⟩ := ret_out_indices t
  blk_simp
  rw [after0_2]
  frame_out
  refine (left_run (a := 2048) (b := 512) (n := 16384) (l := 1024) (K := 32) (R := 512) (by norm_num) (by norm_num) (fun t => outsAt0 m c t.val t.isLt)
    (fun t => iblk m c 0 t) (fun t => iblk m c 1 t) _ _ (ret_out_start m c) (ret_out_step m c) t ht y _ _ _ (fun s r q hs hq => ?_) (fun s r q hs hq => ?_)).trans (whole_apply _ _ _).symm
  · obtain ⟨⟨f0, f1⟩, -⟩ := ret_out_indices s
    blk_ext [iblk, f0, f1, e1, hq]
  · obtain ⟨-, ⟨f0, f1⟩, -⟩ := ret_out_indices s
    blk_ext [iblk, f0, f1, hs, e2, hq]

/-- The two runs of the gradient of the retention branch's output weights end equal. -/
theorem mm_ret_out_dw : Cert.algebraic_MmRetOutDwIdeal_MmRetOutDwRefIdeal := fun m g m' g' _ hX =>
  ⟨_, (θ_run (Cert.MmRetOutDwIdeal.defs (F := Ideal)) _ _).mono (fun _ h c => ⟨(h c).1.trans (ret_out_final m c), (h c).2⟩)
      (Cert.MmRetOutDwIdeal.Value.run_blocks (F := Ideal) m g),
    (θ_run (Cert.MmRetOutDwRefIdeal.defs (F := Ideal)) _ _).mono (fun _ h c => ⟨(h c).1.trans (congrArg₂ ret_outRef (hX c).1 (hX c).2), (h c).2⟩)
      (Cert.MmRetOutDwRefIdeal.Value.run (F := Ideal) m' g')⟩
end

section
open Cert.MmDownDwIdeal Cert.MmDownDwIdeal.Gen

/-- The reference's gradient of the feed-forward's output weights. -/
abbrev downRef (A : FVec Ideal (M 16384 2816) .bf16) (D : FVec Ideal (M 16384 1024) .bf16) : FVec Ideal (G 1 2816 1024) .f32 :=
  broadcastInDim MmDownDwRefIdeal.S1x2816x1024 ![1, 2] MmDownDwRefIdeal.Facts₀.bcast_S2816x1024_S1x2816x1024_1_2
    (Host.dotGeneral MmDownDwRefIdeal.dot_S16384x2816_S16384x1024_S2816x1024_0_0_1_1_n_n none A D)

theorem down_start (m : (ℓ : Loc nD τ sig) → Buf (Elt Ideal) ℓ) (c : Dev nD) (t : Fin cfg0.N) (h : t.val % 32 = 0) :
    outsAt0 m c t.val t.isLt = k0_pay2 (iblk m c 0 t) (iblk m c 1 t) := by
  refine (outsAt0_A m c t h (by omega)).trans ?_
  unfold out0_A_2
  refine (View.read_writes_eq_canon _ _ _ fun _ => cover0_A_2 ..).trans ?_
  unfold kernelRun0_A
  dsimp only
  sl_unfold_words
  rw [View.canon_unit_zero hz3]
  simp only [View.readAt_eq_ld, (hs0_0 t).read_unread, (hs0_1 t).read_unread, View.ld_unit_zero (S := S512x2816) hz, View.ld_unit_zero (S := S512x512) hz]

theorem down_step (m : (ℓ : Loc nD τ sig) → Buf (Elt Ideal) ℓ) (c : Dev nD) (t : Fin cfg0.N) (h : ¬t.val % 32 = 0) :
    outsAt0 m c t.val t.isLt = k0_pay3 (iblk m c 0 t) (iblk m c 1 t) (outsAt0 m c (t.val - 1) (Nat.lt_of_le_of_lt (Nat.sub_le _ _) t.isLt)) := by
  refine (outsAt0_B m c t h (by omega)).trans ?_
  unfold out0_B_2
  refine (View.read_writes_eq_canon _ _ _ fun _ => cover0_B_2 ..).trans ?_
  unfold kernelRun0_B
  dsimp only
  sl_unfold_words
  rw [View.canon_unit_zero hz3]
  simp only [View.readAt_eq_ld, (hs0_0 t).read_unread, (hs0_1 t).read_unread, (hs0_2 t).read_unread, View.ld_unit_zero (S := S512x2816) hz, View.ld_unit_zero (S := S512x512) hz,
    View.ld_unit_zero (S := S1x2816x512) hz3]

theorem down_indices : ∀ t : Fin cfg0.N, (win0_0.index t 0 = t.val % 32 ∧ win0_0.index t 1 = 0) ∧ (win0_1.index t 0 = t.val % 32 ∧ win0_1.index t 1 = t.val / 32)
    ∧ win0_2.index t 0 = 0 ∧ win0_2.index t 1 = 0 ∧ win0_2.index t 2 = t.val / 32 :=
  (by decide +kernel : ∀ t : Fin grid0.N, _)

theorem down_final (m : (ℓ : Loc nD τ sig) → Buf (Elt Ideal) ℓ) (c : Dev nD) :
    (dats m 0 c).arrAt 2 cfg0.N = downRef (V m c main_arg0) (V m c main_arg1) := by
  refine (dats m 0 c).arrAt_eq_of_covers 2 _ (by decide +kernel) fun t hf y => ?_
  have ht := (flush0_2 t).mp hf
  obtain ⟨_, _, e0, e1, e2⟩ := down_indices t
  blk_simp
  rw [after0_2]
  frame_out
  refine (left_run (a := 2816) (b := 512) (n := 16384) (l := 1024) (K := 32) (R := 512) (by norm_num) (by norm_num) (fun t => outsAt0 m c t.val t.isLt)
    (fun t => iblk m c 0 t) (fun t => iblk m c 1 t) _ _ (down_start m c) (down_step m c) t ht y _ _ _ (fun s r q hs hq => ?_) (fun s r q hs hq => ?_)).trans (whole_apply _ _ _).symm
  · obtain ⟨⟨f0, f1⟩, -⟩ := down_indices s
    blk_ext [iblk, f0, f1, e1, hq]
  · obtain ⟨-, ⟨f0, f1⟩, -⟩ := down_indices s
    blk_ext [iblk, f0, f1, hs, e2, hq]

/-- The two runs of the gradient of the feed-forward's output weights end equal. -/
theorem mm_down_dw : Cert.algebraic_MmDownDwIdeal_MmDownDwRefIdeal := fun m g m' g' _ hX =>
  ⟨_, (θ_run (Cert.MmDownDwIdeal.defs (F := Ideal)) _ _).mono (fun _ h c => ⟨(h c).1.trans (down_final m c), (h c).2⟩)
      (Cert.MmDownDwIdeal.Value.run_blocks (F := Ideal) m g),
    (θ_run (Cert.MmDownDwRefIdeal.defs (F := Ideal)) _ _).mono (fun _ h c => ⟨(h c).1.trans (congrArg₂ downRef (hX c).1 (hX c).2), (h c).2⟩)
      (Cert.MmDownDwRefIdeal.Value.run (F := Ideal) m' g')⟩
end

section
open Cert.MmUpDwIdeal Cert.MmUpDwIdeal.Gen

/-- The reference's gradient of the up projection. -/
abbrev upRef (A : FVec Ideal (M 16384 1024) .bf16) (D : FVec Ideal (M 16384 5632) .bf16) : FVec Ideal (G 4 1024 1408) .f32 :=
  transpose MmUpDwRefIdeal.S4x1024x1408 [1, 0, 2] (shapeCast _ (Host.dotGeneral MmUpDwRefIdeal.dot_S16384x1024_S16384x5632_S1024x5632_0_0_1_1_n_n none A D)
    MmUpDwRefIdeal.Facts₀.shapeCasts_S1024x5632_S1024x4x1408) MmUpDwRefIdeal.Facts₀.transposes_S1024x4x1408_S4x1024x1408_1_0_2

theorem up_start (m : (ℓ : Loc nD τ sig) → Buf (Elt Ideal) ℓ) (c : Dev nD) (t : Fin cfg0.N) (h : t.val % 32 = 0) :
    outsAt0 m c t.val t.isLt = k0_pay2 (iblk m c 0 t) (iblk m c 1 t) := by
  refine (outsAt0_A m c t h (by omega)).trans ?_
  unfold out0_A_2
  refine (View.read_writes_eq_canon _ _ _ fun _ => cover0_A_2 ..).trans ?_
  unfold kernelRun0_A
  dsimp only
  sl_unfold_words
  rw [View.canon_unit_zero hz3]
  simp only [View.readAt_eq_ld, (hs0_0 t).read_unread, (hs0_1 t).read_unread, View.ld_unit_zero (S := S512x1024) hz, View.ld_unit_zero (S := S512x1408) hz]

theorem up_step (m : (ℓ : Loc nD τ sig) → Buf (Elt Ideal) ℓ) (c : Dev nD) (t : Fin cfg0.N) (h : ¬t.val % 32 = 0) :
    outsAt0 m c t.val t.isLt = k0_pay3 (iblk m c 0 t) (iblk m c 1 t) (outsAt0 m c (t.val - 1) (Nat.lt_of_le_of_lt (Nat.sub_le _ _) t.isLt)) := by
  refine (outsAt0_B m c t h (by omega)).trans ?_
  unfold out0_B_2
  refine (View.read_writes_eq_canon _ _ _ fun _ => cover0_B_2 ..).trans ?_
  unfold kernelRun0_B
  dsimp only
  sl_unfold_words
  rw [View.canon_unit_zero hz3]
  simp only [View.readAt_eq_ld, (hs0_0 t).read_unread, (hs0_1 t).read_unread, (hs0_2 t).read_unread, View.ld_unit_zero (S := S512x1024) hz, View.ld_unit_zero (S := S512x1408) hz,
    View.ld_unit_zero (S := S1x1024x1408) hz3]

theorem up_indices : ∀ t : Fin cfg0.N, (win0_0.index t 0 = t.val % 32 ∧ win0_0.index t 1 = 0) ∧ (win0_1.index t 0 = t.val % 32 ∧ win0_1.index t 1 = t.val / 32)
    ∧ win0_2.index t 0 = t.val / 32 ∧ win0_2.index t 1 = 0 ∧ win0_2.index t 2 = 0 :=
  (by decide +kernel : ∀ t : Fin grid0.N, _)

theorem up_final (m : (ℓ : Loc nD τ sig) → Buf (Elt Ideal) ℓ) (c : Dev nD) :
    (dats m 0 c).arrAt 2 cfg0.N = upRef (V m c main_arg0) (V m c main_arg1) := by
  refine (dats m 0 c).arrAt_eq_of_covers 2 _ (by decide +kernel) fun t hf y => ?_
  have ht := (flush0_2 t).mp hf
  obtain ⟨_, _, e0, e1, e2⟩ := up_indices t
  have hy : (y 2).val < 1408 := (y 2).isLt
  have hN : t.val < 128 := t.isLt
  blk_simp
  rw [after0_2]
  frame_out
  refine (left_run (a := 1024) (b := 1408) (n := 16384) (l := 5632) (K := 32) (R := 512) (by norm_num) (by norm_num) (fun t => outsAt0 m c t.val t.isLt)
    (fun t => iblk m c 0 t) (fun t => iblk m c 1 t) _ _ (up_start m c) (up_step m c) t ht y _ _ _ (fun s r q hs hq => ?_) (fun s r q hs hq => ?_)).trans
    (parts_apply (b := 1408) _ _ _ (by norm_num) _ ⟨t.val / 32 * 1408 + (y 2).val, by omega⟩ ?_).symm
  · obtain ⟨⟨f0, f1⟩, -⟩ := up_indices s
    blk_ext [iblk, f0, f1, e1, hq]
  · obtain ⟨-, ⟨f0, f1⟩, -⟩ := up_indices s
    blk_ext [iblk, f0, f1, hs, hq]
  · blk_simp [e0, e2]

/-- The two runs of the gradient of the up projection end equal. -/
theorem mm_up_dw : Cert.algebraic_MmUpDwIdeal_MmUpDwRefIdeal := fun m g m' g' _ hX =>
  ⟨_, (θ_run (Cert.MmUpDwIdeal.defs (F := Ideal)) _ _).mono (fun _ h c => ⟨(h c).1.trans (up_final m c), (h c).2⟩)
      (Cert.MmUpDwIdeal.Value.run_blocks (F := Ideal) m g),
    (θ_run (Cert.MmUpDwRefIdeal.defs (F := Ideal)) _ _).mono (fun _ h c => ⟨(h c).1.trans (congrArg₂ upRef (hX c).1 (hX c).2), (h c).2⟩)
      (Cert.MmUpDwRefIdeal.Value.run (F := Ideal) m' g')⟩
end

section
open Cert.MmInDwIdeal Cert.MmInDwIdeal.Gen

/-- The reference's gradient of the input projection. -/
abbrev inRef (A : FVec Ideal (M 16384 1024) .bf16) (D : FVec Ideal (M 16384 10240) .bf16) : FVec Ideal (G 4 1024 2560) .f32 :=
  transpose MmInDwRefIdeal.S4x1024x2560 [1, 0, 2] (shapeCast _ (Host.dotGeneral MmInDwRefIdeal.dot_S16384x1024_S16384x10240_S1024x10240_0_0_1_1_n_n none A D)
    MmInDwRefIdeal.Facts₀.shapeCasts_S1024x10240_S1024x4x2560) MmInDwRefIdeal.Facts₀.transposes_S1024x4x2560_S4x1024x2560_1_0_2

theorem in_start (m : (ℓ : Loc nD τ sig) → Buf (Elt Ideal) ℓ) (c : Dev nD) (t : Fin cfg0.N) (h : t.val % 32 = 0) :
    outsAt0 m c t.val t.isLt = k0_pay2 (iblk m c 0 t) (iblk m c 1 t) := by
  refine (outsAt0_A m c t h (by omega)).trans ?_
  unfold out0_A_2
  refine (View.read_writes_eq_canon _ _ _ fun _ => cover0_A_2 ..).trans ?_
  unfold kernelRun0_A
  dsimp only
  sl_unfold_words
  rw [View.canon_unit_zero hz3]
  simp only [View.readAt_eq_ld, (hs0_0 t).read_unread, (hs0_1 t).read_unread, View.ld_unit_zero (S := S512x1024) hz, View.ld_unit_zero (S := S512x1280) hz]

theorem in_step (m : (ℓ : Loc nD τ sig) → Buf (Elt Ideal) ℓ) (c : Dev nD) (t : Fin cfg0.N) (h : ¬t.val % 32 = 0) :
    outsAt0 m c t.val t.isLt = k0_pay3 (iblk m c 0 t) (iblk m c 1 t) (outsAt0 m c (t.val - 1) (Nat.lt_of_le_of_lt (Nat.sub_le _ _) t.isLt)) := by
  refine (outsAt0_B m c t h (by omega)).trans ?_
  unfold out0_B_2
  refine (View.read_writes_eq_canon _ _ _ fun _ => cover0_B_2 ..).trans ?_
  unfold kernelRun0_B
  dsimp only
  sl_unfold_words
  rw [View.canon_unit_zero hz3]
  simp only [View.readAt_eq_ld, (hs0_0 t).read_unread, (hs0_1 t).read_unread, (hs0_2 t).read_unread, View.ld_unit_zero (S := S512x1024) hz, View.ld_unit_zero (S := S512x1280) hz,
    View.ld_unit_zero (S := S1x1024x1280) hz3]

theorem in_indices : ∀ t : Fin cfg0.N, (win0_0.index t 0 = t.val % 32 ∧ win0_0.index t 1 = 0) ∧ (win0_1.index t 0 = t.val % 32 ∧ win0_1.index t 1 = t.val / 32)
    ∧ win0_2.index t 0 = t.val / 64 ∧ win0_2.index t 1 = 0 ∧ win0_2.index t 2 = t.val / 32 % 2 :=
  (by decide +kernel : ∀ t : Fin grid0.N, _)

theorem in_final (m : (ℓ : Loc nD τ sig) → Buf (Elt Ideal) ℓ) (c : Dev nD) :
    (dats m 0 c).arrAt 2 cfg0.N = inRef (V m c main_arg0) (V m c main_arg1) := by
  refine (dats m 0 c).arrAt_eq_of_covers 2 _ (by decide +kernel) fun t hf y => ?_
  have ht := (flush0_2 t).mp hf
  obtain ⟨_, _, e0, e1, e2⟩ := in_indices t
  have hy : (y 2).val < 1280 := (y 2).isLt
  have hN : t.val < 256 := t.isLt
  blk_simp
  rw [after0_2]
  frame_out
  refine (left_run (a := 1024) (b := 1280) (n := 16384) (l := 10240) (K := 32) (R := 512) (by norm_num) (by norm_num) (fun t => outsAt0 m c t.val t.isLt)
    (fun t => iblk m c 0 t) (fun t => iblk m c 1 t) _ _ (in_start m c) (in_step m c) t ht y _ _ _ (fun s r q hs hq => ?_) (fun s r q hs hq => ?_)).trans
    (parts_apply (b := 2560) _ _ _ (by norm_num) _ ⟨t.val / 32 * 1280 + (y 2).val, by omega⟩ ?_).symm
  · obtain ⟨⟨f0, f1⟩, -⟩ := in_indices s
    blk_ext [iblk, f0, f1, e1, hq]
  · obtain ⟨-, ⟨f0, f1⟩, -⟩ := in_indices s
    blk_ext [iblk, f0, f1, hs, hq]
  · blk_simp [e0, e2]
    dsimp only
    omega

/-- The two runs of the gradient of the input projection end equal. -/
theorem mm_in_dw : Cert.algebraic_MmInDwIdeal_MmInDwRefIdeal := fun m g m' g' _ hX =>
  ⟨_, (θ_run (Cert.MmInDwIdeal.defs (F := Ideal)) _ _).mono (fun _ h c => ⟨(h c).1.trans (in_final m c), (h c).2⟩)
      (Cert.MmInDwIdeal.Value.run_blocks (F := Ideal) m g),
    (θ_run (Cert.MmInDwRefIdeal.defs (F := Ideal)) _ _).mono (fun _ h c => ⟨(h c).1.trans (congrArg₂ inRef (hX c).1 (hX c).2), (h c).2⟩)
      (Cert.MmInDwRefIdeal.Value.run (F := Ideal) m' g')⟩
end

end Cert.ColGradValue

end
-- ==== Proof.MergeBwdValue.lean ====
/-
# The gradient of the merge of the two branches
-/
module

public import proofs.«01_k».proof.Defs
public import proofs.«01_k».proof.Proof.GateValue
public import proofs.«01_k».proof.Proof.Gen.MergeBwdIdeal.Value
public import proofs.«01_k».proof.Proof.Gen.MergeBwdRefIdeal.Run
public import Idealize.ShloMosaic.Lib.Pipeline.ValueKit

@[expose] public section

noncomputable section

namespace Cert.MergeBwdValue

open Idealize.ShloMosaic Idealize.SL.Sem Cert.MergeBwdIdeal Cert.MergeBwdIdeal.Gen

abbrev R : Shape := ⟨2, ![16384, 1024]⟩
abbrev P : Shape := ⟨2, ![16384, 10240]⟩

/-- A branch's gate, from its columns of the projection. -/
abbrev gate {o : ℕ} (hs : P.Slices ![0, o] R) (p : FVec Ideal P .f32) : FVec Ideal R .f32 := logistic (extractStridedSlice R ![0, o] p hs)

/-- The gradient of the gate's columns. -/
abbrev gateGrad {o : ℕ} (hs : P.Slices ![0, o] R) (p : FVec Ideal P .f32) (a d : FVec Ideal R .f32) (hc : R.ShapeCasts R)
    (hb : (⟨0, ![]⟩ : Shape).BroadcastsInDim R ![]) (hw : FTy.bits .bf16 < FTy.bits .f32) : FVec Ideal R .bf16 :=
  truncf .bf16 (mulf (mulf (shapeCast R d hc) a) (mulf (gate hs p) (subf (broadcastInDim R ![] hb (constant ⟨0, ![]⟩ .f32 0x3F800000#32)) (gate hs p)))) hw

/-- The gradient of the branch. -/
abbrev branchGrad {o : ℕ} (hs : P.Slices ![0, o] R) (p : FVec Ideal P .f32) (d : FVec Ideal R .f32) (hc : R.ShapeCasts R)
    (hw : FTy.bits .bf16 < FTy.bits .f32) : FVec Ideal R .bf16 :=
  truncf .bf16 (mulf (gate hs p) (shapeCast R d hc)) hw

theorem indices : ∀ t : Fin cfg0.N, ((win0_0.index t 0 = win0_4.index t 0 ∧ win0_0.index t 1 = win0_4.index t 1 + 8)
      ∧ (win0_1.index t 0 = win0_4.index t 0 ∧ win0_1.index t 1 = win0_4.index t 1 + 9))
    ∧ (win0_2.index t 0 = win0_4.index t 0 ∧ win0_2.index t 1 = win0_4.index t 1) ∧ (win0_3.index t 0 = win0_4.index t 0 ∧ win0_3.index t 1 = win0_4.index t 1)
    ∧ (win0_5.index t 0 = win0_4.index t 0 ∧ win0_5.index t 1 = win0_4.index t 1) ∧ (win0_6.index t 0 = win0_4.index t 0 ∧ win0_6.index t 1 = win0_4.index t 1)
    ∧ (win0_7.index t 0 = win0_4.index t 0 ∧ win0_7.index t 1 = win0_4.index t 1) ∧ (win0_8.index t 0 = win0_4.index t 0 ∧ win0_8.index t 1 = win0_4.index t 1) :=
  (by decide +kernel : ∀ t : Fin grid0.N, _)

/-- The gradient of the gate's columns at an index, from what is read there. -/
theorem gateGrad_apply {o : ℕ} (hs : P.Slices ![0, o] R) (p : FVec Ideal P .f32) (a d : FVec Ideal R .f32) (hc hb hw) (i : R.Idx) (v u e : EReal) (j : P.Idx)
    (h0 : (j 0).val = (i 0).val) (h1 : (j 1).val = (i 1).val + o) (hv : v = p j) (hu : u = a i) (he : e = d i) :
    e * u * (Ideal.logistic v * (Ideal.ofBits .f32 0x3F800000#32 - Ideal.logistic v)) = gateGrad hs p a d hc hb hw i := by
  have hg : gate hs p i = Ideal.logistic v := by
    rw [hv]
    exact congrArg Ideal.logistic (GateValue.slice_apply p hs i j h0 h1)
  show _ = shapeCast R d hc i * a i * (gate hs p i * (Ideal.ofBits .f32 0x3F800000#32 - gate hs p i))
  rw [shapeCast_self, hg, hu, he]

/-- The gradient of the branch at an index, from what is read there. -/
theorem branchGrad_apply {o : ℕ} (hs : P.Slices ![0, o] R) (p : FVec Ideal P .f32) (d : FVec Ideal R .f32) (hc hw) (i : R.Idx) (v e : EReal) (j : P.Idx)
    (h0 : (j 0).val = (i 0).val) (h1 : (j 1).val = (i 1).val + o) (hv : v = p j) (he : e = d i) :
    Ideal.logistic v * e = branchGrad hs p d hc hw i := by
  have hg : gate hs p i = Ideal.logistic v := by
    rw [hv]
    exact congrArg Ideal.logistic (GateValue.slice_apply p hs i j h0 h1)
  show _ = gate hs p i * shapeCast R d hc i
  rw [shapeCast_self, hg, he]

/-- What a point computes for the gate's columns, at an index. -/
theorem pay_gate (v u e : FVec Ideal S256x1024 .f32) (y : S256x1024.Idx) :
    k0_pay5 (F := Ideal) v u e y = e y * u y * (Ideal.logistic (v y) * (Ideal.ofBits .f32 0x3F800000#32 - Ideal.logistic (v y))) := by
  show shapeCast S256x1024 e _ y * u y * _ = _
  rw [shapeCast_self]
  rfl

/-- What a point computes for the branch, at an index. -/
theorem pay_branch (v e : FVec Ideal S256x1024 .f32) (y : S256x1024.Idx) : k0_pay7 (F := Ideal) v e y = Ideal.logistic (v y) * e y := by
  show _ * shapeCast S256x1024 e _ y = _
  rw [shapeCast_self]
  rfl

theorem final5 (m : (ℓ : Loc nD τ sig) → Buf (Elt Ideal) ℓ) (c : Dev nD) (hs hc hb hw) :
    (dats m 0 c).arrAt 5 cfg0.N = gateGrad (o := 8192) hs (V m c main_arg0) (V m c main_arg1) (V m c main_arg3) hc hb hw := by
  refine (dats m 0 c).arrAt_eq_of_covers 5 _ (by decide +kernel) fun t hf y => ?_
  obtain ⟨⟨⟨a0, a1⟩, -⟩, ⟨c0, c1⟩, -, ⟨e0, e1⟩, -⟩ := indices t
  blk_simp
  rw [after0_5]
  frame_out
  refine (pay_gate _ _ _ y).trans (gateGrad_apply hs _ _ _ hc hb hw _ _ _ _ (((View.whole main_arg0).slice (win0_0.rect t)).emb y) ?_ ?_ rfl ?_ ?_)
  · blk_simp [a0, e0]
  · blk_simp [a1, e1]
    omega
  · blk_ext [iblk, c0, c1, e0, e1]
  · blk_ext [iblk, e0, e1]

theorem final6 (m : (ℓ : Loc nD τ sig) → Buf (Elt Ideal) ℓ) (c : Dev nD) (hs hc hb hw) :
    (dats m 0 c).arrAt 6 cfg0.N = gateGrad (o := 9216) hs (V m c main_arg0) (V m c main_arg2) (V m c main_arg3) hc hb hw := by
  refine (dats m 0 c).arrAt_eq_of_covers 6 _ (by decide +kernel) fun t hf y => ?_
  obtain ⟨⟨-, a0, a1⟩, -, ⟨c0, c1⟩, -, ⟨e0, e1⟩, -⟩ := indices t
  blk_simp
  rw [after0_6]
  frame_out
  refine (pay_gate _ _ _ y).trans (gateGrad_apply hs _ _ _ hc hb hw _ _ _ _ (((View.whole main_arg0).slice (win0_1.rect t)).emb y) ?_ ?_ rfl ?_ ?_)
  · blk_simp [a0, e0]
  · blk_simp [a1, e1]
    omega
  · blk_ext [iblk, c0, c1, e0, e1]
  · blk_ext [iblk, e0, e1]

theorem final7 (m : (ℓ : Loc nD τ sig) → Buf (Elt Ideal) ℓ) (c : Dev nD) (hs hc hw) :
    (dats m 0 c).arrAt 7 cfg0.N = branchGrad (o := 8192) hs (V m c main_arg0) (V m c main_arg3) hc hw := by
  refine (dats m 0 c).arrAt_eq_of_covers 7 _ (by decide +kernel) fun t hf y => ?_
  obtain ⟨⟨⟨a0, a1⟩, -⟩, -, -, -, -, ⟨e0, e1⟩, -⟩ := indices t
  blk_simp
  rw [after0_7]
  frame_out
  refine (pay_branch _ _ y).trans (branchGrad_apply hs _ _ hc hw _ _ _ (((View.whole main_arg0).slice (win0_0.rect t)).emb y) ?_ ?_ rfl ?_)
  · blk_simp [a0, e0]
  · blk_simp [a1, e1]
    omega
  · blk_ext [iblk, e0, e1]

theorem final8 (m : (ℓ : Loc nD τ sig) → Buf (Elt Ideal) ℓ) (c : Dev nD) (hs hc hw) :
    (dats m 0 c).arrAt 8 cfg0.N = branchGrad (o := 9216) hs (V m c main_arg0) (V m c main_arg3) hc hw := by
  refine (dats m 0 c).arrAt_eq_of_covers 8 _ (by decide +kernel) fun t hf y => ?_
  obtain ⟨⟨-, a0, a1⟩, -, -, -, -, -, e0, e1⟩ := indices t
  blk_simp
  rw [after0_8]
  frame_out
  refine (pay_branch _ _ y).trans (branchGrad_apply hs _ _ hc hw _ _ _ (((View.whole main_arg0).slice (win0_1.rect t)).emb y) ?_ ?_ rfl ?_)
  · blk_simp [a0, e0]
  · blk_simp [a1, e1]
    omega
  · blk_ext [iblk, e0, e1]

/-- The two runs of the merge's gradient end with equal results. -/
theorem merge_bwd : Cert.algebraic_MergeBwdIdeal_MergeBwdRefIdeal := fun m g m' g' _ hX =>
  ⟨_, _, _, _, (θ_run (Cert.MergeBwdIdeal.defs (F := Ideal)) _ _).mono (fun _ h c => ⟨(h c).1.trans (final5 m c _ _ _ _), (h c).2.1.trans (final6 m c _ _ _ _),
        (h c).2.2.1.trans (final7 m c _ _ _), (h c).2.2.2.1.trans (final8 m c _ _ _), (h c).2.2.2.2⟩)
      (Cert.MergeBwdIdeal.Value.run_blocks (F := Ideal) m g),
    (θ_run (Cert.MergeBwdRefIdeal.defs (F := Ideal)) _ _).mono (fun _ h c =>
      ⟨(h c).1.trans (by rw [AdaBwdValue.logistic_eq, (hX c).1, (hX c).2.1, (hX c).2.2.2]),
        (h c).2.1.trans (by rw [AdaBwdValue.logistic_eq, (hX c).1, (hX c).2.2.1, (hX c).2.2.2]),
        (h c).2.2.1.trans (by rw [AdaBwdValue.logistic_eq, (hX c).1, (hX c).2.2.2]),
        (h c).2.2.2.1.trans (by rw [AdaBwdValue.logistic_eq, (hX c).1, (hX c).2.2.2]), (h c).2.2.2.2⟩)
      (Cert.MergeBwdRefIdeal.Value.run (F := Ideal) m' g')⟩

end Cert.MergeBwdValue

end
-- ==== Proof.BiasGradValue.lean ====
/-
# The input projection's bias gradient

The call sums the rows of the projection's gradient, 256 rows at a grid point and 1024 columns in a run of 64 points.
-/
module

public import proofs.«01_k».proof.Defs
public import proofs.«01_k».proof.Proof.Steps
public import proofs.«01_k».proof.Proof.Gen.BiasInGradIdeal.Value
public import proofs.«01_k».proof.Proof.Gen.BiasInGradRefIdeal.Run
public import Idealize.ShloMosaic.Lib.Pointwise
public import Idealize.ShloMosaic.Lib.Pipeline.ValueKit

@[expose] public section

noncomputable section

namespace Cert.BiasGradValue

open Idealize.ShloMosaic Idealize.SL.Sem Cert.ProductValue Cert.Steps Cert.BiasInGradIdeal Cert.BiasInGradIdeal.Gen Cert.BiasInGradIdeal.Value
open scoped BigOperators

/-- The reference's gradient: the sum of all rows. -/
abbrev biasRef (x : FVec Ideal (M 16384 10240) .bf16) : FVec Ideal (M 1 10240) .f32 :=
  broadcastInDim BiasInGradRefIdeal.S1x10240 ![1] BiasInGradRefIdeal.Facts₀.bcast_S10240_S1x10240_1
    (Host.reduceAdd (extf .f32 x BiasInGradRefIdeal.Facts₀.bitsLt_bf16_f32) (constant BiasInGradRefIdeal.S_ .f32 0x00000000#32)
      BiasInGradRefIdeal.Facts₀.reducesTo_S16384x10240_S10240_d0 BiasInGradRefIdeal.Facts₀.h_S_)

theorem biasRef_apply (x : FVec Ideal (M 16384 10240) .bf16) (i : (M 1 10240).Idx) : biasRef x i = ∑ r : Fin 16384, x (ix2 r (i 1)) := by
  unfold biasRef
  pointwise

/-- A point adds the sum of its rows. -/
theorem pay_apply (x : FVec Ideal (M 256 1024) .bf16) (acc : FVec Ideal (M 1 1024) .f32) (y : (M 1 1024).Idx) :
    k0_pay2 (F := Ideal) x acc y = acc y + ∑ r : Fin 256, x (ix2 r (y 1)) := by
  unfold k0_pay2
  pointwise

/-- The first point of a run starts from zero. -/
theorem zero_apply (y : (M 1 1024).Idx) : k0_pay1 (F := Ideal) y = 0 := Ideal.ofBits_zero_f32

theorem indices : ∀ t : Fin cfg0.N, (win0_0.index t 0 = t.val % 64 ∧ win0_0.index t 1 = t.val / 64) ∧ win0_1.index t 0 = 0 ∧ win0_1.index t 1 = t.val / 64 :=
  (by decide +kernel : ∀ t : Fin grid0.N, _)

/-- What a point adds. -/
def part (m : (ℓ : Loc nD τ sig) → Buf (Elt Ideal) ℓ) (c : Dev nD) (t : Fin cfg0.N) (y : (M 1 1024).Idx) : EReal :=
  ∑ r : Fin 256, (show FVec Ideal (M 256 1024) .bf16 from iblk m c 0 t) (ix2 r (y 1))

theorem start (m : (ℓ : Loc nD τ sig) → Buf (Elt Ideal) ℓ) (c : Dev nD) (t : Fin cfg0.N) (h : t.val % 64 = 0) (y : (M 1 1024).Idx) :
    outsAt0 m c t.val t.isLt y = part m c t y := by
  refine (congrFun ((outsAt0_A m c t h).trans (out_A_1_eq ..)) y).trans ((pay_apply _ _ y).trans ?_)
  rw [zero_apply, zero_add]
  rfl

theorem step (m : (ℓ : Loc nD τ sig) → Buf (Elt Ideal) ℓ) (c : Dev nD) (t : Fin cfg0.N) (h : ¬t.val % 64 = 0) (y : (M 1 1024).Idx) :
    outsAt0 m c t.val t.isLt y = outsAt0 m c (t.val - 1) (Nat.lt_of_le_of_lt (Nat.sub_le _ _) t.isLt) y + part m c t y :=
  (congrFun ((outsAt0_B m c t h).trans (out_B_1_eq ..)) y).trans (pay_apply _ _ y)

theorem final (m : (ℓ : Loc nD τ sig) → Buf (Elt Ideal) ℓ) (c : Dev nD) : (dats m 0 c).arrAt 1 cfg0.N = biasRef (V m c main_arg0) := by
  refine (dats m 0 c).arrAt_eq_of_covers 1 _ (by decide +kernel) fun t hf y => ?_
  have ht := (flush0_1 t).mp hf
  obtain ⟨-, e0, e1⟩ := indices t
  blk_simp
  rw [after0_1]
  frame_out
  refine (run_total (K := 64) (by norm_num) (fun t => outsAt0 m c t.val t.isLt) (part m c) (start m c) (step m c) t ht y).trans ?_
  refine Eq.trans ?_ ((biasRef_apply _ _).trans (sum_split (K := 64) (R := 256) (by norm_num) _)).symm
  refine Finset.sum_congr rfl fun j _ => Finset.sum_congr rfl fun r _ => ?_
  have hm := step_mod t.val 64 j.val j.isLt
  have hd := step_div t.val 64 j.val j.isLt
  generalize hs : (⟨_, step_lt t ht j.val j.isLt⟩ : Fin cfg0.N) = s
  replace hs : s.val = t.val / 64 * 64 + j.val := (congrArg Fin.val hs).symm
  rw [← hs] at hm hd
  obtain ⟨⟨f0, f1⟩, -⟩ := indices s
  blk_ext [iblk, f0, f1, e1, hm, hd]

/-- The two runs of the bias gradient end equal. -/
theorem bias_in_grad : Cert.algebraic_BiasInGradIdeal_BiasInGradRefIdeal := fun m g m' g' _ hX =>
  ⟨_, (θ_run (Cert.BiasInGradIdeal.defs (F := Ideal)) _ _).mono (fun _ h c => ⟨(h c).1.trans (final m c), (h c).2⟩)
      (Cert.BiasInGradIdeal.Value.run_blocks (F := Ideal) m g),
    (θ_run (Cert.BiasInGradRefIdeal.defs (F := Ideal)) _ _).mono (fun _ h c => ⟨(h c).1.trans (congrArg biasRef (hX c)), (h c).2⟩)
      (Cert.BiasInGradRefIdeal.Value.run (F := Ideal) m' g')⟩

end Cert.BiasGradValue

end
-- ==== Proof.ConvNormBwdValue.lean ====
/-
# The gradients of the convolution branch's norm

The backward call takes 256 rows at each of its 64 grid points. The gradient of the norm's input is row by row; the
gradients of the gain and the bias are sums over the rows, added up over the points. All three go through the gradient of
the silu, which a point forms for its own rows.
-/
module

public import proofs.«01_k».proof.Defs
public import proofs.«01_k».proof.Proof.Gen.ConvNormBwdIdeal.Value
public import proofs.«01_k».proof.Proof.Gen.ConvNormBwdRefIdeal.Run
public import proofs.«01_k».proof.Proof.ColSum
public import proofs.«01_k».proof.Proof.NormValue

@[expose] public section

noncomputable section

namespace Cert.ConvNormBwdValue

open Idealize.ShloMosaic Idealize.SL.Sem Cert.RowBlock

theorem hz : (![0, 0] : Fin 2 → Nat) = fun _ => 0 := funext fun a => by fin_cases a <;> rfl

section
open Cert.ConvNormBwdIdeal Cert.ConvNormBwdIdeal.Gen

/-! ## What a point forms -/

/-- 256 rows of the gradient of the norm's input. -/
def inRows (x d : Vec Ideal S256x1024 .f32) (g b : Vec Ideal S1x1024 .f32) : FVec Ideal S256x1024 .f32 :=
  k0_pay13 g (k0_pay5 x) (k0_pay6 x) (k0_pay8 x) (k0_pay9 x) (k0_pay11 x d g b)

/-- The rows that add up to the gradient of the gain: the normalized rows times the gradient before the affine. -/
def gainRows (x d : Vec Ideal S256x1024 .f32) (g b : Vec Ideal S1x1024 .f32) : FVec Ideal S256x1024 .f32 :=
  mulf (k0_pay10 x) (k0_pay11 x d g b)

/-- The rows that add up to the gradient of the bias: the gradient before the affine. -/
def biasRows (x d : Vec Ideal S256x1024 .f32) (g b : Vec Ideal S1x1024 .f32) : FVec Ideal S256x1024 .f32 :=
  k0_pay11 x d g b

variable (m : (ℓ : Loc nD τ sig) → Buf (Elt Ideal) ℓ) (c : Dev nD)

/-- A point's rows, from the blocks it reads. -/
abbrev at4 (f : Vec Ideal S256x1024 .f32 → Vec Ideal S256x1024 .f32 → Vec Ideal S1x1024 .f32 → Vec Ideal S1x1024 .f32 → FVec Ideal (M 256 1024) .f32)
    (t : Fin cfg0.N) : FVec Ideal (M 256 1024) .f32 := f (iblk m c 0 t) (iblk m c 1 t) (iblk m c 2 t) (iblk m c 3 t)

theorem in_left (t : Fin cfg0.N) : (outsAt0 m c t.val t.isLt).1 = at4 m c inRows t := by
  by_cases h : t.val % 64 = 0
  · rw [outsAt0_A m c t h h]
    dsimp only
    unfold out0_A_4
    rw [View.read_writes_eq_canon _ _ _ (fun _ => cover0_A_4 ..)]
    unfold kernelRun0_A
    dsimp only
    sl_unfold_words
    rw [View.canon_unit_zero (S := S256x1024) hz]
    simp only [View.readAt_eq_ld, (hs0_0 t).read_unread, (hs0_1 t).read_unread, (hs0_2 t).read_unread, (hs0_3 t).read_unread,
      View.ld_unit_zero (S := S256x1024) hz, View.ld_unit_zero (S := S1x1024) hz]
    rfl
  · rw [outsAt0_B m c t h h]
    dsimp only
    unfold out0_B_4
    rw [View.read_writes_eq_canon _ _ _ (fun _ => cover0_B_4 ..)]
    unfold kernelRun0_B
    dsimp only
    sl_unfold_words
    rw [View.canon_unit_zero (S := S256x1024) hz]
    simp only [View.readAt_eq_ld, (hs0_0 t).read_unread, (hs0_1 t).read_unread, (hs0_2 t).read_unread, (hs0_3 t).read_unread,
      View.ld_unit_zero (S := S256x1024) hz, View.ld_unit_zero (S := S1x1024) hz]
    rfl

theorem gain_start (t : Fin cfg0.N) (h : t.val % 64 = 0) (y : (M 1 1024).Idx) :
    (outsAt0 m c t.val t.isLt).2.1 y = ∑ r : Fin 256, at4 m c gainRows t (ix2 r (y 1)) := by
  rw [outsAt0_A m c t h h]
  dsimp only
  unfold out0_A_5
  rw [View.read_writes_eq_canon _ _ _ (fun _ => cover0_A_5 ..)]
  unfold kernelRun0_A
  dsimp only
  sl_unfold_words
  rw [View.canon_cons_unit_zero (S := S1x1024) hz, View.readCov_unit_zero (S := S1x1024) _ hz]
  simp only [View.readAt_eq_ld, (hs0_0 t).read_unread, (hs0_1 t).read_unread, (hs0_2 t).read_unread, (hs0_3 t).read_unread,
    View.ld_unit_zero (S := S256x1024) hz, View.ld_unit_zero (S := S1x1024) hz]
  exact ColSum.first_rows _ _ _ _ _ _ y

theorem gain_step (t : Fin cfg0.N) (h : ¬t.val % 64 = 0) (y : (M 1 1024).Idx) :
    (outsAt0 m c t.val t.isLt).2.1 y = (outsAt0 m c (t.val - 1) (Nat.lt_of_le_of_lt (Nat.sub_le _ _) t.isLt)).2.1 y
      + ∑ r : Fin 256, at4 m c gainRows t (ix2 r (y 1)) := by
  rw [outsAt0_B m c t h h]
  dsimp only
  unfold out0_B_5
  rw [View.read_writes_eq_canon _ _ _ (fun _ => cover0_B_5 ..)]
  unfold kernelRun0_B
  dsimp only
  sl_unfold_words
  rw [View.canon_unit_zero (S := S1x1024) hz]
  simp only [View.readAt_eq_ld, (hs0_0 t).read_unread, (hs0_1 t).read_unread, (hs0_2 t).read_unread, (hs0_3 t).read_unread, (hs0_5 t).read_unread,
    View.ld_unit_zero (S := S256x1024) hz, View.ld_unit_zero (S := S1x1024) hz]
  exact ColSum.add_rows _ _ _ _ _ _ _ y

theorem bias_start (t : Fin cfg0.N) (h : t.val % 64 = 0) (y : (M 1 1024).Idx) :
    (outsAt0 m c t.val t.isLt).2.2 y = ∑ r : Fin 256, at4 m c biasRows t (ix2 r (y 1)) := by
  rw [outsAt0_A m c t h h]
  dsimp only
  unfold out0_A_6
  rw [View.read_writes_eq_canon _ _ _ (fun _ => cover0_A_6 ..)]
  unfold kernelRun0_A
  dsimp only
  sl_unfold_words
  rw [View.canon_cons_unit_zero (S := S1x1024) hz, View.readCov_unit_zero (S := S1x1024) _ hz]
  simp only [View.readAt_eq_ld, (hs0_0 t).read_unread, (hs0_1 t).read_unread, (hs0_2 t).read_unread, (hs0_3 t).read_unread,
    View.ld_unit_zero (S := S256x1024) hz, View.ld_unit_zero (S := S1x1024) hz]
  exact ColSum.first_rows _ _ _ _ _ _ y

theorem bias_step (t : Fin cfg0.N) (h : ¬t.val % 64 = 0) (y : (M 1 1024).Idx) :
    (outsAt0 m c t.val t.isLt).2.2 y = (outsAt0 m c (t.val - 1) (Nat.lt_of_le_of_lt (Nat.sub_le _ _) t.isLt)).2.2 y
      + ∑ r : Fin 256, at4 m c biasRows t (ix2 r (y 1)) := by
  rw [outsAt0_B m c t h h]
  dsimp only
  unfold out0_B_6
  rw [View.read_writes_eq_canon _ _ _ (fun _ => cover0_B_6 ..)]
  unfold kernelRun0_B
  dsimp only
  sl_unfold_words
  rw [View.canon_unit_zero (S := S1x1024) hz]
  simp only [View.readAt_eq_ld, (hs0_0 t).read_unread, (hs0_1 t).read_unread, (hs0_2 t).read_unread, (hs0_3 t).read_unread, (hs0_6 t).read_unread,
    View.ld_unit_zero (S := S256x1024) hz, View.ld_unit_zero (S := S1x1024) hz]
  exact ColSum.add_rows _ _ _ _ _ _ _ y

/-! ## The whole arrays -/

/-- Row `r` of point `t`'s block is row `256 t + r`. -/
def row (t : Fin cfg0.N) (r : Fin 256) : Fin 16384 :=
  ⟨256 * t.val + r.val, by have h : t.val < 64 := t.isLt; have := r.isLt; omega⟩

theorem indices : ∀ t : Fin cfg0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0) ∧ (win0_4.index t 0 = t.val ∧ win0_4.index t 1 = 0)
    ∧ (win0_5.index t 0 = 0 ∧ win0_5.index t 1 = 0) ∧ (win0_6.index t 0 = 0 ∧ win0_6.index t 1 = 0) :=
  (by decide +kernel : ∀ t : Fin grid0.N, _)

/-- The blocks a point reads. -/
theorem blocks (t : Fin cfg0.N) : On2 (φ := .f32) (row t) (iblk m c 0 t) (V m c main_arg0) ∧ On2 (φ := .f32) (row t) (iblk m c 1 t) (V m c main_arg1)
    ∧ iblk m c 2 t = V m c main_arg2 ∧ iblk m c 3 t = V m c main_arg3 := by
  obtain ⟨⟨a0, a1⟩, ⟨b0, b1⟩, ⟨c0, c1⟩, ⟨d0, d1⟩, -⟩ := indices t
  refine ⟨fun r j => ?_, fun r j => ?_, funext fun j => ?_, funext fun j => ?_⟩
  · blk_ext [iblk, row, a0, a1]
  · blk_ext [iblk, row, b0, b1]
  · blk_ext [iblk, c0, c1]
  · blk_ext [iblk, d0, d1]

theorem in_final (X : FVec Ideal (M 16384 1024) .f32) (hX : ∀ t : Fin cfg0.N, On2 (row t) (at4 m c inRows t) X) :
    (dats m 0 c).arrAt 4 cfg0.N = X := by
  refine (dats m 0 c).arrAt_eq_of_covers 4 _ (by decide +kernel) fun t hf y => ?_
  obtain ⟨-, -, -, -, ⟨e0, e1⟩, -⟩ := indices t
  blk_simp
  rw [after0_4]
  frame_out
  rw [in_left, NormValue.eq_ix2 y]
  refine (hX t (y 0) (y 1)).trans ?_
  blk_ext [row, e0, e1]

theorem gain_final (X : FVec Ideal (M 16384 1024) .f32) (hR hu hc) (hX : ∀ t : Fin cfg0.N, On2 (row t) (at4 m c gainRows t) X) :
    (dats m 0 c).arrAt 5 cfg0.N = ColSum.total X hR hu hc := by
  refine (dats m 0 c).arrAt_eq_of_covers 5 _ (by decide +kernel) fun t hf y => ?_
  have ht := (flush0_5 t).mp hf
  have hi := (indices t).2.2.2.2.2.1
  blk_simp
  rw [after0_5]
  frame_out
  exact ColSum.all_rows (N := cfg0.N) (by decide +kernel) row (fun _ _ => rfl) X hR hu hc _ hX (fun t => (outsAt0 m c t.val t.isLt).2.1) (gain_start m c) (gain_step m c) t ht y _ hi rfl rfl

theorem bias_final (X : FVec Ideal (M 16384 1024) .f32) (hR hu hc) (hX : ∀ t : Fin cfg0.N, On2 (row t) (at4 m c biasRows t) X) :
    (dats m 0 c).arrAt 6 cfg0.N = ColSum.total X hR hu hc := by
  refine (dats m 0 c).arrAt_eq_of_covers 6 _ (by decide +kernel) fun t hf y => ?_
  have ht := (flush0_6 t).mp hf
  have hi := (indices t).2.2.2.2.2.2
  blk_simp
  rw [after0_6]
  frame_out
  exact ColSum.all_rows (N := cfg0.N) (by decide +kernel) row (fun _ _ => rfl) X hR hu hc _ hX (fun t => (outsAt0 m c t.val t.isLt).2.2) (bias_start m c) (bias_step m c) t ht y _ hi rfl rfl

/-! ## The reference's rows -/

variable {e : Fin 256 → Fin 16384} {x d : FVec Ideal (M 256 1024) .f32} {X D : FVec Ideal (M 16384 1024) .f32}

/-- The silu's gradient, as the reference forms it from the norm's output. -/
abbrev siluGrad (A D : FVec Ideal (M 16384 1024) .f32) : FVec Ideal (M 16384 1024) .f32 :=
  addf (mulf D (Host.divf NormValue.one (addf NormValue.one (Host.exp (Host.negf A)))))
    (mulf (mulf A D) (mulf (Host.divf NormValue.one (addf NormValue.one (Host.exp (Host.negf A))))
      (subf NormValue.one (Host.divf NormValue.one (addf NormValue.one (Host.exp (Host.negf A)))))))

theorem bias_rows (h : On2 e x X) (h' : On2 e d D) (g b : FVec Ideal (M 1 1024) .f32) :
    On2 e (biasRows x d g b) (siluGrad (NormValue.affine X g b) D) :=
  have ha := NormValue.affine_rows h g b
  have hs := NormValue.logistic_rows ha
  .add (.mul h' hs) (.mul (.mul ha h') (.mul hs (.sub (.const _ _) hs)))

theorem gain_rows (h : On2 e x X) (h' : On2 e d D) (g b : FVec Ideal (M 1 1024) .f32) :
    On2 e (gainRows x d g b) (mulf (NormValue.norm X) (siluGrad (NormValue.affine X g b) D)) :=
  .mul (NormValue.norm_rows h) (bias_rows h h' g b)
end

open Cert.ConvNormBwdRefIdeal in
/-- A point's rows of the first gradient are the reference's. -/
theorem in_rows (m : (ℓ : Loc nD τ sig) → Buf (Elt Ideal) ℓ) (c : Dev nD) {e : Fin 256 → Fin 16384} {x d : FVec Ideal (M 256 1024) .f32} {g b : FVec Ideal (M 1 1024) .f32}
    (h0 : On2 e x (m ((c.tc : Thread nD τ).loc main_arg0))) (h1 : On2 e d (m ((c.tc : Thread nD τ).loc main_arg1)))
    (h2 : g = m ((c.tc : Thread nD τ).loc main_arg2)) (h3 : b = m ((c.tc : Thread nD τ).loc main_arg3)) :
    On2 e (inRows x d g b) (Value.res_main_v59 m c) := by
  subst h2 h3
  have hs := bias_rows h0 h1 (m ((c.tc : Thread nD τ).loc main_arg2)) (m ((c.tc : Thread nD τ).loc main_arg3))
  unfold biasRows at hs
  unfold inRows Value.res_main_v59
  generalize ConvNormBwdIdeal.Gen.k0_pay11 (F := Ideal) _ _ _ _ = s at hs ⊢
  open Cert.ConvNormBwdIdeal.Gen in unfold k0_pay13 k0_pay9 k0_pay8 k0_pay7 k0_pay6 k0_pay5 k0_pay4 k0_pay3
  dsimp only
  repeat' first
    | with_reducible exact h0
    | with_reducible exact hs
    | with_reducible apply On2.const
    | with_reducible apply On2.neg
    | with_reducible apply On2.add
    | with_reducible apply On2.sub
    | with_reducible apply On2.mul
    | with_reducible apply On2.div
    | with_reducible apply On2.rsqrt
    | with_reducible apply On1.spread
    | with_reducible apply On1.col
    | with_reducible apply On1.cast
    | refine On2.rows ?_ _ _ _ _ _
    | with_reducible apply On2.spread
    | with_reducible apply On2.same
    | with_reducible exact On2.vec rfl _ _
    | with_reducible refine ColSum.whole_same ?_ _

open Cert.ConvNormBwdIdeal Cert.ConvNormBwdIdeal.Gen in
/-- The two runs end with equal gradients. -/
theorem value_equal : Cert.algebraic_ConvNormBwdIdeal_ConvNormBwdRefIdeal := fun m g m' g' _ hX => by
  refine ⟨_, _, _, (θ_run (Cert.ConvNormBwdIdeal.defs (F := Ideal)) _ _).mono (fun _ h c => ⟨(h c).1.trans ?_, (h c).2.1.trans ?_, (h c).2.2.1.trans ?_, (h c).2.2.2⟩)
      (Cert.ConvNormBwdIdeal.Value.run_blocks (F := Ideal) m g), Cert.ConvNormBwdRefIdeal.Value.run (F := Ideal) m' g'⟩
  · obtain ⟨e0, e1, e2, e3⟩ := hX c
    refine in_final m c _ fun t => ?_
    obtain ⟨h0, h1, h2, h3⟩ := blocks m c t
    refine in_rows m' c ?_ ?_ ?_ ?_
    · rw [e0]; exact h0
    · rw [e1]; exact h1
    · rw [e2]; exact h2
    · rw [e3]; exact h3
  · unfold ConvNormBwdRefIdeal.Value.res_main_v33
    rw [(hX c).1, (hX c).2.1, (hX c).2.2.1, (hX c).2.2.2]
    refine gain_final m c _ _ _ _ fun t => ?_
    obtain ⟨h0, h1, h2, h3⟩ := blocks m c t
    unfold at4
    rw [h2, h3]
    exact gain_rows h0 h1 _ _
  · unfold ConvNormBwdRefIdeal.Value.res_main_v30
    rw [(hX c).1, (hX c).2.1, (hX c).2.2.1, (hX c).2.2.2]
    refine bias_final m c _ _ _ _ fun t => ?_
    obtain ⟨h0, h1, h2, h3⟩ := blocks m c t
    unfold at4
    rw [h2, h3]
    exact bias_rows h0 h1 _ _

end Cert.ConvNormBwdValue

end
-- ==== Proof.PostBwdValue.lean ====
/-
# The gradients of the first branch sum, its norm and the second modulation

The backward call takes 256 rows at each of its 64 grid points: it forms the branch sum and both norms again, goes back
through the second norm, adds the gradient that comes from the residual, and goes back through the first. Two results are row
by row; the five gradients of the gate, the gain, the bias, the scale and the shift are sums over the rows.
-/
module

public import proofs.«01_k».proof.Defs
public import proofs.«01_k».proof.Proof.Gen.PostBwdIdeal.Value
public import proofs.«01_k».proof.Proof.Gen.PostBwdRefIdeal.Run
public import proofs.«01_k».proof.Proof.ColSum
public import proofs.«01_k».proof.Proof.NormValue

@[expose] public section

noncomputable section

namespace Cert.PostBwdValue

open Idealize.ShloMosaic Idealize.SL.Sem Cert.RowBlock

theorem hz : (![0, 0] : Fin 2 → Nat) = fun _ => 0 := funext fun a => by fin_cases a <;> rfl

/-! ## What a point forms -/

section
open Cert.PostBwdIdeal Cert.PostBwdIdeal.Gen

variable (x0 x1 x2 x3 : Vec Ideal S256x1024 .f32) (x4 x5 x6 x7 : Vec Ideal S1x1024 .f32)

/-- The centred branch sum. -/
abbrev cen : FVec Ideal S256x1024 .f32 := k0_pay11 x0 x1 x4
/-- One over its deviation. -/
abbrev dev : FVec Ideal S256x1 .f32 := k0_pay13 x0 x1 x4
/-- The gradient of the second norm's input through the deviation. -/
abbrev back1 : FVec Ideal S256x1024 .f32 :=
  mulf (broadcastTo S256x1024 (shapeCast S256x1 (multiReduction .add [1] S256
      (divf (k0_pay28 x3 x5 x6 x7 (cen x0 x1 x4) (dev x0 x1 x4)) (broadcast S256x1 (Scalar.ofBits (F := Ideal) .f32 0x44800000#32)))
      0x00000000#32 reduces_S256x1_S256 (.inl rfl) rfl) shapeCasts_S256_S256x1) broadcasts_S256x1_S256x1024)
    (k0_pay19 x5 x6 (cen x0 x1 x4) (dev x0 x1 x4))
/-- The rows of the gradient of the first norm's output, which add up to the gradient of the bias. -/
abbrev biasRows : FVec Ideal S256x1024 .f32 :=
  k0_pay30 x2 (k0_pay19 x5 x6 (cen x0 x1 x4) (dev x0 x1 x4)) (k0_pay27 x3 x5 x6 x7 (cen x0 x1 x4) (dev x0 x1 x4))
    (k0_pay28 x3 x5 x6 x7 (cen x0 x1 x4) (dev x0 x1 x4)) (k0_pay29 x3 x5 x6 x7 (cen x0 x1 x4) (dev x0 x1 x4))
/-- The gradient of the first norm's input through the centred rows. -/
abbrev straight : FVec Ideal S256x1024 .f32 :=
  k0_pay35 x2 x5 (dev x0 x1 x4) (k0_pay19 x5 x6 (cen x0 x1 x4) (dev x0 x1 x4)) (k0_pay27 x3 x5 x6 x7 (cen x0 x1 x4) (dev x0 x1 x4))
    (k0_pay28 x3 x5 x6 x7 (cen x0 x1 x4) (dev x0 x1 x4)) (k0_pay29 x3 x5 x6 x7 (cen x0 x1 x4) (dev x0 x1 x4))
/-- The sum of each row of its negation. -/
abbrev against : FVec Ideal S256x1 .f32 :=
  k0_pay36 x2 x5 (dev x0 x1 x4) (k0_pay19 x5 x6 (cen x0 x1 x4) (dev x0 x1 x4)) (k0_pay27 x3 x5 x6 x7 (cen x0 x1 x4) (dev x0 x1 x4))
    (k0_pay28 x3 x5 x6 x7 (cen x0 x1 x4) (dev x0 x1 x4)) (k0_pay29 x3 x5 x6 x7 (cen x0 x1 x4) (dev x0 x1 x4))
/-- The gradient of the first norm's input through the deviation. -/
abbrev back0 : FVec Ideal S256x1024 .f32 :=
  k0_pay37 x2 x5 (k0_pay10 x0 x1 x4) (cen x0 x1 x4) (k0_pay14 x0 x1 x4) (k0_pay19 x5 x6 (cen x0 x1 x4) (dev x0 x1 x4))
    (k0_pay27 x3 x5 x6 x7 (cen x0 x1 x4) (dev x0 x1 x4)) (k0_pay28 x3 x5 x6 x7 (cen x0 x1 x4) (dev x0 x1 x4))
    (k0_pay29 x3 x5 x6 x7 (cen x0 x1 x4) (dev x0 x1 x4))
/-- The rows of the gradient of the branch sum. -/
abbrev sumRows : FVec Ideal S256x1024 .f32 :=
  k0_pay39 (straight x0 x1 x2 x3 x4 x5 x6 x7) (against x0 x1 x2 x3 x4 x5 x6 x7) (back0 x0 x1 x2 x3 x4 x5 x6 x7) (k0_pay38 (F := Ideal))

/-- The first result's rows. -/
def inRows : FVec Ideal S256x1024 .f32 :=
  k0_pay40 (straight x0 x1 x2 x3 x4 x5 x6 x7) (against x0 x1 x2 x3 x4 x5 x6 x7) (back0 x0 x1 x2 x3 x4 x5 x6 x7) (k0_pay38 (F := Ideal))
/-- The second result's rows. -/
def branchRows : FVec Ideal S256x1024 .bf16 :=
  k0_pay41 x4 (straight x0 x1 x2 x3 x4 x5 x6 x7) (against x0 x1 x2 x3 x4 x5 x6 x7) (back0 x0 x1 x2 x3 x4 x5 x6 x7) (k0_pay38 (F := Ideal))
/-- The rows that add up to the gradient of the gate. -/
abbrev gateRows : FVec Ideal S256x1024 .f32 := mulf (sumRows x0 x1 x2 x3 x4 x5 x6 x7) x1
/-- The rows that add up to the gradient of the gain. -/
abbrev gainRows : FVec Ideal S256x1024 .f32 :=
  mulf (k0_pay15 (cen x0 x1 x4) (dev x0 x1 x4)) (shapeCast S256x1024 (biasRows x0 x1 x2 x3 x4 x5 x6 x7) shapeCasts_S256x1024_S256x1024)
/-- The rows that add up to the gradient of the scale. -/
abbrev scaleRows (x0 x1 _x2 x3 : Vec Ideal S256x1024 .f32) (x4 x5 x6 _x7 : Vec Ideal S1x1024 .f32) : FVec Ideal S256x1024 .f32 :=
  mulf (mulf (k0_pay20 x5 x6 (cen x0 x1 x4) (dev x0 x1 x4)) (broadcastTo S256x1024 (k0_pay22 x5 x6 (cen x0 x1 x4) (dev x0 x1 x4)) broadcasts_S256x1_S256x1024))
    (k0_pay23 x3)
/-- The rows that add up to the gradient of the shift. -/
abbrev shiftRows (_x0 _x1 _x2 x3 : Vec Ideal S256x1024 .f32) (_x4 _x5 _x6 _x7 : Vec Ideal S1x1024 .f32) : FVec Ideal S256x1024 .f32 := x3
end

/-! ## The reference's rows -/

section
open Cert.PostBwdRefIdeal Cert.PostBwdRefIdeal.Value Cert.PostBwdIdeal.Gen

/-- A point's blocks are rows of the reference's arguments. -/
structure Blocks (e : Fin 256 → Fin 16384) (W : Valuation τ sig (Elt Ideal)) (x0 x1 x2 x3 : FVec Ideal (M 256 1024) .f32)
    (x4 x5 x6 x7 : FVec Ideal (M 1 1024) .f32) : Prop where
  h0 : On2 e x0 (W (Proc.devRef .tc main_arg0))
  h1 : On2 e x1 (W (Proc.devRef .tc main_arg1))
  h2 : On2 e x2 (W (Proc.devRef .tc main_arg2))
  h3 : On2 e x3 (W (Proc.devRef .tc main_arg3))
  h4 : x4 = W (Proc.devRef .tc main_arg4)
  h5 : x5 = W (Proc.devRef .tc main_arg5)
  h6 : x6 = W (Proc.devRef .tc main_arg6)
  h7 : x7 = W (Proc.devRef .tc main_arg7)

variable {e : Fin 256 → Fin 16384} {W : Valuation τ sig (Elt Ideal)} {x0 x1 x2 x3 : FVec Ideal (M 256 1024) .f32} {x4 x5 x6 x7 : FVec Ideal (M 1 1024) .f32}
  (H : Blocks e W x0 x1 x2 x3 x4 x5 x6 x7)
include H

theorem sum_rows : On2 e (k0_pay7 x0 x1 x4) (res_main_v4 W) := On2.add (.mul (.const _ _) H.h0) (.mul (.vec H.h4 _ _) H.h1)
theorem mean_rows : On2 e (k0_pay8 x0 x1 x4) (res_main_v8 W) := On2.div (On1.col (On2.rows (sum_rows H) _ _ _ _ _) _ _) (.const _ _)
theorem cen_rows' : On2 e (k0_pay9 x0 x1 x4) (res_main_v10 W) := On2.sub (sum_rows H) (.spread (mean_rows H) _ _)
theorem cen_rows : On2 e (cen x0 x1 x4) (res_main_v19 W) := On2.sub (sum_rows H) (.spread (mean_rows H) _ _)
theorem var_rows : On2 e (k0_pay12 x0 x1 x4) (res_main_v21 W) :=
  On2.add (.div (On1.col (On2.rows (.mul (cen_rows' H) (cen_rows' H)) _ _ _ _ _) _ _) (.const _ _)) (.const _ _)
theorem dev_rows : On2 e (dev x0 x1 x4) (res_main_v22 W) := On2.rsqrt (var_rows H)
theorem norm_rows : On2 e (k0_pay15 (cen x0 x1 x4) (dev x0 x1 x4)) (res_main_v27 W) := On2.mul (cen_rows H) (.spread (dev_rows H) _ _)
theorem out_rows : On2 e (k0_pay16 x5 x6 (cen x0 x1 x4) (dev x0 x1 x4)) (res_main_v31 W) :=
  On2.add (.mul (norm_rows H) (.vec H.h5 _ _)) (.vec H.h6 _ _)
theorem mean1_rows : On2 e (k0_pay17 x5 x6 (cen x0 x1 x4) (dev x0 x1 x4)) (res_main_v35 W) :=
  On2.div (On1.col (On2.rows (out_rows H) _ _ _ _ _) _ _) (.const _ _)
theorem cen1_rows' : On2 e (k0_pay18 x5 x6 (cen x0 x1 x4) (dev x0 x1 x4)) (res_main_v37 W) := On2.sub (out_rows H) (.spread (mean1_rows H) _ _)
theorem cen1_rows : On2 e (k0_pay20 x5 x6 (cen x0 x1 x4) (dev x0 x1 x4)) (res_main_v46 W) := On2.sub (out_rows H) (.spread (mean1_rows H) _ _)
theorem var1_rows : On2 e (k0_pay21 x5 x6 (cen x0 x1 x4) (dev x0 x1 x4)) (res_main_v48 W) :=
  On2.add (.div (On1.col (On2.rows (.mul (cen1_rows' H) (cen1_rows' H)) _ _ _ _ _) _ _) (.const _ _)) (.const _ _)
theorem dev1_rows : On2 e (k0_pay22 x5 x6 (cen x0 x1 x4) (dev x0 x1 x4)) (res_main_v49 W) := On2.rsqrt (var1_rows H)
theorem grad_rows : On2 e (k0_pay23 x3) (res_main_v61 W) := On2.same (ColSum.whole_same H.h3 _) _
theorem scale_eq : addf (broadcast (M 1 1024) (Scalar.ofBits (F := Ideal) .f32 0x3F800000#32)) x7 = res_main_v56 W := by
  rw [H.h7]
  unfold res_main_v56
  funext i
  pointwise
theorem scaled_rows : On2 e (k0_pay26 x3 x7) (res_main_v68 W) := On2.mul (grad_rows H) (.vec (scale_eq H) _ _)
theorem straight1_rows : On2 e (k0_pay27 x3 x5 x6 x7 (cen x0 x1 x4) (dev x0 x1 x4)) (res_main_v73 W) := On2.mul (scaled_rows H) (.spread (dev1_rows H) _ _)
theorem back1_rows : On2 e (back1 x0 x1 x3 x4 x5 x6 x7) (res_main_v83 W) :=
  On2.mul (On1.spread (On2.rows (On2.div (.mul (On1.cast (On2.rows (.mul (cen1_rows H) (scaled_rows H)) _ _ _ _ _) _ _)
    (.mul (.const _ _) (.div (dev1_rows H) (var1_rows H)))) (.const _ _)) _ _ _ _ _) _ _ _) (.mul (.const _ _) (cen1_rows' H))
theorem bias_rows : On2 e (biasRows x0 x1 x2 x3 x4 x5 x6 x7) (res_main_v93 W) :=
  On2.add (.add (.add H.h2 (straight1_rows H)) (back1_rows H))
    (On1.spread (On2.rows (On2.div (.add (On1.cast (On2.rows (.neg (straight1_rows H)) _ _ _ _ _) _ _)
      (On1.cast (On2.rows (.neg (back1_rows H)) _ _ _ _ _) _ _)) (.const _ _)) _ _ _ _ _) _ _ _)
theorem bias_rows' : On2 e (shapeCast (M 256 1024) (biasRows x0 x1 x2 x3 x4 x5 x6 x7) Cert.PostBwdIdeal.Facts₀.shapeCasts_S256x1024_S256x1024) (res_main_v94 W) :=
  On2.same (ColSum.whole_same (bias_rows H) _) _
/-- The gradient of the normalized rows. -/
abbrev normGrad (x0 x1 x2 x3 : FVec Ideal (M 256 1024) .f32) (x4 x5 x6 x7 : FVec Ideal (M 1 1024) .f32) : FVec Ideal (M 256 1024) .f32 :=
  k0_pay34 x2 x5 (k0_pay19 x5 x6 (cen x0 x1 x4) (dev x0 x1 x4)) (k0_pay27 x3 x5 x6 x7 (cen x0 x1 x4) (dev x0 x1 x4))
    (k0_pay28 x3 x5 x6 x7 (cen x0 x1 x4) (dev x0 x1 x4)) (k0_pay29 x3 x5 x6 x7 (cen x0 x1 x4) (dev x0 x1 x4))
theorem normGrad_rows : On2 e (normGrad x0 x1 x2 x3 x4 x5 x6 x7) (res_main_v101 W) := On2.mul (bias_rows' H) (.vec H.h5 _ _)
theorem straight_rows : On2 e (straight x0 x1 x2 x3 x4 x5 x6 x7) (res_main_v106 W) := On2.mul (normGrad_rows H) (.spread (dev_rows H) _ _)
theorem back0_rows : On2 e (back0 x0 x1 x2 x3 x4 x5 x6 x7) (res_main_v115 W) :=
  On2.mul (On1.spread (On2.rows (On2.div (.mul (On1.cast (On2.rows (.mul (cen_rows H) (normGrad_rows H)) _ _ _ _ _) _ _)
    (.mul (.const _ _) (.div (dev_rows H) (var_rows H)))) (.const _ _)) _ _ _ _ _) _ _ _) (.mul (.const _ _) (cen_rows' H))
theorem sumRows_rows : On2 e (sumRows x0 x1 x2 x3 x4 x5 x6 x7) (res_main_v125 W) :=
  On2.add (.add (straight_rows H) (back0_rows H))
    (On1.spread (On2.rows (On2.div (.add (On1.cast (On2.rows (.neg (straight_rows H)) _ _ _ _ _) _ _)
      (On1.cast (On2.rows (.neg (back0_rows H)) _ _ _ _ _) _ _)) (.const _ _)) _ _ _ _ _) _ _ _)
end

/-! ## What a point leaves -/

section
open Cert.PostBwdIdeal Cert.PostBwdIdeal.Gen

/-- A running sum and the sum of a point's rows. -/
abbrev plus (acc : FVec Ideal S1x1024 .f32) (x : FVec Ideal S256x1024 .f32) : FVec Ideal S1x1024 .f32 :=
  addf (shapeCast S1x1024 acc shapeCasts_S1x1024_S1x1024)
    (shapeCast S1x1024 (multiReduction .add [0] S1024 x 0x00000000#32 reduces_S256x1024_S1024 (.inl rfl) rfl) shapeCasts_S1024_S1x1024)

/-- Where the running sums start. -/
abbrev none : FVec Ideal S1x1024 .f32 := broadcast S1x1024 (Scalar.ofBits (F := Ideal) .f32 0x00000000#32)

variable (m : (ℓ : Loc nD τ sig) → Buf (Elt Ideal) ℓ) (c : Dev nD)

/-- What a point forms from the blocks it reads. -/
abbrev from8 {α : Type} (f : Vec Ideal S256x1024 .f32 → Vec Ideal S256x1024 .f32 → Vec Ideal S256x1024 .f32 → Vec Ideal S256x1024 .f32
      → Vec Ideal S1x1024 .f32 → Vec Ideal S1x1024 .f32 → Vec Ideal S1x1024 .f32 → Vec Ideal S1x1024 .f32 → α) (t : Fin cfg0.N) : α :=
  f (iblk m c 0 t) (iblk m c 1 t) (iblk m c 2 t) (iblk m c 3 t) (iblk m c 4 t) (iblk m c 5 t) (iblk m c 6 t) (iblk m c 7 t)

theorem left_A (t : Fin cfg0.N) (h : t.val % 64 = 0) :
    outsAt0 m c t.val t.isLt = (from8 m c inRows t, from8 m c branchRows t, plus none (from8 m c gateRows t), plus none (from8 m c gainRows t),
      plus none (from8 m c biasRows t), plus none (from8 m c scaleRows t), plus none (from8 m c shiftRows t)) := by
  rw [outsAt0_A m c t h h h h h]
  refine Prod.ext ?_ (Prod.ext ?_ (Prod.ext ?_ (Prod.ext ?_ (Prod.ext ?_ (Prod.ext ?_ ?_)))))
  all_goals
    dsimp only
    first
    | unfold out0_A_9; rw [View.read_writes_eq_canon _ _ _ (fun _ => cover0_A_9 ..)]
    | unfold out0_A_10; rw [View.read_writes_eq_canon _ _ _ (fun _ => cover0_A_10 ..)]
    | unfold out0_A_11; rw [View.read_writes_eq_canon _ _ _ (fun _ => cover0_A_11 ..)]
    | unfold out0_A_12; rw [View.read_writes_eq_canon _ _ _ (fun _ => cover0_A_12 ..)]
    | unfold out0_A_13; rw [View.read_writes_eq_canon _ _ _ (fun _ => cover0_A_13 ..)]
    | unfold out0_A_14; rw [View.read_writes_eq_canon _ _ _ (fun _ => cover0_A_14 ..)]
    | unfold out0_A_15; rw [View.read_writes_eq_canon _ _ _ (fun _ => cover0_A_15 ..)]
    unfold kernelRun0_A
    dsimp only
    sl_unfold_words
    first
    | rw [View.canon_unit_zero (S := S256x1024) hz]
    | rw [View.canon_cons_unit_zero (S := S1x1024) hz, View.readCov_unit_zero (S := S1x1024) _ hz]
    simp only [View.readAt_eq_ld, (hs0_0 t).read_unread, (hs0_1 t).read_unread, (hs0_2 t).read_unread, (hs0_3 t).read_unread, (hs0_4 t).read_unread,
      (hs0_5 t).read_unread, (hs0_6 t).read_unread, (hs0_7 t).read_unread, View.ld_unit_zero (S := S256x1024) hz, View.ld_unit_zero (S := S1x1024) hz]
    rfl

/-- What the point before left. -/
abbrev before (t : Fin cfg0.N) : Vec Ideal S256x1024 .f32 × Vec Ideal S256x1024 .bf16 × Vec Ideal S1x1024 .f32 × Vec Ideal S1x1024 .f32 × Vec Ideal S1x1024 .f32
    × Vec Ideal S1x1024 .f32 × Vec Ideal S1x1024 .f32 := outsAt0 m c (t.val - 1) (Nat.lt_of_le_of_lt (Nat.sub_le _ _) t.isLt)

theorem left_B (t : Fin cfg0.N) (h : ¬t.val % 64 = 0) :
    outsAt0 m c t.val t.isLt = (from8 m c inRows t, from8 m c branchRows t, plus (before m c t).2.2.1 (from8 m c gateRows t), plus (before m c t).2.2.2.1 (from8 m c gainRows t),
      plus (before m c t).2.2.2.2.1 (from8 m c biasRows t), plus (before m c t).2.2.2.2.2.1 (from8 m c scaleRows t), plus (before m c t).2.2.2.2.2.2 (from8 m c shiftRows t)) := by
  rw [outsAt0_B m c t h h h h h]
  refine Prod.ext ?_ (Prod.ext ?_ (Prod.ext ?_ (Prod.ext ?_ (Prod.ext ?_ (Prod.ext ?_ ?_)))))
  all_goals
    dsimp only
    first
    | unfold out0_B_9; rw [View.read_writes_eq_canon _ _ _ (fun _ => cover0_B_9 ..)]
    | unfold out0_B_10; rw [View.read_writes_eq_canon _ _ _ (fun _ => cover0_B_10 ..)]
    | unfold out0_B_11; rw [View.read_writes_eq_canon _ _ _ (fun _ => cover0_B_11 ..)]
    | unfold out0_B_12; rw [View.read_writes_eq_canon _ _ _ (fun _ => cover0_B_12 ..)]
    | unfold out0_B_13; rw [View.read_writes_eq_canon _ _ _ (fun _ => cover0_B_13 ..)]
    | unfold out0_B_14; rw [View.read_writes_eq_canon _ _ _ (fun _ => cover0_B_14 ..)]
    | unfold out0_B_15; rw [View.read_writes_eq_canon _ _ _ (fun _ => cover0_B_15 ..)]
    unfold kernelRun0_B
    dsimp only
    sl_unfold_words
    first
    | rw [View.canon_unit_zero (S := S256x1024) hz]
    | rw [View.canon_unit_zero (S := S1x1024) hz]
    simp only [View.readAt_eq_ld, (hs0_0 t).read_unread, (hs0_1 t).read_unread, (hs0_2 t).read_unread, (hs0_3 t).read_unread, (hs0_4 t).read_unread,
      (hs0_5 t).read_unread, (hs0_6 t).read_unread, (hs0_7 t).read_unread, (hs0_11 t).read_unread, (hs0_12 t).read_unread, (hs0_13 t).read_unread,
      (hs0_14 t).read_unread, (hs0_15 t).read_unread, View.ld_unit_zero (S := S256x1024) hz, View.ld_unit_zero (S := S1x1024) hz]
    rfl

/-! ## The whole arrays -/

/-- Row `r` of point `t`'s block is row `256 t + r`. -/
def row (t : Fin cfg0.N) (r : Fin 256) : Fin 16384 :=
  ⟨256 * t.val + r.val, by have h : t.val < 64 := t.isLt; have := r.isLt; omega⟩

theorem row_index : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_9.index t 0 = t.val ∧ win0_9.index t 1 = 0) ∧ (win0_10.index t 0 = t.val ∧ win0_10.index t 1 = 0) :=
  (by decide +kernel : ∀ t : Fin grid0.N, _)

theorem vec_index : ∀ t : Fin cfg0.N, (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0) :=
  (by decide +kernel : ∀ t : Fin grid0.N, _)

theorem sum_index : ∀ t : Fin cfg0.N, (win0_11.index t 0 = 0 ∧ win0_11.index t 1 = 0) ∧ (win0_12.index t 0 = 0 ∧ win0_12.index t 1 = 0)
    ∧ (win0_13.index t 0 = 0 ∧ win0_13.index t 1 = 0) ∧ (win0_14.index t 0 = 0 ∧ win0_14.index t 1 = 0) ∧ (win0_15.index t 0 = 0 ∧ win0_15.index t 1 = 0) :=
  (by decide +kernel : ∀ t : Fin grid0.N, _)

/-- The blocks a point reads are rows of the reference's arguments. -/
theorem blocks (W : Valuation PostBwdRefIdeal.τ PostBwdRefIdeal.sig (Elt Ideal))
    (h0 : W (Proc.devRef .tc PostBwdRefIdeal.main_arg0) = V m c main_arg0) (h1 : W (Proc.devRef .tc PostBwdRefIdeal.main_arg1) = V m c main_arg1)
    (h2 : W (Proc.devRef .tc PostBwdRefIdeal.main_arg2) = V m c main_arg2) (h3 : W (Proc.devRef .tc PostBwdRefIdeal.main_arg3) = V m c main_arg3)
    (h4 : W (Proc.devRef .tc PostBwdRefIdeal.main_arg4) = V m c main_arg4) (h5 : W (Proc.devRef .tc PostBwdRefIdeal.main_arg5) = V m c main_arg5)
    (h6 : W (Proc.devRef .tc PostBwdRefIdeal.main_arg6) = V m c main_arg6) (h7 : W (Proc.devRef .tc PostBwdRefIdeal.main_arg7) = V m c main_arg7)
    (t : Fin cfg0.N) : from8 m c (Blocks (row t) W) t := by
  obtain ⟨⟨a0, a1⟩, ⟨b0, b1⟩, ⟨c0, c1⟩, ⟨d0, d1⟩, -⟩ := row_index t
  obtain ⟨⟨e0, e1⟩, ⟨f0, f1⟩, ⟨g0, g1⟩, ⟨i0, i1⟩⟩ := vec_index t
  refine ⟨?_, ?_, ?_, ?_, ?_, ?_, ?_, ?_⟩
  · rw [h0]; exact fun r j => by blk_ext [iblk, row, a0, a1]
  · rw [h1]; exact fun r j => by blk_ext [iblk, row, b0, b1]
  · rw [h2]; exact fun r j => by blk_ext [iblk, row, c0, c1]
  · rw [h3]; exact fun r j => by blk_ext [iblk, row, d0, d1]
  · rw [h4]; exact funext fun j => by blk_ext [iblk, e0, e1]
  · rw [h5]; exact funext fun j => by blk_ext [iblk, f0, f1]
  · rw [h6]; exact funext fun j => by blk_ext [iblk, g0, g1]
  · rw [h7]; exact funext fun j => by blk_ext [iblk, i0, i1]

theorem in_final (X : FVec Ideal (M 16384 1024) .f32) (hX : ∀ t : Fin cfg0.N, On2 (row t) (from8 m c inRows t) X) :
    (dats m 0 c).arrAt 9 cfg0.N = X := by
  refine (dats m 0 c).arrAt_eq_of_covers 9 _ (by decide +kernel) fun t hf y => ?_
  obtain ⟨-, -, -, -, ⟨e0, e1⟩, -⟩ := row_index t
  have hl : (outsAt0 m c t.val t.isLt).1 = from8 m c inRows t := by
    by_cases h : t.val % 64 = 0
    · rw [left_A m c t h]
    · rw [left_B m c t h]
  blk_simp
  rw [after0_9]
  frame_out
  rw [hl, NormValue.eq_ix2 y]
  refine (hX t (y 0) (y 1)).trans ?_
  blk_ext [row, e0, e1]

theorem branch_final (X : FVec Ideal (M 16384 1024) .bf16) (hX : ∀ t : Fin cfg0.N, On2 (row t) (from8 m c branchRows t) X) :
    (dats m 0 c).arrAt 10 cfg0.N = X := by
  refine (dats m 0 c).arrAt_eq_of_covers 10 _ (by decide +kernel) fun t hf y => ?_
  obtain ⟨-, -, -, -, -, ⟨e0, e1⟩⟩ := row_index t
  have hl : (outsAt0 m c t.val t.isLt).2.1 = from8 m c branchRows t := by
    by_cases h : t.val % 64 = 0
    · rw [left_A m c t h]
    · rw [left_B m c t h]
  blk_simp
  rw [after0_10]
  frame_out
  rw [hl, NormValue.eq_ix2 y]
  refine (hX t (y 0) (y 1)).trans ?_
  blk_ext [row, e0, e1]

/-- What the last point leaves of one of the sums. -/
theorem last_sum (S : Fin cfg0.N → FVec Ideal (M 1 1024) .f32) (x : Fin cfg0.N → FVec Ideal (M 256 1024) .f32)
    (hA : ∀ t : Fin cfg0.N, t.val % 64 = 0 → S t = plus none (x t))
    (hB : ∀ t : Fin cfg0.N, ¬t.val % 64 = 0 → S t = plus (S ⟨t.val - 1, Nat.lt_of_le_of_lt (Nat.sub_le _ _) t.isLt⟩) (x t))
    (X : FVec Ideal (M 16384 1024) .f32) (hR hu hc) (hX : ∀ t : Fin cfg0.N, On2 (row t) (x t) X) (t : Fin cfg0.N) (ht : t.val % 64 = 63)
    (y f : (M 1 1024).Idx) {b d : ℕ} (hi : b = 0 ∧ d = 0) (h0 : (f 0).val = b * 1 + 1 * (y 0).val) (h1 : (f 1).val = d * 1024 + 1 * (y 1).val) :
    S t y = ColSum.total X hR hu hc f :=
  ColSum.all_rows (N := cfg0.N) (by decide +kernel) row (fun _ _ => rfl) X hR hu hc x hX S
    (fun t h y => (congrFun (hA t h) y).trans (ColSum.first_rows _ _ _ _ _ _ y))
    (fun t h y => (congrFun (hB t h) y).trans (ColSum.add_rows _ _ _ _ _ _ _ y)) t ht y f hi h0 h1

theorem gate_final (X : FVec Ideal (M 16384 1024) .f32) (hR hu hc) (hX : ∀ t : Fin cfg0.N, On2 (row t) (from8 m c gateRows t) X) :
    (dats m 0 c).arrAt 11 cfg0.N = ColSum.total X hR hu hc := by
  refine (dats m 0 c).arrAt_eq_of_covers 11 _ (by decide +kernel) fun t hf y => ?_
  have ht := (flush0_11 t).mp hf
  have hi := (sum_index t).1
  blk_simp
  rw [after0_11]
  frame_out
  exact last_sum (fun t => (outsAt0 m c t.val t.isLt).2.2.1) _ (fun t h => by rw [left_A m c t h]) (fun t h => by rw [left_B m c t h]) X hR hu hc hX t ht y _ hi rfl rfl

theorem gain_final (X : FVec Ideal (M 16384 1024) .f32) (hR hu hc) (hX : ∀ t : Fin cfg0.N, On2 (row t) (from8 m c gainRows t) X) :
    (dats m 0 c).arrAt 12 cfg0.N = ColSum.total X hR hu hc := by
  refine (dats m 0 c).arrAt_eq_of_covers 12 _ (by decide +kernel) fun t hf y => ?_
  have ht := (flush0_12 t).mp hf
  have hi := (sum_index t).2.1
  blk_simp
  rw [after0_12]
  frame_out
  exact last_sum (fun t => (outsAt0 m c t.val t.isLt).2.2.2.1) _ (fun t h => by rw [left_A m c t h]) (fun t h => by rw [left_B m c t h]) X hR hu hc hX t ht y _ hi rfl rfl

theorem bias_final (X : FVec Ideal (M 16384 1024) .f32) (hR hu hc) (hX : ∀ t : Fin cfg0.N, On2 (row t) (from8 m c biasRows t) X) :
    (dats m 0 c).arrAt 13 cfg0.N = ColSum.total X hR hu hc := by
  refine (dats m 0 c).arrAt_eq_of_covers 13 _ (by decide +kernel) fun t hf y => ?_
  have ht := (flush0_13 t).mp hf
  have hi := (sum_index t).2.2.1
  blk_simp
  rw [after0_13]
  frame_out
  exact last_sum (fun t => (outsAt0 m c t.val t.isLt).2.2.2.2.1) _ (fun t h => by rw [left_A m c t h]) (fun t h => by rw [left_B m c t h]) X hR hu hc hX t ht y _ hi rfl rfl

theorem scale_final (X : FVec Ideal (M 16384 1024) .f32) (hR hu hc) (hX : ∀ t : Fin cfg0.N, On2 (row t) (from8 m c scaleRows t) X) :
    (dats m 0 c).arrAt 14 cfg0.N = ColSum.total X hR hu hc := by
  refine (dats m 0 c).arrAt_eq_of_covers 14 _ (by decide +kernel) fun t hf y => ?_
  have ht := (flush0_14 t).mp hf
  have hi := (sum_index t).2.2.2.1
  blk_simp
  rw [after0_14]
  frame_out
  exact last_sum (fun t => (outsAt0 m c t.val t.isLt).2.2.2.2.2.1) _ (fun t h => by rw [left_A m c t h]) (fun t h => by rw [left_B m c t h]) X hR hu hc hX t ht y _ hi rfl rfl

theorem shift_final (X : FVec Ideal (M 16384 1024) .f32) (hR hu hc) (hX : ∀ t : Fin cfg0.N, On2 (row t) (from8 m c shiftRows t) X) :
    (dats m 0 c).arrAt 15 cfg0.N = ColSum.total X hR hu hc := by
  refine (dats m 0 c).arrAt_eq_of_covers 15 _ (by decide +kernel) fun t hf y => ?_
  have ht := (flush0_15 t).mp hf
  have hi := (sum_index t).2.2.2.2
  blk_simp
  rw [after0_15]
  frame_out
  exact last_sum (fun t => (outsAt0 m c t.val t.isLt).2.2.2.2.2.2) _ (fun t h => by rw [left_A m c t h]) (fun t h => by rw [left_B m c t h]) X hR hu hc hX t ht y _ hi rfl rfl

end

/-- The two runs end with equal gradients. -/
theorem value_equal : Cert.algebraic_PostBwdIdeal_PostBwdRefIdeal := fun m g m' g' _ hX => by
  have H := fun (c : Dev PostBwdIdeal.nD) t =>
    blocks m c (StableHlo.launchContents m' c) (hX c).1 (hX c).2.1 (hX c).2.2.1 (hX c).2.2.2.1 (hX c).2.2.2.2.1 (hX c).2.2.2.2.2.1 (hX c).2.2.2.2.2.2.1
      (hX c).2.2.2.2.2.2.2.1 t
  exact ⟨_, _, _, _, _, _, _, (θ_run (Cert.PostBwdIdeal.defs (F := Ideal)) _ _).mono (fun _ h c =>
      ⟨(h c).1.trans (in_final m c _ fun t => On2.mul (On2.const _ _) (sumRows_rows (H c t))),
        (h c).2.1.trans (branch_final m c _ fun t => On2.trunc (On2.mul (On2.vec (H c t).h4 _ _) (sumRows_rows (H c t))) _ _),
        (h c).2.2.1.trans (gate_final m c _ _ _ _ fun t => On2.mul (sumRows_rows (H c t)) (H c t).h1),
        (h c).2.2.2.1.trans (gain_final m c _ _ _ _ fun t => On2.mul (norm_rows (H c t)) (bias_rows' (H c t))),
        (h c).2.2.2.2.1.trans (bias_final m c _ _ _ _ fun t => bias_rows (H c t)),
        (h c).2.2.2.2.2.1.trans (scale_final m c _ _ _ _ fun t => On2.mul (On2.mul (cen1_rows (H c t)) (On2.spread (dev1_rows (H c t)) _ _)) (grad_rows (H c t))),
        (h c).2.2.2.2.2.2.1.trans (shift_final m c _ _ _ _ fun t => (H c t).h3), (h c).2.2.2.2.2.2.2⟩)
      (Cert.PostBwdIdeal.Value.run_blocks (F := Ideal) m g), Cert.PostBwdRefIdeal.Value.run (F := Ideal) m' g'⟩

end Cert.PostBwdValue

end
-- ==== Proof.ConvValue.lean ====
/-
# The causal convolutions along the rows
-/
module

public import proofs.«01_k».proof.Defs
public import proofs.«01_k».proof.Proof.ProductValue
public import proofs.«01_k».proof.Proof.AdaBwdValue
public import proofs.«01_k».proof.Proof.Gen.FfnConvFwdIdeal.Value
public import proofs.«01_k».proof.Proof.Gen.FfnConvFwdRefIdeal.Run
public import proofs.«01_k».proof.Proof.Gen.ConvFwdIdeal.Value
public import proofs.«01_k».proof.Proof.Gen.ConvFwdRefIdeal.Run
public import Idealize.ShloMosaic.Lib.Pointwise
public import Idealize.ShloMosaic.Lib.KernelVsHost
public import Idealize.ShloMosaic.Lib.Pipeline.ValueKit

@[expose] public section

noncomputable section

namespace Cert.ConvValue

open Idealize.ShloMosaic Idealize.SL.Sem Cert.ProductValue

variable {H K S T b n l : ℕ}

/-- The entry `d` rows into an array with `K` rows of zeros before it. -/
def past (K : ℕ) (x : FVec Ideal (M n l) .f32) (d : ℕ) (c : Fin l) : EReal :=
  if h : K ≤ d ∧ d - K < n then x (ix2 ⟨d - K, h.2⟩ c) else 0

/-- What a point reads `o` rows into its stage, the halo's rows before the tile's. -/
theorem stage_apply {sig : RefSig} {κ : Kind} {sp : Space} (v : View sig κ sp (M S b) .f32) (x : FVec Ideal (M T b) .f32) (z : FVec Ideal (M H b) .f32)
    (inb1 : ∀ a, (![H, 0] : Fin 2 → ℕ) a + (M T b).size a ≤ (M S b).size a) (inb0 : ∀ a, (![0, 0] : Fin 2 → ℕ) a + (M H b).size a ≤ (M S b).size a)
    (o : ℕ) (ho : o ≤ H) (inb : ∀ a, (![o, 0] : Fin 2 → ℕ) a + (M T b).size a ≤ (M S b).size a) (y : (M T b).Idx) :
    v.readCov (Val := Elt Ideal) [⟨Rect.unit (s := M S b) ![H, 0] (M T b).size inb1, x⟩, ⟨Rect.unit (s := M S b) ![0, 0] (M H b).size inb0, z⟩]
        (Rect.unit (s := M S b) ![o, 0] (M T b).size inb).toLoadRect y
      = if h : H ≤ o + (y 0).val then x (ix2 ⟨o + (y 0).val - H, by have : (y 0).val < T := (y 0).isLt; omega⟩ (y 1)) else z (ix2 ⟨o + (y 0).val, by omega⟩ (y 1)) := by
  rw [View.readCov_eq_canon']
  have hy : (y 0).val < T := (y 0).isLt
  by_cases h : H ≤ o + (y 0).val
  · rw [dif_pos h]
    have e : (Rect.unit (s := M S b) ![o, 0] (M T b).size inb).toLoadRect.idx y
        = (Rect.unit (s := M S b) ![H, 0] (M T b).size inb1).emb (ix2 ⟨o + (y 0).val - H, by omega⟩ (y 1)) := by
      funext a; apply Fin.ext
      fin_cases a
      · show o + 1 * (y 0).val = H + 1 * (o + (y 0).val - H); omega
      · rfl
    exact (congrArg _ e).trans (View.canon_cons_emb (Val := Elt Ideal) (e := .f32) (Rect.unit (s := M S b) ![H, 0] (M T b).size inb1) x _ _)
  · rw [dif_neg h]
    have e : (Rect.unit (s := M S b) ![o, 0] (M T b).size inb).toLoadRect.idx y
        = (Rect.unit (s := M S b) ![0, 0] (M H b).size inb0).emb (ix2 ⟨o + (y 0).val, by omega⟩ (y 1)) := by
      funext a; apply Fin.ext
      fin_cases a
      · show o + 1 * (y 0).val = 0 + 1 * (o + (y 0).val); omega
      · rfl
    refine (View.canon_cons_of_not_mem _ _ ?_).trans ((congrArg _ e).trans (View.canon_cons_emb (Val := Elt Ideal) (e := .f32) (Rect.unit (s := M S b) ![0, 0] (M H b).size inb0) z _ _))
    intro hm
    obtain ⟨q, hq⟩ := LoadRect.exists_idx_of_mem _ hm
    have : H + 1 * (q 0).val = o + 1 * (y 0).val := congrArg (fun i : (M S b).Idx => (i 0).val) hq
    omega

/-- … so it reads the array a tap's number of rows on, if the tile and the halo hold the rows of the array there. -/
theorem stage_past {sig : RefSig} {κ : Kind} {sp : Space} (v : View sig κ sp (M S b) .f32) (x : FVec Ideal (M T b) .f32) (z : FVec Ideal (M H b) .f32)
    (inb1 : ∀ a, (![H, 0] : Fin 2 → ℕ) a + (M T b).size a ≤ (M S b).size a) (inb0 : ∀ a, (![0, 0] : Fin 2 → ℕ) a + (M H b).size a ≤ (M S b).size a)
    (o : ℕ) (inb : ∀ a, (![o, 0] : Fin 2 → ℕ) a + (M T b).size a ≤ (M S b).size a) (y : (M T b).Idx)
    (X : FVec Ideal (M n l) .f32) (k s : ℕ) (g : Fin l) (ho : o + K = H + k) (hk : k ≤ K) (hH : H ≤ T) (hn : T * s + T ≤ n)
    (hx : ∀ (r : Fin T) (q : Fin n), q.val = T * s + r.val → x (ix2 r (y 1)) = X (ix2 q g))
    (hz0 : s = 0 → ∀ p, z (ix2 p (y 1)) = 0)
    (hz1 : s ≠ 0 → ∀ (p : Fin H) (q : Fin n), q.val + H = T * s + p.val → z (ix2 p (y 1)) = X (ix2 q g)) :
    v.readCov (Val := Elt Ideal) [⟨Rect.unit (s := M S b) ![H, 0] (M T b).size inb1, x⟩, ⟨Rect.unit (s := M S b) ![0, 0] (M H b).size inb0, z⟩]
        (Rect.unit (s := M S b) ![o, 0] (M T b).size inb).toLoadRect y
      = past K X (T * s + (y 0).val + k) g := by
  have hy : (y 0).val < T := (y 0).isLt
  refine (stage_apply v x z inb1 inb0 o (by omega) inb y).trans ?_
  unfold past
  by_cases h : H ≤ o + (y 0).val
  · rw [dif_pos h, dif_pos (by omega)]
    exact hx _ _ (by dsimp only; omega)
  · rw [dif_neg h]
    by_cases h0 : s = 0
    · subst h0
      rw [dif_neg (by omega), hz0 rfl]
    · have hs : T * 1 ≤ T * s := Nat.mul_le_mul_left T (by omega)
      rw [dif_pos (by omega)]
      exact hz1 h0 _ _ (by dsimp only; omega)

/-- A row of the padded array, `k` rows on. -/
theorem past_apply (x : FVec Ideal (M n l) .f32) (N k : ℕ) (hk : k ≤ K) {u : Shape} (v : u.Idx → EReal) (hv : ∀ j, v j = 0)
    (hp : (M n l).Pads (![K, 0] : Fin 2 → ℕ) (![0, 0] : Fin 2 → ℕ) (![0, 0] : Fin 2 → ℕ) (M N l)) (hu : 0 < u.numel) (hs : (M N l).Slices ![k, 0] (M n l)) (i : (M n l).Idx) :
    extractStridedSlice (M n l) ![k, 0] (pad (M N l) ![K, 0] ![0, 0] ![0, 0] (show (M n l).Idx → EReal from x) v hp hu) hs i = past K x ((i 0).val + k) (i 1) := by
  have hi : (i 0).val < n := (i 0).isLt
  have hN : N = K + n := by simpa using hp.2 0
  have e := extractStridedSlice_apply ![k, 0] (pad (M N l) ![K, 0] ![0, 0] ![0, 0] (show (M n l).Idx → EReal from x) v hp hu) hs i
    (ix2 ⟨(i 0).val + k, by omega⟩ (i 1)) (by intro a; fin_cases a <;> simp [ix2, Nat.add_comm])
  refine e.trans ?_
  unfold past
  by_cases h : K ≤ (i 0).val + k
  · rw [dif_pos (by omega)]
    refine pad_apply_of_inside _ _ _ _ _ hp hu _ (ix2 ⟨(i 0).val + k - K, by omega⟩ (i 1)) ?_
    intro a; fin_cases a
    · show (i 0).val + k = K + ((i 0).val + k - K) * 1; omega
    · show (i 1).val = 0 + (i 1).val * 1; omega
  · rw [dif_neg (by omega)]
    exact (pad_apply_of_not_inside ![K, 0] ![0, 0] ![0, 0] (show (M n l).Idx → EReal from x) v hp hu (ix2 ⟨(i 0).val + k, by omega⟩ (i 1)) (0 : Fin 2) (fun q => h (show K ≤ (i 0).val + k from q.1))).trans (hv _)

/-- The weight of tap `k` for a column. -/
def tap (w : FVec Ideal (M T l) .f32) (k : ℕ) (g : Fin l) : EReal := if h : k < T then w (ix2 ⟨k, h⟩ g) else 0

theorem tap_of (w : FVec Ideal (M T l) .f32) (k : ℕ) (g : Fin l) (h : k < T) : tap w k g = w (ix2 ⟨k, h⟩ g) := dif_pos h

/-- The convolution: each tap's weight times the entry that many rows on in the padded array, and the bias. -/
def conv (X : FVec Ideal (M n l) .f32) (w : FVec Ideal (M T l) .f32) (d : FVec Ideal (M 1 l) .f32) : FVec Ideal (M n l) .f32 :=
  fun i => ∑ k ∈ Finset.range T, past (T - 1) X ((i 0).val + k) (i 1) * tap w k (i 1) + d (ix2 0 (i 1))

theorem add_at {s : Shape} (x y : FVec Ideal s .f32) (i : s.Idx) : addf x y i = x i + y i := rfl

theorem mul_at {s : Shape} (x y : FVec Ideal s .f32) (i : s.Idx) : mulf x y i = x i * y i := rfl

/-- The reference's zeros are zeros. -/
theorem zeros_at {s : Shape} (h : (⟨0, ![]⟩ : Shape).BroadcastsInDim s ![]) (i : s.Idx) :
    broadcastInDim s ![] h (constant (F := Ideal) ⟨0, ![]⟩ .f32 0x00000000#32) i = 0 := Ideal.ofBits_zero_f32

/-- The reference's bias. -/
theorem bias_at (d : FVec Ideal (M 1 l) .f32) (h : (M 1 l).BroadcastsInDim (M n l) ![0, 1]) (i : (M n l).Idx) :
    broadcastInDim (M n l) ![0, 1] h d i = d (ix2 0 (i 1)) :=
  (congrArg _ (ProductValue.eq_ix2 i)).trans (broadcastInDim_oneRow_apply h d (i 0) (i 1))

/-- The reference's weights of one tap. -/
theorem weights_at (w : FVec Ideal (M T l) .f32) (k : ℕ) (hs : (M T l).Slices ![k, 0] (M 1 l)) (hc : (M 1 l).ShapeCasts ⟨1, ![l]⟩)
    (hb : (⟨1, ![l]⟩ : Shape).BroadcastsInDim (M 1 l) ![1]) (h : (M 1 l).BroadcastsInDim (M n l) ![0, 1]) (i : (M n l).Idx) :
    broadcastInDim (M n l) ![0, 1] h (broadcastInDim (M 1 l) ![1] hb (shapeCast ⟨1, ![l]⟩ (extractStridedSlice (M 1 l) ![k, 0] w hs) hc)) i = tap w k (i 1) := by
  have hT : k + 1 ≤ T := by simpa using hs.2 0
  rw [bias_at]
  have e1 := broadcastInDim_apply ![1] hb (shapeCast ⟨1, ![l]⟩ (extractStridedSlice (M 1 l) ![k, 0] w hs) hc) (ix2 (0 : Fin 1) (i 1)) (ix1 (i 1)) (by
    intro a; fin_cases a
    show (i 1).val = if l = 1 then 0 else (i 1).val
    split
    · have : (i 1).val < l := (i 1).isLt
      omega
    · rfl)
  have e2 := shapeCast_dropUnit_apply ![l] (extractStridedSlice (M 1 l) ![k, 0] w hs) hc (ix1 (i 1))
  have e3 := extractStridedSlice_apply ![k, 0] w hs (Fin.cons ⟨0, Nat.one_pos⟩ (ix1 (i 1))) (ix2 ⟨k, hT⟩ (i 1)) (by
    intro a; fin_cases a
    · rfl
    · exact (Nat.zero_add _).symm)
  exact e1.trans (e2.trans (e3.trans (tap_of w k _ hT).symm))

/-- A row of the reference's padded array. -/
theorem padded_at (x : FVec Ideal (M n l) .f32) (N k : ℕ) (hp : (M n l).Pads (![K, 0] : Fin 2 → ℕ) (![0, 0] : Fin 2 → ℕ) (![0, 0] : Fin 2 → ℕ) (M N l))
    (hu : 0 < (⟨0, ![]⟩ : Shape).numel) (hs : (M N l).Slices ![k, 0] (M n l)) (i : (M n l).Idx) :
    extractStridedSlice (M n l) ![k, 0] (pad (M N l) ![K, 0] ![0, 0] ![0, 0] x (sitofp (F := Ideal) .f32 (constantI ⟨0, ![]⟩ 32 0#32)) hp hu) hs i
      = past K x ((i 0).val + k) (i 1) := by
  refine past_apply x N k ?_ _ (fun _ => ?_) hp hu hs i
  · have h1 : k + n ≤ N := by simpa using hs.2 0
    have h2 : N = K + n := by simpa using hp.2 0
    omega
  · show ((((0#32 : BitVec 32).toInt : ℤ) : ℝ) : EReal) = 0
    norm_num

/-- A row spread over a tile. -/
theorem spread_at (w : FVec Ideal (M 1 b) .f32) (h : (M 1 b).Broadcasts (M T b)) (y : (M T b).Idx) : broadcastTo (M T b) w h y = w (ix2 0 (y 1)) :=
  broadcastTo_apply w h y (ix2 0 (y 1)) (by
    intro a; fin_cases a
    · rfl
    · show (y 1).val = if b = 1 then 0 else (y 1).val
      split
      · have : (y 1).val < b := (y 1).isLt
        omega
      · rfl)

/-- A tap's weight at a point, where the block's weights are the array's. -/
theorem point_weights {K' : ℕ} (W : FVec Ideal (M K' b) .f32) (w : FVec Ideal (M K' l) .f32) (g : Fin l) (j : Fin b) (hw : ∀ k, W (ix2 k j) = w (ix2 k g))
    (k : ℕ) (inb : ∀ a, (![k, 0] : Fin 2 → ℕ) a + (![1, b] : Fin 2 → ℕ) a ≤ (M K' b).size a) :
    View.ld (Val := Elt Ideal) (e' := .f32) W (Rect.unit (s := M K' b) ![k, 0] ![1, b] inb) (ix2 (0 : Fin 1) j) = tap w k g := by
  have hk : k + 1 ≤ K' := inb 0
  refine Eq.trans ?_ ((hw ⟨k, hk⟩).trans (tap_of w k g hk).symm)
  show W _ = W _
  congr 1
  funext a; apply Fin.ext
  fin_cases a
  · show k + 1 * 0 = k; omega
  · show 0 + 1 * j.val = j.val; omega

/-- The scalar test of the first tile. -/
theorem first_tile {α : Type} (i : ℕ) (hi : i < 64) (u v : α) : Scalar.select (Scalar.cmpi .eq (BitVec.ofNat 32 i) 0#32) u v = if i = 0 then u else v := by
  by_cases h : i = 0
  · subst h; rfl
  · rw [if_neg h]
    have hb : (BitVec.ofNat 32 i == 0#32) = false := by
      rw [beq_eq_false_iff_ne]
      intro e
      have := congrArg BitVec.toNat e
      simp at this
      omega
    show Scalar.select (BitVec.ofBool (BitVec.ofNat 32 i == 0#32)) u v = v
    rw [hb]
    rfl

/-- The reference's bias comes last, a point's first. -/
theorem taps_comm (s : Finset ℕ) (f w : ℕ → EReal) (d : EReal) : d + ∑ k ∈ s, w k * f k = ∑ k ∈ s, f k * w k + d := by
  rw [add_comm]
  exact congrArg (· + d) (Finset.sum_congr rfl fun k _ => mul_comm _ _)

section Ffn

open Cert.FfnConvFwdIdeal Cert.FfnConvFwdIdeal.Gen Cert.FfnConvFwdIdeal.Value

theorem ffn_indices : ∀ t : Fin cfg0.N, (win0_0.index t 0 = t.val % 64 ∧ win0_0.index t 1 = t.val / 64)
    ∧ (win0_1.index t 0 = t.val % 64 * 32 - 1 ∧ win0_1.index t 1 = t.val / 64) ∧ (win0_2.index t 0 = 0 ∧ win0_2.index t 1 = t.val / 64)
    ∧ (win0_3.index t 0 = 0 ∧ win0_3.index t 1 = t.val / 64) ∧ (win0_4.index t 0 = t.val % 64 ∧ win0_4.index t 1 = t.val / 64)
    ∧ (grid0.coords t 1).val = t.val % 64 :=
  (by decide +kernel : ∀ t : Fin grid0.N, _)

/-- The halo is zero at the first tile and its block elsewhere. -/
theorem ffn_halo (i : grid0.Coords) (x : FVec Ideal (M 8 1408) .f32) (y : (M 8 1408).Idx) :
    k0_pay1 (F := Ideal) i x y = if (i 1).val = 0 then 0 else x y := by
  unfold k0_pay1
  dsimp only
  rw [shapeCast_self, first_tile _ (i 1).isLt]
  split
  · exact Ideal.ofBits_zero_f32
  · rfl

/-- What a point writes. -/
theorem ffn_point (m : (ℓ : Loc nD τ sig) → Buf (Elt Ideal) ℓ) (c : Dev nD) (t : Fin cfg0.N) (y : (M 256 1408).Idx) (g : Fin 5632) (hg : g.val = t.val / 64 * 1408 + (y 1).val) :
    outsAt0 m c t y = (show FVec Ideal (M 1 5632) .f32 from V m c main_arg2) (ix2 0 g) + ∑ k ∈ Finset.range 3,
      tap (show FVec Ideal (M 3 5632) .f32 from V m c main_arg1) k g * past 2 (show FVec Ideal (M 16384 5632) .f32 from V m c main_arg0) (256 * (t.val % 64) + (y 0).val + k) g := by
  have hz : (![0, 0] : Fin 2 → ℕ) = fun _ => 0 := by funext a; fin_cases a <;> rfl
  obtain ⟨⟨a0, a1⟩, ⟨b0, b1⟩, ⟨w0, w1⟩, ⟨d0, d1⟩, -, hc⟩ := ffn_indices t
  have hx : ∀ (r : Fin 256) (q : Fin 16384), q.val = 256 * (t.val % 64) + r.val →
      k0_pay2 (F := Ideal) (iblk m c 0 t) (ix2 r (y 1)) = (show FVec Ideal (M 16384 5632) .f32 from V m c main_arg0) (ix2 q g) := fun r q hq => by
    unfold k0_pay2
    dsimp only
    rw [shapeCast_self]
    blk_ext [iblk, a0, a1, hq, hg]
  have hz0 : t.val % 64 = 0 → ∀ p : Fin 8, k0_pay1 (F := Ideal) (grid0.coords t) (iblk m c 1 t) (ix2 p (y 1)) = 0 := fun h p => by
    rw [ffn_halo, if_pos (hc.trans h)]
  have hz1 : t.val % 64 ≠ 0 → ∀ (p : Fin 8) (q : Fin 16384), q.val + 8 = 256 * (t.val % 64) + p.val →
      k0_pay1 (F := Ideal) (grid0.coords t) (iblk m c 1 t) (ix2 p (y 1)) = (show FVec Ideal (M 16384 5632) .f32 from V m c main_arg0) (ix2 q g) := fun h p q hq => by
    rw [ffn_halo, if_neg (by rwa [hc])]
    have hq' : q.val = (t.val % 64 * 32 - 1) * 8 + p.val := by omega
    blk_ext [iblk, b0, b1, hq', hg]
  have hw : ∀ j : Fin 3, (show FVec Ideal (M 3 1408) .f32 from iblk m c 2 t) (ix2 j (y 1)) = (show FVec Ideal (M 3 5632) .f32 from V m c main_arg1) (ix2 j g) := fun j => by
    blk_ext [iblk, w0, w1, hg]
  have hd : (show FVec Ideal (M 1 1408) .f32 from iblk m c 3 t) (ix2 0 (y 1)) = (show FVec Ideal (M 1 5632) .f32 from V m c main_arg2) (ix2 0 g) := by
    blk_ext [iblk, d0, d1, hg]
  unfold outsAt0 out0_A_4
  refine (congrFun (View.read_writes_eq_canon _ _ _ fun _ => cover0_A_4 ..) y).trans ?_
  unfold kernelRun0_A
  dsimp only
  sl_unfold_words
  rw [View.canon_unit_zero hz]
  simp only [View.readAt_eq_ld, (hs0_0 t).read_unread, (hs0_1 t).read_unread, (hs0_2 t).read_unread, (hs0_3 t).read_unread, (Memref.isWhole_whole _).read_unread,
    View.ld_unit_zero (S := S256x1408) hz, View.ld_unit_zero (S := S8x1408) hz, View.ld_unit_zero (S := S1x1408) hz]
  have hs : ∀ o (_ : 6 ≤ o) (_ : o ≤ 8) (inb : ∀ a, (![o, 0] : Fin 2 → ℕ) a + (![256, 1408] : Fin 2 → ℕ) a ≤ S264x1408.size a),
      (View.whole cc0_scratch0).readCov (Val := Elt Ideal) [⟨Rect.unit (s := S264x1408) ![8, 0] ![256, 1408] inb_S264x1408_S256x1408_8_0, k0_pay2 (F := Ideal) (iblk m c 0 t)⟩,
          ⟨Rect.unit (s := S264x1408) ![0, 0] ![8, 1408] inb_S264x1408_S8x1408_0_0, k0_pay1 (F := Ideal) (grid0.coords t) (iblk m c 1 t)⟩]
        (Rect.unit (s := S264x1408) ![o, 0] ![256, 1408] inb).toLoadRect y = past 2 (V m c main_arg0) (256 * (t.val % 64) + (y 0).val + (o - 6)) g :=
    fun o h1 h2 inb => stage_past (H := 8) (K := 2) (View.whole cc0_scratch0) _ _ _ _ o inb y _ (o - 6) (t.val % 64) g (by omega) (by omega) (by norm_num)
      (by have := Nat.mod_lt t.val (show 0 < 64 by norm_num); omega) hx hz0 hz1
  have ht : ∀ k (inb : ∀ a, (![k, 0] : Fin 2 → ℕ) a + (![1, 1408] : Fin 2 → ℕ) a ≤ S3x1408.size a),
      View.ld (Val := Elt Ideal) (iblk m c 2 t) (Rect.unit (s := S3x1408) ![k, 0] ![1, 1408] inb) (ix2 (0 : Fin 1) (y 1)) = tap (V m c main_arg1) k g :=
    fun k inb => point_weights _ _ g (y 1) hw k inb
  replace hd : iblk m c 3 t (ix2 (0 : Fin 1) (y 1)) = V m c main_arg2 (ix2 (0 : Fin 1) g) := hd
  unfold k0_pay3
  simp (discharger := norm_num) only [add_at, mul_at, shapeCast_self, spread_at, Finset.sum_range_succ, Finset.sum_range_zero, zero_add, ← add_assoc, hs, ht, hd, Nat.reduceSub]

theorem ffn_final (m : (ℓ : Loc nD τ sig) → Buf (Elt Ideal) ℓ) (c : Dev nD) :
    (dats m 0 c).arrAt 4 cfg0.N = conv (show FVec Ideal (M 16384 5632) .f32 from V m c main_arg0) (show FVec Ideal (M 3 5632) .f32 from V m c main_arg1) (show FVec Ideal (M 1 5632) .f32 from V m c main_arg2) := by
  refine (dats m 0 c).arrAt_eq_of_covers 4 _ (by decide +kernel) fun t hf y => ?_
  obtain ⟨-, -, -, -, ⟨e0, e1⟩, -⟩ := ffn_indices t
  blk_simp
  rw [after0_4]
  frame_out
  have h0 : (((View.whole main_v0).slice (win0_4.rect t)).emb y 0).val = 256 * (t.val % 64) + (y 0).val := by
    show win0_4.index t 0 * 256 + 1 * (y 0).val = _
    rw [e0]; omega
  have h1 : (((View.whole main_v0).slice (win0_4.rect t)).emb y 1).val = t.val / 64 * 1408 + (y 1).val := by
    show win0_4.index t 1 * 1408 + 1 * (y 1).val = _
    rw [e1]; omega
  refine (ffn_point m c t y _ h1).trans ((taps_comm _ _ _ _).trans ?_)
  rw [← h0]
  rfl

/-- The two runs of the feed-forward convolution end equal. -/
theorem ffn_conv_fwd : Cert.algebraic_FfnConvFwdIdeal_FfnConvFwdRefIdeal := fun m g m' g' _ hX => by
  refine ⟨_, (θ_run (Cert.FfnConvFwdIdeal.defs (F := Ideal)) _ _).mono (fun _ h c => ⟨(h c).1.trans (ffn_final m c), (h c).2⟩)
      (Cert.FfnConvFwdIdeal.Value.run_blocks (F := Ideal) m g),
    (θ_run (Cert.FfnConvFwdRefIdeal.defs (F := Ideal)) _ _).mono (fun _ h c => ⟨(h c).1.trans ?_, (h c).2⟩)
      (Cert.FfnConvFwdRefIdeal.Value.run (F := Ideal) m' g')⟩
  rw [(hX c).1, (hX c).2.1, (hX c).2.2]
  funext i
  simp only [conv, Finset.sum_range_succ, Finset.sum_range_zero, Nat.reduceSub]
  refine congrArg₂ (· + ·) ?_ (bias_at _ _ i)
  iterate 3 refine congrArg₂ (· + ·) ?_ (congrArg₂ (· * ·) (padded_at _ _ _ _ _ _ i) (weights_at _ _ _ _ _ _ i))
  exact zeros_at _ i

end Ffn

section Glu

open Cert.ConvFwdIdeal Cert.ConvFwdIdeal.Gen Cert.ConvFwdIdeal.Value

/-- The reference's gated projection. -/
abbrev glu (P : FVec Ideal (M 16384 10240) .f32) : FVec Ideal (M 16384 1024) .f32 :=
  mulf (extractStridedSlice ConvFwdRefIdeal.S16384x1024 ![0, 6144] P ConvFwdRefIdeal.Facts₀.slices_S16384x10240_S16384x1024_0_6144)
    (Host.divf (broadcastInDim ConvFwdRefIdeal.S16384x1024 ![] ConvFwdRefIdeal.Facts₀.bcast_S_S16384x1024 (constant ConvFwdRefIdeal.S_ .f32 0x3F800000#32))
      (addf (broadcastInDim ConvFwdRefIdeal.S16384x1024 ![] ConvFwdRefIdeal.Facts₀.bcast_S_S16384x1024 (constant ConvFwdRefIdeal.S_ .f32 0x3F800000#32))
        (Host.exp (Host.negf (extractStridedSlice ConvFwdRefIdeal.S16384x1024 ![0, 7168] P ConvFwdRefIdeal.Facts₀.slices_S16384x10240_S16384x1024_0_7168)))))

theorem glu_apply (P : FVec Ideal (M 16384 10240) .f32) (q : Fin 16384) (g : Fin 1024) (u v : Fin 10240) (hu : u.val = 6144 + g.val) (hv : v.val = 7168 + g.val) :
    glu P (ix2 q g) = P (ix2 q u) * Ideal.logistic (P (ix2 q v)) := by
  unfold glu
  rw [AdaBwdValue.logistic_eq]
  have e1 := extractStridedSlice_apply ![0, 6144] P ConvFwdRefIdeal.Facts₀.slices_S16384x10240_S16384x1024_0_6144 (ix2 q g) (ix2 q u) (by
    intro a; fin_cases a
    · exact (Nat.zero_add _).symm
    · exact hu)
  have e2 := extractStridedSlice_apply ![0, 7168] P ConvFwdRefIdeal.Facts₀.slices_S16384x10240_S16384x1024_0_7168 (ix2 q g) (ix2 q v) (by
    intro a; fin_cases a
    · exact (Nat.zero_add _).symm
    · exact hv)
  exact congrArg₂ (· * ·) e1 (congrArg Ideal.logistic e2)

theorem glu_indices : ∀ t : Fin cfg0.N, (win0_0.index t 0 = t.val % 64 ∧ win0_0.index t 1 = 24 + t.val / 64)
    ∧ (win0_1.index t 0 = t.val % 64 ∧ win0_1.index t 1 = 28 + t.val / 64) ∧ (win0_2.index t 0 = t.val % 64 * 8 - 1 ∧ win0_2.index t 1 = 24 + t.val / 64)
    ∧ (win0_3.index t 0 = t.val % 64 * 8 - 1 ∧ win0_3.index t 1 = 28 + t.val / 64) ∧ (win0_4.index t 0 = 0 ∧ win0_4.index t 1 = t.val / 64)
    ∧ (win0_5.index t 0 = 0 ∧ win0_5.index t 1 = t.val / 64) ∧ (win0_6.index t 0 = t.val % 64 ∧ win0_6.index t 1 = t.val / 64)
    ∧ (grid0.coords t 1).val = t.val % 64 :=
  (by decide +kernel : ∀ t : Fin grid0.N, _)

/-- The gated tile. -/
theorem glu_tile (x z : FVec Ideal (M 256 256) .f32) (y : (M 256 256).Idx) : k0_pay3 (F := Ideal) x z y = x y * Ideal.logistic (z y) := by
  unfold k0_pay3
  rw [shapeCast_self]
  rfl

/-- The gated halo is zero at the first tile. -/
theorem glu_halo (i : grid0.Coords) (x z : FVec Ideal (M 32 256) .f32) (y : (M 32 256).Idx) :
    k0_pay2 (F := Ideal) i x z y = if (i 1).val = 0 then 0 else x y * Ideal.logistic (z y) := by
  unfold k0_pay2
  dsimp only
  rw [shapeCast_self, first_tile _ (i 1).isLt]
  split
  · exact Ideal.ofBits_zero_f32
  · rfl

/-- What a point writes. -/
theorem glu_point (m : (ℓ : Loc nD τ sig) → Buf (Elt Ideal) ℓ) (c : Dev nD) (t : Fin cfg0.N) (y : (M 256 256).Idx) (g : Fin 1024) (hg : g.val = t.val / 64 * 256 + (y 1).val) :
    outsAt0 m c t y = (show FVec Ideal (M 1 1024) .f32 from V m c main_arg2) (ix2 0 g) + ∑ k ∈ Finset.range 31,
      tap (show FVec Ideal (M 31 1024) .f32 from V m c main_arg1) k g * past 30 (glu (V m c main_arg0)) (256 * (t.val % 64) + (y 0).val + k) g := by
  have hz : (![0, 0] : Fin 2 → ℕ) = fun _ => 0 := by funext a; fin_cases a <;> rfl
  obtain ⟨⟨a0, a1⟩, ⟨b0, b1⟩, ⟨p0, p1⟩, ⟨q0, q1⟩, ⟨w0, w1⟩, ⟨d0, d1⟩, -, hc⟩ := glu_indices t
  have hy : (y 1).val < 256 := (y 1).isLt
  have hl := g.isLt
  obtain ⟨u, hu⟩ : ∃ u : Fin 10240, u.val = 6144 + g.val := ⟨⟨6144 + g.val, by omega⟩, rfl⟩
  obtain ⟨v, hv⟩ : ∃ v : Fin 10240, v.val = 7168 + g.val := ⟨⟨7168 + g.val, by omega⟩, rfl⟩
  have hu' : u.val = (24 + t.val / 64) * 256 + (y 1).val := by omega
  have hv' : v.val = (28 + t.val / 64) * 256 + (y 1).val := by omega
  have hx : ∀ (r : Fin 256) (q : Fin 16384), q.val = 256 * (t.val % 64) + r.val →
      k0_pay3 (F := Ideal) (iblk m c 0 t) (iblk m c 1 t) (ix2 r (y 1)) = glu (V m c main_arg0) (ix2 q g) := fun r q hq => by
    have hq' : q.val = t.val % 64 * 256 + r.val := by omega
    rw [glu_tile, glu_apply _ q g u v hu hv]
    refine congrArg₂ (· * ·) ?_ (congrArg Ideal.logistic ?_)
    · blk_ext [iblk, a0, a1, hq', hu']
    · blk_ext [iblk, b0, b1, hq', hv']
  have hz0 : t.val % 64 = 0 → ∀ p : Fin 32, k0_pay2 (F := Ideal) (grid0.coords t) (iblk m c 2 t) (iblk m c 3 t) (ix2 p (y 1)) = 0 := fun h p => by
    rw [glu_halo, if_pos (hc.trans h)]
  have hz1 : t.val % 64 ≠ 0 → ∀ (p : Fin 32) (q : Fin 16384), q.val + 32 = 256 * (t.val % 64) + p.val →
      k0_pay2 (F := Ideal) (grid0.coords t) (iblk m c 2 t) (iblk m c 3 t) (ix2 p (y 1)) = glu (V m c main_arg0) (ix2 q g) := fun h p q hq => by
    have hq' : q.val = (t.val % 64 * 8 - 1) * 32 + p.val := by omega
    rw [glu_halo, if_neg (by rwa [hc]), glu_apply _ q g u v hu hv]
    refine congrArg₂ (· * ·) ?_ (congrArg Ideal.logistic ?_)
    · blk_ext [iblk, p0, p1, hq', hu']
    · blk_ext [iblk, q0, q1, hq', hv']
  have hw : ∀ j : Fin 31, (show FVec Ideal (M 31 256) .f32 from iblk m c 4 t) (ix2 j (y 1)) = (show FVec Ideal (M 31 1024) .f32 from V m c main_arg1) (ix2 j g) := fun j => by
    blk_ext [iblk, w0, w1, hg]
  have hd : (show FVec Ideal (M 1 256) .f32 from iblk m c 5 t) (ix2 0 (y 1)) = (show FVec Ideal (M 1 1024) .f32 from V m c main_arg2) (ix2 0 g) := by
    blk_ext [iblk, d0, d1, hg]
  have hs : ∀ o (_ : 2 ≤ o) (_ : o ≤ 32) (inb : ∀ a, (![o, 0] : Fin 2 → ℕ) a + (![256, 256] : Fin 2 → ℕ) a ≤ S288x256.size a),
      (View.whole cc0_scratch0).readCov (Val := Elt Ideal) [⟨Rect.unit (s := S288x256) ![32, 0] ![256, 256] inb_S288x256_S256x256_32_0, k0_pay3 (F := Ideal) (iblk m c 0 t) (iblk m c 1 t)⟩,
          ⟨Rect.unit (s := S288x256) ![0, 0] ![32, 256] inb_S288x256_S32x256_0_0, k0_pay2 (F := Ideal) (grid0.coords t) (iblk m c 2 t) (iblk m c 3 t)⟩]
        (Rect.unit (s := S288x256) ![o, 0] ![256, 256] inb).toLoadRect y = past 30 (glu (V m c main_arg0)) (256 * (t.val % 64) + (y 0).val + (o - 2)) g :=
    fun o h1 h2 inb => stage_past (H := 32) (K := 30) (View.whole cc0_scratch0) _ _ _ _ o inb y _ (o - 2) (t.val % 64) g (by omega) (by omega) (by norm_num)
      (by have := Nat.mod_lt t.val (show 0 < 64 by norm_num); omega) hx hz0 hz1
  have ht : ∀ k (inb : ∀ a, (![k, 0] : Fin 2 → ℕ) a + (![1, 256] : Fin 2 → ℕ) a ≤ S31x256.size a),
      View.ld (Val := Elt Ideal) (iblk m c 4 t) (Rect.unit (s := S31x256) ![k, 0] ![1, 256] inb) (ix2 (0 : Fin 1) (y 1)) = tap (V m c main_arg1) k g :=
    fun k inb => point_weights _ _ g (y 1) hw k inb
  replace hd : iblk m c 5 t (ix2 (0 : Fin 1) (y 1)) = V m c main_arg2 (ix2 (0 : Fin 1) g) := hd
  unfold outsAt0 out0_A_6
  refine (congrFun (View.read_writes_eq_canon _ _ _ fun _ => cover0_A_6 ..) y).trans ?_
  unfold kernelRun0_A
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, (Memref.isWhole_whole _).read_unread,
    View.ld_unit_zero (S := S256x256) hz, View.ld_unit_zero (S := S32x256) hz, View.ld_unit_zero (S := S1x256) hz]
  unfold k0_pay1 k0_pay4 k0_pay5 k0_pay6 k0_pay7 k0_pay8 k0_pay9 k0_pay10
  simp (discharger := norm_num) only [add_at, mul_at, shapeCast_self, spread_at, Finset.sum_range_succ, Finset.sum_range_zero, zero_add, ← add_assoc, hs, ht, hd, Nat.reduceSub]

theorem glu_final (m : (ℓ : Loc nD τ sig) → Buf (Elt Ideal) ℓ) (c : Dev nD) :
    (dats m 0 c).arrAt 6 cfg0.N = conv (glu (V m c main_arg0)) (show FVec Ideal (M 31 1024) .f32 from V m c main_arg1) (show FVec Ideal (M 1 1024) .f32 from V m c main_arg2) := by
  refine (dats m 0 c).arrAt_eq_of_covers 6 _ (by decide +kernel) fun t hf y => ?_
  obtain ⟨-, -, -, -, -, -, ⟨e0, e1⟩, -⟩ := glu_indices t
  blk_simp
  rw [after0_6]
  frame_out
  have h0 : (((View.whole main_v0).slice (win0_6.rect t)).emb y 0).val = 256 * (t.val % 64) + (y 0).val := by
    show win0_6.index t 0 * 256 + 1 * (y 0).val = _
    rw [e0]; omega
  have h1 : (((View.whole main_v0).slice (win0_6.rect t)).emb y 1).val = t.val / 64 * 256 + (y 1).val := by
    show win0_6.index t 1 * 256 + 1 * (y 1).val = _
    rw [e1]; omega
  refine (glu_point m c t y _ h1).trans ((taps_comm _ _ _ _).trans ?_)
  rw [← h0]
  rfl

/-- The two runs of the convolution of the gated projection end equal. -/
theorem conv_fwd : Cert.algebraic_ConvFwdIdeal_ConvFwdRefIdeal := fun m g m' g' _ hX => by
  refine ⟨_, (θ_run (Cert.ConvFwdIdeal.defs (F := Ideal)) _ _).mono (fun _ h c => ⟨(h c).1.trans (glu_final m c), (h c).2⟩)
      (Cert.ConvFwdIdeal.Value.run_blocks (F := Ideal) m g),
    (θ_run (Cert.ConvFwdRefIdeal.defs (F := Ideal)) _ _).mono (fun _ h c => ⟨(h c).1.trans ?_, (h c).2⟩)
      (Cert.ConvFwdRefIdeal.Value.run (F := Ideal) m' g')⟩
  unfold ConvFwdRefIdeal.Value.res_main_v164 ConvFwdRefIdeal.Value.res_main_v87 ConvFwdRefIdeal.Value.res_main_v9
  have h0 : StableHlo.launchContents m' c (Proc.tc.devRef ConvFwdRefIdeal.main_arg0) = V m c main_arg0 := (hX c).1
  have h1 : StableHlo.launchContents m' c (Proc.tc.devRef ConvFwdRefIdeal.main_arg1) = V m c main_arg1 := (hX c).2.1
  have h2 : StableHlo.launchContents m' c (Proc.tc.devRef ConvFwdRefIdeal.main_arg2) = V m c main_arg2 := (hX c).2.2
  rw [h0, h1, h2]
  funext i
  simp only [conv, Finset.sum_range_succ, Finset.sum_range_zero, Nat.reduceSub]
  refine congrArg₂ (· + ·) ?_ (bias_at _ _ i)
  iterate 31 refine congrArg₂ (· + ·) ?_ (congrArg₂ (· * ·) (padded_at _ _ _ _ _ _ i) (weights_at _ _ _ _ _ _ i))
  exact zeros_at _ i

end Glu

end Cert.ConvValue

end
-- ==== Proof.lean ====
/-
# The claims

Each exchange call's run (its module), over any float values, gives both its frames and, with the reference's generated
run and the equation between the two values, both its value claims. The calls on one device have generated frames; their
values are their modules' equations.
-/
module

public import proofs.«01_k».proof.Defs
public import proofs.«01_k».proof.Proof.Gen.Swap
public import proofs.«01_k».proof.Proof.Gen.SwapIdeal
public import proofs.«01_k».proof.Proof.Gen.SwapRefIdeal
public import proofs.«01_k».proof.Proof.Gen.SwapRefIdeal.Run
public import proofs.«01_k».proof.Proof.Gen.SwapRef
public import proofs.«01_k».proof.Proof.Gen.Alltoall
public import proofs.«01_k».proof.Proof.Gen.AlltoallIdeal
public import proofs.«01_k».proof.Proof.Gen.AlltoallRefIdeal
public import proofs.«01_k».proof.Proof.Gen.AlltoallRefIdeal.Run
public import proofs.«01_k».proof.Proof.Gen.AlltoallRef
public import proofs.«01_k».proof.Proof.Gen.Join
public import proofs.«01_k».proof.Proof.Gen.JoinIdeal
public import proofs.«01_k».proof.Proof.Gen.JoinRefIdeal
public import proofs.«01_k».proof.Proof.Gen.JoinRefIdeal.Run
public import proofs.«01_k».proof.Proof.Gen.JoinRef
public import proofs.«01_k».proof.Proof.Gen.Gather
public import proofs.«01_k».proof.Proof.Gen.GatherIdeal
public import proofs.«01_k».proof.Proof.Gen.GatherRefIdeal
public import proofs.«01_k».proof.Proof.Gen.GatherRefIdeal.Run
public import proofs.«01_k».proof.Proof.Gen.GatherRef
public import proofs.«01_k».proof.Proof.AlltoallValue
public import proofs.«01_k».proof.Proof.JoinValue
public import proofs.«01_k».proof.Proof.Gathers
public import proofs.«01_k».proof.Proof.Gen.AdaFwd
public import proofs.«01_k».proof.Proof.Gen.AdaFwd.Frame
public import proofs.«01_k».proof.Proof.Gen.AdaFwdIdeal
public import proofs.«01_k».proof.Proof.Gen.AdaFwdIdeal.Value
public import proofs.«01_k».proof.Proof.Gen.AdaFwdRefIdeal
public import proofs.«01_k».proof.Proof.Gen.AdaFwdRefIdeal.Run
public import proofs.«01_k».proof.Proof.Gen.PairSum
public import proofs.«01_k».proof.Proof.Gen.PairSum.Frame
public import proofs.«01_k».proof.Proof.Gen.PairSumIdeal
public import proofs.«01_k».proof.Proof.Gen.PairSumIdeal.Value
public import proofs.«01_k».proof.Proof.Gen.PairSumRefIdeal
public import proofs.«01_k».proof.Proof.Gen.PairSumRefIdeal.Run
public import proofs.«01_k».proof.Proof.Gen.ChipSum
public import proofs.«01_k».proof.Proof.Gen.ChipSum.Frame
public import proofs.«01_k».proof.Proof.Gen.ChipSumIdeal
public import proofs.«01_k».proof.Proof.Gen.ChipSumIdeal.Value
public import proofs.«01_k».proof.Proof.Gen.ChipSumRefIdeal
public import proofs.«01_k».proof.Proof.Gen.ChipSumRefIdeal.Run
public import proofs.«01_k».proof.Proof.Gen.LnMod
public import proofs.«01_k».proof.Proof.Gen.LnMod.Frame
public import proofs.«01_k».proof.Proof.Gen.LnModIdeal
public import proofs.«01_k».proof.Proof.Gen.LnModIdeal.Value
public import proofs.«01_k».proof.Proof.Gen.LnModRefIdeal
public import proofs.«01_k».proof.Proof.Gen.LnModRefIdeal.Run
public import proofs.«01_k».proof.Proof.Gen.GatherSmall
public import proofs.«01_k».proof.Proof.Gen.GatherSmallIdeal
public import proofs.«01_k».proof.Proof.Gen.GatherSmallRefIdeal
public import proofs.«01_k».proof.Proof.Gen.GatherSmallRefIdeal.Run
public import proofs.«01_k».proof.Proof.Gen.GatherSmallRef
public import proofs.«01_k».proof.Proof.Gen.GatherMod
public import proofs.«01_k».proof.Proof.Gen.GatherModIdeal
public import proofs.«01_k».proof.Proof.Gen.GatherModRefIdeal
public import proofs.«01_k».proof.Proof.Gen.GatherModRefIdeal.Run
public import proofs.«01_k».proof.Proof.Gen.GatherModRef
public import proofs.«01_k».proof.Proof.Gen.GatherParts
public import proofs.«01_k».proof.Proof.Gen.GatherPartsIdeal
public import proofs.«01_k».proof.Proof.Gen.GatherPartsRefIdeal
public import proofs.«01_k».proof.Proof.Gen.GatherPartsRefIdeal.Run
public import proofs.«01_k».proof.Proof.Gen.GatherPartsRef
public import proofs.«01_k».proof.Proof.SwapValue
public import proofs.«01_k».proof.Proof.Gen.AdamBig
public import proofs.«01_k».proof.Proof.Gen.AdamBig.Frame
public import proofs.«01_k».proof.Proof.Gen.AdamBigIdeal
public import proofs.«01_k».proof.Proof.Gen.AdamBigRefIdeal
public import proofs.«01_k».proof.Proof.Gen.AdamBigRefIdeal.Run
public import proofs.«01_k».proof.Proof.Gen.AdamAda
public import proofs.«01_k».proof.Proof.Gen.AdamAda.Frame
public import proofs.«01_k».proof.Proof.Gen.AdamAdaIdeal
public import proofs.«01_k».proof.Proof.Gen.AdamAdaRefIdeal
public import proofs.«01_k».proof.Proof.Gen.AdamAdaRefIdeal.Run
public import proofs.«01_k».proof.Proof.Gen.AdamSmall
public import proofs.«01_k».proof.Proof.Gen.AdamSmall.Frame
public import proofs.«01_k».proof.Proof.Gen.AdamSmallIdeal
public import proofs.«01_k».proof.Proof.Gen.AdamSmallRefIdeal
public import proofs.«01_k».proof.Proof.Gen.AdamSmallRefIdeal.Run
public import proofs.«01_k».proof.Proof.Gen.AdaBwd
public import proofs.«01_k».proof.Proof.Gen.AdaBwd.Frame
public import proofs.«01_k».proof.Proof.Gen.AdaBwdIdeal
public import proofs.«01_k».proof.Proof.Gen.AdaBwdRefIdeal
public import proofs.«01_k».proof.Proof.Gen.AdaBwdRefIdeal.Run
public import proofs.«01_k».proof.Proof.Gen.SmallSum
public import proofs.«01_k».proof.Proof.Gen.SmallSum.Frame
public import proofs.«01_k».proof.Proof.Gen.SmallSumIdeal
public import proofs.«01_k».proof.Proof.Gen.SmallSumRefIdeal
public import proofs.«01_k».proof.Proof.Gen.SmallSumRefIdeal.Run
public import proofs.«01_k».proof.Proof.Gen.Loss
public import proofs.«01_k».proof.Proof.Gen.Loss.Frame
public import proofs.«01_k».proof.Proof.Gen.LossIdeal
public import proofs.«01_k».proof.Proof.Gen.LossRefIdeal
public import proofs.«01_k».proof.Proof.Gen.LossRefIdeal.Run
public import proofs.«01_k».proof.Proof.Gen.GradX
public import proofs.«01_k».proof.Proof.Gen.GradX.Frame
public import proofs.«01_k».proof.Proof.Gen.GradXIdeal
public import proofs.«01_k».proof.Proof.Gen.GradXRefIdeal
public import proofs.«01_k».proof.Proof.Gen.GradXRefIdeal.Run
public import proofs.«01_k».proof.Proof.Gen.ConvNorm
public import proofs.«01_k».proof.Proof.Gen.ConvNorm.Frame
public import proofs.«01_k».proof.Proof.Gen.ConvNormIdeal
public import proofs.«01_k».proof.Proof.Gen.ConvNormIdeal.Value
public import proofs.«01_k».proof.Proof.Gen.ConvNormRefIdeal
public import proofs.«01_k».proof.Proof.Gen.ConvNormRefIdeal.Run
public import proofs.«01_k».proof.Proof.Gen.RetNorm
public import proofs.«01_k».proof.Proof.Gen.RetNorm.Frame
public import proofs.«01_k».proof.Proof.Gen.RetNormIdeal
public import proofs.«01_k».proof.Proof.Gen.RetNormIdeal.Value
public import proofs.«01_k».proof.Proof.Gen.RetNormRefIdeal
public import proofs.«01_k».proof.Proof.Gen.RetNormRefIdeal.Run
public import proofs.«01_k».proof.Proof.Gen.Merge
public import proofs.«01_k».proof.Proof.Gen.Merge.Frame
public import proofs.«01_k».proof.Proof.Gen.MergeIdeal
public import proofs.«01_k».proof.Proof.Gen.MergeIdeal.Value
public import proofs.«01_k».proof.Proof.Gen.MergeRefIdeal
public import proofs.«01_k».proof.Proof.Gen.MergeRefIdeal.Run
public import proofs.«01_k».proof.Proof.Gen.Post
public import proofs.«01_k».proof.Proof.Gen.Post.Frame
public import proofs.«01_k».proof.Proof.Gen.PostIdeal
public import proofs.«01_k».proof.Proof.Gen.PostIdeal.Value
public import proofs.«01_k».proof.Proof.Gen.PostRefIdeal
public import proofs.«01_k».proof.Proof.Gen.PostRefIdeal.Run
public import proofs.«01_k».proof.Proof.Gen.FfnGate
public import proofs.«01_k».proof.Proof.Gen.FfnGate.Frame
public import proofs.«01_k».proof.Proof.Gen.FfnGateIdeal
public import proofs.«01_k».proof.Proof.Gen.FfnGateIdeal.Value
public import proofs.«01_k».proof.Proof.Gen.FfnGateRefIdeal
public import proofs.«01_k».proof.Proof.Gen.FfnGateRefIdeal.Run
public import proofs.«01_k».proof.Proof.Gen.CastWeights
public import proofs.«01_k».proof.Proof.Gen.CastWeights.Frame
public import proofs.«01_k».proof.Proof.Gen.CastWeightsIdeal
public import proofs.«01_k».proof.Proof.Gen.CastWeightsIdeal.Value
public import proofs.«01_k».proof.Proof.Gen.CastWeightsRefIdeal
public import proofs.«01_k».proof.Proof.Gen.CastWeightsRefIdeal.Run
public import proofs.«01_k».proof.Proof.Gen.MmIn
public import proofs.«01_k».proof.Proof.Gen.MmIn.Frame
public import proofs.«01_k».proof.Proof.Gen.MmInIdeal
public import proofs.«01_k».proof.Proof.Gen.MmInIdeal.Value
public import proofs.«01_k».proof.Proof.Gen.MmInRefIdeal
public import proofs.«01_k».proof.Proof.Gen.MmInRefIdeal.Run
public import proofs.«01_k».proof.Proof.Gen.MmUp
public import proofs.«01_k».proof.Proof.Gen.MmUp.Frame
public import proofs.«01_k».proof.Proof.Gen.MmUpIdeal
public import proofs.«01_k».proof.Proof.Gen.MmUpIdeal.Value
public import proofs.«01_k».proof.Proof.Gen.MmUpRefIdeal
public import proofs.«01_k».proof.Proof.Gen.MmUpRefIdeal.Run
public import proofs.«01_k».proof.Proof.Gen.MmConvOut
public import proofs.«01_k».proof.Proof.Gen.MmConvOut.Frame
public import proofs.«01_k».proof.Proof.Gen.MmConvOutIdeal
public import proofs.«01_k».proof.Proof.Gen.MmConvOutIdeal.Value
public import proofs.«01_k».proof.Proof.Gen.MmConvOutRefIdeal
public import proofs.«01_k».proof.Proof.Gen.MmConvOutRefIdeal.Run
public import proofs.«01_k».proof.Proof.Gen.MmRetOut
public import proofs.«01_k».proof.Proof.Gen.MmRetOut.Frame
public import proofs.«01_k».proof.Proof.Gen.MmRetOutIdeal
public import proofs.«01_k».proof.Proof.Gen.MmRetOutIdeal.Value
public import proofs.«01_k».proof.Proof.Gen.MmRetOutRefIdeal
public import proofs.«01_k».proof.Proof.Gen.MmRetOutRefIdeal.Run
public import proofs.«01_k».proof.Proof.Gen.MmOut
public import proofs.«01_k».proof.Proof.Gen.MmOut.Frame
public import proofs.«01_k».proof.Proof.Gen.MmOutIdeal
public import proofs.«01_k».proof.Proof.Gen.MmOutIdeal.Value
public import proofs.«01_k».proof.Proof.Gen.MmOutRefIdeal
public import proofs.«01_k».proof.Proof.Gen.MmOutRefIdeal.Run
public import proofs.«01_k».proof.Proof.Gen.MmDown
public import proofs.«01_k».proof.Proof.Gen.MmDown.Frame
public import proofs.«01_k».proof.Proof.Gen.MmDownIdeal
public import proofs.«01_k».proof.Proof.Gen.MmDownIdeal.Value
public import proofs.«01_k».proof.Proof.Gen.MmDownRefIdeal
public import proofs.«01_k».proof.Proof.Gen.MmDownRefIdeal.Run
public import proofs.«01_k».proof.Proof.Gen.MmDownDx
public import proofs.«01_k».proof.Proof.Gen.MmDownDx.Frame
public import proofs.«01_k».proof.Proof.Gen.MmDownDxIdeal
public import proofs.«01_k».proof.Proof.Gen.MmDownDxIdeal.Value
public import proofs.«01_k».proof.Proof.Gen.MmDownDxRefIdeal
public import proofs.«01_k».proof.Proof.Gen.MmDownDxRefIdeal.Run
public import proofs.«01_k».proof.Proof.Gen.MmOutDx
public import proofs.«01_k».proof.Proof.Gen.MmOutDx.Frame
public import proofs.«01_k».proof.Proof.Gen.MmOutDxIdeal
public import proofs.«01_k».proof.Proof.Gen.MmOutDxIdeal.Value
public import proofs.«01_k».proof.Proof.Gen.MmOutDxRefIdeal
public import proofs.«01_k».proof.Proof.Gen.MmOutDxRefIdeal.Run
public import proofs.«01_k».proof.Proof.Gen.MmConvOutDx
public import proofs.«01_k».proof.Proof.Gen.MmConvOutDx.Frame
public import proofs.«01_k».proof.Proof.Gen.MmConvOutDxIdeal
public import proofs.«01_k».proof.Proof.Gen.MmConvOutDxIdeal.Value
public import proofs.«01_k».proof.Proof.Gen.MmConvOutDxRefIdeal
public import proofs.«01_k».proof.Proof.Gen.MmConvOutDxRefIdeal.Run
public import proofs.«01_k».proof.Proof.Gen.MmRetOutDx
public import proofs.«01_k».proof.Proof.Gen.MmRetOutDx.Frame
public import proofs.«01_k».proof.Proof.Gen.MmRetOutDxIdeal
public import proofs.«01_k».proof.Proof.Gen.MmRetOutDxIdeal.Value
public import proofs.«01_k».proof.Proof.Gen.MmRetOutDxRefIdeal
public import proofs.«01_k».proof.Proof.Gen.MmRetOutDxRefIdeal.Run
public import proofs.«01_k».proof.Proof.Gen.MmUpDx
public import proofs.«01_k».proof.Proof.Gen.MmUpDx.Frame
public import proofs.«01_k».proof.Proof.Gen.MmUpDxIdeal
public import proofs.«01_k».proof.Proof.Gen.MmUpDxIdeal.Value
public import proofs.«01_k».proof.Proof.Gen.MmUpDxRefIdeal
public import proofs.«01_k».proof.Proof.Gen.MmUpDxRefIdeal.Run
public import proofs.«01_k».proof.Proof.Gen.MmInDx
public import proofs.«01_k».proof.Proof.Gen.MmInDx.Frame
public import proofs.«01_k».proof.Proof.Gen.MmInDxIdeal
public import proofs.«01_k».proof.Proof.Gen.MmInDxIdeal.Value
public import proofs.«01_k».proof.Proof.Gen.MmInDxRefIdeal
public import proofs.«01_k».proof.Proof.Gen.MmInDxRefIdeal.Run
public import proofs.«01_k».proof.Proof.Gen.MmDownDw
public import proofs.«01_k».proof.Proof.Gen.MmDownDw.Frame
public import proofs.«01_k».proof.Proof.Gen.MmDownDwIdeal
public import proofs.«01_k».proof.Proof.Gen.MmDownDwIdeal.Value
public import proofs.«01_k».proof.Proof.Gen.MmDownDwRefIdeal
public import proofs.«01_k».proof.Proof.Gen.MmDownDwRefIdeal.Run
public import proofs.«01_k».proof.Proof.Gen.MmOutDw
public import proofs.«01_k».proof.Proof.Gen.MmOutDw.Frame
public import proofs.«01_k».proof.Proof.Gen.MmOutDwIdeal
public import proofs.«01_k».proof.Proof.Gen.MmOutDwIdeal.Value
public import proofs.«01_k».proof.Proof.Gen.MmOutDwRefIdeal
public import proofs.«01_k».proof.Proof.Gen.MmOutDwRefIdeal.Run
public import proofs.«01_k».proof.Proof.Gen.MmConvOutDw
public import proofs.«01_k».proof.Proof.Gen.MmConvOutDw.Frame
public import proofs.«01_k».proof.Proof.Gen.MmConvOutDwIdeal
public import proofs.«01_k».proof.Proof.Gen.MmConvOutDwIdeal.Value
public import proofs.«01_k».proof.Proof.Gen.MmConvOutDwRefIdeal
public import proofs.«01_k».proof.Proof.Gen.MmConvOutDwRefIdeal.Run
public import proofs.«01_k».proof.Proof.Gen.MmRetOutDw
public import proofs.«01_k».proof.Proof.Gen.MmRetOutDw.Frame
public import proofs.«01_k».proof.Proof.Gen.MmRetOutDwIdeal
public import proofs.«01_k».proof.Proof.Gen.MmRetOutDwIdeal.Value
public import proofs.«01_k».proof.Proof.Gen.MmRetOutDwRefIdeal
public import proofs.«01_k».proof.Proof.Gen.MmRetOutDwRefIdeal.Run
public import proofs.«01_k».proof.Proof.Gen.MmUpDw
public import proofs.«01_k».proof.Proof.Gen.MmUpDw.Frame
public import proofs.«01_k».proof.Proof.Gen.MmUpDwIdeal
public import proofs.«01_k».proof.Proof.Gen.MmUpDwIdeal.Value
public import proofs.«01_k».proof.Proof.Gen.MmUpDwRefIdeal
public import proofs.«01_k».proof.Proof.Gen.MmUpDwRefIdeal.Run
public import proofs.«01_k».proof.Proof.Gen.MmInDw
public import proofs.«01_k».proof.Proof.Gen.MmInDw.Frame
public import proofs.«01_k».proof.Proof.Gen.MmInDwIdeal
public import proofs.«01_k».proof.Proof.Gen.MmInDwIdeal.Value
public import proofs.«01_k».proof.Proof.Gen.MmInDwRefIdeal
public import proofs.«01_k».proof.Proof.Gen.MmInDwRefIdeal.Run
public import proofs.«01_k».proof.Proof.Gen.ConvNormBwd
public import proofs.«01_k».proof.Proof.Gen.ConvNormBwd.Frame
public import proofs.«01_k».proof.Proof.Gen.ConvNormBwdIdeal
public import proofs.«01_k».proof.Proof.Gen.ConvNormBwdIdeal.Value
public import proofs.«01_k».proof.Proof.Gen.ConvNormBwdRefIdeal
public import proofs.«01_k».proof.Proof.Gen.ConvNormBwdRefIdeal.Run
public import proofs.«01_k».proof.Proof.Gen.PostBwd
public import proofs.«01_k».proof.Proof.Gen.PostBwd.Frame
public import proofs.«01_k».proof.Proof.Gen.PostBwdIdeal
public import proofs.«01_k».proof.Proof.Gen.PostBwdIdeal.Value
public import proofs.«01_k».proof.Proof.Gen.PostBwdRefIdeal
public import proofs.«01_k».proof.Proof.Gen.PostBwdRefIdeal.Run
public import proofs.«01_k».proof.Proof.Gen.MergeBwd
public import proofs.«01_k».proof.Proof.Gen.MergeBwd.Frame
public import proofs.«01_k».proof.Proof.Gen.MergeBwdIdeal
public import proofs.«01_k».proof.Proof.Gen.MergeBwdIdeal.Value
public import proofs.«01_k».proof.Proof.Gen.MergeBwdRefIdeal
public import proofs.«01_k».proof.Proof.Gen.MergeBwdRefIdeal.Run
public import proofs.«01_k».proof.Proof.Gen.BiasInGrad
public import proofs.«01_k».proof.Proof.Gen.BiasInGrad.Frame
public import proofs.«01_k».proof.Proof.Gen.BiasInGradIdeal
public import proofs.«01_k».proof.Proof.Gen.BiasInGradIdeal.Value
public import proofs.«01_k».proof.Proof.Gen.BiasInGradRefIdeal
public import proofs.«01_k».proof.Proof.Gen.BiasInGradRefIdeal.Run
public import proofs.«01_k».proof.Proof.Gen.ConvFwd
public import proofs.«01_k».proof.Proof.Gen.ConvFwd.Frame
public import proofs.«01_k».proof.Proof.Gen.ConvFwdIdeal
public import proofs.«01_k».proof.Proof.Gen.ConvFwdIdeal.Value
public import proofs.«01_k».proof.Proof.Gen.ConvFwdRefIdeal
public import proofs.«01_k».proof.Proof.Gen.ConvFwdRefIdeal.Run
public import proofs.«01_k».proof.Proof.Gen.FfnConvFwd
public import proofs.«01_k».proof.Proof.Gen.FfnConvFwd.Frame
public import proofs.«01_k».proof.Proof.Gen.FfnConvFwdIdeal
public import proofs.«01_k».proof.Proof.Gen.FfnConvFwdIdeal.Value
public import proofs.«01_k».proof.Proof.Gen.FfnConvFwdRefIdeal
public import proofs.«01_k».proof.Proof.Gen.FfnConvFwdRefIdeal.Run
public import proofs.«01_k».proof.Proof.AdamValue
public import proofs.«01_k».proof.Proof.AdaBwdValue
public import proofs.«01_k».proof.Proof.SmallSumValue
public import proofs.«01_k».proof.Proof.LossValue
public import proofs.«01_k».proof.Proof.GradXValue
public import proofs.«01_k».proof.Proof.AdaFwdValue
public import proofs.«01_k».proof.Proof.GradSumValue
public import proofs.«01_k».proof.Proof.LnModValue
public import proofs.«01_k».proof.Proof.NormValue
public import proofs.«01_k».proof.Proof.RetNormValue
public import proofs.«01_k».proof.Proof.GateValue
public import proofs.«01_k».proof.Proof.ProductValue
public import proofs.«01_k».proof.Proof.RowGradValue
public import proofs.«01_k».proof.Proof.ColGradValue
public import proofs.«01_k».proof.Proof.MergeBwdValue
public import proofs.«01_k».proof.Proof.BiasGradValue
public import proofs.«01_k».proof.Proof.ConvNormBwdValue
public import proofs.«01_k».proof.Proof.PostBwdValue
public import proofs.«01_k».proof.Proof.ConvValue
public import Idealize.ShloMosaic.Adequacy
public import Idealize.ShloMosaic.Init

@[expose] public section

noncomputable section

namespace Cert.Proof

open Idealize.ShloMosaic Idealize.SL.Sem

/-! ## The exchange between the chips -/

theorem frame_Alltoall : Cert.quiescent_Alltoall := fun m g _ =>
  (θ_run (Cert.AlltoallIdeal.defs (F := Bits)) _ _).mono (fun _ h => h.2) (Cert.AlltoallRun.run_main (F := Bits) m g)
theorem frame_AlltoallIdeal : Cert.quiescent_AlltoallIdeal := fun m g _ =>
  (θ_run (Cert.AlltoallIdeal.defs (F := Ideal)) _ _).mono (fun _ h => h.2) (Cert.AlltoallRun.run_main (F := Ideal) m g)
theorem frame_AlltoallRefIdeal : Cert.quiescent_AlltoallRefIdeal := fun m g _ =>
  (θ_run (Cert.AlltoallRefIdeal.defs (F := Ideal)) _ _).mono (fun r h => ⟨fun c => (h c).2, sem_eq_zero_of_no_sems (by decide) r.2⟩)
    (Cert.AlltoallRefIdeal.Value.run (F := Ideal) m g)
theorem frame_AlltoallRef : Cert.quiescent_AlltoallRef := fun m g _ =>
  (θ_run (Cert.AlltoallRefIdeal.defs (F := Bits)) _ _).mono (fun r h => ⟨fun c => (h c).2, sem_eq_zero_of_no_sems (by decide) r.2⟩)
    (Cert.AlltoallRefIdeal.Value.run (F := Bits) m g)

theorem value_AlltoallIdeal : Cert.algebraic_AlltoallIdeal_AlltoallRefIdeal := fun m g m' g' _ hX =>
  ⟨Cert.AlltoallRun.whole (F := Ideal) (m' ((0 : Dev Cert.AlltoallRefIdeal.nD).tc.loc Cert.AlltoallRefIdeal.main_arg0)),
    (θ_run (Cert.AlltoallIdeal.defs (F := Ideal)) _ _).mono (fun _ h c => ⟨(h.1 c).trans (Cert.AlltoallRun.out_eq m _ hX c), h.2.1 c⟩)
      (Cert.AlltoallRun.run_main (F := Ideal) m g),
    (θ_run (Cert.AlltoallRefIdeal.defs (F := Ideal)) _ _).mono (fun _ h => h 0) (Cert.AlltoallRefIdeal.Value.run (F := Ideal) m' g')⟩
theorem value_Alltoall : Cert.bitexact_Alltoall_AlltoallRef := fun m g m' g' _ hX =>
  ⟨Cert.AlltoallRun.whole (F := Bits) (m' ((0 : Dev Cert.AlltoallRefIdeal.nD).tc.loc Cert.AlltoallRefIdeal.main_arg0)),
    (θ_run (Cert.AlltoallIdeal.defs (F := Bits)) _ _).mono (fun _ h c => ⟨(h.1 c).trans (Cert.AlltoallRun.out_eq m _ hX c), h.2.1 c⟩)
      (Cert.AlltoallRun.run_main (F := Bits) m g),
    (θ_run (Cert.AlltoallRefIdeal.defs (F := Bits)) _ _).mono (fun _ h => h 0) (Cert.AlltoallRefIdeal.Value.run (F := Bits) m' g')⟩

/-! ## The swap -/

theorem frame_Swap : Cert.quiescent_Swap := fun m g _ =>
  (θ_run (Cert.SwapIdeal.defs (F := Bits)) _ _).mono (fun _ h => h.2) (Cert.SwapRun.run_main (F := Bits) m g)
theorem frame_SwapIdeal : Cert.quiescent_SwapIdeal := fun m g _ =>
  (θ_run (Cert.SwapIdeal.defs (F := Ideal)) _ _).mono (fun _ h => h.2) (Cert.SwapRun.run_main (F := Ideal) m g)
theorem frame_SwapRefIdeal : Cert.quiescent_SwapRefIdeal := fun m g _ =>
  (θ_run (Cert.SwapRefIdeal.defs (F := Ideal)) _ _).mono (fun r h => ⟨fun c => (h c).2, sem_eq_zero_of_no_sems (by decide) r.2⟩)
    (Cert.SwapRefIdeal.Value.run (F := Ideal) m g)
theorem frame_SwapRef : Cert.quiescent_SwapRef := fun m g _ =>
  (θ_run (Cert.SwapRefIdeal.defs (F := Bits)) _ _).mono (fun r h => ⟨fun c => (h c).2, sem_eq_zero_of_no_sems (by decide) r.2⟩)
    (Cert.SwapRefIdeal.Value.run (F := Bits) m g)

theorem value_SwapIdeal : Cert.algebraic_SwapIdeal_SwapRefIdeal := fun m g m' g' _ hX =>
  ⟨Cert.SwapValue.whole (m' ((0 : Dev Cert.SwapRefIdeal.nD).tc.loc Cert.SwapRefIdeal.main_arg0)),
    (θ_run (Cert.SwapIdeal.defs (F := Ideal)) _ _).mono (fun _ h c => ⟨(h.1 c).trans (Cert.SwapRun.landed_eq m _ hX c), h.2.1 c⟩)
      (Cert.SwapRun.run_main (F := Ideal) m g),
    (θ_run (Cert.SwapRefIdeal.defs (F := Ideal)) _ _).mono (fun _ h => h 0) (Cert.SwapRefIdeal.Value.run (F := Ideal) m' g')⟩
theorem value_Swap : Cert.bitexact_Swap_SwapRef := fun m g m' g' _ hX =>
  ⟨Cert.SwapValue.whole (m' ((0 : Dev Cert.SwapRefIdeal.nD).tc.loc Cert.SwapRefIdeal.main_arg0)),
    (θ_run (Cert.SwapIdeal.defs (F := Bits)) _ _).mono (fun _ h c => ⟨(h.1 c).trans (Cert.SwapRun.landed_eq m _ hX c), h.2.1 c⟩)
      (Cert.SwapRun.run_main (F := Bits) m g),
    (θ_run (Cert.SwapRefIdeal.defs (F := Bits)) _ _).mono (fun _ h => h 0) (Cert.SwapRefIdeal.Value.run (F := Bits) m' g')⟩

/-! ## The join -/

theorem frame_Join : Cert.quiescent_Join := fun m g _ =>
  (θ_run (Cert.JoinIdeal.defs (F := Bits)) _ _).mono (fun _ h => h.2) (Cert.JoinRun.run_main (F := Bits) m g)
theorem frame_JoinIdeal : Cert.quiescent_JoinIdeal := fun m g _ =>
  (θ_run (Cert.JoinIdeal.defs (F := Ideal)) _ _).mono (fun _ h => h.2) (Cert.JoinRun.run_main (F := Ideal) m g)
theorem frame_JoinRefIdeal : Cert.quiescent_JoinRefIdeal := fun m g _ =>
  (θ_run (Cert.JoinRefIdeal.defs (F := Ideal)) _ _).mono (fun r h => ⟨fun c => (h c).2, sem_eq_zero_of_no_sems (by decide) r.2⟩)
    (Cert.JoinRefIdeal.Value.run (F := Ideal) m g)
theorem frame_JoinRef : Cert.quiescent_JoinRef := fun m g _ =>
  (θ_run (Cert.JoinRefIdeal.defs (F := Bits)) _ _).mono (fun r h => ⟨fun c => (h c).2, sem_eq_zero_of_no_sems (by decide) r.2⟩)
    (Cert.JoinRefIdeal.Value.run (F := Bits) m g)

theorem value_JoinIdeal : Cert.algebraic_JoinIdeal_JoinRefIdeal := fun m g m' g' _ hX =>
  ⟨shapeCast _ (m' ((0 : Dev Cert.JoinRefIdeal.nD).tc.loc Cert.JoinRefIdeal.main_arg0)) Cert.JoinRefIdeal.Gen.shapeCasts_S22784x1024_S8x2848x1024,
    (θ_run (Cert.JoinIdeal.defs (F := Ideal)) _ _).mono (fun _ h c => ⟨(h.1 c).trans (Cert.JoinRun.out_eq m _ hX c), h.2.1 c⟩)
      (Cert.JoinRun.run_main (F := Ideal) m g),
    (θ_run (Cert.JoinRefIdeal.defs (F := Ideal)) _ _).mono (fun _ h => h 0) (Cert.JoinRefIdeal.Value.run (F := Ideal) m' g')⟩
theorem value_Join : Cert.bitexact_Join_JoinRef := fun m g m' g' _ hX =>
  ⟨shapeCast _ (m' ((0 : Dev Cert.JoinRefIdeal.nD).tc.loc Cert.JoinRefIdeal.main_arg0)) Cert.JoinRefIdeal.Gen.shapeCasts_S22784x1024_S8x2848x1024,
    (θ_run (Cert.JoinIdeal.defs (F := Bits)) _ _).mono (fun _ h c => ⟨(h.1 c).trans (Cert.JoinRun.out_eq m _ hX c), h.2.1 c⟩)
      (Cert.JoinRun.run_main (F := Bits) m g),
    (θ_run (Cert.JoinRefIdeal.defs (F := Bits)) _ _).mono (fun _ h => h 0) (Cert.JoinRefIdeal.Value.run (F := Bits) m' g')⟩

/-! ## The gather of the weights -/

theorem frame_Gather : Cert.quiescent_Gather := fun m g _ =>
  (θ_run (Cert.GatherIdeal.defs (F := Bits)) _ _).mono (fun _ h => h.2) (Cert.GatherRun.run_main (F := Bits) m g)
theorem frame_GatherIdeal : Cert.quiescent_GatherIdeal := fun m g _ =>
  (θ_run (Cert.GatherIdeal.defs (F := Ideal)) _ _).mono (fun _ h => h.2) (Cert.GatherRun.run_main (F := Ideal) m g)
theorem frame_GatherRefIdeal : Cert.quiescent_GatherRefIdeal := fun m g _ =>
  (θ_run (Cert.GatherRefIdeal.defs (F := Ideal)) _ _).mono (fun r h => ⟨fun c => (h c).2, sem_eq_zero_of_no_sems (by decide) r.2⟩)
    (Cert.GatherRefIdeal.Value.run (F := Ideal) m g)
theorem frame_GatherRef : Cert.quiescent_GatherRef := fun m g _ =>
  (θ_run (Cert.GatherRefIdeal.defs (F := Bits)) _ _).mono (fun r h => ⟨fun c => (h c).2, sem_eq_zero_of_no_sems (by decide) r.2⟩)
    (Cert.GatherRefIdeal.Value.run (F := Bits) m g)

theorem value_GatherIdeal : Cert.algebraic_GatherIdeal_GatherRefIdeal := fun m g m' g' _ hX =>
  ⟨shapeCast _ (m' ((0 : Dev Cert.GatherRefIdeal.nD).tc.loc Cert.GatherRefIdeal.main_arg0)) Cert.GatherRefIdeal.Gen.shapeCasts_S22784x1024_S8x2848x1024,
    (θ_run (Cert.GatherIdeal.defs (F := Ideal)) _ _).mono (fun _ h c => ⟨(h.1 c).trans (Cert.GatherRun.out_eq m _ hX _ c), h.2.1 c⟩)
      (Cert.GatherRun.run_main (F := Ideal) m g),
    (θ_run (Cert.GatherRefIdeal.defs (F := Ideal)) _ _).mono (fun _ h => h 0) (Cert.GatherRefIdeal.Value.run (F := Ideal) m' g')⟩
theorem value_Gather : Cert.bitexact_Gather_GatherRef := fun m g m' g' _ hX =>
  ⟨shapeCast _ (m' ((0 : Dev Cert.GatherRefIdeal.nD).tc.loc Cert.GatherRefIdeal.main_arg0)) Cert.GatherRefIdeal.Gen.shapeCasts_S22784x1024_S8x2848x1024,
    (θ_run (Cert.GatherIdeal.defs (F := Bits)) _ _).mono (fun _ h c => ⟨(h.1 c).trans (Cert.GatherRun.out_eq m _ hX _ c), h.2.1 c⟩)
      (Cert.GatherRun.run_main (F := Bits) m g),
    (θ_run (Cert.GatherRefIdeal.defs (F := Bits)) _ _).mono (fun _ h => h 0) (Cert.GatherRefIdeal.Value.run (F := Bits) m' g')⟩

/-! ## The gather of the conditioning and the convolutions' weights -/

theorem frame_GatherSmall : Cert.quiescent_GatherSmall := fun m g _ =>
  (θ_run (Cert.GatherSmallIdeal.defs (F := Bits)) _ _).mono (fun _ h => h.2) (Cert.GatherSmallRun.run_main (F := Bits) m g)
theorem frame_GatherSmallIdeal : Cert.quiescent_GatherSmallIdeal := fun m g _ =>
  (θ_run (Cert.GatherSmallIdeal.defs (F := Ideal)) _ _).mono (fun _ h => h.2) (Cert.GatherSmallRun.run_main (F := Ideal) m g)
theorem frame_GatherSmallRefIdeal : Cert.quiescent_GatherSmallRefIdeal := fun m g _ =>
  (θ_run (Cert.GatherSmallRefIdeal.defs (F := Ideal)) _ _).mono (fun r h => ⟨fun c => (h c).2, sem_eq_zero_of_no_sems (by decide) r.2⟩)
    (Cert.GatherSmallRefIdeal.Value.run (F := Ideal) m g)
theorem frame_GatherSmallRef : Cert.quiescent_GatherSmallRef := fun m g _ =>
  (θ_run (Cert.GatherSmallRefIdeal.defs (F := Bits)) _ _).mono (fun r h => ⟨fun c => (h c).2, sem_eq_zero_of_no_sems (by decide) r.2⟩)
    (Cert.GatherSmallRefIdeal.Value.run (F := Bits) m g)

theorem value_GatherSmallIdeal : Cert.algebraic_GatherSmallIdeal_GatherSmallRefIdeal := fun m g m' g' _ hX =>
  ⟨shapeCast _ (m' ((0 : Dev Cert.GatherSmallRefIdeal.nD).tc.loc Cert.GatherSmallRefIdeal.main_arg0)) Cert.GatherSmallRefIdeal.Gen.shapeCasts_S128x1024_S8x16x1024,
    (θ_run (Cert.GatherSmallIdeal.defs (F := Ideal)) _ _).mono (fun _ h c => ⟨(h.1 c).trans (Cert.GatherSmallRun.out_eq m _ hX _ c), h.2.1 c⟩)
      (Cert.GatherSmallRun.run_main (F := Ideal) m g),
    (θ_run (Cert.GatherSmallRefIdeal.defs (F := Ideal)) _ _).mono (fun _ h => h 0) (Cert.GatherSmallRefIdeal.Value.run (F := Ideal) m' g')⟩
theorem value_GatherSmall : Cert.bitexact_GatherSmall_GatherSmallRef := fun m g m' g' _ hX =>
  ⟨shapeCast _ (m' ((0 : Dev Cert.GatherSmallRefIdeal.nD).tc.loc Cert.GatherSmallRefIdeal.main_arg0)) Cert.GatherSmallRefIdeal.Gen.shapeCasts_S128x1024_S8x16x1024,
    (θ_run (Cert.GatherSmallIdeal.defs (F := Bits)) _ _).mono (fun _ h c => ⟨(h.1 c).trans (Cert.GatherSmallRun.out_eq m _ hX _ c), h.2.1 c⟩)
      (Cert.GatherSmallRun.run_main (F := Bits) m g),
    (θ_run (Cert.GatherSmallRefIdeal.defs (F := Bits)) _ _).mono (fun _ h => h 0) (Cert.GatherSmallRefIdeal.Value.run (F := Bits) m' g')⟩

/-! ## The gather of the modulation -/

theorem frame_GatherMod : Cert.quiescent_GatherMod := fun m g _ =>
  (θ_run (Cert.GatherModIdeal.defs (F := Bits)) _ _).mono (fun _ h => h.2) (Cert.GatherModRun.run_main (F := Bits) m g)
theorem frame_GatherModIdeal : Cert.quiescent_GatherModIdeal := fun m g _ =>
  (θ_run (Cert.GatherModIdeal.defs (F := Ideal)) _ _).mono (fun _ h => h.2) (Cert.GatherModRun.run_main (F := Ideal) m g)
theorem frame_GatherModRefIdeal : Cert.quiescent_GatherModRefIdeal := fun m g _ =>
  (θ_run (Cert.GatherModRefIdeal.defs (F := Ideal)) _ _).mono (fun r h => ⟨fun c => (h c).2, sem_eq_zero_of_no_sems (by decide) r.2⟩)
    (Cert.GatherModRefIdeal.Value.run (F := Ideal) m g)
theorem frame_GatherModRef : Cert.quiescent_GatherModRef := fun m g _ =>
  (θ_run (Cert.GatherModRefIdeal.defs (F := Bits)) _ _).mono (fun r h => ⟨fun c => (h c).2, sem_eq_zero_of_no_sems (by decide) r.2⟩)
    (Cert.GatherModRefIdeal.Value.run (F := Bits) m g)

theorem value_GatherModIdeal : Cert.algebraic_GatherModIdeal_GatherModRefIdeal := fun m g m' g' _ hX =>
  ⟨shapeCast _ (m' ((0 : Dev Cert.GatherModRefIdeal.nD).tc.loc Cert.GatherModRefIdeal.main_arg0)) Cert.GatherModRefIdeal.Gen.shapeCasts_S64x1536_S8x8x1536,
    (θ_run (Cert.GatherModIdeal.defs (F := Ideal)) _ _).mono (fun _ h c => ⟨(h.1 c).trans (Cert.GatherModRun.out_eq m _ hX _ c), h.2.1 c⟩)
      (Cert.GatherModRun.run_main (F := Ideal) m g),
    (θ_run (Cert.GatherModRefIdeal.defs (F := Ideal)) _ _).mono (fun _ h => h 0) (Cert.GatherModRefIdeal.Value.run (F := Ideal) m' g')⟩
theorem value_GatherMod : Cert.bitexact_GatherMod_GatherModRef := fun m g m' g' _ hX =>
  ⟨shapeCast _ (m' ((0 : Dev Cert.GatherModRefIdeal.nD).tc.loc Cert.GatherModRefIdeal.main_arg0)) Cert.GatherModRefIdeal.Gen.shapeCasts_S64x1536_S8x8x1536,
    (θ_run (Cert.GatherModIdeal.defs (F := Bits)) _ _).mono (fun _ h c => ⟨(h.1 c).trans (Cert.GatherModRun.out_eq m _ hX _ c), h.2.1 c⟩)
      (Cert.GatherModRun.run_main (F := Bits) m g),
    (θ_run (Cert.GatherModRefIdeal.defs (F := Bits)) _ _).mono (fun _ h => h 0) (Cert.GatherModRefIdeal.Value.run (F := Bits) m' g')⟩

/-! ## The gather of the small gradients -/

theorem frame_GatherParts : Cert.quiescent_GatherParts := fun m g _ =>
  (θ_run (Cert.GatherPartsIdeal.defs (F := Bits)) _ _).mono (fun _ h => h.2) (Cert.GatherPartsRun.run_main (F := Bits) m g)
theorem frame_GatherPartsIdeal : Cert.quiescent_GatherPartsIdeal := fun m g _ =>
  (θ_run (Cert.GatherPartsIdeal.defs (F := Ideal)) _ _).mono (fun _ h => h.2) (Cert.GatherPartsRun.run_main (F := Ideal) m g)
theorem frame_GatherPartsRefIdeal : Cert.quiescent_GatherPartsRefIdeal := fun m g _ =>
  (θ_run (Cert.GatherPartsRefIdeal.defs (F := Ideal)) _ _).mono (fun r h => ⟨fun c => (h c).2, sem_eq_zero_of_no_sems (by decide) r.2⟩)
    (Cert.GatherPartsRefIdeal.Value.run (F := Ideal) m g)
theorem frame_GatherPartsRef : Cert.quiescent_GatherPartsRef := fun m g _ =>
  (θ_run (Cert.GatherPartsRefIdeal.defs (F := Bits)) _ _).mono (fun r h => ⟨fun c => (h c).2, sem_eq_zero_of_no_sems (by decide) r.2⟩)
    (Cert.GatherPartsRefIdeal.Value.run (F := Bits) m g)

theorem value_GatherPartsIdeal : Cert.algebraic_GatherPartsIdeal_GatherPartsRefIdeal := fun m g m' g' _ hX =>
  ⟨shapeCast _ (m' ((0 : Dev Cert.GatherPartsRefIdeal.nD).tc.loc Cert.GatherPartsRefIdeal.main_arg0)) Cert.GatherPartsRefIdeal.Gen.shapeCasts_S640x1024_S8x80x1024,
    (θ_run (Cert.GatherPartsIdeal.defs (F := Ideal)) _ _).mono (fun _ h c => ⟨(h.1 c).trans (Cert.GatherPartsRun.out_eq m _ hX _ c), h.2.1 c⟩)
      (Cert.GatherPartsRun.run_main (F := Ideal) m g),
    (θ_run (Cert.GatherPartsRefIdeal.defs (F := Ideal)) _ _).mono (fun _ h => h 0) (Cert.GatherPartsRefIdeal.Value.run (F := Ideal) m' g')⟩
theorem value_GatherParts : Cert.bitexact_GatherParts_GatherPartsRef := fun m g m' g' _ hX =>
  ⟨shapeCast _ (m' ((0 : Dev Cert.GatherPartsRefIdeal.nD).tc.loc Cert.GatherPartsRefIdeal.main_arg0)) Cert.GatherPartsRefIdeal.Gen.shapeCasts_S640x1024_S8x80x1024,
    (θ_run (Cert.GatherPartsIdeal.defs (F := Bits)) _ _).mono (fun _ h c => ⟨(h.1 c).trans (Cert.GatherPartsRun.out_eq m _ hX _ c), h.2.1 c⟩)
      (Cert.GatherPartsRun.run_main (F := Bits) m g),
    (θ_run (Cert.GatherPartsRefIdeal.defs (F := Bits)) _ _).mono (fun _ h => h 0) (Cert.GatherPartsRefIdeal.Value.run (F := Bits) m' g')⟩

/-! ## AdamW on the packed weights -/

theorem frame_AdamBig : Cert.quiescent_AdamBig := fun m g _ => Cert.AdamBig.Gen.frame (F := Bits) m g
theorem frame_AdamBigIdeal : Cert.quiescent_AdamBigIdeal := fun m g _ => Cert.AdamBigIdeal.Gen.frame (F := Ideal) m g
theorem frame_AdamBigRefIdeal : Cert.quiescent_AdamBigRefIdeal := fun m g _ =>
  (θ_run (Cert.AdamBigRefIdeal.defs (F := Ideal)) _ _).mono (fun r h => ⟨fun c => (h c).2.2.2, sem_eq_zero_of_no_sems (by decide) r.2⟩)
    (Cert.AdamBigRefIdeal.Value.run (F := Ideal) m g)

/-! ## AdamW on `w_ada` -/

theorem frame_AdamAda : Cert.quiescent_AdamAda := fun m g _ => Cert.AdamAda.Gen.frame (F := Bits) m g
theorem frame_AdamAdaIdeal : Cert.quiescent_AdamAdaIdeal := fun m g _ => Cert.AdamAdaIdeal.Gen.frame (F := Ideal) m g
theorem frame_AdamAdaRefIdeal : Cert.quiescent_AdamAdaRefIdeal := fun m g _ =>
  (θ_run (Cert.AdamAdaRefIdeal.defs (F := Ideal)) _ _).mono (fun r h => ⟨fun c => (h c).2.2.2, sem_eq_zero_of_no_sems (by decide) r.2⟩)
    (Cert.AdamAdaRefIdeal.Value.run (F := Ideal) m g)

/-! ## AdamW on the small weights -/

theorem frame_AdamSmall : Cert.quiescent_AdamSmall := fun m g _ => Cert.AdamSmall.Gen.frame (F := Bits) m g
theorem frame_AdamSmallIdeal : Cert.quiescent_AdamSmallIdeal := fun m g _ => Cert.AdamSmallIdeal.Gen.frame (F := Ideal) m g
theorem frame_AdamSmallRefIdeal : Cert.quiescent_AdamSmallRefIdeal := fun m g _ =>
  (θ_run (Cert.AdamSmallRefIdeal.defs (F := Ideal)) _ _).mono (fun r h => ⟨fun c => (h c).2.2.2, sem_eq_zero_of_no_sems (by decide) r.2⟩)
    (Cert.AdamSmallRefIdeal.Value.run (F := Ideal) m g)

/-! ## The gradient of `w_ada` -/

theorem frame_AdaBwd : Cert.quiescent_AdaBwd := fun m g _ => Cert.AdaBwd.Gen.frame (F := Bits) m g
theorem frame_AdaBwdIdeal : Cert.quiescent_AdaBwdIdeal := fun m g _ => Cert.AdaBwdIdeal.Gen.frame (F := Ideal) m g
theorem frame_AdaBwdRefIdeal : Cert.quiescent_AdaBwdRefIdeal := fun m g _ =>
  (θ_run (Cert.AdaBwdRefIdeal.defs (F := Ideal)) _ _).mono (fun r h => ⟨fun c => (h c).2, sem_eq_zero_of_no_sems (by decide) r.2⟩)
    (Cert.AdaBwdRefIdeal.Value.run (F := Ideal) m g)

/-! ## The sum of the small gradients' parts -/

theorem frame_SmallSum : Cert.quiescent_SmallSum := fun m g _ => Cert.SmallSum.Gen.frame (F := Bits) m g
theorem frame_SmallSumIdeal : Cert.quiescent_SmallSumIdeal := fun m g _ => Cert.SmallSumIdeal.Gen.frame (F := Ideal) m g
theorem frame_SmallSumRefIdeal : Cert.quiescent_SmallSumRefIdeal := fun m g _ =>
  (θ_run (Cert.SmallSumRefIdeal.defs (F := Ideal)) _ _).mono (fun r h => ⟨fun c => (h c).2, sem_eq_zero_of_no_sems (by decide) r.2⟩)
    (Cert.SmallSumRefIdeal.Value.run (F := Ideal) m g)

/-! ## The loss of one device -/

theorem frame_Loss : Cert.quiescent_Loss := fun m g _ => Cert.Loss.Gen.frame (F := Bits) m g
theorem frame_LossIdeal : Cert.quiescent_LossIdeal := fun m g _ => Cert.LossIdeal.Gen.frame (F := Ideal) m g
theorem frame_LossRefIdeal : Cert.quiescent_LossRefIdeal := fun m g _ =>
  (θ_run (Cert.LossRefIdeal.defs (F := Ideal)) _ _).mono (fun r h => ⟨fun c => (h c).2, sem_eq_zero_of_no_sems (by decide) r.2⟩)
    (Cert.LossRefIdeal.Value.run (F := Ideal) m g)

/-! ## The gradient of `x` -/

theorem frame_GradX : Cert.quiescent_GradX := fun m g _ => Cert.GradX.Gen.frame (F := Bits) m g
theorem frame_GradXIdeal : Cert.quiescent_GradXIdeal := fun m g _ => Cert.GradXIdeal.Gen.frame (F := Ideal) m g
theorem frame_GradXRefIdeal : Cert.quiescent_GradXRefIdeal := fun m g _ =>
  (θ_run (Cert.GradXRefIdeal.defs (F := Ideal)) _ _).mono (fun r h => ⟨fun c => (h c).2.2.2, sem_eq_zero_of_no_sems (by decide) r.2⟩)
    (Cert.GradXRefIdeal.Value.run (F := Ideal) m g)

/-! ## The modulation -/

theorem frame_AdaFwd : Cert.quiescent_AdaFwd := fun m g _ => Cert.AdaFwd.Gen.frame (F := Bits) m g
theorem frame_AdaFwdIdeal : Cert.quiescent_AdaFwdIdeal := fun m g _ => Cert.AdaFwdIdeal.Gen.frame (F := Ideal) m g
theorem frame_AdaFwdRefIdeal : Cert.quiescent_AdaFwdRefIdeal := fun m g _ =>
  (θ_run (Cert.AdaFwdRefIdeal.defs (F := Ideal)) _ _).mono (fun r h => ⟨fun c => (h c).2, sem_eq_zero_of_no_sems (by decide) r.2⟩)
    (Cert.AdaFwdRefIdeal.Value.run (F := Ideal) m g)

/-! ## The sum over the two cores -/

theorem frame_PairSum : Cert.quiescent_PairSum := fun m g _ => Cert.PairSum.Gen.frame (F := Bits) m g
theorem frame_PairSumIdeal : Cert.quiescent_PairSumIdeal := fun m g _ => Cert.PairSumIdeal.Gen.frame (F := Ideal) m g
theorem frame_PairSumRefIdeal : Cert.quiescent_PairSumRefIdeal := fun m g _ =>
  (θ_run (Cert.PairSumRefIdeal.defs (F := Ideal)) _ _).mono (fun r h => ⟨fun c => (h c).2, sem_eq_zero_of_no_sems (by decide) r.2⟩)
    (Cert.PairSumRefIdeal.Value.run (F := Ideal) m g)

/-! ## The sum over the chips -/

theorem frame_ChipSum : Cert.quiescent_ChipSum := fun m g _ => Cert.ChipSum.Gen.frame (F := Bits) m g
theorem frame_ChipSumIdeal : Cert.quiescent_ChipSumIdeal := fun m g _ => Cert.ChipSumIdeal.Gen.frame (F := Ideal) m g
theorem frame_ChipSumRefIdeal : Cert.quiescent_ChipSumRefIdeal := fun m g _ =>
  (θ_run (Cert.ChipSumRefIdeal.defs (F := Ideal)) _ _).mono (fun r h => ⟨fun c => (h c).2, sem_eq_zero_of_no_sems (by decide) r.2⟩)
    (Cert.ChipSumRefIdeal.Value.run (F := Ideal) m g)

/-! ## The first layer norm -/

theorem frame_LnMod : Cert.quiescent_LnMod := fun m g _ => Cert.LnMod.Gen.frame (F := Bits) m g
theorem frame_LnModIdeal : Cert.quiescent_LnModIdeal := fun m g _ => Cert.LnModIdeal.Gen.frame (F := Ideal) m g
theorem frame_LnModRefIdeal : Cert.quiescent_LnModRefIdeal := fun m g _ =>
  (θ_run (Cert.LnModRefIdeal.defs (F := Ideal)) _ _).mono (fun r h => ⟨fun c => (h c).2, sem_eq_zero_of_no_sems (by decide) r.2⟩)
    (Cert.LnModRefIdeal.Value.run (F := Ideal) m g)

/-! ## The convolution's norm -/

theorem frame_ConvNorm : Cert.quiescent_ConvNorm := fun m g _ => Cert.ConvNorm.Gen.frame (F := Bits) m g
theorem frame_ConvNormIdeal : Cert.quiescent_ConvNormIdeal := fun m g _ => Cert.ConvNormIdeal.Gen.frame (F := Ideal) m g
theorem frame_ConvNormRefIdeal : Cert.quiescent_ConvNormRefIdeal := fun m g _ =>
  (θ_run (Cert.ConvNormRefIdeal.defs (F := Ideal)) _ _).mono (fun r h => ⟨fun c => (h c).2, sem_eq_zero_of_no_sems (by decide) r.2⟩)
    (Cert.ConvNormRefIdeal.Value.run (F := Ideal) m g)

/-! ## The norm of the retention's heads -/

theorem frame_RetNorm : Cert.quiescent_RetNorm := fun m g _ => Cert.RetNorm.Gen.frame (F := Bits) m g
theorem frame_RetNormIdeal : Cert.quiescent_RetNormIdeal := fun m g _ => Cert.RetNormIdeal.Gen.frame (F := Ideal) m g
theorem frame_RetNormRefIdeal : Cert.quiescent_RetNormRefIdeal := fun m g _ =>
  (θ_run (Cert.RetNormRefIdeal.defs (F := Ideal)) _ _).mono (fun r h => ⟨fun c => (h c).2, sem_eq_zero_of_no_sems (by decide) r.2⟩)
    (Cert.RetNormRefIdeal.Value.run (F := Ideal) m g)

/-! ## The two branches' merge -/

theorem frame_Merge : Cert.quiescent_Merge := fun m g _ => Cert.Merge.Gen.frame (F := Bits) m g
theorem frame_MergeIdeal : Cert.quiescent_MergeIdeal := fun m g _ => Cert.MergeIdeal.Gen.frame (F := Ideal) m g
theorem frame_MergeRefIdeal : Cert.quiescent_MergeRefIdeal := fun m g _ =>
  (θ_run (Cert.MergeRefIdeal.defs (F := Ideal)) _ _).mono (fun r h => ⟨fun c => (h c).2, sem_eq_zero_of_no_sems (by decide) r.2⟩)
    (Cert.MergeRefIdeal.Value.run (F := Ideal) m g)

/-! ## The first residual -/

theorem frame_Post : Cert.quiescent_Post := fun m g _ => Cert.Post.Gen.frame (F := Bits) m g
theorem frame_PostIdeal : Cert.quiescent_PostIdeal := fun m g _ => Cert.PostIdeal.Gen.frame (F := Ideal) m g
theorem frame_PostRefIdeal : Cert.quiescent_PostRefIdeal := fun m g _ =>
  (θ_run (Cert.PostRefIdeal.defs (F := Ideal)) _ _).mono (fun r h => ⟨fun c => (h c).2.2, sem_eq_zero_of_no_sems (by decide) r.2⟩)
    (Cert.PostRefIdeal.Value.run (F := Ideal) m g)

/-! ## The gated product of the feed-forward part -/

theorem frame_FfnGate : Cert.quiescent_FfnGate := fun m g _ => Cert.FfnGate.Gen.frame (F := Bits) m g
theorem frame_FfnGateIdeal : Cert.quiescent_FfnGateIdeal := fun m g _ => Cert.FfnGateIdeal.Gen.frame (F := Ideal) m g
theorem frame_FfnGateRefIdeal : Cert.quiescent_FfnGateRefIdeal := fun m g _ =>
  (θ_run (Cert.FfnGateRefIdeal.defs (F := Ideal)) _ _).mono (fun r h => ⟨fun c => (h c).2, sem_eq_zero_of_no_sems (by decide) r.2⟩)
    (Cert.FfnGateRefIdeal.Value.run (F := Ideal) m g)

/-! ## The cast of the packed weights -/

theorem frame_CastWeights : Cert.quiescent_CastWeights := fun m g _ => Cert.CastWeights.Gen.frame (F := Bits) m g
theorem frame_CastWeightsIdeal : Cert.quiescent_CastWeightsIdeal := fun m g _ => Cert.CastWeightsIdeal.Gen.frame (F := Ideal) m g
theorem frame_CastWeightsRefIdeal : Cert.quiescent_CastWeightsRefIdeal := fun m g _ =>
  (θ_run (Cert.CastWeightsRefIdeal.defs (F := Ideal)) _ _).mono (fun r h => ⟨fun c => (h c).2, sem_eq_zero_of_no_sems (by decide) r.2⟩)
    (Cert.CastWeightsRefIdeal.Value.run (F := Ideal) m g)

/-! ## The matrix products -/

theorem frame_MmIn : Cert.quiescent_MmIn := fun m g _ => Cert.MmIn.Gen.frame (F := Bits) m g
theorem frame_MmInIdeal : Cert.quiescent_MmInIdeal := fun m g _ => Cert.MmInIdeal.Gen.frame (F := Ideal) m g
theorem frame_MmInRefIdeal : Cert.quiescent_MmInRefIdeal := fun m g _ =>
  (θ_run (Cert.MmInRefIdeal.defs (F := Ideal)) _ _).mono (fun r h => ⟨fun c => (h c).2, sem_eq_zero_of_no_sems (by decide) r.2⟩)
    (Cert.MmInRefIdeal.Value.run (F := Ideal) m g)

theorem frame_MmUp : Cert.quiescent_MmUp := fun m g _ => Cert.MmUp.Gen.frame (F := Bits) m g
theorem frame_MmUpIdeal : Cert.quiescent_MmUpIdeal := fun m g _ => Cert.MmUpIdeal.Gen.frame (F := Ideal) m g
theorem frame_MmUpRefIdeal : Cert.quiescent_MmUpRefIdeal := fun m g _ =>
  (θ_run (Cert.MmUpRefIdeal.defs (F := Ideal)) _ _).mono (fun r h => ⟨fun c => (h c).2, sem_eq_zero_of_no_sems (by decide) r.2⟩)
    (Cert.MmUpRefIdeal.Value.run (F := Ideal) m g)

theorem frame_MmConvOut : Cert.quiescent_MmConvOut := fun m g _ => Cert.MmConvOut.Gen.frame (F := Bits) m g
theorem frame_MmConvOutIdeal : Cert.quiescent_MmConvOutIdeal := fun m g _ => Cert.MmConvOutIdeal.Gen.frame (F := Ideal) m g
theorem frame_MmConvOutRefIdeal : Cert.quiescent_MmConvOutRefIdeal := fun m g _ =>
  (θ_run (Cert.MmConvOutRefIdeal.defs (F := Ideal)) _ _).mono (fun r h => ⟨fun c => (h c).2, sem_eq_zero_of_no_sems (by decide) r.2⟩)
    (Cert.MmConvOutRefIdeal.Value.run (F := Ideal) m g)

theorem frame_MmRetOut : Cert.quiescent_MmRetOut := fun m g _ => Cert.MmRetOut.Gen.frame (F := Bits) m g
theorem frame_MmRetOutIdeal : Cert.quiescent_MmRetOutIdeal := fun m g _ => Cert.MmRetOutIdeal.Gen.frame (F := Ideal) m g
theorem frame_MmRetOutRefIdeal : Cert.quiescent_MmRetOutRefIdeal := fun m g _ =>
  (θ_run (Cert.MmRetOutRefIdeal.defs (F := Ideal)) _ _).mono (fun r h => ⟨fun c => (h c).2, sem_eq_zero_of_no_sems (by decide) r.2⟩)
    (Cert.MmRetOutRefIdeal.Value.run (F := Ideal) m g)

theorem frame_MmOut : Cert.quiescent_MmOut := fun m g _ => Cert.MmOut.Gen.frame (F := Bits) m g
theorem frame_MmOutIdeal : Cert.quiescent_MmOutIdeal := fun m g _ => Cert.MmOutIdeal.Gen.frame (F := Ideal) m g
theorem frame_MmOutRefIdeal : Cert.quiescent_MmOutRefIdeal := fun m g _ =>
  (θ_run (Cert.MmOutRefIdeal.defs (F := Ideal)) _ _).mono (fun r h => ⟨fun c => (h c).2, sem_eq_zero_of_no_sems (by decide) r.2⟩)
    (Cert.MmOutRefIdeal.Value.run (F := Ideal) m g)

theorem frame_MmDown : Cert.quiescent_MmDown := fun m g _ => Cert.MmDown.Gen.frame (F := Bits) m g
theorem frame_MmDownIdeal : Cert.quiescent_MmDownIdeal := fun m g _ => Cert.MmDownIdeal.Gen.frame (F := Ideal) m g
theorem frame_MmDownRefIdeal : Cert.quiescent_MmDownRefIdeal := fun m g _ =>
  (θ_run (Cert.MmDownRefIdeal.defs (F := Ideal)) _ _).mono (fun r h => ⟨fun c => (h c).2, sem_eq_zero_of_no_sems (by decide) r.2⟩)
    (Cert.MmDownRefIdeal.Value.run (F := Ideal) m g)

theorem frame_MmDownDx : Cert.quiescent_MmDownDx := fun m g _ => Cert.MmDownDx.Gen.frame (F := Bits) m g
theorem frame_MmDownDxIdeal : Cert.quiescent_MmDownDxIdeal := fun m g _ => Cert.MmDownDxIdeal.Gen.frame (F := Ideal) m g
theorem frame_MmDownDxRefIdeal : Cert.quiescent_MmDownDxRefIdeal := fun m g _ =>
  (θ_run (Cert.MmDownDxRefIdeal.defs (F := Ideal)) _ _).mono (fun r h => ⟨fun c => (h c).2, sem_eq_zero_of_no_sems (by decide) r.2⟩)
    (Cert.MmDownDxRefIdeal.Value.run (F := Ideal) m g)

theorem frame_MmOutDx : Cert.quiescent_MmOutDx := fun m g _ => Cert.MmOutDx.Gen.frame (F := Bits) m g
theorem frame_MmOutDxIdeal : Cert.quiescent_MmOutDxIdeal := fun m g _ => Cert.MmOutDxIdeal.Gen.frame (F := Ideal) m g
theorem frame_MmOutDxRefIdeal : Cert.quiescent_MmOutDxRefIdeal := fun m g _ =>
  (θ_run (Cert.MmOutDxRefIdeal.defs (F := Ideal)) _ _).mono (fun r h => ⟨fun c => (h c).2, sem_eq_zero_of_no_sems (by decide) r.2⟩)
    (Cert.MmOutDxRefIdeal.Value.run (F := Ideal) m g)

theorem frame_MmConvOutDx : Cert.quiescent_MmConvOutDx := fun m g _ => Cert.MmConvOutDx.Gen.frame (F := Bits) m g
theorem frame_MmConvOutDxIdeal : Cert.quiescent_MmConvOutDxIdeal := fun m g _ => Cert.MmConvOutDxIdeal.Gen.frame (F := Ideal) m g
theorem frame_MmConvOutDxRefIdeal : Cert.quiescent_MmConvOutDxRefIdeal := fun m g _ =>
  (θ_run (Cert.MmConvOutDxRefIdeal.defs (F := Ideal)) _ _).mono (fun r h => ⟨fun c => (h c).2, sem_eq_zero_of_no_sems (by decide) r.2⟩)
    (Cert.MmConvOutDxRefIdeal.Value.run (F := Ideal) m g)

theorem frame_MmRetOutDx : Cert.quiescent_MmRetOutDx := fun m g _ => Cert.MmRetOutDx.Gen.frame (F := Bits) m g
theorem frame_MmRetOutDxIdeal : Cert.quiescent_MmRetOutDxIdeal := fun m g _ => Cert.MmRetOutDxIdeal.Gen.frame (F := Ideal) m g
theorem frame_MmRetOutDxRefIdeal : Cert.quiescent_MmRetOutDxRefIdeal := fun m g _ =>
  (θ_run (Cert.MmRetOutDxRefIdeal.defs (F := Ideal)) _ _).mono (fun r h => ⟨fun c => (h c).2, sem_eq_zero_of_no_sems (by decide) r.2⟩)
    (Cert.MmRetOutDxRefIdeal.Value.run (F := Ideal) m g)

theorem frame_MmUpDx : Cert.quiescent_MmUpDx := fun m g _ => Cert.MmUpDx.Gen.frame (F := Bits) m g
theorem frame_MmUpDxIdeal : Cert.quiescent_MmUpDxIdeal := fun m g _ => Cert.MmUpDxIdeal.Gen.frame (F := Ideal) m g
theorem frame_MmUpDxRefIdeal : Cert.quiescent_MmUpDxRefIdeal := fun m g _ =>
  (θ_run (Cert.MmUpDxRefIdeal.defs (F := Ideal)) _ _).mono (fun r h => ⟨fun c => (h c).2, sem_eq_zero_of_no_sems (by decide) r.2⟩)
    (Cert.MmUpDxRefIdeal.Value.run (F := Ideal) m g)

theorem frame_MmInDx : Cert.quiescent_MmInDx := fun m g _ => Cert.MmInDx.Gen.frame (F := Bits) m g
theorem frame_MmInDxIdeal : Cert.quiescent_MmInDxIdeal := fun m g _ => Cert.MmInDxIdeal.Gen.frame (F := Ideal) m g
theorem frame_MmInDxRefIdeal : Cert.quiescent_MmInDxRefIdeal := fun m g _ =>
  (θ_run (Cert.MmInDxRefIdeal.defs (F := Ideal)) _ _).mono (fun r h => ⟨fun c => (h c).2, sem_eq_zero_of_no_sems (by decide) r.2⟩)
    (Cert.MmInDxRefIdeal.Value.run (F := Ideal) m g)

theorem frame_MmDownDw : Cert.quiescent_MmDownDw := fun m g _ => Cert.MmDownDw.Gen.frame (F := Bits) m g
theorem frame_MmDownDwIdeal : Cert.quiescent_MmDownDwIdeal := fun m g _ => Cert.MmDownDwIdeal.Gen.frame (F := Ideal) m g
theorem frame_MmDownDwRefIdeal : Cert.quiescent_MmDownDwRefIdeal := fun m g _ =>
  (θ_run (Cert.MmDownDwRefIdeal.defs (F := Ideal)) _ _).mono (fun r h => ⟨fun c => (h c).2, sem_eq_zero_of_no_sems (by decide) r.2⟩)
    (Cert.MmDownDwRefIdeal.Value.run (F := Ideal) m g)

theorem frame_MmOutDw : Cert.quiescent_MmOutDw := fun m g _ => Cert.MmOutDw.Gen.frame (F := Bits) m g
theorem frame_MmOutDwIdeal : Cert.quiescent_MmOutDwIdeal := fun m g _ => Cert.MmOutDwIdeal.Gen.frame (F := Ideal) m g
theorem frame_MmOutDwRefIdeal : Cert.quiescent_MmOutDwRefIdeal := fun m g _ =>
  (θ_run (Cert.MmOutDwRefIdeal.defs (F := Ideal)) _ _).mono (fun r h => ⟨fun c => (h c).2, sem_eq_zero_of_no_sems (by decide) r.2⟩)
    (Cert.MmOutDwRefIdeal.Value.run (F := Ideal) m g)

theorem frame_MmConvOutDw : Cert.quiescent_MmConvOutDw := fun m g _ => Cert.MmConvOutDw.Gen.frame (F := Bits) m g
theorem frame_MmConvOutDwIdeal : Cert.quiescent_MmConvOutDwIdeal := fun m g _ => Cert.MmConvOutDwIdeal.Gen.frame (F := Ideal) m g
theorem frame_MmConvOutDwRefIdeal : Cert.quiescent_MmConvOutDwRefIdeal := fun m g _ =>
  (θ_run (Cert.MmConvOutDwRefIdeal.defs (F := Ideal)) _ _).mono (fun r h => ⟨fun c => (h c).2, sem_eq_zero_of_no_sems (by decide) r.2⟩)
    (Cert.MmConvOutDwRefIdeal.Value.run (F := Ideal) m g)

theorem frame_MmRetOutDw : Cert.quiescent_MmRetOutDw := fun m g _ => Cert.MmRetOutDw.Gen.frame (F := Bits) m g
theorem frame_MmRetOutDwIdeal : Cert.quiescent_MmRetOutDwIdeal := fun m g _ => Cert.MmRetOutDwIdeal.Gen.frame (F := Ideal) m g
theorem frame_MmRetOutDwRefIdeal : Cert.quiescent_MmRetOutDwRefIdeal := fun m g _ =>
  (θ_run (Cert.MmRetOutDwRefIdeal.defs (F := Ideal)) _ _).mono (fun r h => ⟨fun c => (h c).2, sem_eq_zero_of_no_sems (by decide) r.2⟩)
    (Cert.MmRetOutDwRefIdeal.Value.run (F := Ideal) m g)

theorem frame_MmUpDw : Cert.quiescent_MmUpDw := fun m g _ => Cert.MmUpDw.Gen.frame (F := Bits) m g
theorem frame_MmUpDwIdeal : Cert.quiescent_MmUpDwIdeal := fun m g _ => Cert.MmUpDwIdeal.Gen.frame (F := Ideal) m g
theorem frame_MmUpDwRefIdeal : Cert.quiescent_MmUpDwRefIdeal := fun m g _ =>
  (θ_run (Cert.MmUpDwRefIdeal.defs (F := Ideal)) _ _).mono (fun r h => ⟨fun c => (h c).2, sem_eq_zero_of_no_sems (by decide) r.2⟩)
    (Cert.MmUpDwRefIdeal.Value.run (F := Ideal) m g)

theorem frame_MmInDw : Cert.quiescent_MmInDw := fun m g _ => Cert.MmInDw.Gen.frame (F := Bits) m g
theorem frame_MmInDwIdeal : Cert.quiescent_MmInDwIdeal := fun m g _ => Cert.MmInDwIdeal.Gen.frame (F := Ideal) m g
theorem frame_MmInDwRefIdeal : Cert.quiescent_MmInDwRefIdeal := fun m g _ =>
  (θ_run (Cert.MmInDwRefIdeal.defs (F := Ideal)) _ _).mono (fun r h => ⟨fun c => (h c).2, sem_eq_zero_of_no_sems (by decide) r.2⟩)
    (Cert.MmInDwRefIdeal.Value.run (F := Ideal) m g)

theorem frame_MergeBwd : Cert.quiescent_MergeBwd := fun m g _ => Cert.MergeBwd.Gen.frame (F := Bits) m g
theorem frame_MergeBwdIdeal : Cert.quiescent_MergeBwdIdeal := fun m g _ => Cert.MergeBwdIdeal.Gen.frame (F := Ideal) m g
theorem frame_MergeBwdRefIdeal : Cert.quiescent_MergeBwdRefIdeal := fun m g _ =>
  (θ_run (Cert.MergeBwdRefIdeal.defs (F := Ideal)) _ _).mono (fun r h => ⟨fun c => (h c).2.2.2.2, sem_eq_zero_of_no_sems (by decide) r.2⟩)
    (Cert.MergeBwdRefIdeal.Value.run (F := Ideal) m g)

theorem frame_BiasInGrad : Cert.quiescent_BiasInGrad := fun m g _ => Cert.BiasInGrad.Gen.frame (F := Bits) m g
theorem frame_BiasInGradIdeal : Cert.quiescent_BiasInGradIdeal := fun m g _ => Cert.BiasInGradIdeal.Gen.frame (F := Ideal) m g
theorem frame_BiasInGradRefIdeal : Cert.quiescent_BiasInGradRefIdeal := fun m g _ =>
  (θ_run (Cert.BiasInGradRefIdeal.defs (F := Ideal)) _ _).mono (fun r h => ⟨fun c => (h c).2, sem_eq_zero_of_no_sems (by decide) r.2⟩)
    (Cert.BiasInGradRefIdeal.Value.run (F := Ideal) m g)

theorem frame_ConvNormBwd : Cert.quiescent_ConvNormBwd := fun m g _ => Cert.ConvNormBwd.Gen.frame (F := Bits) m g
theorem frame_ConvNormBwdIdeal : Cert.quiescent_ConvNormBwdIdeal := fun m g _ => Cert.ConvNormBwdIdeal.Gen.frame (F := Ideal) m g
theorem frame_ConvNormBwdRefIdeal : Cert.quiescent_ConvNormBwdRefIdeal := fun m g _ =>
  (θ_run (Cert.ConvNormBwdRefIdeal.defs (F := Ideal)) _ _).mono (fun r h => ⟨fun c => (h c).2.2.2, sem_eq_zero_of_no_sems (by decide) r.2⟩)
    (Cert.ConvNormBwdRefIdeal.Value.run (F := Ideal) m g)

theorem frame_PostBwd : Cert.quiescent_PostBwd := fun m g _ => Cert.PostBwd.Gen.frame (F := Bits) m g
theorem frame_PostBwdIdeal : Cert.quiescent_PostBwdIdeal := fun m g _ => Cert.PostBwdIdeal.Gen.frame (F := Ideal) m g
theorem frame_PostBwdRefIdeal : Cert.quiescent_PostBwdRefIdeal := fun m g _ =>
  (θ_run (Cert.PostBwdRefIdeal.defs (F := Ideal)) _ _).mono (fun r h => ⟨fun c => (h c).2.2.2.2.2.2.2, sem_eq_zero_of_no_sems (by decide) r.2⟩)
    (Cert.PostBwdRefIdeal.Value.run (F := Ideal) m g)

theorem frame_ConvFwd : Cert.quiescent_ConvFwd := fun m g _ => Cert.ConvFwd.Gen.frame (F := Bits) m g
theorem frame_ConvFwdIdeal : Cert.quiescent_ConvFwdIdeal := fun m g _ => Cert.ConvFwdIdeal.Gen.frame (F := Ideal) m g
theorem frame_ConvFwdRefIdeal : Cert.quiescent_ConvFwdRefIdeal := fun m g _ =>
  (θ_run (Cert.ConvFwdRefIdeal.defs (F := Ideal)) _ _).mono (fun r h => ⟨fun c => (h c).2, sem_eq_zero_of_no_sems (by decide) r.2⟩)
    (Cert.ConvFwdRefIdeal.Value.run (F := Ideal) m g)

theorem frame_FfnConvFwd : Cert.quiescent_FfnConvFwd := fun m g _ => Cert.FfnConvFwd.Gen.frame (F := Bits) m g
theorem frame_FfnConvFwdIdeal : Cert.quiescent_FfnConvFwdIdeal := fun m g _ => Cert.FfnConvFwdIdeal.Gen.frame (F := Ideal) m g
theorem frame_FfnConvFwdRefIdeal : Cert.quiescent_FfnConvFwdRefIdeal := fun m g _ =>
  (θ_run (Cert.FfnConvFwdRefIdeal.defs (F := Ideal)) _ _).mono (fun r h => ⟨fun c => (h c).2, sem_eq_zero_of_no_sems (by decide) r.2⟩)
    (Cert.FfnConvFwdRefIdeal.Value.run (F := Ideal) m g)

theorem claim : Cert.Claim :=
  ⟨Cert.Alltoall.Gen.facts, Cert.AlltoallIdeal.Gen.facts, Cert.AlltoallRefIdeal.Gen.facts, Cert.AlltoallRef.Gen.facts,
    Cert.Swap.Gen.facts, Cert.SwapIdeal.Gen.facts, Cert.SwapRefIdeal.Gen.facts, Cert.SwapRef.Gen.facts,
    Cert.Join.Gen.facts, Cert.JoinIdeal.Gen.facts, Cert.JoinRefIdeal.Gen.facts, Cert.JoinRef.Gen.facts,
    Cert.Gather.Gen.facts, Cert.GatherIdeal.Gen.facts, Cert.GatherRefIdeal.Gen.facts, Cert.GatherRef.Gen.facts,
    Cert.GatherSmall.Gen.facts, Cert.GatherSmallIdeal.Gen.facts, Cert.GatherSmallRefIdeal.Gen.facts, Cert.GatherSmallRef.Gen.facts,
    Cert.GatherMod.Gen.facts, Cert.GatherModIdeal.Gen.facts, Cert.GatherModRefIdeal.Gen.facts, Cert.GatherModRef.Gen.facts,
    Cert.GatherParts.Gen.facts, Cert.GatherPartsIdeal.Gen.facts, Cert.GatherPartsRefIdeal.Gen.facts, Cert.GatherPartsRef.Gen.facts,
    Cert.AdamBig.Gen.facts, Cert.AdamBigIdeal.Gen.facts, Cert.AdamBigRefIdeal.Gen.facts,
    Cert.AdamAda.Gen.facts, Cert.AdamAdaIdeal.Gen.facts, Cert.AdamAdaRefIdeal.Gen.facts,
    Cert.AdamSmall.Gen.facts, Cert.AdamSmallIdeal.Gen.facts, Cert.AdamSmallRefIdeal.Gen.facts,
    Cert.AdaBwd.Gen.facts, Cert.AdaBwdIdeal.Gen.facts, Cert.AdaBwdRefIdeal.Gen.facts,
    Cert.SmallSum.Gen.facts, Cert.SmallSumIdeal.Gen.facts, Cert.SmallSumRefIdeal.Gen.facts,
    Cert.Loss.Gen.facts, Cert.LossIdeal.Gen.facts, Cert.LossRefIdeal.Gen.facts,
    Cert.GradX.Gen.facts, Cert.GradXIdeal.Gen.facts, Cert.GradXRefIdeal.Gen.facts,
    Cert.AdaFwd.Gen.facts, Cert.AdaFwdIdeal.Gen.facts, Cert.AdaFwdRefIdeal.Gen.facts,
    Cert.PairSum.Gen.facts, Cert.PairSumIdeal.Gen.facts, Cert.PairSumRefIdeal.Gen.facts,
    Cert.ChipSum.Gen.facts, Cert.ChipSumIdeal.Gen.facts, Cert.ChipSumRefIdeal.Gen.facts,
    Cert.LnMod.Gen.facts, Cert.LnModIdeal.Gen.facts, Cert.LnModRefIdeal.Gen.facts,
    Cert.ConvNorm.Gen.facts, Cert.ConvNormIdeal.Gen.facts, Cert.ConvNormRefIdeal.Gen.facts,
    Cert.RetNorm.Gen.facts, Cert.RetNormIdeal.Gen.facts, Cert.RetNormRefIdeal.Gen.facts,
    Cert.Merge.Gen.facts, Cert.MergeIdeal.Gen.facts, Cert.MergeRefIdeal.Gen.facts,
    Cert.Post.Gen.facts, Cert.PostIdeal.Gen.facts, Cert.PostRefIdeal.Gen.facts,
    Cert.FfnGate.Gen.facts, Cert.FfnGateIdeal.Gen.facts, Cert.FfnGateRefIdeal.Gen.facts,
    Cert.CastWeights.Gen.facts, Cert.CastWeightsIdeal.Gen.facts, Cert.CastWeightsRefIdeal.Gen.facts,
    Cert.MmIn.Gen.facts, Cert.MmInIdeal.Gen.facts, Cert.MmInRefIdeal.Gen.facts,
    Cert.MmUp.Gen.facts, Cert.MmUpIdeal.Gen.facts, Cert.MmUpRefIdeal.Gen.facts,
    Cert.MmConvOut.Gen.facts, Cert.MmConvOutIdeal.Gen.facts, Cert.MmConvOutRefIdeal.Gen.facts,
    Cert.MmRetOut.Gen.facts, Cert.MmRetOutIdeal.Gen.facts, Cert.MmRetOutRefIdeal.Gen.facts,
    Cert.MmOut.Gen.facts, Cert.MmOutIdeal.Gen.facts, Cert.MmOutRefIdeal.Gen.facts,
    Cert.MmDown.Gen.facts, Cert.MmDownIdeal.Gen.facts, Cert.MmDownRefIdeal.Gen.facts,
    Cert.MmDownDx.Gen.facts, Cert.MmDownDxIdeal.Gen.facts, Cert.MmDownDxRefIdeal.Gen.facts,
    Cert.MmOutDx.Gen.facts, Cert.MmOutDxIdeal.Gen.facts, Cert.MmOutDxRefIdeal.Gen.facts,
    Cert.MmConvOutDx.Gen.facts, Cert.MmConvOutDxIdeal.Gen.facts, Cert.MmConvOutDxRefIdeal.Gen.facts,
    Cert.MmRetOutDx.Gen.facts, Cert.MmRetOutDxIdeal.Gen.facts, Cert.MmRetOutDxRefIdeal.Gen.facts,
    Cert.MmUpDx.Gen.facts, Cert.MmUpDxIdeal.Gen.facts, Cert.MmUpDxRefIdeal.Gen.facts,
    Cert.MmInDx.Gen.facts, Cert.MmInDxIdeal.Gen.facts, Cert.MmInDxRefIdeal.Gen.facts,
    Cert.MmDownDw.Gen.facts, Cert.MmDownDwIdeal.Gen.facts, Cert.MmDownDwRefIdeal.Gen.facts,
    Cert.MmOutDw.Gen.facts, Cert.MmOutDwIdeal.Gen.facts, Cert.MmOutDwRefIdeal.Gen.facts,
    Cert.MmConvOutDw.Gen.facts, Cert.MmConvOutDwIdeal.Gen.facts, Cert.MmConvOutDwRefIdeal.Gen.facts,
    Cert.MmRetOutDw.Gen.facts, Cert.MmRetOutDwIdeal.Gen.facts, Cert.MmRetOutDwRefIdeal.Gen.facts,
    Cert.MmUpDw.Gen.facts, Cert.MmUpDwIdeal.Gen.facts, Cert.MmUpDwRefIdeal.Gen.facts,
    Cert.MmInDw.Gen.facts, Cert.MmInDwIdeal.Gen.facts, Cert.MmInDwRefIdeal.Gen.facts,
    Cert.MergeBwd.Gen.facts, Cert.MergeBwdIdeal.Gen.facts, Cert.MergeBwdRefIdeal.Gen.facts,
    Cert.BiasInGrad.Gen.facts, Cert.BiasInGradIdeal.Gen.facts, Cert.BiasInGradRefIdeal.Gen.facts,
    Cert.ConvNormBwd.Gen.facts, Cert.ConvNormBwdIdeal.Gen.facts, Cert.ConvNormBwdRefIdeal.Gen.facts,
    Cert.PostBwd.Gen.facts, Cert.PostBwdIdeal.Gen.facts, Cert.PostBwdRefIdeal.Gen.facts,
    Cert.ConvFwd.Gen.facts, Cert.ConvFwdIdeal.Gen.facts, Cert.ConvFwdRefIdeal.Gen.facts,
    Cert.FfnConvFwd.Gen.facts, Cert.FfnConvFwdIdeal.Gen.facts, Cert.FfnConvFwdRefIdeal.Gen.facts,
    frame_Alltoall, frame_AlltoallIdeal, frame_AlltoallRefIdeal, frame_AlltoallRef,
    frame_Swap, frame_SwapIdeal, frame_SwapRefIdeal, frame_SwapRef,
    frame_Join, frame_JoinIdeal, frame_JoinRefIdeal, frame_JoinRef,
    frame_Gather, frame_GatherIdeal, frame_GatherRefIdeal, frame_GatherRef,
    frame_GatherSmall, frame_GatherSmallIdeal, frame_GatherSmallRefIdeal, frame_GatherSmallRef,
    frame_GatherMod, frame_GatherModIdeal, frame_GatherModRefIdeal, frame_GatherModRef,
    frame_GatherParts, frame_GatherPartsIdeal, frame_GatherPartsRefIdeal, frame_GatherPartsRef,
    frame_AdamBig, frame_AdamBigIdeal, frame_AdamBigRefIdeal,
    frame_AdamAda, frame_AdamAdaIdeal, frame_AdamAdaRefIdeal,
    frame_AdamSmall, frame_AdamSmallIdeal, frame_AdamSmallRefIdeal,
    frame_AdaBwd, frame_AdaBwdIdeal, frame_AdaBwdRefIdeal,
    frame_SmallSum, frame_SmallSumIdeal, frame_SmallSumRefIdeal,
    frame_Loss, frame_LossIdeal, frame_LossRefIdeal,
    frame_GradX, frame_GradXIdeal, frame_GradXRefIdeal,
    frame_AdaFwd, frame_AdaFwdIdeal, frame_AdaFwdRefIdeal,
    frame_PairSum, frame_PairSumIdeal, frame_PairSumRefIdeal,
    frame_ChipSum, frame_ChipSumIdeal, frame_ChipSumRefIdeal,
    frame_LnMod, frame_LnModIdeal, frame_LnModRefIdeal,
    frame_ConvNorm, frame_ConvNormIdeal, frame_ConvNormRefIdeal,
    frame_RetNorm, frame_RetNormIdeal, frame_RetNormRefIdeal,
    frame_Merge, frame_MergeIdeal, frame_MergeRefIdeal,
    frame_Post, frame_PostIdeal, frame_PostRefIdeal,
    frame_FfnGate, frame_FfnGateIdeal, frame_FfnGateRefIdeal,
    frame_CastWeights, frame_CastWeightsIdeal, frame_CastWeightsRefIdeal,
    frame_MmIn, frame_MmInIdeal, frame_MmInRefIdeal,
    frame_MmUp, frame_MmUpIdeal, frame_MmUpRefIdeal,
    frame_MmConvOut, frame_MmConvOutIdeal, frame_MmConvOutRefIdeal,
    frame_MmRetOut, frame_MmRetOutIdeal, frame_MmRetOutRefIdeal,
    frame_MmOut, frame_MmOutIdeal, frame_MmOutRefIdeal,
    frame_MmDown, frame_MmDownIdeal, frame_MmDownRefIdeal,
    frame_MmDownDx, frame_MmDownDxIdeal, frame_MmDownDxRefIdeal,
    frame_MmOutDx, frame_MmOutDxIdeal, frame_MmOutDxRefIdeal,
    frame_MmConvOutDx, frame_MmConvOutDxIdeal, frame_MmConvOutDxRefIdeal,
    frame_MmRetOutDx, frame_MmRetOutDxIdeal, frame_MmRetOutDxRefIdeal,
    frame_MmUpDx, frame_MmUpDxIdeal, frame_MmUpDxRefIdeal,
    frame_MmInDx, frame_MmInDxIdeal, frame_MmInDxRefIdeal,
    frame_MmDownDw, frame_MmDownDwIdeal, frame_MmDownDwRefIdeal,
    frame_MmOutDw, frame_MmOutDwIdeal, frame_MmOutDwRefIdeal,
    frame_MmConvOutDw, frame_MmConvOutDwIdeal, frame_MmConvOutDwRefIdeal,
    frame_MmRetOutDw, frame_MmRetOutDwIdeal, frame_MmRetOutDwRefIdeal,
    frame_MmUpDw, frame_MmUpDwIdeal, frame_MmUpDwRefIdeal,
    frame_MmInDw, frame_MmInDwIdeal, frame_MmInDwRefIdeal,
    frame_MergeBwd, frame_MergeBwdIdeal, frame_MergeBwdRefIdeal,
    frame_BiasInGrad, frame_BiasInGradIdeal, frame_BiasInGradRefIdeal,
    frame_ConvNormBwd, frame_ConvNormBwdIdeal, frame_ConvNormBwdRefIdeal,
    frame_PostBwd, frame_PostBwdIdeal, frame_PostBwdRefIdeal,
    frame_ConvFwd, frame_ConvFwdIdeal, frame_ConvFwdRefIdeal,
    frame_FfnConvFwd, frame_FfnConvFwdIdeal, frame_FfnConvFwdRefIdeal,
    trivial, value_AlltoallIdeal, value_Alltoall,
    trivial, value_SwapIdeal, value_Swap,
    trivial, value_JoinIdeal, value_Join,
    trivial, value_GatherIdeal, value_Gather,
    trivial, value_GatherSmallIdeal, value_GatherSmall,
    trivial, value_GatherModIdeal, value_GatherMod,
    trivial, value_GatherPartsIdeal, value_GatherParts,
    trivial, Cert.AdamValue.big,
    trivial, Cert.AdamValue.ada,
    trivial, Cert.AdamValue.small,
    trivial, Cert.AdaBwdValue.value_equal,
    trivial, Cert.SmallSumValue.value_equal,
    trivial, Cert.LossValue.value_equal,
    trivial, Cert.GradXValue.value_equal,
    trivial, Cert.AdaFwdValue.value_equal,
    trivial, Cert.GradSumValue.pair,
    trivial, Cert.GradSumValue.chips,
    trivial, Cert.LnModValue.value_equal,
    trivial, Cert.NormValue.conv_norm,
    trivial, Cert.RetNormValue.value_equal,
    trivial, Cert.GateValue.merge,
    trivial, Cert.NormValue.post,
    trivial, Cert.GateValue.ffn_gate,
    trivial, Cert.GateValue.cast_weights,
    trivial, Cert.ProductValue.mm_in,
    trivial, Cert.ProductValue.mm_up,
    trivial, Cert.ProductValue.conv_out,
    trivial, Cert.ProductValue.ret_out,
    trivial, Cert.ProductValue.out,
    trivial, Cert.ProductValue.down,
    trivial, Cert.RowGradValue.mm_down_dx,
    trivial, Cert.RowGradValue.mm_out_dx,
    trivial, Cert.RowGradValue.mm_conv_out_dx,
    trivial, Cert.RowGradValue.mm_ret_out_dx,
    trivial, Cert.RowGradValue.mm_up_dx,
    trivial, Cert.RowGradValue.mm_in_dx,
    trivial, Cert.ColGradValue.mm_down_dw,
    trivial, Cert.ColGradValue.mm_out_dw,
    trivial, Cert.ColGradValue.mm_conv_out_dw,
    trivial, Cert.ColGradValue.mm_ret_out_dw,
    trivial, Cert.ColGradValue.mm_up_dw,
    trivial, Cert.ColGradValue.mm_in_dw,
    trivial, Cert.MergeBwdValue.merge_bwd,
    trivial, Cert.BiasGradValue.bias_in_grad,
    trivial, Cert.ConvNormBwdValue.value_equal,
    trivial, Cert.PostBwdValue.value_equal,
    trivial, Cert.ConvValue.conv_fwd,
    trivial, Cert.ConvValue.ffn_conv_fwd⟩

end Cert.Proof

end
